-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zeros_small [hPre_zeros_small : Cert.Pre_zeros_small.Facts] (m : (ℓ : Loc Cert.KernelIdeal.nD Cert.KernelIdeal.τ Cert.KernelIdeal.sig) → Buf (Elt Ideal) ℓ) : Prop :=
  ∀ c : Dev Cert.KernelIdeal.nD,
    (Cert.Pre_zeros_small.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zeros_small [hPre_zeros_small : Cert.Pre_zeros_small.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zeros_small.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_zeros_small [hKernelIdeal : Cert.KernelIdeal.Facts] [hPre_zeros_small : Cert.Pre_zeros_small.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zeros_small m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_zeros_small [hReferenceIdeal : Cert.ReferenceIdeal.Facts] [hPre_zeros_small : Cert.Pre_zeros_small.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zeros_small m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S12x3840 Cert.KernelIdeal.S6x3840
  ∧ IdealRules.bf16_pair.PackStatement Cert.KernelIdeal.S30x128
  ∧ IdealRules.bf16_pair.Statement Cert.KernelIdeal.S1x30x2x128 Cert.KernelIdeal.S1x30x1x128
  ∧ IdealRules.bf16_pair.Statement Cert.KernelIdeal.S1x60x128 Cert.KernelIdeal.S1x30x128
  ∧ IdealRules.bf16_pair.PackStatement Cert.KernelIdeal.S6x128
  ∧ IdealRules.bf16_pair.Statement Cert.KernelIdeal.S12x128 Cert.KernelIdeal.S6x128

def algebraic_KernelIdeal_ReferenceIdeal_pre_zeros_small [hKernelIdeal : Cert.KernelIdeal.Facts] [hReferenceIdeal : Cert.ReferenceIdeal.Facts] [hPre_zeros_small : Cert.Pre_zeros_small.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zeros_small m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_zeros_small : Cert.Pre_zeros_small.Facts),
    quiescent_Kernel (hKernel := hKernel)
    ∧ quiescent_KernelIdeal (hKernelIdeal := hKernelIdeal)
    ∧ quiescent_KernelIdeal_pre_zeros_small (hKernelIdeal := hKernelIdeal) (hPre_zeros_small := hPre_zeros_small)
    ∧ quiescent_ReferenceIdeal (hReferenceIdeal := hReferenceIdeal)
    ∧ quiescent_ReferenceIdeal_pre_zeros_small (hReferenceIdeal := hReferenceIdeal) (hPre_zeros_small := hPre_zeros_small)
    ∧ preserves_Kernel_KernelIdeal
    ∧ algebraic_KernelIdeal_ReferenceIdeal_pre_zeros_small (hKernelIdeal := hKernelIdeal) (hReferenceIdeal := hReferenceIdeal) (hPre_zeros_small := hPre_zeros_small)
-- ==== Pre_zeros_small.lean ====
abbrev S12x1x3840 : Shape := ⟨3, ![12, 1, 3840]⟩
abbrev S3840x1536 : Shape := ⟨2, ![3840, 1536]⟩
abbrev S30x15360 : Shape := ⟨2, ![30, 15360]⟩
abbrev S12x1x15360 : Shape := ⟨3, ![12, 1, 15360]⟩
abbrev S_ : Shape := ⟨0, ![]⟩

class Facts : Prop where
  bcast_S_S30x15360 : S_.BroadcastsInDim S30x15360 (![] : Fin 0 → Fin S30x15360.rank)

variable [Facts]

def fn {F : FTy → Type} [FloatOps F] (main_arg0 : FVec F S12x1x3840 .bf16) (main_arg1 : IVec S3840x1536 32) (main_arg2 : FVec F S30x15360 .bf16) (main_arg3 : IVec S30x15360 8) (main_arg4 : FVec F S12x1x15360 .f32) : IVec S30x15360 1 :=
  let main_c : IVec S_ 8 := constantI S_ 8 8#8
  let main_v0 : IVec S30x15360 8 := broadcastInDim S30x15360 ![] bcast_S_S30x15360 main_c
  let main_v1 : IVec S30x15360 1 := cmpi .ule main_arg3 main_v0
  main_v1
-- ==== Kernel.lean ====
abbrev S12x1x3840 : Shape := ⟨3, ![12, 1, 3840]⟩
abbrev S3840x1536 : Shape := ⟨2, ![3840, 1536]⟩
abbrev S30x15360 : Shape := ⟨2, ![30, 15360]⟩
abbrev S12x1x15360 : Shape := ⟨3, ![12, 1, 15360]⟩
abbrev S12x3840 : Shape := ⟨2, ![12, 3840]⟩
abbrev S1440x128 : Shape := ⟨2, ![1440, 128]⟩
abbrev S12x15360 : Shape := ⟨2, ![12, 15360]⟩
abbrev S30x4x16x256 : Shape := ⟨4, ![30, 4, 16, 256]⟩
abbrev S30x32x256 : Shape := ⟨3, ![30, 32, 256]⟩
abbrev S12x480x128 : Shape := ⟨3, ![12, 480, 128]⟩
abbrev S12x30x128 : Shape := ⟨3, ![12, 30, 128]⟩
abbrev S12x60x128 : Shape := ⟨3, ![12, 60, 128]⟩
abbrev S96x1536 : Shape := ⟨2, ![96, 1536]⟩
abbrev S32x1536 : Shape := ⟨2, ![32, 1536]⟩
abbrev S4 : Shape := ⟨1, ![4]⟩
abbrev S30 : Shape := ⟨1, ![30]⟩
abbrev S1 : Shape := ⟨1, ![1]⟩
abbrev S_ : Shape := ⟨0, ![]⟩
abbrev S128x1536 : Shape := ⟨2, ![128, 1536]⟩
abbrev S6x3840 : Shape := ⟨2, ![6, 3840]⟩
abbrev S2x3840 : Shape := ⟨2, ![2, 3840]⟩
abbrev S16x3840 : Shape := ⟨2, ![16, 3840]⟩
abbrev S128x256 : Shape := ⟨2, ![128, 256]⟩
abbrev S8x256 : Shape := ⟨2, ![8, 256]⟩
abbrev S16x128 : Shape := ⟨2, ![16, 128]⟩
abbrev S16x256 : Shape := ⟨2, ![16, 256]⟩
abbrev S1x1x16x256 : Shape := ⟨4, ![1, 1, 16, 256]⟩
abbrev S32x256 : Shape := ⟨2, ![32, 256]⟩
abbrev S1x32x256 : Shape := ⟨3, ![1, 32, 256]⟩
abbrev S30x128 : Shape := ⟨2, ![30, 128]⟩
abbrev S1x30x128 : Shape := ⟨3, ![1, 30, 128]⟩
abbrev S12x240x128 : Shape := ⟨3, ![12, 240, 128]⟩
abbrev S12x240x2x128 : Shape := ⟨4, ![12, 240, 2, 128]⟩
abbrev S1x30x2x128 : Shape := ⟨4, ![1, 30, 2, 128]⟩
abbrev S1x30x1x128 : Shape := ⟨4, ![1, 30, 1, 128]⟩
abbrev S1x60x128 : Shape := ⟨3, ![1, 60, 128]⟩
abbrev S1x1x1x256 : Shape := ⟨4, ![1, 1, 1, 256]⟩
abbrev S1x256 : Shape := ⟨2, ![1, 256]⟩
abbrev S96x256 : Shape := ⟨2, ![96, 256]⟩
abbrev S32x128 : Shape := ⟨2, ![32, 128]⟩
abbrev S1x16x128 : Shape := ⟨3, ![1, 16, 128]⟩
abbrev S1x1x128 : Shape := ⟨3, ![1, 1, 128]⟩
abbrev S1x128 : Shape := ⟨2, ![1, 128]⟩
abbrev S32x1x128 : Shape := ⟨3, ![32, 1, 128]⟩
abbrev S32x8x128 : Shape := ⟨3, ![32, 8, 128]⟩
abbrev S256x128 : Shape := ⟨2, ![256, 128]⟩
abbrev S16x16x128 : Shape := ⟨3, ![16, 16, 128]⟩
abbrev S256x256 : Shape := ⟨2, ![256, 256]⟩
abbrev S128x128 : Shape := ⟨2, ![128, 128]⟩
abbrev S8x128 : Shape := ⟨2, ![8, 128]⟩
abbrev S1x2x128 : Shape := ⟨3, ![1, 2, 128]⟩
abbrev S2x128 : Shape := ⟨2, ![2, 128]⟩
abbrev S6x128 : Shape := ⟨2, ![6, 128]⟩
abbrev S12x128 : Shape := ⟨2, ![12, 128]⟩

abbrev nBuf : Space → Nat
  | .hbm => 8
  | .vmem => 14
  | .smem => 0
  | _ => 0

abbrev bufTy : (tb : Table) → Fin (tcTables nBuf tb) → BufTy
  | .hbm, ⟨0, _⟩ => ⟨S12x1x3840, .bf16⟩
  | .hbm, ⟨1, _⟩ => ⟨S3840x1536, .i32⟩
  | .hbm, ⟨2, _⟩ => ⟨S30x15360, .bf16⟩
  | .hbm, ⟨3, _⟩ => ⟨S30x15360, .i8⟩
  | .hbm, ⟨4, _⟩ => ⟨S12x1x15360, .f32⟩
  | .hbm, ⟨5, _⟩ => ⟨S12x3840, .bf16⟩
  | .hbm, ⟨6, _⟩ => ⟨S1440x128, .f32⟩
  | .hbm, ⟨7, _⟩ => ⟨S12x15360, .bf16⟩
  | .local _ .vmem, ⟨0, _⟩ => ⟨S1440x128, .f32⟩
  | .local _ .vmem, ⟨1, _⟩ => ⟨S12x15360, .bf16⟩
  | .local _ .vmem, ⟨2, _⟩ => ⟨S12x3840, .bf16⟩
  | .local _ .vmem, ⟨3, _⟩ => ⟨S3840x1536, .i32⟩
  | .local _ .vmem, ⟨4, _⟩ => ⟨S30x15360, .bf16⟩
  | .local _ .vmem, ⟨5, _⟩ => ⟨S30x15360, .i8⟩
  | .local _ .vmem, ⟨6, _⟩ => ⟨S30x4x16x256, .bf16⟩
  | .local _ .vmem, ⟨7, _⟩ => ⟨S30x32x256, .bf16⟩
  | .local _ .vmem, ⟨8, _⟩ => ⟨S12x480x128, .bf16⟩
  | .local _ .vmem, ⟨9, _⟩ => ⟨S12x30x128, .i32⟩
  | .local _ .vmem, ⟨10, _⟩ => ⟨S12x60x128, .bf16⟩
  | .local _ .vmem, ⟨11, _⟩ => ⟨S12x30x128, .i32⟩
  | .local _ .vmem, ⟨12, _⟩ => ⟨S96x1536, .f32⟩
  | .local _ .vmem, ⟨13, _⟩ => ⟨S32x1536, .f32⟩
  | _, _ => ⟨S12x1x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := .none

@[reducible] def k0_t1_loop : Scf.Loop 32 :=
  let c0_i32_1803 : BitVec 32 := 0#32
  let c30_i32 : BitVec 32 := 30#32
  let v2874 : BitVec 32 := Scalar.addi c0_i32_1803 c30_i32
  let c1_i32_1804 : BitVec 32 := 1#32
  ⟨c0_i32_1803, v2874, c1_i32_1804⟩
def k0_off1 (k0_t1 : Fin k0_t1_loop.trips) : Fin 1 → Nat :=
  let c0_i32_1803 : BitVec 32 := 0#32
  let c1_i32_1804 : BitVec 32 := 1#32
  let arg20 : BitVec 32 := Scf.iv c0_i32_1803 c1_i32_1804 k0_t1
  ![arg20.toNat]
def k0_off2 (k0_t1 : Fin k0_t1_loop.trips) : Fin 2 → Nat :=
  let c0_i32_1803 : BitVec 32 := 0#32
  let c1_i32_1804 : BitVec 32 := 1#32
  let arg20 : BitVec 32 := Scf.iv c0_i32_1803 c1_i32_1804 k0_t1
  let c128_i32_4717 : BitVec 32 := 128#32
  let v5347 : BitVec 32 := Scalar.muli arg20 c128_i32_4717
  let c0_i32_4718 : BitVec 32 := 0#32
  ![v5347.toNat, 0]
def k0_off3 (k0_t1 : Fin k0_t1_loop.trips) : Fin 3 → Nat :=
  let c0_i32_1803 : BitVec 32 := 0#32
  let c1_i32_1804 : BitVec 32 := 1#32
  let arg20 : BitVec 32 := Scf.iv c0_i32_1803 c1_i32_1804 k0_t1
  let v5352 : Index := Scalar.indexCast arg20
  let c0_4720 : Index := 0#32
  let c0_4721 : Index := 0#32
  ![v5352.toNat, 0, 0]
def k0_off4 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5355 : Index := Scalar.indexCast arg20
  let c0_4722 : Index := 0#32
  let c0_4723 : Index := 0#32
  let c0_4724 : Index := 0#32
  ![v5355.toNat, 0, 0, 0]
def k0_off5 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5358 : Index := Scalar.indexCast arg20
  let c0_4725 : Index := 0#32
  let c8_4726 : Index := 8#32
  let c0_4727 : Index := 0#32
  ![v5358.toNat, 0, 8, 0]
def k0_off6 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5364 : Index := Scalar.indexCast arg20
  let c0_4729 : Index := 0#32
  let c1_4730 : Index := 1#32
  let c0_4731 : Index := 0#32
  ![v5364.toNat, 0, 1, 0]
def k0_off7 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5367 : Index := Scalar.indexCast arg20
  let c0_4732 : Index := 0#32
  let c9_4733 : Index := 9#32
  let c0_4734 : Index := 0#32
  ![v5367.toNat, 0, 9, 0]
def k0_off8 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5373 : Index := Scalar.indexCast arg20
  let c0_4736 : Index := 0#32
  let c2_4737 : Index := 2#32
  let c0_4738 : Index := 0#32
  ![v5373.toNat, 0, 2, 0]
def k0_off9 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5376 : Index := Scalar.indexCast arg20
  let c0_4739 : Index := 0#32
  let c10_4740 : Index := 10#32
  let c0_4741 : Index := 0#32
  ![v5376.toNat, 0, 10, 0]
def k0_off10 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5382 : Index := Scalar.indexCast arg20
  let c0_4743 : Index := 0#32
  let c3_4744 : Index := 3#32
  let c0_4745 : Index := 0#32
  ![v5382.toNat, 0, 3, 0]
def k0_off11 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5385 : Index := Scalar.indexCast arg20
  let c0_4746 : Index := 0#32
  let c11_4747 : Index := 11#32
  let c0_4748 : Index := 0#32
  ![v5385.toNat, 0, 11, 0]
def k0_off12 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5391 : Index := Scalar.indexCast arg20
  let c0_4750 : Index := 0#32
  let c4_4751 : Index := 4#32
  let c0_4752 : Index := 0#32
  ![v5391.toNat, 0, 4, 0]
def k0_off13 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5394 : Index := Scalar.indexCast arg20
  let c0_4753 : Index := 0#32
  let c12_4754 : Index := 12#32
  let c0_4755 : Index := 0#32
  ![v5394.toNat, 0, 12, 0]
def k0_off14 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5400 : Index := Scalar.indexCast arg20
  let c0_4757 : Index := 0#32
  let c5_4758 : Index := 5#32
  let c0_4759 : Index := 0#32
  ![v5400.toNat, 0, 5, 0]
def k0_off15 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5403 : Index := Scalar.indexCast arg20
  let c0_4760 : Index := 0#32
  let c13_4761 : Index := 13#32
  let c0_4762 : Index := 0#32
  ![v5403.toNat, 0, 13, 0]
def k0_off16 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5410 : Index := Scalar.indexCast arg20
  let c1_4764 : Index := 1#32
  let c0_4765 : Index := 0#32
  let c0_4766 : Index := 0#32
  ![v5410.toNat, 1, 0, 0]
def k0_off17 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5413 : Index := Scalar.indexCast arg20
  let c1_4767 : Index := 1#32
  let c8_4768 : Index := 8#32
  let c0_4769 : Index := 0#32
  ![v5413.toNat, 1, 8, 0]
def k0_off18 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5419 : Index := Scalar.indexCast arg20
  let c1_4771 : Index := 1#32
  let c1_4772 : Index := 1#32
  let c0_4773 : Index := 0#32
  ![v5419.toNat, 1, 1, 0]
def k0_off19 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5422 : Index := Scalar.indexCast arg20
  let c1_4774 : Index := 1#32
  let c9_4775 : Index := 9#32
  let c0_4776 : Index := 0#32
  ![v5422.toNat, 1, 9, 0]
def k0_off20 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5428 : Index := Scalar.indexCast arg20
  let c1_4778 : Index := 1#32
  let c2_4779 : Index := 2#32
  let c0_4780 : Index := 0#32
  ![v5428.toNat, 1, 2, 0]
def k0_off21 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5431 : Index := Scalar.indexCast arg20
  let c1_4781 : Index := 1#32
  let c10_4782 : Index := 10#32
  let c0_4783 : Index := 0#32
  ![v5431.toNat, 1, 10, 0]
def k0_off22 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5437 : Index := Scalar.indexCast arg20
  let c1_4785 : Index := 1#32
  let c3_4786 : Index := 3#32
  let c0_4787 : Index := 0#32
  ![v5437.toNat, 1, 3, 0]
def k0_off23 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5440 : Index := Scalar.indexCast arg20
  let c1_4788 : Index := 1#32
  let c11_4789 : Index := 11#32
  let c0_4790 : Index := 0#32
  ![v5440.toNat, 1, 11, 0]
def k0_off24 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5446 : Index := Scalar.indexCast arg20
  let c1_4792 : Index := 1#32
  let c4_4793 : Index := 4#32
  let c0_4794 : Index := 0#32
  ![v5446.toNat, 1, 4, 0]
def k0_off25 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5449 : Index := Scalar.indexCast arg20
  let c1_4795 : Index := 1#32
  let c12_4796 : Index := 12#32
  let c0_4797 : Index := 0#32
  ![v5449.toNat, 1, 12, 0]
def k0_off26 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5455 : Index := Scalar.indexCast arg20
  let c1_4799 : Index := 1#32
  let c5_4800 : Index := 5#32
  let c0_4801 : Index := 0#32
  ![v5455.toNat, 1, 5, 0]
def k0_off27 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5458 : Index := Scalar.indexCast arg20
  let c1_4802 : Index := 1#32
  let c13_4803 : Index := 13#32
  let c0_4804 : Index := 0#32
  ![v5458.toNat, 1, 13, 0]
def k0_off28 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5465 : Index := Scalar.indexCast arg20
  let c2_4806 : Index := 2#32
  let c0_4807 : Index := 0#32
  let c0_4808 : Index := 0#32
  ![v5465.toNat, 2, 0, 0]
def k0_off29 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5468 : Index := Scalar.indexCast arg20
  let c2_4809 : Index := 2#32
  let c8_4810 : Index := 8#32
  let c0_4811 : Index := 0#32
  ![v5468.toNat, 2, 8, 0]
def k0_off30 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5474 : Index := Scalar.indexCast arg20
  let c2_4813 : Index := 2#32
  let c1_4814 : Index := 1#32
  let c0_4815 : Index := 0#32
  ![v5474.toNat, 2, 1, 0]
def k0_off31 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5477 : Index := Scalar.indexCast arg20
  let c2_4816 : Index := 2#32
  let c9_4817 : Index := 9#32
  let c0_4818 : Index := 0#32
  ![v5477.toNat, 2, 9, 0]
def k0_off32 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5483 : Index := Scalar.indexCast arg20
  let c2_4820 : Index := 2#32
  let c2_4821 : Index := 2#32
  let c0_4822 : Index := 0#32
  ![v5483.toNat, 2, 2, 0]
def k0_off33 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5486 : Index := Scalar.indexCast arg20
  let c2_4823 : Index := 2#32
  let c10_4824 : Index := 10#32
  let c0_4825 : Index := 0#32
  ![v5486.toNat, 2, 10, 0]
def k0_off34 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5492 : Index := Scalar.indexCast arg20
  let c2_4827 : Index := 2#32
  let c3_4828 : Index := 3#32
  let c0_4829 : Index := 0#32
  ![v5492.toNat, 2, 3, 0]
def k0_off35 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5495 : Index := Scalar.indexCast arg20
  let c2_4830 : Index := 2#32
  let c11_4831 : Index := 11#32
  let c0_4832 : Index := 0#32
  ![v5495.toNat, 2, 11, 0]
def k0_off36 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5501 : Index := Scalar.indexCast arg20
  let c2_4834 : Index := 2#32
  let c4_4835 : Index := 4#32
  let c0_4836 : Index := 0#32
  ![v5501.toNat, 2, 4, 0]
def k0_off37 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5504 : Index := Scalar.indexCast arg20
  let c2_4837 : Index := 2#32
  let c12_4838 : Index := 12#32
  let c0_4839 : Index := 0#32
  ![v5504.toNat, 2, 12, 0]
def k0_off38 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5510 : Index := Scalar.indexCast arg20
  let c2_4841 : Index := 2#32
  let c5_4842 : Index := 5#32
  let c0_4843 : Index := 0#32
  ![v5510.toNat, 2, 5, 0]
def k0_off39 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5513 : Index := Scalar.indexCast arg20
  let c2_4844 : Index := 2#32
  let c13_4845 : Index := 13#32
  let c0_4846 : Index := 0#32
  ![v5513.toNat, 2, 13, 0]
def k0_off40 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5520 : Index := Scalar.indexCast arg20
  let c3_4848 : Index := 3#32
  let c0_4849 : Index := 0#32
  let c0_4850 : Index := 0#32
  ![v5520.toNat, 3, 0, 0]
def k0_off41 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5523 : Index := Scalar.indexCast arg20
  let c3_4851 : Index := 3#32
  let c8_4852 : Index := 8#32
  let c0_4853 : Index := 0#32
  ![v5523.toNat, 3, 8, 0]
def k0_off42 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5529 : Index := Scalar.indexCast arg20
  let c3_4855 : Index := 3#32
  let c1_4856 : Index := 1#32
  let c0_4857 : Index := 0#32
  ![v5529.toNat, 3, 1, 0]
def k0_off43 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5532 : Index := Scalar.indexCast arg20
  let c3_4858 : Index := 3#32
  let c9_4859 : Index := 9#32
  let c0_4860 : Index := 0#32
  ![v5532.toNat, 3, 9, 0]
def k0_off44 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5538 : Index := Scalar.indexCast arg20
  let c3_4862 : Index := 3#32
  let c2_4863 : Index := 2#32
  let c0_4864 : Index := 0#32
  ![v5538.toNat, 3, 2, 0]
def k0_off45 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5541 : Index := Scalar.indexCast arg20
  let c3_4865 : Index := 3#32
  let c10_4866 : Index := 10#32
  let c0_4867 : Index := 0#32
  ![v5541.toNat, 3, 10, 0]
def k0_off46 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5547 : Index := Scalar.indexCast arg20
  let c3_4869 : Index := 3#32
  let c3_4870 : Index := 3#32
  let c0_4871 : Index := 0#32
  ![v5547.toNat, 3, 3, 0]
def k0_off47 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5550 : Index := Scalar.indexCast arg20
  let c3_4872 : Index := 3#32
  let c11_4873 : Index := 11#32
  let c0_4874 : Index := 0#32
  ![v5550.toNat, 3, 11, 0]
def k0_off48 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5556 : Index := Scalar.indexCast arg20
  let c3_4876 : Index := 3#32
  let c4_4877 : Index := 4#32
  let c0_4878 : Index := 0#32
  ![v5556.toNat, 3, 4, 0]
def k0_off49 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5559 : Index := Scalar.indexCast arg20
  let c3_4879 : Index := 3#32
  let c12_4880 : Index := 12#32
  let c0_4881 : Index := 0#32
  ![v5559.toNat, 3, 12, 0]
def k0_off50 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5565 : Index := Scalar.indexCast arg20
  let c3_4883 : Index := 3#32
  let c5_4884 : Index := 5#32
  let c0_4885 : Index := 0#32
  ![v5565.toNat, 3, 5, 0]
def k0_off51 (k0_t1 : Fin k0_t1_loop.trips) : Fin 4 → Nat :=
  let c0_i32_1803 : BitVec 32 := 0#32
  let c1_i32_1804 : BitVec 32 := 1#32
  let arg20 : BitVec 32 := Scf.iv c0_i32_1803 c1_i32_1804 k0_t1
  let v5568 : Index := Scalar.indexCast arg20
  let c3_4886 : Index := 3#32
  let c13_4887 : Index := 13#32
  let c0_4888 : Index := 0#32
  ![v5568.toNat, 3, 13, 0]
def k0_off52 (k0_t1 : Fin k0_t1_loop.trips) (c0_i32_4892 : BitVec 32) : Fin 2 → Nat :=
  let c0_i32_1803 : BitVec 32 := 0#32
  let c1_i32_1804 : BitVec 32 := 1#32
  let arg20 : BitVec 32 := Scf.iv c0_i32_1803 c1_i32_1804 k0_t1
  let c128_i32_4891 : BitVec 32 := 128#32
  let v5576 : BitVec 32 := Scalar.muli arg20 c128_i32_4891
  let v5577 : BitVec 32 := Scalar.addi v5576 c0_i32_4892
  let v5578 : Index := Scalar.indexCast v5577
  let c0_4893 : Index := 0#32
  ![v5578.toNat, 0]
def k0_off53 (k0_t1 : Fin k0_t1_loop.trips) : Fin 3 → Nat :=
  let c0_4896 : Index := 0#32
  let c0_i32_1803 : BitVec 32 := 0#32
  let c1_i32_1804 : BitVec 32 := 1#32
  let arg20 : BitVec 32 := Scf.iv c0_i32_1803 c1_i32_1804 k0_t1
  let c2_i32_4894 : BitVec 32 := 2#32
  let v5580 : BitVec 32 := Scalar.muli arg20 c2_i32_4894
  let c8_i32_4895 : BitVec 32 := 8#32
  let v5581 : BitVec 32 := Scalar.muli v5580 c8_i32_4895
  let v5582 : Index := Scalar.indexCast v5581
  let c0_4897 : Index := 0#32
  ![0, v5582.toNat, 0]
def k0_off54 (k0_t1 : Fin k0_t1_loop.trips) : Fin 3 → Nat :=
  let c0_4898 : Index := 0#32
  let c0_i32_1803 : BitVec 32 := 0#32
  let c1_i32_1804 : BitVec 32 := 1#32
  let arg20 : BitVec 32 := Scf.iv c0_i32_1803 c1_i32_1804 k0_t1
  let v5585 : Index := Scalar.indexCast arg20
  let c0_4899 : Index := 0#32
  ![0, v5585.toNat, 0]
def k0_off55 (k0_t1 : Fin k0_t1_loop.trips) (c0_i32_4904 : BitVec 32) : Fin 2 → Nat :=
  let c0_i32_1803 : BitVec 32 := 0#32
  let c1_i32_1804 : BitVec 32 := 1#32
  let arg20 : BitVec 32 := Scf.iv c0_i32_1803 c1_i32_1804 k0_t1
  let c128_i32_4903 : BitVec 32 := 128#32
  let v5619 : BitVec 32 := Scalar.muli arg20 c128_i32_4903
  let v5620 : BitVec 32 := Scalar.addi v5619 c0_i32_4904
  let v5621 : Index := Scalar.indexCast v5620
  let c128_4905 : Index := 128#32
  ![v5621.toNat, 128]
def k0_off56 (k0_t1 : Fin k0_t1_loop.trips) : Fin 3 → Nat :=
  let c1_4908 : Index := 1#32
  let c0_i32_1803 : BitVec 32 := 0#32
  let c1_i32_1804 : BitVec 32 := 1#32
  let arg20 : BitVec 32 := Scf.iv c0_i32_1803 c1_i32_1804 k0_t1
  let c2_i32_4906 : BitVec 32 := 2#32
  let v5623 : BitVec 32 := Scalar.muli arg20 c2_i32_4906
  let c8_i32_4907 : BitVec 32 := 8#32
  let v5624 : BitVec 32 := Scalar.muli v5623 c8_i32_4907
  let v5625 : Index := Scalar.indexCast v5624
  let c0_4909 : Index := 0#32
  ![1, v5625.toNat, 0]
def k0_off57 (k0_t1 : Fin k0_t1_loop.trips) : Fin 3 → Nat :=
  let c1_4910 : Index := 1#32
  let c0_i32_1803 : BitVec 32 := 0#32
  let c1_i32_1804 : BitVec 32 := 1#32
  let arg20 : BitVec 32 := Scf.iv c0_i32_1803 c1_i32_1804 k0_t1
  let v5628 : Index := Scalar.indexCast arg20
  let c0_4911 : Index := 0#32
  ![1, v5628.toNat, 0]
def k0_off58 (k0_t1 : Fin k0_t1_loop.trips) : Fin 2 → Nat :=
  let c0_i32_1803 : BitVec 32 := 0#32
  let c1_i32_1804 : BitVec 32 := 1#32
  let arg20 : BitVec 32 := Scf.iv c0_i32_1803 c1_i32_1804 k0_t1
  let c128_i32_5023 : BitVec 32 := 128#32
  let v5937 : BitVec 32 := Scalar.muli arg20 c128_i32_5023
  let v5938 : Index := Scalar.indexCast v5937
  let c0_5024 : Index := 0#32
  ![v5938.toNat, 0]
def k0_off59 (k0_t1 : Fin k0_t1_loop.trips) : Fin 3 → Nat :=
  let c0_5030 : Index := 0#32
  let c2_i32_5029 : BitVec 32 := 2#32
  let c0_i32_1803 : BitVec 32 := 0#32
  let c1_i32_1804 : BitVec 32 := 1#32
  let arg20 : BitVec 32 := Scf.iv c0_i32_1803 c1_i32_1804 k0_t1
  let v5952 : BitVec 32 := Scalar.muli c2_i32_5029 arg20
  let v5953 : Index := Scalar.indexCast v5952
  let c0_5031 : Index := 0#32
  ![0, v5953.toNat, 0]
def k0_off60 (k0_t1 : Fin k0_t1_loop.trips) : Fin 2 → Nat :=
  let c0_i32_1803 : BitVec 32 := 0#32
  let c1_i32_1804 : BitVec 32 := 1#32
  let arg20 : BitVec 32 := Scf.iv c0_i32_1803 c1_i32_1804 k0_t1
  let c128_i32_5032 : BitVec 32 := 128#32
  let v5966 : BitVec 32 := Scalar.muli arg20 c128_i32_5032
  let v5967 : Index := Scalar.indexCast v5966
  let c128_5033 : Index := 128#32
  ![v5967.toNat, 128]
def k0_off61 (k0_t1 : Fin k0_t1_loop.trips) : Fin 3 → Nat :=
  let c1_5040 : Index := 1#32
  let c2_i32_5039 : BitVec 32 := 2#32
  let c0_i32_1803 : BitVec 32 := 0#32
  let c1_i32_1804 : BitVec 32 := 1#32
  let arg20 : BitVec 32 := Scf.iv c0_i32_1803 c1_i32_1804 k0_t1
  let v5981 : BitVec 32 := Scalar.muli c2_i32_5039 arg20
  let v5982 : Index := Scalar.indexCast v5981
  let c0_5041 : Index := 0#32
  ![1, v5982.toNat, 0]
def k0_off62 (k0_t1 : Fin k0_t1_loop.trips) (c0_i32_5049 : BitVec 32) : Fin 2 → Nat :=
  let c0_i32_1803 : BitVec 32 := 0#32
  let c1_i32_1804 : BitVec 32 := 1#32
  let arg20 : BitVec 32 := Scf.iv c0_i32_1803 c1_i32_1804 k0_t1
  let c128_i32_5048 : BitVec 32 := 128#32
  let v6003 : BitVec 32 := Scalar.muli arg20 c128_i32_5048
  let v6004 : BitVec 32 := Scalar.addi v6003 c0_i32_5049
  let v6005 : Index := Scalar.indexCast v6004
  let c256_5050 : Index := 256#32
  ![v6005.toNat, 256]
def k0_off63 (k0_t1 : Fin k0_t1_loop.trips) : Fin 3 → Nat :=
  let c2_5053 : Index := 2#32
  let c0_i32_1803 : BitVec 32 := 0#32
  let c1_i32_1804 : BitVec 32 := 1#32
  let arg20 : BitVec 32 := Scf.iv c0_i32_1803 c1_i32_1804 k0_t1
  let c2_i32_5051 : BitVec 32 := 2#32
  let v6007 : BitVec 32 := Scalar.muli arg20 c2_i32_5051
  let c8_i32_5052 : BitVec 32 := 8#32
  let v6008 : BitVec 32 := Scalar.muli v6007 c8_i32_5052
  let v6009 : Index := Scalar.indexCast v6008
  let c0_5054 : Index := 0#32
  ![2, v6009.toNat, 0]
def k0_off64 (k0_t1 : Fin k0_t1_loop.trips) : Fin 3 → Nat :=
  let c2_5055 : Index := 2#32
  let c0_i32_1803 : BitVec 32 := 0#32
  let c1_i32_1804 : BitVec 32 := 1#32
  let arg20 : BitVec 32 := Scf.iv c0_i32_1803 c1_i32_1804 k0_t1
  let v6012 : Index := Scalar.indexCast arg20
  let c0_5056 : Index := 0#32
  ![2, v6012.toNat, 0]
def k0_off65 (k0_t1 : Fin k0_t1_loop.trips) (c0_i32_5065 : BitVec 32) : Fin 2 → Nat :=
  let c0_i32_1803 : BitVec 32 := 0#32
  let c1_i32_1804 : BitVec 32 := 1#32
  let arg20 : BitVec 32 := Scf.iv c0_i32_1803 c1_i32_1804 k0_t1
  let c128_i32_5064 : BitVec 32 := 128#32
  let v6046 : BitVec 32 := Scalar.muli arg20 c128_i32_5064
  let v6047 : BitVec 32 := Scalar.addi v6046 c0_i32_5065
  let v6048 : Index := Scalar.indexCast v6047
  let c384_5066 : Index := 384#32
  ![v6048.toNat, 384]
def k0_off66 (k0_t1 : Fin k0_t1_loop.trips) : Fin 3 → Nat :=
  let c3_5069 : Index := 3#32
  let c0_i32_1803 : BitVec 32 := 0#32
  let c1_i32_1804 : BitVec 32 := 1#32
  let arg20 : BitVec 32 := Scf.iv c0_i32_1803 c1_i32_1804 k0_t1
  let c2_i32_5067 : BitVec 32 := 2#32
  let v6050 : BitVec 32 := Scalar.muli arg20 c2_i32_5067
  let c8_i32_5068 : BitVec 32 := 8#32
  let v6051 : BitVec 32 := Scalar.muli v6050 c8_i32_5068
  let v6052 : Index := Scalar.indexCast v6051
  let c0_5070 : Index := 0#32
  ![3, v6052.toNat, 0]
def k0_off67 (k0_t1 : Fin k0_t1_loop.trips) : Fin 3 → Nat :=
  let c3_5071 : Index := 3#32
  let c0_i32_1803 : BitVec 32 := 0#32
  let c1_i32_1804 : BitVec 32 := 1#32
  let arg20 : BitVec 32 := Scf.iv c0_i32_1803 c1_i32_1804 k0_t1
  let v6055 : Index := Scalar.indexCast arg20
  let c0_5072 : Index := 0#32
  ![3, v6055.toNat, 0]
def k0_off68 (k0_t1 : Fin k0_t1_loop.trips) : Fin 2 → Nat :=
  let c0_i32_1803 : BitVec 32 := 0#32
  let c1_i32_1804 : BitVec 32 := 1#32
  let arg20 : BitVec 32 := Scf.iv c0_i32_1803 c1_i32_1804 k0_t1
  let c128_i32_5184 : BitVec 32 := 128#32
  let v6364 : BitVec 32 := Scalar.muli arg20 c128_i32_5184
  let v6365 : Index := Scalar.indexCast v6364
  let c256_5185 : Index := 256#32
  ![v6365.toNat, 256]
def k0_off69 (k0_t1 : Fin k0_t1_loop.trips) : Fin 3 → Nat :=
  let c2_5192 : Index := 2#32
  let c2_i32_5191 : BitVec 32 := 2#32
  let c0_i32_1803 : BitVec 32 := 0#32
  let c1_i32_1804 : BitVec 32 := 1#32
  let arg20 : BitVec 32 := Scf.iv c0_i32_1803 c1_i32_1804 k0_t1
  let v6379 : BitVec 32 := Scalar.muli c2_i32_5191 arg20
  let v6380 : Index := Scalar.indexCast v6379
  let c0_5193 : Index := 0#32
  ![2, v6380.toNat, 0]
def k0_off70 (k0_t1 : Fin k0_t1_loop.trips) : Fin 2 → Nat :=
  let c0_i32_1803 : BitVec 32 := 0#32
  let c1_i32_1804 : BitVec 32 := 1#32
  let arg20 : BitVec 32 := Scf.iv c0_i32_1803 c1_i32_1804 k0_t1
  let c128_i32_5194 : BitVec 32 := 128#32
  let v6393 : BitVec 32 := Scalar.muli arg20 c128_i32_5194
  let v6394 : Index := Scalar.indexCast v6393
  let c384_5195 : Index := 384#32
  ![v6394.toNat, 384]
def k0_off71 (k0_t1 : Fin k0_t1_loop.trips) : Fin 3 → Nat :=
  let c3_5202 : Index := 3#32
  let c2_i32_5201 : BitVec 32 := 2#32
  let c0_i32_1803 : BitVec 32 := 0#32
  let c1_i32_1804 : BitVec 32 := 1#32
  let arg20 : BitVec 32 := Scf.iv c0_i32_1803 c1_i32_1804 k0_t1
  let v6408 : BitVec 32 := Scalar.muli c2_i32_5201 arg20
  let v6409 : Index := Scalar.indexCast v6408
  let c0_5203 : Index := 0#32
  ![3, v6409.toNat, 0]
def k0_off72 (k0_t1 : Fin k0_t1_loop.trips) (c0_i32_5211 : BitVec 32) : Fin 2 → Nat :=
  let c0_i32_1803 : BitVec 32 := 0#32
  let c1_i32_1804 : BitVec 32 := 1#32
  let arg20 : BitVec 32 := Scf.iv c0_i32_1803 c1_i32_1804 k0_t1
  let c128_i32_5210 : BitVec 32 := 128#32
  let v6430 : BitVec 32 := Scalar.muli arg20 c128_i32_5210
  let v6431 : BitVec 32 := Scalar.addi v6430 c0_i32_5211
  let v6432 : Index := Scalar.indexCast v6431
  let c512_5212 : Index := 512#32
  ![v6432.toNat, 512]
def k0_off73 (k0_t1 : Fin k0_t1_loop.trips) : Fin 3 → Nat :=
  let c4_5215 : Index := 4#32
  let c0_i32_1803 : BitVec 32 := 0#32
  let c1_i32_1804 : BitVec 32 := 1#32
  let arg20 : BitVec 32 := Scf.iv c0_i32_1803 c1_i32_1804 k0_t1
  let c2_i32_5213 : BitVec 32 := 2#32
  let v6434 : BitVec 32 := Scalar.muli arg20 c2_i32_5213
  let c8_i32_5214 : BitVec 32 := 8#32
  let v6435 : BitVec 32 := Scalar.muli v6434 c8_i32_5214
  let v6436 : Index := Scalar.indexCast v6435
  let c0_5216 : Index := 0#32
  ![4, v6436.toNat, 0]
def k0_off74 (k0_t1 : Fin k0_t1_loop.trips) : Fin 3 → Nat :=
  let c4_5217 : Index := 4#32
  let c0_i32_1803 : BitVec 32 := 0#32
  let c1_i32_1804 : BitVec 32 := 1#32
  let arg20 : BitVec 32 := Scf.iv c0_i32_1803 c1_i32_1804 k0_t1
  let v6439 : Index := Scalar.indexCast arg20
  let c0_5218 : Index := 0#32
  ![4, v6439.toNat, 0]
def k0_off75 (k0_t1 : Fin k0_t1_loop.trips) (c0_i32_5227 : BitVec 32) : Fin 2 → Nat :=
  let c0_i32_1803 : BitVec 32 := 0#32
  let c1_i32_1804 : BitVec 32 := 1#32
  let arg20 : BitVec 32 := Scf.iv c0_i32_1803 c1_i32_1804 k0_t1
  let c128_i32_5226 : BitVec 32 := 128#32
  let v6473 : BitVec 32 := Scalar.muli arg20 c128_i32_5226
  let v6474 : BitVec 32 := Scalar.addi v6473 c0_i32_5227
  let v6475 : Index := Scalar.indexCast v6474
  let c640_5228 : Index := 640#32
  ![v6475.toNat, 640]
def k0_off76 (k0_t1 : Fin k0_t1_loop.trips) : Fin 3 → Nat :=
  let c5_5231 : Index := 5#32
  let c0_i32_1803 : BitVec 32 := 0#32
  let c1_i32_1804 : BitVec 32 := 1#32
  let arg20 : BitVec 32 := Scf.iv c0_i32_1803 c1_i32_1804 k0_t1
  let c2_i32_5229 : BitVec 32 := 2#32
  let v6477 : BitVec 32 := Scalar.muli arg20 c2_i32_5229
  let c8_i32_5230 : BitVec 32 := 8#32
  let v6478 : BitVec 32 := Scalar.muli v6477 c8_i32_5230
  let v6479 : Index := Scalar.indexCast v6478
  let c0_5232 : Index := 0#32
  ![5, v6479.toNat, 0]
def k0_off77 (k0_t1 : Fin k0_t1_loop.trips) : Fin 3 → Nat :=
  let c5_5233 : Index := 5#32
  let c0_i32_1803 : BitVec 32 := 0#32
  let c1_i32_1804 : BitVec 32 := 1#32
  let arg20 : BitVec 32 := Scf.iv c0_i32_1803 c1_i32_1804 k0_t1
  let v6482 : Index := Scalar.indexCast arg20
  let c0_5234 : Index := 0#32
  ![5, v6482.toNat, 0]
def k0_off78 (k0_t1 : Fin k0_t1_loop.trips) : Fin 2 → Nat :=
  let c0_i32_1803 : BitVec 32 := 0#32
  let c1_i32_1804 : BitVec 32 := 1#32
  let arg20 : BitVec 32 := Scf.iv c0_i32_1803 c1_i32_1804 k0_t1
  let c128_i32_5346 : BitVec 32 := 128#32
  let v6791 : BitVec 32 := Scalar.muli arg20 c128_i32_5346
  let v6792 : Index := Scalar.indexCast v6791
  let c512_5347 : Index := 512#32
  ![v6792.toNat, 512]
def k0_off79 (k0_t1 : Fin k0_t1_loop.trips) : Fin 3 → Nat :=
  let c4_5354 : Index := 4#32
  let c2_i32_5353 : BitVec 32 := 2#32
  let c0_i32_1803 : BitVec 32 := 0#32
  let c1_i32_1804 : BitVec 32 := 1#32
  let arg20 : BitVec 32 := Scf.iv c0_i32_1803 c1_i32_1804 k0_t1
  let v6806 : BitVec 32 := Scalar.muli c2_i32_5353 arg20
  let v6807 : Index := Scalar.indexCast v6806
  let c0_5355 : Index := 0#32
  ![4, v6807.toNat, 0]
def k0_off80 (k0_t1 : Fin k0_t1_loop.trips) : Fin 2 → Nat :=
  let c0_i32_1803 : BitVec 32 := 0#32
  let c1_i32_1804 : BitVec 32 := 1#32
  let arg20 : BitVec 32 := Scf.iv c0_i32_1803 c1_i32_1804 k0_t1
  let c128_i32_5356 : BitVec 32 := 128#32
  let v6820 : BitVec 32 := Scalar.muli arg20 c128_i32_5356
  let v6821 : Index := Scalar.indexCast v6820
  let c640_5357 : Index := 640#32
  ![v6821.toNat, 640]
def k0_off81 (k0_t1 : Fin k0_t1_loop.trips) : Fin 3 → Nat :=
  let c5_5364 : Index := 5#32
  let c2_i32_5363 : BitVec 32 := 2#32
  let c0_i32_1803 : BitVec 32 := 0#32
  let c1_i32_1804 : BitVec 32 := 1#32
  let arg20 : BitVec 32 := Scf.iv c0_i32_1803 c1_i32_1804 k0_t1
  let v6835 : BitVec 32 := Scalar.muli c2_i32_5363 arg20
  let v6836 : Index := Scalar.indexCast v6835
  let c0_5365 : Index := 0#32
  ![5, v6836.toNat, 0]
def k0_off82 (k0_t1 : Fin k0_t1_loop.trips) (c0_i32_5373 : BitVec 32) : Fin 2 → Nat :=
  let c0_i32_1803 : BitVec 32 := 0#32
  let c1_i32_1804 : BitVec 32 := 1#32
  let arg20 : BitVec 32 := Scf.iv c0_i32_1803 c1_i32_1804 k0_t1
  let c128_i32_5372 : BitVec 32 := 128#32
  let v6857 : BitVec 32 := Scalar.muli arg20 c128_i32_5372
  let v6858 : BitVec 32 := Scalar.addi v6857 c0_i32_5373
  let v6859 : Index := Scalar.indexCast v6858
  let c768_5374 : Index := 768#32
  ![v6859.toNat, 768]
def k0_off83 (k0_t1 : Fin k0_t1_loop.trips) : Fin 3 → Nat :=
  let c6_5377 : Index := 6#32
  let c0_i32_1803 : BitVec 32 := 0#32
  let c1_i32_1804 : BitVec 32 := 1#32
  let arg20 : BitVec 32 := Scf.iv c0_i32_1803 c1_i32_1804 k0_t1
  let c2_i32_5375 : BitVec 32 := 2#32
  let v6861 : BitVec 32 := Scalar.muli arg20 c2_i32_5375
  let c8_i32_5376 : BitVec 32 := 8#32
  let v6862 : BitVec 32 := Scalar.muli v6861 c8_i32_5376
  let v6863 : Index := Scalar.indexCast v6862
  let c0_5378 : Index := 0#32
  ![6, v6863.toNat, 0]
def k0_off84 (k0_t1 : Fin k0_t1_loop.trips) : Fin 3 → Nat :=
  let c6_5379 : Index := 6#32
  let c0_i32_1803 : BitVec 32 := 0#32
  let c1_i32_1804 : BitVec 32 := 1#32
  let arg20 : BitVec 32 := Scf.iv c0_i32_1803 c1_i32_1804 k0_t1
  let v6866 : Index := Scalar.indexCast arg20
  let c0_5380 : Index := 0#32
  ![6, v6866.toNat, 0]
def k0_off85 (k0_t1 : Fin k0_t1_loop.trips) (c0_i32_5389 : BitVec 32) : Fin 2 → Nat :=
  let c0_i32_1803 : BitVec 32 := 0#32
  let c1_i32_1804 : BitVec 32 := 1#32
  let arg20 : BitVec 32 := Scf.iv c0_i32_1803 c1_i32_1804 k0_t1
  let c128_i32_5388 : BitVec 32 := 128#32
  let v6900 : BitVec 32 := Scalar.muli arg20 c128_i32_5388
  let v6901 : BitVec 32 := Scalar.addi v6900 c0_i32_5389
  let v6902 : Index := Scalar.indexCast v6901
  let c896_5390 : Index := 896#32
  ![v6902.toNat, 896]
def k0_off86 (k0_t1 : Fin k0_t1_loop.trips) : Fin 3 → Nat :=
  let c7_5393 : Index := 7#32
  let c0_i32_1803 : BitVec 32 := 0#32
  let c1_i32_1804 : BitVec 32 := 1#32
  let arg20 : BitVec 32 := Scf.iv c0_i32_1803 c1_i32_1804 k0_t1
  let c2_i32_5391 : BitVec 32 := 2#32
  let v6904 : BitVec 32 := Scalar.muli arg20 c2_i32_5391
  let c8_i32_5392 : BitVec 32 := 8#32
  let v6905 : BitVec 32 := Scalar.muli v6904 c8_i32_5392
  let v6906 : Index := Scalar.indexCast v6905
  let c0_5394 : Index := 0#32
  ![7, v6906.toNat, 0]
def k0_off87 (k0_t1 : Fin k0_t1_loop.trips) : Fin 3 → Nat :=
  let c7_5395 : Index := 7#32
  let c0_i32_1803 : BitVec 32 := 0#32
  let c1_i32_1804 : BitVec 32 := 1#32
  let arg20 : BitVec 32 := Scf.iv c0_i32_1803 c1_i32_1804 k0_t1
  let v6909 : Index := Scalar.indexCast arg20
  let c0_5396 : Index := 0#32
  ![7, v6909.toNat, 0]
def k0_off88 (k0_t1 : Fin k0_t1_loop.trips) : Fin 2 → Nat :=
  let c0_i32_1803 : BitVec 32 := 0#32
  let c1_i32_1804 : BitVec 32 := 1#32
  let arg20 : BitVec 32 := Scf.iv c0_i32_1803 c1_i32_1804 k0_t1
  let c128_i32_5508 : BitVec 32 := 128#32
  let v7218 : BitVec 32 := Scalar.muli arg20 c128_i32_5508
  let v7219 : Index := Scalar.indexCast v7218
  let c768_5509 : Index := 768#32
  ![v7219.toNat, 768]
def k0_off89 (k0_t1 : Fin k0_t1_loop.trips) : Fin 3 → Nat :=
  let c6_5516 : Index := 6#32
  let c2_i32_5515 : BitVec 32 := 2#32
  let c0_i32_1803 : BitVec 32 := 0#32
  let c1_i32_1804 : BitVec 32 := 1#32
  let arg20 : BitVec 32 := Scf.iv c0_i32_1803 c1_i32_1804 k0_t1
  let v7233 : BitVec 32 := Scalar.muli c2_i32_5515 arg20
  let v7234 : Index := Scalar.indexCast v7233
  let c0_5517 : Index := 0#32
  ![6, v7234.toNat, 0]
def k0_off90 (k0_t1 : Fin k0_t1_loop.trips) : Fin 2 → Nat :=
  let c0_i32_1803 : BitVec 32 := 0#32
  let c1_i32_1804 : BitVec 32 := 1#32
  let arg20 : BitVec 32 := Scf.iv c0_i32_1803 c1_i32_1804 k0_t1
  let c128_i32_5518 : BitVec 32 := 128#32
  let v7247 : BitVec 32 := Scalar.muli arg20 c128_i32_5518
  let v7248 : Index := Scalar.indexCast v7247
  let c896_5519 : Index := 896#32
  ![v7248.toNat, 896]
def k0_off91 (k0_t1 : Fin k0_t1_loop.trips) : Fin 3 → Nat :=
  let c7_5526 : Index := 7#32
  let c2_i32_5525 : BitVec 32 := 2#32
  let c0_i32_1803 : BitVec 32 := 0#32
  let c1_i32_1804 : BitVec 32 := 1#32
  let arg20 : BitVec 32 := Scf.iv c0_i32_1803 c1_i32_1804 k0_t1
  let v7262 : BitVec 32 := Scalar.muli c2_i32_5525 arg20
  let v7263 : Index := Scalar.indexCast v7262
  let c0_5527 : Index := 0#32
  ![7, v7263.toNat, 0]
def k0_off92 (k0_t1 : Fin k0_t1_loop.trips) (c0_i32_5535 : BitVec 32) : Fin 2 → Nat :=
  let c0_i32_1803 : BitVec 32 := 0#32
  let c1_i32_1804 : BitVec 32 := 1#32
  let arg20 : BitVec 32 := Scf.iv c0_i32_1803 c1_i32_1804 k0_t1
  let c128_i32_5534 : BitVec 32 := 128#32
  let v7284 : BitVec 32 := Scalar.muli arg20 c128_i32_5534
  let v7285 : BitVec 32 := Scalar.addi v7284 c0_i32_5535
  let v7286 : Index := Scalar.indexCast v7285
  let c1024_5536 : Index := 1024#32
  ![v7286.toNat, 1024]
def k0_off93 (k0_t1 : Fin k0_t1_loop.trips) : Fin 3 → Nat :=
  let c8_5539 : Index := 8#32
  let c0_i32_1803 : BitVec 32 := 0#32
  let c1_i32_1804 : BitVec 32 := 1#32
  let arg20 : BitVec 32 := Scf.iv c0_i32_1803 c1_i32_1804 k0_t1
  let c2_i32_5537 : BitVec 32 := 2#32
  let v7288 : BitVec 32 := Scalar.muli arg20 c2_i32_5537
  let c8_i32_5538 : BitVec 32 := 8#32
  let v7289 : BitVec 32 := Scalar.muli v7288 c8_i32_5538
  let v7290 : Index := Scalar.indexCast v7289
  let c0_5540 : Index := 0#32
  ![8, v7290.toNat, 0]
def k0_off94 (k0_t1 : Fin k0_t1_loop.trips) : Fin 3 → Nat :=
  let c8_5541 : Index := 8#32
  let c0_i32_1803 : BitVec 32 := 0#32
  let c1_i32_1804 : BitVec 32 := 1#32
  let arg20 : BitVec 32 := Scf.iv c0_i32_1803 c1_i32_1804 k0_t1
  let v7293 : Index := Scalar.indexCast arg20
  let c0_5542 : Index := 0#32
  ![8, v7293.toNat, 0]
def k0_off95 (k0_t1 : Fin k0_t1_loop.trips) (c0_i32_5551 : BitVec 32) : Fin 2 → Nat :=
  let c0_i32_1803 : BitVec 32 := 0#32
  let c1_i32_1804 : BitVec 32 := 1#32
  let arg20 : BitVec 32 := Scf.iv c0_i32_1803 c1_i32_1804 k0_t1
  let c128_i32_5550 : BitVec 32 := 128#32
  let v7327 : BitVec 32 := Scalar.muli arg20 c128_i32_5550
  let v7328 : BitVec 32 := Scalar.addi v7327 c0_i32_5551
  let v7329 : Index := Scalar.indexCast v7328
  let c1152_5552 : Index := 1152#32
  ![v7329.toNat, 1152]
def k0_off96 (k0_t1 : Fin k0_t1_loop.trips) : Fin 3 → Nat :=
  let c9_5555 : Index := 9#32
  let c0_i32_1803 : BitVec 32 := 0#32
  let c1_i32_1804 : BitVec 32 := 1#32
  let arg20 : BitVec 32 := Scf.iv c0_i32_1803 c1_i32_1804 k0_t1
  let c2_i32_5553 : BitVec 32 := 2#32
  let v7331 : BitVec 32 := Scalar.muli arg20 c2_i32_5553
  let c8_i32_5554 : BitVec 32 := 8#32
  let v7332 : BitVec 32 := Scalar.muli v7331 c8_i32_5554
  let v7333 : Index := Scalar.indexCast v7332
  let c0_5556 : Index := 0#32
  ![9, v7333.toNat, 0]
def k0_off97 (k0_t1 : Fin k0_t1_loop.trips) : Fin 3 → Nat :=
  let c9_5557 : Index := 9#32
  let c0_i32_1803 : BitVec 32 := 0#32
  let c1_i32_1804 : BitVec 32 := 1#32
  let arg20 : BitVec 32 := Scf.iv c0_i32_1803 c1_i32_1804 k0_t1
  let v7336 : Index := Scalar.indexCast arg20
  let c0_5558 : Index := 0#32
  ![9, v7336.toNat, 0]
def k0_off98 (k0_t1 : Fin k0_t1_loop.trips) : Fin 2 → Nat :=
  let c0_i32_1803 : BitVec 32 := 0#32
  let c1_i32_1804 : BitVec 32 := 1#32
  let arg20 : BitVec 32 := Scf.iv c0_i32_1803 c1_i32_1804 k0_t1
  let c128_i32_5670 : BitVec 32 := 128#32
  let v7645 : BitVec 32 := Scalar.muli arg20 c128_i32_5670
  let v7646 : Index := Scalar.indexCast v7645
  let c1024_5671 : Index := 1024#32
  ![v7646.toNat, 1024]
def k0_off99 (k0_t1 : Fin k0_t1_loop.trips) : Fin 3 → Nat :=
  let c8_5678 : Index := 8#32
  let c2_i32_5677 : BitVec 32 := 2#32
  let c0_i32_1803 : BitVec 32 := 0#32
  let c1_i32_1804 : BitVec 32 := 1#32
  let arg20 : BitVec 32 := Scf.iv c0_i32_1803 c1_i32_1804 k0_t1
  let v7660 : BitVec 32 := Scalar.muli c2_i32_5677 arg20
  let v7661 : Index := Scalar.indexCast v7660
  let c0_5679 : Index := 0#32
  ![8, v7661.toNat, 0]
def k0_off100 (k0_t1 : Fin k0_t1_loop.trips) : Fin 2 → Nat :=
  let c0_i32_1803 : BitVec 32 := 0#32
  let c1_i32_1804 : BitVec 32 := 1#32
  let arg20 : BitVec 32 := Scf.iv c0_i32_1803 c1_i32_1804 k0_t1
  let c128_i32_5680 : BitVec 32 := 128#32
  let v7674 : BitVec 32 := Scalar.muli arg20 c128_i32_5680
  let v7675 : Index := Scalar.indexCast v7674
  let c1152_5681 : Index := 1152#32
  ![v7675.toNat, 1152]
def k0_off101 (k0_t1 : Fin k0_t1_loop.trips) : Fin 3 → Nat :=
  let c9_5688 : Index := 9#32
  let c2_i32_5687 : BitVec 32 := 2#32
  let c0_i32_1803 : BitVec 32 := 0#32
  let c1_i32_1804 : BitVec 32 := 1#32
  let arg20 : BitVec 32 := Scf.iv c0_i32_1803 c1_i32_1804 k0_t1
  let v7689 : BitVec 32 := Scalar.muli c2_i32_5687 arg20
  let v7690 : Index := Scalar.indexCast v7689
  let c0_5689 : Index := 0#32
  ![9, v7690.toNat, 0]
def k0_off102 (k0_t1 : Fin k0_t1_loop.trips) (c0_i32_5697 : BitVec 32) : Fin 2 → Nat :=
  let c0_i32_1803 : BitVec 32 := 0#32
  let c1_i32_1804 : BitVec 32 := 1#32
  let arg20 : BitVec 32 := Scf.iv c0_i32_1803 c1_i32_1804 k0_t1
  let c128_i32_5696 : BitVec 32 := 128#32
  let v7711 : BitVec 32 := Scalar.muli arg20 c128_i32_5696
  let v7712 : BitVec 32 := Scalar.addi v7711 c0_i32_5697
  let v7713 : Index := Scalar.indexCast v7712
  let c1280_5698 : Index := 1280#32
  ![v7713.toNat, 1280]
def k0_off103 (k0_t1 : Fin k0_t1_loop.trips) : Fin 3 → Nat :=
  let c10_5701 : Index := 10#32
  let c0_i32_1803 : BitVec 32 := 0#32
  let c1_i32_1804 : BitVec 32 := 1#32
  let arg20 : BitVec 32 := Scf.iv c0_i32_1803 c1_i32_1804 k0_t1
  let c2_i32_5699 : BitVec 32 := 2#32
  let v7715 : BitVec 32 := Scalar.muli arg20 c2_i32_5699
  let c8_i32_5700 : BitVec 32 := 8#32
  let v7716 : BitVec 32 := Scalar.muli v7715 c8_i32_5700
  let v7717 : Index := Scalar.indexCast v7716
  let c0_5702 : Index := 0#32
  ![10, v7717.toNat, 0]
def k0_off104 (k0_t1 : Fin k0_t1_loop.trips) : Fin 3 → Nat :=
  let c10_5703 : Index := 10#32
  let c0_i32_1803 : BitVec 32 := 0#32
  let c1_i32_1804 : BitVec 32 := 1#32
  let arg20 : BitVec 32 := Scf.iv c0_i32_1803 c1_i32_1804 k0_t1
  let v7720 : Index := Scalar.indexCast arg20
  let c0_5704 : Index := 0#32
  ![10, v7720.toNat, 0]
def k0_off105 (k0_t1 : Fin k0_t1_loop.trips) (c0_i32_5713 : BitVec 32) : Fin 2 → Nat :=
  let c0_i32_1803 : BitVec 32 := 0#32
  let c1_i32_1804 : BitVec 32 := 1#32
  let arg20 : BitVec 32 := Scf.iv c0_i32_1803 c1_i32_1804 k0_t1
  let c128_i32_5712 : BitVec 32 := 128#32
  let v7754 : BitVec 32 := Scalar.muli arg20 c128_i32_5712
  let v7755 : BitVec 32 := Scalar.addi v7754 c0_i32_5713
  let v7756 : Index := Scalar.indexCast v7755
  let c1408_5714 : Index := 1408#32
  ![v7756.toNat, 1408]
def k0_off106 (k0_t1 : Fin k0_t1_loop.trips) : Fin 3 → Nat :=
  let c11_5717 : Index := 11#32
  let c0_i32_1803 : BitVec 32 := 0#32
  let c1_i32_1804 : BitVec 32 := 1#32
  let arg20 : BitVec 32 := Scf.iv c0_i32_1803 c1_i32_1804 k0_t1
  let c2_i32_5715 : BitVec 32 := 2#32
  let v7758 : BitVec 32 := Scalar.muli arg20 c2_i32_5715
  let c8_i32_5716 : BitVec 32 := 8#32
  let v7759 : BitVec 32 := Scalar.muli v7758 c8_i32_5716
  let v7760 : Index := Scalar.indexCast v7759
  let c0_5718 : Index := 0#32
  ![11, v7760.toNat, 0]
def k0_off107 (k0_t1 : Fin k0_t1_loop.trips) : Fin 3 → Nat :=
  let c11_5719 : Index := 11#32
  let c0_i32_1803 : BitVec 32 := 0#32
  let c1_i32_1804 : BitVec 32 := 1#32
  let arg20 : BitVec 32 := Scf.iv c0_i32_1803 c1_i32_1804 k0_t1
  let v7763 : Index := Scalar.indexCast arg20
  let c0_5720 : Index := 0#32
  ![11, v7763.toNat, 0]
def k0_off108 (k0_t1 : Fin k0_t1_loop.trips) : Fin 2 → Nat :=
  let c0_i32_1803 : BitVec 32 := 0#32
  let c1_i32_1804 : BitVec 32 := 1#32
  let arg20 : BitVec 32 := Scf.iv c0_i32_1803 c1_i32_1804 k0_t1
  let c128_i32_5832 : BitVec 32 := 128#32
  let v8072 : BitVec 32 := Scalar.muli arg20 c128_i32_5832
  let v8073 : Index := Scalar.indexCast v8072
  let c1280_5833 : Index := 1280#32
  ![v8073.toNat, 1280]
def k0_off109 (k0_t1 : Fin k0_t1_loop.trips) : Fin 3 → Nat :=
  let c10_5840 : Index := 10#32
  let c2_i32_5839 : BitVec 32 := 2#32
  let c0_i32_1803 : BitVec 32 := 0#32
  let c1_i32_1804 : BitVec 32 := 1#32
  let arg20 : BitVec 32 := Scf.iv c0_i32_1803 c1_i32_1804 k0_t1
  let v8087 : BitVec 32 := Scalar.muli c2_i32_5839 arg20
  let v8088 : Index := Scalar.indexCast v8087
  let c0_5841 : Index := 0#32
  ![10, v8088.toNat, 0]
def k0_off110 (k0_t1 : Fin k0_t1_loop.trips) : Fin 2 → Nat :=
  let c0_i32_1803 : BitVec 32 := 0#32
  let c1_i32_1804 : BitVec 32 := 1#32
  let arg20 : BitVec 32 := Scf.iv c0_i32_1803 c1_i32_1804 k0_t1
  let c128_i32_5842 : BitVec 32 := 128#32
  let v8101 : BitVec 32 := Scalar.muli arg20 c128_i32_5842
  let v8102 : Index := Scalar.indexCast v8101
  let c1408_5843 : Index := 1408#32
  ![v8102.toNat, 1408]
def k0_off111 (k0_t1 : Fin k0_t1_loop.trips) : Fin 3 → Nat :=
  let c11_5850 : Index := 11#32
  let c2_i32_5849 : BitVec 32 := 2#32
  let c0_i32_1803 : BitVec 32 := 0#32
  let c1_i32_1804 : BitVec 32 := 1#32
  let arg20 : BitVec 32 := Scf.iv c0_i32_1803 c1_i32_1804 k0_t1
  let v8116 : BitVec 32 := Scalar.muli c2_i32_5849 arg20
  let v8117 : Index := Scalar.indexCast v8116
  let c0_5851 : Index := 0#32
  ![11, v8117.toNat, 0]
abbrev stage0_0 : Fin 1 → Memref sig .tc .vmem S1440x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x15360 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F]
-- ==== ReferenceIdeal.lean ====
abbrev S12x1x3840 : Shape := ⟨3, ![12, 1, 3840]⟩
abbrev S3840x1536 : Shape := ⟨2, ![3840, 1536]⟩
abbrev S30x15360 : Shape := ⟨2, ![30, 15360]⟩
abbrev S12x1x15360 : Shape := ⟨3, ![12, 1, 15360]⟩
abbrev S10 : Shape := ⟨1, ![10]⟩
abbrev S_ : Shape := ⟨0, ![]⟩
abbrev S3840x1x1536 : Shape := ⟨3, ![3840, 1, 1536]⟩
abbrev S1x10x1 : Shape := ⟨3, ![1, 10, 1]⟩
abbrev S3840x10x1536 : Shape := ⟨3, ![3840, 10, 1536]⟩
abbrev S30x128x10x1536 : Shape := ⟨4, ![30, 128, 10, 1536]⟩
abbrev S30x1x10x1536 : Shape := ⟨4, ![30, 1, 10, 1536]⟩
abbrev S12x1x10x1536 : Shape := ⟨4, ![12, 1, 10, 1536]⟩
abbrev S12x15360 : Shape := ⟨2, ![12, 15360]⟩

abbrev nBuf : Space → Nat
  | .hbm => 33
  | .vmem => 0
  | .smem => 0
  | _ => 0

abbrev bufTy : (tb : Table) → Fin (tcTables nBuf tb) → BufTy
  | .hbm, ⟨0, _⟩ => ⟨S12x1x3840, .bf16⟩
  | .hbm, ⟨1, _⟩ => ⟨S3840x1536, .i32⟩
  | .hbm, ⟨2, _⟩ => ⟨S30x15360, .bf16⟩
  | .hbm, ⟨3, _⟩ => ⟨S30x15360, .i8⟩
  | .hbm, ⟨4, _⟩ => ⟨S12x1x15360, .f32⟩
  | .hbm, ⟨5, _⟩ => ⟨S10, .i32⟩
  | .hbm, ⟨6, _⟩ => ⟨S_, .i32⟩
  | .hbm, ⟨7, _⟩ => ⟨S10, .i32⟩
  | .hbm, ⟨8, _⟩ => ⟨S10, .i32⟩
  | .hbm, ⟨9, _⟩ => ⟨S3840x1x1536, .i32⟩
  | .hbm, ⟨10, _⟩ => ⟨S1x10x1, .i32⟩
  | .hbm, ⟨11, _⟩ => ⟨S3840x10x1536, .i32⟩
  | .hbm, ⟨12, _⟩ => ⟨S3840x10x1536, .i32⟩
  | .hbm, ⟨13, _⟩ => ⟨S3840x10x1536, .i32⟩
  | .hbm, ⟨14, _⟩ => ⟨S_, .i32⟩
  | .hbm, ⟨15, _⟩ => ⟨S3840x10x1536, .i32⟩
  | .hbm, ⟨16, _⟩ => ⟨S3840x10x1536, .i32⟩
  | .hbm, ⟨17, _⟩ => ⟨S3840x10x1536, .bf16⟩
  | .hbm, ⟨18, _⟩ => ⟨S30x128x10x1536, .bf16⟩
  | .hbm, ⟨19, _⟩ => ⟨S30x15360, .i32⟩
  | .hbm, ⟨20, _⟩ => ⟨S30x15360, .bf16⟩
  | .hbm, ⟨21, _⟩ => ⟨S30x1x10x1536, .bf16⟩
  | .hbm, ⟨22, _⟩ => ⟨S30x1x10x1536, .bf16⟩
  | .hbm, ⟨23, _⟩ => ⟨S30x128x10x1536, .bf16⟩
  | .hbm, ⟨24, _⟩ => ⟨S30x128x10x1536, .bf16⟩
  | .hbm, ⟨25, _⟩ => ⟨S30x128x10x1536, .bf16⟩
  | .hbm, ⟨26, _⟩ => ⟨S30x128x10x1536, .bf16⟩
  | .hbm, ⟨27, _⟩ => ⟨S3840x10x1536, .bf16⟩
  | .hbm, ⟨28, _⟩ => ⟨S12x1x10x1536, .f32⟩
  | .hbm, ⟨29, _⟩ => ⟨S12x15360, .f32⟩
  | .hbm, ⟨30, _⟩ => ⟨S12x15360, .f32⟩
  | .hbm, ⟨31, _⟩ => ⟨S12x15360, .f32⟩
  | .hbm, ⟨32, _⟩ => ⟨S12x15360, .bf16⟩
  | _, _ => ⟨S12x1x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Proof.Bits.Base.lean ====
/-
  Hand-written, untrusted. What the run of `Kernel`'s body is stated over: the operands left in HBM, the scratch buffers, the
  copies' cells, and the weight array and its scratch buffer cut into the 30 blocks of 128 rows that the 30 weight copies move.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

/-- The proof's user algebra: the pipeline library's beside the transfers' counters. -/
local notation "𝕄" => MT nD τ sig Unit (Elt F) ℕ (Pipeline.UD sig nD τ) ℕ

/-! ## The buffers -/

abbrev hb0 : Memref sig .tc .hbm S12x3840 .bf16 := Memref.whole main_v0
abbrev hb1 : Memref sig .tc .hbm S3840x1536 .i32 := Memref.whole main_arg1
abbrev hb2 : Memref sig .tc .hbm S30x15360 .bf16 := Memref.whole main_arg2
abbrev hb3 : Memref sig .tc .hbm S30x15360 .i8 := Memref.whole main_arg3
abbrev sc0 : Memref sig .tc .vmem S12x3840 .bf16 := Memref.whole cc0_scratch0
abbrev sc1 : Memref sig .tc .vmem S3840x1536 .i32 := Memref.whole cc0_scratch1
abbrev sc2 : Memref sig .tc .vmem S30x15360 .bf16 := Memref.whole cc0_scratch2
abbrev sc3 : Memref sig .tc .vmem S30x15360 .i8 := Memref.whole cc0_scratch3
abbrev sc4 : Memref sig .tc .vmem S30x4x16x256 .bf16 := Memref.whole cc0_scratch4
abbrev sc5 : Memref sig .tc .vmem S30x32x256 .bf16 := Memref.whole cc0_scratch5
abbrev sc6 : Memref sig .tc .vmem S12x480x128 .bf16 := Memref.whole cc0_scratch6
abbrev sc7 : Memref sig .tc .vmem S12x30x128 .i32 := Memref.whole cc0_scratch7
abbrev sc8 : Memref sig .tc .vmem S12x60x128 .bf16 := Memref.whole cc0_scratch8
abbrev sc9 : Memref sig .tc .vmem S12x30x128 .i32 := Memref.whole cc0_scratch9
abbrev sc10 : Memref sig .tc .vmem S96x1536 .f32 := Memref.whole cc0_scratch10
abbrev sc11 : Memref sig .tc .vmem S32x1536 .f32 := Memref.whole cc0_scratch11
/-- What a buffer holds. -/
abbrev BufOf (c : Dev nD) {sp : Space} {S : Shape} {e : EltTy} (M : Memref sig .tc sp S e) : Type := Buf (Elt F) (M.view.loc (c : Thread nD τ))
/-- A buffer held whole. -/
abbrev pt (c : Dev nD) {sp : Space} {S : Shape} {e : EltTy} (M : Memref sig .tc sp S e) (f : BufOf (F := F) c M) : sProp 𝕄 :=
  M.view.loc (c : Thread nD τ) ↦{fullShare} f

/-! ## The weight blocks -/

theorem blk_inb (b : Fin 30) : ∀ a, (![128 * b.val, 0] : Fin 2 → ℕ) a + S128x1536.size a ≤ S3840x1536.size a := by
  have hb := b.isLt
  intro a; fin_cases a
  · show 128 * b.val + 128 ≤ 3840; omega
  · show 0 + 1536 ≤ 1536; omega
/-- The elements of weight block `b`: rows `128 b` to `128 b + 127`. -/
abbrev blkSet (b : Fin 30) : Finset S3840x1536.Idx := (Rect.unit (s := S3840x1536) ![128 * b.val, 0] S128x1536.size (blk_inb b)).set
theorem blk_disjoint (b b' : Fin 30) (h : b ≠ b') : Disjoint (blkSet b) (blkSet b') :=
  Ring.lead_disjoint (s := S3840x1536) (NB := 30) 0 128 (fun b => ![128 * b.val, 0]) S128x1536.size blk_inb (fun _ => rfl) rfl b b' h
theorem blk_cover : Finset.univ.biUnion blkSet = Finset.univ :=
  Ring.lead_cover (s := S3840x1536) (NB := 30) 0 128 (fun b => ![128 * b.val, 0]) S128x1536.size blk_inb (fun _ => rfl)
    (fun b a ha => by fin_cases a; exact absurd rfl ha; rfl) rfl (fun a ha => by fin_cases a; exact absurd rfl ha; rfl) rfl

/-- Weight block `b` of the scratch buffer, and of the operand in HBM. -/
abbrev wblk (b : Fin 30) : Memref sig .tc .vmem S128x1536 .i32 := sc1.slice (Rect.unit (s := S3840x1536) ![128 * b.val, 0] S128x1536.size (blk_inb b)) (fun _ => rfl)
abbrev hblk (b : Fin 30) : Memref sig .tc .hbm S128x1536 .i32 := hb1.slice (Rect.unit (s := S3840x1536) ![128 * b.val, 0] S128x1536.size (blk_inb b)) (fun _ => rfl)
/-- The two copies of block `b`, held at the contents of their whole buffers. -/
abbrev heldW (c : Dev nD) (f7 : BufOf (F := F) c sc1) (b : Fin 30) : sProp 𝕄 :=
  (wblk b).view.loc (c : Thread nD τ) ↦[(wblk b).view.set]{fullShare} f7
abbrev heldH (c : Dev nD) (f1 : BufOf (F := F) c hb1) (b : Fin 30) : sProp 𝕄 :=
  (hblk b).view.loc (c : Thread nD τ) ↦[(hblk b).view.set]{fullShare} f1
/-- The cell of block `b`'s copy. -/
abbrev cellW (b : Fin 30) : SemLoc sig := SemLoc.dma ⟨6 + b.val, by have := b.isLt; show 6 + b.val < 36; omega⟩
/-- Block `b`'s copy in flight, and landed. -/
abbrev flight (c : Dev nD) (f1 : BufOf (F := F) c hb1) (f7 : BufOf (F := F) c sc1) (b : Fin 30) : sProp 𝕄 :=
  Transfers.Flight (countersEmb (U := Pipeline.UD sig nD τ)) (c : Thread nD τ) (cellW b) () 24576 iprop(heldW c f7 b ∗ heldH c f1 b)
abbrev landed (c : Dev nD) (f1 : BufOf (F := F) c hb1) (f7 : BufOf (F := F) c sc1) (b : Fin 30) : sProp 𝕄 :=
  iprop(semVal ((c : Thread nD τ), cellW b) 0 ∗ heldW c f7 b ∗ heldH c f1 b)
/-- Block `b` in state `true` (in flight) or `false` (landed). -/
abbrev blkΦ (c : Dev nD) (f1 : BufOf (F := F) c hb1) (f7 : BufOf (F := F) c sc1) (b : Fin 30) (s : Bool) : sProp 𝕄 :=
  if s then flight c f1 f7 b else landed c f1 f7 b

end Cert.Kernel.Hand

end
-- ==== Proof.Bits.Trip.lean ====
/-
  Hand-written, untrusted. One trip of the loop over the 30 groups of `Kernel`, and the loop: block `k` lands, the group is
  contracted, the two accumulators are rewritten.
-/
module

public import proofs.«01_k».proof.Proof.Bits.Base

public import proofs.«01_k».proof.Proof.Gen.Kernel.Loops

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The cell the body's wait names at trip `k`. -/
abbrev bodyCell (k : Fin k0_t1_loop.trips) : Fin 36 :=
  ((cc0_scratch13.slice (Rect.unit (s := S30) (k0_off1 k) S1.size (k0_off1_inb k))).squeeze S_ squeezes_S1_S_).sem
theorem bodyCell_val : ∀ k : Fin k0_t1_loop.trips, (bodyCell k).val = 6 + k.val := by decide +kernel
theorem trips_eq : k0_t1_loop.trips = 30 := by decide +kernel
theorem cell_eq (k : Fin k0_t1_loop.trips) (hk : k.val < 30) : cellW ⟨k.val, hk⟩ = SemLoc.dma (bodyCell k) :=
  congrArg SemLoc.dma (Fin.ext (bodyCell_val k).symm)
/-- Block `k` of the scratch buffer as trip `k` names it. -/
abbrev wblkT (k : Fin k0_t1_loop.trips) : Memref sig .tc .vmem S128x1536 .i32 :=
  sc1.slice (Rect.unit (s := S3840x1536) (k0_off2 k) S128x1536.size (k0_off2_inb k)) (fun _ => rfl)
abbrev heldT (c : Dev nD) (f7 : BufOf (F := F) c sc1) (k : Fin k0_t1_loop.trips) : sProp 𝕄 :=
  (wblkT k).view.loc (c : Thread nD τ) ↦[(wblkT k).view.set]{fullShare} f7
theorem heldT_eq (c : Dev nD) (f7 : BufOf (F := F) c sc1) (k : Fin k0_t1_loop.trips) (hk : k.val < 30) :
    heldW c f7 ⟨k.val, hk⟩ = heldT c f7 k := by
  have h : (![128 * k.val, 0] : Fin 2 → ℕ) = k0_off2 k := (k0_off2_eq k).symm
  have key : ∀ (o : Fin 2 → ℕ) (ho : ∀ a, o a + S128x1536.size a ≤ S3840x1536.size a), (![128 * k.val, 0] : Fin 2 → ℕ) = o →
      heldW c f7 ⟨k.val, hk⟩ = (((sc1.slice (Rect.unit (s := S3840x1536) o S128x1536.size ho) (fun _ => rfl)).view.loc (c : Thread nD τ)
        ↦[(sc1.slice (Rect.unit (s := S3840x1536) o S128x1536.size ho) (fun _ => rfl)).view.set]{fullShare} f7 : sProp 𝕄)) := by
    intro o ho e; subst e; rfl
  exact key _ (k0_off2_inb k) h
/-- Block `k`'s flight, on the cell as the body's wait names it. -/
theorem flight_body (c : Dev nD) (f1 : BufOf (F := F) c hb1) (f7 : BufOf (F := F) c sc1) (k : Fin k0_t1_loop.trips) (hk : k.val < 30) :
    flight c f1 f7 ⟨k.val, hk⟩ = Transfers.Flight (countersEmb (U := Pipeline.UD sig nD τ)) (c : Thread nD τ)
      (SemLoc.dma ((cc0_scratch13.slice (Rect.unit (s := S30) (k0_off1 k) S1.size (k0_off1_inb k))).squeeze S_ squeezes_S1_S_).sem) () 24576
      iprop(heldT c f7 k ∗ heldH c f1 ⟨k.val, hk⟩) := by
  unfold flight; rw [cell_eq k hk, ← heldT_eq c f7 k hk]

set_option maxHeartbeats 0 in
/-- One trip: the block's copy lands, the tables are only read, the accumulators end at the run's contents. -/
def trip (c : Dev nD) (a4 : Memref sig .tc .vmem S1440x128 .f32) (h4 : a4.IsWhole) (a5 : Memref sig .tc .vmem S12x15360 .bf16) (h5 : a5.IsWhole)
    (v2850 : IVec S30x128 32) (k : Fin k0_t1_loop.trips) (hk : k.val < 30)
    (f1 : BufOf (F := F) c hb1) (f7 : BufOf (F := F) c sc1)
    (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  :
    { g : BufOf (F := F) c sc10 × BufOf (F := F) c sc11 // ∀ (W : Waits sig Unit),
    iprop(pt c sc4 a10 ∗ pt c sc5 a11 ∗ pt c sc6 a12 ∗ pt c sc7 a13 ∗ pt c sc8 a14 ∗ pt c sc9 a15 ∗ pt c sc10 a16 ∗ pt c sc11 a17
      ∗ flight c f1 f7 ⟨k.val, hk⟩ ∗ owes (c : Thread nD τ) 0 W)
    ⊢ wp frame (wpE (defs₀ (F := F)) Variants.none c none) Set.univ
      (k0_t1_body hb0 (Memref.isWhole_whole _) hb1 (Memref.isWhole_whole _) hb2 (Memref.isWhole_whole _) hb3 (Memref.isWhole_whole _) a4 h4 a5 h5
        sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) cc0_scratch12 cc0_scratch13 v2850 k ⟨⟩)
      (fun _ => iprop(pt c sc4 a10 ∗ pt c sc5 a11 ∗ pt c sc6 a12 ∗ pt c sc7 a13 ∗ pt c sc8 a14 ∗ pt c sc9 a15
        ∗ pt c sc10 g.1 ∗ pt c sc11 g.2 ∗ landed c f1 f7 ⟨k.val, hk⟩ ∗ ∃ W, owes (c : Thread nD τ) 0 W)) } := by
  refine ⟨⟨?_, ?_⟩, fun W => ?run⟩
  case run =>
    rw [flight_body, landed, cell_eq k hk, heldT_eq c f7 k hk]
    iintro ⟨HS4, HS5, HS6, HS7, HS8, HS9, HS10, HS11, Hfl, HO⟩
    unfold k0_t1_body
    sl_exec_parts
    sl_step
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitr [HO]
    · isplitl [Hfl]; · iexact Hfl
      isplitl [Hfl_dst]; · iexact Hfl_dst
      iexact Hfl_src
    iexists _; iexact HO

/-! ## The loop -/

/-- The blocks' states before trip `k`: those from `k` on in flight. -/
def stK (k : ℕ) : Fin 30 → Bool := fun j => decide (k ≤ j.val)
theorem stK_zero : stK 0 = fun _ => true := by funext j; simp [stK]
theorem stK_end : stK 30 = fun _ => false := by
  funext j; have := j.isLt; simp only [stK, decide_eq_false_iff_not]; omega
theorem stK_self (k : Fin 30) : stK k.val k = true := by simp [stK]
theorem stK_succ (k : Fin 30) : Function.update (stK k.val) k false = stK (k.val + 1) := by
  funext j
  by_cases hj : j = k
  · subst hj; simp [stK]
  · have hv : j.val ≠ k.val := fun h => hj (Fin.ext h)
    rw [Function.update_of_ne hj]
    simp only [stK, decide_eq_decide]; omega

/-- The accumulators' contents before trip `k`, from `a16` and `a17`. -/
def accs (c : Dev nD) (a4 : Memref sig .tc .vmem S1440x128 .f32) (h4 : a4.IsWhole) (a5 : Memref sig .tc .vmem S12x15360 .bf16) (h5 : a5.IsWhole)
    (v2850 : IVec S30x128 32) (f1 : BufOf (F := F) c hb1) (f7 : BufOf (F := F) c sc1) (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  : ℕ → BufOf (F := F) c sc10 × BufOf (F := F) c sc11
  | 0 => (a16, a17)
  | k + 1 => if h : k < k0_t1_loop.trips then
      (trip c a4 h4 a5 h5 v2850 ⟨k, h⟩ (trips_eq ▸ h) f1 f7 a10 a11 a12 a13 a14 a15
        (accs c a4 h4 a5 h5 v2850 f1 f7 a10 a11 a12 a13 a14 a15 a16 a17 k).1 (accs c a4 h4 a5 h5 v2850 f1 f7 a10 a11 a12 a13 a14 a15 a16 a17 k).2).1
    else accs c a4 h4 a5 h5 v2850 f1 f7 a10 a11 a12 a13 a14 a15 a16 a17 k
set_option maxRecDepth 100000 in
theorem accs_succ (c : Dev nD) (a4 : Memref sig .tc .vmem S1440x128 .f32) (h4 : a4.IsWhole) (a5 : Memref sig .tc .vmem S12x15360 .bf16) (h5 : a5.IsWhole)
    (v2850 : IVec S30x128 32) (f1 : BufOf (F := F) c hb1) (f7 : BufOf (F := F) c sc1) (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  (k : Fin k0_t1_loop.trips) (hk : k.val < 30) :
    accs c a4 h4 a5 h5 v2850 f1 f7 a10 a11 a12 a13 a14 a15 a16 a17 (k.val + 1)
      = (trip c a4 h4 a5 h5 v2850 k hk f1 f7 a10 a11 a12 a13 a14 a15
        (accs c a4 h4 a5 h5 v2850 f1 f7 a10 a11 a12 a13 a14 a15 a16 a17 k.val).1 (accs c a4 h4 a5 h5 v2850 f1 f7 a10 a11 a12 a13 a14 a15 a16 a17 k.val).2).1 :=
  dif_pos k.isLt

/-- One accumulator's contents before trip `k`. -/
def acc16 (c : Dev nD) (a4 : Memref sig .tc .vmem S1440x128 .f32) (h4 : a4.IsWhole) (a5 : Memref sig .tc .vmem S12x15360 .bf16) (h5 : a5.IsWhole)
    (v2850 : IVec S30x128 32) (f1 : BufOf (F := F) c hb1) (f7 : BufOf (F := F) c sc1) (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  : ℕ → BufOf (F := F) c sc10
  | 0 => a16
  | k + 1 => (accs c a4 h4 a5 h5 v2850 f1 f7 a10 a11 a12 a13 a14 a15 a16 a17 (k + 1)).1
theorem acc16_eq (c : Dev nD) (a4 : Memref sig .tc .vmem S1440x128 .f32) (h4 : a4.IsWhole) (a5 : Memref sig .tc .vmem S12x15360 .bf16) (h5 : a5.IsWhole)
    (v2850 : IVec S30x128 32) (f1 : BufOf (F := F) c hb1) (f7 : BufOf (F := F) c sc1) (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  (k : ℕ) :
    acc16 c a4 h4 a5 h5 v2850 f1 f7 a10 a11 a12 a13 a14 a15 a16 a17 k = (accs c a4 h4 a5 h5 v2850 f1 f7 a10 a11 a12 a13 a14 a15 a16 a17 k).1 := by
  cases k <;> rfl

/-- One accumulator's contents before trip `k`. -/
def acc17 (c : Dev nD) (a4 : Memref sig .tc .vmem S1440x128 .f32) (h4 : a4.IsWhole) (a5 : Memref sig .tc .vmem S12x15360 .bf16) (h5 : a5.IsWhole)
    (v2850 : IVec S30x128 32) (f1 : BufOf (F := F) c hb1) (f7 : BufOf (F := F) c sc1) (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  : ℕ → BufOf (F := F) c sc11
  | 0 => a17
  | k + 1 => (accs c a4 h4 a5 h5 v2850 f1 f7 a10 a11 a12 a13 a14 a15 a16 a17 (k + 1)).2
theorem acc17_eq (c : Dev nD) (a4 : Memref sig .tc .vmem S1440x128 .f32) (h4 : a4.IsWhole) (a5 : Memref sig .tc .vmem S12x15360 .bf16) (h5 : a5.IsWhole)
    (v2850 : IVec S30x128 32) (f1 : BufOf (F := F) c hb1) (f7 : BufOf (F := F) c sc1) (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  (k : ℕ) :
    acc17 c a4 h4 a5 h5 v2850 f1 f7 a10 a11 a12 a13 a14 a15 a16 a17 k = (accs c a4 h4 a5 h5 v2850 f1 f7 a10 a11 a12 a13 a14 a15 a16 a17 k).2 := by
  cases k <;> rfl

/-- The invariant: the tables as they are, the accumulators at `accs`, the blocks in their states. -/
abbrev inv (c : Dev nD) (a4 : Memref sig .tc .vmem S1440x128 .f32) (h4 : a4.IsWhole) (a5 : Memref sig .tc .vmem S12x15360 .bf16) (h5 : a5.IsWhole)
    (v2850 : IVec S30x128 32) (f1 : BufOf (F := F) c hb1) (f7 : BufOf (F := F) c sc1) (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  (k : ℕ) (_ : Unit) : sProp 𝕄 :=
  iprop(pt c sc4 a10 ∗ pt c sc5 a11 ∗ pt c sc6 a12 ∗ pt c sc7 a13 ∗ pt c sc8 a14 ∗ pt c sc9 a15
    ∗ pt c sc10 (acc16 c a4 h4 a5 h5 v2850 f1 f7 a10 a11 a12 a13 a14 a15 a16 a17 k) ∗ pt c sc11 (acc17 c a4 h4 a5 h5 v2850 f1 f7 a10 a11 a12 a13 a14 a15 a16 a17 k) ∗ Ring.AtW (blkΦ c f1 f7) (stK k) ∗ ∃ W, owes (c : Thread nD τ) 0 W)

/-- One trip keeps the invariant. -/
theorem step (c : Dev nD) (a4 : Memref sig .tc .vmem S1440x128 .f32) (h4 : a4.IsWhole) (a5 : Memref sig .tc .vmem S12x15360 .bf16) (h5 : a5.IsWhole)
    (v2850 : IVec S30x128 32) (f1 : BufOf (F := F) c hb1) (f7 : BufOf (F := F) c sc1) (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  (k : Fin k0_t1_loop.trips) (acc : Unit) :
    inv c a4 h4 a5 h5 v2850 f1 f7 a10 a11 a12 a13 a14 a15 a16 a17 k.val acc ⊢ wp frame (wpE (defs₀ (F := F)) Variants.none c none) Set.univ
      (k0_t1_body hb0 (Memref.isWhole_whole _) hb1 (Memref.isWhole_whole _) hb2 (Memref.isWhole_whole _) hb3 (Memref.isWhole_whole _) a4 h4 a5 h5
        sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) cc0_scratch12 cc0_scratch13 v2850 k acc)
      (inv c a4 h4 a5 h5 v2850 f1 f7 a10 a11 a12 a13 a14 a15 a16 a17 (k.val + 1)) := by
  have hk : k.val < 30 := trips_eq ▸ k.isLt
  have key : ∀ (W : Waits sig Unit),
      iprop((pt c sc4 a10 ∗ pt c sc5 a11 ∗ pt c sc6 a12 ∗ pt c sc7 a13 ∗ pt c sc8 a14 ∗ pt c sc9 a15 ∗ pt c sc10 (accs c a4 h4 a5 h5 v2850 f1 f7 a10 a11 a12 a13 a14 a15 a16 a17 k.val).1 ∗ pt c sc11 (accs c a4 h4 a5 h5 v2850 f1 f7 a10 a11 a12 a13 a14 a15 a16 a17 k.val).2
        ∗ flight c f1 f7 ⟨k.val, hk⟩ ∗ owes (c : Thread nD τ) 0 W) ∗ Ring.restW (blkΦ c f1 f7) (stK k.val) ⟨k.val, hk⟩)
      ⊢ wp frame (wpE (defs₀ (F := F)) Variants.none c none) Set.univ
      (k0_t1_body hb0 (Memref.isWhole_whole _) hb1 (Memref.isWhole_whole _) hb2 (Memref.isWhole_whole _) hb3 (Memref.isWhole_whole _) a4 h4 a5 h5
        sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) cc0_scratch12 cc0_scratch13 v2850 k acc)
      (inv c a4 h4 a5 h5 v2850 f1 f7 a10 a11 a12 a13 a14 a15 a16 a17 (k.val + 1)) := by
    intro W
    have ht := (trip c a4 h4 a5 h5 v2850 k hk f1 f7 a10 a11 a12 a13 a14 a15 (accs c a4 h4 a5 h5 v2850 f1 f7 a10 a11 a12 a13 a14 a15 a16 a17 k.val).1 (accs c a4 h4 a5 h5 v2850 f1 f7 a10 a11 a12 a13 a14 a15 a16 a17 k.val).2).2 W
    refine (BI.sep_mono ht (BI.Entails.refl _)).trans ((wp_frame_r _ _ _).trans (wp_mono _ _ _ fun a => ?_))
    unfold inv
    rw [← stK_succ ⟨k.val, hk⟩, acc16_eq, acc17_eq, accs_succ c a4 h4 a5 h5 v2850 f1 f7 a10 a11 a12 a13 a14 a15 a16 a17 k hk]
    iintro ⟨⟨H4, H5, H6, H7, H8, H9, H10, H11, Hl, HO⟩, Hr⟩
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitr [HO]
    · iapply (Ring.AtW_update (blkΦ c f1 f7) (stK k.val) ⟨k.val, hk⟩ false)
      isplitl [Hl]
      · rw [blkΦ, if_neg Bool.false_ne_true]; iexact Hl
      · iexact Hr
    · iexact HO
  generalize inv c a4 h4 a5 h5 v2850 f1 f7 a10 a11 a12 a13 a14 a15 a16 a17 (k.val + 1) = Q at key ⊢
  generalize hp : k0_t1_body (F := F) _ _ _ _ _ _ _ _ _ _ _ _ _ _ _ _ _ _ _ _ _ _ _ _ _ _ _ _ _ _ _ _ _ _ _ _ _ _ _ k acc = p at key ⊢
  unfold inv
  rw [acc16_eq, acc17_eq, Ring.AtW_focus (blkΦ c f1 f7) (stK k.val) ⟨k.val, hk⟩]
  have hΦ : blkΦ c f1 f7 ⟨k.val, hk⟩ (stK k.val ⟨k.val, hk⟩) = flight c f1 f7 ⟨k.val, hk⟩ := by rw [blkΦ, stK_self ⟨k.val, hk⟩, if_pos rfl]
  rw [hΦ]
  iintro ⟨H4, H5, H6, H7, H8, H9, H10, H11, ⟨Hf, Hr⟩, ⟨%W, HO⟩⟩
  iapply (key W)
  isplitr [Hr]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Hf]; · iexact Hf
    iexact HO
  · iexact Hr

set_option maxRecDepth 100000 in
set_option warn.classDefReducibility false in
/-- The loop's invariant and its step, as the run takes them. -/
@[sl_loop] def loopInv (c : Dev nD) (a4 : Memref sig .tc .vmem S1440x128 .f32) (h4 : a4.IsWhole) (a5 : Memref sig .tc .vmem S12x15360 .bf16) (h5 : a5.IsWhole)
    (v2850 : IVec S30x128 32) (f1 : BufOf (F := F) c hb1) (f7 : BufOf (F := F) c sc1) (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  :
    LoopInvTy_k0_t1 (F := F) Unit ℕ (Pipeline.UD sig nD τ) ℕ Variants.none c none Set.univ
      hb0 (Memref.isWhole_whole _) hb1 (Memref.isWhole_whole _) hb2 (Memref.isWhole_whole _) hb3 (Memref.isWhole_whole _) a4 h4 a5 h5
        sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) cc0_scratch12 cc0_scratch13 v2850 where
  inv := inv c a4 h4 a5 h5 v2850 f1 f7 a10 a11 a12 a13 a14 a15 a16 a17
  step := fun k acc => step c a4 h4 a5 h5 v2850 f1 f7 a10 a11 a12 a13 a14 a15 a16 a17 k acc

end Cert.Kernel.Hand
end
-- ==== Proof.Bits.Blocks.lean ====
/-
  Hand-written, untrusted. The 30 weight blocks of `Kernel`: all in flight at the loop, all landed after it.
-/
module

public import proofs.«01_k».proof.Proof.Bits.Trip

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The weight array's contents, as the scratch buffer's. -/
abbrev fW (c : Dev nD) (f1 : BufOf (F := F) c hb1) : BufOf (F := F) c sc1 := f1

/-- A piece over the whole view, at an element under it. -/
theorem writes_whole_emb {κ : Kind} {sp : Space} {s : Shape} {e : EltTy} (v : View sig κ sp s e) (Val : EltTy → Type) (f : v.ty.Contents Val)
    (x : s.Idx → Val e) (y : s.Idx) (z : Val v.ty.elt) (h : _root_.cast (congrArg Val v.elt_eq.symm) (x y) = z) :
    v.writes Val f [⟨Rect.whole s, x⟩] (v.emb y) = z := by
  rw [← h, View.writes_cons, View.writes_nil]
  have h' := (v.slice (Rect.whole s)).write_emb_of_mem (Val := Val) f x (Finset.mem_univ y)
  have e' : (v.slice (Rect.whole s)).emb y = v.emb y := congrArg v.emb (Rect.emb_whole_apply _ y)
  rw [e'] at h'
  exact h'

set_option maxHeartbeats 1000000 in
/-- A block's copy as the body starts it is the block in flight. -/
theorem flight_of (c : Dev nD) (f1 : BufOf (F := F) c hb1) (d7 : BufOf (F := F) c sc1) (b : Fin 30) (o : Fin 2 → ℕ)
    (ho : ∀ a, o a + S128x1536.size a ≤ S3840x1536.size a) (e : o = ![128 * b.val, 0]) (s : SemLoc sig) (hs : s = cellW b) :
    Transfers.Flight (countersEmb (U := Pipeline.UD sig nD τ)) (c : Thread nD τ) s () 24576
      iprop(((sc1.slice (Rect.unit (s := S3840x1536) o S128x1536.size ho) (fun _ => rfl)).view.loc (c : Thread nD τ)
          ↦[(sc1.slice (Rect.unit (s := S3840x1536) o S128x1536.size ho) (fun _ => rfl)).view.set]{fullShare}
            (sc1.slice (Rect.unit (s := S3840x1536) o S128x1536.size ho) (fun _ => rfl)).view.writes (Elt F) d7
              [⟨Rect.whole _, (hb1.slice (Rect.unit (s := S3840x1536) o S128x1536.size ho) (fun _ => rfl)).view.read (Elt F) f1⟩])
        ∗ ((hb1.slice (Rect.unit (s := S3840x1536) o S128x1536.size ho) (fun _ => rfl)).view.loc (c : Thread nD τ)
          ↦[(hb1.slice (Rect.unit (s := S3840x1536) o S128x1536.size ho) (fun _ => rfl)).view.set]{fullShare} f1))
    ⊢ (flight c f1 (fW c f1) b : sProp 𝕄) := by
  subst e; subst hs
  refine Transfers.Flight_mono _ _ (BI.sep_mono (BIBase.Entails.of_eq (pointsTo_congr ?_)) (BI.Entails.refl _))
  intro i hi
  obtain ⟨y, -, rfl⟩ := Finset.mem_map.mp hi
  exact writes_whole_emb (wblk b).view (Elt F) d7 ((hblk b).view.read (Elt F) f1) y _ rfl

/-- All blocks in flight. -/
theorem atW_start (c : Dev nD) (f1 : BufOf (F := F) c hb1) (f7 : BufOf (F := F) c sc1) :
    iprop(flight c f1 f7 0 ∗ flight c f1 f7 1 ∗ flight c f1 f7 2 ∗ flight c f1 f7 3 ∗ flight c f1 f7 4 ∗ flight c f1 f7 5 ∗ flight c f1 f7 6 ∗ flight c f1 f7 7 ∗ flight c f1 f7 8 ∗ flight c f1 f7 9 ∗ flight c f1 f7 10 ∗ flight c f1 f7 11 ∗ flight c f1 f7 12 ∗ flight c f1 f7 13 ∗ flight c f1 f7 14 ∗ flight c f1 f7 15 ∗ flight c f1 f7 16 ∗ flight c f1 f7 17 ∗ flight c f1 f7 18 ∗ flight c f1 f7 19 ∗ flight c f1 f7 20 ∗ flight c f1 f7 21 ∗ flight c f1 f7 22 ∗ flight c f1 f7 23 ∗ flight c f1 f7 24 ∗ flight c f1 f7 25 ∗ flight c f1 f7 26 ∗ flight c f1 f7 27 ∗ flight c f1 f7 28 ∗ flight c f1 f7 29) ⊢ (Ring.AtW (blkΦ c f1 f7) (stK 0) : sProp 𝕄) := by
  rw [stK_zero]; unfold Ring.AtW
  rw [BI.bigSep_eq_bigSepL_of_eq [0, 1, 2, 3, 4, 5, 6, 7, 8, 9, 10, 11, 12, 13, 14, 15, 16, 17, 18, 19, 20, 21, 22, 23, 24, 25, 26, 27, 28, 29] (by decide) (by decide)]
  simp only [blkΦ, if_pos]
  exact BI.Entails.refl _

/-- All blocks landed: both arrays whole again, the counters at zero. -/
theorem atW_end (c : Dev nD) (f1 : BufOf (F := F) c hb1) (f7 : BufOf (F := F) c sc1) (n : ℕ) (hn : n = 30) :
    (Ring.AtW (blkΦ c f1 f7) (stK n) : sProp 𝕄) ⊢ iprop(pt c sc1 f7 ∗ pt c hb1 f1 ∗ BI.bigSep Finset.univ fun b => semVal ((c : Thread nD τ), cellW b) 0) := by
  rw [hn, stK_end]; unfold Ring.AtW
  simp only [blkΦ, Bool.false_eq_true, if_false, landed]
  rw [bigSep_sep', bigSep_sep']
  have e1 : (pt c sc1 f7 : sProp 𝕄) = BI.bigSep Finset.univ fun b => heldW c f7 b := by
    refine (Ring.pointsTo_blocks blkSet blk_disjoint blk_cover f7).trans (BI.bigSep_congr fun b _ => ?_)
    rw [heldW, View.set_slice_whole]
  have e2 : (pt c hb1 f1 : sProp 𝕄) = BI.bigSep Finset.univ fun b => heldH c f1 b := by
    refine (Ring.pointsTo_blocks blkSet blk_disjoint blk_cover f1).trans (BI.bigSep_congr fun b _ => ?_)
    rw [heldH, View.set_slice_whole]
  rw [e1, e2]
  iintro ⟨H1, H2, H3⟩
  isplitl [H2]; · iexact H2
  isplitl [H3]; · iexact H3
  iexact H1

end Cert.Kernel.Hand
end
-- ==== Proof.Bits.Body.lean ====
/-
  Hand-written, untrusted. One run of the body of `Kernel` from the buffers at any contents.
-/
module

public import proofs.«01_k».proof.Proof.Bits.Blocks

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

set_option maxHeartbeats 0 in
set_option maxRecDepth 100000 in
/-- One run of the body. -/
def body_run (c : Dev nD) (a4 : Memref sig .tc .vmem S1440x128 .f32) (h4 : a4.IsWhole) (a5 : Memref sig .tc .vmem S12x15360 .bf16) (h5 : a5.IsWhole)
    (f0 : BufOf (F := F) c hb0) (f1 : BufOf (F := F) c hb1) (f2 : BufOf (F := F) c hb2) (f3 : BufOf (F := F) c hb3)
    (f4 : BufOf (F := F) c a4) (f5 : BufOf (F := F) c a5)
    (d6 : BufOf (F := F) c sc0) (d7 : BufOf (F := F) c sc1) (d8 : BufOf (F := F) c sc2) (d9 : BufOf (F := F) c sc3) (d10 : BufOf (F := F) c sc4) (d11 : BufOf (F := F) c sc5) (d12 : BufOf (F := F) c sc6) (d13 : BufOf (F := F) c sc7) (d14 : BufOf (F := F) c sc8) (d15 : BufOf (F := F) c sc9) (d16 : BufOf (F := F) c sc10) (d17 : BufOf (F := F) c sc11) :
    { L : List (View.Piece (Elt F) S12x15360 .bf16) // ∀ (W : Waits sig Unit) (K : PUnit → sProp 𝕄),
    iprop((a4.view.loc (c : Thread nD τ) ↦[a4.view.set]{fullShare} f4) ∗ (a5.view.loc (c : Thread nD τ) ↦[a5.view.set]{fullShare} f5)
      ∗ pt c hb0 f0 ∗ pt c hb2 f2 ∗ pt c hb3 f3 ∗ pt c sc0 d6 ∗ pt c sc2 d8 ∗ pt c sc3 d9 ∗ pt c sc4 d10 ∗ pt c sc5 d11 ∗ pt c sc6 d12 ∗ pt c sc7 d13 ∗ pt c sc8 d14 ∗ pt c sc9 d15 ∗ pt c sc10 d16 ∗ pt c sc11 d17
      ∗ semVal ((c : Thread nD τ), SemLoc.dma 2) 0 ∗ semVal ((c : Thread nD τ), SemLoc.dma 3) 0 ∗ semVal ((c : Thread nD τ), SemLoc.dma 4) 0
      ∗ semVal ((c : Thread nD τ), SemLoc.dma 6) 0 ∗ ((sc1.slice (Rect.unit (s := S3840x1536) ![0, 0] S128x1536.size inb_S3840x1536_S128x1536_0_0) (fun _ => rfl)).view.loc (c : Thread nD τ) ↦[(sc1.slice (Rect.unit (s := S3840x1536) ![0, 0] S128x1536.size inb_S3840x1536_S128x1536_0_0) (fun _ => rfl)).view.set]{fullShare} d7)
        ∗ ((hb1.slice (Rect.unit (s := S3840x1536) ![0, 0] S128x1536.size inb_S3840x1536_S128x1536_0_0) (fun _ => rfl)).view.loc (c : Thread nD τ) ↦[(hb1.slice (Rect.unit (s := S3840x1536) ![0, 0] S128x1536.size inb_S3840x1536_S128x1536_0_0) (fun _ => rfl)).view.set]{fullShare} f1)
      ∗ semVal ((c : Thread nD τ), SemLoc.dma 7) 0 ∗ ((sc1.slice (Rect.unit (s := S3840x1536) ![128, 0] S128x1536.size inb_S3840x1536_S128x1536_128_0) (fun _ => rfl)).view.loc (c : Thread nD τ) ↦[(sc1.slice (Rect.unit (s := S3840x1536) ![128, 0] S128x1536.size inb_S3840x1536_S128x1536_128_0) (fun _ => rfl)).view.set]{fullShare} d7)
        ∗ ((hb1.slice (Rect.unit (s := S3840x1536) ![128, 0] S128x1536.size inb_S3840x1536_S128x1536_128_0) (fun _ => rfl)).view.loc (c : Thread nD τ) ↦[(hb1.slice (Rect.unit (s := S3840x1536) ![128, 0] S128x1536.size inb_S3840x1536_S128x1536_128_0) (fun _ => rfl)).view.set]{fullShare} f1)
      ∗ semVal ((c : Thread nD τ), SemLoc.dma 8) 0 ∗ ((sc1.slice (Rect.unit (s := S3840x1536) ![256, 0] S128x1536.size inb_S3840x1536_S128x1536_256_0) (fun _ => rfl)).view.loc (c : Thread nD τ) ↦[(sc1.slice (Rect.unit (s := S3840x1536) ![256, 0] S128x1536.size inb_S3840x1536_S128x1536_256_0) (fun _ => rfl)).view.set]{fullShare} d7)
        ∗ ((hb1.slice (Rect.unit (s := S3840x1536) ![256, 0] S128x1536.size inb_S3840x1536_S128x1536_256_0) (fun _ => rfl)).view.loc (c : Thread nD τ) ↦[(hb1.slice (Rect.unit (s := S3840x1536) ![256, 0] S128x1536.size inb_S3840x1536_S128x1536_256_0) (fun _ => rfl)).view.set]{fullShare} f1)
      ∗ semVal ((c : Thread nD τ), SemLoc.dma 9) 0 ∗ ((sc1.slice (Rect.unit (s := S3840x1536) ![384, 0] S128x1536.size inb_S3840x1536_S128x1536_384_0) (fun _ => rfl)).view.loc (c : Thread nD τ) ↦[(sc1.slice (Rect.unit (s := S3840x1536) ![384, 0] S128x1536.size inb_S3840x1536_S128x1536_384_0) (fun _ => rfl)).view.set]{fullShare} d7)
        ∗ ((hb1.slice (Rect.unit (s := S3840x1536) ![384, 0] S128x1536.size inb_S3840x1536_S128x1536_384_0) (fun _ => rfl)).view.loc (c : Thread nD τ) ↦[(hb1.slice (Rect.unit (s := S3840x1536) ![384, 0] S128x1536.size inb_S3840x1536_S128x1536_384_0) (fun _ => rfl)).view.set]{fullShare} f1)
      ∗ semVal ((c : Thread nD τ), SemLoc.dma 10) 0 ∗ ((sc1.slice (Rect.unit (s := S3840x1536) ![512, 0] S128x1536.size inb_S3840x1536_S128x1536_512_0) (fun _ => rfl)).view.loc (c : Thread nD τ) ↦[(sc1.slice (Rect.unit (s := S3840x1536) ![512, 0] S128x1536.size inb_S3840x1536_S128x1536_512_0) (fun _ => rfl)).view.set]{fullShare} d7)
        ∗ ((hb1.slice (Rect.unit (s := S3840x1536) ![512, 0] S128x1536.size inb_S3840x1536_S128x1536_512_0) (fun _ => rfl)).view.loc (c : Thread nD τ) ↦[(hb1.slice (Rect.unit (s := S3840x1536) ![512, 0] S128x1536.size inb_S3840x1536_S128x1536_512_0) (fun _ => rfl)).view.set]{fullShare} f1)
      ∗ semVal ((c : Thread nD τ), SemLoc.dma 11) 0 ∗ ((sc1.slice (Rect.unit (s := S3840x1536) ![640, 0] S128x1536.size inb_S3840x1536_S128x1536_640_0) (fun _ => rfl)).view.loc (c : Thread nD τ) ↦[(sc1.slice (Rect.unit (s := S3840x1536) ![640, 0] S128x1536.size inb_S3840x1536_S128x1536_640_0) (fun _ => rfl)).view.set]{fullShare} d7)
        ∗ ((hb1.slice (Rect.unit (s := S3840x1536) ![640, 0] S128x1536.size inb_S3840x1536_S128x1536_640_0) (fun _ => rfl)).view.loc (c : Thread nD τ) ↦[(hb1.slice (Rect.unit (s := S3840x1536) ![640, 0] S128x1536.size inb_S3840x1536_S128x1536_640_0) (fun _ => rfl)).view.set]{fullShare} f1)
      ∗ semVal ((c : Thread nD τ), SemLoc.dma 12) 0 ∗ ((sc1.slice (Rect.unit (s := S3840x1536) ![768, 0] S128x1536.size inb_S3840x1536_S128x1536_768_0) (fun _ => rfl)).view.loc (c : Thread nD τ) ↦[(sc1.slice (Rect.unit (s := S3840x1536) ![768, 0] S128x1536.size inb_S3840x1536_S128x1536_768_0) (fun _ => rfl)).view.set]{fullShare} d7)
        ∗ ((hb1.slice (Rect.unit (s := S3840x1536) ![768, 0] S128x1536.size inb_S3840x1536_S128x1536_768_0) (fun _ => rfl)).view.loc (c : Thread nD τ) ↦[(hb1.slice (Rect.unit (s := S3840x1536) ![768, 0] S128x1536.size inb_S3840x1536_S128x1536_768_0) (fun _ => rfl)).view.set]{fullShare} f1)
      ∗ semVal ((c : Thread nD τ), SemLoc.dma 13) 0 ∗ ((sc1.slice (Rect.unit (s := S3840x1536) ![896, 0] S128x1536.size inb_S3840x1536_S128x1536_896_0) (fun _ => rfl)).view.loc (c : Thread nD τ) ↦[(sc1.slice (Rect.unit (s := S3840x1536) ![896, 0] S128x1536.size inb_S3840x1536_S128x1536_896_0) (fun _ => rfl)).view.set]{fullShare} d7)
        ∗ ((hb1.slice (Rect.unit (s := S3840x1536) ![896, 0] S128x1536.size inb_S3840x1536_S128x1536_896_0) (fun _ => rfl)).view.loc (c : Thread nD τ) ↦[(hb1.slice (Rect.unit (s := S3840x1536) ![896, 0] S128x1536.size inb_S3840x1536_S128x1536_896_0) (fun _ => rfl)).view.set]{fullShare} f1)
      ∗ semVal ((c : Thread nD τ), SemLoc.dma 14) 0 ∗ ((sc1.slice (Rect.unit (s := S3840x1536) ![1024, 0] S128x1536.size inb_S3840x1536_S128x1536_1024_0) (fun _ => rfl)).view.loc (c : Thread nD τ) ↦[(sc1.slice (Rect.unit (s := S3840x1536) ![1024, 0] S128x1536.size inb_S3840x1536_S128x1536_1024_0) (fun _ => rfl)).view.set]{fullShare} d7)
        ∗ ((hb1.slice (Rect.unit (s := S3840x1536) ![1024, 0] S128x1536.size inb_S3840x1536_S128x1536_1024_0) (fun _ => rfl)).view.loc (c : Thread nD τ) ↦[(hb1.slice (Rect.unit (s := S3840x1536) ![1024, 0] S128x1536.size inb_S3840x1536_S128x1536_1024_0) (fun _ => rfl)).view.set]{fullShare} f1)
      ∗ semVal ((c : Thread nD τ), SemLoc.dma 15) 0 ∗ ((sc1.slice (Rect.unit (s := S3840x1536) ![1152, 0] S128x1536.size inb_S3840x1536_S128x1536_1152_0) (fun _ => rfl)).view.loc (c : Thread nD τ) ↦[(sc1.slice (Rect.unit (s := S3840x1536) ![1152, 0] S128x1536.size inb_S3840x1536_S128x1536_1152_0) (fun _ => rfl)).view.set]{fullShare} d7)
        ∗ ((hb1.slice (Rect.unit (s := S3840x1536) ![1152, 0] S128x1536.size inb_S3840x1536_S128x1536_1152_0) (fun _ => rfl)).view.loc (c : Thread nD τ) ↦[(hb1.slice (Rect.unit (s := S3840x1536) ![1152, 0] S128x1536.size inb_S3840x1536_S128x1536_1152_0) (fun _ => rfl)).view.set]{fullShare} f1)
      ∗ semVal ((c : Thread nD τ), SemLoc.dma 16) 0 ∗ ((sc1.slice (Rect.unit (s := S3840x1536) ![1280, 0] S128x1536.size inb_S3840x1536_S128x1536_1280_0) (fun _ => rfl)).view.loc (c : Thread nD τ) ↦[(sc1.slice (Rect.unit (s := S3840x1536) ![1280, 0] S128x1536.size inb_S3840x1536_S128x1536_1280_0) (fun _ => rfl)).view.set]{fullShare} d7)
        ∗ ((hb1.slice (Rect.unit (s := S3840x1536) ![1280, 0] S128x1536.size inb_S3840x1536_S128x1536_1280_0) (fun _ => rfl)).view.loc (c : Thread nD τ) ↦[(hb1.slice (Rect.unit (s := S3840x1536) ![1280, 0] S128x1536.size inb_S3840x1536_S128x1536_1280_0) (fun _ => rfl)).view.set]{fullShare} f1)
      ∗ semVal ((c : Thread nD τ), SemLoc.dma 17) 0 ∗ ((sc1.slice (Rect.unit (s := S3840x1536) ![1408, 0] S128x1536.size inb_S3840x1536_S128x1536_1408_0) (fun _ => rfl)).view.loc (c : Thread nD τ) ↦[(sc1.slice (Rect.unit (s := S3840x1536) ![1408, 0] S128x1536.size inb_S3840x1536_S128x1536_1408_0) (fun _ => rfl)).view.set]{fullShare} d7)
        ∗ ((hb1.slice (Rect.unit (s := S3840x1536) ![1408, 0] S128x1536.size inb_S3840x1536_S128x1536_1408_0) (fun _ => rfl)).view.loc (c : Thread nD τ) ↦[(hb1.slice (Rect.unit (s := S3840x1536) ![1408, 0] S128x1536.size inb_S3840x1536_S128x1536_1408_0) (fun _ => rfl)).view.set]{fullShare} f1)
      ∗ semVal ((c : Thread nD τ), SemLoc.dma 18) 0 ∗ ((sc1.slice (Rect.unit (s := S3840x1536) ![1536, 0] S128x1536.size inb_S3840x1536_S128x1536_1536_0) (fun _ => rfl)).view.loc (c : Thread nD τ) ↦[(sc1.slice (Rect.unit (s := S3840x1536) ![1536, 0] S128x1536.size inb_S3840x1536_S128x1536_1536_0) (fun _ => rfl)).view.set]{fullShare} d7)
        ∗ ((hb1.slice (Rect.unit (s := S3840x1536) ![1536, 0] S128x1536.size inb_S3840x1536_S128x1536_1536_0) (fun _ => rfl)).view.loc (c : Thread nD τ) ↦[(hb1.slice (Rect.unit (s := S3840x1536) ![1536, 0] S128x1536.size inb_S3840x1536_S128x1536_1536_0) (fun _ => rfl)).view.set]{fullShare} f1)
      ∗ semVal ((c : Thread nD τ), SemLoc.dma 19) 0 ∗ ((sc1.slice (Rect.unit (s := S3840x1536) ![1664, 0] S128x1536.size inb_S3840x1536_S128x1536_1664_0) (fun _ => rfl)).view.loc (c : Thread nD τ) ↦[(sc1.slice (Rect.unit (s := S3840x1536) ![1664, 0] S128x1536.size inb_S3840x1536_S128x1536_1664_0) (fun _ => rfl)).view.set]{fullShare} d7)
        ∗ ((hb1.slice (Rect.unit (s := S3840x1536) ![1664, 0] S128x1536.size inb_S3840x1536_S128x1536_1664_0) (fun _ => rfl)).view.loc (c : Thread nD τ) ↦[(hb1.slice (Rect.unit (s := S3840x1536) ![1664, 0] S128x1536.size inb_S3840x1536_S128x1536_1664_0) (fun _ => rfl)).view.set]{fullShare} f1)
      ∗ semVal ((c : Thread nD τ), SemLoc.dma 20) 0 ∗ ((sc1.slice (Rect.unit (s := S3840x1536) ![1792, 0] S128x1536.size inb_S3840x1536_S128x1536_1792_0) (fun _ => rfl)).view.loc (c : Thread nD τ) ↦[(sc1.slice (Rect.unit (s := S3840x1536) ![1792, 0] S128x1536.size inb_S3840x1536_S128x1536_1792_0) (fun _ => rfl)).view.set]{fullShare} d7)
        ∗ ((hb1.slice (Rect.unit (s := S3840x1536) ![1792, 0] S128x1536.size inb_S3840x1536_S128x1536_1792_0) (fun _ => rfl)).view.loc (c : Thread nD τ) ↦[(hb1.slice (Rect.unit (s := S3840x1536) ![1792, 0] S128x1536.size inb_S3840x1536_S128x1536_1792_0) (fun _ => rfl)).view.set]{fullShare} f1)
      ∗ semVal ((c : Thread nD τ), SemLoc.dma 21) 0 ∗ ((sc1.slice (Rect.unit (s := S3840x1536) ![1920, 0] S128x1536.size inb_S3840x1536_S128x1536_1920_0) (fun _ => rfl)).view.loc (c : Thread nD τ) ↦[(sc1.slice (Rect.unit (s := S3840x1536) ![1920, 0] S128x1536.size inb_S3840x1536_S128x1536_1920_0) (fun _ => rfl)).view.set]{fullShare} d7)
        ∗ ((hb1.slice (Rect.unit (s := S3840x1536) ![1920, 0] S128x1536.size inb_S3840x1536_S128x1536_1920_0) (fun _ => rfl)).view.loc (c : Thread nD τ) ↦[(hb1.slice (Rect.unit (s := S3840x1536) ![1920, 0] S128x1536.size inb_S3840x1536_S128x1536_1920_0) (fun _ => rfl)).view.set]{fullShare} f1)
      ∗ semVal ((c : Thread nD τ), SemLoc.dma 22) 0 ∗ ((sc1.slice (Rect.unit (s := S3840x1536) ![2048, 0] S128x1536.size inb_S3840x1536_S128x1536_2048_0) (fun _ => rfl)).view.loc (c : Thread nD τ) ↦[(sc1.slice (Rect.unit (s := S3840x1536) ![2048, 0] S128x1536.size inb_S3840x1536_S128x1536_2048_0) (fun _ => rfl)).view.set]{fullShare} d7)
        ∗ ((hb1.slice (Rect.unit (s := S3840x1536) ![2048, 0] S128x1536.size inb_S3840x1536_S128x1536_2048_0) (fun _ => rfl)).view.loc (c : Thread nD τ) ↦[(hb1.slice (Rect.unit (s := S3840x1536) ![2048, 0] S128x1536.size inb_S3840x1536_S128x1536_2048_0) (fun _ => rfl)).view.set]{fullShare} f1)
      ∗ semVal ((c : Thread nD τ), SemLoc.dma 23) 0 ∗ ((sc1.slice (Rect.unit (s := S3840x1536) ![2176, 0] S128x1536.size inb_S3840x1536_S128x1536_2176_0) (fun _ => rfl)).view.loc (c : Thread nD τ) ↦[(sc1.slice (Rect.unit (s := S3840x1536) ![2176, 0] S128x1536.size inb_S3840x1536_S128x1536_2176_0) (fun _ => rfl)).view.set]{fullShare} d7)
        ∗ ((hb1.slice (Rect.unit (s := S3840x1536) ![2176, 0] S128x1536.size inb_S3840x1536_S128x1536_2176_0) (fun _ => rfl)).view.loc (c : Thread nD τ) ↦[(hb1.slice (Rect.unit (s := S3840x1536) ![2176, 0] S128x1536.size inb_S3840x1536_S128x1536_2176_0) (fun _ => rfl)).view.set]{fullShare} f1)
      ∗ semVal ((c : Thread nD τ), SemLoc.dma 24) 0 ∗ ((sc1.slice (Rect.unit (s := S3840x1536) ![2304, 0] S128x1536.size inb_S3840x1536_S128x1536_2304_0) (fun _ => rfl)).view.loc (c : Thread nD τ) ↦[(sc1.slice (Rect.unit (s := S3840x1536) ![2304, 0] S128x1536.size inb_S3840x1536_S128x1536_2304_0) (fun _ => rfl)).view.set]{fullShare} d7)
        ∗ ((hb1.slice (Rect.unit (s := S3840x1536) ![2304, 0] S128x1536.size inb_S3840x1536_S128x1536_2304_0) (fun _ => rfl)).view.loc (c : Thread nD τ) ↦[(hb1.slice (Rect.unit (s := S3840x1536) ![2304, 0] S128x1536.size inb_S3840x1536_S128x1536_2304_0) (fun _ => rfl)).view.set]{fullShare} f1)
      ∗ semVal ((c : Thread nD τ), SemLoc.dma 25) 0 ∗ ((sc1.slice (Rect.unit (s := S3840x1536) ![2432, 0] S128x1536.size inb_S3840x1536_S128x1536_2432_0) (fun _ => rfl)).view.loc (c : Thread nD τ) ↦[(sc1.slice (Rect.unit (s := S3840x1536) ![2432, 0] S128x1536.size inb_S3840x1536_S128x1536_2432_0) (fun _ => rfl)).view.set]{fullShare} d7)
        ∗ ((hb1.slice (Rect.unit (s := S3840x1536) ![2432, 0] S128x1536.size inb_S3840x1536_S128x1536_2432_0) (fun _ => rfl)).view.loc (c : Thread nD τ) ↦[(hb1.slice (Rect.unit (s := S3840x1536) ![2432, 0] S128x1536.size inb_S3840x1536_S128x1536_2432_0) (fun _ => rfl)).view.set]{fullShare} f1)
      ∗ semVal ((c : Thread nD τ), SemLoc.dma 26) 0 ∗ ((sc1.slice (Rect.unit (s := S3840x1536) ![2560, 0] S128x1536.size inb_S3840x1536_S128x1536_2560_0) (fun _ => rfl)).view.loc (c : Thread nD τ) ↦[(sc1.slice (Rect.unit (s := S3840x1536) ![2560, 0] S128x1536.size inb_S3840x1536_S128x1536_2560_0) (fun _ => rfl)).view.set]{fullShare} d7)
        ∗ ((hb1.slice (Rect.unit (s := S3840x1536) ![2560, 0] S128x1536.size inb_S3840x1536_S128x1536_2560_0) (fun _ => rfl)).view.loc (c : Thread nD τ) ↦[(hb1.slice (Rect.unit (s := S3840x1536) ![2560, 0] S128x1536.size inb_S3840x1536_S128x1536_2560_0) (fun _ => rfl)).view.set]{fullShare} f1)
      ∗ semVal ((c : Thread nD τ), SemLoc.dma 27) 0 ∗ ((sc1.slice (Rect.unit (s := S3840x1536) ![2688, 0] S128x1536.size inb_S3840x1536_S128x1536_2688_0) (fun _ => rfl)).view.loc (c : Thread nD τ) ↦[(sc1.slice (Rect.unit (s := S3840x1536) ![2688, 0] S128x1536.size inb_S3840x1536_S128x1536_2688_0) (fun _ => rfl)).view.set]{fullShare} d7)
        ∗ ((hb1.slice (Rect.unit (s := S3840x1536) ![2688, 0] S128x1536.size inb_S3840x1536_S128x1536_2688_0) (fun _ => rfl)).view.loc (c : Thread nD τ) ↦[(hb1.slice (Rect.unit (s := S3840x1536) ![2688, 0] S128x1536.size inb_S3840x1536_S128x1536_2688_0) (fun _ => rfl)).view.set]{fullShare} f1)
      ∗ semVal ((c : Thread nD τ), SemLoc.dma 28) 0 ∗ ((sc1.slice (Rect.unit (s := S3840x1536) ![2816, 0] S128x1536.size inb_S3840x1536_S128x1536_2816_0) (fun _ => rfl)).view.loc (c : Thread nD τ) ↦[(sc1.slice (Rect.unit (s := S3840x1536) ![2816, 0] S128x1536.size inb_S3840x1536_S128x1536_2816_0) (fun _ => rfl)).view.set]{fullShare} d7)
        ∗ ((hb1.slice (Rect.unit (s := S3840x1536) ![2816, 0] S128x1536.size inb_S3840x1536_S128x1536_2816_0) (fun _ => rfl)).view.loc (c : Thread nD τ) ↦[(hb1.slice (Rect.unit (s := S3840x1536) ![2816, 0] S128x1536.size inb_S3840x1536_S128x1536_2816_0) (fun _ => rfl)).view.set]{fullShare} f1)
      ∗ semVal ((c : Thread nD τ), SemLoc.dma 29) 0 ∗ ((sc1.slice (Rect.unit (s := S3840x1536) ![2944, 0] S128x1536.size inb_S3840x1536_S128x1536_2944_0) (fun _ => rfl)).view.loc (c : Thread nD τ) ↦[(sc1.slice (Rect.unit (s := S3840x1536) ![2944, 0] S128x1536.size inb_S3840x1536_S128x1536_2944_0) (fun _ => rfl)).view.set]{fullShare} d7)
        ∗ ((hb1.slice (Rect.unit (s := S3840x1536) ![2944, 0] S128x1536.size inb_S3840x1536_S128x1536_2944_0) (fun _ => rfl)).view.loc (c : Thread nD τ) ↦[(hb1.slice (Rect.unit (s := S3840x1536) ![2944, 0] S128x1536.size inb_S3840x1536_S128x1536_2944_0) (fun _ => rfl)).view.set]{fullShare} f1)
      ∗ semVal ((c : Thread nD τ), SemLoc.dma 30) 0 ∗ ((sc1.slice (Rect.unit (s := S3840x1536) ![3072, 0] S128x1536.size inb_S3840x1536_S128x1536_3072_0) (fun _ => rfl)).view.loc (c : Thread nD τ) ↦[(sc1.slice (Rect.unit (s := S3840x1536) ![3072, 0] S128x1536.size inb_S3840x1536_S128x1536_3072_0) (fun _ => rfl)).view.set]{fullShare} d7)
        ∗ ((hb1.slice (Rect.unit (s := S3840x1536) ![3072, 0] S128x1536.size inb_S3840x1536_S128x1536_3072_0) (fun _ => rfl)).view.loc (c : Thread nD τ) ↦[(hb1.slice (Rect.unit (s := S3840x1536) ![3072, 0] S128x1536.size inb_S3840x1536_S128x1536_3072_0) (fun _ => rfl)).view.set]{fullShare} f1)
      ∗ semVal ((c : Thread nD τ), SemLoc.dma 31) 0 ∗ ((sc1.slice (Rect.unit (s := S3840x1536) ![3200, 0] S128x1536.size inb_S3840x1536_S128x1536_3200_0) (fun _ => rfl)).view.loc (c : Thread nD τ) ↦[(sc1.slice (Rect.unit (s := S3840x1536) ![3200, 0] S128x1536.size inb_S3840x1536_S128x1536_3200_0) (fun _ => rfl)).view.set]{fullShare} d7)
        ∗ ((hb1.slice (Rect.unit (s := S3840x1536) ![3200, 0] S128x1536.size inb_S3840x1536_S128x1536_3200_0) (fun _ => rfl)).view.loc (c : Thread nD τ) ↦[(hb1.slice (Rect.unit (s := S3840x1536) ![3200, 0] S128x1536.size inb_S3840x1536_S128x1536_3200_0) (fun _ => rfl)).view.set]{fullShare} f1)
      ∗ semVal ((c : Thread nD τ), SemLoc.dma 32) 0 ∗ ((sc1.slice (Rect.unit (s := S3840x1536) ![3328, 0] S128x1536.size inb_S3840x1536_S128x1536_3328_0) (fun _ => rfl)).view.loc (c : Thread nD τ) ↦[(sc1.slice (Rect.unit (s := S3840x1536) ![3328, 0] S128x1536.size inb_S3840x1536_S128x1536_3328_0) (fun _ => rfl)).view.set]{fullShare} d7)
        ∗ ((hb1.slice (Rect.unit (s := S3840x1536) ![3328, 0] S128x1536.size inb_S3840x1536_S128x1536_3328_0) (fun _ => rfl)).view.loc (c : Thread nD τ) ↦[(hb1.slice (Rect.unit (s := S3840x1536) ![3328, 0] S128x1536.size inb_S3840x1536_S128x1536_3328_0) (fun _ => rfl)).view.set]{fullShare} f1)
      ∗ semVal ((c : Thread nD τ), SemLoc.dma 33) 0 ∗ ((sc1.slice (Rect.unit (s := S3840x1536) ![3456, 0] S128x1536.size inb_S3840x1536_S128x1536_3456_0) (fun _ => rfl)).view.loc (c : Thread nD τ) ↦[(sc1.slice (Rect.unit (s := S3840x1536) ![3456, 0] S128x1536.size inb_S3840x1536_S128x1536_3456_0) (fun _ => rfl)).view.set]{fullShare} d7)
        ∗ ((hb1.slice (Rect.unit (s := S3840x1536) ![3456, 0] S128x1536.size inb_S3840x1536_S128x1536_3456_0) (fun _ => rfl)).view.loc (c : Thread nD τ) ↦[(hb1.slice (Rect.unit (s := S3840x1536) ![3456, 0] S128x1536.size inb_S3840x1536_S128x1536_3456_0) (fun _ => rfl)).view.set]{fullShare} f1)
      ∗ semVal ((c : Thread nD τ), SemLoc.dma 34) 0 ∗ ((sc1.slice (Rect.unit (s := S3840x1536) ![3584, 0] S128x1536.size inb_S3840x1536_S128x1536_3584_0) (fun _ => rfl)).view.loc (c : Thread nD τ) ↦[(sc1.slice (Rect.unit (s := S3840x1536) ![3584, 0] S128x1536.size inb_S3840x1536_S128x1536_3584_0) (fun _ => rfl)).view.set]{fullShare} d7)
        ∗ ((hb1.slice (Rect.unit (s := S3840x1536) ![3584, 0] S128x1536.size inb_S3840x1536_S128x1536_3584_0) (fun _ => rfl)).view.loc (c : Thread nD τ) ↦[(hb1.slice (Rect.unit (s := S3840x1536) ![3584, 0] S128x1536.size inb_S3840x1536_S128x1536_3584_0) (fun _ => rfl)).view.set]{fullShare} f1)
      ∗ semVal ((c : Thread nD τ), SemLoc.dma 35) 0 ∗ ((sc1.slice (Rect.unit (s := S3840x1536) ![3712, 0] S128x1536.size inb_S3840x1536_S128x1536_3712_0) (fun _ => rfl)).view.loc (c : Thread nD τ) ↦[(sc1.slice (Rect.unit (s := S3840x1536) ![3712, 0] S128x1536.size inb_S3840x1536_S128x1536_3712_0) (fun _ => rfl)).view.set]{fullShare} d7)
        ∗ ((hb1.slice (Rect.unit (s := S3840x1536) ![3712, 0] S128x1536.size inb_S3840x1536_S128x1536_3712_0) (fun _ => rfl)).view.loc (c : Thread nD τ) ↦[(hb1.slice (Rect.unit (s := S3840x1536) ![3712, 0] S128x1536.size inb_S3840x1536_S128x1536_3712_0) (fun _ => rfl)).view.set]{fullShare} f1)
      ∗ owes (c : Thread nD τ) 0 W
      ∗ (iprop((a4.view.loc (c : Thread nD τ) ↦[a4.view.set]{fullShare} f4) ∗ (a5.view.loc (c : Thread nD τ) ↦[a5.view.set]{fullShare} a5.view.writes (Elt F) f5 L)
        ∗ pt c hb0 f0 ∗ pt c hb1 f1 ∗ pt c hb2 f2 ∗ pt c hb3 f3
        ∗ (∃ g, pt c sc0 g) ∗ (∃ g, pt c sc1 g) ∗ (∃ g, pt c sc2 g) ∗ (∃ g, pt c sc3 g) ∗ (∃ g, pt c sc4 g) ∗ (∃ g, pt c sc5 g) ∗ (∃ g, pt c sc6 g) ∗ (∃ g, pt c sc7 g) ∗ (∃ g, pt c sc8 g) ∗ (∃ g, pt c sc9 g) ∗ (∃ g, pt c sc10 g) ∗ (∃ g, pt c sc11 g)
        ∗ semVal ((c : Thread nD τ), SemLoc.dma 2) 0 ∗ semVal ((c : Thread nD τ), SemLoc.dma 3) 0 ∗ semVal ((c : Thread nD τ), SemLoc.dma 4) 0
        ∗ (BI.bigSep Finset.univ fun b => semVal ((c : Thread nD τ), cellW b) 0)
        ∗ ∃ W', owes (c : Thread nD τ) 0 W') -∗ K ⟨⟩))
    ⊢ wp frame (wpE (defs₀ (F := F)) Variants.none c none) Set.univ
      (cc0_decdec hb0 (Memref.isWhole_whole _) hb1 (Memref.isWhole_whole _) hb2 (Memref.isWhole_whole _) hb3 (Memref.isWhole_whole _) a4 h4 a5 h5
        sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) cc0_scratch12 cc0_scratch13) K } := by
  refine ⟨?_, fun W K => ?run⟩
  case run =>
    rw [cc0_decdec_eq_skeleton]; unfold cc0_decdec_skel
    iintro ⟨Ha4, Ha5, Hh0, Hh2, Hh3, HS0, HS2, HS3, HS4, HS5, HS6, HS7, HS8, HS9, HS10, HS11, Hq0, Hq1, Hq2, Hw0, HB0, HA0, Hw1, HB1, HA1, Hw2, HB2, HA2, Hw3, HB3, HA3, Hw4, HB4, HA4, Hw5, HB5, HA5, Hw6, HB6, HA6, Hw7, HB7, HA7, Hw8, HB8, HA8, Hw9, HB9, HA9, Hw10, HB10, HA10, Hw11, HB11, HA11, Hw12, HB12, HA12, Hw13, HB13, HA13, Hw14, HB14, HA14, Hw15, HB15, HA15, Hw16, HB16, HA16, Hw17, HB17, HA17, Hw18, HB18, HA18, Hw19, HB19, HA19, Hw20, HB20, HA20, Hw21, HB21, HA21, Hw22, HB22, HA22, Hw23, HB23, HA23, Hw24, HB24, HA24, Hw25, HB25, HA25, Hw26, HB26, HA26, Hw27, HB27, HA27, Hw28, HB28, HA28, Hw29, HB29, HA29, HO, Hk⟩
    set_option sl_exec.stopBefore "k0_part73" in sl_exec_parts
    set_option sl_exec.stopBefore "k0_part155" in sl_exec_parts
    ihave HR : iprop(Ring.AtW (blkΦ c f1 (fW c f1)) (stK 0)) $$ [Hw0 Hw1 Hw2 Hw3 Hw4 Hw5 Hw6 Hw7 Hw8 Hw9 Hw10 Hw11 Hw12 Hw13 Hw14 Hw15 Hw16 Hw17 Hw18 Hw19 Hw20 Hw21 Hw22 Hw23 Hw24 Hw25 Hw26 Hw27 Hw28 Hw29]
    · iapply (atW_start c f1 (fW c f1))
      isplitl [Hw0]
      · iapply (flight_of c f1 d7 0 ![0, 0] inb_S3840x1536_S128x1536_0_0 rfl (SemLoc.dma 6) rfl); iexact Hw0
      isplitl [Hw1]
      · iapply (flight_of c f1 d7 1 ![128, 0] inb_S3840x1536_S128x1536_128_0 rfl (SemLoc.dma 7) rfl); iexact Hw1
      isplitl [Hw2]
      · iapply (flight_of c f1 d7 2 ![256, 0] inb_S3840x1536_S128x1536_256_0 rfl (SemLoc.dma 8) rfl); iexact Hw2
      isplitl [Hw3]
      · iapply (flight_of c f1 d7 3 ![384, 0] inb_S3840x1536_S128x1536_384_0 rfl (SemLoc.dma 9) rfl); iexact Hw3
      isplitl [Hw4]
      · iapply (flight_of c f1 d7 4 ![512, 0] inb_S3840x1536_S128x1536_512_0 rfl (SemLoc.dma 10) rfl); iexact Hw4
      isplitl [Hw5]
      · iapply (flight_of c f1 d7 5 ![640, 0] inb_S3840x1536_S128x1536_640_0 rfl (SemLoc.dma 11) rfl); iexact Hw5
      isplitl [Hw6]
      · iapply (flight_of c f1 d7 6 ![768, 0] inb_S3840x1536_S128x1536_768_0 rfl (SemLoc.dma 12) rfl); iexact Hw6
      isplitl [Hw7]
      · iapply (flight_of c f1 d7 7 ![896, 0] inb_S3840x1536_S128x1536_896_0 rfl (SemLoc.dma 13) rfl); iexact Hw7
      isplitl [Hw8]
      · iapply (flight_of c f1 d7 8 ![1024, 0] inb_S3840x1536_S128x1536_1024_0 rfl (SemLoc.dma 14) rfl); iexact Hw8
      isplitl [Hw9]
      · iapply (flight_of c f1 d7 9 ![1152, 0] inb_S3840x1536_S128x1536_1152_0 rfl (SemLoc.dma 15) rfl); iexact Hw9
      isplitl [Hw10]
      · iapply (flight_of c f1 d7 10 ![1280, 0] inb_S3840x1536_S128x1536_1280_0 rfl (SemLoc.dma 16) rfl); iexact Hw10
      isplitl [Hw11]
      · iapply (flight_of c f1 d7 11 ![1408, 0] inb_S3840x1536_S128x1536_1408_0 rfl (SemLoc.dma 17) rfl); iexact Hw11
      isplitl [Hw12]
      · iapply (flight_of c f1 d7 12 ![1536, 0] inb_S3840x1536_S128x1536_1536_0 rfl (SemLoc.dma 18) rfl); iexact Hw12
      isplitl [Hw13]
      · iapply (flight_of c f1 d7 13 ![1664, 0] inb_S3840x1536_S128x1536_1664_0 rfl (SemLoc.dma 19) rfl); iexact Hw13
      isplitl [Hw14]
      · iapply (flight_of c f1 d7 14 ![1792, 0] inb_S3840x1536_S128x1536_1792_0 rfl (SemLoc.dma 20) rfl); iexact Hw14
      isplitl [Hw15]
      · iapply (flight_of c f1 d7 15 ![1920, 0] inb_S3840x1536_S128x1536_1920_0 rfl (SemLoc.dma 21) rfl); iexact Hw15
      isplitl [Hw16]
      · iapply (flight_of c f1 d7 16 ![2048, 0] inb_S3840x1536_S128x1536_2048_0 rfl (SemLoc.dma 22) rfl); iexact Hw16
      isplitl [Hw17]
      · iapply (flight_of c f1 d7 17 ![2176, 0] inb_S3840x1536_S128x1536_2176_0 rfl (SemLoc.dma 23) rfl); iexact Hw17
      isplitl [Hw18]
      · iapply (flight_of c f1 d7 18 ![2304, 0] inb_S3840x1536_S128x1536_2304_0 rfl (SemLoc.dma 24) rfl); iexact Hw18
      isplitl [Hw19]
      · iapply (flight_of c f1 d7 19 ![2432, 0] inb_S3840x1536_S128x1536_2432_0 rfl (SemLoc.dma 25) rfl); iexact Hw19
      isplitl [Hw20]
      · iapply (flight_of c f1 d7 20 ![2560, 0] inb_S3840x1536_S128x1536_2560_0 rfl (SemLoc.dma 26) rfl); iexact Hw20
      isplitl [Hw21]
      · iapply (flight_of c f1 d7 21 ![2688, 0] inb_S3840x1536_S128x1536_2688_0 rfl (SemLoc.dma 27) rfl); iexact Hw21
      isplitl [Hw22]
      · iapply (flight_of c f1 d7 22 ![2816, 0] inb_S3840x1536_S128x1536_2816_0 rfl (SemLoc.dma 28) rfl); iexact Hw22
      isplitl [Hw23]
      · iapply (flight_of c f1 d7 23 ![2944, 0] inb_S3840x1536_S128x1536_2944_0 rfl (SemLoc.dma 29) rfl); iexact Hw23
      isplitl [Hw24]
      · iapply (flight_of c f1 d7 24 ![3072, 0] inb_S3840x1536_S128x1536_3072_0 rfl (SemLoc.dma 30) rfl); iexact Hw24
      isplitl [Hw25]
      · iapply (flight_of c f1 d7 25 ![3200, 0] inb_S3840x1536_S128x1536_3200_0 rfl (SemLoc.dma 31) rfl); iexact Hw25
      isplitl [Hw26]
      · iapply (flight_of c f1 d7 26 ![3328, 0] inb_S3840x1536_S128x1536_3328_0 rfl (SemLoc.dma 32) rfl); iexact Hw26
      isplitl [Hw27]
      · iapply (flight_of c f1 d7 27 ![3456, 0] inb_S3840x1536_S128x1536_3456_0 rfl (SemLoc.dma 33) rfl); iexact Hw27
      isplitl [Hw28]
      · iapply (flight_of c f1 d7 28 ![3584, 0] inb_S3840x1536_S128x1536_3584_0 rfl (SemLoc.dma 34) rfl); iexact Hw28
      iapply (flight_of c f1 d7 29 ![3712, 0] inb_S3840x1536_S128x1536_3712_0 rfl (SemLoc.dma 35) rfl); iexact Hw29
    sl_exec_parts
    sl_step
    ihave ⟨HS1, Hh1, Hc⟩ : iprop(pt c sc1 (fW c f1) ∗ pt c hb1 f1 ∗ BI.bigSep Finset.univ fun b => semVal ((c : Thread nD τ), cellW b) 0) $$ [HR]
    · iapply (atW_end c f1 (fW c f1) _ trips_eq); iexact HR
    iapply Hk
    isplitl [Ha4]; · iexact Ha4
    isplitl [Ha5]; · iexact Ha5
    isplitl [Hh0]; · iexact Hh0
    isplitl [Hh1]; · iexact Hh1
    isplitl [Hh2]; · iexact Hh2
    isplitl [Hh3]; · iexact Hh3
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [Hq0]; · iexact Hq0
    isplitl [Hq1]; · iexact Hq1
    isplitl [Hq2]; · iexact Hq2
    isplitl [Hc]; · iexact Hc
    iexists _; iexact HO

end Cert.Kernel.Hand
end
-- ==== Proof.Bits.Frame.lean ====
/-
  Hand-written, untrusted. The frame of `Kernel`: one run of the body closed over the pipeline library's invariant, and the launch.
-/
module

public import proofs.«01_k».proof.Proof.Bits.Body

public import proofs.«01_k».proof.Proof.Gen.Kernel.Points
public import proofs.«01_k».proof.Proof.Gen.Kernel.Launch
public import proofs.«01_k».proof.Proof.Gen.Kernel.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## The body's own cells and operands -/

abbrev osem0 : Fin 34 → SemLoc sig := fun j => SemLoc.dma ⟨2 + j.val, by have := j.isLt; show 2 + j.val < 36; omega⟩
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33] (by decide) (by decide)]; rfl
/-- The operands in HBM that the body's copies read. -/
def H0 : Finset (Ref sig .tc) := {main_arg1, main_arg2, main_arg3, main_v0}
theorem H0_sub : H0 ⊆ Pipeline.restRefs sig spec0 := by decide
theorem hbmPts0_eq (c : Dev nD) :
    (bigSep H0 (fun b => ((c : Thread nD τ).loc b) ↦{fullShare} V m c b) : sProp 𝕄) = iprop(pt c hb1 (V m c main_arg1) ∗ pt c hb2 (V m c main_arg2) ∗ pt c hb3 (V m c main_arg3) ∗ pt c hb0 (V m c main_v0)) := by
  rw [BI.bigSep_eq_bigSepL_of_eq [main_arg1, main_arg2, main_arg3, main_v0] (by decide) (by decide)]; rfl
theorem PhiD0_eq (c : Dev nD) :
    (Pipeline.ΦD osem0 spec0 H0 (V m) c : sProp 𝕄)
      = iprop(iprop((∃ f, pt c sc0 f) ∗ (∃ f, pt c sc1 f) ∗ (∃ f, pt c sc2 f) ∗ (∃ f, pt c sc3 f) ∗ (∃ f, pt c sc4 f) ∗ (∃ f, pt c sc5 f) ∗ (∃ f, pt c sc6 f) ∗ (∃ f, pt c sc7 f) ∗ (∃ f, pt c sc8 f) ∗ (∃ f, pt c sc9 f) ∗ (∃ f, pt c sc10 f) ∗ (∃ f, pt c sc11 f))
          ∗ (∃ r, prngReg c r)
          ∗ iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0)
          ∗ iprop(pt c hb1 (V m c main_arg1) ∗ pt c hb2 (V m c main_arg2) ∗ pt c hb3 (V m c main_arg3) ∗ pt c hb0 (V m c main_v0))) := by
  rw [Pipeline.ΦD_eq, scopedRest0_eq, ownSems00_eq, hbmPts0_eq]; try rfl

/-- The scratch buffer, and the operand, as the 30 blocks. -/
theorem blocksW (c : Dev nD) (f7 : BufOf (F := F) c sc1) : (pt c sc1 f7 : sProp 𝕄) ⊢ iprop(heldW c f7 0 ∗ heldW c f7 1 ∗ heldW c f7 2 ∗ heldW c f7 3 ∗ heldW c f7 4 ∗ heldW c f7 5 ∗ heldW c f7 6 ∗ heldW c f7 7 ∗ heldW c f7 8 ∗ heldW c f7 9 ∗ heldW c f7 10 ∗ heldW c f7 11 ∗ heldW c f7 12 ∗ heldW c f7 13 ∗ heldW c f7 14 ∗ heldW c f7 15 ∗ heldW c f7 16 ∗ heldW c f7 17 ∗ heldW c f7 18 ∗ heldW c f7 19 ∗ heldW c f7 20 ∗ heldW c f7 21 ∗ heldW c f7 22 ∗ heldW c f7 23 ∗ heldW c f7 24 ∗ heldW c f7 25 ∗ heldW c f7 26 ∗ heldW c f7 27 ∗ heldW c f7 28 ∗ heldW c f7 29) := by
  refine BIBase.Entails.of_eq ((Ring.pointsTo_blocks blkSet blk_disjoint blk_cover f7).trans ((BI.bigSep_congr (Ψ := fun b => heldW c f7 b) fun b _ => ?_).trans ?_))
  · rw [heldW, View.set_slice_whole]
  · rw [BI.bigSep_eq_bigSepL_of_eq [0, 1, 2, 3, 4, 5, 6, 7, 8, 9, 10, 11, 12, 13, 14, 15, 16, 17, 18, 19, 20, 21, 22, 23, 24, 25, 26, 27, 28, 29] (by decide) (by decide)]; rfl
theorem blocksH (c : Dev nD) (f1 : BufOf (F := F) c hb1) : (pt c hb1 f1 : sProp 𝕄) ⊢ iprop(heldH c f1 0 ∗ heldH c f1 1 ∗ heldH c f1 2 ∗ heldH c f1 3 ∗ heldH c f1 4 ∗ heldH c f1 5 ∗ heldH c f1 6 ∗ heldH c f1 7 ∗ heldH c f1 8 ∗ heldH c f1 9 ∗ heldH c f1 10 ∗ heldH c f1 11 ∗ heldH c f1 12 ∗ heldH c f1 13 ∗ heldH c f1 14 ∗ heldH c f1 15 ∗ heldH c f1 16 ∗ heldH c f1 17 ∗ heldH c f1 18 ∗ heldH c f1 19 ∗ heldH c f1 20 ∗ heldH c f1 21 ∗ heldH c f1 22 ∗ heldH c f1 23 ∗ heldH c f1 24 ∗ heldH c f1 25 ∗ heldH c f1 26 ∗ heldH c f1 27 ∗ heldH c f1 28 ∗ heldH c f1 29) := by
  refine BIBase.Entails.of_eq ((Ring.pointsTo_blocks blkSet blk_disjoint blk_cover f1).trans ((BI.bigSep_congr (Ψ := fun b => heldH c f1 b) fun b _ => ?_).trans ?_))
  · rw [heldH, View.set_slice_whole]
  · rw [BI.bigSep_eq_bigSepL_of_eq [0, 1, 2, 3, 4, 5, 6, 7, 8, 9, 10, 11, 12, 13, 14, 15, 16, 17, 18, 19, 20, 21, 22, 23, 24, 25, 26, 27, 28, 29] (by decide) (by decide)]; rfl
/-- The cells of the blocks one by one. -/
theorem cells_list (c : Dev nD) : (BI.bigSep Finset.univ (fun b : Fin 30 => semVal ((c : Thread nD τ), cellW b) 0) : sProp 𝕄)
    ⊢ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0) := by
  rw [BI.bigSep_eq_bigSepL_of_eq [0, 1, 2, 3, 4, 5, 6, 7, 8, 9, 10, 11, 12, 13, 14, 15, 16, 17, 18, 19, 20, 21, 22, 23, 24, 25, 26, 27, 28, 29] (by decide) (by decide)]; exact BI.Entails.refl _

/-! ## The proof data and the body obligation -/

/-- The output is forgotten: nothing here reads what the kernel leaves in it. -/
def forgets0 : Fin 2 → Bool := fun w => w.val == 1

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨n + 2, h⟩ => absurd h (Nat.not_lt.2 (Nat.le_add_left _ _))
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare d))

set_option maxHeartbeats 0 in
set_option maxRecDepth 100000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl, after0_0]
  unfold owns
  iintro ⟨⟨⟨⟨%d6, HS0⟩, ⟨%d7, HS1⟩, ⟨%d8, HS2⟩, ⟨%d9, HS3⟩, ⟨%d10, HS4⟩, ⟨%d11, HS5⟩, ⟨%d12, HS6⟩, ⟨%d13, HS7⟩, ⟨%d14, HS8⟩, ⟨%d15, HS9⟩, ⟨%d16, HS10⟩, ⟨%d17, HS11⟩⟩, Hg, ⟨Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35⟩, ⟨Hh1, Hh2, Hh3, Hh0⟩⟩, ⟨%W, -, HO⟩, ⟨%d0, ⟨%f4, %hf4, Ha4⟩⟩, ⟨%x5, ⟨%f5, -, Ha5⟩⟩⟩
  ihave ⟨HB0, HB1, HB2, HB3, HB4, HB5, HB6, HB7, HB8, HB9, HB10, HB11, HB12, HB13, HB14, HB15, HB16, HB17, HB18, HB19, HB20, HB21, HB22, HB23, HB24, HB25, HB26, HB27, HB28, HB29⟩ := (blocksW c d7) $$ HS1
  ihave ⟨HA0, HA1, HA2, HA3, HA4, HA5, HA6, HA7, HA8, HA9, HA10, HA11, HA12, HA13, HA14, HA15, HA16, HA17, HA18, HA19, HA20, HA21, HA22, HA23, HA24, HA25, HA26, HA27, HA28, HA29⟩ := (blocksH c (V m c main_arg1)) $$ Hh1
  iapply ((body_run c (st0_0 t) (hstage0_0 0) (st0_1 t) (hstage0_1 0) (V m c main_v0) (V m c main_arg1) (V m c main_arg2) (V m c main_arg3) f4 f5
    d6 d7 d8 d9 d10 d11 d12 d13 d14 d15 d16 d17).2 W _)
  isplitl [Ha4]; · iexact Ha4
  isplitl [Ha5]; · iexact Ha5
  isplitl [Hh0]; · iexact Hh0
  isplitl [Hh2]; · iexact Hh2
  isplitl [Hh3]; · iexact Hh3
  isplitl [HS0]; · iexact HS0
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [Hq2]; · iexact Hq2
  isplitl [Hq3]; · iexact Hq3
  isplitl [Hq4]; · iexact Hq4
  isplitl [Hq6]; · iexact Hq6
  isplitl [HB0]; · iexact HB0
  isplitl [HA0]; · iexact HA0
  isplitl [Hq7]; · iexact Hq7
  isplitl [HB1]; · iexact HB1
  isplitl [HA1]; · iexact HA1
  isplitl [Hq8]; · iexact Hq8
  isplitl [HB2]; · iexact HB2
  isplitl [HA2]; · iexact HA2
  isplitl [Hq9]; · iexact Hq9
  isplitl [HB3]; · iexact HB3
  isplitl [HA3]; · iexact HA3
  isplitl [Hq10]; · iexact Hq10
  isplitl [HB4]; · iexact HB4
  isplitl [HA4]; · iexact HA4
  isplitl [Hq11]; · iexact Hq11
  isplitl [HB5]; · iexact HB5
  isplitl [HA5]; · iexact HA5
  isplitl [Hq12]; · iexact Hq12
  isplitl [HB6]; · iexact HB6
  isplitl [HA6]; · iexact HA6
  isplitl [Hq13]; · iexact Hq13
  isplitl [HB7]; · iexact HB7
  isplitl [HA7]; · iexact HA7
  isplitl [Hq14]; · iexact Hq14
  isplitl [HB8]; · iexact HB8
  isplitl [HA8]; · iexact HA8
  isplitl [Hq15]; · iexact Hq15
  isplitl [HB9]; · iexact HB9
  isplitl [HA9]; · iexact HA9
  isplitl [Hq16]; · iexact Hq16
  isplitl [HB10]; · iexact HB10
  isplitl [HA10]; · iexact HA10
  isplitl [Hq17]; · iexact Hq17
  isplitl [HB11]; · iexact HB11
  isplitl [HA11]; · iexact HA11
  isplitl [Hq18]; · iexact Hq18
  isplitl [HB12]; · iexact HB12
  isplitl [HA12]; · iexact HA12
  isplitl [Hq19]; · iexact Hq19
  isplitl [HB13]; · iexact HB13
  isplitl [HA13]; · iexact HA13
  isplitl [Hq20]; · iexact Hq20
  isplitl [HB14]; · iexact HB14
  isplitl [HA14]; · iexact HA14
  isplitl [Hq21]; · iexact Hq21
  isplitl [HB15]; · iexact HB15
  isplitl [HA15]; · iexact HA15
  isplitl [Hq22]; · iexact Hq22
  isplitl [HB16]; · iexact HB16
  isplitl [HA16]; · iexact HA16
  isplitl [Hq23]; · iexact Hq23
  isplitl [HB17]; · iexact HB17
  isplitl [HA17]; · iexact HA17
  isplitl [Hq24]; · iexact Hq24
  isplitl [HB18]; · iexact HB18
  isplitl [HA18]; · iexact HA18
  isplitl [Hq25]; · iexact Hq25
  isplitl [HB19]; · iexact HB19
  isplitl [HA19]; · iexact HA19
  isplitl [Hq26]; · iexact Hq26
  isplitl [HB20]; · iexact HB20
  isplitl [HA20]; · iexact HA20
  isplitl [Hq27]; · iexact Hq27
  isplitl [HB21]; · iexact HB21
  isplitl [HA21]; · iexact HA21
  isplitl [Hq28]; · iexact Hq28
  isplitl [HB22]; · iexact HB22
  isplitl [HA22]; · iexact HA22
  isplitl [Hq29]; · iexact Hq29
  isplitl [HB23]; · iexact HB23
  isplitl [HA23]; · iexact HA23
  isplitl [Hq30]; · iexact Hq30
  isplitl [HB24]; · iexact HB24
  isplitl [HA24]; · iexact HA24
  isplitl [Hq31]; · iexact Hq31
  isplitl [HB25]; · iexact HB25
  isplitl [HA25]; · iexact HA25
  isplitl [Hq32]; · iexact Hq32
  isplitl [HB26]; · iexact HB26
  isplitl [HA26]; · iexact HA26
  isplitl [Hq33]; · iexact Hq33
  isplitl [HB27]; · iexact HB27
  isplitl [HA27]; · iexact HA27
  isplitl [Hq34]; · iexact Hq34
  isplitl [HB28]; · iexact HB28
  isplitl [HA28]; · iexact HA28
  isplitl [Hq35]; · iexact Hq35
  isplitl [HB29]; · iexact HB29
  isplitl [HA29]; · iexact HA29
  isplitl [HO]; · iexact HO
  iintro ⟨Ha4, Ha5, Hh0, Hh1, Hh2, Hh3, HS0, HS1, HS2, HS3, HS4, HS5, HS6, HS7, HS8, HS9, HS10, HS11, Hq2, Hq3, Hq4, Hc, HO⟩
  ihave ⟨Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35⟩ := (cells_list c) $$ Hc
  isplitl [HS0 HS1 HS2 HS3 HS4 HS5 HS6 HS7 HS8 HS9 HS10 HS11 Hg Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hh0 Hh1 Hh2 Hh3]
  · isplitl [HS0 HS1 HS2 HS3 HS4 HS5 HS6 HS7 HS8 HS9 HS10 HS11]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iexact HS11
    isplitl [Hg]; · iexact Hg
    isplitl [Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35]
    · isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      iexact Hq35
    isplitl [Hh1]; · iexact Hh1
    isplitl [Hh2]; · iexact Hh2
    isplitl [Hh3]; · iexact Hh3
    iexact Hh0
  isplitl [HO]
  · icases HO with ⟨%W', HO⟩
    iexists W'; isplitr; · ipureintro; exact fun _ _ => Or.inl trivial
    iexact HO
  isplitl [Ha4]
  · iexists f4; isplitr
    · ipureintro; exact hf4.trans (before0_0 m c t d0)
    iexact Ha4
  iexists _; iexists _; isplitr
  swap; · iexact Ha5
  ipureintro; rfl

theorem defs₀_row (t : Fin cfg0.N) : defs₀ (F := F) .tc cfg0.body (cfg0.bodyArgs t (cfg0.slots t)) = bodyAt0 t := by
  unfold defs₀; rw [Defs.onTc_tc]

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Kernel.Hand
end
-- ==== Proof.Ideal.Base.lean ====
/-
  Hand-written, untrusted. What the run of `KernelIdeal`'s body is stated over: the operands left in HBM, the scratch buffers, the
  copies' cells, and the weight array and its scratch buffer cut into the 30 blocks of 128 rows that the 30 weight copies move.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The buffers -/

abbrev hb0 : Memref sig .tc .hbm S12x3840 .bf16 := Memref.whole main_v0
abbrev hb1 : Memref sig .tc .hbm S3840x1536 .i32 := Memref.whole main_arg1
abbrev hb2 : Memref sig .tc .hbm S30x15360 .bf16 := Memref.whole main_arg2
abbrev hb3 : Memref sig .tc .hbm S30x15360 .i8 := Memref.whole main_arg3
abbrev sc0 : Memref sig .tc .vmem S12x3840 .bf16 := Memref.whole cc0_scratch0
abbrev sc1 : Memref sig .tc .vmem S3840x1536 .i32 := Memref.whole cc0_scratch1
abbrev sc2 : Memref sig .tc .vmem S30x15360 .bf16 := Memref.whole cc0_scratch2
abbrev sc3 : Memref sig .tc .vmem S30x15360 .i8 := Memref.whole cc0_scratch3
abbrev sc4 : Memref sig .tc .vmem S30x4x16x256 .bf16 := Memref.whole cc0_scratch4
abbrev sc5 : Memref sig .tc .vmem S30x32x256 .bf16 := Memref.whole cc0_scratch5
abbrev sc6 : Memref sig .tc .vmem S12x480x128 .bf16 := Memref.whole cc0_scratch6
abbrev sc7 : Memref sig .tc .vmem S12x30x128 .i32 := Memref.whole cc0_scratch7
abbrev sc8 : Memref sig .tc .vmem S12x60x128 .bf16 := Memref.whole cc0_scratch8
abbrev sc9 : Memref sig .tc .vmem S12x30x128 .i32 := Memref.whole cc0_scratch9
abbrev sc10 : Memref sig .tc .vmem S96x1536 .f32 := Memref.whole cc0_scratch10
abbrev sc11 : Memref sig .tc .vmem S32x1536 .f32 := Memref.whole cc0_scratch11
/-- What a buffer holds. -/
abbrev BufOf (c : Dev nD) {sp : Space} {S : Shape} {e : EltTy} (M : Memref sig .tc sp S e) : Type := Buf (Elt F) (M.view.loc (c : Thread nD τ))
/-- A buffer held whole. -/
abbrev pt (c : Dev nD) {sp : Space} {S : Shape} {e : EltTy} (M : Memref sig .tc sp S e) (f : BufOf (F := F) c M) : sProp 𝕄 :=
  M.view.loc (c : Thread nD τ) ↦{fullShare} f

/-! ## The weight blocks -/

theorem blk_inb (b : Fin 30) : ∀ a, (![128 * b.val, 0] : Fin 2 → ℕ) a + S128x1536.size a ≤ S3840x1536.size a := by
  have hb := b.isLt
  intro a; fin_cases a
  · show 128 * b.val + 128 ≤ 3840; omega
  · show 0 + 1536 ≤ 1536; omega
/-- The elements of weight block `b`: rows `128 b` to `128 b + 127`. -/
abbrev blkSet (b : Fin 30) : Finset S3840x1536.Idx := (Rect.unit (s := S3840x1536) ![128 * b.val, 0] S128x1536.size (blk_inb b)).set
theorem blk_disjoint (b b' : Fin 30) (h : b ≠ b') : Disjoint (blkSet b) (blkSet b') :=
  Ring.lead_disjoint (s := S3840x1536) (NB := 30) 0 128 (fun b => ![128 * b.val, 0]) S128x1536.size blk_inb (fun _ => rfl) rfl b b' h
theorem blk_cover : Finset.univ.biUnion blkSet = Finset.univ :=
  Ring.lead_cover (s := S3840x1536) (NB := 30) 0 128 (fun b => ![128 * b.val, 0]) S128x1536.size blk_inb (fun _ => rfl)
    (fun b a ha => by fin_cases a; exact absurd rfl ha; rfl) rfl (fun a ha => by fin_cases a; exact absurd rfl ha; rfl) rfl

/-- Weight block `b` of the scratch buffer, and of the operand in HBM. -/
abbrev wblk (b : Fin 30) : Memref sig .tc .vmem S128x1536 .i32 := sc1.slice (Rect.unit (s := S3840x1536) ![128 * b.val, 0] S128x1536.size (blk_inb b)) (fun _ => rfl)
abbrev hblk (b : Fin 30) : Memref sig .tc .hbm S128x1536 .i32 := hb1.slice (Rect.unit (s := S3840x1536) ![128 * b.val, 0] S128x1536.size (blk_inb b)) (fun _ => rfl)
/-- The two copies of block `b`, held at the contents of their whole buffers. -/
abbrev heldW (c : Dev nD) (f7 : BufOf (F := F) c sc1) (b : Fin 30) : sProp 𝕄 :=
  (wblk b).view.loc (c : Thread nD τ) ↦[(wblk b).view.set]{fullShare} f7
abbrev heldH (c : Dev nD) (f1 : BufOf (F := F) c hb1) (b : Fin 30) : sProp 𝕄 :=
  (hblk b).view.loc (c : Thread nD τ) ↦[(hblk b).view.set]{fullShare} f1
/-- The cell of block `b`'s copy. -/
abbrev cellW (b : Fin 30) : SemLoc sig := SemLoc.dma ⟨6 + b.val, by have := b.isLt; show 6 + b.val < 36; omega⟩
/-- Block `b`'s copy in flight, and landed. -/
abbrev flight (c : Dev nD) (f1 : BufOf (F := F) c hb1) (f7 : BufOf (F := F) c sc1) (b : Fin 30) : sProp 𝕄 :=
  Transfers.Flight (countersEmb (U := Pipeline.UD sig nD τ)) (c : Thread nD τ) (cellW b) () 24576 iprop(heldW c f7 b ∗ heldH c f1 b)
abbrev landed (c : Dev nD) (f1 : BufOf (F := F) c hb1) (f7 : BufOf (F := F) c sc1) (b : Fin 30) : sProp 𝕄 :=
  iprop(semVal ((c : Thread nD τ), cellW b) 0 ∗ heldW c f7 b ∗ heldH c f1 b)
/-- Block `b` in state `true` (in flight) or `false` (landed). -/
abbrev blkΦ (c : Dev nD) (f1 : BufOf (F := F) c hb1) (f7 : BufOf (F := F) c sc1) (b : Fin 30) (s : Bool) : sProp 𝕄 :=
  if s then flight c f1 f7 b else landed c f1 f7 b

end Cert.KernelIdeal.Hand

end
-- ==== Proof.Ideal.Trip.lean ====
/-
  Hand-written, untrusted. One trip of the loop over the 30 groups of `KernelIdeal`, and the loop: block `k` lands, the group is
  contracted, the two accumulators are rewritten.
-/
module

public import proofs.«01_k».proof.Proof.Ideal.Base

public import proofs.«01_k».proof.Proof.Gen.KernelIdeal.Loops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The cell the body's wait names at trip `k`. -/
abbrev bodyCell (k : Fin k0_t1_loop.trips) : Fin 36 :=
  ((cc0_scratch13.slice (Rect.unit (s := S30) (k0_off1 k) S1.size (k0_off1_inb k))).squeeze S_ squeezes_S1_S_).sem
theorem bodyCell_val : ∀ k : Fin k0_t1_loop.trips, (bodyCell k).val = 6 + k.val := by decide +kernel
theorem trips_eq : k0_t1_loop.trips = 30 := by decide +kernel
theorem cell_eq (k : Fin k0_t1_loop.trips) (hk : k.val < 30) : cellW ⟨k.val, hk⟩ = SemLoc.dma (bodyCell k) :=
  congrArg SemLoc.dma (Fin.ext (bodyCell_val k).symm)
/-- Block `k` of the scratch buffer as trip `k` names it. -/
abbrev wblkT (k : Fin k0_t1_loop.trips) : Memref sig .tc .vmem S128x1536 .i32 :=
  sc1.slice (Rect.unit (s := S3840x1536) (k0_off2 k) S128x1536.size (k0_off2_inb k)) (fun _ => rfl)
abbrev heldT (c : Dev nD) (f7 : BufOf (F := F) c sc1) (k : Fin k0_t1_loop.trips) : sProp 𝕄 :=
  (wblkT k).view.loc (c : Thread nD τ) ↦[(wblkT k).view.set]{fullShare} f7
theorem heldT_eq (c : Dev nD) (f7 : BufOf (F := F) c sc1) (k : Fin k0_t1_loop.trips) (hk : k.val < 30) :
    heldW c f7 ⟨k.val, hk⟩ = heldT c f7 k := by
  have h : (![128 * k.val, 0] : Fin 2 → ℕ) = k0_off2 k := (k0_off2_eq k).symm
  have key : ∀ (o : Fin 2 → ℕ) (ho : ∀ a, o a + S128x1536.size a ≤ S3840x1536.size a), (![128 * k.val, 0] : Fin 2 → ℕ) = o →
      heldW c f7 ⟨k.val, hk⟩ = (((sc1.slice (Rect.unit (s := S3840x1536) o S128x1536.size ho) (fun _ => rfl)).view.loc (c : Thread nD τ)
        ↦[(sc1.slice (Rect.unit (s := S3840x1536) o S128x1536.size ho) (fun _ => rfl)).view.set]{fullShare} f7 : sProp 𝕄)) := by
    intro o ho e; subst e; rfl
  exact key _ (k0_off2_inb k) h
/-- Block `k`'s flight, on the cell as the body's wait names it. -/
theorem flight_body (c : Dev nD) (f1 : BufOf (F := F) c hb1) (f7 : BufOf (F := F) c sc1) (k : Fin k0_t1_loop.trips) (hk : k.val < 30) :
    flight c f1 f7 ⟨k.val, hk⟩ = Transfers.Flight (countersEmb (U := Pipeline.UD sig nD τ)) (c : Thread nD τ)
      (SemLoc.dma ((cc0_scratch13.slice (Rect.unit (s := S30) (k0_off1 k) S1.size (k0_off1_inb k))).squeeze S_ squeezes_S1_S_).sem) () 24576
      iprop(heldT c f7 k ∗ heldH c f1 ⟨k.val, hk⟩) := by
  unfold flight; rw [cell_eq k hk, ← heldT_eq c f7 k hk]

set_option maxHeartbeats 0 in
/-- One trip: the block's copy lands, the tables are only read, the accumulators end at the run's contents. -/
def trip (c : Dev nD) (a4 : Memref sig .tc .vmem S1440x128 .f32) (h4 : a4.IsWhole) (a5 : Memref sig .tc .vmem S12x15360 .bf16) (h5 : a5.IsWhole)
    (v2867 v2870 v2871 : IVec S16x256 32) (k : Fin k0_t1_loop.trips) (hk : k.val < 30)
    (f1 : BufOf (F := F) c hb1) (f7 : BufOf (F := F) c sc1)
    (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  :
    { g : BufOf (F := F) c sc10 × BufOf (F := F) c sc11 // ∀ (W : Waits sig Unit),
    iprop(pt c sc4 a10 ∗ pt c sc5 a11 ∗ pt c sc6 a12 ∗ pt c sc7 a13 ∗ pt c sc8 a14 ∗ pt c sc9 a15 ∗ pt c sc10 a16 ∗ pt c sc11 a17
      ∗ flight c f1 f7 ⟨k.val, hk⟩ ∗ owes (c : Thread nD τ) 0 W)
    ⊢ wp frame (wpE (defs₀ (F := F)) Variants.none c none) Set.univ
      (k0_t1_body hb0 (Memref.isWhole_whole _) hb1 (Memref.isWhole_whole _) hb2 (Memref.isWhole_whole _) hb3 (Memref.isWhole_whole _) a4 h4 a5 h5
        sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) cc0_scratch12 cc0_scratch13 v2867 v2870 v2871 k ⟨⟩)
      (fun _ => iprop(pt c sc4 a10 ∗ pt c sc5 a11 ∗ pt c sc6 a12 ∗ pt c sc7 a13 ∗ pt c sc8 a14 ∗ pt c sc9 a15
        ∗ pt c sc10 g.1 ∗ pt c sc11 g.2 ∗ landed c f1 f7 ⟨k.val, hk⟩ ∗ ∃ W, owes (c : Thread nD τ) 0 W)) } := by
  refine ⟨⟨?_, ?_⟩, fun W => ?run⟩
  case run =>
    rw [flight_body, landed, cell_eq k hk, heldT_eq c f7 k hk]
    iintro ⟨HS4, HS5, HS6, HS7, HS8, HS9, HS10, HS11, Hfl, HO⟩
    unfold k0_t1_body
    sl_exec_parts
    sl_step
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitr [HO]
    · isplitl [Hfl]; · iexact Hfl
      isplitl [Hfl_dst]; · iexact Hfl_dst
      iexact Hfl_src
    iexists _; iexact HO

/-! ## The loop -/

/-- The blocks' states before trip `k`: those from `k` on in flight. -/
def stK (k : ℕ) : Fin 30 → Bool := fun j => decide (k ≤ j.val)
theorem stK_zero : stK 0 = fun _ => true := by funext j; simp [stK]
theorem stK_end : stK 30 = fun _ => false := by
  funext j; have := j.isLt; simp only [stK, decide_eq_false_iff_not]; omega
theorem stK_self (k : Fin 30) : stK k.val k = true := by simp [stK]
theorem stK_succ (k : Fin 30) : Function.update (stK k.val) k false = stK (k.val + 1) := by
  funext j
  by_cases hj : j = k
  · subst hj; simp [stK]
  · have hv : j.val ≠ k.val := fun h => hj (Fin.ext h)
    rw [Function.update_of_ne hj]
    simp only [stK, decide_eq_decide]; omega

/-- The accumulators' contents before trip `k`, from `a16` and `a17`. -/
def accs (c : Dev nD) (a4 : Memref sig .tc .vmem S1440x128 .f32) (h4 : a4.IsWhole) (a5 : Memref sig .tc .vmem S12x15360 .bf16) (h5 : a5.IsWhole)
    (v2867 v2870 v2871 : IVec S16x256 32) (f1 : BufOf (F := F) c hb1) (f7 : BufOf (F := F) c sc1) (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  : ℕ → BufOf (F := F) c sc10 × BufOf (F := F) c sc11
  | 0 => (a16, a17)
  | k + 1 => if h : k < k0_t1_loop.trips then
      (trip c a4 h4 a5 h5 v2867 v2870 v2871 ⟨k, h⟩ (trips_eq ▸ h) f1 f7 a10 a11 a12 a13 a14 a15
        (accs c a4 h4 a5 h5 v2867 v2870 v2871 f1 f7 a10 a11 a12 a13 a14 a15 a16 a17 k).1 (accs c a4 h4 a5 h5 v2867 v2870 v2871 f1 f7 a10 a11 a12 a13 a14 a15 a16 a17 k).2).1
    else accs c a4 h4 a5 h5 v2867 v2870 v2871 f1 f7 a10 a11 a12 a13 a14 a15 a16 a17 k
set_option maxRecDepth 100000 in
theorem accs_succ (c : Dev nD) (a4 : Memref sig .tc .vmem S1440x128 .f32) (h4 : a4.IsWhole) (a5 : Memref sig .tc .vmem S12x15360 .bf16) (h5 : a5.IsWhole)
    (v2867 v2870 v2871 : IVec S16x256 32) (f1 : BufOf (F := F) c hb1) (f7 : BufOf (F := F) c sc1) (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  (k : Fin k0_t1_loop.trips) (hk : k.val < 30) :
    accs c a4 h4 a5 h5 v2867 v2870 v2871 f1 f7 a10 a11 a12 a13 a14 a15 a16 a17 (k.val + 1)
      = (trip c a4 h4 a5 h5 v2867 v2870 v2871 k hk f1 f7 a10 a11 a12 a13 a14 a15
        (accs c a4 h4 a5 h5 v2867 v2870 v2871 f1 f7 a10 a11 a12 a13 a14 a15 a16 a17 k.val).1 (accs c a4 h4 a5 h5 v2867 v2870 v2871 f1 f7 a10 a11 a12 a13 a14 a15 a16 a17 k.val).2).1 :=
  dif_pos k.isLt

/-- One accumulator's contents before trip `k`. -/
def acc16 (c : Dev nD) (a4 : Memref sig .tc .vmem S1440x128 .f32) (h4 : a4.IsWhole) (a5 : Memref sig .tc .vmem S12x15360 .bf16) (h5 : a5.IsWhole)
    (v2867 v2870 v2871 : IVec S16x256 32) (f1 : BufOf (F := F) c hb1) (f7 : BufOf (F := F) c sc1) (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  : ℕ → BufOf (F := F) c sc10
  | 0 => a16
  | k + 1 => (accs c a4 h4 a5 h5 v2867 v2870 v2871 f1 f7 a10 a11 a12 a13 a14 a15 a16 a17 (k + 1)).1
theorem acc16_eq (c : Dev nD) (a4 : Memref sig .tc .vmem S1440x128 .f32) (h4 : a4.IsWhole) (a5 : Memref sig .tc .vmem S12x15360 .bf16) (h5 : a5.IsWhole)
    (v2867 v2870 v2871 : IVec S16x256 32) (f1 : BufOf (F := F) c hb1) (f7 : BufOf (F := F) c sc1) (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  (k : ℕ) :
    acc16 c a4 h4 a5 h5 v2867 v2870 v2871 f1 f7 a10 a11 a12 a13 a14 a15 a16 a17 k = (accs c a4 h4 a5 h5 v2867 v2870 v2871 f1 f7 a10 a11 a12 a13 a14 a15 a16 a17 k).1 := by
  cases k <;> rfl

/-- One accumulator's contents before trip `k`. -/
def acc17 (c : Dev nD) (a4 : Memref sig .tc .vmem S1440x128 .f32) (h4 : a4.IsWhole) (a5 : Memref sig .tc .vmem S12x15360 .bf16) (h5 : a5.IsWhole)
    (v2867 v2870 v2871 : IVec S16x256 32) (f1 : BufOf (F := F) c hb1) (f7 : BufOf (F := F) c sc1) (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  : ℕ → BufOf (F := F) c sc11
  | 0 => a17
  | k + 1 => (accs c a4 h4 a5 h5 v2867 v2870 v2871 f1 f7 a10 a11 a12 a13 a14 a15 a16 a17 (k + 1)).2
theorem acc17_eq (c : Dev nD) (a4 : Memref sig .tc .vmem S1440x128 .f32) (h4 : a4.IsWhole) (a5 : Memref sig .tc .vmem S12x15360 .bf16) (h5 : a5.IsWhole)
    (v2867 v2870 v2871 : IVec S16x256 32) (f1 : BufOf (F := F) c hb1) (f7 : BufOf (F := F) c sc1) (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  (k : ℕ) :
    acc17 c a4 h4 a5 h5 v2867 v2870 v2871 f1 f7 a10 a11 a12 a13 a14 a15 a16 a17 k = (accs c a4 h4 a5 h5 v2867 v2870 v2871 f1 f7 a10 a11 a12 a13 a14 a15 a16 a17 k).2 := by
  cases k <;> rfl

/-- The invariant: the tables as they are, the accumulators at `accs`, the blocks in their states. -/
abbrev inv (c : Dev nD) (a4 : Memref sig .tc .vmem S1440x128 .f32) (h4 : a4.IsWhole) (a5 : Memref sig .tc .vmem S12x15360 .bf16) (h5 : a5.IsWhole)
    (v2867 v2870 v2871 : IVec S16x256 32) (f1 : BufOf (F := F) c hb1) (f7 : BufOf (F := F) c sc1) (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  (k : ℕ) (_ : Unit) : sProp 𝕄 :=
  iprop(pt c sc4 a10 ∗ pt c sc5 a11 ∗ pt c sc6 a12 ∗ pt c sc7 a13 ∗ pt c sc8 a14 ∗ pt c sc9 a15
    ∗ pt c sc10 (acc16 c a4 h4 a5 h5 v2867 v2870 v2871 f1 f7 a10 a11 a12 a13 a14 a15 a16 a17 k) ∗ pt c sc11 (acc17 c a4 h4 a5 h5 v2867 v2870 v2871 f1 f7 a10 a11 a12 a13 a14 a15 a16 a17 k) ∗ Ring.AtW (blkΦ c f1 f7) (stK k) ∗ ∃ W, owes (c : Thread nD τ) 0 W)

/-- One trip keeps the invariant. -/
theorem step (c : Dev nD) (a4 : Memref sig .tc .vmem S1440x128 .f32) (h4 : a4.IsWhole) (a5 : Memref sig .tc .vmem S12x15360 .bf16) (h5 : a5.IsWhole)
    (v2867 v2870 v2871 : IVec S16x256 32) (f1 : BufOf (F := F) c hb1) (f7 : BufOf (F := F) c sc1) (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  (k : Fin k0_t1_loop.trips) (acc : Unit) :
    inv c a4 h4 a5 h5 v2867 v2870 v2871 f1 f7 a10 a11 a12 a13 a14 a15 a16 a17 k.val acc ⊢ wp frame (wpE (defs₀ (F := F)) Variants.none c none) Set.univ
      (k0_t1_body hb0 (Memref.isWhole_whole _) hb1 (Memref.isWhole_whole _) hb2 (Memref.isWhole_whole _) hb3 (Memref.isWhole_whole _) a4 h4 a5 h5
        sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) cc0_scratch12 cc0_scratch13 v2867 v2870 v2871 k acc)
      (inv c a4 h4 a5 h5 v2867 v2870 v2871 f1 f7 a10 a11 a12 a13 a14 a15 a16 a17 (k.val + 1)) := by
  have hk : k.val < 30 := trips_eq ▸ k.isLt
  have key : ∀ (W : Waits sig Unit),
      iprop((pt c sc4 a10 ∗ pt c sc5 a11 ∗ pt c sc6 a12 ∗ pt c sc7 a13 ∗ pt c sc8 a14 ∗ pt c sc9 a15 ∗ pt c sc10 (accs c a4 h4 a5 h5 v2867 v2870 v2871 f1 f7 a10 a11 a12 a13 a14 a15 a16 a17 k.val).1 ∗ pt c sc11 (accs c a4 h4 a5 h5 v2867 v2870 v2871 f1 f7 a10 a11 a12 a13 a14 a15 a16 a17 k.val).2
        ∗ flight c f1 f7 ⟨k.val, hk⟩ ∗ owes (c : Thread nD τ) 0 W) ∗ Ring.restW (blkΦ c f1 f7) (stK k.val) ⟨k.val, hk⟩)
      ⊢ wp frame (wpE (defs₀ (F := F)) Variants.none c none) Set.univ
      (k0_t1_body hb0 (Memref.isWhole_whole _) hb1 (Memref.isWhole_whole _) hb2 (Memref.isWhole_whole _) hb3 (Memref.isWhole_whole _) a4 h4 a5 h5
        sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) cc0_scratch12 cc0_scratch13 v2867 v2870 v2871 k acc)
      (inv c a4 h4 a5 h5 v2867 v2870 v2871 f1 f7 a10 a11 a12 a13 a14 a15 a16 a17 (k.val + 1)) := by
    intro W
    have ht := (trip c a4 h4 a5 h5 v2867 v2870 v2871 k hk f1 f7 a10 a11 a12 a13 a14 a15 (accs c a4 h4 a5 h5 v2867 v2870 v2871 f1 f7 a10 a11 a12 a13 a14 a15 a16 a17 k.val).1 (accs c a4 h4 a5 h5 v2867 v2870 v2871 f1 f7 a10 a11 a12 a13 a14 a15 a16 a17 k.val).2).2 W
    refine (BI.sep_mono ht (BI.Entails.refl _)).trans ((wp_frame_r _ _ _).trans (wp_mono _ _ _ fun a => ?_))
    unfold inv
    rw [← stK_succ ⟨k.val, hk⟩, acc16_eq, acc17_eq, accs_succ c a4 h4 a5 h5 v2867 v2870 v2871 f1 f7 a10 a11 a12 a13 a14 a15 a16 a17 k hk]
    iintro ⟨⟨H4, H5, H6, H7, H8, H9, H10, H11, Hl, HO⟩, Hr⟩
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitr [HO]
    · iapply (Ring.AtW_update (blkΦ c f1 f7) (stK k.val) ⟨k.val, hk⟩ false)
      isplitl [Hl]
      · rw [blkΦ, if_neg Bool.false_ne_true]; iexact Hl
      · iexact Hr
    · iexact HO
  generalize inv c a4 h4 a5 h5 v2867 v2870 v2871 f1 f7 a10 a11 a12 a13 a14 a15 a16 a17 (k.val + 1) = Q at key ⊢
  generalize hp : k0_t1_body (F := F) _ _ _ _ _ _ _ _ _ _ _ _ _ _ _ _ _ _ _ _ _ _ _ _ _ _ _ _ _ _ _ _ _ _ _ _ _ _ _ _ _ k acc = p at key ⊢
  unfold inv
  rw [acc16_eq, acc17_eq, Ring.AtW_focus (blkΦ c f1 f7) (stK k.val) ⟨k.val, hk⟩]
  have hΦ : blkΦ c f1 f7 ⟨k.val, hk⟩ (stK k.val ⟨k.val, hk⟩) = flight c f1 f7 ⟨k.val, hk⟩ := by rw [blkΦ, stK_self ⟨k.val, hk⟩, if_pos rfl]
  rw [hΦ]
  iintro ⟨H4, H5, H6, H7, H8, H9, H10, H11, ⟨Hf, Hr⟩, ⟨%W, HO⟩⟩
  iapply (key W)
  isplitr [Hr]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Hf]; · iexact Hf
    iexact HO
  · iexact Hr

set_option maxRecDepth 100000 in
set_option warn.classDefReducibility false in
/-- The loop's invariant and its step, as the run takes them. -/
@[sl_loop] def loopInv (c : Dev nD) (a4 : Memref sig .tc .vmem S1440x128 .f32) (h4 : a4.IsWhole) (a5 : Memref sig .tc .vmem S12x15360 .bf16) (h5 : a5.IsWhole)
    (v2867 v2870 v2871 : IVec S16x256 32) (f1 : BufOf (F := F) c hb1) (f7 : BufOf (F := F) c sc1) (a10 : BufOf (F := F) c sc4) (a11 : BufOf (F := F) c sc5) (a12 : BufOf (F := F) c sc6) (a13 : BufOf (F := F) c sc7) (a14 : BufOf (F := F) c sc8) (a15 : BufOf (F := F) c sc9) (a16 : BufOf (F := F) c sc10) (a17 : BufOf (F := F) c sc11)  :
    LoopInvTy_k0_t1 (F := F) Unit ℕ (Pipeline.UD sig nD τ) ℕ Variants.none c none Set.univ
      hb0 (Memref.isWhole_whole _) hb1 (Memref.isWhole_whole _) hb2 (Memref.isWhole_whole _) hb3 (Memref.isWhole_whole _) a4 h4 a5 h5
        sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) cc0_scratch12 cc0_scratch13 v2867 v2870 v2871 where
  inv := inv c a4 h4 a5 h5 v2867 v2870 v2871 f1 f7 a10 a11 a12 a13 a14 a15 a16 a17
  step := fun k acc => step c a4 h4 a5 h5 v2867 v2870 v2871 f1 f7 a10 a11 a12 a13 a14 a15 a16 a17 k acc

end Cert.KernelIdeal.Hand
end
-- ==== Proof.Ideal.Blocks.lean ====
/-
  Hand-written, untrusted. The 30 weight blocks of `KernelIdeal`: all in flight at the loop, all landed after it.
-/
module

public import proofs.«01_k».proof.Proof.Ideal.Trip

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weight array's contents, as the scratch buffer's. -/
abbrev fW (c : Dev nD) (f1 : BufOf (F := F) c hb1) : BufOf (F := F) c sc1 := f1

/-- A piece over the whole view, at an element under it. -/
theorem writes_whole_emb {κ : Kind} {sp : Space} {s : Shape} {e : EltTy} (v : View sig κ sp s e) (Val : EltTy → Type) (f : v.ty.Contents Val)
    (x : s.Idx → Val e) (y : s.Idx) (z : Val v.ty.elt) (h : _root_.cast (congrArg Val v.elt_eq.symm) (x y) = z) :
    v.writes Val f [⟨Rect.whole s, x⟩] (v.emb y) = z := by
  rw [← h, View.writes_cons, View.writes_nil]
  have h' := (v.slice (Rect.whole s)).write_emb_of_mem (Val := Val) f x (Finset.mem_univ y)
  have e' : (v.slice (Rect.whole s)).emb y = v.emb y := congrArg v.emb (Rect.emb_whole_apply _ y)
  rw [e'] at h'
  exact h'

set_option maxHeartbeats 1000000 in
/-- A block's copy as the body starts it is the block in flight. -/
theorem flight_of (c : Dev nD) (f1 : BufOf (F := F) c hb1) (d7 : BufOf (F := F) c sc1) (b : Fin 30) (o : Fin 2 → ℕ)
    (ho : ∀ a, o a + S128x1536.size a ≤ S3840x1536.size a) (e : o = ![128 * b.val, 0]) (s : SemLoc sig) (hs : s = cellW b) :
    Transfers.Flight (countersEmb (U := Pipeline.UD sig nD τ)) (c : Thread nD τ) s () 24576
      iprop(((sc1.slice (Rect.unit (s := S3840x1536) o S128x1536.size ho) (fun _ => rfl)).view.loc (c : Thread nD τ)
          ↦[(sc1.slice (Rect.unit (s := S3840x1536) o S128x1536.size ho) (fun _ => rfl)).view.set]{fullShare}
            (sc1.slice (Rect.unit (s := S3840x1536) o S128x1536.size ho) (fun _ => rfl)).view.writes (Elt F) d7
              [⟨Rect.whole _, (hb1.slice (Rect.unit (s := S3840x1536) o S128x1536.size ho) (fun _ => rfl)).view.read (Elt F) f1⟩])
        ∗ ((hb1.slice (Rect.unit (s := S3840x1536) o S128x1536.size ho) (fun _ => rfl)).view.loc (c : Thread nD τ)
          ↦[(hb1.slice (Rect.unit (s := S3840x1536) o S128x1536.size ho) (fun _ => rfl)).view.set]{fullShare} f1))
    ⊢ (flight c f1 (fW c f1) b : sProp 𝕄) := by
  subst e; subst hs
  refine Transfers.Flight_mono _ _ (BI.sep_mono (BIBase.Entails.of_eq (pointsTo_congr ?_)) (BI.Entails.refl _))
  intro i hi
  obtain ⟨y, -, rfl⟩ := Finset.mem_map.mp hi
  exact writes_whole_emb (wblk b).view (Elt F) d7 ((hblk b).view.read (Elt F) f1) y _ rfl

/-- All blocks in flight. -/
theorem atW_start (c : Dev nD) (f1 : BufOf (F := F) c hb1) (f7 : BufOf (F := F) c sc1) :
    iprop(flight c f1 f7 0 ∗ flight c f1 f7 1 ∗ flight c f1 f7 2 ∗ flight c f1 f7 3 ∗ flight c f1 f7 4 ∗ flight c f1 f7 5 ∗ flight c f1 f7 6 ∗ flight c f1 f7 7 ∗ flight c f1 f7 8 ∗ flight c f1 f7 9 ∗ flight c f1 f7 10 ∗ flight c f1 f7 11 ∗ flight c f1 f7 12 ∗ flight c f1 f7 13 ∗ flight c f1 f7 14 ∗ flight c f1 f7 15 ∗ flight c f1 f7 16 ∗ flight c f1 f7 17 ∗ flight c f1 f7 18 ∗ flight c f1 f7 19 ∗ flight c f1 f7 20 ∗ flight c f1 f7 21 ∗ flight c f1 f7 22 ∗ flight c f1 f7 23 ∗ flight c f1 f7 24 ∗ flight c f1 f7 25 ∗ flight c f1 f7 26 ∗ flight c f1 f7 27 ∗ flight c f1 f7 28 ∗ flight c f1 f7 29) ⊢ (Ring.AtW (blkΦ c f1 f7) (stK 0) : sProp 𝕄) := by
  rw [stK_zero]; unfold Ring.AtW
  rw [BI.bigSep_eq_bigSepL_of_eq [0, 1, 2, 3, 4, 5, 6, 7, 8, 9, 10, 11, 12, 13, 14, 15, 16, 17, 18, 19, 20, 21, 22, 23, 24, 25, 26, 27, 28, 29] (by decide) (by decide)]
  simp only [blkΦ, if_pos]
  exact BI.Entails.refl _

/-- All blocks landed: both arrays whole again, the counters at zero. -/
theorem atW_end (c : Dev nD) (f1 : BufOf (F := F) c hb1) (f7 : BufOf (F := F) c sc1) (n : ℕ) (hn : n = 30) :
    (Ring.AtW (blkΦ c f1 f7) (stK n) : sProp 𝕄) ⊢ iprop(pt c sc1 f7 ∗ pt c hb1 f1 ∗ BI.bigSep Finset.univ fun b => semVal ((c : Thread nD τ), cellW b) 0) := by
  rw [hn, stK_end]; unfold Ring.AtW
  simp only [blkΦ, Bool.false_eq_true, if_false, landed]
  rw [bigSep_sep', bigSep_sep']
  have e1 : (pt c sc1 f7 : sProp 𝕄) = BI.bigSep Finset.univ fun b => heldW c f7 b := by
    refine (Ring.pointsTo_blocks blkSet blk_disjoint blk_cover f7).trans (BI.bigSep_congr fun b _ => ?_)
    rw [heldW, View.set_slice_whole]
  have e2 : (pt c hb1 f1 : sProp 𝕄) = BI.bigSep Finset.univ fun b => heldH c f1 b := by
    refine (Ring.pointsTo_blocks blkSet blk_disjoint blk_cover f1).trans (BI.bigSep_congr fun b _ => ?_)
    rw [heldH, View.set_slice_whole]
  rw [e1, e2]
  iintro ⟨H1, H2, H3⟩
  isplitl [H2]; · iexact H2
  isplitl [H3]; · iexact H3
  iexact H1

end Cert.KernelIdeal.Hand
end
-- ==== Proof.Ideal.Body.lean ====
/-
  Hand-written, untrusted. One run of the body of `KernelIdeal` from the buffers at any contents.
-/
module

public import proofs.«01_k».proof.Proof.Ideal.Blocks

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 0 in
set_option maxRecDepth 100000 in
/-- One run of the body. -/
def body_run (c : Dev nD) (a4 : Memref sig .tc .vmem S1440x128 .f32) (h4 : a4.IsWhole) (a5 : Memref sig .tc .vmem S12x15360 .bf16) (h5 : a5.IsWhole)
    (f0 : BufOf (F := F) c hb0) (f1 : BufOf (F := F) c hb1) (f2 : BufOf (F := F) c hb2) (f3 : BufOf (F := F) c hb3)
    (f4 : BufOf (F := F) c a4) (f5 : BufOf (F := F) c a5)
    (d6 : BufOf (F := F) c sc0) (d7 : BufOf (F := F) c sc1) (d8 : BufOf (F := F) c sc2) (d9 : BufOf (F := F) c sc3) (d10 : BufOf (F := F) c sc4) (d11 : BufOf (F := F) c sc5) (d12 : BufOf (F := F) c sc6) (d13 : BufOf (F := F) c sc7) (d14 : BufOf (F := F) c sc8) (d15 : BufOf (F := F) c sc9) (d16 : BufOf (F := F) c sc10) (d17 : BufOf (F := F) c sc11) :
    { L : List (View.Piece (Elt F) S12x15360 .bf16) // ∀ (W : Waits sig Unit) (K : PUnit → sProp 𝕄),
    iprop((a4.view.loc (c : Thread nD τ) ↦[a4.view.set]{fullShare} f4) ∗ (a5.view.loc (c : Thread nD τ) ↦[a5.view.set]{fullShare} f5)
      ∗ pt c hb0 f0 ∗ pt c hb2 f2 ∗ pt c hb3 f3 ∗ pt c sc0 d6 ∗ pt c sc2 d8 ∗ pt c sc3 d9 ∗ pt c sc4 d10 ∗ pt c sc5 d11 ∗ pt c sc6 d12 ∗ pt c sc7 d13 ∗ pt c sc8 d14 ∗ pt c sc9 d15 ∗ pt c sc10 d16 ∗ pt c sc11 d17
      ∗ semVal ((c : Thread nD τ), SemLoc.dma 2) 0 ∗ semVal ((c : Thread nD τ), SemLoc.dma 3) 0 ∗ semVal ((c : Thread nD τ), SemLoc.dma 4) 0
      ∗ semVal ((c : Thread nD τ), SemLoc.dma 6) 0 ∗ ((sc1.slice (Rect.unit (s := S3840x1536) ![0, 0] S128x1536.size inb_S3840x1536_S128x1536_0_0) (fun _ => rfl)).view.loc (c : Thread nD τ) ↦[(sc1.slice (Rect.unit (s := S3840x1536) ![0, 0] S128x1536.size inb_S3840x1536_S128x1536_0_0) (fun _ => rfl)).view.set]{fullShare} d7)
        ∗ ((hb1.slice (Rect.unit (s := S3840x1536) ![0, 0] S128x1536.size inb_S3840x1536_S128x1536_0_0) (fun _ => rfl)).view.loc (c : Thread nD τ) ↦[(hb1.slice (Rect.unit (s := S3840x1536) ![0, 0] S128x1536.size inb_S3840x1536_S128x1536_0_0) (fun _ => rfl)).view.set]{fullShare} f1)
      ∗ semVal ((c : Thread nD τ), SemLoc.dma 7) 0 ∗ ((sc1.slice (Rect.unit (s := S3840x1536) ![128, 0] S128x1536.size inb_S3840x1536_S128x1536_128_0) (fun _ => rfl)).view.loc (c : Thread nD τ) ↦[(sc1.slice (Rect.unit (s := S3840x1536) ![128, 0] S128x1536.size inb_S3840x1536_S128x1536_128_0) (fun _ => rfl)).view.set]{fullShare} d7)
        ∗ ((hb1.slice (Rect.unit (s := S3840x1536) ![128, 0] S128x1536.size inb_S3840x1536_S128x1536_128_0) (fun _ => rfl)).view.loc (c : Thread nD τ) ↦[(hb1.slice (Rect.unit (s := S3840x1536) ![128, 0] S128x1536.size inb_S3840x1536_S128x1536_128_0) (fun _ => rfl)).view.set]{fullShare} f1)
      ∗ semVal ((c : Thread nD τ), SemLoc.dma 8) 0 ∗ ((sc1.slice (Rect.unit (s := S3840x1536) ![256, 0] S128x1536.size inb_S3840x1536_S128x1536_256_0) (fun _ => rfl)).view.loc (c : Thread nD τ) ↦[(sc1.slice (Rect.unit (s := S3840x1536) ![256, 0] S128x1536.size inb_S3840x1536_S128x1536_256_0) (fun _ => rfl)).view.set]{fullShare} d7)
        ∗ ((hb1.slice (Rect.unit (s := S3840x1536) ![256, 0] S128x1536.size inb_S3840x1536_S128x1536_256_0) (fun _ => rfl)).view.loc (c : Thread nD τ) ↦[(hb1.slice (Rect.unit (s := S3840x1536) ![256, 0] S128x1536.size inb_S3840x1536_S128x1536_256_0) (fun _ => rfl)).view.set]{fullShare} f1)
      ∗ semVal ((c : Thread nD τ), SemLoc.dma 9) 0 ∗ ((sc1.slice (Rect.unit (s := S3840x1536) ![384, 0] S128x1536.size inb_S3840x1536_S128x1536_384_0) (fun _ => rfl)).view.loc (c : Thread nD τ) ↦[(sc1.slice (Rect.unit (s := S3840x1536) ![384, 0] S128x1536.size inb_S3840x1536_S128x1536_384_0) (fun _ => rfl)).view.set]{fullShare} d7)
        ∗ ((hb1.slice (Rect.unit (s := S3840x1536) ![384, 0] S128x1536.size inb_S3840x1536_S128x1536_384_0) (fun _ => rfl)).view.loc (c : Thread nD τ) ↦[(hb1.slice (Rect.unit (s := S3840x1536) ![384, 0] S128x1536.size inb_S3840x1536_S128x1536_384_0) (fun _ => rfl)).view.set]{fullShare} f1)
      ∗ semVal ((c : Thread nD τ), SemLoc.dma 10) 0 ∗ ((sc1.slice (Rect.unit (s := S3840x1536) ![512, 0] S128x1536.size inb_S3840x1536_S128x1536_512_0) (fun _ => rfl)).view.loc (c : Thread nD τ) ↦[(sc1.slice (Rect.unit (s := S3840x1536) ![512, 0] S128x1536.size inb_S3840x1536_S128x1536_512_0) (fun _ => rfl)).view.set]{fullShare} d7)
        ∗ ((hb1.slice (Rect.unit (s := S3840x1536) ![512, 0] S128x1536.size inb_S3840x1536_S128x1536_512_0) (fun _ => rfl)).view.loc (c : Thread nD τ) ↦[(hb1.slice (Rect.unit (s := S3840x1536) ![512, 0] S128x1536.size inb_S3840x1536_S128x1536_512_0) (fun _ => rfl)).view.set]{fullShare} f1)
      ∗ semVal ((c : Thread nD τ), SemLoc.dma 11) 0 ∗ ((sc1.slice (Rect.unit (s := S3840x1536) ![640, 0] S128x1536.size inb_S3840x1536_S128x1536_640_0) (fun _ => rfl)).view.loc (c : Thread nD τ) ↦[(sc1.slice (Rect.unit (s := S3840x1536) ![640, 0] S128x1536.size inb_S3840x1536_S128x1536_640_0) (fun _ => rfl)).view.set]{fullShare} d7)
        ∗ ((hb1.slice (Rect.unit (s := S3840x1536) ![640, 0] S128x1536.size inb_S3840x1536_S128x1536_640_0) (fun _ => rfl)).view.loc (c : Thread nD τ) ↦[(hb1.slice (Rect.unit (s := S3840x1536) ![640, 0] S128x1536.size inb_S3840x1536_S128x1536_640_0) (fun _ => rfl)).view.set]{fullShare} f1)
      ∗ semVal ((c : Thread nD τ), SemLoc.dma 12) 0 ∗ ((sc1.slice (Rect.unit (s := S3840x1536) ![768, 0] S128x1536.size inb_S3840x1536_S128x1536_768_0) (fun _ => rfl)).view.loc (c : Thread nD τ) ↦[(sc1.slice (Rect.unit (s := S3840x1536) ![768, 0] S128x1536.size inb_S3840x1536_S128x1536_768_0) (fun _ => rfl)).view.set]{fullShare} d7)
        ∗ ((hb1.slice (Rect.unit (s := S3840x1536) ![768, 0] S128x1536.size inb_S3840x1536_S128x1536_768_0) (fun _ => rfl)).view.loc (c : Thread nD τ) ↦[(hb1.slice (Rect.unit (s := S3840x1536) ![768, 0] S128x1536.size inb_S3840x1536_S128x1536_768_0) (fun _ => rfl)).view.set]{fullShare} f1)
      ∗ semVal ((c : Thread nD τ), SemLoc.dma 13) 0 ∗ ((sc1.slice (Rect.unit (s := S3840x1536) ![896, 0] S128x1536.size inb_S3840x1536_S128x1536_896_0) (fun _ => rfl)).view.loc (c : Thread nD τ) ↦[(sc1.slice (Rect.unit (s := S3840x1536) ![896, 0] S128x1536.size inb_S3840x1536_S128x1536_896_0) (fun _ => rfl)).view.set]{fullShare} d7)
        ∗ ((hb1.slice (Rect.unit (s := S3840x1536) ![896, 0] S128x1536.size inb_S3840x1536_S128x1536_896_0) (fun _ => rfl)).view.loc (c : Thread nD τ) ↦[(hb1.slice (Rect.unit (s := S3840x1536) ![896, 0] S128x1536.size inb_S3840x1536_S128x1536_896_0) (fun _ => rfl)).view.set]{fullShare} f1)
      ∗ semVal ((c : Thread nD τ), SemLoc.dma 14) 0 ∗ ((sc1.slice (Rect.unit (s := S3840x1536) ![1024, 0] S128x1536.size inb_S3840x1536_S128x1536_1024_0) (fun _ => rfl)).view.loc (c : Thread nD τ) ↦[(sc1.slice (Rect.unit (s := S3840x1536) ![1024, 0] S128x1536.size inb_S3840x1536_S128x1536_1024_0) (fun _ => rfl)).view.set]{fullShare} d7)
        ∗ ((hb1.slice (Rect.unit (s := S3840x1536) ![1024, 0] S128x1536.size inb_S3840x1536_S128x1536_1024_0) (fun _ => rfl)).view.loc (c : Thread nD τ) ↦[(hb1.slice (Rect.unit (s := S3840x1536) ![1024, 0] S128x1536.size inb_S3840x1536_S128x1536_1024_0) (fun _ => rfl)).view.set]{fullShare} f1)
      ∗ semVal ((c : Thread nD τ), SemLoc.dma 15) 0 ∗ ((sc1.slice (Rect.unit (s := S3840x1536) ![1152, 0] S128x1536.size inb_S3840x1536_S128x1536_1152_0) (fun _ => rfl)).view.loc (c : Thread nD τ) ↦[(sc1.slice (Rect.unit (s := S3840x1536) ![1152, 0] S128x1536.size inb_S3840x1536_S128x1536_1152_0) (fun _ => rfl)).view.set]{fullShare} d7)
        ∗ ((hb1.slice (Rect.unit (s := S3840x1536) ![1152, 0] S128x1536.size inb_S3840x1536_S128x1536_1152_0) (fun _ => rfl)).view.loc (c : Thread nD τ) ↦[(hb1.slice (Rect.unit (s := S3840x1536) ![1152, 0] S128x1536.size inb_S3840x1536_S128x1536_1152_0) (fun _ => rfl)).view.set]{fullShare} f1)
      ∗ semVal ((c : Thread nD τ), SemLoc.dma 16) 0 ∗ ((sc1.slice (Rect.unit (s := S3840x1536) ![1280, 0] S128x1536.size inb_S3840x1536_S128x1536_1280_0) (fun _ => rfl)).view.loc (c : Thread nD τ) ↦[(sc1.slice (Rect.unit (s := S3840x1536) ![1280, 0] S128x1536.size inb_S3840x1536_S128x1536_1280_0) (fun _ => rfl)).view.set]{fullShare} d7)
        ∗ ((hb1.slice (Rect.unit (s := S3840x1536) ![1280, 0] S128x1536.size inb_S3840x1536_S128x1536_1280_0) (fun _ => rfl)).view.loc (c : Thread nD τ) ↦[(hb1.slice (Rect.unit (s := S3840x1536) ![1280, 0] S128x1536.size inb_S3840x1536_S128x1536_1280_0) (fun _ => rfl)).view.set]{fullShare} f1)
      ∗ semVal ((c : Thread nD τ), SemLoc.dma 17) 0 ∗ ((sc1.slice (Rect.unit (s := S3840x1536) ![1408, 0] S128x1536.size inb_S3840x1536_S128x1536_1408_0) (fun _ => rfl)).view.loc (c : Thread nD τ) ↦[(sc1.slice (Rect.unit (s := S3840x1536) ![1408, 0] S128x1536.size inb_S3840x1536_S128x1536_1408_0) (fun _ => rfl)).view.set]{fullShare} d7)
        ∗ ((hb1.slice (Rect.unit (s := S3840x1536) ![1408, 0] S128x1536.size inb_S3840x1536_S128x1536_1408_0) (fun _ => rfl)).view.loc (c : Thread nD τ) ↦[(hb1.slice (Rect.unit (s := S3840x1536) ![1408, 0] S128x1536.size inb_S3840x1536_S128x1536_1408_0) (fun _ => rfl)).view.set]{fullShare} f1)
      ∗ semVal ((c : Thread nD τ), SemLoc.dma 18) 0 ∗ ((sc1.slice (Rect.unit (s := S3840x1536) ![1536, 0] S128x1536.size inb_S3840x1536_S128x1536_1536_0) (fun _ => rfl)).view.loc (c : Thread nD τ) ↦[(sc1.slice (Rect.unit (s := S3840x1536) ![1536, 0] S128x1536.size inb_S3840x1536_S128x1536_1536_0) (fun _ => rfl)).view.set]{fullShare} d7)
        ∗ ((hb1.slice (Rect.unit (s := S3840x1536) ![1536, 0] S128x1536.size inb_S3840x1536_S128x1536_1536_0) (fun _ => rfl)).view.loc (c : Thread nD τ) ↦[(hb1.slice (Rect.unit (s := S3840x1536) ![1536, 0] S128x1536.size inb_S3840x1536_S128x1536_1536_0) (fun _ => rfl)).view.set]{fullShare} f1)
      ∗ semVal ((c : Thread nD τ), SemLoc.dma 19) 0 ∗ ((sc1.slice (Rect.unit (s := S3840x1536) ![1664, 0] S128x1536.size inb_S3840x1536_S128x1536_1664_0) (fun _ => rfl)).view.loc (c : Thread nD τ) ↦[(sc1.slice (Rect.unit (s := S3840x1536) ![1664, 0] S128x1536.size inb_S3840x1536_S128x1536_1664_0) (fun _ => rfl)).view.set]{fullShare} d7)
        ∗ ((hb1.slice (Rect.unit (s := S3840x1536) ![1664, 0] S128x1536.size inb_S3840x1536_S128x1536_1664_0) (fun _ => rfl)).view.loc (c : Thread nD τ) ↦[(hb1.slice (Rect.unit (s := S3840x1536) ![1664, 0] S128x1536.size inb_S3840x1536_S128x1536_1664_0) (fun _ => rfl)).view.set]{fullShare} f1)
      ∗ semVal ((c : Thread nD τ), SemLoc.dma 20) 0 ∗ ((sc1.slice (Rect.unit (s := S3840x1536) ![1792, 0] S128x1536.size inb_S3840x1536_S128x1536_1792_0) (fun _ => rfl)).view.loc (c : Thread nD τ) ↦[(sc1.slice (Rect.unit (s := S3840x1536) ![1792, 0] S128x1536.size inb_S3840x1536_S128x1536_1792_0) (fun _ => rfl)).view.set]{fullShare} d7)
        ∗ ((hb1.slice (Rect.unit (s := S3840x1536) ![1792, 0] S128x1536.size inb_S3840x1536_S128x1536_1792_0) (fun _ => rfl)).view.loc (c : Thread nD τ) ↦[(hb1.slice (Rect.unit (s := S3840x1536) ![1792, 0] S128x1536.size inb_S3840x1536_S128x1536_1792_0) (fun _ => rfl)).view.set]{fullShare} f1)
      ∗ semVal ((c : Thread nD τ), SemLoc.dma 21) 0 ∗ ((sc1.slice (Rect.unit (s := S3840x1536) ![1920, 0] S128x1536.size inb_S3840x1536_S128x1536_1920_0) (fun _ => rfl)).view.loc (c : Thread nD τ) ↦[(sc1.slice (Rect.unit (s := S3840x1536) ![1920, 0] S128x1536.size inb_S3840x1536_S128x1536_1920_0) (fun _ => rfl)).view.set]{fullShare} d7)
        ∗ ((hb1.slice (Rect.unit (s := S3840x1536) ![1920, 0] S128x1536.size inb_S3840x1536_S128x1536_1920_0) (fun _ => rfl)).view.loc (c : Thread nD τ) ↦[(hb1.slice (Rect.unit (s := S3840x1536) ![1920, 0] S128x1536.size inb_S3840x1536_S128x1536_1920_0) (fun _ => rfl)).view.set]{fullShare} f1)
      ∗ semVal ((c : Thread nD τ), SemLoc.dma 22) 0 ∗ ((sc1.slice (Rect.unit (s := S3840x1536) ![2048, 0] S128x1536.size inb_S3840x1536_S128x1536_2048_0) (fun _ => rfl)).view.loc (c : Thread nD τ) ↦[(sc1.slice (Rect.unit (s := S3840x1536) ![2048, 0] S128x1536.size inb_S3840x1536_S128x1536_2048_0) (fun _ => rfl)).view.set]{fullShare} d7)
        ∗ ((hb1.slice (Rect.unit (s := S3840x1536) ![2048, 0] S128x1536.size inb_S3840x1536_S128x1536_2048_0) (fun _ => rfl)).view.loc (c : Thread nD τ) ↦[(hb1.slice (Rect.unit (s := S3840x1536) ![2048, 0] S128x1536.size inb_S3840x1536_S128x1536_2048_0) (fun _ => rfl)).view.set]{fullShare} f1)
      ∗ semVal ((c : Thread nD τ), SemLoc.dma 23) 0 ∗ ((sc1.slice (Rect.unit (s := S3840x1536) ![2176, 0] S128x1536.size inb_S3840x1536_S128x1536_2176_0) (fun _ => rfl)).view.loc (c : Thread nD τ) ↦[(sc1.slice (Rect.unit (s := S3840x1536) ![2176, 0] S128x1536.size inb_S3840x1536_S128x1536_2176_0) (fun _ => rfl)).view.set]{fullShare} d7)
        ∗ ((hb1.slice (Rect.unit (s := S3840x1536) ![2176, 0] S128x1536.size inb_S3840x1536_S128x1536_2176_0) (fun _ => rfl)).view.loc (c : Thread nD τ) ↦[(hb1.slice (Rect.unit (s := S3840x1536) ![2176, 0] S128x1536.size inb_S3840x1536_S128x1536_2176_0) (fun _ => rfl)).view.set]{fullShare} f1)
      ∗ semVal ((c : Thread nD τ), SemLoc.dma 24) 0 ∗ ((sc1.slice (Rect.unit (s := S3840x1536) ![2304, 0] S128x1536.size inb_S3840x1536_S128x1536_2304_0) (fun _ => rfl)).view.loc (c : Thread nD τ) ↦[(sc1.slice (Rect.unit (s := S3840x1536) ![2304, 0] S128x1536.size inb_S3840x1536_S128x1536_2304_0) (fun _ => rfl)).view.set]{fullShare} d7)
        ∗ ((hb1.slice (Rect.unit (s := S3840x1536) ![2304, 0] S128x1536.size inb_S3840x1536_S128x1536_2304_0) (fun _ => rfl)).view.loc (c : Thread nD τ) ↦[(hb1.slice (Rect.unit (s := S3840x1536) ![2304, 0] S128x1536.size inb_S3840x1536_S128x1536_2304_0) (fun _ => rfl)).view.set]{fullShare} f1)
      ∗ semVal ((c : Thread nD τ), SemLoc.dma 25) 0 ∗ ((sc1.slice (Rect.unit (s := S3840x1536) ![2432, 0] S128x1536.size inb_S3840x1536_S128x1536_2432_0) (fun _ => rfl)).view.loc (c : Thread nD τ) ↦[(sc1.slice (Rect.unit (s := S3840x1536) ![2432, 0] S128x1536.size inb_S3840x1536_S128x1536_2432_0) (fun _ => rfl)).view.set]{fullShare} d7)
        ∗ ((hb1.slice (Rect.unit (s := S3840x1536) ![2432, 0] S128x1536.size inb_S3840x1536_S128x1536_2432_0) (fun _ => rfl)).view.loc (c : Thread nD τ) ↦[(hb1.slice (Rect.unit (s := S3840x1536) ![2432, 0] S128x1536.size inb_S3840x1536_S128x1536_2432_0) (fun _ => rfl)).view.set]{fullShare} f1)
      ∗ semVal ((c : Thread nD τ), SemLoc.dma 26) 0 ∗ ((sc1.slice (Rect.unit (s := S3840x1536) ![2560, 0] S128x1536.size inb_S3840x1536_S128x1536_2560_0) (fun _ => rfl)).view.loc (c : Thread nD τ) ↦[(sc1.slice (Rect.unit (s := S3840x1536) ![2560, 0] S128x1536.size inb_S3840x1536_S128x1536_2560_0) (fun _ => rfl)).view.set]{fullShare} d7)
        ∗ ((hb1.slice (Rect.unit (s := S3840x1536) ![2560, 0] S128x1536.size inb_S3840x1536_S128x1536_2560_0) (fun _ => rfl)).view.loc (c : Thread nD τ) ↦[(hb1.slice (Rect.unit (s := S3840x1536) ![2560, 0] S128x1536.size inb_S3840x1536_S128x1536_2560_0) (fun _ => rfl)).view.set]{fullShare} f1)
      ∗ semVal ((c : Thread nD τ), SemLoc.dma 27) 0 ∗ ((sc1.slice (Rect.unit (s := S3840x1536) ![2688, 0] S128x1536.size inb_S3840x1536_S128x1536_2688_0) (fun _ => rfl)).view.loc (c : Thread nD τ) ↦[(sc1.slice (Rect.unit (s := S3840x1536) ![2688, 0] S128x1536.size inb_S3840x1536_S128x1536_2688_0) (fun _ => rfl)).view.set]{fullShare} d7)
        ∗ ((hb1.slice (Rect.unit (s := S3840x1536) ![2688, 0] S128x1536.size inb_S3840x1536_S128x1536_2688_0) (fun _ => rfl)).view.loc (c : Thread nD τ) ↦[(hb1.slice (Rect.unit (s := S3840x1536) ![2688, 0] S128x1536.size inb_S3840x1536_S128x1536_2688_0) (fun _ => rfl)).view.set]{fullShare} f1)
      ∗ semVal ((c : Thread nD τ), SemLoc.dma 28) 0 ∗ ((sc1.slice (Rect.unit (s := S3840x1536) ![2816, 0] S128x1536.size inb_S3840x1536_S128x1536_2816_0) (fun _ => rfl)).view.loc (c : Thread nD τ) ↦[(sc1.slice (Rect.unit (s := S3840x1536) ![2816, 0] S128x1536.size inb_S3840x1536_S128x1536_2816_0) (fun _ => rfl)).view.set]{fullShare} d7)
        ∗ ((hb1.slice (Rect.unit (s := S3840x1536) ![2816, 0] S128x1536.size inb_S3840x1536_S128x1536_2816_0) (fun _ => rfl)).view.loc (c : Thread nD τ) ↦[(hb1.slice (Rect.unit (s := S3840x1536) ![2816, 0] S128x1536.size inb_S3840x1536_S128x1536_2816_0) (fun _ => rfl)).view.set]{fullShare} f1)
      ∗ semVal ((c : Thread nD τ), SemLoc.dma 29) 0 ∗ ((sc1.slice (Rect.unit (s := S3840x1536) ![2944, 0] S128x1536.size inb_S3840x1536_S128x1536_2944_0) (fun _ => rfl)).view.loc (c : Thread nD τ) ↦[(sc1.slice (Rect.unit (s := S3840x1536) ![2944, 0] S128x1536.size inb_S3840x1536_S128x1536_2944_0) (fun _ => rfl)).view.set]{fullShare} d7)
        ∗ ((hb1.slice (Rect.unit (s := S3840x1536) ![2944, 0] S128x1536.size inb_S3840x1536_S128x1536_2944_0) (fun _ => rfl)).view.loc (c : Thread nD τ) ↦[(hb1.slice (Rect.unit (s := S3840x1536) ![2944, 0] S128x1536.size inb_S3840x1536_S128x1536_2944_0) (fun _ => rfl)).view.set]{fullShare} f1)
      ∗ semVal ((c : Thread nD τ), SemLoc.dma 30) 0 ∗ ((sc1.slice (Rect.unit (s := S3840x1536) ![3072, 0] S128x1536.size inb_S3840x1536_S128x1536_3072_0) (fun _ => rfl)).view.loc (c : Thread nD τ) ↦[(sc1.slice (Rect.unit (s := S3840x1536) ![3072, 0] S128x1536.size inb_S3840x1536_S128x1536_3072_0) (fun _ => rfl)).view.set]{fullShare} d7)
        ∗ ((hb1.slice (Rect.unit (s := S3840x1536) ![3072, 0] S128x1536.size inb_S3840x1536_S128x1536_3072_0) (fun _ => rfl)).view.loc (c : Thread nD τ) ↦[(hb1.slice (Rect.unit (s := S3840x1536) ![3072, 0] S128x1536.size inb_S3840x1536_S128x1536_3072_0) (fun _ => rfl)).view.set]{fullShare} f1)
      ∗ semVal ((c : Thread nD τ), SemLoc.dma 31) 0 ∗ ((sc1.slice (Rect.unit (s := S3840x1536) ![3200, 0] S128x1536.size inb_S3840x1536_S128x1536_3200_0) (fun _ => rfl)).view.loc (c : Thread nD τ) ↦[(sc1.slice (Rect.unit (s := S3840x1536) ![3200, 0] S128x1536.size inb_S3840x1536_S128x1536_3200_0) (fun _ => rfl)).view.set]{fullShare} d7)
        ∗ ((hb1.slice (Rect.unit (s := S3840x1536) ![3200, 0] S128x1536.size inb_S3840x1536_S128x1536_3200_0) (fun _ => rfl)).view.loc (c : Thread nD τ) ↦[(hb1.slice (Rect.unit (s := S3840x1536) ![3200, 0] S128x1536.size inb_S3840x1536_S128x1536_3200_0) (fun _ => rfl)).view.set]{fullShare} f1)
      ∗ semVal ((c : Thread nD τ), SemLoc.dma 32) 0 ∗ ((sc1.slice (Rect.unit (s := S3840x1536) ![3328, 0] S128x1536.size inb_S3840x1536_S128x1536_3328_0) (fun _ => rfl)).view.loc (c : Thread nD τ) ↦[(sc1.slice (Rect.unit (s := S3840x1536) ![3328, 0] S128x1536.size inb_S3840x1536_S128x1536_3328_0) (fun _ => rfl)).view.set]{fullShare} d7)
        ∗ ((hb1.slice (Rect.unit (s := S3840x1536) ![3328, 0] S128x1536.size inb_S3840x1536_S128x1536_3328_0) (fun _ => rfl)).view.loc (c : Thread nD τ) ↦[(hb1.slice (Rect.unit (s := S3840x1536) ![3328, 0] S128x1536.size inb_S3840x1536_S128x1536_3328_0) (fun _ => rfl)).view.set]{fullShare} f1)
      ∗ semVal ((c : Thread nD τ), SemLoc.dma 33) 0 ∗ ((sc1.slice (Rect.unit (s := S3840x1536) ![3456, 0] S128x1536.size inb_S3840x1536_S128x1536_3456_0) (fun _ => rfl)).view.loc (c : Thread nD τ) ↦[(sc1.slice (Rect.unit (s := S3840x1536) ![3456, 0] S128x1536.size inb_S3840x1536_S128x1536_3456_0) (fun _ => rfl)).view.set]{fullShare} d7)
        ∗ ((hb1.slice (Rect.unit (s := S3840x1536) ![3456, 0] S128x1536.size inb_S3840x1536_S128x1536_3456_0) (fun _ => rfl)).view.loc (c : Thread nD τ) ↦[(hb1.slice (Rect.unit (s := S3840x1536) ![3456, 0] S128x1536.size inb_S3840x1536_S128x1536_3456_0) (fun _ => rfl)).view.set]{fullShare} f1)
      ∗ semVal ((c : Thread nD τ), SemLoc.dma 34) 0 ∗ ((sc1.slice (Rect.unit (s := S3840x1536) ![3584, 0] S128x1536.size inb_S3840x1536_S128x1536_3584_0) (fun _ => rfl)).view.loc (c : Thread nD τ) ↦[(sc1.slice (Rect.unit (s := S3840x1536) ![3584, 0] S128x1536.size inb_S3840x1536_S128x1536_3584_0) (fun _ => rfl)).view.set]{fullShare} d7)
        ∗ ((hb1.slice (Rect.unit (s := S3840x1536) ![3584, 0] S128x1536.size inb_S3840x1536_S128x1536_3584_0) (fun _ => rfl)).view.loc (c : Thread nD τ) ↦[(hb1.slice (Rect.unit (s := S3840x1536) ![3584, 0] S128x1536.size inb_S3840x1536_S128x1536_3584_0) (fun _ => rfl)).view.set]{fullShare} f1)
      ∗ semVal ((c : Thread nD τ), SemLoc.dma 35) 0 ∗ ((sc1.slice (Rect.unit (s := S3840x1536) ![3712, 0] S128x1536.size inb_S3840x1536_S128x1536_3712_0) (fun _ => rfl)).view.loc (c : Thread nD τ) ↦[(sc1.slice (Rect.unit (s := S3840x1536) ![3712, 0] S128x1536.size inb_S3840x1536_S128x1536_3712_0) (fun _ => rfl)).view.set]{fullShare} d7)
        ∗ ((hb1.slice (Rect.unit (s := S3840x1536) ![3712, 0] S128x1536.size inb_S3840x1536_S128x1536_3712_0) (fun _ => rfl)).view.loc (c : Thread nD τ) ↦[(hb1.slice (Rect.unit (s := S3840x1536) ![3712, 0] S128x1536.size inb_S3840x1536_S128x1536_3712_0) (fun _ => rfl)).view.set]{fullShare} f1)
      ∗ owes (c : Thread nD τ) 0 W
      ∗ (iprop((a4.view.loc (c : Thread nD τ) ↦[a4.view.set]{fullShare} f4) ∗ (a5.view.loc (c : Thread nD τ) ↦[a5.view.set]{fullShare} a5.view.writes (Elt F) f5 L)
        ∗ pt c hb0 f0 ∗ pt c hb1 f1 ∗ pt c hb2 f2 ∗ pt c hb3 f3
        ∗ (∃ g, pt c sc0 g) ∗ (∃ g, pt c sc1 g) ∗ (∃ g, pt c sc2 g) ∗ (∃ g, pt c sc3 g) ∗ (∃ g, pt c sc4 g) ∗ (∃ g, pt c sc5 g) ∗ (∃ g, pt c sc6 g) ∗ (∃ g, pt c sc7 g) ∗ (∃ g, pt c sc8 g) ∗ (∃ g, pt c sc9 g) ∗ (∃ g, pt c sc10 g) ∗ (∃ g, pt c sc11 g)
        ∗ semVal ((c : Thread nD τ), SemLoc.dma 2) 0 ∗ semVal ((c : Thread nD τ), SemLoc.dma 3) 0 ∗ semVal ((c : Thread nD τ), SemLoc.dma 4) 0
        ∗ (BI.bigSep Finset.univ fun b => semVal ((c : Thread nD τ), cellW b) 0)
        ∗ ∃ W', owes (c : Thread nD τ) 0 W') -∗ K ⟨⟩))
    ⊢ wp frame (wpE (defs₀ (F := F)) Variants.none c none) Set.univ
      (cc0_decdec hb0 (Memref.isWhole_whole _) hb1 (Memref.isWhole_whole _) hb2 (Memref.isWhole_whole _) hb3 (Memref.isWhole_whole _) a4 h4 a5 h5
        sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) cc0_scratch12 cc0_scratch13) K } := by
  refine ⟨?_, fun W K => ?run⟩
  case run =>
    rw [cc0_decdec_eq_skeleton]; unfold cc0_decdec_skel
    iintro ⟨Ha4, Ha5, Hh0, Hh2, Hh3, HS0, HS2, HS3, HS4, HS5, HS6, HS7, HS8, HS9, HS10, HS11, Hq0, Hq1, Hq2, Hw0, HB0, HA0, Hw1, HB1, HA1, Hw2, HB2, HA2, Hw3, HB3, HA3, Hw4, HB4, HA4, Hw5, HB5, HA5, Hw6, HB6, HA6, Hw7, HB7, HA7, Hw8, HB8, HA8, Hw9, HB9, HA9, Hw10, HB10, HA10, Hw11, HB11, HA11, Hw12, HB12, HA12, Hw13, HB13, HA13, Hw14, HB14, HA14, Hw15, HB15, HA15, Hw16, HB16, HA16, Hw17, HB17, HA17, Hw18, HB18, HA18, Hw19, HB19, HA19, Hw20, HB20, HA20, Hw21, HB21, HA21, Hw22, HB22, HA22, Hw23, HB23, HA23, Hw24, HB24, HA24, Hw25, HB25, HA25, Hw26, HB26, HA26, Hw27, HB27, HA27, Hw28, HB28, HA28, Hw29, HB29, HA29, HO, Hk⟩
    set_option sl_exec.stopBefore "k0_part73" in sl_exec_parts
    set_option sl_exec.stopBefore "k0_part162" in sl_exec_parts
    ihave HR : iprop(Ring.AtW (blkΦ c f1 (fW c f1)) (stK 0)) $$ [Hw0 Hw1 Hw2 Hw3 Hw4 Hw5 Hw6 Hw7 Hw8 Hw9 Hw10 Hw11 Hw12 Hw13 Hw14 Hw15 Hw16 Hw17 Hw18 Hw19 Hw20 Hw21 Hw22 Hw23 Hw24 Hw25 Hw26 Hw27 Hw28 Hw29]
    · iapply (atW_start c f1 (fW c f1))
      isplitl [Hw0]
      · iapply (flight_of c f1 d7 0 ![0, 0] inb_S3840x1536_S128x1536_0_0 rfl (SemLoc.dma 6) rfl); iexact Hw0
      isplitl [Hw1]
      · iapply (flight_of c f1 d7 1 ![128, 0] inb_S3840x1536_S128x1536_128_0 rfl (SemLoc.dma 7) rfl); iexact Hw1
      isplitl [Hw2]
      · iapply (flight_of c f1 d7 2 ![256, 0] inb_S3840x1536_S128x1536_256_0 rfl (SemLoc.dma 8) rfl); iexact Hw2
      isplitl [Hw3]
      · iapply (flight_of c f1 d7 3 ![384, 0] inb_S3840x1536_S128x1536_384_0 rfl (SemLoc.dma 9) rfl); iexact Hw3
      isplitl [Hw4]
      · iapply (flight_of c f1 d7 4 ![512, 0] inb_S3840x1536_S128x1536_512_0 rfl (SemLoc.dma 10) rfl); iexact Hw4
      isplitl [Hw5]
      · iapply (flight_of c f1 d7 5 ![640, 0] inb_S3840x1536_S128x1536_640_0 rfl (SemLoc.dma 11) rfl); iexact Hw5
      isplitl [Hw6]
      · iapply (flight_of c f1 d7 6 ![768, 0] inb_S3840x1536_S128x1536_768_0 rfl (SemLoc.dma 12) rfl); iexact Hw6
      isplitl [Hw7]
      · iapply (flight_of c f1 d7 7 ![896, 0] inb_S3840x1536_S128x1536_896_0 rfl (SemLoc.dma 13) rfl); iexact Hw7
      isplitl [Hw8]
      · iapply (flight_of c f1 d7 8 ![1024, 0] inb_S3840x1536_S128x1536_1024_0 rfl (SemLoc.dma 14) rfl); iexact Hw8
      isplitl [Hw9]
      · iapply (flight_of c f1 d7 9 ![1152, 0] inb_S3840x1536_S128x1536_1152_0 rfl (SemLoc.dma 15) rfl); iexact Hw9
      isplitl [Hw10]
      · iapply (flight_of c f1 d7 10 ![1280, 0] inb_S3840x1536_S128x1536_1280_0 rfl (SemLoc.dma 16) rfl); iexact Hw10
      isplitl [Hw11]
      · iapply (flight_of c f1 d7 11 ![1408, 0] inb_S3840x1536_S128x1536_1408_0 rfl (SemLoc.dma 17) rfl); iexact Hw11
      isplitl [Hw12]
      · iapply (flight_of c f1 d7 12 ![1536, 0] inb_S3840x1536_S128x1536_1536_0 rfl (SemLoc.dma 18) rfl); iexact Hw12
      isplitl [Hw13]
      · iapply (flight_of c f1 d7 13 ![1664, 0] inb_S3840x1536_S128x1536_1664_0 rfl (SemLoc.dma 19) rfl); iexact Hw13
      isplitl [Hw14]
      · iapply (flight_of c f1 d7 14 ![1792, 0] inb_S3840x1536_S128x1536_1792_0 rfl (SemLoc.dma 20) rfl); iexact Hw14
      isplitl [Hw15]
      · iapply (flight_of c f1 d7 15 ![1920, 0] inb_S3840x1536_S128x1536_1920_0 rfl (SemLoc.dma 21) rfl); iexact Hw15
      isplitl [Hw16]
      · iapply (flight_of c f1 d7 16 ![2048, 0] inb_S3840x1536_S128x1536_2048_0 rfl (SemLoc.dma 22) rfl); iexact Hw16
      isplitl [Hw17]
      · iapply (flight_of c f1 d7 17 ![2176, 0] inb_S3840x1536_S128x1536_2176_0 rfl (SemLoc.dma 23) rfl); iexact Hw17
      isplitl [Hw18]
      · iapply (flight_of c f1 d7 18 ![2304, 0] inb_S3840x1536_S128x1536_2304_0 rfl (SemLoc.dma 24) rfl); iexact Hw18
      isplitl [Hw19]
      · iapply (flight_of c f1 d7 19 ![2432, 0] inb_S3840x1536_S128x1536_2432_0 rfl (SemLoc.dma 25) rfl); iexact Hw19
      isplitl [Hw20]
      · iapply (flight_of c f1 d7 20 ![2560, 0] inb_S3840x1536_S128x1536_2560_0 rfl (SemLoc.dma 26) rfl); iexact Hw20
      isplitl [Hw21]
      · iapply (flight_of c f1 d7 21 ![2688, 0] inb_S3840x1536_S128x1536_2688_0 rfl (SemLoc.dma 27) rfl); iexact Hw21
      isplitl [Hw22]
      · iapply (flight_of c f1 d7 22 ![2816, 0] inb_S3840x1536_S128x1536_2816_0 rfl (SemLoc.dma 28) rfl); iexact Hw22
      isplitl [Hw23]
      · iapply (flight_of c f1 d7 23 ![2944, 0] inb_S3840x1536_S128x1536_2944_0 rfl (SemLoc.dma 29) rfl); iexact Hw23
      isplitl [Hw24]
      · iapply (flight_of c f1 d7 24 ![3072, 0] inb_S3840x1536_S128x1536_3072_0 rfl (SemLoc.dma 30) rfl); iexact Hw24
      isplitl [Hw25]
      · iapply (flight_of c f1 d7 25 ![3200, 0] inb_S3840x1536_S128x1536_3200_0 rfl (SemLoc.dma 31) rfl); iexact Hw25
      isplitl [Hw26]
      · iapply (flight_of c f1 d7 26 ![3328, 0] inb_S3840x1536_S128x1536_3328_0 rfl (SemLoc.dma 32) rfl); iexact Hw26
      isplitl [Hw27]
      · iapply (flight_of c f1 d7 27 ![3456, 0] inb_S3840x1536_S128x1536_3456_0 rfl (SemLoc.dma 33) rfl); iexact Hw27
      isplitl [Hw28]
      · iapply (flight_of c f1 d7 28 ![3584, 0] inb_S3840x1536_S128x1536_3584_0 rfl (SemLoc.dma 34) rfl); iexact Hw28
      iapply (flight_of c f1 d7 29 ![3712, 0] inb_S3840x1536_S128x1536_3712_0 rfl (SemLoc.dma 35) rfl); iexact Hw29
    sl_exec_parts
    sl_step
    ihave ⟨HS1, Hh1, Hc⟩ : iprop(pt c sc1 (fW c f1) ∗ pt c hb1 f1 ∗ BI.bigSep Finset.univ fun b => semVal ((c : Thread nD τ), cellW b) 0) $$ [HR]
    · iapply (atW_end c f1 (fW c f1) _ trips_eq); iexact HR
    iapply Hk
    isplitl [Ha4]; · iexact Ha4
    isplitl [Ha5]; · iexact Ha5
    isplitl [Hh0]; · iexact Hh0
    isplitl [Hh1]; · iexact Hh1
    isplitl [Hh2]; · iexact Hh2
    isplitl [Hh3]; · iexact Hh3
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [Hq0]; · iexact Hq0
    isplitl [Hq1]; · iexact Hq1
    isplitl [Hq2]; · iexact Hq2
    isplitl [Hc]; · iexact Hc
    iexists _; iexact HO

end Cert.KernelIdeal.Hand
end
-- ==== Proof.Ideal.Frame.lean ====
/-
  Hand-written, untrusted. The frame of `KernelIdeal`: one run of the body closed over the pipeline library's invariant, and the launch.
-/
module

public import proofs.«01_k».proof.Proof.Ideal.Body

public import proofs.«01_k».proof.Proof.Gen.KernelIdeal.Points
public import proofs.«01_k».proof.Proof.Gen.KernelIdeal.Launch
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's own cells and operands -/

abbrev osem0 : Fin 34 → SemLoc sig := fun j => SemLoc.dma ⟨2 + j.val, by have := j.isLt; show 2 + j.val < 36; omega⟩
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33] (by decide) (by decide)]; rfl
/-- The operands in HBM that the body's copies read. -/
def H0 : Finset (Ref sig .tc) := {main_arg1, main_arg2, main_arg3, main_v0}
theorem H0_sub : H0 ⊆ Pipeline.restRefs sig spec0 := by decide
theorem hbmPts0_eq (c : Dev nD) :
    (bigSep H0 (fun b => ((c : Thread nD τ).loc b) ↦{fullShare} V m c b) : sProp 𝕄) = iprop(pt c hb1 (V m c main_arg1) ∗ pt c hb2 (V m c main_arg2) ∗ pt c hb3 (V m c main_arg3) ∗ pt c hb0 (V m c main_v0)) := by
  rw [BI.bigSep_eq_bigSepL_of_eq [main_arg1, main_arg2, main_arg3, main_v0] (by decide) (by decide)]; rfl
theorem PhiD0_eq (c : Dev nD) :
    (Pipeline.ΦD osem0 spec0 H0 (V m) c : sProp 𝕄)
      = iprop(iprop((∃ f, pt c sc0 f) ∗ (∃ f, pt c sc1 f) ∗ (∃ f, pt c sc2 f) ∗ (∃ f, pt c sc3 f) ∗ (∃ f, pt c sc4 f) ∗ (∃ f, pt c sc5 f) ∗ (∃ f, pt c sc6 f) ∗ (∃ f, pt c sc7 f) ∗ (∃ f, pt c sc8 f) ∗ (∃ f, pt c sc9 f) ∗ (∃ f, pt c sc10 f) ∗ (∃ f, pt c sc11 f))
          ∗ (∃ r, prngReg c r)
          ∗ iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0)
          ∗ iprop(pt c hb1 (V m c main_arg1) ∗ pt c hb2 (V m c main_arg2) ∗ pt c hb3 (V m c main_arg3) ∗ pt c hb0 (V m c main_v0))) := by
  rw [Pipeline.ΦD_eq, scopedRest0_eq, ownSems00_eq, hbmPts0_eq]; try rfl

/-- The scratch buffer, and the operand, as the 30 blocks. -/
theorem blocksW (c : Dev nD) (f7 : BufOf (F := F) c sc1) : (pt c sc1 f7 : sProp 𝕄) ⊢ iprop(heldW c f7 0 ∗ heldW c f7 1 ∗ heldW c f7 2 ∗ heldW c f7 3 ∗ heldW c f7 4 ∗ heldW c f7 5 ∗ heldW c f7 6 ∗ heldW c f7 7 ∗ heldW c f7 8 ∗ heldW c f7 9 ∗ heldW c f7 10 ∗ heldW c f7 11 ∗ heldW c f7 12 ∗ heldW c f7 13 ∗ heldW c f7 14 ∗ heldW c f7 15 ∗ heldW c f7 16 ∗ heldW c f7 17 ∗ heldW c f7 18 ∗ heldW c f7 19 ∗ heldW c f7 20 ∗ heldW c f7 21 ∗ heldW c f7 22 ∗ heldW c f7 23 ∗ heldW c f7 24 ∗ heldW c f7 25 ∗ heldW c f7 26 ∗ heldW c f7 27 ∗ heldW c f7 28 ∗ heldW c f7 29) := by
  refine BIBase.Entails.of_eq ((Ring.pointsTo_blocks blkSet blk_disjoint blk_cover f7).trans ((BI.bigSep_congr (Ψ := fun b => heldW c f7 b) fun b _ => ?_).trans ?_))
  · rw [heldW, View.set_slice_whole]
  · rw [BI.bigSep_eq_bigSepL_of_eq [0, 1, 2, 3, 4, 5, 6, 7, 8, 9, 10, 11, 12, 13, 14, 15, 16, 17, 18, 19, 20, 21, 22, 23, 24, 25, 26, 27, 28, 29] (by decide) (by decide)]; rfl
theorem blocksH (c : Dev nD) (f1 : BufOf (F := F) c hb1) : (pt c hb1 f1 : sProp 𝕄) ⊢ iprop(heldH c f1 0 ∗ heldH c f1 1 ∗ heldH c f1 2 ∗ heldH c f1 3 ∗ heldH c f1 4 ∗ heldH c f1 5 ∗ heldH c f1 6 ∗ heldH c f1 7 ∗ heldH c f1 8 ∗ heldH c f1 9 ∗ heldH c f1 10 ∗ heldH c f1 11 ∗ heldH c f1 12 ∗ heldH c f1 13 ∗ heldH c f1 14 ∗ heldH c f1 15 ∗ heldH c f1 16 ∗ heldH c f1 17 ∗ heldH c f1 18 ∗ heldH c f1 19 ∗ heldH c f1 20 ∗ heldH c f1 21 ∗ heldH c f1 22 ∗ heldH c f1 23 ∗ heldH c f1 24 ∗ heldH c f1 25 ∗ heldH c f1 26 ∗ heldH c f1 27 ∗ heldH c f1 28 ∗ heldH c f1 29) := by
  refine BIBase.Entails.of_eq ((Ring.pointsTo_blocks blkSet blk_disjoint blk_cover f1).trans ((BI.bigSep_congr (Ψ := fun b => heldH c f1 b) fun b _ => ?_).trans ?_))
  · rw [heldH, View.set_slice_whole]
  · rw [BI.bigSep_eq_bigSepL_of_eq [0, 1, 2, 3, 4, 5, 6, 7, 8, 9, 10, 11, 12, 13, 14, 15, 16, 17, 18, 19, 20, 21, 22, 23, 24, 25, 26, 27, 28, 29] (by decide) (by decide)]; rfl
/-- The cells of the blocks one by one. -/
theorem cells_list (c : Dev nD) : (BI.bigSep Finset.univ (fun b : Fin 30 => semVal ((c : Thread nD τ), cellW b) 0) : sProp 𝕄)
    ⊢ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0) := by
  rw [BI.bigSep_eq_bigSepL_of_eq [0, 1, 2, 3, 4, 5, 6, 7, 8, 9, 10, 11, 12, 13, 14, 15, 16, 17, 18, 19, 20, 21, 22, 23, 24, 25, 26, 27, 28, 29] (by decide) (by decide)]; exact BI.Entails.refl _

/-! ## The proof data and the body obligation -/

/-- The output is forgotten: nothing here reads what the kernel leaves in it. -/
def forgets0 : Fin 2 → Bool := fun w => w.val == 1

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨n + 2, h⟩ => absurd h (Nat.not_lt.2 (Nat.le_add_left _ _))
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare d))

set_option maxHeartbeats 0 in
set_option maxRecDepth 100000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl, after0_0]
  unfold owns
  iintro ⟨⟨⟨⟨%d6, HS0⟩, ⟨%d7, HS1⟩, ⟨%d8, HS2⟩, ⟨%d9, HS3⟩, ⟨%d10, HS4⟩, ⟨%d11, HS5⟩, ⟨%d12, HS6⟩, ⟨%d13, HS7⟩, ⟨%d14, HS8⟩, ⟨%d15, HS9⟩, ⟨%d16, HS10⟩, ⟨%d17, HS11⟩⟩, Hg, ⟨Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35⟩, ⟨Hh1, Hh2, Hh3, Hh0⟩⟩, ⟨%W, -, HO⟩, ⟨%d0, ⟨%f4, %hf4, Ha4⟩⟩, ⟨%x5, ⟨%f5, -, Ha5⟩⟩⟩
  ihave ⟨HB0, HB1, HB2, HB3, HB4, HB5, HB6, HB7, HB8, HB9, HB10, HB11, HB12, HB13, HB14, HB15, HB16, HB17, HB18, HB19, HB20, HB21, HB22, HB23, HB24, HB25, HB26, HB27, HB28, HB29⟩ := (blocksW c d7) $$ HS1
  ihave ⟨HA0, HA1, HA2, HA3, HA4, HA5, HA6, HA7, HA8, HA9, HA10, HA11, HA12, HA13, HA14, HA15, HA16, HA17, HA18, HA19, HA20, HA21, HA22, HA23, HA24, HA25, HA26, HA27, HA28, HA29⟩ := (blocksH c (V m c main_arg1)) $$ Hh1
  iapply ((body_run c (st0_0 t) (hstage0_0 0) (st0_1 t) (hstage0_1 0) (V m c main_v0) (V m c main_arg1) (V m c main_arg2) (V m c main_arg3) f4 f5
    d6 d7 d8 d9 d10 d11 d12 d13 d14 d15 d16 d17).2 W _)
  isplitl [Ha4]; · iexact Ha4
  isplitl [Ha5]; · iexact Ha5
  isplitl [Hh0]; · iexact Hh0
  isplitl [Hh2]; · iexact Hh2
  isplitl [Hh3]; · iexact Hh3
  isplitl [HS0]; · iexact HS0
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [Hq2]; · iexact Hq2
  isplitl [Hq3]; · iexact Hq3
  isplitl [Hq4]; · iexact Hq4
  isplitl [Hq6]; · iexact Hq6
  isplitl [HB0]; · iexact HB0
  isplitl [HA0]; · iexact HA0
  isplitl [Hq7]; · iexact Hq7
  isplitl [HB1]; · iexact HB1
  isplitl [HA1]; · iexact HA1
  isplitl [Hq8]; · iexact Hq8
  isplitl [HB2]; · iexact HB2
  isplitl [HA2]; · iexact HA2
  isplitl [Hq9]; · iexact Hq9
  isplitl [HB3]; · iexact HB3
  isplitl [HA3]; · iexact HA3
  isplitl [Hq10]; · iexact Hq10
  isplitl [HB4]; · iexact HB4
  isplitl [HA4]; · iexact HA4
  isplitl [Hq11]; · iexact Hq11
  isplitl [HB5]; · iexact HB5
  isplitl [HA5]; · iexact HA5
  isplitl [Hq12]; · iexact Hq12
  isplitl [HB6]; · iexact HB6
  isplitl [HA6]; · iexact HA6
  isplitl [Hq13]; · iexact Hq13
  isplitl [HB7]; · iexact HB7
  isplitl [HA7]; · iexact HA7
  isplitl [Hq14]; · iexact Hq14
  isplitl [HB8]; · iexact HB8
  isplitl [HA8]; · iexact HA8
  isplitl [Hq15]; · iexact Hq15
  isplitl [HB9]; · iexact HB9
  isplitl [HA9]; · iexact HA9
  isplitl [Hq16]; · iexact Hq16
  isplitl [HB10]; · iexact HB10
  isplitl [HA10]; · iexact HA10
  isplitl [Hq17]; · iexact Hq17
  isplitl [HB11]; · iexact HB11
  isplitl [HA11]; · iexact HA11
  isplitl [Hq18]; · iexact Hq18
  isplitl [HB12]; · iexact HB12
  isplitl [HA12]; · iexact HA12
  isplitl [Hq19]; · iexact Hq19
  isplitl [HB13]; · iexact HB13
  isplitl [HA13]; · iexact HA13
  isplitl [Hq20]; · iexact Hq20
  isplitl [HB14]; · iexact HB14
  isplitl [HA14]; · iexact HA14
  isplitl [Hq21]; · iexact Hq21
  isplitl [HB15]; · iexact HB15
  isplitl [HA15]; · iexact HA15
  isplitl [Hq22]; · iexact Hq22
  isplitl [HB16]; · iexact HB16
  isplitl [HA16]; · iexact HA16
  isplitl [Hq23]; · iexact Hq23
  isplitl [HB17]; · iexact HB17
  isplitl [HA17]; · iexact HA17
  isplitl [Hq24]; · iexact Hq24
  isplitl [HB18]; · iexact HB18
  isplitl [HA18]; · iexact HA18
  isplitl [Hq25]; · iexact Hq25
  isplitl [HB19]; · iexact HB19
  isplitl [HA19]; · iexact HA19
  isplitl [Hq26]; · iexact Hq26
  isplitl [HB20]; · iexact HB20
  isplitl [HA20]; · iexact HA20
  isplitl [Hq27]; · iexact Hq27
  isplitl [HB21]; · iexact HB21
  isplitl [HA21]; · iexact HA21
  isplitl [Hq28]; · iexact Hq28
  isplitl [HB22]; · iexact HB22
  isplitl [HA22]; · iexact HA22
  isplitl [Hq29]; · iexact Hq29
  isplitl [HB23]; · iexact HB23
  isplitl [HA23]; · iexact HA23
  isplitl [Hq30]; · iexact Hq30
  isplitl [HB24]; · iexact HB24
  isplitl [HA24]; · iexact HA24
  isplitl [Hq31]; · iexact Hq31
  isplitl [HB25]; · iexact HB25
  isplitl [HA25]; · iexact HA25
  isplitl [Hq32]; · iexact Hq32
  isplitl [HB26]; · iexact HB26
  isplitl [HA26]; · iexact HA26
  isplitl [Hq33]; · iexact Hq33
  isplitl [HB27]; · iexact HB27
  isplitl [HA27]; · iexact HA27
  isplitl [Hq34]; · iexact Hq34
  isplitl [HB28]; · iexact HB28
  isplitl [HA28]; · iexact HA28
  isplitl [Hq35]; · iexact Hq35
  isplitl [HB29]; · iexact HB29
  isplitl [HA29]; · iexact HA29
  isplitl [HO]; · iexact HO
  iintro ⟨Ha4, Ha5, Hh0, Hh1, Hh2, Hh3, HS0, HS1, HS2, HS3, HS4, HS5, HS6, HS7, HS8, HS9, HS10, HS11, Hq2, Hq3, Hq4, Hc, HO⟩
  ihave ⟨Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35⟩ := (cells_list c) $$ Hc
  isplitl [HS0 HS1 HS2 HS3 HS4 HS5 HS6 HS7 HS8 HS9 HS10 HS11 Hg Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hh0 Hh1 Hh2 Hh3]
  · isplitl [HS0 HS1 HS2 HS3 HS4 HS5 HS6 HS7 HS8 HS9 HS10 HS11]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iexact HS11
    isplitl [Hg]; · iexact Hg
    isplitl [Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35]
    · isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      iexact Hq35
    isplitl [Hh1]; · iexact Hh1
    isplitl [Hh2]; · iexact Hh2
    isplitl [Hh3]; · iexact Hh3
    iexact Hh0
  isplitl [HO]
  · icases HO with ⟨%W', HO⟩
    iexists W'; isplitr; · ipureintro; exact fun _ _ => Or.inl trivial
    iexact HO
  isplitl [Ha4]
  · iexists f4; isplitr
    · ipureintro; exact hf4.trans (before0_0 m c t d0)
    iexact Ha4
  iexists _; iexists _; isplitr
  swap; · iexact Ha5
  ipureintro; rfl

theorem defs₀_row (t : Fin cfg0.N) : defs₀ (F := F) .tc cfg0.body (cfg0.bodyArgs t (cfg0.slots t)) = bodyAt0 t := by
  unfold defs₀; rw [Defs.onTc_tc]

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.KernelIdeal.Hand
end
-- ==== Proof.Ideal.Idx.lean ====
/- Arrays at number coordinates, and the loads of the body read so. -/
module
public import proofs.«01_k».proof.Proof.Ideal.Body
public import Idealize.ShloMosaic.Lib.Pointwise
@[expose] public section
noncomputable section
namespace Cert.KernelIdeal.Hand
open Cert.KernelIdeal Cert.KernelIdeal.Gen
open Idealize.ShloMosaic

/-- An array of two axes at number coordinates. -/
def at2 {α : Type} [Inhabited α] {A B : ℕ} (f : (⟨2, ![A, B]⟩ : Shape).Idx → α) (i j : ℕ) : α :=
  if h : i < A ∧ j < B then f (ix2 ⟨i, h.1⟩ ⟨j, h.2⟩) else default
/-- An array of three axes at number coordinates. -/
def at3 {α : Type} [Inhabited α] {A B C : ℕ} (f : (⟨3, ![A, B, C]⟩ : Shape).Idx → α) (i j k : ℕ) : α :=
  if h : i < A ∧ j < B ∧ k < C then f (ix3 ⟨i, h.1⟩ ⟨j, h.2.1⟩ ⟨k, h.2.2⟩) else default
/-- An array of four axes at number coordinates. -/
def at4 {α : Type} [Inhabited α] {A B C D : ℕ} (f : (⟨4, ![A, B, C, D]⟩ : Shape).Idx → α) (i j k l : ℕ) : α :=
  if h : i < A ∧ j < B ∧ k < C ∧ l < D then f (ix4 ⟨i, h.1⟩ ⟨j, h.2.1⟩ ⟨k, h.2.2.1⟩ ⟨l, h.2.2.2⟩) else default

theorem at2_ix {α : Type} [Inhabited α] {A B : ℕ} (f : (⟨2, ![A, B]⟩ : Shape).Idx → α) (i : Fin A) (j : Fin B) : f (ix2 i j) = at2 f i j := by
  rw [at2, dif_pos ⟨i.isLt, j.isLt⟩]
theorem at3_ix {α : Type} [Inhabited α] {A B C : ℕ} (f : (⟨3, ![A, B, C]⟩ : Shape).Idx → α) (i : Fin A) (j : Fin B) (k : Fin C) : f (ix3 i j k) = at3 f i j k := by
  rw [at3, dif_pos ⟨i.isLt, j.isLt, k.isLt⟩]
theorem at4_ix {α : Type} [Inhabited α] {A B C D : ℕ} (f : (⟨4, ![A, B, C, D]⟩ : Shape).Idx → α) (i : Fin A) (j : Fin B) (k : Fin C) (l : Fin D) : f (ix4 i j k l) = at4 f i j k l := by
  rw [at4, dif_pos ⟨i.isLt, j.isLt, k.isLt, l.isLt⟩]
theorem readW (c : Dev nD) (o : Fin 2 → ℕ) (h : ∀ a, o a + S32x128.size a ≤ S3840x1536.size a) (f : BufOf (F := Ideal) c sc1) (i : Fin 32) (j : Fin 128) :
    View.readAt (Elt Ideal) sc1.view (Rect.unit (s := S3840x1536) o S32x128.size h).toLoadRect f (ix2 i j) = at2 (α := BitVec 32) (A := 3840) (B := 1536) f (o 0 + i.val) (o 1 + j.val) := by
  have h0 : o 0 + 32 ≤ 3840 := h 0
  have h1 : o 1 + 128 ≤ 1536 := h 1
  rw [at2, dif_pos ⟨by omega, by omega⟩]
  refine congrArg f (funext fun a => ?_)
  fin_cases a
  · exact Fin.ext (by show o 0 + 1 * i.val = o 0 + i.val; omega)
  · exact Fin.ext (by show o 1 + 1 * j.val = o 1 + j.val; omega)
theorem readW2 (c : Dev nD) (o : Fin 2 → ℕ) (h : ∀ a, o a + S128x128.size a ≤ S3840x1536.size a) (f : BufOf (F := Ideal) c sc1) (i : Fin 128) (j : Fin 128) :
    View.readAt (Elt Ideal) sc1.view (Rect.unit (s := S3840x1536) o S128x128.size h).toLoadRect f (ix2 i j) = at2 (α := BitVec 32) (A := 3840) (B := 1536) f (o 0 + i.val) (o 1 + j.val) := by
  have h0 : o 0 + 128 ≤ 3840 := h 0
  have h1 : o 1 + 128 ≤ 1536 := h 1
  rw [at2, dif_pos ⟨by omega, by omega⟩]
  refine congrArg f (funext fun a => ?_)
  fin_cases a
  · exact Fin.ext (by show o 0 + 1 * i.val = o 0 + i.val; omega)
  · exact Fin.ext (by show o 1 + 1 * j.val = o 1 + j.val; omega)
theorem readX (c : Dev nD) (o : Fin 4 → ℕ) (h : ∀ a, o a + S1x1x1x256.size a ≤ S30x4x16x256.size a) (f : BufOf (F := Ideal) c sc4) (i : Fin 1) (j : Fin 1) (k : Fin 1) (l : Fin 256) :
    View.readAt (Elt Ideal) sc4.view (Rect.unit (s := S30x4x16x256) o S1x1x1x256.size h).toLoadRect f (ix4 i j k l) = at4 (α := EReal) (A := 30) (B := 4) (C := 16) (D := 256) f (o 0 + i.val) (o 1 + j.val) (o 2 + k.val) (o 3 + l.val) := by
  have h0 : o 0 + 1 ≤ 30 := h 0
  have h1 : o 1 + 1 ≤ 4 := h 1
  have h2 : o 2 + 1 ≤ 16 := h 2
  have h3 : o 3 + 256 ≤ 256 := h 3
  rw [at4, dif_pos ⟨by omega, by omega, by omega, by omega⟩]
  refine congrArg f (funext fun a => ?_)
  fin_cases a
  · exact Fin.ext (by show o 0 + 1 * i.val = o 0 + i.val; omega)
  · exact Fin.ext (by show o 1 + 1 * j.val = o 1 + j.val; omega)
  · exact Fin.ext (by show o 2 + 1 * k.val = o 2 + k.val; omega)
  · exact Fin.ext (by show o 3 + 1 * l.val = o 3 + l.val; omega)
theorem readR (c : Dev nD) (o : Fin 3 → ℕ) (h : ∀ a, o a + S1x32x256.size a ≤ S30x32x256.size a) (f : BufOf (F := Ideal) c sc5) (i : Fin 1) (j : Fin 32) (k : Fin 256) :
    View.readAt (Elt Ideal) sc5.view (Rect.unit (s := S30x32x256) o S1x32x256.size h).toLoadRect f (ix3 i j k) = at3 (α := EReal) (A := 30) (B := 32) (C := 256) f (o 0 + i.val) (o 1 + j.val) (o 2 + k.val) := by
  have h0 : o 0 + 1 ≤ 30 := h 0
  have h1 : o 1 + 32 ≤ 32 := h 1
  have h2 : o 2 + 256 ≤ 256 := h 2
  rw [at3, dif_pos ⟨by omega, by omega, by omega⟩]
  refine congrArg f (funext fun a => ?_)
  fin_cases a
  · exact Fin.ext (by show o 0 + 1 * i.val = o 0 + i.val; omega)
  · exact Fin.ext (by show o 1 + 1 * j.val = o 1 + j.val; omega)
  · exact Fin.ext (by show o 2 + 1 * k.val = o 2 + k.val; omega)
theorem readS (c : Dev nD) (o : Fin 3 → ℕ) (h : ∀ a, o a + S1x16x128.size a ≤ S12x480x128.size a) (f : BufOf (F := Ideal) c sc6) (i : Fin 1) (j : Fin 16) (k : Fin 128) :
    View.readAt (Elt Ideal) sc6.view (Rect.unit (s := S12x480x128) o S1x16x128.size h).toLoadRect f (ix3 i j k) = at3 (α := EReal) (A := 12) (B := 480) (C := 128) f (o 0 + i.val) (o 1 + j.val) (o 2 + k.val) := by
  have h0 : o 0 + 1 ≤ 12 := h 0
  have h1 : o 1 + 16 ≤ 480 := h 1
  have h2 : o 2 + 128 ≤ 128 := h 2
  rw [at3, dif_pos ⟨by omega, by omega, by omega⟩]
  refine congrArg f (funext fun a => ?_)
  fin_cases a
  · exact Fin.ext (by show o 0 + 1 * i.val = o 0 + i.val; omega)
  · exact Fin.ext (by show o 1 + 1 * j.val = o 1 + j.val; omega)
  · exact Fin.ext (by show o 2 + 1 * k.val = o 2 + k.val; omega)
theorem readZ (c : Dev nD) (o : Fin 3 → ℕ) (h : ∀ a, o a + S1x1x128.size a ≤ S12x30x128.size a) (f : BufOf (F := Ideal) c sc7) (i : Fin 1) (j : Fin 1) (k : Fin 128) :
    View.readAt (Elt Ideal) sc7.view (Rect.unit (s := S12x30x128) o S1x1x128.size h).toLoadRect f (ix3 i j k) = at3 (α := BitVec 32) (A := 12) (B := 30) (C := 128) f (o 0 + i.val) (o 1 + j.val) (o 2 + k.val) := by
  have h0 : o 0 + 1 ≤ 12 := h 0
  have h1 : o 1 + 1 ≤ 30 := h 1
  have h2 : o 2 + 128 ≤ 128 := h 2
  rw [at3, dif_pos ⟨by omega, by omega, by omega⟩]
  refine congrArg f (funext fun a => ?_)
  fin_cases a
  · exact Fin.ext (by show o 0 + 1 * i.val = o 0 + i.val; omega)
  · exact Fin.ext (by show o 1 + 1 * j.val = o 1 + j.val; omega)
  · exact Fin.ext (by show o 2 + 1 * k.val = o 2 + k.val; omega)
theorem readS2 (c : Dev nD) (o : Fin 3 → ℕ) (h : ∀ a, o a + S1x2x128.size a ≤ S12x60x128.size a) (f : BufOf (F := Ideal) c sc8) (i : Fin 1) (j : Fin 2) (k : Fin 128) :
    View.readAt (Elt Ideal) sc8.view (Rect.unit (s := S12x60x128) o S1x2x128.size h).toLoadRect f (ix3 i j k) = at3 (α := EReal) (A := 12) (B := 60) (C := 128) f (o 0 + i.val) (o 1 + j.val) (o 2 + k.val) := by
  have h0 : o 0 + 1 ≤ 12 := h 0
  have h1 : o 1 + 2 ≤ 60 := h 1
  have h2 : o 2 + 128 ≤ 128 := h 2
  rw [at3, dif_pos ⟨by omega, by omega, by omega⟩]
  refine congrArg f (funext fun a => ?_)
  fin_cases a
  · exact Fin.ext (by show o 0 + 1 * i.val = o 0 + i.val; omega)
  · exact Fin.ext (by show o 1 + 1 * j.val = o 1 + j.val; omega)
  · exact Fin.ext (by show o 2 + 1 * k.val = o 2 + k.val; omega)
theorem readZ2 (c : Dev nD) (o : Fin 3 → ℕ) (h : ∀ a, o a + S1x1x128.size a ≤ S12x30x128.size a) (f : BufOf (F := Ideal) c sc9) (i : Fin 1) (j : Fin 1) (k : Fin 128) :
    View.readAt (Elt Ideal) sc9.view (Rect.unit (s := S12x30x128) o S1x1x128.size h).toLoadRect f (ix3 i j k) = at3 (α := BitVec 32) (A := 12) (B := 30) (C := 128) f (o 0 + i.val) (o 1 + j.val) (o 2 + k.val) := by
  have h0 : o 0 + 1 ≤ 12 := h 0
  have h1 : o 1 + 1 ≤ 30 := h 1
  have h2 : o 2 + 128 ≤ 128 := h 2
  rw [at3, dif_pos ⟨by omega, by omega, by omega⟩]
  refine congrArg f (funext fun a => ?_)
  fin_cases a
  · exact Fin.ext (by show o 0 + 1 * i.val = o 0 + i.val; omega)
  · exact Fin.ext (by show o 1 + 1 * j.val = o 1 + j.val; omega)
  · exact Fin.ext (by show o 2 + 1 * k.val = o 2 + k.val; omega)
theorem readA (c : Dev nD) (o : Fin 2 → ℕ) (h : ∀ a, o a + S96x256.size a ≤ S96x1536.size a) (f : BufOf (F := Ideal) c sc10) (i : Fin 96) (j : Fin 256) :
    View.readAt (Elt Ideal) sc10.view (Rect.unit (s := S96x1536) o S96x256.size h).toLoadRect f (ix2 i j) = at2 (α := EReal) (A := 96) (B := 1536) f (o 0 + i.val) (o 1 + j.val) := by
  have h0 : o 0 + 96 ≤ 96 := h 0
  have h1 : o 1 + 256 ≤ 1536 := h 1
  rw [at2, dif_pos ⟨by omega, by omega⟩]
  refine congrArg f (funext fun a => ?_)
  fin_cases a
  · exact Fin.ext (by show o 0 + 1 * i.val = o 0 + i.val; omega)
  · exact Fin.ext (by show o 1 + 1 * j.val = o 1 + j.val; omega)
theorem readB (c : Dev nD) (o : Fin 2 → ℕ) (h : ∀ a, o a + S32x256.size a ≤ S32x1536.size a) (f : BufOf (F := Ideal) c sc11) (i : Fin 32) (j : Fin 256) :
    View.readAt (Elt Ideal) sc11.view (Rect.unit (s := S32x1536) o S32x256.size h).toLoadRect f (ix2 i j) = at2 (α := EReal) (A := 32) (B := 1536) f (o 0 + i.val) (o 1 + j.val) := by
  have h0 : o 0 + 32 ≤ 32 := h 0
  have h1 : o 1 + 256 ≤ 1536 := h 1
  rw [at2, dif_pos ⟨by omega, by omega⟩]
  refine congrArg f (funext fun a => ?_)
  fin_cases a
  · exact Fin.ext (by show o 0 + 1 * i.val = o 0 + i.val; omega)
  · exact Fin.ext (by show o 1 + 1 * j.val = o 1 + j.val; omega)
end Cert.KernelIdeal.Hand
end
-- ==== Proof.Ideal.Words.lean ====
/- The word arithmetic: ten 3-bit codes in a word, eight of them moved to the word's nibbles. -/
module
public import Mathlib.Data.Nat.Bitwise
public import Mathlib.Tactic.NormNum
public import Mathlib.Tactic.Ring
public import Mathlib.Tactic.IntervalCases
@[expose] public section

namespace Cert.KernelIdeal.Hand

/-- AND splits at a bit position. -/
theorem land_split (p h f H M : ℕ) (hf : f < 2 ^ p) (hM : M < 2 ^ p) :
    (h * 2 ^ p + f) &&& (H * 2 ^ p + M) = (h &&& H) * 2 ^ p + (f &&& M) := by
  have hfm : f &&& M < 2 ^ p := Nat.and_lt_two_pow f hM
  apply Nat.eq_of_testBit_eq; intro i
  rw [Nat.testBit_and, Nat.mul_comm h, Nat.mul_comm H, Nat.mul_comm (h &&& H), Nat.testBit_two_pow_mul_add _ hf,
    Nat.testBit_two_pow_mul_add _ hM, Nat.testBit_two_pow_mul_add _ hfm]
  split <;> simp

/-- XOR splits at a bit position. -/
theorem xor_split (p h f H M : ℕ) (hf : f < 2 ^ p) (hM : M < 2 ^ p) :
    (h * 2 ^ p + f) ^^^ (H * 2 ^ p + M) = (h ^^^ H) * 2 ^ p + (f ^^^ M) := by
  have hfm : f ^^^ M < 2 ^ p := Nat.xor_lt_two_pow hf hM
  apply Nat.eq_of_testBit_eq; intro i
  rw [Nat.testBit_xor, Nat.mul_comm h, Nat.mul_comm H, Nat.mul_comm (h ^^^ H), Nat.testBit_two_pow_mul_add _ hf,
    Nat.testBit_two_pow_mul_add _ hM, Nat.testBit_two_pow_mul_add _ hfm]
  split <;> simp

/-- Code `f` of a word. -/
def code (w : BitVec 32) (f : ℕ) : ℕ := w.toNat / 8 ^ f % 8

theorem code_lt (w : BitVec 32) (f : ℕ) : code w f < 8 := Nat.mod_lt _ (by norm_num)

/-- A word from its ten codes and its top two bits. -/
theorem word_eq (w : BitVec 32) : w.toNat =
    (((((((((w.toNat / 8 ^ 10 * 2 ^ 3 + code w 9) * 2 ^ 3 + code w 8) * 2 ^ 3 + code w 7) * 2 ^ 3 + code w 6) * 2 ^ 3 + code w 5) * 2 ^ 3
      + code w 4) * 2 ^ 3 + code w 3) * 2 ^ 3 + code w 2) * 2 ^ 3 + code w 1) * 2 ^ 3 + code w 0 := by
  have h : ∀ f, w.toNat / 8 ^ f = w.toNat / 8 ^ (f + 1) * 2 ^ 3 + code w f := fun f => by
    unfold code; rw [Nat.pow_succ, ← Nat.div_div_eq_div_mul]; omega
  rw [← h 9, ← h 8, ← h 7, ← h 6, ← h 5, ← h 4, ← h 3, ← h 2, ← h 1, ← h 0, Nat.pow_zero, Nat.div_one]

theorem land7 (f : ℕ) (h : f < 8) : f &&& 7 = f := by
  have := Nat.and_two_pow_sub_one_eq_mod f 3
  norm_num at this; omega

/-- The masked word `a &&& 0x3F1FC1FF…` of the eight codes that move. -/
theorem mask_nib (w : BitVec 32) : (w &&& 1059058175#32).toNat =
    (((((((((code w 9) * 2 ^ 3 + code w 8) * 2 ^ 3 + 0) * 2 ^ 3 + code w 6) * 2 ^ 3 + code w 5) * 2 ^ 3
      + code w 4) * 2 ^ 3 + 0) * 2 ^ 3 + code w 2) * 2 ^ 3 + code w 1) * 2 ^ 3 + code w 0 := by
  have h := fun f => code_lt w f
  rw [BitVec.toNat_and, word_eq w, show (1059058175#32).toNat = (((((((((0 * 2 ^ 3 + 7) * 2 ^ 3 + 7) * 2 ^ 3 + 0) * 2 ^ 3 + 7) * 2 ^ 3 + 7) * 2 ^ 3
      + 7) * 2 ^ 3 + 0) * 2 ^ 3 + 7) * 2 ^ 3 + 7) * 2 ^ 3 + 7 from by decide]
  rw [land_split 3 _ _ _ _ (h 0) (by norm_num), land_split 3 _ _ _ _ (h 1) (by norm_num), land_split 3 _ _ _ _ (h 2) (by norm_num),
    land_split 3 _ _ _ _ (h 3) (by norm_num), land_split 3 _ _ _ _ (h 4) (by norm_num), land_split 3 _ _ _ _ (h 5) (by norm_num),
    land_split 3 _ _ _ _ (h 6) (by norm_num), land_split 3 _ _ _ _ (h 7) (by norm_num), land_split 3 _ _ _ _ (h 8) (by norm_num),
    land_split 3 _ _ _ _ (h 9) (by norm_num)]
  simp only [land7 _ (h _), Nat.and_zero, Nat.zero_mul, Nat.zero_add]

/-- The two codes of the other pair, masked. -/
theorem mask_rest (w : BitVec 32) : (w &&& 14683648#32).toNat = code w 7 * 2 ^ 21 + code w 3 * 2 ^ 9 := by
  have h := fun f => code_lt w f
  rw [BitVec.toNat_and, word_eq w, show (14683648#32).toNat = (((((((((0 * 2 ^ 3 + 0) * 2 ^ 3 + 0) * 2 ^ 3 + 7) * 2 ^ 3 + 0) * 2 ^ 3 + 0) * 2 ^ 3
      + 0) * 2 ^ 3 + 7) * 2 ^ 3 + 0) * 2 ^ 3 + 0) * 2 ^ 3 + 0 from by decide]
  rw [land_split 3 _ _ _ _ (h 0) (by norm_num), land_split 3 _ _ _ _ (h 1) (by norm_num), land_split 3 _ _ _ _ (h 2) (by norm_num),
    land_split 3 _ _ _ _ (h 3) (by norm_num), land_split 3 _ _ _ _ (h 4) (by norm_num), land_split 3 _ _ _ _ (h 5) (by norm_num),
    land_split 3 _ _ _ _ (h 6) (by norm_num), land_split 3 _ _ _ _ (h 7) (by norm_num), land_split 3 _ _ _ _ (h 8) (by norm_num),
    land_split 3 _ _ _ _ (h 9) (by norm_num)]
  simp only [land7 _ (h _), Nat.and_zero, Nat.zero_mul, Nat.zero_add]
  omega

/-- First doubling: codes 1, 2, 5, 6 and 9. -/
theorem mask_up1 (c0 c1 c2 c4 c5 c6 c8 c9 : ℕ) (h0 : c0 < 8) (h1 : c1 < 8) (h2 : c2 < 8) (h4 : c4 < 8) (h5 : c5 < 8) (h6 : c6 < 8)
    (h8 : c8 < 8) (h9 : c9 < 8) (a : BitVec 32)
    (ha : a.toNat = (((((((((c9) * 2 ^ 3 + c8) * 2 ^ 3 + 0) * 2 ^ 3 + c6) * 2 ^ 3 + c5) * 2 ^ 3 + c4) * 2 ^ 3 + 0) * 2 ^ 3 + c2) * 2 ^ 3 + c1) * 2 ^ 3 + c0) :
    (a &&& 941588984#32).toNat = c9 * 2 ^ 27 + c6 * 2 ^ 18 + c5 * 2 ^ 15 + c2 * 2 ^ 6 + c1 * 2 ^ 3 := by
  rw [BitVec.toNat_and, ha, show (941588984#32).toNat = (((((((((7) * 2 ^ 3 + 0) * 2 ^ 3 + 0) * 2 ^ 3 + 7) * 2 ^ 3 + 7) * 2 ^ 3
      + 0) * 2 ^ 3 + 0) * 2 ^ 3 + 7) * 2 ^ 3 + 7) * 2 ^ 3 + 0 from by decide]
  rw [land_split 3 _ _ _ _ h0 (by norm_num), land_split 3 _ _ _ _ h1 (by norm_num), land_split 3 _ _ _ _ h2 (by norm_num),
    land_split 3 _ _ _ _ (by norm_num) (by norm_num), land_split 3 _ _ _ _ h4 (by norm_num), land_split 3 _ _ _ _ h5 (by norm_num),
    land_split 3 _ _ _ _ h6 (by norm_num), land_split 3 _ _ _ _ (by norm_num) (by norm_num), land_split 3 _ _ _ _ h8 (by norm_num)]
  simp only [land7 _ h1, land7 _ h2, land7 _ h5, land7 _ h6, land7 _ h9, Nat.and_zero, Nat.zero_and]
  omega

/-- Second doubling: codes 2 and 6. -/
theorem mask_up2 (c0 c1 c2 c4 c5 c6 c8 c9 : ℕ) (h0 : c0 < 8) (h1 : c1 < 8) (h2 : c2 < 8) (h4 : c4 < 8) (h5 : c5 < 8) (h6 : c6 < 8)
    (h8 : c8 < 8) (h9 : c9 < 8) (a : BitVec 32)
    (ha : a.toNat = (((((c9 * 2 ^ 4 + c8) * 2 ^ 2) * 2 ^ 3 + c6) * 2 ^ 7 + (c5 * 2 ^ 4 + c4)) * 2 ^ 2) * 2 ^ 10 + (c2 * 2 ^ 7 + (c1 * 2 ^ 4 + c0))) :
    (a &&& 3670912#32).toNat = c6 * 2 ^ 19 + c2 * 2 ^ 7 := by
  rw [BitVec.toNat_and, ha, show (3670912#32).toNat = ((((0 * 2 ^ 2) * 2 ^ 3 + 7) * 2 ^ 7 + 0) * 2 ^ 2) * 2 ^ 10 + (7 * 2 ^ 7 + 0) from by decide]
  rw [land_split 10 _ _ _ _ (by omega) (by omega), land_split 7 _ _ _ _ (by omega) (by omega)]
  rw [show ∀ x y : ℕ, (x * 2 ^ 2) &&& (y * 2 ^ 2) = (x &&& y) * 2 ^ 2 from fun x y => by simpa using land_split 2 x 0 y 0 (by norm_num) (by norm_num)]
  rw [land_split 7 _ _ _ _ (by omega) (by omega), land_split 3 _ _ _ _ h6 (by norm_num)]
  simp only [land7 _ h2, land7 _ h6, Nat.and_zero, Nat.zero_mul]
  omega

/-- The field a nibble holds. -/
def nibField (k : ℕ) : ℕ := k + (if 3 ≤ k then 1 else 0) + (if 6 ≤ k then 1 else 0)

/-- The word of nibbles before the zero points are added. -/
def spread (w : BitVec 32) : BitVec 32 :=
  (w &&& 1059058175#32) + ((w &&& 1059058175#32) &&& 941588984#32)
    + (((w &&& 1059058175#32) + ((w &&& 1059058175#32) &&& 941588984#32)) &&& 3670912#32)

/-- The word of eight nibbles. -/
def horner (n : ℕ → ℕ) : ℕ := ((((((n 7 * 16 + n 6) * 16 + n 5) * 16 + n 4) * 16 + n 3) * 16 + n 2) * 16 + n 1) * 16 + n 0

theorem spread_eq (w : BitVec 32) : (spread w).toNat = horner fun k => code w (nibField k) := by
  have h := fun f => code_lt w f
  have e1 := mask_up1 _ _ _ _ _ _ _ _ (h 0) (h 1) (h 2) (h 4) (h 5) (h 6) (h 8) (h 9) _ (mask_nib w)
  have e2 : ((w &&& 1059058175#32) + ((w &&& 1059058175#32) &&& 941588984#32)).toNat = (((((code w 9 * 2 ^ 4 + code w 8) * 2 ^ 2) * 2 ^ 3 + code w 6) * 2 ^ 7 + (code w 5 * 2 ^ 4 + code w 4)) * 2 ^ 2) * 2 ^ 10 + (code w 2 * 2 ^ 7 + (code w 1 * 2 ^ 4 + code w 0)) := by
    rw [BitVec.toNat_add, e1, mask_nib]
    have := h 0; have := h 1; have := h 2; have := h 4; have := h 5; have := h 6; have := h 8; have := h 9
    rw [Nat.mod_eq_of_lt] <;> omega
  have e3 := mask_up2 _ _ _ _ _ _ _ _ (h 0) (h 1) (h 2) (h 4) (h 5) (h 6) (h 8) (h 9) _ e2
  unfold spread
  rw [BitVec.toNat_add, e2, e3]
  simp only [horner, nibField, Nat.reduceLeDiff, if_true, if_false, Nat.reduceAdd]
  clear e1 e2 e3
  norm_num
  have := h 0; have := h 1; have := h 2; have := h 4; have := h 5; have := h 6; have := h 8; have := h 9
  rw [Nat.mod_eq_of_lt] <;> omega

theorem horner_lt (n : ℕ → ℕ) (h : ∀ k, n k < 16) : horner n < 4294967296 := by
  have h0 := h 0; have h1 := h 1; have h2 := h 2; have h3 := h 3; have h4 := h 4; have h5 := h 5; have h6 := h 6; have h7 := h 7
  unfold horner; clear h; omega

theorem horner_add (n m : ℕ → ℕ) : horner n + horner m = horner fun k => n k + m k := by
  unfold horner; ring

/-- Flipping the top bit of each nibble. -/
theorem xor_nibs (n : ℕ → ℕ) (h : ∀ k, n k < 16) (a : BitVec 32) (ha : a.toNat = horner n) :
    (a ^^^ 2290649224#32).toNat = horner fun k => n k ^^^ 8 := by
  have s := fun (x f X M : ℕ) (hf : f < 16) (hM : M < 16) => xor_split 4 x f X M hf hM
  simp only [show (2 : ℕ) ^ 4 = 16 from rfl] at s
  rw [BitVec.toNat_xor, ha, show (2290649224#32).toNat = horner fun _ => 8 from by decide]
  unfold horner
  rw [s _ _ _ _ (h 0) (by norm_num), s _ _ _ _ (h 1) (by norm_num), s _ _ _ _ (h 2) (by norm_num), s _ _ _ _ (h 3) (by norm_num),
    s _ _ _ _ (h 4) (by norm_num), s _ _ _ _ (h 5) (by norm_num), s _ _ _ _ (h 6) (by norm_num)]

/-- One nibble of the word, what is above it and what is below. -/
theorem nib_pick (y : ℕ → ℕ) (hy : ∀ k, y k < 16) (k : ℕ) (hk : k < 8) :
    ∃ hi lo, lo < 16 ^ k ∧ horner y = (hi * 16 + y k) * 16 ^ k + lo := by
  have h0 := hy 0; have h1 := hy 1; have h2 := hy 2; have h3 := hy 3; have h4 := hy 4; have h5 := hy 5; have h6 := hy 6
  clear hy
  unfold horner
  rcases k with _ | _ | _ | _ | _ | _ | _ | _ | k
  · exact ⟨((((((y 7) * 16 + y 6) * 16 + y 5) * 16 + y 4) * 16 + y 3) * 16 + y 2) * 16 + y 1, 0, by norm_num, by ring⟩
  · exact ⟨(((((y 7) * 16 + y 6) * 16 + y 5) * 16 + y 4) * 16 + y 3) * 16 + y 2, y 0, by norm_num; omega, by ring⟩
  · exact ⟨((((y 7) * 16 + y 6) * 16 + y 5) * 16 + y 4) * 16 + y 3, y 1 * 16 + y 0, by norm_num; omega, by ring⟩
  · exact ⟨(((y 7) * 16 + y 6) * 16 + y 5) * 16 + y 4, (y 2 * 16 + y 1) * 16 + y 0, by norm_num; omega, by ring⟩
  · exact ⟨((y 7) * 16 + y 6) * 16 + y 5, ((y 3 * 16 + y 2) * 16 + y 1) * 16 + y 0, by norm_num; omega, by ring⟩
  · exact ⟨(y 7) * 16 + y 6, (((y 4 * 16 + y 3) * 16 + y 2) * 16 + y 1) * 16 + y 0, by norm_num; omega, by ring⟩
  · exact ⟨y 7, ((((y 5 * 16 + y 4) * 16 + y 3) * 16 + y 2) * 16 + y 1) * 16 + y 0, by norm_num; omega, by ring⟩
  · exact ⟨0, (((((y 6 * 16 + y 5) * 16 + y 4) * 16 + y 3) * 16 + y 2) * 16 + y 1) * 16 + y 0, by norm_num; omega, by ring⟩
  · omega

/-- Shifted to the top and back, a nibble is signed. -/
theorem top_nib (t : BitVec 32) (m l : ℕ) (hm : m < 16) (hl : l < 268435456) (ht : t.toNat = m * 268435456 + l) :
    (t.sshiftRight 28).toInt = if m < 8 then (m : ℤ) else (m : ℤ) - 16 := by
  rw [BitVec.toInt_sshiftRight, BitVec.toInt_eq_toNat_cond, ht, Int.shiftRight_eq_div_pow]
  norm_num
  clear ht
  split <;> split <;> push_cast <;> omega

theorem shl_nib (x : BitVec 32) (k m hi lo : ℕ) (hk : k < 8) (hm : m < 16) (hlo : lo < 16 ^ k)
    (hx : x.toNat = (hi * 16 + m) * 16 ^ k + lo) :
    ∃ l < 268435456, (x <<< (4 * (7 - k))).toNat = m * 268435456 + l := by
  have e : 16 ^ k * 2 ^ (4 * (7 - k)) = 268435456 := by
    rw [show (16 : ℕ) = 2 ^ 4 from rfl, ← Nat.pow_mul, ← Nat.pow_add, show 4 * k + 4 * (7 - k) = 28 from by omega]
  refine ⟨lo * 2 ^ (4 * (7 - k)), by rw [← e]; exact Nat.mul_lt_mul_of_pos_right hlo (Nat.two_pow_pos _), ?_⟩
  rw [BitVec.toNat_shiftLeft, hx, Nat.shiftLeft_eq]
  have hl : lo * 2 ^ (4 * (7 - k)) < 268435456 := by rw [← e]; exact Nat.mul_lt_mul_of_pos_right hlo (Nat.two_pow_pos _)
  rw [show ((hi * 16 + m) * 16 ^ k + lo) * 2 ^ (4 * (7 - k)) = (hi * 16 + m) * (16 ^ k * 2 ^ (4 * (7 - k))) + lo * 2 ^ (4 * (7 - k)) from by ring, e,
    show (2 : ℕ) ^ 32 = 4294967296 from by norm_num]
  generalize lo * 2 ^ (4 * (7 - k)) = l at *
  clear hx e hlo
  omega

/-- The zero-point word: nibble `k` holds `8 - z k`. -/
theorem nib_value (w zw : BitVec 32) (z : ℕ → ℕ) (hz : ∀ k, z k ≤ 8) (hzw : zw.toNat = horner fun k => 8 - z k)
    (k : ℕ) (hk : k < 8) :
    ((((spread w + zw) ^^^ 2290649224#32) <<< (4 * (7 - k))).sshiftRight 28).toInt = (code w (nibField k) : ℤ) - z k := by
  have hn : ∀ i, (code w (nibField i) + (8 - z i)) < 16 := fun i => by have := code_lt w (nibField i); omega
  have es : (spread w + zw).toNat = horner fun i => code w (nibField i) + (8 - z i) := by
    rw [BitVec.toNat_add, spread_eq, hzw, horner_add]
    exact Nat.mod_eq_of_lt (horner_lt _ hn)
  have ex := xor_nibs _ hn _ es
  have hy : ∀ i, (code w (nibField i) + (8 - z i)) ^^^ 8 < 16 := fun i => Nat.xor_lt_two_pow (n := 4) (hn i) (by norm_num)
  obtain ⟨hi, lo, hlo, e⟩ := nib_pick _ hy k hk
  obtain ⟨l, hl, et⟩ := shl_nib _ k _ hi lo hk (hy k) hlo (ex.trans e)
  rw [top_nib _ _ l (hy k) hl et]
  have hzk := hz k; have hnk := hn k
  generalize hc : code w (nibField k) = c at *
  generalize z k = zk at *
  have hm : ((c + (8 - zk)) ^^^ 8 : ℕ) = if c + (8 - zk) < 8 then c + (8 - zk) + 8 else c + (8 - zk) - 8 := by
    generalize c + (8 - zk) = q at hnk ⊢
    clear * - hnk
    interval_cases q <;> rfl
  rw [hm]
  clear * - hzk hnk
  split <;> split <;> omega

/-- The halves of a word of the other pair: codes 3 and 7 in two bf16 mantissas. -/
theorem rest_word (w : BitVec 32) : (((w &&& 14683648#32) >>> 5) ||| 1124090112#32).toNat = (0x4300 + code w 7) * 2 ^ 16 + (0x4100 + code w 3 * 16) := by
  have h3 := code_lt w 3; have h7 := code_lt w 7
  have e : ((w &&& 14683648#32) >>> 5).toNat = code w 7 * 2 ^ 16 + code w 3 * 2 ^ 4 := by
    rw [BitVec.toNat_ushiftRight, mask_rest, Nat.shiftRight_eq_div_pow]; omega
  rw [BitVec.toNat_or, e, show (1124090112#32).toNat = 0x4300 * 2 ^ 16 + 0x4100 from by decide]
  generalize code w 3 = a at *; generalize code w 7 = b at *
  interval_cases a <;> interval_cases b <;> rfl

end Cert.KernelIdeal.Hand
end
-- ==== Proof.Ideal.Canon.lean ====
/- The two kinds of product of a trip, as functions of the loaded vectors, read at an index. -/
module
public import proofs.«01_k».proof.Proof.Ideal.Idx
public import proofs.«01_k».proof.Proof.Ideal.Words
public import Idealize.ShloMosaic.Lib.BitcastPair
@[expose] public section
noncomputable section
namespace Cert.KernelIdeal.Hand
open Cert.KernelIdeal Cert.KernelIdeal.Gen
open Idealize.ShloMosaic

/-- Half a tile's right operand: 32 word rows as 256 rows of code less zero point, scaled. -/
def nibHalf (w : IVec S32x128 32) (zc : IVec S1x1x128 32) (s : FVec Ideal S1x16x128 .bf16) : FVec Ideal S256x128 .bf16 :=
  shapeCast S256x128 (mulf (shapeCast S16x16x128 (truncf .bf16 (sitofp .f32 (shapeCast S256x128
    (shrsi (shli (broadcastTo S32x8x128 (shapeCast S32x1x128 (shapeCast S32x1x128
      (xori (addi (addi (addi (andi w (broadcast S32x128 1059058175#32)) (andi (andi w (broadcast S32x128 1059058175#32)) (broadcast S32x128 941588984#32)))
          (andi (addi (andi w (broadcast S32x128 1059058175#32)) (andi (andi w (broadcast S32x128 1059058175#32)) (broadcast S32x128 941588984#32))) (broadcast S32x128 3670912#32)))
        (broadcastTo S32x128 (shapeCast S1x128 zc shapeCasts_S1x1x128_S1x128) broadcasts_S1x128_S32x128))
        (broadcast S32x128 2290649224#32)) shapeCasts_S32x128_S32x1x128) shapeCasts_S32x1x128_S32x1x128) broadcasts_S32x1x128_S32x8x128)
      (muli (subi (broadcast S32x8x128 7#32) (iota Kind.tc S32x8x128 32 [1] iota_S32x8x128_d1_w32)) (broadcast S32x8x128 4#32)))
      (broadcast S32x8x128 28#32)) shapeCasts_S32x8x128_S256x128)) bitsLt_bf16_f32) shapeCasts_S256x128_S16x16x128)
    (broadcastTo S16x16x128 (shapeCast S1x16x128 (shapeCast S16x128 s shapeCasts_S1x16x128_S16x128) shapeCasts_S16x128_S1x16x128) broadcasts_S1x16x128_S16x16x128))
    shapeCasts_S16x16x128_S256x128

/-- Half a tile's right operand, the other pair: 128 word rows as 256 rows. -/
def restHalf (w : IVec S128x128 32) (z : IVec S1x1x128 32) (s : FVec Ideal S1x2x128 .bf16) : FVec Ideal S256x128 .bf16 :=
  shapeCast S256x128 (mulf (subf (shapeCast S16x16x128 (bitcastToFloat FTy.bf16 (bitcast S256x128 16
      (ori (shrui (andi w (broadcast S128x128 14683648#32)) (broadcast S128x128 5#32)) (broadcast S128x128 1124090112#32))
      bitcasts_S128x128_w32_S256x128_w16)) shapeCasts_S256x128_S16x16x128)
      (broadcastTo S16x16x128 (shapeCast S1x16x128 (bitcastToFloat FTy.bf16 (bitcast S16x128 16 (broadcastTo S8x128
        (shapeCast S1x128 (shapeCast S1x128 z shapeCasts_S1x1x128_S1x128) shapeCasts_S1x128_S1x128) broadcasts_S1x128_S8x128)
        bitcasts_S8x128_w32_S16x128_w16)) shapeCasts_S16x128_S1x16x128) broadcasts_S1x16x128_S16x16x128))
    (broadcastTo S16x16x128 (shapeCast S1x16x128 (concatenate S16x128 0
      [⟨S2x128, shapeCast S2x128 s shapeCasts_S1x2x128_S2x128⟩, ⟨S2x128, shapeCast S2x128 s shapeCasts_S1x2x128_S2x128⟩, ⟨S2x128, shapeCast S2x128 s shapeCasts_S1x2x128_S2x128⟩, ⟨S2x128, shapeCast S2x128 s shapeCasts_S1x2x128_S2x128⟩,
       ⟨S2x128, shapeCast S2x128 s shapeCasts_S1x2x128_S2x128⟩, ⟨S2x128, shapeCast S2x128 s shapeCasts_S1x2x128_S2x128⟩, ⟨S2x128, shapeCast S2x128 s shapeCasts_S1x2x128_S2x128⟩, ⟨S2x128, shapeCast S2x128 s shapeCasts_S1x2x128_S2x128⟩]
      concatenates_S2x128_S2x128_S2x128_S2x128_S2x128_S2x128_S2x128_S2x128_S16x128_d0) shapeCasts_S16x128_S1x16x128) broadcasts_S1x16x128_S16x16x128))
    shapeCasts_S16x16x128_S256x128

/-- Sixteen rows of a tile's left operand: one pair's two rows, repeated, kept where the lane is the row's own. -/
def nibRows (e o : FVec Ideal S1x1x1x256 .bf16) (m : IVec S16x256 1) : FVec Ideal S16x256 .bf16 :=
  select m (concatenate S16x256 0
    [⟨S1x256, shapeCast S1x256 e shapeCasts_S1x1x1x256_S1x256⟩, ⟨S1x256, shapeCast S1x256 o shapeCasts_S1x1x1x256_S1x256⟩,
     ⟨S1x256, shapeCast S1x256 e shapeCasts_S1x1x1x256_S1x256⟩, ⟨S1x256, shapeCast S1x256 o shapeCasts_S1x1x1x256_S1x256⟩,
     ⟨S1x256, shapeCast S1x256 e shapeCasts_S1x1x1x256_S1x256⟩, ⟨S1x256, shapeCast S1x256 o shapeCasts_S1x1x1x256_S1x256⟩,
     ⟨S1x256, shapeCast S1x256 e shapeCasts_S1x1x1x256_S1x256⟩, ⟨S1x256, shapeCast S1x256 o shapeCasts_S1x1x1x256_S1x256⟩,
     ⟨S1x256, shapeCast S1x256 e shapeCasts_S1x1x1x256_S1x256⟩, ⟨S1x256, shapeCast S1x256 o shapeCasts_S1x1x1x256_S1x256⟩,
     ⟨S1x256, shapeCast S1x256 e shapeCasts_S1x1x1x256_S1x256⟩, ⟨S1x256, shapeCast S1x256 o shapeCasts_S1x1x1x256_S1x256⟩,
     ⟨S1x256, shapeCast S1x256 e shapeCasts_S1x1x1x256_S1x256⟩, ⟨S1x256, shapeCast S1x256 o shapeCasts_S1x1x1x256_S1x256⟩,
     ⟨S1x256, shapeCast S1x256 e shapeCasts_S1x1x1x256_S1x256⟩, ⟨S1x256, shapeCast S1x256 o shapeCasts_S1x1x1x256_S1x256⟩]
    concatenates_S1x256_S1x256_S1x256_S1x256_S1x256_S1x256_S1x256_S1x256_S1x256_S1x256_S1x256_S1x256_S1x256_S1x256_S1x256_S1x256_S16x256_d0)
    (broadcast S16x256 (FloatOps.ofBits FTy.bf16 0#16))

/-- A tile's left operand: the six pairs' rows. -/
def nibLhs (r0 r1 r2 r3 r4 r5 : FVec Ideal S16x256 .bf16) : FVec Ideal S96x256 .bf16 :=
  concatenate S96x256 0 [⟨S16x256, r0⟩, ⟨S16x256, r1⟩, ⟨S16x256, r2⟩, ⟨S16x256, r3⟩, ⟨S16x256, r4⟩, ⟨S16x256, r5⟩] concatenates_S16x256_S16x256_S16x256_S16x256_S16x256_S16x256_S96x256_d0

/-- Two halves of a right operand side by side. -/
def beside (l r : FVec Ideal S256x128 .bf16) : FVec Ideal S256x256 .bf16 :=
  concatenate S256x256 1 [⟨S256x128, l⟩, ⟨S256x128, r⟩] concatenates_S256x128_S256x128_S256x256_d1

/-- A tile of the first accumulator after a trip. -/
def nibTile (acc : FVec Ideal S96x256 .f32) (l0 l1 l2 l3 : FVec Ideal S96x256 .bf16) (r0 r1 r2 r3 : FVec Ideal S256x256 .bf16) : FVec Ideal S96x256 .f32 :=
  shapeCast S96x256 (addf acc (addf (addf (addf (addf (broadcast S96x256 (FloatOps.ofBits FTy.f32 0#32))
    (matmul dot_S96x256_S256x256_S96x256_1_0_0_1_n_n none l0 r0 (constant S96x256 FTy.f32 0#32)))
    (matmul dot_S96x256_S256x256_S96x256_1_0_0_1_n_n none l1 r1 (constant S96x256 FTy.f32 0#32)))
    (matmul dot_S96x256_S256x256_S96x256_1_0_0_1_n_n none l2 r2 (constant S96x256 FTy.f32 0#32)))
    (matmul dot_S96x256_S256x256_S96x256_1_0_0_1_n_n none l3 r3 (constant S96x256 FTy.f32 0#32)))) shapeCasts_S96x256_S96x256

/-- A tile of the second accumulator after a trip. -/
def restTile (acc : FVec Ideal S32x256 .f32) (l : FVec Ideal S1x32x256 .bf16) (r : FVec Ideal S256x256 .bf16) : FVec Ideal S32x256 .f32 :=
  shapeCast S32x256 (addf acc (matmul dot_S32x256_S256x256_S32x256_1_0_0_1_n_n none (shapeCast S32x256 l shapeCasts_S1x32x256_S32x256) r (constant S32x256 FTy.f32 0#32))) shapeCasts_S32x256_S32x256

theorem shift_nib (x : BitVec 32) (k : ℕ) (hk : k < 8) :
    IntOp.shrsi ArithUnit.vector (IntOp.shli ArithUnit.vector x (IntOp.muli (IntOp.subi 7#32 (BitVec.ofNat 32 k)) 4#32)) 28#32
      = (x <<< (4 * (7 - k))).sshiftRight 28 := by
  interval_cases k <;> rfl

theorem nibHalf_apply (w : IVec S32x128 32) (zc : IVec S1x1x128 32) (s : FVec Ideal S1x16x128 .bf16) (i : Fin 256) (j : Fin 128)
    (z : ℕ → ℕ) (hz : ∀ k, z k ≤ 8) (hzw : (zc (ix3 0 0 j)).toNat = horner fun k => 8 - z k) :
    nibHalf w zc s (ix2 i j) = ((((code (w (ix2 ⟨i.val / 8, by omega⟩ j)) (nibField (i.val % 8)) : ℤ) - (z (i.val % 8) : ℤ) : ℤ) : ℝ) : EReal)
      * s (ix3 0 ⟨i.val % 16, by omega⟩ j) := by
  pointwise [nibHalf]
  rw [shift_nib _ _ (Nat.mod_lt _ (by norm_num))]
  have h := nib_value (w (ix2 ⟨i.val / 8, by omega⟩ j)) (zc (ix3 0 0 j)) z hz hzw (i.val % 8) (Nat.mod_lt _ (by norm_num))
  rw [← h]
  rfl

theorem nibRows_apply (e o : FVec Ideal S1x1x1x256 .bf16) (m : IVec S16x256 1) (r : Fin 16) (i : Fin 256) :
    nibRows e o m (ix2 r i) = if m (ix2 r i) = 1#1 then (if r.val % 2 = 0 then e (ix4 0 0 0 i) else o (ix4 0 0 0 i)) else 0 := by
  pointwise [nibRows]
  fin_vals r with hr
  all_goals simp only [hr, Nat.reduceSub, Nat.reduceLT, Nat.reduceMod, ↓reduceDIte, ↓reduceIte, Nat.one_ne_zero, Scalar.select, Scalar.ofBits, if_true, if_false]
  all_goals rfl

theorem nibLhs_apply (r : Fin 6 → FVec Ideal S16x256 .bf16) (a : Fin 96) (i : Fin 256) :
    nibLhs (r 0) (r 1) (r 2) (r 3) (r 4) (r 5) (ix2 a i) = r ⟨a.val / 16, by omega⟩ (ix2 ⟨a.val % 16, by omega⟩ i) := by
  pointwise [nibLhs]
  have h : ∀ (p p' : Fin 6) (u u' : Fin 16), p.val = p'.val → u.val = u'.val → r p (ix2 u i) = r p' (ix2 u' i) := by
    intro p p' u u' e e'; rw [Fin.ext e, Fin.ext e']
  split_ifs
  all_goals exact h _ _ _ _ (by simp only [Fin.isValue, Fin.val_zero, Fin.val_one, Fin.val_two, Fin.coe_ofNat_eq_mod, Nat.reduceMod]; omega) (by simp only []; omega)

theorem beside_apply (l r : FVec Ideal S256x128 .bf16) (i j : Fin 256) :
    beside l r (ix2 i j) = if h : j.val < 128 then l (ix2 i ⟨j.val, h⟩) else r (ix2 i ⟨j.val - 128, by omega⟩) := by
  pointwise [beside]

theorem nibTile_apply (acc : FVec Ideal S96x256 .f32) (l0 l1 l2 l3 : FVec Ideal S96x256 .bf16) (r0 r1 r2 r3 : FVec Ideal S256x256 .bf16) (a : Fin 96) (j : Fin 256) :
    nibTile acc l0 l1 l2 l3 r0 r1 r2 r3 (ix2 a j) = acc (ix2 a j) + ((((∑ i : Fin 256, l0 (ix2 a i) * r0 (ix2 i j)) + ∑ i : Fin 256, l1 (ix2 a i) * r1 (ix2 i j))
      + ∑ i : Fin 256, l2 (ix2 a i) * r2 (ix2 i j)) + ∑ i : Fin 256, l3 (ix2 a i) * r3 (ix2 i j)) := by
  pointwise [nibTile]

theorem restTile_apply (acc : FVec Ideal S32x256 .f32) (l : FVec Ideal S1x32x256 .bf16) (r : FVec Ideal S256x256 .bf16) (a : Fin 32) (j : Fin 256) :
    restTile acc l r (ix2 a j) = acc (ix2 a j) + ∑ i : Fin 256, l (ix3 0 a i) * r (ix2 i j) := by
  pointwise [restTile]

theorem bfLo (c : ℕ) (h : c ≤ 8) : Ideal.ofBits .bf16 (BitVec.ofNat 16 (0x4100 + 16 * c)) = (((8 + c : ℕ) : ℝ) : EReal) := by
  interval_cases c <;> (simp [Ideal.ofBits, Ideal.ieee, -EReal.coe_mul]; try norm_num)
theorem bfHi (c : ℕ) (h : c ≤ 8) : Ideal.ofBits .bf16 (BitVec.ofNat 16 (0x4300 + c)) = (((128 + c : ℕ) : ℝ) : EReal) := by
  interval_cases c <;> (simp [Ideal.ofBits, Ideal.ieee, -EReal.coe_mul]; try norm_num)

theorem half_eq (v : BitVec 32) (hi lo n : ℕ) (hlo : lo < 65536) (hhi : hi < 65536) (h : v.toNat = hi * 2 ^ 16 + lo) :
    v.extractLsb' (16 * (n % 2)) 16 = BitVec.ofNat 16 (if n % 2 = 0 then lo else hi) := by
  apply BitVec.eq_of_toNat_eq
  rw [BitVec.extractLsb'_toNat, h, BitVec.toNat_ofNat, Nat.shiftRight_eq_div_pow]
  rcases Nat.mod_two_eq_zero_or_one n with e | e <;> rw [e] <;> norm_num <;> omega

theorem bits256 (x : IVec S128x128 32) (i : Fin 256) (j : Fin 128) :
    bitcast S256x128 16 x bitcasts_S128x128_w32_S256x128_w16 (ix2 i j) = (x (ix2 ⟨i.val / 2, by omega⟩ j)).extractLsb' (16 * (i.val % 2)) 16 := by
  rw [bitcast_32_16]
  refine congrArg₂ (fun a b => BitVec.extractLsb' (16 * b) 16 (x a)) (funext fun a => ?_) rfl
  fin_cases a <;> rfl
theorem bits16 (x : IVec S8x128 32) (i : Fin 16) (j : Fin 128) :
    bitcast S16x128 16 x bitcasts_S8x128_w32_S16x128_w16 (ix2 i j) = (x (ix2 ⟨i.val / 2, by omega⟩ j)).extractLsb' (16 * (i.val % 2)) 16 := by
  rw [bitcast_32_16]
  refine congrArg₂ (fun a b => BitVec.extractLsb' (16 * b) 16 (x a)) (funext fun a => ?_) rfl
  fin_cases a <;> rfl

theorem restHalf_apply (w : IVec S128x128 32) (zc : IVec S1x1x128 32) (s : FVec Ideal S1x2x128 .bf16) (i : Fin 256) (j : Fin 128)
    (z : ℕ → ℕ) (hz : ∀ k, z k ≤ 8) (hzw : (zc (ix3 0 0 j)).toNat = (0x4300 + z 1) * 2 ^ 16 + (0x4100 + 16 * z 0)) :
    restHalf w zc s (ix2 i j) = ((((code (w (ix2 ⟨i.val / 2, by omega⟩ j)) (3 + 4 * (i.val % 2)) : ℤ) - (z (i.val % 2) : ℤ) : ℤ) : ℝ) : EReal)
      * s (ix3 0 ⟨i.val % 2, by omega⟩ j) := by
  pointwise [restHalf]
  rw [bits256, bits16]
  pointwise
  have hl : ∀ u u' : Fin 2, u.val = u'.val → s (ix3 0 u j) = s (ix3 0 u' j) := fun u u' e => by rw [Fin.ext e]
  refine congrArg₂ (· * ·) ?_ (by split_ifs <;> exact hl _ _ (by simp only []; omega))
  have hw := rest_word (w (ix2 ⟨i.val / 2, by omega⟩ j))
  have h3 := code_lt (w (ix2 ⟨i.val / 2, by omega⟩ j)) 3
  have h7 := code_lt (w (ix2 ⟨i.val / 2, by omega⟩ j)) 7
  have z0 := hz 0; have z1 := hz 1
  rw [show i.val % 16 % 2 = i.val % 2 from by omega]
  have e1 := half_eq _ _ _ i.val (by omega) (by omega) hw
  have e2 := half_eq _ _ _ i.val (by omega) (by omega) hzw
  rw [e2]
  refine (congrArg (fun t => Ideal.ofBits .bf16 t - _) e1).trans ?_
  rcases Nat.mod_two_eq_zero_or_one i.val with e | e
  · simp only [e, ↓reduceIte]
    rw [Nat.mul_comm, bfLo _ (by omega), bfLo _ z0, ← EReal.coe_sub]
    congr 1; push_cast; ring
  · simp only [e, Nat.one_ne_zero, ↓reduceIte]
    rw [bfHi _ (by omega), bfHi _ z1, ← EReal.coe_sub]
    congr 1; push_cast; ring
end Cert.KernelIdeal.Hand
end
-- ==== Proof.Ideal.Tile.lean ====
/- A trip's tiles in terms of the arguments: what the tables hold, and the sums of one group of 128 rows. -/
module
public import proofs.«01_k».proof.Proof.Ideal.Canon
@[expose] public section
noncomputable section
namespace Cert.KernelIdeal.Hand
open Cert.KernelIdeal Cert.KernelIdeal.Gen
open Idealize.ShloMosaic

/-- The dequantised weight of row `d`, field `f`, word column `j`. -/
def deq (W : S3840x1536.Idx → BitVec 32) (s : S30x15360.Idx → EReal) (z : S30x15360.Idx → BitVec 8) (d f j : ℕ) : EReal :=
  ((((code (at2 (A := 3840) (B := 1536) W d j) f : ℤ) - ((at2 (A := 30) (B := 15360) z (d / 128) (f * 1536 + j)).toNat : ℤ) : ℤ) : ℝ) : EReal)
    * at2 (A := 30) (B := 15360) s (d / 128) (f * 1536 + j)

theorem sum_blocks (f : ℕ → EReal) (m n : ℕ) : ∑ i ∈ Finset.range (m * n), f i = ∑ r ∈ Finset.range n, ∑ e ∈ Finset.range m, f (m * r + e) := by
  induction n with
  | zero => simp
  | succ n ih => rw [Nat.mul_succ, Finset.sum_range_add, ih, Finset.sum_range_succ]

/-- A masked sum over 256 lanes is a sum over every `m`-th. -/
theorem sum_own (m n k : ℕ) (hm : 0 < m) (h : m * n = 256) (hk : k < m) (X : ℕ → EReal) (Y : ℕ → ℕ → EReal) :
    ∑ i : Fin 256, (if i.val % m = k then X (i.val / m) else 0) * Y (i.val / m) (i.val % m) = ∑ r ∈ Finset.range n, X r * Y r k := by
  rw [Fin.sum_univ_eq_sum_range (fun i => (if i % m = k then X (i / m) else 0) * Y (i / m) (i % m)) 256, ← h, sum_blocks]
  refine Finset.sum_congr rfl fun r _ => ?_
  rw [Finset.sum_eq_single k]
  · rw [Nat.mul_add_mod, Nat.mod_eq_of_lt hk, if_pos rfl, Nat.mul_add_div hm, Nat.div_eq_of_lt hk, Nat.add_zero]
  · intro e he hne
    rw [Nat.mul_add_mod, Nat.mod_eq_of_lt (Finset.mem_range.1 he), if_neg hne, zero_mul]
  · intro hn; exact absurd (Finset.mem_range.2 hk) hn

/-- A tile of the first accumulator gains the group's 128 products. -/
theorem nibTile_spec (x : S12x3840.Idx → EReal) (W : S3840x1536.Idx → BitVec 32) (s : S30x15360.Idx → EReal) (z : S30x15360.Idx → BitVec 8) (g n : ℕ)
    (acc : FVec Ideal S96x256 .f32) (l0 l1 l2 l3 : FVec Ideal S96x256 .bf16) (r0 r1 r2 r3 : FVec Ideal S256x256 .bf16)
    (hL0 : ∀ a i, l0 (ix2 a i) = if i.val % 8 = a.val % 16 / 2 then at2 (A := 12) (B := 3840) x (2 * (a.val / 16) + a.val % 2) (128 * g + 32 * 0 + i.val / 8) else 0)
    (hR0 : ∀ i j, r0 (ix2 i j) = deq W s z (128 * g + 32 * 0 + i.val / 8) (nibField (i.val % 8)) (256 * n + j.val))
    (hL1 : ∀ a i, l1 (ix2 a i) = if i.val % 8 = a.val % 16 / 2 then at2 (A := 12) (B := 3840) x (2 * (a.val / 16) + a.val % 2) (128 * g + 32 * 1 + i.val / 8) else 0)
    (hR1 : ∀ i j, r1 (ix2 i j) = deq W s z (128 * g + 32 * 1 + i.val / 8) (nibField (i.val % 8)) (256 * n + j.val))
    (hL2 : ∀ a i, l2 (ix2 a i) = if i.val % 8 = a.val % 16 / 2 then at2 (A := 12) (B := 3840) x (2 * (a.val / 16) + a.val % 2) (128 * g + 32 * 2 + i.val / 8) else 0)
    (hR2 : ∀ i j, r2 (ix2 i j) = deq W s z (128 * g + 32 * 2 + i.val / 8) (nibField (i.val % 8)) (256 * n + j.val))
    (hL3 : ∀ a i, l3 (ix2 a i) = if i.val % 8 = a.val % 16 / 2 then at2 (A := 12) (B := 3840) x (2 * (a.val / 16) + a.val % 2) (128 * g + 32 * 3 + i.val / 8) else 0)
    (hR3 : ∀ i j, r3 (ix2 i j) = deq W s z (128 * g + 32 * 3 + i.val / 8) (nibField (i.val % 8)) (256 * n + j.val))
    (a : Fin 96) (j : Fin 256) :
    nibTile acc l0 l1 l2 l3 r0 r1 r2 r3 (ix2 a j) = acc (ix2 a j)
      + ∑ d ∈ Finset.range 128, at2 (A := 12) (B := 3840) x (2 * (a.val / 16) + a.val % 2) (128 * g + d) * deq W s z (128 * g + d) (nibField (a.val % 16 / 2)) (256 * n + j.val) := by
  rw [nibTile_apply]
  simp only [hL0, hL1, hL2, hL3, hR0, hR1, hR2, hR3]
  rw [show 128 = 32 * 4 from rfl, sum_blocks]
  have h : ∀ q : ℕ, ∑ i : Fin 256, (if i.val % 8 = a.val % 16 / 2 then at2 (A := 12) (B := 3840) x (2 * (a.val / 16) + a.val % 2) (32 * 4 * g + 32 * q + i.val / 8) else 0)
      * deq W s z (32 * 4 * g + 32 * q + i.val / 8) (nibField (i.val % 8)) (256 * n + j.val)
      = ∑ r ∈ Finset.range 32, at2 (A := 12) (B := 3840) x (2 * (a.val / 16) + a.val % 2) (32 * 4 * g + (32 * q + r)) * deq W s z (32 * 4 * g + (32 * q + r)) (nibField (a.val % 16 / 2)) (256 * n + j.val) := fun q => by
    simp only [← Nat.add_assoc]
    exact sum_own 8 32 (a.val % 16 / 2) (by norm_num) (by norm_num) (by omega)
      (fun r => at2 (A := 12) (B := 3840) x (2 * (a.val / 16) + a.val % 2) (32 * 4 * g + 32 * q + r))
      (fun r k => deq W s z (32 * 4 * g + 32 * q + r) (nibField k) (256 * n + j.val))
  rw [Finset.sum_range_succ, Finset.sum_range_succ, Finset.sum_range_succ, Finset.sum_range_succ, Finset.sum_range_zero, zero_add, ← h 0, ← h 1, ← h 2, ← h 3]

/-- A tile of the second accumulator gains the group's 128 products. -/
theorem restTile_spec (x : S12x3840.Idx → EReal) (W : S3840x1536.Idx → BitVec 32) (s : S30x15360.Idx → EReal) (z : S30x15360.Idx → BitVec 8) (g n : ℕ)
    (acc : FVec Ideal S32x256 .f32) (l : FVec Ideal S1x32x256 .bf16) (r : FVec Ideal S256x256 .bf16) (a : Fin 32) (h b : ℕ) (hh : h < 2)
    (hl : ∀ i, l (ix3 0 a i) = if i.val % 2 = h then at2 (A := 12) (B := 3840) x b (128 * g + i.val / 2) else 0)
    (hr : ∀ i j, r (ix2 i j) = deq W s z (128 * g + i.val / 2) (3 + 4 * (i.val % 2)) (256 * n + j.val)) (j : Fin 256) :
    restTile acc l r (ix2 a j) = acc (ix2 a j)
      + ∑ d ∈ Finset.range 128, at2 (A := 12) (B := 3840) x b (128 * g + d) * deq W s z (128 * g + d) (3 + 4 * h) (256 * n + j.val) := by
  rw [restTile_apply]
  simp only [hl, hr]
  rw [sum_own 2 128 h (by norm_num) (by norm_num) hh (fun i => at2 (A := 12) (B := 3840) x b (128 * g + i))
    (fun i k => deq W s z (128 * g + i) (3 + 4 * k) (256 * n + j.val))]

/-- What the tables and the copied weights hold when the loop starts. -/
structure Tables (c : Dev nD) (x : S12x3840.Idx → EReal) (W : S3840x1536.Idx → BitVec 32) (s : S30x15360.Idx → EReal) (z : S30x15360.Idx → BitVec 8)
    (a10 : BufOf (F := Ideal) c sc4) (a11 : BufOf (F := Ideal) c sc5) (a12 : BufOf (F := Ideal) c sc6) (a13 : BufOf (F := Ideal) c sc7)
    (a14 : BufOf (F := Ideal) c sc8) (a15 : BufOf (F := Ideal) c sc9) : Prop where
  small : ∀ i j, (at2 (A := 30) (B := 15360) z i j).toNat ≤ 8
  hX : ∀ g q pr par l, g < 30 → q < 4 → pr < 6 → par < 2 → l < 256 →
    at4 (α := EReal) (A := 30) (B := 4) (C := 16) (D := 256) a10 g q (8 * par + pr) l = at2 (A := 12) (B := 3840) x (2 * pr + par) (128 * g + 32 * q + l / 8)
  hR : ∀ g h par pr l, g < 30 → h < 2 → par < 2 → pr < 6 → l < 256 →
    at3 (α := EReal) (A := 30) (B := 32) (C := 256) a11 g (16 * h + 8 * par + pr) l = if l % 2 = h then at2 (A := 12) (B := 3840) x (2 * pr + par) (128 * g + l / 2) else 0
  hS : ∀ p g r j, p < 12 → g < 30 → r < 16 → j < 128 →
    at3 (α := EReal) (A := 12) (B := 480) (C := 128) a12 p (16 * g + r) j = at2 (A := 30) (B := 15360) s g (nibField (r % 8) * 1536 + (128 * p + j))
  hZ : ∀ p g j, p < 12 → g < 30 → j < 128 →
    (at3 (α := BitVec 32) (A := 12) (B := 30) (C := 128) a13 p g j).toNat = horner fun k => 8 - (at2 (A := 30) (B := 15360) z g (nibField k * 1536 + (128 * p + j))).toNat
  hS2 : ∀ p g h j, p < 12 → g < 30 → h < 2 → j < 128 →
    at3 (α := EReal) (A := 12) (B := 60) (C := 128) a14 p (2 * g + h) j = at2 (A := 30) (B := 15360) s g ((3 + 4 * h) * 1536 + (128 * p + j))
  hZ2 : ∀ p g j, p < 12 → g < 30 → j < 128 →
    (at3 (α := BitVec 32) (A := 12) (B := 30) (C := 128) a15 p g j).toNat
      = (0x4300 + (at2 (A := 30) (B := 15360) z g (7 * 1536 + (128 * p + j))).toNat) * 2 ^ 16 + (0x4100 + 16 * (at2 (A := 30) (B := 15360) z g (3 * 1536 + (128 * p + j))).toNat)

section Specs
variable {c : Dev nD} {x : S12x3840.Idx → EReal} {W : S3840x1536.Idx → BitVec 32} {s : S30x15360.Idx → EReal} {z : S30x15360.Idx → BitVec 8}
  {a10 : BufOf (F := Ideal) c sc4} {a11 : BufOf (F := Ideal) c sc5} {a12 : BufOf (F := Ideal) c sc6} {a13 : BufOf (F := Ideal) c sc7}
  {a14 : BufOf (F := Ideal) c sc8} {a15 : BufOf (F := Ideal) c sc9} (T : Tables c x W s z a10 a11 a12 a13 a14 a15)
include T

/-- Half a right operand of the first kind, loaded at its offsets, holds dequantised weights. -/
theorem nibHalf_spec (f7 : BufOf (F := Ideal) c sc1) (hf : f7 = W) (g q p : ℕ) (hg : g < 30) (hq : q < 4) (hp : p < 12) (o1 : Fin 2 → ℕ) (h1 : ∀ a, o1 a + S32x128.size a ≤ S3840x1536.size a) (o2 : Fin 3 → ℕ) (h2 : ∀ a, o2 a + S1x1x128.size a ≤ S12x30x128.size a)
    (o3 : Fin 3 → ℕ) (h3 : ∀ a, o3 a + S1x16x128.size a ≤ S12x480x128.size a)
    (e1 : o1 = ![128 * g + 32 * q, 128 * p]) (e2 : o2 = ![p, g, 0]) (e3 : o3 = ![p, 16 * g, 0]) (i : Fin 256) (j : Fin 128) :
    nibHalf (View.readAt (Elt Ideal) sc1.view (Rect.unit (s := S3840x1536) o1 S32x128.size h1).toLoadRect f7)
      (View.readAt (Elt Ideal) sc7.view (Rect.unit (s := S12x30x128) o2 S1x1x128.size h2).toLoadRect a13)
      (View.readAt (Elt Ideal) sc6.view (Rect.unit (s := S12x480x128) o3 S1x16x128.size h3).toLoadRect a12) (ix2 i j)
      = deq W s z (128 * g + 32 * q + i.val / 8) (nibField (i.val % 8)) (128 * p + j.val) := by
  subst e1 e2 e3 hf
  have hi := i.isLt
  refine (nibHalf_apply _ _ _ i j (fun k => (at2 (A := 30) (B := 15360) z g (nibField k * 1536 + (128 * p + j.val))).toNat) (fun k => T.small _ _) ?_).trans ?_
  · rw [readZ]
    exact T.hZ p g j hp hg j.isLt |> fun h => by simpa using h
  · rw [readW, readS]
    have hs := T.hS p g (i.val % 16) j hp hg (Nat.mod_lt _ (by norm_num)) j.isLt
    simp only [Matrix.cons_val_zero, Matrix.cons_val_one, Matrix.cons_val, Nat.zero_add, Fin.val_zero, Nat.add_zero, Fin.isValue] at hs ⊢
    rw [hs]
    unfold deq
    rw [show (128 * g + 32 * q + i.val / 8) / 128 = g from by omega, show i.val % 16 % 8 = i.val % 8 from by omega]

theorem restHalf_spec (f7 : BufOf (F := Ideal) c sc1) (hf : f7 = W) (g p : ℕ) (hg : g < 30) (hp : p < 12) (o1 : Fin 2 → ℕ) (h1 : ∀ a, o1 a + S128x128.size a ≤ S3840x1536.size a) (o2 : Fin 3 → ℕ) (h2 : ∀ a, o2 a + S1x1x128.size a ≤ S12x30x128.size a)
    (o3 : Fin 3 → ℕ) (h3 : ∀ a, o3 a + S1x2x128.size a ≤ S12x60x128.size a)
    (e1 : o1 = ![128 * g, 128 * p]) (e2 : o2 = ![p, g, 0]) (e3 : o3 = ![p, 2 * g, 0]) (i : Fin 256) (j : Fin 128) :
    restHalf (View.readAt (Elt Ideal) sc1.view (Rect.unit (s := S3840x1536) o1 S128x128.size h1).toLoadRect f7)
      (View.readAt (Elt Ideal) sc9.view (Rect.unit (s := S12x30x128) o2 S1x1x128.size h2).toLoadRect a15)
      (View.readAt (Elt Ideal) sc8.view (Rect.unit (s := S12x60x128) o3 S1x2x128.size h3).toLoadRect a14) (ix2 i j)
      = deq W s z (128 * g + i.val / 2) (3 + 4 * (i.val % 2)) (128 * p + j.val) := by
  subst e1 e2 e3 hf
  have hi := i.isLt
  refine (restHalf_apply _ _ _ i j (fun k => (at2 (A := 30) (B := 15360) z g ((3 + 4 * k) * 1536 + (128 * p + j.val))).toNat) (fun k => T.small _ _) ?_).trans ?_
  · rw [readZ2]
    exact T.hZ2 p g j hp hg j.isLt |> fun h => by simpa using h
  · rw [readW2, readS2]
    have hs := T.hS2 p g (i.val % 2) j hp hg (Nat.mod_lt _ (by norm_num)) j.isLt
    simp only [Matrix.cons_val_zero, Matrix.cons_val_one, Matrix.cons_val, Nat.zero_add, Fin.val_zero, Nat.add_zero, Fin.isValue] at hs ⊢
    rw [hs]
    unfold deq
    rw [show (128 * g + i.val / 2) / 128 = g from by omega]

/-- Sixteen rows of a left operand of the first kind. -/
theorem nibRows_spec (m : IVec S16x256 1) (hm : ∀ (r : Fin 16) (i : Fin 256), m (ix2 r i) = 1#1 ↔ i.val % 8 = r.val / 2) (g q pr : ℕ) (hg : g < 30) (hq : q < 4) (hp : pr < 6)
    (o1 : Fin 4 → ℕ) (h1 : ∀ a, o1 a + S1x1x1x256.size a ≤ S30x4x16x256.size a) (o2 : Fin 4 → ℕ) (h2 : ∀ a, o2 a + S1x1x1x256.size a ≤ S30x4x16x256.size a)
    (e1 : o1 = ![g, q, pr, 0]) (e2 : o2 = ![g, q, pr + 8, 0]) (r : Fin 16) (i : Fin 256) :
    nibRows (View.readAt (Elt Ideal) sc4.view (Rect.unit (s := S30x4x16x256) o1 S1x1x1x256.size h1).toLoadRect a10)
      (View.readAt (Elt Ideal) sc4.view (Rect.unit (s := S30x4x16x256) o2 S1x1x1x256.size h2).toLoadRect a10) m (ix2 r i)
      = if i.val % 8 = r.val / 2 then at2 (A := 12) (B := 3840) x (2 * pr + r.val % 2) (128 * g + 32 * q + i.val / 8) else 0 := by
  subst e1 e2
  rw [nibRows_apply, readX, readX]
  simp only [hm r i]
  have hs0 := T.hX g q pr 0 i hg hq hp (by norm_num) i.isLt
  have hs1 := T.hX g q pr 1 i hg hq hp (by norm_num) i.isLt
  simp only [Matrix.cons_val_zero, Matrix.cons_val_one, Matrix.cons_val, Nat.zero_add, Fin.val_zero, Nat.add_zero, Fin.isValue, Nat.mul_zero, Nat.mul_one, Nat.add_comm 8 pr] at hs0 hs1 ⊢
  rw [hs0, hs1]
  rcases Nat.mod_two_eq_zero_or_one r.val with e | e
  · simp only [e, if_true, Nat.add_zero]
  · simp only [e, Nat.one_ne_zero, if_false]
omit T in
/-- A left operand from its six blocks of rows. -/
theorem nibLhs_spec (g q : ℕ) (r0 r1 r2 r3 r4 r5 : FVec Ideal S16x256 .bf16)
    (h : ∀ (p : Fin 6) (r : Fin 16) (i : Fin 256), (![r0, r1, r2, r3, r4, r5] p) (ix2 r i) = if i.val % 8 = r.val / 2 then at2 (A := 12) (B := 3840) x (2 * p.val + r.val % 2) (128 * g + 32 * q + i.val / 8) else 0)
    (a : Fin 96) (i : Fin 256) :
    nibLhs r0 r1 r2 r3 r4 r5 (ix2 a i) = if i.val % 8 = a.val % 16 / 2 then at2 (A := 12) (B := 3840) x (2 * (a.val / 16) + a.val % 2) (128 * g + 32 * q + i.val / 8) else 0 := by
  refine (nibLhs_apply ![r0, r1, r2, r3, r4, r5] a i).trans ?_
  rw [h]
  simp only [show a.val % 16 % 2 = a.val % 2 from by omega]

omit T in
/-- A right operand from its two halves. -/
theorem beside_spec (F : ℕ → ℕ → EReal) (n : ℕ) (l r : FVec Ideal S256x128 .bf16)
    (hl : ∀ (i : Fin 256) (j : Fin 128), l (ix2 i j) = F i (128 * (2 * n) + j)) (hr : ∀ (i : Fin 256) (j : Fin 128), r (ix2 i j) = F i (128 * (2 * n + 1) + j)) (i j : Fin 256) :
    beside l r (ix2 i j) = F i (256 * n + j) := by
  rw [beside_apply]
  split
  · rw [hl]; exact congrArg _ (by simp only []; omega)
  · rw [hr]; exact congrArg _ (by simp only []; omega)
end Specs
end Cert.KernelIdeal.Hand
end
-- ==== Proof.Ideal.Pieces.lean ====
/- The pieces a trip of the loop stores into the two accumulators, in terms of the arguments. -/
module
public import proofs.«01_k».proof.Proof.Ideal.Body
public import proofs.«01_k».proof.Proof.Ideal.Tile
@[expose] public section
set_option maxHeartbeats 0
noncomputable section
namespace Cert.KernelIdeal.Hand
open Cert.KernelIdeal Cert.KernelIdeal.Gen
open Idealize.ShloMosaic

section Offs
variable (k : Fin k0_t1_loop.trips)
theorem k0_off52_q0 : k0_off52 k 0#32 = ![128 * k.val + 32 * 0, 0] := k0_off52_eq k ⟨0, by decide⟩
theorem k0_off52_q1 : k0_off52 k 32#32 = ![128 * k.val + 32 * 1, 0] := k0_off52_eq k ⟨1, by decide⟩
theorem k0_off52_q2 : k0_off52 k 64#32 = ![128 * k.val + 32 * 2, 0] := k0_off52_eq k ⟨2, by decide⟩
theorem k0_off52_q3 : k0_off52 k 96#32 = ![128 * k.val + 32 * 3, 0] := k0_off52_eq k ⟨3, by decide⟩
theorem k0_off55_q0 : k0_off55 k 0#32 = ![128 * k.val + 32 * 0, 128] := k0_off55_eq k ⟨0, by decide⟩
theorem k0_off55_q1 : k0_off55 k 32#32 = ![128 * k.val + 32 * 1, 128] := k0_off55_eq k ⟨1, by decide⟩
theorem k0_off55_q2 : k0_off55 k 64#32 = ![128 * k.val + 32 * 2, 128] := k0_off55_eq k ⟨2, by decide⟩
theorem k0_off55_q3 : k0_off55 k 96#32 = ![128 * k.val + 32 * 3, 128] := k0_off55_eq k ⟨3, by decide⟩
theorem k0_off62_q0 : k0_off62 k 0#32 = ![128 * k.val + 32 * 0, 256] := k0_off62_eq k ⟨0, by decide⟩
theorem k0_off62_q1 : k0_off62 k 32#32 = ![128 * k.val + 32 * 1, 256] := k0_off62_eq k ⟨1, by decide⟩
theorem k0_off62_q2 : k0_off62 k 64#32 = ![128 * k.val + 32 * 2, 256] := k0_off62_eq k ⟨2, by decide⟩
theorem k0_off62_q3 : k0_off62 k 96#32 = ![128 * k.val + 32 * 3, 256] := k0_off62_eq k ⟨3, by decide⟩
theorem k0_off65_q0 : k0_off65 k 0#32 = ![128 * k.val + 32 * 0, 384] := k0_off65_eq k ⟨0, by decide⟩
theorem k0_off65_q1 : k0_off65 k 32#32 = ![128 * k.val + 32 * 1, 384] := k0_off65_eq k ⟨1, by decide⟩
theorem k0_off65_q2 : k0_off65 k 64#32 = ![128 * k.val + 32 * 2, 384] := k0_off65_eq k ⟨2, by decide⟩
theorem k0_off65_q3 : k0_off65 k 96#32 = ![128 * k.val + 32 * 3, 384] := k0_off65_eq k ⟨3, by decide⟩
theorem k0_off72_q0 : k0_off72 k 0#32 = ![128 * k.val + 32 * 0, 512] := k0_off72_eq k ⟨0, by decide⟩
theorem k0_off72_q1 : k0_off72 k 32#32 = ![128 * k.val + 32 * 1, 512] := k0_off72_eq k ⟨1, by decide⟩
theorem k0_off72_q2 : k0_off72 k 64#32 = ![128 * k.val + 32 * 2, 512] := k0_off72_eq k ⟨2, by decide⟩
theorem k0_off72_q3 : k0_off72 k 96#32 = ![128 * k.val + 32 * 3, 512] := k0_off72_eq k ⟨3, by decide⟩
theorem k0_off75_q0 : k0_off75 k 0#32 = ![128 * k.val + 32 * 0, 640] := k0_off75_eq k ⟨0, by decide⟩
theorem k0_off75_q1 : k0_off75 k 32#32 = ![128 * k.val + 32 * 1, 640] := k0_off75_eq k ⟨1, by decide⟩
theorem k0_off75_q2 : k0_off75 k 64#32 = ![128 * k.val + 32 * 2, 640] := k0_off75_eq k ⟨2, by decide⟩
theorem k0_off75_q3 : k0_off75 k 96#32 = ![128 * k.val + 32 * 3, 640] := k0_off75_eq k ⟨3, by decide⟩
theorem k0_off82_q0 : k0_off82 k 0#32 = ![128 * k.val + 32 * 0, 768] := k0_off82_eq k ⟨0, by decide⟩
theorem k0_off82_q1 : k0_off82 k 32#32 = ![128 * k.val + 32 * 1, 768] := k0_off82_eq k ⟨1, by decide⟩
theorem k0_off82_q2 : k0_off82 k 64#32 = ![128 * k.val + 32 * 2, 768] := k0_off82_eq k ⟨2, by decide⟩
theorem k0_off82_q3 : k0_off82 k 96#32 = ![128 * k.val + 32 * 3, 768] := k0_off82_eq k ⟨3, by decide⟩
theorem k0_off85_q0 : k0_off85 k 0#32 = ![128 * k.val + 32 * 0, 896] := k0_off85_eq k ⟨0, by decide⟩
theorem k0_off85_q1 : k0_off85 k 32#32 = ![128 * k.val + 32 * 1, 896] := k0_off85_eq k ⟨1, by decide⟩
theorem k0_off85_q2 : k0_off85 k 64#32 = ![128 * k.val + 32 * 2, 896] := k0_off85_eq k ⟨2, by decide⟩
theorem k0_off85_q3 : k0_off85 k 96#32 = ![128 * k.val + 32 * 3, 896] := k0_off85_eq k ⟨3, by decide⟩
theorem k0_off92_q0 : k0_off92 k 0#32 = ![128 * k.val + 32 * 0, 1024] := k0_off92_eq k ⟨0, by decide⟩
theorem k0_off92_q1 : k0_off92 k 32#32 = ![128 * k.val + 32 * 1, 1024] := k0_off92_eq k ⟨1, by decide⟩
theorem k0_off92_q2 : k0_off92 k 64#32 = ![128 * k.val + 32 * 2, 1024] := k0_off92_eq k ⟨2, by decide⟩
theorem k0_off92_q3 : k0_off92 k 96#32 = ![128 * k.val + 32 * 3, 1024] := k0_off92_eq k ⟨3, by decide⟩
theorem k0_off95_q0 : k0_off95 k 0#32 = ![128 * k.val + 32 * 0, 1152] := k0_off95_eq k ⟨0, by decide⟩
theorem k0_off95_q1 : k0_off95 k 32#32 = ![128 * k.val + 32 * 1, 1152] := k0_off95_eq k ⟨1, by decide⟩
theorem k0_off95_q2 : k0_off95 k 64#32 = ![128 * k.val + 32 * 2, 1152] := k0_off95_eq k ⟨2, by decide⟩
theorem k0_off95_q3 : k0_off95 k 96#32 = ![128 * k.val + 32 * 3, 1152] := k0_off95_eq k ⟨3, by decide⟩
theorem k0_off102_q0 : k0_off102 k 0#32 = ![128 * k.val + 32 * 0, 1280] := k0_off102_eq k ⟨0, by decide⟩
theorem k0_off102_q1 : k0_off102 k 32#32 = ![128 * k.val + 32 * 1, 1280] := k0_off102_eq k ⟨1, by decide⟩
theorem k0_off102_q2 : k0_off102 k 64#32 = ![128 * k.val + 32 * 2, 1280] := k0_off102_eq k ⟨2, by decide⟩
theorem k0_off102_q3 : k0_off102 k 96#32 = ![128 * k.val + 32 * 3, 1280] := k0_off102_eq k ⟨3, by decide⟩
theorem k0_off105_q0 : k0_off105 k 0#32 = ![128 * k.val + 32 * 0, 1408] := k0_off105_eq k ⟨0, by decide⟩
theorem k0_off105_q1 : k0_off105 k 32#32 = ![128 * k.val + 32 * 1, 1408] := k0_off105_eq k ⟨1, by decide⟩
theorem k0_off105_q2 : k0_off105 k 64#32 = ![128 * k.val + 32 * 2, 1408] := k0_off105_eq k ⟨2, by decide⟩
theorem k0_off105_q3 : k0_off105 k 96#32 = ![128 * k.val + 32 * 3, 1408] := k0_off105_eq k ⟨3, by decide⟩
end Offs
attribute [local simp] k0_off3_eq k0_off4_eq k0_off5_eq k0_off6_eq k0_off7_eq k0_off8_eq k0_off9_eq k0_off10_eq k0_off11_eq k0_off12_eq k0_off13_eq k0_off14_eq k0_off15_eq k0_off16_eq k0_off17_eq k0_off18_eq k0_off19_eq k0_off20_eq k0_off21_eq k0_off22_eq k0_off23_eq k0_off24_eq k0_off25_eq k0_off26_eq k0_off27_eq k0_off28_eq k0_off29_eq k0_off30_eq k0_off31_eq k0_off32_eq k0_off33_eq k0_off34_eq k0_off35_eq k0_off36_eq k0_off37_eq k0_off38_eq k0_off39_eq k0_off40_eq k0_off41_eq k0_off42_eq k0_off43_eq k0_off44_eq k0_off45_eq k0_off46_eq k0_off47_eq k0_off48_eq k0_off49_eq k0_off50_eq k0_off51_eq k0_off53_eq k0_off54_eq k0_off56_eq k0_off57_eq k0_off58_eq k0_off59_eq k0_off60_eq k0_off61_eq k0_off63_eq k0_off64_eq k0_off66_eq k0_off67_eq k0_off68_eq k0_off69_eq k0_off70_eq k0_off71_eq k0_off73_eq k0_off74_eq k0_off76_eq k0_off77_eq k0_off78_eq k0_off79_eq k0_off80_eq k0_off81_eq k0_off83_eq k0_off84_eq k0_off86_eq k0_off87_eq k0_off88_eq k0_off89_eq k0_off90_eq k0_off91_eq k0_off93_eq k0_off94_eq k0_off96_eq k0_off97_eq k0_off98_eq k0_off99_eq k0_off100_eq k0_off101_eq k0_off103_eq k0_off104_eq k0_off106_eq k0_off107_eq k0_off108_eq k0_off109_eq k0_off110_eq k0_off111_eq k0_off52_q0 k0_off52_q1 k0_off52_q2 k0_off52_q3 k0_off55_q0 k0_off55_q1 k0_off55_q2 k0_off55_q3 k0_off62_q0 k0_off62_q1 k0_off62_q2 k0_off62_q3 k0_off65_q0 k0_off65_q1 k0_off65_q2 k0_off65_q3 k0_off72_q0 k0_off72_q1 k0_off72_q2 k0_off72_q3 k0_off75_q0 k0_off75_q1 k0_off75_q2 k0_off75_q3 k0_off82_q0 k0_off82_q1 k0_off82_q2 k0_off82_q3 k0_off85_q0 k0_off85_q1 k0_off85_q2 k0_off85_q3 k0_off92_q0 k0_off92_q1 k0_off92_q2 k0_off92_q3 k0_off95_q0 k0_off95_q1 k0_off95_q2 k0_off95_q3 k0_off102_q0 k0_off102_q1 k0_off102_q2 k0_off102_q3 k0_off105_q0 k0_off105_q1 k0_off105_q2 k0_off105_q3

section Pieces
variable {c : Dev nD} {x : S12x3840.Idx → EReal} {W : S3840x1536.Idx → BitVec 32} {s : S30x15360.Idx → EReal} {z : S30x15360.Idx → BitVec 8}
  {a10 : BufOf (F := Ideal) c sc4} {a11 : BufOf (F := Ideal) c sc5} {a12 : BufOf (F := Ideal) c sc6} {a13 : BufOf (F := Ideal) c sc7}
  {a14 : BufOf (F := Ideal) c sc8} {a15 : BufOf (F := Ideal) c sc9} (T : Tables c x W s z a10 a11 a12 a13 a14 a15)
  (v2867 v2870 v2871 : IVec S16x256 32) (hm : ∀ (r : Fin 16) (i : Fin 256), cmpi .eq v2870 (shrsi v2867 v2871) (ix2 r i) = 1#1 ↔ i.val % 8 = r.val / 2)
  (k : Fin k0_t1_loop.trips) (hk : k.val < 30) (f7 : BufOf (F := Ideal) c sc1) (hf : f7 = W)
  (a16 : BufOf (F := Ideal) c sc10) (a17 : BufOf (F := Ideal) c sc11)

/-- What the first accumulator holds after trip `k`. -/
def step16 (x : S12x3840.Idx → EReal) (W : S3840x1536.Idx → BitVec 32) (s : S30x15360.Idx → EReal) (z : S30x15360.Idx → BitVec 8) (g : ℕ) (a16 : BufOf (F := Ideal) c sc10) (a j : ℕ) : EReal :=
  at2 (α := EReal) (A := 96) (B := 1536) a16 a j + ∑ d ∈ Finset.range 128, at2 (A := 12) (B := 3840) x (2 * (a / 16) + a % 2) (128 * g + d) * deq W s z (128 * g + d) (nibField (a % 16 / 2)) j

/-- What the second accumulator holds after trip `k`, at the rows used. -/
def step17 (x : S12x3840.Idx → EReal) (W : S3840x1536.Idx → BitVec 32) (s : S30x15360.Idx → EReal) (z : S30x15360.Idx → BitVec 8) (g : ℕ) (a17 : BufOf (F := Ideal) c sc11) (a h b j : ℕ) : EReal :=
  at2 (α := EReal) (A := 32) (B := 1536) a17 a j + ∑ d ∈ Finset.range 128, at2 (A := 12) (B := 3840) x b (128 * g + d) * deq W s z (128 * g + d) (3 + 4 * h) j

include T hm hk
/-- The left operand of quarter 0. -/
theorem lhs0 (a : Fin 96) (i : Fin 256) :
    (trip.sl.r_4 (F := Ideal) c v2867 v2870 v2871 k a10) (ix2 a i) = if i.val % 8 = a.val % 16 / 2 then at2 (A := 12) (B := 3840) x (2 * (a.val / 16) + a.val % 2) (128 * k.val + 32 * 0 + i.val / 8) else 0 := by
  refine nibLhs_spec k.val 0 _ _ _ _ _ _ (fun p r i => ?_) a i
  fin_cases p
  · exact nibRows_spec T _ hm k.val 0 0 hk (by norm_num) (by norm_num) _ _ _ _ (by simp) (by simp) r i
  · exact nibRows_spec T _ hm k.val 0 1 hk (by norm_num) (by norm_num) _ _ _ _ (by simp) (by simp) r i
  · exact nibRows_spec T _ hm k.val 0 2 hk (by norm_num) (by norm_num) _ _ _ _ (by simp) (by simp) r i
  · exact nibRows_spec T _ hm k.val 0 3 hk (by norm_num) (by norm_num) _ _ _ _ (by simp) (by simp) r i
  · exact nibRows_spec T _ hm k.val 0 4 hk (by norm_num) (by norm_num) _ _ _ _ (by simp) (by simp) r i
  · exact nibRows_spec T _ hm k.val 0 5 hk (by norm_num) (by norm_num) _ _ _ _ (by simp) (by simp) r i

/-- The left operand of quarter 1. -/
theorem lhs1 (a : Fin 96) (i : Fin 256) :
    (trip.sl.r_10 (F := Ideal) c v2867 v2870 v2871 k a10) (ix2 a i) = if i.val % 8 = a.val % 16 / 2 then at2 (A := 12) (B := 3840) x (2 * (a.val / 16) + a.val % 2) (128 * k.val + 32 * 1 + i.val / 8) else 0 := by
  refine nibLhs_spec k.val 1 _ _ _ _ _ _ (fun p r i => ?_) a i
  fin_cases p
  · exact nibRows_spec T _ hm k.val 1 0 hk (by norm_num) (by norm_num) _ _ _ _ (by simp) (by simp) r i
  · exact nibRows_spec T _ hm k.val 1 1 hk (by norm_num) (by norm_num) _ _ _ _ (by simp) (by simp) r i
  · exact nibRows_spec T _ hm k.val 1 2 hk (by norm_num) (by norm_num) _ _ _ _ (by simp) (by simp) r i
  · exact nibRows_spec T _ hm k.val 1 3 hk (by norm_num) (by norm_num) _ _ _ _ (by simp) (by simp) r i
  · exact nibRows_spec T _ hm k.val 1 4 hk (by norm_num) (by norm_num) _ _ _ _ (by simp) (by simp) r i
  · exact nibRows_spec T _ hm k.val 1 5 hk (by norm_num) (by norm_num) _ _ _ _ (by simp) (by simp) r i

/-- The left operand of quarter 2. -/
theorem lhs2 (a : Fin 96) (i : Fin 256) :
    (trip.sl.r_19 (F := Ideal) c v2867 v2870 v2871 k a10) (ix2 a i) = if i.val % 8 = a.val % 16 / 2 then at2 (A := 12) (B := 3840) x (2 * (a.val / 16) + a.val % 2) (128 * k.val + 32 * 2 + i.val / 8) else 0 := by
  refine nibLhs_spec k.val 2 _ _ _ _ _ _ (fun p r i => ?_) a i
  fin_cases p
  · exact nibRows_spec T _ hm k.val 2 0 hk (by norm_num) (by norm_num) _ _ _ _ (by simp) (by simp) r i
  · exact nibRows_spec T _ hm k.val 2 1 hk (by norm_num) (by norm_num) _ _ _ _ (by simp) (by simp) r i
  · exact nibRows_spec T _ hm k.val 2 2 hk (by norm_num) (by norm_num) _ _ _ _ (by simp) (by simp) r i
  · exact nibRows_spec T _ hm k.val 2 3 hk (by norm_num) (by norm_num) _ _ _ _ (by simp) (by simp) r i
  · exact nibRows_spec T _ hm k.val 2 4 hk (by norm_num) (by norm_num) _ _ _ _ (by simp) (by simp) r i
  · exact nibRows_spec T _ hm k.val 2 5 hk (by norm_num) (by norm_num) _ _ _ _ (by simp) (by simp) r i

/-- The left operand of quarter 3. -/
theorem lhs3 (a : Fin 96) (i : Fin 256) :
    (trip.sl.r_24 (F := Ideal) c v2867 v2870 v2871 k a10) (ix2 a i) = if i.val % 8 = a.val % 16 / 2 then at2 (A := 12) (B := 3840) x (2 * (a.val / 16) + a.val % 2) (128 * k.val + 32 * 3 + i.val / 8) else 0 := by
  refine nibLhs_spec k.val 3 _ _ _ _ _ _ (fun p r i => ?_) a i
  fin_cases p
  · exact nibRows_spec T _ hm k.val 3 0 hk (by norm_num) (by norm_num) _ _ _ _ (by simp) (by simp) r i
  · exact nibRows_spec T _ hm k.val 3 1 hk (by norm_num) (by norm_num) _ _ _ _ (by simp) (by simp) r i
  · exact nibRows_spec T _ hm k.val 3 2 hk (by norm_num) (by norm_num) _ _ _ _ (by simp) (by simp) r i
  · exact nibRows_spec T _ hm k.val 3 3 hk (by norm_num) (by norm_num) _ _ _ _ (by simp) (by simp) r i
  · exact nibRows_spec T _ hm k.val 3 4 hk (by norm_num) (by norm_num) _ _ _ _ (by simp) (by simp) r i
  · exact nibRows_spec T _ hm k.val 3 5 hk (by norm_num) (by norm_num) _ _ _ _ (by simp) (by simp) r i

include hf in
/-- Column tile 0 of the first accumulator. -/
theorem piece16_0 (a : Fin 96) (j : Fin 256) :
    (k0_pay37 (trip.sl.r_42 c v2867 v2870 v2871 k f7 a10 a12 a13 a16) : FVec Ideal S96x256 .f32) (ix2 a j) = step16 x W s z k.val a16 a (256 * 0 + j.val) := by
  simp only [trip.sl.r_42, trip.sl.r_41, trip.sl.r_40, trip.sl.r_39, k0_pay35, trip.sl.r_38, trip.sl.r_37, trip.sl.r_36, trip.sl.r_35, k0_pay33, trip.sl.r_34, trip.sl.r_33, trip.sl.r_32, trip.sl.r_31, k0_pay31, trip.sl.r_30, trip.sl.r_29, k0_pay29, trip.sl.r_28, trip.sl.r_27, trip.sl.r_26, trip.sl.r_25, k0_pay28, k0_pay27, k0_pay30, k0_pay32, k0_pay34, k0_pay36, k0_pay37]
  refine (nibTile_spec x W s z k.val 0 _ _ _ _ _ _ _ _ _ ?_ ?_ ?_ ?_ ?_ ?_ ?_ ?_ a j).trans (congrArg (· + _) ?_)
  · exact lhs0 T v2867 v2870 v2871 hm k hk
  · intro i j
    refine beside_spec (fun i j => deq W s z (128 * k.val + 32 * 0 + i / 8) (nibField (i % 8)) j) 0 _ _ (fun i j => ?_) (fun i j => ?_) i j
    · exact nibHalf_spec T f7 hf k.val 0 0 hk (by norm_num) (by norm_num) _ _ _ _ _ _ (by simp) (by simp) (by simp) i j
    · exact nibHalf_spec T f7 hf k.val 0 1 hk (by norm_num) (by norm_num) _ _ _ _ _ _ (by simp) (by simp) (by simp) i j
  · exact lhs1 T v2867 v2870 v2871 hm k hk
  · intro i j
    refine beside_spec (fun i j => deq W s z (128 * k.val + 32 * 1 + i / 8) (nibField (i % 8)) j) 0 _ _ (fun i j => ?_) (fun i j => ?_) i j
    · exact nibHalf_spec T f7 hf k.val 1 0 hk (by norm_num) (by norm_num) _ _ _ _ _ _ (by simp) (by simp) (by simp) i j
    · exact nibHalf_spec T f7 hf k.val 1 1 hk (by norm_num) (by norm_num) _ _ _ _ _ _ (by simp) (by simp) (by simp) i j
  · exact lhs2 T v2867 v2870 v2871 hm k hk
  · intro i j
    refine beside_spec (fun i j => deq W s z (128 * k.val + 32 * 2 + i / 8) (nibField (i % 8)) j) 0 _ _ (fun i j => ?_) (fun i j => ?_) i j
    · exact nibHalf_spec T f7 hf k.val 2 0 hk (by norm_num) (by norm_num) _ _ _ _ _ _ (by simp) (by simp) (by simp) i j
    · exact nibHalf_spec T f7 hf k.val 2 1 hk (by norm_num) (by norm_num) _ _ _ _ _ _ (by simp) (by simp) (by simp) i j
  · exact lhs3 T v2867 v2870 v2871 hm k hk
  · intro i j
    refine beside_spec (fun i j => deq W s z (128 * k.val + 32 * 3 + i / 8) (nibField (i % 8)) j) 0 _ _ (fun i j => ?_) (fun i j => ?_) i j
    · exact nibHalf_spec T f7 hf k.val 3 0 hk (by norm_num) (by norm_num) _ _ _ _ _ _ (by simp) (by simp) (by simp) i j
    · exact nibHalf_spec T f7 hf k.val 3 1 hk (by norm_num) (by norm_num) _ _ _ _ _ _ (by simp) (by simp) (by simp) i j
  · exact (readA _ _ _ a16 a j).trans (by simp)

include hf in
/-- Column tile 0 of the second accumulator. -/
theorem piece17_0 (h par pr : ℕ) (hh : h < 2) (hpar : par < 2) (hpr : pr < 6) (a : Fin 32) (ha : a.val = 16 * h + 8 * par + pr) (j : Fin 256) :
    (k0_pay40 (trip.sl.r c k a11) (trip.sl.r_44 c k f7 a14 a15) (trip.sl.r_45 c k f7) (trip.sl.r_46 c k a15) (View.readAt (Elt Ideal) sc8.view (Rect.unit (s := S12x60x128) (k0_off61 k) S1x2x128.size (k0_off61_inb k)).toLoadRect a14) (View.readAt (Elt Ideal) sc11.view (Rect.unit (s := S32x1536) ![0, 0] S32x256.size inb_S32x1536_S32x256_0_0).toLoadRect a17) : FVec Ideal S32x256 .f32) (ix2 a j) = step17 x W s z k.val a17 a h (2 * pr + par) (256 * 0 + j.val) := by
  simp only [trip.sl.r_46, trip.sl.r_45, k0_pay39, trip.sl.r_44, k0_pay38, trip.sl.r, k0_pay2, k0_pay40]
  change restTile _ _ _ (ix2 a j) = at2 (α := EReal) (A := 32) (B := 1536) a17 a.val (256 * 0 + j.val) + _
  refine (restTile_spec x W s z k.val 0 _ _ _ a h (2 * pr + par) hh ?_ ?_ j).trans (congrArg (· + _) ?_)
  · intro i
    refine (readR _ _ _ a11 0 a i).trans ?_
    have e := T.hR k.val h par pr i hk hh hpar hpr i.isLt
    rw [← ha] at e
    simpa using e
  · intro i j
    refine beside_spec (fun i j => deq W s z (128 * k.val + i / 2) (3 + 4 * (i % 2)) j) 0 _ _ (fun i j => ?_) (fun i j => ?_) i j
    · exact restHalf_spec T f7 hf k.val 0 hk (by norm_num) _ _ _ _ _ _ (by simp) (by simp) (by simp) i j
    · exact restHalf_spec T f7 hf k.val 1 hk (by norm_num) _ _ _ _ _ _ (by simp) (by simp) (by simp) i j
  · exact (readB _ _ _ a17 a j).trans (by simp)

include hf in
/-- Column tile 1 of the first accumulator. -/
theorem piece16_1 (a : Fin 96) (j : Fin 256) :
    (k0_pay65 (trip.sl.r_24 c v2867 v2870 v2871 k a10) (trip.sl.r_70 c v2867 v2870 v2871 k f7 a10 a12 a13) (trip.sl.r_73 c k f7 a12 a13) (trip.sl.r_74 c k f7) (trip.sl.r_75 c k a12) (View.readAt (Elt Ideal) sc7.view (Rect.unit (s := S12x30x128) (k0_off67 k) S1x1x128.size (k0_off67_inb k)).toLoadRect a13) (trip.sl.v6359 c a16) : FVec Ideal S96x256 .f32) (ix2 a j) = step16 x W s z k.val a16 a (256 * 1 + j.val) := by
  simp only [trip.sl.v6359, trip.sl.r_75, k0_pay64, trip.sl.r_74, trip.sl.r_73, trip.sl.r_72, k0_pay62, trip.sl.r_71, k0_pay63, trip.sl.r_70, trip.sl.r_69, k0_pay60, trip.sl.r_68, k0_pay59, trip.sl.r_67, trip.sl.r_66, trip.sl.r_65, trip.sl.r_64, k0_pay57, trip.sl.r_63, k0_pay58, trip.sl.r_62, k0_pay55, trip.sl.r_61, k0_pay54, trip.sl.r_60, k0_pay53, trip.sl.r_59, trip.sl.r_58, trip.sl.r_57, k0_pay51, trip.sl.r_56, k0_pay50, trip.sl.r_55, k0_pay52, trip.sl.r_54, trip.sl.r_53, k0_pay48, trip.sl.r_52, k0_pay47, trip.sl.r_51, k0_pay46, trip.sl.r_50, trip.sl.r_49, k0_pay44, trip.sl.r_48, k0_pay43, trip.sl.r_47, k0_pay42, k0_pay45, k0_pay41, k0_pay49, k0_pay56, k0_pay61, k0_pay65]
  refine (nibTile_spec x W s z k.val 1 _ _ _ _ _ _ _ _ _ ?_ ?_ ?_ ?_ ?_ ?_ ?_ ?_ a j).trans (congrArg (· + _) ?_)
  · exact lhs0 T v2867 v2870 v2871 hm k hk
  · intro i j
    refine beside_spec (fun i j => deq W s z (128 * k.val + 32 * 0 + i / 8) (nibField (i % 8)) j) 1 _ _ (fun i j => ?_) (fun i j => ?_) i j
    · exact nibHalf_spec T f7 hf k.val 0 2 hk (by norm_num) (by norm_num) _ _ _ _ _ _ (by simp) (by simp) (by simp) i j
    · exact nibHalf_spec T f7 hf k.val 0 3 hk (by norm_num) (by norm_num) _ _ _ _ _ _ (by simp) (by simp) (by simp) i j
  · exact lhs1 T v2867 v2870 v2871 hm k hk
  · intro i j
    refine beside_spec (fun i j => deq W s z (128 * k.val + 32 * 1 + i / 8) (nibField (i % 8)) j) 1 _ _ (fun i j => ?_) (fun i j => ?_) i j
    · exact nibHalf_spec T f7 hf k.val 1 2 hk (by norm_num) (by norm_num) _ _ _ _ _ _ (by simp) (by simp) (by simp) i j
    · exact nibHalf_spec T f7 hf k.val 1 3 hk (by norm_num) (by norm_num) _ _ _ _ _ _ (by simp) (by simp) (by simp) i j
  · exact lhs2 T v2867 v2870 v2871 hm k hk
  · intro i j
    refine beside_spec (fun i j => deq W s z (128 * k.val + 32 * 2 + i / 8) (nibField (i % 8)) j) 1 _ _ (fun i j => ?_) (fun i j => ?_) i j
    · exact nibHalf_spec T f7 hf k.val 2 2 hk (by norm_num) (by norm_num) _ _ _ _ _ _ (by simp) (by simp) (by simp) i j
    · exact nibHalf_spec T f7 hf k.val 2 3 hk (by norm_num) (by norm_num) _ _ _ _ _ _ (by simp) (by simp) (by simp) i j
  · exact lhs3 T v2867 v2870 v2871 hm k hk
  · intro i j
    refine beside_spec (fun i j => deq W s z (128 * k.val + 32 * 3 + i / 8) (nibField (i % 8)) j) 1 _ _ (fun i j => ?_) (fun i j => ?_) i j
    · exact nibHalf_spec T f7 hf k.val 3 2 hk (by norm_num) (by norm_num) _ _ _ _ _ _ (by simp) (by simp) (by simp) i j
    · exact nibHalf_spec T f7 hf k.val 3 3 hk (by norm_num) (by norm_num) _ _ _ _ _ _ (by simp) (by simp) (by simp) i j
  · exact (readA _ _ _ a16 a j).trans (by simp)

include hf in
/-- Column tile 1 of the second accumulator. -/
theorem piece17_1 (h par pr : ℕ) (hh : h < 2) (hpar : par < 2) (hpr : pr < 6) (a : Fin 32) (ha : a.val = 16 * h + 8 * par + pr) (j : Fin 256) :
    (k0_pay69 (trip.sl.r c k a11) (trip.sl.r_77 c k f7 a14 a15) (trip.sl.r_78 c k f7) (trip.sl.r_79 c k a15) (View.readAt (Elt Ideal) sc8.view (Rect.unit (s := S12x60x128) (k0_off71 k) S1x2x128.size (k0_off71_inb k)).toLoadRect a14) (trip.sl.v6422 c a17) : FVec Ideal S32x256 .f32) (ix2 a j) = step17 x W s z k.val a17 a h (2 * pr + par) (256 * 1 + j.val) := by
  simp only [trip.sl.v6422, trip.sl.r_79, k0_pay68, trip.sl.r_78, k0_pay67, trip.sl.r_77, trip.sl.r_76, k0_pay66, trip.sl.r, k0_pay2, k0_pay69]
  change restTile _ _ _ (ix2 a j) = at2 (α := EReal) (A := 32) (B := 1536) a17 a.val (256 * 1 + j.val) + _
  refine (restTile_spec x W s z k.val 1 _ _ _ a h (2 * pr + par) hh ?_ ?_ j).trans (congrArg (· + _) ?_)
  · intro i
    refine (readR _ _ _ a11 0 a i).trans ?_
    have e := T.hR k.val h par pr i hk hh hpar hpr i.isLt
    rw [← ha] at e
    simpa using e
  · intro i j
    refine beside_spec (fun i j => deq W s z (128 * k.val + i / 2) (3 + 4 * (i % 2)) j) 1 _ _ (fun i j => ?_) (fun i j => ?_) i j
    · exact restHalf_spec T f7 hf k.val 2 hk (by norm_num) _ _ _ _ _ _ (by simp) (by simp) (by simp) i j
    · exact restHalf_spec T f7 hf k.val 3 hk (by norm_num) _ _ _ _ _ _ (by simp) (by simp) (by simp) i j
  · exact (readB _ _ _ a17 a j).trans (by simp)

include hf in
/-- Column tile 2 of the first accumulator. -/
theorem piece16_2 (a : Fin 96) (j : Fin 256) :
    (k0_pay104 (trip.sl.r_24 c v2867 v2870 v2871 k a10) (trip.sl.r_103 c v2867 v2870 v2871 k f7 a10 a12 a13) (trip.sl.r_108 c k f7 a12 a13) (trip.sl.r_109 c k a12) (trip.sl.r_110 c k a13) (trip.sl.r_111 c k f7) (trip.sl.v6786 c a16) : FVec Ideal S96x256 .f32) (ix2 a j) = step16 x W s z k.val a16 a (256 * 2 + j.val) := by
  simp only [trip.sl.v6786, trip.sl.r_111, k0_pay103, trip.sl.r_110, k0_pay102, trip.sl.r_109, k0_pay101, trip.sl.r_108, trip.sl.r_107, k0_pay99, k0_pay98, trip.sl.r_106, trip.sl.r_105, k0_pay97, trip.sl.r_104, k0_pay96, k0_pay100, trip.sl.r_103, k0_pay94, trip.sl.r_102, k0_pay93, trip.sl.r_101, k0_pay92, trip.sl.r_100, k0_pay91, trip.sl.r_99, trip.sl.r_98, k0_pay89, trip.sl.r_97, k0_pay88, trip.sl.r_96, k0_pay87, k0_pay90, trip.sl.r_95, trip.sl.r_94, k0_pay85, trip.sl.r_93, k0_pay84, trip.sl.r_92, k0_pay83, trip.sl.r_91, trip.sl.r_90, k0_pay81, k0_pay80, trip.sl.r_89, trip.sl.r_88, k0_pay79, trip.sl.r_87, k0_pay78, k0_pay82, trip.sl.r_86, trip.sl.r_85, k0_pay76, trip.sl.r_84, k0_pay75, trip.sl.r_83, trip.sl.r_82, k0_pay73, trip.sl.r_81, k0_pay72, trip.sl.r_80, k0_pay71, k0_pay74, k0_pay70, k0_pay77, k0_pay86, k0_pay95, k0_pay104]
  refine (nibTile_spec x W s z k.val 2 _ _ _ _ _ _ _ _ _ ?_ ?_ ?_ ?_ ?_ ?_ ?_ ?_ a j).trans (congrArg (· + _) ?_)
  · exact lhs0 T v2867 v2870 v2871 hm k hk
  · intro i j
    refine beside_spec (fun i j => deq W s z (128 * k.val + 32 * 0 + i / 8) (nibField (i % 8)) j) 2 _ _ (fun i j => ?_) (fun i j => ?_) i j
    · exact nibHalf_spec T f7 hf k.val 0 4 hk (by norm_num) (by norm_num) _ _ _ _ _ _ (by simp) (by simp) (by simp) i j
    · exact nibHalf_spec T f7 hf k.val 0 5 hk (by norm_num) (by norm_num) _ _ _ _ _ _ (by simp) (by simp) (by simp) i j
  · exact lhs1 T v2867 v2870 v2871 hm k hk
  · intro i j
    refine beside_spec (fun i j => deq W s z (128 * k.val + 32 * 1 + i / 8) (nibField (i % 8)) j) 2 _ _ (fun i j => ?_) (fun i j => ?_) i j
    · exact nibHalf_spec T f7 hf k.val 1 4 hk (by norm_num) (by norm_num) _ _ _ _ _ _ (by simp) (by simp) (by simp) i j
    · exact nibHalf_spec T f7 hf k.val 1 5 hk (by norm_num) (by norm_num) _ _ _ _ _ _ (by simp) (by simp) (by simp) i j
  · exact lhs2 T v2867 v2870 v2871 hm k hk
  · intro i j
    refine beside_spec (fun i j => deq W s z (128 * k.val + 32 * 2 + i / 8) (nibField (i % 8)) j) 2 _ _ (fun i j => ?_) (fun i j => ?_) i j
    · exact nibHalf_spec T f7 hf k.val 2 4 hk (by norm_num) (by norm_num) _ _ _ _ _ _ (by simp) (by simp) (by simp) i j
    · exact nibHalf_spec T f7 hf k.val 2 5 hk (by norm_num) (by norm_num) _ _ _ _ _ _ (by simp) (by simp) (by simp) i j
  · exact lhs3 T v2867 v2870 v2871 hm k hk
  · intro i j
    refine beside_spec (fun i j => deq W s z (128 * k.val + 32 * 3 + i / 8) (nibField (i % 8)) j) 2 _ _ (fun i j => ?_) (fun i j => ?_) i j
    · exact nibHalf_spec T f7 hf k.val 3 4 hk (by norm_num) (by norm_num) _ _ _ _ _ _ (by simp) (by simp) (by simp) i j
    · exact nibHalf_spec T f7 hf k.val 3 5 hk (by norm_num) (by norm_num) _ _ _ _ _ _ (by simp) (by simp) (by simp) i j
  · exact (readA _ _ _ a16 a j).trans (by simp)

include hf in
/-- Column tile 2 of the second accumulator. -/
theorem piece17_2 (h par pr : ℕ) (hh : h < 2) (hpar : par < 2) (hpr : pr < 6) (a : Fin 32) (ha : a.val = 16 * h + 8 * par + pr) (j : Fin 256) :
    (k0_pay109 (trip.sl.r c k a11) (trip.sl.r_113 c k f7 a14 a15) (trip.sl.r_114 c k f7 a15) (trip.sl.r_115 c k a14) (trip.sl.v6849 c a17) : FVec Ideal S32x256 .f32) (ix2 a j) = step17 x W s z k.val a17 a h (2 * pr + par) (256 * 2 + j.val) := by
  simp only [trip.sl.v6849, trip.sl.r_115, k0_pay108, trip.sl.r_114, k0_pay107, trip.sl.r_113, trip.sl.r_112, k0_pay105, k0_pay106, trip.sl.r, k0_pay2, k0_pay109]
  change restTile _ _ _ (ix2 a j) = at2 (α := EReal) (A := 32) (B := 1536) a17 a.val (256 * 2 + j.val) + _
  refine (restTile_spec x W s z k.val 2 _ _ _ a h (2 * pr + par) hh ?_ ?_ j).trans (congrArg (· + _) ?_)
  · intro i
    refine (readR _ _ _ a11 0 a i).trans ?_
    have e := T.hR k.val h par pr i hk hh hpar hpr i.isLt
    rw [← ha] at e
    simpa using e
  · intro i j
    refine beside_spec (fun i j => deq W s z (128 * k.val + i / 2) (3 + 4 * (i % 2)) j) 2 _ _ (fun i j => ?_) (fun i j => ?_) i j
    · exact restHalf_spec T f7 hf k.val 4 hk (by norm_num) _ _ _ _ _ _ (by simp) (by simp) (by simp) i j
    · exact restHalf_spec T f7 hf k.val 5 hk (by norm_num) _ _ _ _ _ _ (by simp) (by simp) (by simp) i j
  · exact (readB _ _ _ a17 a j).trans (by simp)

include hf in
/-- Column tile 3 of the first accumulator. -/
theorem piece16_3 (a : Fin 96) (j : Fin 256) :
    (k0_pay136 (trip.sl.r_24 c v2867 v2870 v2871 k a10) (trip.sl.r_133 c v2867 v2870 v2871 k f7 a10 a12 a13) (trip.sl.r_136 c k f7 a12 a13) (trip.sl.r_137 c k a12) (trip.sl.r_138 c k f7 a13) (trip.sl.v7213 c a16) : FVec Ideal S96x256 .f32) (ix2 a j) = step16 x W s z k.val a16 a (256 * 3 + j.val) := by
  simp only [trip.sl.v7213, trip.sl.r_138, k0_pay135, trip.sl.r_137, k0_pay134, trip.sl.r_136, k0_pay132, trip.sl.r_135, k0_pay131, trip.sl.r_134, k0_pay130, k0_pay133, trip.sl.r_133, trip.sl.r_132, k0_pay128, trip.sl.r_131, k0_pay127, trip.sl.r_130, trip.sl.r_129, k0_pay125, trip.sl.r_128, k0_pay124, k0_pay126, trip.sl.r_127, trip.sl.v6884, trip.sl.r_126, k0_pay122, trip.sl.r_125, k0_pay121, trip.sl.r_124, trip.sl.r_123, k0_pay119, trip.sl.r_122, k0_pay118, k0_pay120, trip.sl.r_121, k0_pay116, trip.sl.r_120, k0_pay115, trip.sl.r_119, k0_pay114, trip.sl.r_118, trip.sl.r_117, k0_pay112, trip.sl.r_116, k0_pay111, k0_pay113, k0_pay110, k0_pay117, k0_pay123, k0_pay129, k0_pay136]
  refine (nibTile_spec x W s z k.val 3 _ _ _ _ _ _ _ _ _ ?_ ?_ ?_ ?_ ?_ ?_ ?_ ?_ a j).trans (congrArg (· + _) ?_)
  · exact lhs0 T v2867 v2870 v2871 hm k hk
  · intro i j
    refine beside_spec (fun i j => deq W s z (128 * k.val + 32 * 0 + i / 8) (nibField (i % 8)) j) 3 _ _ (fun i j => ?_) (fun i j => ?_) i j
    · exact nibHalf_spec T f7 hf k.val 0 6 hk (by norm_num) (by norm_num) _ _ _ _ _ _ (by simp) (by simp) (by simp) i j
    · exact nibHalf_spec T f7 hf k.val 0 7 hk (by norm_num) (by norm_num) _ _ _ _ _ _ (by simp) (by simp) (by simp) i j
  · exact lhs1 T v2867 v2870 v2871 hm k hk
  · intro i j
    refine beside_spec (fun i j => deq W s z (128 * k.val + 32 * 1 + i / 8) (nibField (i % 8)) j) 3 _ _ (fun i j => ?_) (fun i j => ?_) i j
    · exact nibHalf_spec T f7 hf k.val 1 6 hk (by norm_num) (by norm_num) _ _ _ _ _ _ (by simp) (by simp) (by simp) i j
    · exact nibHalf_spec T f7 hf k.val 1 7 hk (by norm_num) (by norm_num) _ _ _ _ _ _ (by simp) (by simp) (by simp) i j
  · exact lhs2 T v2867 v2870 v2871 hm k hk
  · intro i j
    refine beside_spec (fun i j => deq W s z (128 * k.val + 32 * 2 + i / 8) (nibField (i % 8)) j) 3 _ _ (fun i j => ?_) (fun i j => ?_) i j
    · exact nibHalf_spec T f7 hf k.val 2 6 hk (by norm_num) (by norm_num) _ _ _ _ _ _ (by simp) (by simp) (by simp) i j
    · exact nibHalf_spec T f7 hf k.val 2 7 hk (by norm_num) (by norm_num) _ _ _ _ _ _ (by simp) (by simp) (by simp) i j
  · exact lhs3 T v2867 v2870 v2871 hm k hk
  · intro i j
    refine beside_spec (fun i j => deq W s z (128 * k.val + 32 * 3 + i / 8) (nibField (i % 8)) j) 3 _ _ (fun i j => ?_) (fun i j => ?_) i j
    · exact nibHalf_spec T f7 hf k.val 3 6 hk (by norm_num) (by norm_num) _ _ _ _ _ _ (by simp) (by simp) (by simp) i j
    · exact nibHalf_spec T f7 hf k.val 3 7 hk (by norm_num) (by norm_num) _ _ _ _ _ _ (by simp) (by simp) (by simp) i j
  · exact (readA _ _ _ a16 a j).trans (by simp)

include hf in
/-- Column tile 3 of the second accumulator. -/
theorem piece17_3 (h par pr : ℕ) (hh : h < 2) (hpar : par < 2) (hpr : pr < 6) (a : Fin 32) (ha : a.val = 16 * h + 8 * par + pr) (j : Fin 256) :
    (k0_pay140 (trip.sl.v7276 c a17) (trip.sl.r_141 c k f7 a11 a14 a15) : FVec Ideal S32x256 .f32) (ix2 a j) = step17 x W s z k.val a17 a h (2 * pr + par) (256 * 3 + j.val) := by
  simp only [trip.sl.r_141, trip.sl.r_140, k0_pay138, trip.sl.r_139, k0_pay137, trip.sl.r, k0_pay2, k0_pay139, trip.sl.v7276, k0_pay140]
  change restTile _ _ _ (ix2 a j) = at2 (α := EReal) (A := 32) (B := 1536) a17 a.val (256 * 3 + j.val) + _
  refine (restTile_spec x W s z k.val 3 _ _ _ a h (2 * pr + par) hh ?_ ?_ j).trans (congrArg (· + _) ?_)
  · intro i
    refine (readR _ _ _ a11 0 a i).trans ?_
    have e := T.hR k.val h par pr i hk hh hpar hpr i.isLt
    rw [← ha] at e
    simpa using e
  · intro i j
    refine beside_spec (fun i j => deq W s z (128 * k.val + i / 2) (3 + 4 * (i % 2)) j) 3 _ _ (fun i j => ?_) (fun i j => ?_) i j
    · exact restHalf_spec T f7 hf k.val 6 hk (by norm_num) _ _ _ _ _ _ (by simp) (by simp) (by simp) i j
    · exact restHalf_spec T f7 hf k.val 7 hk (by norm_num) _ _ _ _ _ _ (by simp) (by simp) (by simp) i j
  · exact (readB _ _ _ a17 a j).trans (by simp)

include hf in
/-- Column tile 4 of the first accumulator. -/
theorem piece16_4 (a : Fin 96) (j : Fin 256) :
    (k0_pay170 (trip.sl.r_24 c v2867 v2870 v2871 k a10) (trip.sl.r_159 c v2867 v2870 v2871 k f7 a10 a12 a13) (trip.sl.r_162 c k f7 a12 a13) (trip.sl.r_163 c k a12) (trip.sl.r_164 c k f7 a13) k0_pay168 k0_pay169 (trip.sl.v7640 c a16) : FVec Ideal S96x256 .f32) (ix2 a j) = step16 x W s z k.val a16 a (256 * 4 + j.val) := by
  simp only [trip.sl.v7640, k0_pay169, k0_pay168, trip.sl.r_164, k0_pay167, trip.sl.r_163, k0_pay166, trip.sl.r_162, k0_pay164, trip.sl.r_161, k0_pay163, trip.sl.r_160, k0_pay162, k0_pay165, trip.sl.r_159, trip.sl.r_158, k0_pay160, trip.sl.r_157, k0_pay159, trip.sl.r_156, k0_pay157, trip.sl.r_155, k0_pay156, trip.sl.r_154, k0_pay155, k0_pay158, trip.sl.r_153, k0_pay153, trip.sl.r_152, k0_pay152, trip.sl.r_151, k0_pay151, trip.sl.r_150, trip.sl.r_149, k0_pay149, trip.sl.r_148, k0_pay148, k0_pay150, trip.sl.r_147, trip.sl.r_146, k0_pay146, trip.sl.r_145, k0_pay145, trip.sl.r_144, trip.sl.r_143, k0_pay143, trip.sl.r_142, k0_pay142, k0_pay144, k0_pay141, k0_pay147, k0_pay154, k0_pay161, k0_pay170]
  refine (nibTile_spec x W s z k.val 4 _ _ _ _ _ _ _ _ _ ?_ ?_ ?_ ?_ ?_ ?_ ?_ ?_ a j).trans (congrArg (· + _) ?_)
  · exact lhs0 T v2867 v2870 v2871 hm k hk
  · intro i j
    refine beside_spec (fun i j => deq W s z (128 * k.val + 32 * 0 + i / 8) (nibField (i % 8)) j) 4 _ _ (fun i j => ?_) (fun i j => ?_) i j
    · exact nibHalf_spec T f7 hf k.val 0 8 hk (by norm_num) (by norm_num) _ _ _ _ _ _ (by simp) (by simp) (by simp) i j
    · exact nibHalf_spec T f7 hf k.val 0 9 hk (by norm_num) (by norm_num) _ _ _ _ _ _ (by simp) (by simp) (by simp) i j
  · exact lhs1 T v2867 v2870 v2871 hm k hk
  · intro i j
    refine beside_spec (fun i j => deq W s z (128 * k.val + 32 * 1 + i / 8) (nibField (i % 8)) j) 4 _ _ (fun i j => ?_) (fun i j => ?_) i j
    · exact nibHalf_spec T f7 hf k.val 1 8 hk (by norm_num) (by norm_num) _ _ _ _ _ _ (by simp) (by simp) (by simp) i j
    · exact nibHalf_spec T f7 hf k.val 1 9 hk (by norm_num) (by norm_num) _ _ _ _ _ _ (by simp) (by simp) (by simp) i j
  · exact lhs2 T v2867 v2870 v2871 hm k hk
  · intro i j
    refine beside_spec (fun i j => deq W s z (128 * k.val + 32 * 2 + i / 8) (nibField (i % 8)) j) 4 _ _ (fun i j => ?_) (fun i j => ?_) i j
    · exact nibHalf_spec T f7 hf k.val 2 8 hk (by norm_num) (by norm_num) _ _ _ _ _ _ (by simp) (by simp) (by simp) i j
    · exact nibHalf_spec T f7 hf k.val 2 9 hk (by norm_num) (by norm_num) _ _ _ _ _ _ (by simp) (by simp) (by simp) i j
  · exact lhs3 T v2867 v2870 v2871 hm k hk
  · intro i j
    refine beside_spec (fun i j => deq W s z (128 * k.val + 32 * 3 + i / 8) (nibField (i % 8)) j) 4 _ _ (fun i j => ?_) (fun i j => ?_) i j
    · exact nibHalf_spec T f7 hf k.val 3 8 hk (by norm_num) (by norm_num) _ _ _ _ _ _ (by simp) (by simp) (by simp) i j
    · exact nibHalf_spec T f7 hf k.val 3 9 hk (by norm_num) (by norm_num) _ _ _ _ _ _ (by simp) (by simp) (by simp) i j
  · exact (readA _ _ _ a16 a j).trans (by simp)

include hf in
/-- Column tile 4 of the second accumulator. -/
theorem piece17_4 (h par pr : ℕ) (hh : h < 2) (hpar : par < 2) (hpr : pr < 6) (a : Fin 32) (ha : a.val = 16 * h + 8 * par + pr) (j : Fin 256) :
    (k0_pay174 (trip.sl.r c k a11) (trip.sl.r_165 c k a14) (trip.sl.r_166 c k f7) (trip.sl.r_167 c k a15) (View.readAt (Elt Ideal) sc1.view (Rect.unit (s := S3840x1536) (k0_off100 k) S128x128.size (k0_off100_inb k)).toLoadRect f7) (View.readAt (Elt Ideal) sc9.view (Rect.unit (s := S12x30x128) (k0_off97 k) S1x1x128.size (k0_off97_inb k)).toLoadRect a15) (View.readAt (Elt Ideal) sc8.view (Rect.unit (s := S12x60x128) (k0_off101 k) S1x2x128.size (k0_off101_inb k)).toLoadRect a14) (trip.sl.v7703 c a17) : FVec Ideal S32x256 .f32) (ix2 a j) = step17 x W s z k.val a17 a h (2 * pr + par) (256 * 4 + j.val) := by
  simp only [trip.sl.v7703, trip.sl.r_167, k0_pay173, trip.sl.r_166, k0_pay172, trip.sl.r_165, k0_pay171, trip.sl.r, k0_pay2, k0_pay174]
  change restTile _ _ _ (ix2 a j) = at2 (α := EReal) (A := 32) (B := 1536) a17 a.val (256 * 4 + j.val) + _
  refine (restTile_spec x W s z k.val 4 _ _ _ a h (2 * pr + par) hh ?_ ?_ j).trans (congrArg (· + _) ?_)
  · intro i
    refine (readR _ _ _ a11 0 a i).trans ?_
    have e := T.hR k.val h par pr i hk hh hpar hpr i.isLt
    rw [← ha] at e
    simpa using e
  · intro i j
    refine beside_spec (fun i j => deq W s z (128 * k.val + i / 2) (3 + 4 * (i % 2)) j) 4 _ _ (fun i j => ?_) (fun i j => ?_) i j
    · exact restHalf_spec T f7 hf k.val 8 hk (by norm_num) _ _ _ _ _ _ (by simp) (by simp) (by simp) i j
    · exact restHalf_spec T f7 hf k.val 9 hk (by norm_num) _ _ _ _ _ _ (by simp) (by simp) (by simp) i j
  · exact (readB _ _ _ a17 a j).trans (by simp)

include hf in
/-- Column tile 5 of the first accumulator. -/
theorem piece16_5 (a : Fin 96) (j : Fin 256) :
    (k0_pay194 (trip.sl.r_24 c v2867 v2870 v2871 k a10) (trip.sl.r_180 c v2867 v2870 v2871 k f7 a10 a12 a13) (trip.sl.r_183 c k f7 a12 a13) (trip.sl.r_184 c k a12) (trip.sl.r_185 c k f7 a13) (trip.sl.v8067 c a16) : FVec Ideal S96x256 .f32) (ix2 a j) = step16 x W s z k.val a16 a (256 * 5 + j.val) := by
  simp only [trip.sl.r_180, trip.sl.r_179, k0_pay187, trip.sl.r_178, k0_pay186, trip.sl.r_177, trip.sl.r_176, k0_pay184, trip.sl.r_175, k0_pay183, k0_pay185, trip.sl.r_174, trip.sl.r_173, k0_pay181, trip.sl.r_172, trip.sl.r_171, k0_pay179, k0_pay180, trip.sl.r_170, trip.sl.cst_5728, trip.sl.r_169, trip.sl.r_168, k0_pay176, k0_pay177, k0_pay175, k0_pay178, k0_pay182, k0_pay188, trip.sl.r_183, trip.sl.r_182, k0_pay190, trip.sl.r_181, k0_pay189, k0_pay191, trip.sl.r_184, k0_pay192, trip.sl.r_185, k0_pay193, trip.sl.v8067, k0_pay194]
  refine (nibTile_spec x W s z k.val 5 _ _ _ _ _ _ _ _ _ ?_ ?_ ?_ ?_ ?_ ?_ ?_ ?_ a j).trans (congrArg (· + _) ?_)
  · exact lhs0 T v2867 v2870 v2871 hm k hk
  · intro i j
    refine beside_spec (fun i j => deq W s z (128 * k.val + 32 * 0 + i / 8) (nibField (i % 8)) j) 5 _ _ (fun i j => ?_) (fun i j => ?_) i j
    · exact nibHalf_spec T f7 hf k.val 0 10 hk (by norm_num) (by norm_num) _ _ _ _ _ _ (by simp) (by simp) (by simp) i j
    · exact nibHalf_spec T f7 hf k.val 0 11 hk (by norm_num) (by norm_num) _ _ _ _ _ _ (by simp) (by simp) (by simp) i j
  · exact lhs1 T v2867 v2870 v2871 hm k hk
  · intro i j
    refine beside_spec (fun i j => deq W s z (128 * k.val + 32 * 1 + i / 8) (nibField (i % 8)) j) 5 _ _ (fun i j => ?_) (fun i j => ?_) i j
    · exact nibHalf_spec T f7 hf k.val 1 10 hk (by norm_num) (by norm_num) _ _ _ _ _ _ (by simp) (by simp) (by simp) i j
    · exact nibHalf_spec T f7 hf k.val 1 11 hk (by norm_num) (by norm_num) _ _ _ _ _ _ (by simp) (by simp) (by simp) i j
  · exact lhs2 T v2867 v2870 v2871 hm k hk
  · intro i j
    refine beside_spec (fun i j => deq W s z (128 * k.val + 32 * 2 + i / 8) (nibField (i % 8)) j) 5 _ _ (fun i j => ?_) (fun i j => ?_) i j
    · exact nibHalf_spec T f7 hf k.val 2 10 hk (by norm_num) (by norm_num) _ _ _ _ _ _ (by simp) (by simp) (by simp) i j
    · exact nibHalf_spec T f7 hf k.val 2 11 hk (by norm_num) (by norm_num) _ _ _ _ _ _ (by simp) (by simp) (by simp) i j
  · exact lhs3 T v2867 v2870 v2871 hm k hk
  · intro i j
    refine beside_spec (fun i j => deq W s z (128 * k.val + 32 * 3 + i / 8) (nibField (i % 8)) j) 5 _ _ (fun i j => ?_) (fun i j => ?_) i j
    · exact nibHalf_spec T f7 hf k.val 3 10 hk (by norm_num) (by norm_num) _ _ _ _ _ _ (by simp) (by simp) (by simp) i j
    · exact nibHalf_spec T f7 hf k.val 3 11 hk (by norm_num) (by norm_num) _ _ _ _ _ _ (by simp) (by simp) (by simp) i j
  · exact (readA _ _ _ a16 a j).trans (by simp)

include hf in
/-- Column tile 5 of the second accumulator. -/
theorem piece17_5 (h par pr : ℕ) (hh : h < 2) (hpar : par < 2) (hpr : pr < 6) (a : Fin 32) (ha : a.val = 16 * h + 8 * par + pr) (j : Fin 256) :
    (k0_pay722 (trip.sl.r c k a11) (trip.sl.r_186 c k f7 a14 a15) (View.readAt (Elt Ideal) sc1.view (Rect.unit (s := S3840x1536) (k0_off110 k) S128x128.size (k0_off110_inb k)).toLoadRect f7) (View.readAt (Elt Ideal) sc9.view (Rect.unit (s := S12x30x128) (k0_off107 k) S1x1x128.size (k0_off107_inb k)).toLoadRect a15) (View.readAt (Elt Ideal) sc8.view (Rect.unit (s := S12x60x128) (k0_off111 k) S1x2x128.size (k0_off111_inb k)).toLoadRect a14) (trip.sl.v8130 c a17) : FVec Ideal S32x256 .f32) (ix2 a j) = step17 x W s z k.val a17 a h (2 * pr + par) (256 * 5 + j.val) := by
  simp only [trip.sl.r_186, k0_pay195, trip.sl.r, k0_pay2, trip.sl.v8130, k0_pay722]
  change restTile _ _ _ (ix2 a j) = at2 (α := EReal) (A := 32) (B := 1536) a17 a.val (256 * 5 + j.val) + _
  refine (restTile_spec x W s z k.val 5 _ _ _ a h (2 * pr + par) hh ?_ ?_ j).trans (congrArg (· + _) ?_)
  · intro i
    refine (readR _ _ _ a11 0 a i).trans ?_
    have e := T.hR k.val h par pr i hk hh hpar hpr i.isLt
    rw [← ha] at e
    simpa using e
  · intro i j
    refine beside_spec (fun i j => deq W s z (128 * k.val + i / 2) (3 + 4 * (i % 2)) j) 5 _ _ (fun i j => ?_) (fun i j => ?_) i j
    · exact restHalf_spec T f7 hf k.val 10 hk (by norm_num) _ _ _ _ _ _ (by simp) (by simp) (by simp) i j
    · exact restHalf_spec T f7 hf k.val 11 hk (by norm_num) _ _ _ _ _ _ (by simp) (by simp) (by simp) i j
  · exact (readB _ _ _ a17 a j).trans (by simp)

end Pieces
end Cert.KernelIdeal.Hand
-- ==== Proof.Ideal.Acc.lean ====
/- The accumulators after a trip and after the loop, in terms of the arguments. -/
module
public import proofs.«01_k».proof.Proof.Ideal.Pieces
@[expose] public section
set_option maxHeartbeats 0
noncomputable section
namespace Cert.KernelIdeal.Hand
open Cert.KernelIdeal Cert.KernelIdeal.Gen
open Idealize.ShloMosaic Idealize.ShloMosaic.TcCoe

theorem ix2_eta {A B : ℕ} (y : (⟨2, ![A, B]⟩ : Shape).Idx) : ix2 (y 0) (y 1) = y := by
  funext a; fin_cases a <;> rfl

/-- What a list of pieces leaves at a position, from what the pieces hold at the positions of interest. -/
theorem read_writes_on {sig : RefSig} {κ : Kind} {sp : Space} {s : Shape} {e : EltTy} {Val : EltTy → Type} (v : View sig κ sp s e) (f : v.ty.Contents Val) (P : s.Idx → Prop) (G : s.Idx → Val e) :
    ∀ L : List (View.Piece Val s e), (∀ p ∈ L, ∀ x : p.1.shape.Idx, P (p.1.emb x) → p.2 x = G (p.1.emb x)) →
      ∀ y : s.Idx, P y → (∃ p ∈ L, y ∈ p.1.set) → v.read Val (v.writes Val f L) y = G y
  | [], _, _, _, h => by obtain ⟨_, hm, _⟩ := h; exact absurd hm List.not_mem_nil
  | p :: L, hG, y, hP, h => by
    by_cases hy : y ∈ p.1.set
    · obtain ⟨x, rfl⟩ : ∃ x, p.1.emb x = y := p.1.exists_idx_of_mem hy
      obtain ⟨r, w⟩ := p
      rw [View.read_writes_cons_emb]
      exact hG _ List.mem_cons_self x hP
    · have hy' : y ∉ Finset.univ.map p.1.emb := by rwa [Rect.map_emb_univ]
      rw [View.writes_cons, View.read_slice_write_of_not_mem p.1 _ _ _ hy']
      refine read_writes_on v f P G L (fun q hq => hG q (List.mem_cons_of_mem _ hq)) y hP ?_
      obtain ⟨q, hq, hyq⟩ := h
      rcases List.mem_cons.1 hq with rfl | hq
      · exact absurd hyq hy
      · exact ⟨q, hq, hyq⟩

section Acc
variable {c : Dev nD} {x : S12x3840.Idx → EReal} {W : S3840x1536.Idx → BitVec 32} {s : S30x15360.Idx → EReal} {z : S30x15360.Idx → BitVec 8}
  {a10 : BufOf (F := Ideal) c sc4} {a11 : BufOf (F := Ideal) c sc5} {a12 : BufOf (F := Ideal) c sc6} {a13 : BufOf (F := Ideal) c sc7}
  {a14 : BufOf (F := Ideal) c sc8} {a15 : BufOf (F := Ideal) c sc9} (T : Tables c x W s z a10 a11 a12 a13 a14 a15)
  (a4 : Memref sig .tc .vmem S1440x128 .f32) (h4 : a4.IsWhole) (a5 : Memref sig .tc .vmem S12x15360 .bf16) (h5 : a5.IsWhole)
  (v2867 v2870 v2871 : IVec S16x256 32) (hm : ∀ (r : Fin 16) (i : Fin 256), cmpi .eq v2870 (shrsi v2867 v2871) (ix2 r i) = 1#1 ↔ i.val % 8 = r.val / 2)
  (k : Fin k0_t1_loop.trips) (hk : k.val < 30) (f1 : BufOf (F := Ideal) c hb1) (f7 : BufOf (F := Ideal) c sc1) (hf : f7 = W)
  (a16 : BufOf (F := Ideal) c sc10) (a17 : BufOf (F := Ideal) c sc11)
include T hm hf

/-- The first accumulator after a trip. -/
theorem trip_16 (a j : ℕ) (ha : a < 96) (hj : j < 1536) :
    at2 (α := EReal) (A := 96) (B := 1536) (trip (F := Ideal) c a4 h4 a5 h5 v2867 v2870 v2871 k hk f1 f7 a10 a11 a12 a13 a14 a15 a16 a17).1.1 a j = step16 x W s z k.val a16 a j := by
  have H := View.read_writes_apply_of_pieces (Val := Elt Ideal) (v := View.whole cc0_scratch10) (f := a16) (fun y => step16 x W s z k.val a16 (y 0).val (y 1).val)
    (⟨Rect.unit (s := S96x1536) ![0, 1280] S96x256.size inb_S96x1536_S96x256_0_1280, k0_pay194 (trip.sl.r_24 c v2867 v2870 v2871 k a10) (trip.sl.r_180 c v2867 v2870 v2871 k f7 a10 a12 a13) (trip.sl.r_183 c k f7 a12 a13) (trip.sl.r_184 c k a12) (trip.sl.r_185 c k f7 a13) (trip.sl.v8067 c a16)⟩ :: trip.sl.HS10_5 (F := Ideal) c v2867 v2870 v2871 k f7 a10 a12 a13 a16) ?_ (ix2 ⟨a, ha⟩ ⟨j, hj⟩) ?_
  · rw [at2, dif_pos ⟨ha, hj⟩]; exact H
  · refine List.forall_mem_cons.2 ⟨?_, List.forall_mem_cons.2 ⟨?_, List.forall_mem_cons.2 ⟨?_, List.forall_mem_cons.2 ⟨?_, List.forall_mem_cons.2 ⟨?_, List.forall_mem_cons.2 ⟨?_, fun p hp => absurd hp List.not_mem_nil⟩⟩⟩⟩⟩⟩
    · intro y; rw [← ix2_eta (A := 96) (B := 256) y]
      refine (piece16_5 T v2867 v2870 v2871 hm k hk f7 hf a16 (y 0) (y 1)).trans ?_
      show step16 x W s z k.val a16 (y 0).val _ = step16 x W s z k.val a16 (0 + 1 * (y 0).val) (1280 + 1 * (y 1).val)
      rw [Nat.one_mul, Nat.one_mul, Nat.zero_add]
    · intro y; rw [← ix2_eta (A := 96) (B := 256) y]
      refine (piece16_4 T v2867 v2870 v2871 hm k hk f7 hf a16 (y 0) (y 1)).trans ?_
      show step16 x W s z k.val a16 (y 0).val _ = step16 x W s z k.val a16 (0 + 1 * (y 0).val) (1024 + 1 * (y 1).val)
      rw [Nat.one_mul, Nat.one_mul, Nat.zero_add]
    · intro y; rw [← ix2_eta (A := 96) (B := 256) y]
      refine (piece16_3 T v2867 v2870 v2871 hm k hk f7 hf a16 (y 0) (y 1)).trans ?_
      show step16 x W s z k.val a16 (y 0).val _ = step16 x W s z k.val a16 (0 + 1 * (y 0).val) (768 + 1 * (y 1).val)
      rw [Nat.one_mul, Nat.one_mul, Nat.zero_add]
    · intro y; rw [← ix2_eta (A := 96) (B := 256) y]
      refine (piece16_2 T v2867 v2870 v2871 hm k hk f7 hf a16 (y 0) (y 1)).trans ?_
      show step16 x W s z k.val a16 (y 0).val _ = step16 x W s z k.val a16 (0 + 1 * (y 0).val) (512 + 1 * (y 1).val)
      rw [Nat.one_mul, Nat.one_mul, Nat.zero_add]
    · intro y; rw [← ix2_eta (A := 96) (B := 256) y]
      refine (piece16_1 T v2867 v2870 v2871 hm k hk f7 hf a16 (y 0) (y 1)).trans ?_
      show step16 x W s z k.val a16 (y 0).val _ = step16 x W s z k.val a16 (0 + 1 * (y 0).val) (256 + 1 * (y 1).val)
      rw [Nat.one_mul, Nat.one_mul, Nat.zero_add]
    · intro y; rw [← ix2_eta (A := 96) (B := 256) y]
      refine (piece16_0 T v2867 v2870 v2871 hm k hk f7 hf a16 (y 0) (y 1)).trans ?_
      show step16 x W s z k.val a16 (y 0).val (256 * 0 + (y 1).val) = step16 x W s z k.val a16 (0 + 1 * (y 0).val) (0 + 1 * (y 1).val)
      simp only [Nat.one_mul, Nat.mul_zero, Nat.zero_add]
  · have hy : j / 256 < 6 := by omega
    rcases (by omega : j / 256 = 0 ∨ j / 256 = 1 ∨ j / 256 = 2 ∨ j / 256 = 3 ∨ j / 256 = 4 ∨ j / 256 = 5) with e | e | e | e | e | e
    · refine ⟨⟨Rect.unit (s := S96x1536) ![0, 0] S96x256.size inb_S96x1536_S96x256_0_0, _⟩, List.mem_cons_of_mem _ (List.mem_cons_of_mem _ (List.mem_cons_of_mem _ (List.mem_cons_of_mem _ (List.mem_cons_of_mem _ (List.mem_cons_self))))), (Rect.mem_set_unit (s := S96x1536) (inb := inb_S96x1536_S96x256_0_0)).2 fun b => ?_⟩
      fin_cases b
      · exact ⟨Nat.zero_le _, by show a < 0 + 96; omega⟩
      · exact ⟨by show 0 ≤ j; omega, by show j < 0 + 256; omega⟩
    · refine ⟨_, List.mem_cons_of_mem _ (List.mem_cons_of_mem _ (List.mem_cons_of_mem _ (List.mem_cons_of_mem _ (List.mem_cons_self)))), (Rect.mem_set_unit (s := S96x1536) (inb := inb_S96x1536_S96x256_0_256)).2 fun b => ?_⟩
      fin_cases b
      · exact ⟨Nat.zero_le _, by show a < 0 + 96; omega⟩
      · exact ⟨by show 256 ≤ j; omega, by show j < 256 + 256; omega⟩
    · refine ⟨_, List.mem_cons_of_mem _ (List.mem_cons_of_mem _ (List.mem_cons_of_mem _ (List.mem_cons_self))), (Rect.mem_set_unit (s := S96x1536) (inb := inb_S96x1536_S96x256_0_512)).2 fun b => ?_⟩
      fin_cases b
      · exact ⟨Nat.zero_le _, by show a < 0 + 96; omega⟩
      · exact ⟨by show 512 ≤ j; omega, by show j < 512 + 256; omega⟩
    · refine ⟨_, List.mem_cons_of_mem _ (List.mem_cons_of_mem _ (List.mem_cons_self)), (Rect.mem_set_unit (s := S96x1536) (inb := inb_S96x1536_S96x256_0_768)).2 fun b => ?_⟩
      fin_cases b
      · exact ⟨Nat.zero_le _, by show a < 0 + 96; omega⟩
      · exact ⟨by show 768 ≤ j; omega, by show j < 768 + 256; omega⟩
    · refine ⟨_, List.mem_cons_of_mem _ (List.mem_cons_self), (Rect.mem_set_unit (s := S96x1536) (inb := inb_S96x1536_S96x256_0_1024)).2 fun b => ?_⟩
      fin_cases b
      · exact ⟨Nat.zero_le _, by show a < 0 + 96; omega⟩
      · exact ⟨by show 1024 ≤ j; omega, by show j < 1024 + 256; omega⟩
    · refine ⟨_, List.mem_cons_self, (Rect.mem_set_unit (s := S96x1536) (inb := inb_S96x1536_S96x256_0_1280)).2 fun b => ?_⟩
      fin_cases b
      · exact ⟨Nat.zero_le _, by show a < 0 + 96; omega⟩
      · exact ⟨by show 1280 ≤ j; omega, by show j < 1280 + 256; omega⟩

/-- The second accumulator after a trip, at the rows used. -/
theorem trip_17 (h par pr j : ℕ) (hh : h < 2) (hpar : par < 2) (hpr : pr < 6) (hj : j < 1536) :
    at2 (α := EReal) (A := 32) (B := 1536) (trip (F := Ideal) c a4 h4 a5 h5 v2867 v2870 v2871 k hk f1 f7 a10 a11 a12 a13 a14 a15 a16 a17).1.2 (16 * h + 8 * par + pr) j
      = step17 x W s z k.val a17 (16 * h + 8 * par + pr) h (2 * pr + par) j := by
  obtain ⟨a, ea⟩ : ∃ a, a = 16 * h + 8 * par + pr := ⟨_, rfl⟩
  have ha : a < 32 := by omega
  rw [← ea]
  have H := read_writes_on (Val := Elt Ideal) (View.whole cc0_scratch11) a17 (fun y => (y 0).val = a) (fun y => step17 x W s z k.val a17 a h (2 * pr + par) (y 1).val)
    (⟨Rect.unit (s := S32x1536) ![0, 1280] S32x256.size inb_S32x1536_S32x256_0_1280, k0_pay722 (trip.sl.r c k a11) (trip.sl.r_186 c k f7 a14 a15) (View.readAt (Elt Ideal) sc1.view (Rect.unit (s := S3840x1536) (k0_off110 k) S128x128.size (k0_off110_inb k)).toLoadRect f7) (View.readAt (Elt Ideal) sc9.view (Rect.unit (s := S12x30x128) (k0_off107 k) S1x1x128.size (k0_off107_inb k)).toLoadRect a15) (View.readAt (Elt Ideal) sc8.view (Rect.unit (s := S12x60x128) (k0_off111 k) S1x2x128.size (k0_off111_inb k)).toLoadRect a14) (trip.sl.v8130 c a17)⟩ :: trip.sl.HS11_5 (F := Ideal) c k f7 a11 a14 a15 a17) ?_ (ix2 ⟨a, ha⟩ ⟨j, hj⟩) rfl ?_
  · rw [at2, dif_pos ⟨ha, hj⟩]; exact H
  · refine List.forall_mem_cons.2 ⟨?_, List.forall_mem_cons.2 ⟨?_, List.forall_mem_cons.2 ⟨?_, List.forall_mem_cons.2 ⟨?_, List.forall_mem_cons.2 ⟨?_, List.forall_mem_cons.2 ⟨?_, fun p hp => absurd hp List.not_mem_nil⟩⟩⟩⟩⟩⟩
    · intro y hy; rw [← ix2_eta (A := 32) (B := 256) y]
      have hy' : (y 0).val = a := by have e : 0 + 1 * (y 0).val = a := hy
                                     omega
      refine (piece17_5 T v2867 v2870 v2871 hm k hk f7 hf a17 h par pr hh hpar hpr (y 0) (hy'.trans ea) (y 1)).trans ?_
      show step17 x W s z k.val a17 (y 0).val h (2 * pr + par) _ = step17 x W s z k.val a17 a h (2 * pr + par) (1280 + 1 * (y 1).val)
      simp only [Nat.one_mul, hy', Nat.mul_zero, Nat.zero_add]
    · intro y hy; rw [← ix2_eta (A := 32) (B := 256) y]
      have hy' : (y 0).val = a := by have e : 0 + 1 * (y 0).val = a := hy
                                     omega
      refine (piece17_4 T v2867 v2870 v2871 hm k hk f7 hf a17 h par pr hh hpar hpr (y 0) (hy'.trans ea) (y 1)).trans ?_
      show step17 x W s z k.val a17 (y 0).val h (2 * pr + par) _ = step17 x W s z k.val a17 a h (2 * pr + par) (1024 + 1 * (y 1).val)
      simp only [Nat.one_mul, hy', Nat.mul_zero, Nat.zero_add]
    · intro y hy; rw [← ix2_eta (A := 32) (B := 256) y]
      have hy' : (y 0).val = a := by have e : 0 + 1 * (y 0).val = a := hy
                                     omega
      refine (piece17_3 T v2867 v2870 v2871 hm k hk f7 hf a17 h par pr hh hpar hpr (y 0) (hy'.trans ea) (y 1)).trans ?_
      show step17 x W s z k.val a17 (y 0).val h (2 * pr + par) _ = step17 x W s z k.val a17 a h (2 * pr + par) (768 + 1 * (y 1).val)
      simp only [Nat.one_mul, hy', Nat.mul_zero, Nat.zero_add]
    · intro y hy; rw [← ix2_eta (A := 32) (B := 256) y]
      have hy' : (y 0).val = a := by have e : 0 + 1 * (y 0).val = a := hy
                                     omega
      refine (piece17_2 T v2867 v2870 v2871 hm k hk f7 hf a17 h par pr hh hpar hpr (y 0) (hy'.trans ea) (y 1)).trans ?_
      show step17 x W s z k.val a17 (y 0).val h (2 * pr + par) _ = step17 x W s z k.val a17 a h (2 * pr + par) (512 + 1 * (y 1).val)
      simp only [Nat.one_mul, hy', Nat.mul_zero, Nat.zero_add]
    · intro y hy; rw [← ix2_eta (A := 32) (B := 256) y]
      have hy' : (y 0).val = a := by have e : 0 + 1 * (y 0).val = a := hy
                                     omega
      refine (piece17_1 T v2867 v2870 v2871 hm k hk f7 hf a17 h par pr hh hpar hpr (y 0) (hy'.trans ea) (y 1)).trans ?_
      show step17 x W s z k.val a17 (y 0).val h (2 * pr + par) _ = step17 x W s z k.val a17 a h (2 * pr + par) (256 + 1 * (y 1).val)
      simp only [Nat.one_mul, hy', Nat.mul_zero, Nat.zero_add]
    · intro y hy; rw [← ix2_eta (A := 32) (B := 256) y]
      have hy' : (y 0).val = a := by have e : 0 + 1 * (y 0).val = a := hy
                                     omega
      refine (piece17_0 T v2867 v2870 v2871 hm k hk f7 hf a17 h par pr hh hpar hpr (y 0) (hy'.trans ea) (y 1)).trans ?_
      show step17 x W s z k.val a17 (y 0).val h (2 * pr + par) _ = step17 x W s z k.val a17 a h (2 * pr + par) (0 + 1 * (y 1).val)
      simp only [Nat.one_mul, hy', Nat.mul_zero, Nat.zero_add]
  · have hy : j / 256 < 6 := by omega
    rcases (by omega : j / 256 = 0 ∨ j / 256 = 1 ∨ j / 256 = 2 ∨ j / 256 = 3 ∨ j / 256 = 4 ∨ j / 256 = 5) with e | e | e | e | e | e
    · refine ⟨⟨Rect.unit (s := S32x1536) ![0, 0] S32x256.size inb_S32x1536_S32x256_0_0, _⟩, List.mem_cons_of_mem _ (List.mem_cons_of_mem _ (List.mem_cons_of_mem _ (List.mem_cons_of_mem _ (List.mem_cons_of_mem _ (List.mem_cons_self))))), (Rect.mem_set_unit (s := S32x1536) (inb := inb_S32x1536_S32x256_0_0)).2 fun b => ?_⟩
      fin_cases b
      · exact ⟨Nat.zero_le _, by show a < 0 + 32; omega⟩
      · exact ⟨by show 0 ≤ j; omega, by show j < 0 + 256; omega⟩
    · refine ⟨_, List.mem_cons_of_mem _ (List.mem_cons_of_mem _ (List.mem_cons_of_mem _ (List.mem_cons_of_mem _ (List.mem_cons_self)))), (Rect.mem_set_unit (s := S32x1536) (inb := inb_S32x1536_S32x256_0_256)).2 fun b => ?_⟩
      fin_cases b
      · exact ⟨Nat.zero_le _, by show a < 0 + 32; omega⟩
      · exact ⟨by show 256 ≤ j; omega, by show j < 256 + 256; omega⟩
    · refine ⟨_, List.mem_cons_of_mem _ (List.mem_cons_of_mem _ (List.mem_cons_of_mem _ (List.mem_cons_self))), (Rect.mem_set_unit (s := S32x1536) (inb := inb_S32x1536_S32x256_0_512)).2 fun b => ?_⟩
      fin_cases b
      · exact ⟨Nat.zero_le _, by show a < 0 + 32; omega⟩
      · exact ⟨by show 512 ≤ j; omega, by show j < 512 + 256; omega⟩
    · refine ⟨_, List.mem_cons_of_mem _ (List.mem_cons_of_mem _ (List.mem_cons_self)), (Rect.mem_set_unit (s := S32x1536) (inb := inb_S32x1536_S32x256_0_768)).2 fun b => ?_⟩
      fin_cases b
      · exact ⟨Nat.zero_le _, by show a < 0 + 32; omega⟩
      · exact ⟨by show 768 ≤ j; omega, by show j < 768 + 256; omega⟩
    · refine ⟨_, List.mem_cons_of_mem _ (List.mem_cons_self), (Rect.mem_set_unit (s := S32x1536) (inb := inb_S32x1536_S32x256_0_1024)).2 fun b => ?_⟩
      fin_cases b
      · exact ⟨Nat.zero_le _, by show a < 0 + 32; omega⟩
      · exact ⟨by show 1024 ≤ j; omega, by show j < 1024 + 256; omega⟩
    · refine ⟨_, List.mem_cons_self, (Rect.mem_set_unit (s := S32x1536) (inb := inb_S32x1536_S32x256_0_1280)).2 fun b => ?_⟩
      fin_cases b
      · exact ⟨Nat.zero_le _, by show a < 0 + 32; omega⟩
      · exact ⟨by show 1280 ≤ j; omega, by show j < 1280 + 256; omega⟩

omit hk in
/-- The first accumulator after `g` trips. -/
theorem accs_16 (g : ℕ) (hg : g ≤ 30) (a j : ℕ) (ha : a < 96) (hj : j < 1536) :
    at2 (α := EReal) (A := 96) (B := 1536) (accs (F := Ideal) c a4 h4 a5 h5 v2867 v2870 v2871 f1 f7 a10 a11 a12 a13 a14 a15 a16 a17 g).1 a j
      = at2 (α := EReal) (A := 96) (B := 1536) a16 a j + ∑ d ∈ Finset.range (128 * g), at2 (A := 12) (B := 3840) x (2 * (a / 16) + a % 2) d * deq W s z d (nibField (a % 16 / 2)) j := by
  induction g with
  | zero => rw [Nat.mul_zero, Finset.range_zero, Finset.sum_empty, add_zero]; rfl
  | succ g ih =>
    have hg' : g < k0_t1_loop.trips := by rw [trips_eq]; omega
    have e := accs_succ (F := Ideal) c a4 h4 a5 h5 v2867 v2870 v2871 f1 f7 a10 a11 a12 a13 a14 a15 a16 a17 ⟨g, hg'⟩ (by show g < 30; omega)
    rw [show accs (F := Ideal) c a4 h4 a5 h5 v2867 v2870 v2871 f1 f7 a10 a11 a12 a13 a14 a15 a16 a17 (g + 1) = _ from e]
    rw [trip_16 T a4 h4 a5 h5 v2867 v2870 v2871 hm ⟨g, hg'⟩ (by show g < 30; omega) f1 f7 hf _ _ a j ha hj]
    rw [step16, ih (by omega), Nat.mul_succ, Finset.sum_range_add, add_assoc]

omit hk in
/-- The second accumulator after `g` trips, at the rows used. -/
theorem accs_17 (g : ℕ) (hg : g ≤ 30) (h par pr j : ℕ) (hh : h < 2) (hpar : par < 2) (hpr : pr < 6) (hj : j < 1536) :
    at2 (α := EReal) (A := 32) (B := 1536) (accs (F := Ideal) c a4 h4 a5 h5 v2867 v2870 v2871 f1 f7 a10 a11 a12 a13 a14 a15 a16 a17 g).2 (16 * h + 8 * par + pr) j
      = at2 (α := EReal) (A := 32) (B := 1536) a17 (16 * h + 8 * par + pr) j + ∑ d ∈ Finset.range (128 * g), at2 (A := 12) (B := 3840) x (2 * pr + par) d * deq W s z d (3 + 4 * h) j := by
  induction g with
  | zero => rw [Nat.mul_zero, Finset.range_zero, Finset.sum_empty, add_zero]; rfl
  | succ g ih =>
    have hg' : g < k0_t1_loop.trips := by rw [trips_eq]; omega
    have e := accs_succ (F := Ideal) c a4 h4 a5 h5 v2867 v2870 v2871 f1 f7 a10 a11 a12 a13 a14 a15 a16 a17 ⟨g, hg'⟩ (by show g < 30; omega)
    rw [show accs (F := Ideal) c a4 h4 a5 h5 v2867 v2870 v2871 f1 f7 a10 a11 a12 a13 a14 a15 a16 a17 (g + 1) = _ from e]
    rw [trip_17 T a4 h4 a5 h5 v2867 v2870 v2871 hm ⟨g, hg'⟩ (by show g < 30; omega) f1 f7 hf _ _ h par pr j hh hpar hpr hj]
    rw [step17, ih (by omega), Nat.mul_succ, Finset.sum_range_add, add_assoc]
end Acc
end Cert.KernelIdeal.Hand
-- ==== Proof.Ideal.TabX.lean ====
/- The tables made from the activations, read at an index. -/
module
public import proofs.«01_k».proof.Proof.Ideal.Acc
public import Idealize.ShloMosaic.Lib.Bf16Pair
@[expose] public section
set_option maxHeartbeats 0
noncomputable section
namespace Cert.KernelIdeal.Hand
open Cert.KernelIdeal Cert.KernelIdeal.Gen
open Idealize.ShloMosaic Idealize.ShloMosaic.TcCoe

/-- The selection matrix that repeats each of 32 columns over 8 lanes. -/
def expand8 (o : BitVec 32) : FVec Ideal S128x256 .bf16 :=
  truncf FTy.bf16 (sitofp FTy.f32 (extui 32 (cmpi CmpIPredicate.eq (iota Kind.tc S128x256 32 [0] iota_S128x256_d0_w32)
    (addi (broadcast S128x256 o) (shrsi (iota Kind.tc S128x256 32 [1] iota_S128x256_d1_w32) (broadcast S128x256 3#32)))) natLt_1_32)) bitsLt_bf16_f32
/-- The selection matrix that repeats each of 128 columns over 2 lanes. -/
def expand2 : FVec Ideal S128x256 .bf16 :=
  truncf FTy.bf16 (sitofp FTy.f32 (extui 32 (cmpi CmpIPredicate.eq (iota Kind.tc S128x256 32 [0] iota_S128x256_d0_w32)
    (shrsi (iota Kind.tc S128x256 32 [1] iota_S128x256_d1_w32) (broadcast S128x256 1#32))) natLt_1_32)) bitsLt_bf16_f32

theorem shr3 : ∀ l : Fin 256, IntOp.shrsi ArithUnit.vector (BitVec.ofNat 32 l.val) 3#32 = BitVec.ofNat 32 (l.val / 8) := by decide +kernel
theorem shr1 : ∀ l : Fin 256, IntOp.shrsi ArithUnit.vector (BitVec.ofNat 32 l.val) 1#32 = BitVec.ofNat 32 (l.val / 2) := by decide +kernel

theorem flag (m n : ℕ) (hm : m < 1024) (hn : n < 1024) :
    (FloatOps.sitofp FTy.f32 (BitVec.setWidth 32 (IntOp.cmpi CmpIPredicate.eq (BitVec.ofNat 32 m) (BitVec.ofNat 32 n))) : Ideal .f32) = if m = n then (1 : EReal) else 0 := by
  have h : (BitVec.ofNat 32 m = BitVec.ofNat 32 n) ↔ m = n := by
    rw [← BitVec.toNat_inj, BitVec.toNat_ofNat, BitVec.toNat_ofNat, Nat.mod_eq_of_lt (by omega), Nat.mod_eq_of_lt (by omega)]
  by_cases e : m = n
  · subst e
    rw [if_pos rfl, show IntOp.cmpi CmpIPredicate.eq (BitVec.ofNat 32 m) (BitVec.ofNat 32 m) = 1#1 from by simp [IntOp.cmpi]]
    show (((BitVec.setWidth 32 1#1).toInt : ℝ) : EReal) = 1
    rw [show (BitVec.setWidth 32 1#1).toInt = 1 from rfl]; norm_num
  · rw [if_neg e, show IntOp.cmpi CmpIPredicate.eq (BitVec.ofNat 32 m) (BitVec.ofNat 32 n) = 0#1 from by
      have : (BitVec.ofNat 32 m == BitVec.ofNat 32 n) = false := by rw [beq_eq_false_iff_ne]; exact fun q => e (h.1 q)
      simp [IntOp.cmpi, this]]
    show (((BitVec.setWidth 32 0#1).toInt : ℝ) : EReal) = 0
    rw [show (BitVec.setWidth 32 0#1).toInt = 0 from rfl]; norm_num

theorem expand8_apply (q : ℕ) (hq : q < 4) (i : Fin 128) (l : Fin 256) :
    expand8 (BitVec.ofNat 32 (32 * q)) (ix2 i l) = if i.val = 32 * q + l.val / 8 then 1 else 0 := by
  pointwise [expand8]
  rw [shr3, show IntOp.addi (BitVec.ofNat 32 (32 * q)) (BitVec.ofNat 32 (l.val / 8)) = BitVec.ofNat 32 (32 * q + l.val / 8) from (BitVec.ofNat_add _ _).symm]
  exact flag _ _ (by omega) (by omega)
theorem expand2_apply (i : Fin 128) (l : Fin 256) :
    expand2 (ix2 i l) = if i.val = l.val / 2 then 1 else 0 := by
  pointwise [expand2]
  rw [shr1]
  exact flag _ _ (by omega) (by omega)

theorem x16_apply (v : FVec Ideal S12x3840 .bf16) (par pr : ℕ) (hpar : par < 2) (hpr : pr < 6) (d : Fin 3840) :
    k0_pay196 v (ix2 ⟨8 * par + pr, by omega⟩ d) = v (ix2 ⟨2 * pr + par, by omega⟩ d) := by
  interval_cases par <;> interval_cases pr <;> pointwise [k0_pay196]

def xTab (o : BitVec 32) (off : Fin 2 → ℕ) (h : S16x3840.Slices off S16x128) (r : FVec Ideal S16x3840 .bf16) : FVec Ideal S1x1x16x256 .bf16 :=
  shapeCast S1x1x16x256 (truncf FTy.bf16 (matmul dot_S16x128_S128x256_S16x256_1_0_0_1_n_n none (extractStridedSlice S16x128 off r h) (expand8 o)
    (constant S16x256 FTy.f32 0#32)) bitsLt_bf16_f32) shapeCasts_S16x256_S1x1x16x256

theorem xTab_apply (q g : ℕ) (hq : q < 4) (hg : g < 30) (h : S16x3840.Slices ![0, 128 * g] S16x128) (r : FVec Ideal S16x3840 .bf16) (a : Fin 16) (l : Fin 256) :
    xTab (BitVec.ofNat 32 (32 * q)) ![0, 128 * g] h r (ix4 0 0 a l) = at2 (α := EReal) (A := 16) (B := 3840) r a (128 * g + (32 * q + l.val / 8)) := by
  pointwise [xTab]
  simp only [expand8_apply q hq]
  rw [Finset.sum_eq_single ⟨32 * q + l.val / 8, by omega⟩]
  · rw [if_pos rfl, mul_one, at2, dif_pos ⟨a.isLt, by omega⟩]
  · intro i _ hi
    rw [if_neg fun e => hi (Fin.ext e), mul_zero]
  · intro hi; exact absurd (Finset.mem_univ _) hi

/-- One group's rows of the other left operand. -/
def rMat (off : Fin 2 → ℕ) (h : S16x3840.Slices off S16x128) (r : FVec Ideal S16x3840 .bf16) : FVec Ideal S16x256 .f32 :=
  matmul dot_S16x128_S128x256_S16x256_1_0_0_1_n_n none (extractStridedSlice S16x128 off r h) expand2 (constant S16x256 FTy.f32 0#32)
def rMask : IVec S8x256 1 :=
  cmpi CmpIPredicate.eq (andi (iota Kind.tc S8x256 32 [1] iota_S8x256_d1_w32) (broadcast S8x256 1#32)) (broadcast S8x256 1#32)
def rZero : FVec Ideal S8x256 .f32 := broadcast S8x256 (FloatOps.ofBits FTy.f32 0#32)
def rTab (off : Fin 2 → ℕ) (h : S16x3840.Slices off S16x128) (r : FVec Ideal S16x3840 .bf16) : FVec Ideal S1x32x256 .bf16 :=
  shapeCast S1x32x256 (truncf FTy.bf16 (concatenate S32x256 0
    [⟨S8x256, select rMask rZero (extractStridedSlice S8x256 ![0, 0] (rMat off h r) slices_S16x256_o0_0_S8x256)⟩,
     ⟨S8x256, select rMask rZero (extractStridedSlice S8x256 ![8, 0] (rMat off h r) slices_S16x256_o8_0_S8x256)⟩,
     ⟨S8x256, select rMask (extractStridedSlice S8x256 ![0, 0] (rMat off h r) slices_S16x256_o0_0_S8x256) rZero⟩,
     ⟨S8x256, select rMask (extractStridedSlice S8x256 ![8, 0] (rMat off h r) slices_S16x256_o8_0_S8x256) rZero⟩]
    concatenates_S8x256_S8x256_S8x256_S8x256_S32x256_d0) bitsLt_bf16_f32) shapeCasts_S32x256_S1x32x256

theorem rMat_apply (g : ℕ) (hg : g < 30) (h : S16x3840.Slices ![0, 128 * g] S16x128) (r : FVec Ideal S16x3840 .bf16) (a : Fin 16) (l : Fin 256) :
    rMat ![0, 128 * g] h r (ix2 a l) = at2 (α := EReal) (A := 16) (B := 3840) r a (128 * g + l.val / 2) := by
  pointwise [rMat]
  simp only [expand2_apply]
  rw [Finset.sum_eq_single ⟨l.val / 2, by omega⟩]
  · rw [if_pos rfl, mul_one, at2, dif_pos ⟨a.isLt, by omega⟩]
  · intro i _ hi
    rw [if_neg fun e => hi (Fin.ext e), mul_zero]
  · intro hi; exact absurd (Finset.mem_univ _) hi

theorem rMask_apply (a : Fin 8) (l : Fin 256) : rMask (ix2 a l) = if l.val % 2 = 1 then 1#1 else 0#1 := by
  have h : ∀ l : Fin 256, IntOp.cmpi CmpIPredicate.eq (IntOp.andi (BitVec.ofNat 32 l.val) 1#32) 1#32 = if l.val % 2 = 1 then 1#1 else 0#1 := by decide +kernel
  rw [← h l]
  pointwise [rMask]

theorem rTab_apply (g : ℕ) (hg : g < 30) (h : S16x3840.Slices ![0, 128 * g] S16x128) (r : FVec Ideal S16x3840 .bf16) (a : Fin 32) (l : Fin 256) :
    rTab ![0, 128 * g] h r (ix3 0 a l) = if l.val % 2 = a.val / 16 then at2 (α := EReal) (A := 16) (B := 3840) r (a.val % 16) (128 * g + l.val / 2) else 0 := by
  have hm := rMat_apply g hg h r
  pointwise [rTab]
  have hz : ∀ (a : Fin 8), rZero (ix2 a l) = 0 := fun a => by
    show Ideal.ofBits .f32 0#32 = 0
    simp [Ideal.ofBits, Ideal.ieee]
  simp only [rMask_apply, hm, hz, Scalar.select]
  have hc : ∀ u v d : ℕ, u = v → at2 (α := EReal) (A := 16) (B := 3840) r u d = at2 (α := EReal) (A := 16) (B := 3840) r v d := fun u v d e => by rw [e]
  have ha := a.isLt
  rcases Nat.mod_two_eq_zero_or_one l.val with e | e <;> simp only [e, if_true, if_false, Nat.zero_ne_one, show ¬ ((0#1 : BitVec 1) = 1) from by decide, show ((1#1 : BitVec 1) = 1) from by decide] <;> split_ifs <;>
    first
    | rfl
    | (exfalso; omega)
    | (exact hc _ _ _ (by omega))

/-- A list of pieces whose rectangles are known covers what the rectangles cover. -/
theorem covered {s : Shape} {e : EltTy} {Val : EltTy → Type} (L : List (View.Piece Val s e)) (f : ℕ → Rect s) (n : ℕ)
    (h : L.map (fun p => p.1) = (List.range n).map f) (i : ℕ) (hi : i < n) (y : s.Idx) (hy : y ∈ (f i).set) : ∃ p ∈ L, y ∈ p.1.set := by
  have hm : f i ∈ L.map (fun p => p.1) := by rw [h]; exact List.mem_map.2 ⟨i, List.mem_range.2 hi, rfl⟩
  obtain ⟨p, hp, e⟩ := List.mem_map.1 hm
  exact ⟨p, hp, by rw [e]; exact hy⟩

theorem inbX (i : ℕ) : ∀ a, (![(119 - i) / 4, (119 - i) % 4, 0, 0] : Fin 4 → ℕ) a + S1x1x16x256.size a ≤ S30x4x16x256.size a := by
  intro a; fin_cases a
  · show (119 - i) / 4 + 1 ≤ 30; omega
  · show (119 - i) % 4 + 1 ≤ 4; omega
  · exact le_refl _
  · exact le_refl _
theorem rectsX (c : Dev nD) (f0 : BufOf (F := Ideal) c hb0) (d6 : BufOf (F := Ideal) c sc0) :
    (body_run.sl.HS4_120 (F := Ideal) c f0 d6).map (fun p => p.1) = (List.range 120).map fun i => Rect.unit (s := S30x4x16x256) ![(119 - i) / 4, (119 - i) % 4, 0, 0] S1x1x16x256.size (inbX i) := by
  rfl

theorem ix4_eta {A B C D : ℕ} (y : (⟨4, ![A, B, C, D]⟩ : Shape).Idx) : ix4 (y 0) (y 1) (y 2) (y 3) = y := by
  funext a; fin_cases a <;> rfl
theorem ix3_eta {A B C : ℕ} (y : (⟨3, ![A, B, C]⟩ : Shape).Idx) : ix3 (y 0) (y 1) (y 2) = y := by
  funext a; fin_cases a <;> rfl

/-- What the first activation table holds. -/
def valX (r : FVec Ideal S16x3840 .bf16) (y : S30x4x16x256.Idx) : EReal := at2 (α := EReal) (A := 16) (B := 3840) r (y 2).val (128 * (y 0).val + (32 * (y 1).val + (y 3).val / 8))

theorem pieceX (r : FVec Ideal S16x3840 .bf16) (g q : ℕ) (hg : g < 30) (hq : q < 4) (o : BitVec 32) (off : Fin 2 → ℕ) (h : S16x3840.Slices off S16x128) (ho : o = BitVec.ofNat 32 (32 * q)) (hoff : off = ![0, 128 * g]) (hb) (x : S1x1x16x256.Idx) :
    (shapeCast S1x1x16x256 (truncf FTy.bf16 (matmul dot_S16x128_S128x256_S16x256_1_0_0_1_n_n none (extractStridedSlice S16x128 off r h) (truncf FTy.bf16 (sitofp FTy.f32 (extui 32 (cmpi CmpIPredicate.eq (iota Kind.tc S128x256 32 [0] iota_S128x256_d0_w32) (addi (broadcast S128x256 o) (shrsi (iota Kind.tc S128x256 32 [1] iota_S128x256_d1_w32) (broadcast S128x256 3#32)))) natLt_1_32)) bitsLt_bf16_f32) (constant S16x256 FTy.f32 0#32)) bitsLt_bf16_f32) shapeCasts_S16x256_S1x1x16x256) x = valX r ((Rect.unit (s := S30x4x16x256) ![g, q, 0, 0] S1x1x16x256.size hb).emb x) := by
  subst ho hoff
  change xTab _ _ h r x = _
  rw [← ix4_eta (A := 1) (B := 1) (C := 16) (D := 256) x, show x 0 = (0 : Fin 1) from Subsingleton.elim (α := Fin 1) _ _, show x 1 = (0 : Fin 1) from Subsingleton.elim (α := Fin 1) _ _]
  refine (xTab_apply q g hq hg h r (x 2) (x 3)).trans ?_
  show _ = at2 (α := EReal) (A := 16) (B := 3840) r (0 + 1 * (x 2).val) (128 * (g + 1 * 0) + (32 * (q + 1 * 0) + (0 + 1 * (x 3).val) / 8))
  simp only [Nat.zero_add, Nat.one_mul, Nat.mul_zero, Nat.add_zero]

theorem readTab4 {c : Dev nD} (f : BufOf (F := Ideal) c sc4) (g q a l : ℕ) (hg : g < 30) (hq : q < 4) (ha : a < 16) (hl : l < 256) :
    at4 (α := EReal) (A := 30) (B := 4) (C := 16) (D := 256) f g q a l = sc4.view.read (Elt Ideal) f (ix4 ⟨g, hg⟩ ⟨q, hq⟩ ⟨a, ha⟩ ⟨l, hl⟩) := by
  rw [at4, dif_pos ⟨hg, hq, ha, hl⟩]; rfl

theorem tabX (c : Dev nD) (f0 : BufOf (F := Ideal) c hb0) (d6 : BufOf (F := Ideal) c sc0) (g q a l : ℕ) (hg : g < 30) (hq : q < 4) (ha : a < 16) (hl : l < 256) :
    at4 (α := EReal) (A := 30) (B := 4) (C := 16) (D := 256) (sc4.view.writes (Elt Ideal) sc4.view.junk (body_run.sl.HS4_120 (F := Ideal) c f0 d6)) g q a l
      = at2 (α := EReal) (A := 16) (B := 3840) (body_run.sl.r (F := Ideal) c f0 d6) a (128 * g + (32 * q + l / 8)) := by
  have H := View.read_writes_apply_of_pieces (Val := Elt Ideal) (v := sc4.view) (f := sc4.view.junk) (valX (body_run.sl.r (F := Ideal) c f0 d6))
    (body_run.sl.HS4_120 (F := Ideal) c f0 d6) ?_ (ix4 ⟨g, hg⟩ ⟨q, hq⟩ ⟨a, ha⟩ ⟨l, hl⟩)
    (covered _ _ 120 (rectsX c f0 d6) (119 - (4 * g + q)) (by omega) _ (Rect.mem_set_unit.2 fun b => ?_))
  · exact (readTab4 (c := c) _ g q a l hg hq ha hl).trans H
  · simp only [body_run.sl.HS4_120, body_run.sl.HS4_119, body_run.sl.HS4_115, body_run.sl.HS4_111, body_run.sl.HS4_108, body_run.sl.HS4_104, body_run.sl.HS4_100, body_run.sl.HS4_96, body_run.sl.HS4_92, body_run.sl.HS4_88, body_run.sl.HS4_84, body_run.sl.HS4_80, body_run.sl.HS4_77, body_run.sl.HS4_73, body_run.sl.HS4_70, body_run.sl.HS4_66, body_run.sl.HS4_62, body_run.sl.HS4_59, body_run.sl.HS4_55, body_run.sl.HS4_51, body_run.sl.HS4_48, body_run.sl.HS4_44, body_run.sl.HS4_40, body_run.sl.HS4_36, body_run.sl.HS4_32, body_run.sl.HS4_28, body_run.sl.HS4_24, body_run.sl.HS4_20, body_run.sl.HS4_17, body_run.sl.HS4_13, body_run.sl.HS4_10, body_run.sl.HS4_6, body_run.sl.HS4_2, k0_pay197, k0_pay206, k0_pay205, k0_pay198, k0_pay207, body_run.sl.r_2, k0_pay199, k0_pay208, k0_pay200, k0_pay209, body_run.sl.r_1, body_run.sl.v140, body_run.sl.v139, k0_pay201, k0_pay210, k0_pay213, k0_pay212, k0_pay214, body_run.sl.r_4, k0_pay215, k0_pay216, body_run.sl.r_3, k0_pay217, k0_pay220, k0_pay219, k0_pay221, k0_pay222, body_run.sl.r_5, k0_pay223, k0_pay226, k0_pay225, body_run.sl.r_7, k0_pay227, k0_pay228, k0_pay229, body_run.sl.r_6, k0_pay230, k0_pay233, k0_pay232, body_run.sl.r_9, k0_pay234, k0_pay235, k0_pay236, body_run.sl.r_8, k0_pay237, body_run.sl.r_11, k0_pay240, k0_pay239, k0_pay241, k0_pay242, body_run.sl.r_10, k0_pay243, body_run.sl.r_13, k0_pay246, k0_pay245, k0_pay247, k0_pay248, k0_pay249, body_run.sl.r_12, k0_pay250, body_run.sl.r_15, k0_pay253, k0_pay252, k0_pay254, k0_pay255, k0_pay256, body_run.sl.r_14, k0_pay257, k0_pay260, k0_pay259, k0_pay261, k0_pay262, k0_pay263, k0_pay267, k0_pay266, k0_pay268, k0_pay269, k0_pay270, k0_pay278, k0_pay277, k0_pay279, k0_pay280, k0_pay281, k0_pay287, k0_pay286, k0_pay288, k0_pay289, k0_pay290, k0_pay294, k0_pay293, k0_pay295, k0_pay296, body_run.sl.r_27, k0_pay297, k0_pay298, k0_pay301, k0_pay300, k0_pay302, k0_pay303, body_run.sl.r_29, k0_pay304, k0_pay305, k0_pay308, k0_pay307, k0_pay309, k0_pay310, body_run.sl.cst_443, body_run.sl.r_30, k0_pay311, k0_pay314, k0_pay313, k0_pay315, body_run.sl.r_32, k0_pay316, k0_pay317, body_run.sl.r_31, k0_pay318, k0_pay321, k0_pay320, k0_pay322, body_run.sl.r_34, k0_pay323, k0_pay324, body_run.sl.r_33, k0_pay325, k0_pay328, k0_pay327, k0_pay329, k0_pay330, body_run.sl.r_35, k0_pay331, k0_pay334, k0_pay333, body_run.sl.r_37, k0_pay335, k0_pay336, k0_pay337, body_run.sl.r_36, k0_pay338, k0_pay341, k0_pay340, body_run.sl.r_39, k0_pay342, k0_pay343, k0_pay344, body_run.sl.r_38, k0_pay345, body_run.sl.r_41, k0_pay348, k0_pay347, k0_pay349, k0_pay350, body_run.sl.r_40, k0_pay351, body_run.sl.r_43, k0_pay354, k0_pay353, k0_pay355, k0_pay356, k0_pay357, body_run.sl.r_42, k0_pay358, body_run.sl.r_45, k0_pay361, k0_pay360, k0_pay362, k0_pay363, k0_pay364, body_run.sl.r_44, k0_pay365, k0_pay368, k0_pay367, k0_pay369, k0_pay370, k0_pay371, k0_pay375, k0_pay374, k0_pay376, k0_pay377, k0_pay378, k0_pay386, k0_pay385, k0_pay387, k0_pay388, k0_pay389, k0_pay395, k0_pay394, k0_pay396, k0_pay397, k0_pay398, k0_pay402, k0_pay401, k0_pay403, k0_pay404, body_run.sl.r_57, k0_pay405, k0_pay406, k0_pay409, k0_pay408, k0_pay410, k0_pay411, body_run.sl.r_59, k0_pay412, k0_pay413, k0_pay416, k0_pay415, k0_pay417, k0_pay418, body_run.sl.r_60, k0_pay419]
    refine List.forall_mem_cons.2 ⟨pieceX _ 29 3 (by norm_num) (by norm_num) _ _ _ rfl rfl inb_S30x4x16x256_S1x1x16x256_29_3_0_0, ?_⟩
    refine List.forall_mem_cons.2 ⟨pieceX _ 29 2 (by norm_num) (by norm_num) _ _ _ rfl rfl inb_S30x4x16x256_S1x1x16x256_29_2_0_0, ?_⟩
    refine List.forall_mem_cons.2 ⟨pieceX _ 29 1 (by norm_num) (by norm_num) _ _ _ rfl rfl inb_S30x4x16x256_S1x1x16x256_29_1_0_0, ?_⟩
    refine List.forall_mem_cons.2 ⟨pieceX _ 29 0 (by norm_num) (by norm_num) _ _ _ rfl rfl inb_S30x4x16x256_S1x1x16x256_29_0_0_0, ?_⟩
    refine List.forall_mem_cons.2 ⟨pieceX _ 28 3 (by norm_num) (by norm_num) _ _ _ rfl rfl inb_S30x4x16x256_S1x1x16x256_28_3_0_0, ?_⟩
    refine List.forall_mem_cons.2 ⟨pieceX _ 28 2 (by norm_num) (by norm_num) _ _ _ rfl rfl inb_S30x4x16x256_S1x1x16x256_28_2_0_0, ?_⟩
    refine List.forall_mem_cons.2 ⟨pieceX _ 28 1 (by norm_num) (by norm_num) _ _ _ rfl rfl inb_S30x4x16x256_S1x1x16x256_28_1_0_0, ?_⟩
    refine List.forall_mem_cons.2 ⟨pieceX _ 28 0 (by norm_num) (by norm_num) _ _ _ rfl rfl inb_S30x4x16x256_S1x1x16x256_28_0_0_0, ?_⟩
    refine List.forall_mem_cons.2 ⟨pieceX _ 27 3 (by norm_num) (by norm_num) _ _ _ rfl rfl inb_S30x4x16x256_S1x1x16x256_27_3_0_0, ?_⟩
    refine List.forall_mem_cons.2 ⟨pieceX _ 27 2 (by norm_num) (by norm_num) _ _ _ rfl rfl inb_S30x4x16x256_S1x1x16x256_27_2_0_0, ?_⟩
    refine List.forall_mem_cons.2 ⟨pieceX _ 27 1 (by norm_num) (by norm_num) _ _ _ rfl rfl inb_S30x4x16x256_S1x1x16x256_27_1_0_0, ?_⟩
    refine List.forall_mem_cons.2 ⟨pieceX _ 27 0 (by norm_num) (by norm_num) _ _ _ rfl rfl inb_S30x4x16x256_S1x1x16x256_27_0_0_0, ?_⟩
    refine List.forall_mem_cons.2 ⟨pieceX _ 26 3 (by norm_num) (by norm_num) _ _ _ rfl rfl inb_S30x4x16x256_S1x1x16x256_26_3_0_0, ?_⟩
    refine List.forall_mem_cons.2 ⟨pieceX _ 26 2 (by norm_num) (by norm_num) _ _ _ rfl rfl inb_S30x4x16x256_S1x1x16x256_26_2_0_0, ?_⟩
    refine List.forall_mem_cons.2 ⟨pieceX _ 26 1 (by norm_num) (by norm_num) _ _ _ rfl rfl inb_S30x4x16x256_S1x1x16x256_26_1_0_0, ?_⟩
    refine List.forall_mem_cons.2 ⟨pieceX _ 26 0 (by norm_num) (by norm_num) _ _ _ rfl rfl inb_S30x4x16x256_S1x1x16x256_26_0_0_0, ?_⟩
    refine List.forall_mem_cons.2 ⟨pieceX _ 25 3 (by norm_num) (by norm_num) _ _ _ rfl rfl inb_S30x4x16x256_S1x1x16x256_25_3_0_0, ?_⟩
    refine List.forall_mem_cons.2 ⟨pieceX _ 25 2 (by norm_num) (by norm_num) _ _ _ rfl rfl inb_S30x4x16x256_S1x1x16x256_25_2_0_0, ?_⟩
    refine List.forall_mem_cons.2 ⟨pieceX _ 25 1 (by norm_num) (by norm_num) _ _ _ rfl rfl inb_S30x4x16x256_S1x1x16x256_25_1_0_0, ?_⟩
    refine List.forall_mem_cons.2 ⟨pieceX _ 25 0 (by norm_num) (by norm_num) _ _ _ rfl rfl inb_S30x4x16x256_S1x1x16x256_25_0_0_0, ?_⟩
    refine List.forall_mem_cons.2 ⟨pieceX _ 24 3 (by norm_num) (by norm_num) _ _ _ rfl rfl inb_S30x4x16x256_S1x1x16x256_24_3_0_0, ?_⟩
    refine List.forall_mem_cons.2 ⟨pieceX _ 24 2 (by norm_num) (by norm_num) _ _ _ rfl rfl inb_S30x4x16x256_S1x1x16x256_24_2_0_0, ?_⟩
    refine List.forall_mem_cons.2 ⟨pieceX _ 24 1 (by norm_num) (by norm_num) _ _ _ rfl rfl inb_S30x4x16x256_S1x1x16x256_24_1_0_0, ?_⟩
    refine List.forall_mem_cons.2 ⟨pieceX _ 24 0 (by norm_num) (by norm_num) _ _ _ rfl rfl inb_S30x4x16x256_S1x1x16x256_24_0_0_0, ?_⟩
    refine List.forall_mem_cons.2 ⟨pieceX _ 23 3 (by norm_num) (by norm_num) _ _ _ rfl rfl inb_S30x4x16x256_S1x1x16x256_23_3_0_0, ?_⟩
    refine List.forall_mem_cons.2 ⟨pieceX _ 23 2 (by norm_num) (by norm_num) _ _ _ rfl rfl inb_S30x4x16x256_S1x1x16x256_23_2_0_0, ?_⟩
    refine List.forall_mem_cons.2 ⟨pieceX _ 23 1 (by norm_num) (by norm_num) _ _ _ rfl rfl inb_S30x4x16x256_S1x1x16x256_23_1_0_0, ?_⟩
    refine List.forall_mem_cons.2 ⟨pieceX _ 23 0 (by norm_num) (by norm_num) _ _ _ rfl rfl inb_S30x4x16x256_S1x1x16x256_23_0_0_0, ?_⟩
    refine List.forall_mem_cons.2 ⟨pieceX _ 22 3 (by norm_num) (by norm_num) _ _ _ rfl rfl inb_S30x4x16x256_S1x1x16x256_22_3_0_0, ?_⟩
    refine List.forall_mem_cons.2 ⟨pieceX _ 22 2 (by norm_num) (by norm_num) _ _ _ rfl rfl inb_S30x4x16x256_S1x1x16x256_22_2_0_0, ?_⟩
    refine List.forall_mem_cons.2 ⟨pieceX _ 22 1 (by norm_num) (by norm_num) _ _ _ rfl rfl inb_S30x4x16x256_S1x1x16x256_22_1_0_0, ?_⟩
    refine List.forall_mem_cons.2 ⟨pieceX _ 22 0 (by norm_num) (by norm_num) _ _ _ rfl rfl inb_S30x4x16x256_S1x1x16x256_22_0_0_0, ?_⟩
    refine List.forall_mem_cons.2 ⟨pieceX _ 21 3 (by norm_num) (by norm_num) _ _ _ rfl rfl inb_S30x4x16x256_S1x1x16x256_21_3_0_0, ?_⟩
    refine List.forall_mem_cons.2 ⟨pieceX _ 21 2 (by norm_num) (by norm_num) _ _ _ rfl rfl inb_S30x4x16x256_S1x1x16x256_21_2_0_0, ?_⟩
    refine List.forall_mem_cons.2 ⟨pieceX _ 21 1 (by norm_num) (by norm_num) _ _ _ rfl rfl inb_S30x4x16x256_S1x1x16x256_21_1_0_0, ?_⟩
    refine List.forall_mem_cons.2 ⟨pieceX _ 21 0 (by norm_num) (by norm_num) _ _ _ rfl rfl inb_S30x4x16x256_S1x1x16x256_21_0_0_0, ?_⟩
    refine List.forall_mem_cons.2 ⟨pieceX _ 20 3 (by norm_num) (by norm_num) _ _ _ rfl rfl inb_S30x4x16x256_S1x1x16x256_20_3_0_0, ?_⟩
    refine List.forall_mem_cons.2 ⟨pieceX _ 20 2 (by norm_num) (by norm_num) _ _ _ rfl rfl inb_S30x4x16x256_S1x1x16x256_20_2_0_0, ?_⟩
    refine List.forall_mem_cons.2 ⟨pieceX _ 20 1 (by norm_num) (by norm_num) _ _ _ rfl rfl inb_S30x4x16x256_S1x1x16x256_20_1_0_0, ?_⟩
    refine List.forall_mem_cons.2 ⟨pieceX _ 20 0 (by norm_num) (by norm_num) _ _ _ rfl rfl inb_S30x4x16x256_S1x1x16x256_20_0_0_0, ?_⟩
    refine List.forall_mem_cons.2 ⟨pieceX _ 19 3 (by norm_num) (by norm_num) _ _ _ rfl rfl inb_S30x4x16x256_S1x1x16x256_19_3_0_0, ?_⟩
    refine List.forall_mem_cons.2 ⟨pieceX _ 19 2 (by norm_num) (by norm_num) _ _ _ rfl rfl inb_S30x4x16x256_S1x1x16x256_19_2_0_0, ?_⟩
    refine List.forall_mem_cons.2 ⟨pieceX _ 19 1 (by norm_num) (by norm_num) _ _ _ rfl rfl inb_S30x4x16x256_S1x1x16x256_19_1_0_0, ?_⟩
    refine List.forall_mem_cons.2 ⟨pieceX _ 19 0 (by norm_num) (by norm_num) _ _ _ rfl rfl inb_S30x4x16x256_S1x1x16x256_19_0_0_0, ?_⟩
    refine List.forall_mem_cons.2 ⟨pieceX _ 18 3 (by norm_num) (by norm_num) _ _ _ rfl rfl inb_S30x4x16x256_S1x1x16x256_18_3_0_0, ?_⟩
    refine List.forall_mem_cons.2 ⟨pieceX _ 18 2 (by norm_num) (by norm_num) _ _ _ rfl rfl inb_S30x4x16x256_S1x1x16x256_18_2_0_0, ?_⟩
    refine List.forall_mem_cons.2 ⟨pieceX _ 18 1 (by norm_num) (by norm_num) _ _ _ rfl rfl inb_S30x4x16x256_S1x1x16x256_18_1_0_0, ?_⟩
    refine List.forall_mem_cons.2 ⟨pieceX _ 18 0 (by norm_num) (by norm_num) _ _ _ rfl rfl inb_S30x4x16x256_S1x1x16x256_18_0_0_0, ?_⟩
    refine List.forall_mem_cons.2 ⟨pieceX _ 17 3 (by norm_num) (by norm_num) _ _ _ rfl rfl inb_S30x4x16x256_S1x1x16x256_17_3_0_0, ?_⟩
    refine List.forall_mem_cons.2 ⟨pieceX _ 17 2 (by norm_num) (by norm_num) _ _ _ rfl rfl inb_S30x4x16x256_S1x1x16x256_17_2_0_0, ?_⟩
    refine List.forall_mem_cons.2 ⟨pieceX _ 17 1 (by norm_num) (by norm_num) _ _ _ rfl rfl inb_S30x4x16x256_S1x1x16x256_17_1_0_0, ?_⟩
    refine List.forall_mem_cons.2 ⟨pieceX _ 17 0 (by norm_num) (by norm_num) _ _ _ rfl rfl inb_S30x4x16x256_S1x1x16x256_17_0_0_0, ?_⟩
    refine List.forall_mem_cons.2 ⟨pieceX _ 16 3 (by norm_num) (by norm_num) _ _ _ rfl rfl inb_S30x4x16x256_S1x1x16x256_16_3_0_0, ?_⟩
    refine List.forall_mem_cons.2 ⟨pieceX _ 16 2 (by norm_num) (by norm_num) _ _ _ rfl rfl inb_S30x4x16x256_S1x1x16x256_16_2_0_0, ?_⟩
    refine List.forall_mem_cons.2 ⟨pieceX _ 16 1 (by norm_num) (by norm_num) _ _ _ rfl rfl inb_S30x4x16x256_S1x1x16x256_16_1_0_0, ?_⟩
    refine List.forall_mem_cons.2 ⟨pieceX _ 16 0 (by norm_num) (by norm_num) _ _ _ rfl rfl inb_S30x4x16x256_S1x1x16x256_16_0_0_0, ?_⟩
    refine List.forall_mem_cons.2 ⟨pieceX _ 15 3 (by norm_num) (by norm_num) _ _ _ rfl rfl inb_S30x4x16x256_S1x1x16x256_15_3_0_0, ?_⟩
    refine List.forall_mem_cons.2 ⟨pieceX _ 15 2 (by norm_num) (by norm_num) _ _ _ rfl rfl inb_S30x4x16x256_S1x1x16x256_15_2_0_0, ?_⟩
    refine List.forall_mem_cons.2 ⟨pieceX _ 15 1 (by norm_num) (by norm_num) _ _ _ rfl rfl inb_S30x4x16x256_S1x1x16x256_15_1_0_0, ?_⟩
    refine List.forall_mem_cons.2 ⟨pieceX _ 15 0 (by norm_num) (by norm_num) _ _ _ rfl rfl inb_S30x4x16x256_S1x1x16x256_15_0_0_0, ?_⟩
    refine List.forall_mem_cons.2 ⟨pieceX _ 14 3 (by norm_num) (by norm_num) _ _ _ rfl rfl inb_S30x4x16x256_S1x1x16x256_14_3_0_0, ?_⟩
    refine List.forall_mem_cons.2 ⟨pieceX _ 14 2 (by norm_num) (by norm_num) _ _ _ rfl rfl inb_S30x4x16x256_S1x1x16x256_14_2_0_0, ?_⟩
    refine List.forall_mem_cons.2 ⟨pieceX _ 14 1 (by norm_num) (by norm_num) _ _ _ rfl rfl inb_S30x4x16x256_S1x1x16x256_14_1_0_0, ?_⟩
    refine List.forall_mem_cons.2 ⟨pieceX _ 14 0 (by norm_num) (by norm_num) _ _ _ rfl rfl inb_S30x4x16x256_S1x1x16x256_14_0_0_0, ?_⟩
    refine List.forall_mem_cons.2 ⟨pieceX _ 13 3 (by norm_num) (by norm_num) _ _ _ rfl rfl inb_S30x4x16x256_S1x1x16x256_13_3_0_0, ?_⟩
    refine List.forall_mem_cons.2 ⟨pieceX _ 13 2 (by norm_num) (by norm_num) _ _ _ rfl rfl inb_S30x4x16x256_S1x1x16x256_13_2_0_0, ?_⟩
    refine List.forall_mem_cons.2 ⟨pieceX _ 13 1 (by norm_num) (by norm_num) _ _ _ rfl rfl inb_S30x4x16x256_S1x1x16x256_13_1_0_0, ?_⟩
    refine List.forall_mem_cons.2 ⟨pieceX _ 13 0 (by norm_num) (by norm_num) _ _ _ rfl rfl inb_S30x4x16x256_S1x1x16x256_13_0_0_0, ?_⟩
    refine List.forall_mem_cons.2 ⟨pieceX _ 12 3 (by norm_num) (by norm_num) _ _ _ rfl rfl inb_S30x4x16x256_S1x1x16x256_12_3_0_0, ?_⟩
    refine List.forall_mem_cons.2 ⟨pieceX _ 12 2 (by norm_num) (by norm_num) _ _ _ rfl rfl inb_S30x4x16x256_S1x1x16x256_12_2_0_0, ?_⟩
    refine List.forall_mem_cons.2 ⟨pieceX _ 12 1 (by norm_num) (by norm_num) _ _ _ rfl rfl inb_S30x4x16x256_S1x1x16x256_12_1_0_0, ?_⟩
    refine List.forall_mem_cons.2 ⟨pieceX _ 12 0 (by norm_num) (by norm_num) _ _ _ rfl rfl inb_S30x4x16x256_S1x1x16x256_12_0_0_0, ?_⟩
    refine List.forall_mem_cons.2 ⟨pieceX _ 11 3 (by norm_num) (by norm_num) _ _ _ rfl rfl inb_S30x4x16x256_S1x1x16x256_11_3_0_0, ?_⟩
    refine List.forall_mem_cons.2 ⟨pieceX _ 11 2 (by norm_num) (by norm_num) _ _ _ rfl rfl inb_S30x4x16x256_S1x1x16x256_11_2_0_0, ?_⟩
    refine List.forall_mem_cons.2 ⟨pieceX _ 11 1 (by norm_num) (by norm_num) _ _ _ rfl rfl inb_S30x4x16x256_S1x1x16x256_11_1_0_0, ?_⟩
    refine List.forall_mem_cons.2 ⟨pieceX _ 11 0 (by norm_num) (by norm_num) _ _ _ rfl rfl inb_S30x4x16x256_S1x1x16x256_11_0_0_0, ?_⟩
    refine List.forall_mem_cons.2 ⟨pieceX _ 10 3 (by norm_num) (by norm_num) _ _ _ rfl rfl inb_S30x4x16x256_S1x1x16x256_10_3_0_0, ?_⟩
    refine List.forall_mem_cons.2 ⟨pieceX _ 10 2 (by norm_num) (by norm_num) _ _ _ rfl rfl inb_S30x4x16x256_S1x1x16x256_10_2_0_0, ?_⟩
    refine List.forall_mem_cons.2 ⟨pieceX _ 10 1 (by norm_num) (by norm_num) _ _ _ rfl rfl inb_S30x4x16x256_S1x1x16x256_10_1_0_0, ?_⟩
    refine List.forall_mem_cons.2 ⟨pieceX _ 10 0 (by norm_num) (by norm_num) _ _ _ rfl rfl inb_S30x4x16x256_S1x1x16x256_10_0_0_0, ?_⟩
    refine List.forall_mem_cons.2 ⟨pieceX _ 9 3 (by norm_num) (by norm_num) _ _ _ rfl rfl inb_S30x4x16x256_S1x1x16x256_9_3_0_0, ?_⟩
    refine List.forall_mem_cons.2 ⟨pieceX _ 9 2 (by norm_num) (by norm_num) _ _ _ rfl rfl inb_S30x4x16x256_S1x1x16x256_9_2_0_0, ?_⟩
    refine List.forall_mem_cons.2 ⟨pieceX _ 9 1 (by norm_num) (by norm_num) _ _ _ rfl rfl inb_S30x4x16x256_S1x1x16x256_9_1_0_0, ?_⟩
    refine List.forall_mem_cons.2 ⟨pieceX _ 9 0 (by norm_num) (by norm_num) _ _ _ rfl rfl inb_S30x4x16x256_S1x1x16x256_9_0_0_0, ?_⟩
    refine List.forall_mem_cons.2 ⟨pieceX _ 8 3 (by norm_num) (by norm_num) _ _ _ rfl rfl inb_S30x4x16x256_S1x1x16x256_8_3_0_0, ?_⟩
    refine List.forall_mem_cons.2 ⟨pieceX _ 8 2 (by norm_num) (by norm_num) _ _ _ rfl rfl inb_S30x4x16x256_S1x1x16x256_8_2_0_0, ?_⟩
    refine List.forall_mem_cons.2 ⟨pieceX _ 8 1 (by norm_num) (by norm_num) _ _ _ rfl rfl inb_S30x4x16x256_S1x1x16x256_8_1_0_0, ?_⟩
    refine List.forall_mem_cons.2 ⟨pieceX _ 8 0 (by norm_num) (by norm_num) _ _ _ rfl rfl inb_S30x4x16x256_S1x1x16x256_8_0_0_0, ?_⟩
    refine List.forall_mem_cons.2 ⟨pieceX _ 7 3 (by norm_num) (by norm_num) _ _ _ rfl rfl inb_S30x4x16x256_S1x1x16x256_7_3_0_0, ?_⟩
    refine List.forall_mem_cons.2 ⟨pieceX _ 7 2 (by norm_num) (by norm_num) _ _ _ rfl rfl inb_S30x4x16x256_S1x1x16x256_7_2_0_0, ?_⟩
    refine List.forall_mem_cons.2 ⟨pieceX _ 7 1 (by norm_num) (by norm_num) _ _ _ rfl rfl inb_S30x4x16x256_S1x1x16x256_7_1_0_0, ?_⟩
    refine List.forall_mem_cons.2 ⟨pieceX _ 7 0 (by norm_num) (by norm_num) _ _ _ rfl rfl inb_S30x4x16x256_S1x1x16x256_7_0_0_0, ?_⟩
    refine List.forall_mem_cons.2 ⟨pieceX _ 6 3 (by norm_num) (by norm_num) _ _ _ rfl rfl inb_S30x4x16x256_S1x1x16x256_6_3_0_0, ?_⟩
    refine List.forall_mem_cons.2 ⟨pieceX _ 6 2 (by norm_num) (by norm_num) _ _ _ rfl rfl inb_S30x4x16x256_S1x1x16x256_6_2_0_0, ?_⟩
    refine List.forall_mem_cons.2 ⟨pieceX _ 6 1 (by norm_num) (by norm_num) _ _ _ rfl rfl inb_S30x4x16x256_S1x1x16x256_6_1_0_0, ?_⟩
    refine List.forall_mem_cons.2 ⟨pieceX _ 6 0 (by norm_num) (by norm_num) _ _ _ rfl rfl inb_S30x4x16x256_S1x1x16x256_6_0_0_0, ?_⟩
    refine List.forall_mem_cons.2 ⟨pieceX _ 5 3 (by norm_num) (by norm_num) _ _ _ rfl rfl inb_S30x4x16x256_S1x1x16x256_5_3_0_0, ?_⟩
    refine List.forall_mem_cons.2 ⟨pieceX _ 5 2 (by norm_num) (by norm_num) _ _ _ rfl rfl inb_S30x4x16x256_S1x1x16x256_5_2_0_0, ?_⟩
    refine List.forall_mem_cons.2 ⟨pieceX _ 5 1 (by norm_num) (by norm_num) _ _ _ rfl rfl inb_S30x4x16x256_S1x1x16x256_5_1_0_0, ?_⟩
    refine List.forall_mem_cons.2 ⟨pieceX _ 5 0 (by norm_num) (by norm_num) _ _ _ rfl rfl inb_S30x4x16x256_S1x1x16x256_5_0_0_0, ?_⟩
    refine List.forall_mem_cons.2 ⟨pieceX _ 4 3 (by norm_num) (by norm_num) _ _ _ rfl rfl inb_S30x4x16x256_S1x1x16x256_4_3_0_0, ?_⟩
    refine List.forall_mem_cons.2 ⟨pieceX _ 4 2 (by norm_num) (by norm_num) _ _ _ rfl rfl inb_S30x4x16x256_S1x1x16x256_4_2_0_0, ?_⟩
    refine List.forall_mem_cons.2 ⟨pieceX _ 4 1 (by norm_num) (by norm_num) _ _ _ rfl rfl inb_S30x4x16x256_S1x1x16x256_4_1_0_0, ?_⟩
    refine List.forall_mem_cons.2 ⟨pieceX _ 4 0 (by norm_num) (by norm_num) _ _ _ rfl rfl inb_S30x4x16x256_S1x1x16x256_4_0_0_0, ?_⟩
    refine List.forall_mem_cons.2 ⟨pieceX _ 3 3 (by norm_num) (by norm_num) _ _ _ rfl rfl inb_S30x4x16x256_S1x1x16x256_3_3_0_0, ?_⟩
    refine List.forall_mem_cons.2 ⟨pieceX _ 3 2 (by norm_num) (by norm_num) _ _ _ rfl rfl inb_S30x4x16x256_S1x1x16x256_3_2_0_0, ?_⟩
    refine List.forall_mem_cons.2 ⟨pieceX _ 3 1 (by norm_num) (by norm_num) _ _ _ rfl rfl inb_S30x4x16x256_S1x1x16x256_3_1_0_0, ?_⟩
    refine List.forall_mem_cons.2 ⟨pieceX _ 3 0 (by norm_num) (by norm_num) _ _ _ rfl rfl inb_S30x4x16x256_S1x1x16x256_3_0_0_0, ?_⟩
    refine List.forall_mem_cons.2 ⟨pieceX _ 2 3 (by norm_num) (by norm_num) _ _ _ rfl rfl inb_S30x4x16x256_S1x1x16x256_2_3_0_0, ?_⟩
    refine List.forall_mem_cons.2 ⟨pieceX _ 2 2 (by norm_num) (by norm_num) _ _ _ rfl rfl inb_S30x4x16x256_S1x1x16x256_2_2_0_0, ?_⟩
    refine List.forall_mem_cons.2 ⟨pieceX _ 2 1 (by norm_num) (by norm_num) _ _ _ rfl rfl inb_S30x4x16x256_S1x1x16x256_2_1_0_0, ?_⟩
    refine List.forall_mem_cons.2 ⟨pieceX _ 2 0 (by norm_num) (by norm_num) _ _ _ rfl rfl inb_S30x4x16x256_S1x1x16x256_2_0_0_0, ?_⟩
    refine List.forall_mem_cons.2 ⟨pieceX _ 1 3 (by norm_num) (by norm_num) _ _ _ rfl rfl inb_S30x4x16x256_S1x1x16x256_1_3_0_0, ?_⟩
    refine List.forall_mem_cons.2 ⟨pieceX _ 1 2 (by norm_num) (by norm_num) _ _ _ rfl rfl inb_S30x4x16x256_S1x1x16x256_1_2_0_0, ?_⟩
    refine List.forall_mem_cons.2 ⟨pieceX _ 1 1 (by norm_num) (by norm_num) _ _ _ rfl rfl inb_S30x4x16x256_S1x1x16x256_1_1_0_0, ?_⟩
    refine List.forall_mem_cons.2 ⟨pieceX _ 1 0 (by norm_num) (by norm_num) _ _ _ rfl rfl inb_S30x4x16x256_S1x1x16x256_1_0_0_0, ?_⟩
    refine List.forall_mem_cons.2 ⟨pieceX _ 0 3 (by norm_num) (by norm_num) _ _ _ rfl rfl inb_S30x4x16x256_S1x1x16x256_0_3_0_0, ?_⟩
    refine List.forall_mem_cons.2 ⟨pieceX _ 0 2 (by norm_num) (by norm_num) _ _ _ rfl rfl inb_S30x4x16x256_S1x1x16x256_0_2_0_0, ?_⟩
    refine List.forall_mem_cons.2 ⟨pieceX _ 0 1 (by norm_num) (by norm_num) _ _ _ rfl rfl inb_S30x4x16x256_S1x1x16x256_0_1_0_0, ?_⟩
    refine List.forall_mem_cons.2 ⟨pieceX _ 0 0 (by norm_num) (by norm_num) _ _ _ rfl rfl inb_S30x4x16x256_S1x1x16x256_0_0_0_0, ?_⟩
    exact fun p hp => absurd hp List.not_mem_nil
  · fin_cases b
    · exact ⟨by show (119 - (119 - (4 * g + q))) / 4 ≤ g; omega, by show g < (119 - (119 - (4 * g + q))) / 4 + 1; omega⟩
    · exact ⟨by show (119 - (119 - (4 * g + q))) % 4 ≤ q; omega, by show q < (119 - (119 - (4 * g + q))) % 4 + 1; omega⟩
    · exact ⟨Nat.zero_le _, by show a < 0 + 16; omega⟩
    · exact ⟨Nat.zero_le _, by show l < 0 + 256; omega⟩

/-- What the second activation table holds. -/
def valR (r : FVec Ideal S16x3840 .bf16) (y : S30x32x256.Idx) : EReal :=
  if (y 2).val % 2 = (y 1).val / 16 then at2 (α := EReal) (A := 16) (B := 3840) r ((y 1).val % 16) (128 * (y 0).val + (y 2).val / 2) else 0

theorem pieceR (r : FVec Ideal S16x3840 .bf16) (g : ℕ) (hg : g < 30) (off : Fin 2 → ℕ) (h : S16x3840.Slices off S16x128) (hoff : off = ![0, 128 * g]) (hb) (x : S1x32x256.Idx) :
    ((shapeCast S1x32x256 (truncf FTy.bf16 (concatenate S32x256 0 [⟨S8x256, select (cmpi CmpIPredicate.eq (andi (iota Kind.tc S8x256 32 [1] iota_S8x256_d1_w32) (broadcast S8x256 1#32)) (broadcast S8x256 1#32)) (broadcast S8x256 (FloatOps.ofBits FTy.f32 0#32)) (extractStridedSlice S8x256 ![0, 0] (matmul dot_S16x128_S128x256_S16x256_1_0_0_1_n_n none (extractStridedSlice S16x128 off r h) (truncf FTy.bf16 (sitofp FTy.f32 (extui 32 (cmpi CmpIPredicate.eq (iota Kind.tc S128x256 32 [0] iota_S128x256_d0_w32) (shrsi (iota Kind.tc S128x256 32 [1] iota_S128x256_d1_w32) (broadcast S128x256 1#32))) natLt_1_32)) bitsLt_bf16_f32) (constant S16x256 FTy.f32 0#32)) slices_S16x256_o0_0_S8x256)⟩, ⟨S8x256, select (cmpi CmpIPredicate.eq (andi (iota Kind.tc S8x256 32 [1] iota_S8x256_d1_w32) (broadcast S8x256 1#32)) (broadcast S8x256 1#32)) (broadcast S8x256 (FloatOps.ofBits FTy.f32 0#32)) (extractStridedSlice S8x256 ![8, 0] (matmul dot_S16x128_S128x256_S16x256_1_0_0_1_n_n none (extractStridedSlice S16x128 off r h) (truncf FTy.bf16 (sitofp FTy.f32 (extui 32 (cmpi CmpIPredicate.eq (iota Kind.tc S128x256 32 [0] iota_S128x256_d0_w32) (shrsi (iota Kind.tc S128x256 32 [1] iota_S128x256_d1_w32) (broadcast S128x256 1#32))) natLt_1_32)) bitsLt_bf16_f32) (constant S16x256 FTy.f32 0#32)) slices_S16x256_o8_0_S8x256)⟩, ⟨S8x256, select (cmpi CmpIPredicate.eq (andi (iota Kind.tc S8x256 32 [1] iota_S8x256_d1_w32) (broadcast S8x256 1#32)) (broadcast S8x256 1#32)) (extractStridedSlice S8x256 ![0, 0] (matmul dot_S16x128_S128x256_S16x256_1_0_0_1_n_n none (extractStridedSlice S16x128 off r h) (truncf FTy.bf16 (sitofp FTy.f32 (extui 32 (cmpi CmpIPredicate.eq (iota Kind.tc S128x256 32 [0] iota_S128x256_d0_w32) (shrsi (iota Kind.tc S128x256 32 [1] iota_S128x256_d1_w32) (broadcast S128x256 1#32))) natLt_1_32)) bitsLt_bf16_f32) (constant S16x256 FTy.f32 0#32)) slices_S16x256_o0_0_S8x256) (broadcast S8x256 (FloatOps.ofBits FTy.f32 0#32))⟩, ⟨S8x256, select (cmpi CmpIPredicate.eq (andi (iota Kind.tc S8x256 32 [1] iota_S8x256_d1_w32) (broadcast S8x256 1#32)) (broadcast S8x256 1#32)) (extractStridedSlice S8x256 ![8, 0] (matmul dot_S16x128_S128x256_S16x256_1_0_0_1_n_n none (extractStridedSlice S16x128 off r h) (truncf FTy.bf16 (sitofp FTy.f32 (extui 32 (cmpi CmpIPredicate.eq (iota Kind.tc S128x256 32 [0] iota_S128x256_d0_w32) (shrsi (iota Kind.tc S128x256 32 [1] iota_S128x256_d1_w32) (broadcast S128x256 1#32))) natLt_1_32)) bitsLt_bf16_f32) (constant S16x256 FTy.f32 0#32)) slices_S16x256_o8_0_S8x256) (broadcast S8x256 (FloatOps.ofBits FTy.f32 0#32))⟩] concatenates_S8x256_S8x256_S8x256_S8x256_S32x256_d0) bitsLt_bf16_f32) shapeCasts_S32x256_S1x32x256) : FVec Ideal S1x32x256 .bf16) x = valR r ((Rect.unit (s := S30x32x256) ![g, 0, 0] S1x32x256.size hb).emb x) := by
  subst hoff
  change rTab _ h r x = _
  rw [← ix3_eta (A := 1) (B := 32) (C := 256) x, show x 0 = (0 : Fin 1) from Subsingleton.elim (α := Fin 1) _ _]
  refine (rTab_apply g hg h r (x 1) (x 2)).trans ?_
  show _ = if (0 + 1 * (x 2).val) % 2 = (0 + 1 * (x 1).val) / 16 then at2 (α := EReal) (A := 16) (B := 3840) r ((0 + 1 * (x 1).val) % 16) (128 * (g + 1 * 0) + (0 + 1 * (x 2).val) / 2) else 0
  simp only [Nat.zero_add, Nat.one_mul, Nat.mul_zero, Nat.add_zero]

theorem inbR (i : ℕ) : ∀ a, (![29 - i, 0, 0] : Fin 3 → ℕ) a + S1x32x256.size a ≤ S30x32x256.size a := by
  intro a; fin_cases a
  · show 29 - i + 1 ≤ 30; omega
  · exact le_refl _
  · exact le_refl _
theorem rectsR (c : Dev nD) (f0 : BufOf (F := Ideal) c hb0) (d6 : BufOf (F := Ideal) c sc0) :
    (body_run.sl.HS5_30 (F := Ideal) c f0 d6).map (fun p => p.1) = (List.range 30).map fun i => Rect.unit (s := S30x32x256) ![29 - i, 0, 0] S1x32x256.size (inbR i) := by
  rfl
theorem readTab5 {c : Dev nD} (f : BufOf (F := Ideal) c sc5) (g a l : ℕ) (hg : g < 30) (ha : a < 32) (hl : l < 256) :
    at3 (α := EReal) (A := 30) (B := 32) (C := 256) f g a l = sc5.view.read (Elt Ideal) f (ix3 ⟨g, hg⟩ ⟨a, ha⟩ ⟨l, hl⟩) := by
  rw [at3, dif_pos ⟨hg, ha, hl⟩]; rfl

theorem tabR (c : Dev nD) (f0 : BufOf (F := Ideal) c hb0) (d6 : BufOf (F := Ideal) c sc0) (g a l : ℕ) (hg : g < 30) (ha : a < 32) (hl : l < 256) :
    at3 (α := EReal) (A := 30) (B := 32) (C := 256) (sc5.view.writes (Elt Ideal) sc5.view.junk (body_run.sl.HS5_30 (F := Ideal) c f0 d6)) g a l
      = if l % 2 = a / 16 then at2 (α := EReal) (A := 16) (B := 3840) (body_run.sl.r (F := Ideal) c f0 d6) (a % 16) (128 * g + l / 2) else 0 := by
  have H := View.read_writes_apply_of_pieces (Val := Elt Ideal) (v := sc5.view) (f := sc5.view.junk) (valR (body_run.sl.r (F := Ideal) c f0 d6))
    (body_run.sl.HS5_30 (F := Ideal) c f0 d6) ?_ (ix3 ⟨g, hg⟩ ⟨a, ha⟩ ⟨l, hl⟩)
    (covered _ _ 30 (rectsR c f0 d6) (29 - g) (by omega) _ (Rect.mem_set_unit.2 fun b => ?_))
  · exact (readTab5 (c := c) _ g a l hg ha hl).trans H
  · simp only [body_run.sl.HS5_30, body_run.sl.HS5_29, body_run.sl.HS5_28, body_run.sl.HS5_27, body_run.sl.HS5_26, body_run.sl.HS5_25, body_run.sl.HS5_24, body_run.sl.HS5_23, body_run.sl.HS5_22, body_run.sl.HS5_21, body_run.sl.HS5_20, body_run.sl.HS5_19, body_run.sl.HS5_18, body_run.sl.HS5_17, body_run.sl.HS5_16, body_run.sl.HS5_15, body_run.sl.HS5_14, body_run.sl.HS5_13, body_run.sl.HS5_12, body_run.sl.HS5_11, body_run.sl.HS5_10, body_run.sl.HS5_9, body_run.sl.HS5_8, body_run.sl.HS5_7, body_run.sl.HS5_6, body_run.sl.HS5_5, body_run.sl.HS5_4, body_run.sl.HS5_3, body_run.sl.HS5_2, body_run.sl.HS5_1, body_run.sl.r_1, k0_pay205, k0_pay204, k0_pay203, body_run.sl.v140, body_run.sl.v139, k0_pay202, k0_pay211, body_run.sl.r_3, k0_pay212, k0_pay218, body_run.sl.r_5, k0_pay219, k0_pay224, body_run.sl.r_6, k0_pay225, k0_pay231, body_run.sl.r_8, k0_pay232, k0_pay238, body_run.sl.r_10, k0_pay239, k0_pay244, body_run.sl.r_12, k0_pay245, k0_pay251, body_run.sl.r_16, body_run.sl.r_14, k0_pay252, k0_pay258, body_run.sl.r_17, k0_pay264, k0_pay259, k0_pay265, body_run.sl.r_21, k0_pay275, k0_pay271, k0_pay266, body_run.sl.r_20, k0_pay274, body_run.sl.r_19, k0_pay273, body_run.sl.r_18, k0_pay272, k0_pay276, body_run.sl.r_24, k0_pay284, k0_pay282, k0_pay277, body_run.sl.r_23, k0_pay283, body_run.sl.r_22, k0_pay285, body_run.sl.r_25, k0_pay291, k0_pay286, k0_pay292, body_run.sl.r_26, k0_pay293, k0_pay299, body_run.sl.r_28, k0_pay300, k0_pay306, body_run.sl.r_30, k0_pay307, k0_pay312, body_run.sl.r_31, k0_pay313, k0_pay319, body_run.sl.r_33, k0_pay320, k0_pay326, body_run.sl.r_35, k0_pay327, k0_pay332, body_run.sl.r_36, k0_pay333, k0_pay339, body_run.sl.r_38, k0_pay340, k0_pay346, body_run.sl.r_40, k0_pay347, k0_pay352, body_run.sl.r_42, k0_pay353, k0_pay359, body_run.sl.r_46, body_run.sl.r_44, k0_pay360, k0_pay366, body_run.sl.r_47, k0_pay372, k0_pay367, k0_pay373, body_run.sl.r_51, k0_pay383, k0_pay379, k0_pay374, body_run.sl.r_50, k0_pay382, body_run.sl.r_49, k0_pay381, body_run.sl.r_48, k0_pay380, k0_pay384, body_run.sl.r_54, k0_pay392, k0_pay390, k0_pay385, body_run.sl.r_53, k0_pay391, body_run.sl.r_52, k0_pay393, body_run.sl.r_55, k0_pay399, k0_pay394, k0_pay400, body_run.sl.r_56, k0_pay401, k0_pay407, body_run.sl.r_58, k0_pay408, k0_pay414, body_run.sl.r_60, k0_pay415, k0_pay420]
    refine List.forall_mem_cons.2 ⟨pieceR _ 29 (by norm_num) _ _ rfl inb_S30x32x256_S1x32x256_29_0_0, ?_⟩
    refine List.forall_mem_cons.2 ⟨pieceR _ 28 (by norm_num) _ _ rfl inb_S30x32x256_S1x32x256_28_0_0, ?_⟩
    refine List.forall_mem_cons.2 ⟨pieceR _ 27 (by norm_num) _ _ rfl inb_S30x32x256_S1x32x256_27_0_0, ?_⟩
    refine List.forall_mem_cons.2 ⟨pieceR _ 26 (by norm_num) _ _ rfl inb_S30x32x256_S1x32x256_26_0_0, ?_⟩
    refine List.forall_mem_cons.2 ⟨pieceR _ 25 (by norm_num) _ _ rfl inb_S30x32x256_S1x32x256_25_0_0, ?_⟩
    refine List.forall_mem_cons.2 ⟨pieceR _ 24 (by norm_num) _ _ rfl inb_S30x32x256_S1x32x256_24_0_0, ?_⟩
    refine List.forall_mem_cons.2 ⟨pieceR _ 23 (by norm_num) _ _ rfl inb_S30x32x256_S1x32x256_23_0_0, ?_⟩
    refine List.forall_mem_cons.2 ⟨pieceR _ 22 (by norm_num) _ _ rfl inb_S30x32x256_S1x32x256_22_0_0, ?_⟩
    refine List.forall_mem_cons.2 ⟨pieceR _ 21 (by norm_num) _ _ rfl inb_S30x32x256_S1x32x256_21_0_0, ?_⟩
    refine List.forall_mem_cons.2 ⟨pieceR _ 20 (by norm_num) _ _ rfl inb_S30x32x256_S1x32x256_20_0_0, ?_⟩
    refine List.forall_mem_cons.2 ⟨pieceR _ 19 (by norm_num) _ _ rfl inb_S30x32x256_S1x32x256_19_0_0, ?_⟩
    refine List.forall_mem_cons.2 ⟨pieceR _ 18 (by norm_num) _ _ rfl inb_S30x32x256_S1x32x256_18_0_0, ?_⟩
    refine List.forall_mem_cons.2 ⟨pieceR _ 17 (by norm_num) _ _ rfl inb_S30x32x256_S1x32x256_17_0_0, ?_⟩
    refine List.forall_mem_cons.2 ⟨pieceR _ 16 (by norm_num) _ _ rfl inb_S30x32x256_S1x32x256_16_0_0, ?_⟩
    refine List.forall_mem_cons.2 ⟨pieceR _ 15 (by norm_num) _ _ rfl inb_S30x32x256_S1x32x256_15_0_0, ?_⟩
    refine List.forall_mem_cons.2 ⟨pieceR _ 14 (by norm_num) _ _ rfl inb_S30x32x256_S1x32x256_14_0_0, ?_⟩
    refine List.forall_mem_cons.2 ⟨pieceR _ 13 (by norm_num) _ _ rfl inb_S30x32x256_S1x32x256_13_0_0, ?_⟩
    refine List.forall_mem_cons.2 ⟨pieceR _ 12 (by norm_num) _ _ rfl inb_S30x32x256_S1x32x256_12_0_0, ?_⟩
    refine List.forall_mem_cons.2 ⟨pieceR _ 11 (by norm_num) _ _ rfl inb_S30x32x256_S1x32x256_11_0_0, ?_⟩
    refine List.forall_mem_cons.2 ⟨pieceR _ 10 (by norm_num) _ _ rfl inb_S30x32x256_S1x32x256_10_0_0, ?_⟩
    refine List.forall_mem_cons.2 ⟨pieceR _ 9 (by norm_num) _ _ rfl inb_S30x32x256_S1x32x256_9_0_0, ?_⟩
    refine List.forall_mem_cons.2 ⟨pieceR _ 8 (by norm_num) _ _ rfl inb_S30x32x256_S1x32x256_8_0_0, ?_⟩
    refine List.forall_mem_cons.2 ⟨pieceR _ 7 (by norm_num) _ _ rfl inb_S30x32x256_S1x32x256_7_0_0, ?_⟩
    refine List.forall_mem_cons.2 ⟨pieceR _ 6 (by norm_num) _ _ rfl inb_S30x32x256_S1x32x256_6_0_0, ?_⟩
    refine List.forall_mem_cons.2 ⟨pieceR _ 5 (by norm_num) _ _ rfl inb_S30x32x256_S1x32x256_5_0_0, ?_⟩
    refine List.forall_mem_cons.2 ⟨pieceR _ 4 (by norm_num) _ _ rfl inb_S30x32x256_S1x32x256_4_0_0, ?_⟩
    refine List.forall_mem_cons.2 ⟨pieceR _ 3 (by norm_num) _ _ rfl inb_S30x32x256_S1x32x256_3_0_0, ?_⟩
    refine List.forall_mem_cons.2 ⟨pieceR _ 2 (by norm_num) _ _ rfl inb_S30x32x256_S1x32x256_2_0_0, ?_⟩
    refine List.forall_mem_cons.2 ⟨pieceR _ 1 (by norm_num) _ _ rfl inb_S30x32x256_S1x32x256_1_0_0, ?_⟩
    refine List.forall_mem_cons.2 ⟨pieceR _ 0 (by norm_num) _ _ rfl inb_S30x32x256_S1x32x256_0_0_0, ?_⟩
    exact fun p hp => absurd hp List.not_mem_nil
  · fin_cases b
    · exact ⟨by show 29 - (29 - g) ≤ g; omega, by show g < 29 - (29 - g) + 1; omega⟩
    · exact ⟨Nat.zero_le _, by show a < 0 + 32; omega⟩
    · exact ⟨Nat.zero_le _, by show l < 0 + 256; omega⟩

/-- The rows the tables are made from. -/
theorem r_apply (c : Dev nD) (f0 : BufOf (F := Ideal) c hb0) (d6 : BufOf (F := Ideal) c sc0) (par pr d : ℕ) (hpar : par < 2) (hpr : pr < 6) :
    at2 (α := EReal) (A := 16) (B := 3840) (body_run.sl.r (F := Ideal) c f0 d6) (8 * par + pr) d = at2 (α := EReal) (A := 12) (B := 3840) f0 (2 * pr + par) d := by
  by_cases hd : d < 3840
  · rw [at2, at2, dif_pos ⟨by omega, hd⟩, dif_pos ⟨by omega, hd⟩]
    refine (x16_apply _ par pr hpar hpr ⟨d, hd⟩).trans ?_
    have e : View.write (Elt Ideal) sc0.view d6 (body_run.sl.dma0 (F := Ideal) c f0) Finset.univ = f0 := View.write_whole_univ (Val := Elt Ideal) cc0_scratch0 d6 f0
    rw [e]
    refine congrArg f0 (funext fun a => ?_)
    fin_cases a
    · exact Fin.ext (by show 0 + 1 * (2 * pr + par) = 2 * pr + par; omega)
    · exact Fin.ext (by show 0 + 1 * d = d; omega)
  · rw [at2, at2, dif_neg fun h => hd h.2, dif_neg fun h => hd h.2]
end Cert.KernelIdeal.Hand
-- ==== Proof.Ideal.TabS.lean ====
/- The tables made from the scales and the zero points, read at an index. -/
module
public import proofs.«01_k».proof.Proof.Ideal.TabX
public import Idealize.ShloMosaic.Lib.Bf16Pair
@[expose] public section
set_option maxHeartbeats 0
noncomputable section
namespace Cert.KernelIdeal.Hand
open Cert.KernelIdeal Cert.KernelIdeal.Gen
open Idealize.ShloMosaic Idealize.ShloMosaic.TcCoe

theorem readS0 (c : Dev nD) (o : ℕ) (h : ∀ a, (![0, o] : Fin 2 → ℕ) a + S30x128.size a ≤ S30x15360.size a) (f : BufOf (F := Ideal) c sc2) (i : Fin 30) (j : Fin 128) :
    View.readAt (Elt Ideal) sc2.view (Rect.unit (s := S30x15360) ![0, o] S30x128.size h).toLoadRect f (ix2 i j) = at2 (α := EReal) (A := 30) (B := 15360) f i.val (o + j.val) := by
  have h1 : o + 128 ≤ 15360 := h 1
  rw [at2, dif_pos ⟨i.isLt, by omega⟩]
  refine congrArg f (funext fun a => ?_)
  fin_cases a
  · exact Fin.ext (by show 0 + 1 * i.val = i.val; omega)
  · exact Fin.ext (by show o + 1 * j.val = o + j.val; omega)
theorem readZ0 (c : Dev nD) (o : ℕ) (h : ∀ a, (![0, o] : Fin 2 → ℕ) a + S30x128.size a ≤ S30x15360.size a) (f : BufOf (F := Ideal) c sc3) (i : Fin 30) (j : Fin 128) :
    View.readAt (Elt Ideal) sc3.view (Rect.unit (s := S30x15360) ![0, o] S30x128.size h).toLoadRect f (ix2 i j) = at2 (α := BitVec 8) (A := 30) (B := 15360) f i.val (o + j.val) := by
  have h1 : o + 128 ≤ 15360 := h 1
  rw [at2, dif_pos ⟨i.isLt, by omega⟩]
  refine congrArg f (funext fun a => ?_)
  fin_cases a
  · exact Fin.ext (by show 0 + 1 * i.val = i.val; omega)
  · exact Fin.ext (by show o + 1 * j.val = o + j.val; omega)

/-- Two blocks of scales interleaved by rows, at an index. -/
theorem rawS8 (R1 R2 : FVec Ideal S30x128 .bf16) (r : Fin 60) (j : Fin 128) :
    (interleaveRows S1x60x128 (shapeCast S1x30x128 (truncf FTy.bf16 (extf FTy.f32 R1 bitsLt_bf16_f32) bitsLt_bf16_f32) shapeCasts_S30x128_S1x30x128) (shapeCast S1x30x128 (truncf FTy.bf16 (extf FTy.f32 R2 bitsLt_bf16_f32) bitsLt_bf16_f32) shapeCasts_S30x128_S1x30x128) bitcasts_S1x60x128_w16_S1x30x128_w32 : FVec Ideal S1x60x128 .bf16) (ix3 0 r j)
      = if r.val % 2 = 0 then at2 (α := EReal) (A := 30) (B := 128) R1 (r.val / 2) j.val else at2 (α := EReal) (A := 30) (B := 128) R2 (r.val / 2) j.val := by
  have e : ∀ (R : FVec Ideal S30x128 .bf16) (h : r.val / 2 < 30), at2 (α := EReal) (A := 30) (B := 128) R (r.val / 2) j.val = R (ix2 ⟨r.val / 2, h⟩ j) := fun R h => by
    rw [at2, dif_pos ⟨h, j.isLt⟩]
  rw [e R1 (by omega), e R2 (by omega)]
  pointwise []
theorem readS0' (c : Dev nD) (o : ℕ) (h : (∀ a, (![0, o] : Fin 2 → ℕ) a + S30x128.size a ≤ S30x15360.size a)) (f : BufOf (F := Ideal) c sc2) (i j : ℕ) (hi : i < 30) (hj : j < 128) :
    at2 (α := EReal) (A := 30) (B := 128) (View.readAt (Elt Ideal) sc2.view (Rect.unit (s := S30x15360) ![0, o] S30x128.size h).toLoadRect f) i j = at2 (α := EReal) (A := 30) (B := 15360) f i (o + j) := by
  rw [at2, dif_pos ⟨hi, hj⟩]; exact readS0 c o h f ⟨i, hi⟩ ⟨j, hj⟩
/-- What the second scale table holds. -/
def valS8 (s : S30x15360.Idx → EReal) (y : S12x60x128.Idx) : EReal :=
  at2 (α := EReal) (A := 30) (B := 15360) s ((y 1).val / 2) ((3 + 4 * ((y 1).val % 2)) * 1536 + (128 * (y 0).val + (y 2).val))

theorem pieceS8 {c : Dev nD} (sb : BufOf (F := Ideal) c sc2) (p o1 o2 : ℕ) (h1 : (∀ a, (![0, o1] : Fin 2 → ℕ) a + S30x128.size a ≤ S30x15360.size a)) (h2 : (∀ a, (![0, o2] : Fin 2 → ℕ) a + S30x128.size a ≤ S30x15360.size a))
    (e1 : o1 = 3 * 1536 + 128 * p) (e2 : o2 = 7 * 1536 + 128 * p) (hb) (x : S1x60x128.Idx) :
    (interleaveRows S1x60x128 (shapeCast S1x30x128 (truncf FTy.bf16 (extf FTy.f32 (View.readAt (Elt Ideal) sc2.view (Rect.unit (s := S30x15360) ![0, o1] S30x128.size h1).toLoadRect sb) bitsLt_bf16_f32) bitsLt_bf16_f32) shapeCasts_S30x128_S1x30x128) (shapeCast S1x30x128 (truncf FTy.bf16 (extf FTy.f32 (View.readAt (Elt Ideal) sc2.view (Rect.unit (s := S30x15360) ![0, o2] S30x128.size h2).toLoadRect sb) bitsLt_bf16_f32) bitsLt_bf16_f32) shapeCasts_S30x128_S1x30x128) bitcasts_S1x60x128_w16_S1x30x128_w32 : FVec Ideal S1x60x128 .bf16) x
      = valS8 sb ((Rect.unit (s := S12x60x128) ![p, 0, 0] S1x60x128.size hb).emb x) := by
  rw [← ix3_eta (A := 1) (B := 60) (C := 128) x, show x 0 = (0 : Fin 1) from Subsingleton.elim (α := Fin 1) _ _]
  obtain ⟨r, hr⟩ : ∃ r : Fin 60, r = x 1 := ⟨_, rfl⟩
  obtain ⟨j, hj⟩ : ∃ j : Fin 128, j = x 2 := ⟨_, rfl⟩
  rw [← hr, ← hj]
  refine (rawS8 _ _ r j).trans ?_
  show _ = at2 (α := EReal) (A := 30) (B := 15360) sb ((0 + 1 * r.val) / 2) ((3 + 4 * ((0 + 1 * r.val) % 2)) * 1536 + (128 * (p + 1 * 0) + (0 + 1 * j.val)))
  rw [readS0' c o1 h1 sb _ _ (by omega) j.isLt, readS0' c o2 h2 sb _ _ (by omega) j.isLt]
  have hc : ∀ u v d e : ℕ, u = v → d = e → at2 (α := EReal) (A := 30) (B := 15360) sb u d = at2 (α := EReal) (A := 30) (B := 15360) sb v e := fun u v d e a b => by rw [a, b]
  split_ifs <;> exact hc _ _ _ _ (by omega) (by omega)

/-- The word of the second zero table made from two zero points. -/
def word9 (z0 z1 : BitVec 8) : BitVec 32 :=
  IntOp.addi (IntOp.addi 1124090112#32 (IntOp.shli ArithUnit.vector (BitVec.setWidth 32 z0) 4#32)) (IntOp.shli ArithUnit.vector (BitVec.setWidth 32 z1) 16#32)
/-- What the second zero table holds. -/
def valZ9 (z : S30x15360.Idx → BitVec 8) (y : S12x30x128.Idx) : BitVec 32 :=
  word9 (at2 (α := BitVec 8) (A := 30) (B := 15360) z (y 1).val (3 * 1536 + (128 * (y 0).val + (y 2).val))) (at2 (α := BitVec 8) (A := 30) (B := 15360) z (y 1).val (7 * 1536 + (128 * (y 0).val + (y 2).val)))

theorem rawZ9 (R1 R2 : IVec S30x128 8) (r : Fin 30) (j : Fin 128) (z1 z2 : BitVec 8) (q1 : R1 (ix2 r j) = z1) (q2 : R2 (ix2 r j) = z2) :
    (shapeCast S1x30x128 (addi (addi (broadcast S30x128 1124090112#32) (shli (extui 32 R1 natLt_8_32) (broadcast S30x128 4#32))) (shli (extui 32 R2 natLt_8_32) (broadcast S30x128 16#32))) shapeCasts_S30x128_S1x30x128 : IVec S1x30x128 32) (ix3 0 r j) = word9 z1 z2 := by
  subst q1 q2
  pointwise [word9]
theorem pieceZ9 {c : Dev nD} (zb : BufOf (F := Ideal) c sc3) (p o1 o2 : ℕ) (h1 : (∀ a, (![0, o1] : Fin 2 → ℕ) a + S30x128.size a ≤ S30x15360.size a)) (h2 : (∀ a, (![0, o2] : Fin 2 → ℕ) a + S30x128.size a ≤ S30x15360.size a))
    (e1 : o1 = 3 * 1536 + 128 * p) (e2 : o2 = 7 * 1536 + 128 * p) (hb) (x : S1x30x128.Idx) :
    (shapeCast S1x30x128 (addi (addi (broadcast S30x128 1124090112#32) (shli (extui 32 (View.readAt (Elt Ideal) sc3.view (Rect.unit (s := S30x15360) ![0, o1] S30x128.size h1).toLoadRect zb) natLt_8_32) (broadcast S30x128 4#32))) (shli (extui 32 (View.readAt (Elt Ideal) sc3.view (Rect.unit (s := S30x15360) ![0, o2] S30x128.size h2).toLoadRect zb) natLt_8_32) (broadcast S30x128 16#32))) shapeCasts_S30x128_S1x30x128 : IVec S1x30x128 32) x
      = valZ9 zb ((Rect.unit (s := S12x30x128) ![p, 0, 0] S1x30x128.size hb).emb x) := by
  rw [← ix3_eta (A := 1) (B := 30) (C := 128) x, show x 0 = (0 : Fin 1) from Subsingleton.elim (α := Fin 1) _ _]
  refine (rawZ9 _ _ (x 1) (x 2) _ _ (readZ0 c o1 h1 zb (x 1) (x 2)) (readZ0 c o2 h2 zb (x 1) (x 2))).trans ?_
  show _ = word9 (at2 (α := BitVec 8) (A := 30) (B := 15360) zb (0 + 1 * (x 1).val) (3 * 1536 + (128 * (p + 1 * 0) + (0 + 1 * (x 2).val)))) (at2 (α := BitVec 8) (A := 30) (B := 15360) zb (0 + 1 * (x 1).val) (7 * 1536 + (128 * (p + 1 * 0) + (0 + 1 * (x 2).val))))
  simp only [Nat.zero_add, Nat.one_mul, Nat.mul_zero, Nat.add_zero, e1, e2, Nat.add_assoc]

/-- The word of the first zero table made from eight zero points. -/
def word7 (z : ℕ → BitVec 8) : BitVec 32 :=
  (IntOp.addi (IntOp.addi (IntOp.addi (IntOp.addi (IntOp.addi (IntOp.addi (IntOp.addi (IntOp.addi 0#32 (IntOp.shli ArithUnit.vector (IntOp.subi 8#32 (BitVec.setWidth 32 (z 0))) 0#32)) (IntOp.shli ArithUnit.vector (IntOp.subi 8#32 (BitVec.setWidth 32 (z 1))) 4#32)) (IntOp.shli ArithUnit.vector (IntOp.subi 8#32 (BitVec.setWidth 32 (z 2))) 8#32)) (IntOp.shli ArithUnit.vector (IntOp.subi 8#32 (BitVec.setWidth 32 (z 3))) 12#32)) (IntOp.shli ArithUnit.vector (IntOp.subi 8#32 (BitVec.setWidth 32 (z 4))) 16#32)) (IntOp.shli ArithUnit.vector (IntOp.subi 8#32 (BitVec.setWidth 32 (z 5))) 20#32)) (IntOp.shli ArithUnit.vector (IntOp.subi 8#32 (BitVec.setWidth 32 (z 6))) 24#32)) (IntOp.shli ArithUnit.vector (IntOp.subi 8#32 (BitVec.setWidth 32 (z 7))) 28#32))
/-- What the first zero table holds. -/
def valZ7 (z : S30x15360.Idx → BitVec 8) (y : S12x30x128.Idx) : BitVec 32 :=
  word7 fun k => at2 (α := BitVec 8) (A := 30) (B := 15360) z (y 1).val (nibField k * 1536 + (128 * (y 0).val + (y 2).val))
theorem rawZ7 (R0 R1 R2 R3 R4 R5 R6 R7 : IVec S30x128 8) (r : Fin 30) (j : Fin 128) (z : ℕ → BitVec 8) (q0 : R0 (ix2 r j) = z 0) (q1 : R1 (ix2 r j) = z 1) (q2 : R2 (ix2 r j) = z 2) (q3 : R3 (ix2 r j) = z 3) (q4 : R4 (ix2 r j) = z 4) (q5 : R5 (ix2 r j) = z 5) (q6 : R6 (ix2 r j) = z 6) (q7 : R7 (ix2 r j) = z 7) :
    (shapeCast S1x30x128 (addi (addi (addi (addi (addi (addi (addi (addi (broadcast S30x128 0#32) (shli (subi (broadcast S30x128 8#32) (extui 32 R0 natLt_8_32)) (broadcast S30x128 0#32))) (shli (subi (broadcast S30x128 8#32) (extui 32 R1 natLt_8_32)) (broadcast S30x128 4#32))) (shli (subi (broadcast S30x128 8#32) (extui 32 R2 natLt_8_32)) (broadcast S30x128 8#32))) (shli (subi (broadcast S30x128 8#32) (extui 32 R3 natLt_8_32)) (broadcast S30x128 12#32))) (shli (subi (broadcast S30x128 8#32) (extui 32 R4 natLt_8_32)) (broadcast S30x128 16#32))) (shli (subi (broadcast S30x128 8#32) (extui 32 R5 natLt_8_32)) (broadcast S30x128 20#32))) (shli (subi (broadcast S30x128 8#32) (extui 32 R6 natLt_8_32)) (broadcast S30x128 24#32))) (shli (subi (broadcast S30x128 8#32) (extui 32 R7 natLt_8_32)) (broadcast S30x128 28#32))) shapeCasts_S30x128_S1x30x128 : IVec S1x30x128 32) (ix3 0 r j) = word7 z := by
  simp only [word7, ← q0, ← q1, ← q2, ← q3, ← q4, ← q5, ← q6, ← q7]
  pointwise []

theorem pieceZ7 {c : Dev nD} (zb : BufOf (F := Ideal) c sc3) (p o0 o1 o2 o3 o4 o5 o6 o7 : ℕ) (h0 : (∀ a, (![0, o0] : Fin 2 → ℕ) a + S30x128.size a ≤ S30x15360.size a)) (h1 : (∀ a, (![0, o1] : Fin 2 → ℕ) a + S30x128.size a ≤ S30x15360.size a)) (h2 : (∀ a, (![0, o2] : Fin 2 → ℕ) a + S30x128.size a ≤ S30x15360.size a)) (h3 : (∀ a, (![0, o3] : Fin 2 → ℕ) a + S30x128.size a ≤ S30x15360.size a)) (h4 : (∀ a, (![0, o4] : Fin 2 → ℕ) a + S30x128.size a ≤ S30x15360.size a)) (h5 : (∀ a, (![0, o5] : Fin 2 → ℕ) a + S30x128.size a ≤ S30x15360.size a)) (h6 : (∀ a, (![0, o6] : Fin 2 → ℕ) a + S30x128.size a ≤ S30x15360.size a)) (h7 : (∀ a, (![0, o7] : Fin 2 → ℕ) a + S30x128.size a ≤ S30x15360.size a))
    (e0 : o0 = nibField 0 * 1536 + 128 * p) (e1 : o1 = nibField 1 * 1536 + 128 * p) (e2 : o2 = nibField 2 * 1536 + 128 * p) (e3 : o3 = nibField 3 * 1536 + 128 * p) (e4 : o4 = nibField 4 * 1536 + 128 * p) (e5 : o5 = nibField 5 * 1536 + 128 * p) (e6 : o6 = nibField 6 * 1536 + 128 * p) (e7 : o7 = nibField 7 * 1536 + 128 * p) (hb) (x : S1x30x128.Idx) :
    (shapeCast S1x30x128 (addi (addi (addi (addi (addi (addi (addi (addi (broadcast S30x128 0#32) (shli (subi (broadcast S30x128 8#32) (extui 32 (View.readAt (Elt Ideal) sc3.view (Rect.unit (s := S30x15360) ![0, o0] S30x128.size h0).toLoadRect zb) natLt_8_32)) (broadcast S30x128 0#32))) (shli (subi (broadcast S30x128 8#32) (extui 32 (View.readAt (Elt Ideal) sc3.view (Rect.unit (s := S30x15360) ![0, o1] S30x128.size h1).toLoadRect zb) natLt_8_32)) (broadcast S30x128 4#32))) (shli (subi (broadcast S30x128 8#32) (extui 32 (View.readAt (Elt Ideal) sc3.view (Rect.unit (s := S30x15360) ![0, o2] S30x128.size h2).toLoadRect zb) natLt_8_32)) (broadcast S30x128 8#32))) (shli (subi (broadcast S30x128 8#32) (extui 32 (View.readAt (Elt Ideal) sc3.view (Rect.unit (s := S30x15360) ![0, o3] S30x128.size h3).toLoadRect zb) natLt_8_32)) (broadcast S30x128 12#32))) (shli (subi (broadcast S30x128 8#32) (extui 32 (View.readAt (Elt Ideal) sc3.view (Rect.unit (s := S30x15360) ![0, o4] S30x128.size h4).toLoadRect zb) natLt_8_32)) (broadcast S30x128 16#32))) (shli (subi (broadcast S30x128 8#32) (extui 32 (View.readAt (Elt Ideal) sc3.view (Rect.unit (s := S30x15360) ![0, o5] S30x128.size h5).toLoadRect zb) natLt_8_32)) (broadcast S30x128 20#32))) (shli (subi (broadcast S30x128 8#32) (extui 32 (View.readAt (Elt Ideal) sc3.view (Rect.unit (s := S30x15360) ![0, o6] S30x128.size h6).toLoadRect zb) natLt_8_32)) (broadcast S30x128 24#32))) (shli (subi (broadcast S30x128 8#32) (extui 32 (View.readAt (Elt Ideal) sc3.view (Rect.unit (s := S30x15360) ![0, o7] S30x128.size h7).toLoadRect zb) natLt_8_32)) (broadcast S30x128 28#32))) shapeCasts_S30x128_S1x30x128 : IVec S1x30x128 32) x
      = valZ7 zb ((Rect.unit (s := S12x30x128) ![p, 0, 0] S1x30x128.size hb).emb x) := by
  rw [← ix3_eta (A := 1) (B := 30) (C := 128) x, show x 0 = (0 : Fin 1) from Subsingleton.elim (α := Fin 1) _ _]
  show _ = word7 fun k => at2 (α := BitVec 8) (A := 30) (B := 15360) zb (0 + 1 * (x 1).val) (nibField k * 1536 + (128 * (p + 1 * 0) + (0 + 1 * (x 2).val)))
  have hc : ∀ k o : ℕ, o = nibField k * 1536 + 128 * p → at2 (α := BitVec 8) (A := 30) (B := 15360) zb (x 1).val (o + (x 2).val) = at2 (α := BitVec 8) (A := 30) (B := 15360) zb (0 + 1 * (x 1).val) (nibField k * 1536 + (128 * (p + 1 * 0) + (0 + 1 * (x 2).val))) := fun k o e => by
    simp only [Nat.zero_add, Nat.one_mul, Nat.mul_zero, Nat.add_zero, e, Nat.add_assoc]
  exact rawZ7 _ _ _ _ _ _ _ _ (x 1) (x 2) _ ((readZ0 c o0 h0 zb (x 1) (x 2)).trans (hc _ _ e0)) ((readZ0 c o1 h1 zb (x 1) (x 2)).trans (hc _ _ e1)) ((readZ0 c o2 h2 zb (x 1) (x 2)).trans (hc _ _ e2)) ((readZ0 c o3 h3 zb (x 1) (x 2)).trans (hc _ _ e3)) ((readZ0 c o4 h4 zb (x 1) (x 2)).trans (hc _ _ e4)) ((readZ0 c o5 h5 zb (x 1) (x 2)).trans (hc _ _ e5)) ((readZ0 c o6 h6 zb (x 1) (x 2)).trans (hc _ _ e6)) ((readZ0 c o7 h7 zb (x 1) (x 2)).trans (hc _ _ e7))

theorem inbS8 (i : ℕ) : ∀ a, (![11 - i, 0, 0] : Fin 3 → ℕ) a + S1x60x128.size a ≤ S12x60x128.size a := by
  intro a; fin_cases a
  · show 11 - i + 1 ≤ 12; omega
  · exact le_refl _
  · exact le_refl _
theorem rectsS8 (c : Dev nD) (f2 : BufOf (F := Ideal) c hb2) (d8 : BufOf (F := Ideal) c sc2) :
    (⟨Rect.unit ![11,0,0] S1x60x128.size inb_S12x60x128_S1x60x128_11_0_0, k0_pay715 (body_run.sl.r_121 (F := Ideal) c f2 d8) (body_run.sl.r_122 (F := Ideal) c f2 d8)⟩ :: body_run.sl.HS8_11 (F := Ideal) c f2 d8 : List (View.Piece (Elt Ideal) S12x60x128 .bf16)).map (fun p => p.1) = (List.range 12).map fun i => Rect.unit (s := S12x60x128) ![11 - i, 0, 0] S1x60x128.size (inbS8 i) := by
  rfl
theorem readTabS8 {c : Dev nD} (f : BufOf (F := Ideal) c sc8) (g a l : ℕ) (hg : g < 12) (ha : a < 60) (hl : l < 128) :
    at3 (α := EReal) (A := 12) (B := 60) (C := 128) f g a l = sc8.view.read (Elt Ideal) f (ix3 ⟨g, hg⟩ ⟨a, ha⟩ ⟨l, hl⟩) := by
  rw [at3, dif_pos ⟨hg, ha, hl⟩]; rfl
theorem tabS8 (c : Dev nD) (f2 : BufOf (F := Ideal) c hb2) (d8 : BufOf (F := Ideal) c sc2) (g a l : ℕ) (hg : g < 12) (ha : a < 60) (hl : l < 128) :
    at3 (α := EReal) (A := 12) (B := 60) (C := 128) (sc8.view.writes (Elt Ideal) sc8.view.junk (⟨Rect.unit ![11,0,0] S1x60x128.size inb_S12x60x128_S1x60x128_11_0_0, k0_pay715 (body_run.sl.r_121 (F := Ideal) c f2 d8) (body_run.sl.r_122 (F := Ideal) c f2 d8)⟩ :: body_run.sl.HS8_11 (F := Ideal) c f2 d8)) g a l
      = valS8 (View.write (Elt Ideal) sc2.view d8 (body_run.sl.dma0_1 (F := Ideal) c f2) Finset.univ) (ix3 ⟨g, hg⟩ ⟨a, ha⟩ ⟨l, hl⟩) := by
  have H := View.read_writes_apply_of_pieces (Val := Elt Ideal) (v := sc8.view) (f := sc8.view.junk) (valS8 (View.write (Elt Ideal) sc2.view d8 (body_run.sl.dma0_1 (F := Ideal) c f2) Finset.univ))
    (⟨Rect.unit ![11,0,0] S1x60x128.size inb_S12x60x128_S1x60x128_11_0_0, k0_pay715 (body_run.sl.r_121 (F := Ideal) c f2 d8) (body_run.sl.r_122 (F := Ideal) c f2 d8)⟩ :: body_run.sl.HS8_11 (F := Ideal) c f2 d8) ?_ (ix3 ⟨g, hg⟩ ⟨a, ha⟩ ⟨l, hl⟩)
    (covered _ _ 12 (rectsS8 c f2 d8) (11 - g) (by omega) _ (Rect.mem_set_unit.2 fun b => ?_))
  · exact (readTabS8 (c := c) _ g a l hg ha hl).trans H
  · simp only [k0_pay715, k0_pay714, k0_pay713, body_run.sl.r_121, body_run.sl.r_122, body_run.sl.HS8_11, body_run.sl.HS8_10, body_run.sl.HS8_9, body_run.sl.HS8_8, body_run.sl.HS8_7, body_run.sl.HS8_6, body_run.sl.HS8_5, body_run.sl.HS8_4, body_run.sl.HS8_3, body_run.sl.HS8_2, body_run.sl.HS8_1, k0_pay443, k0_pay468, body_run.sl.k0_w27, body_run.sl.v1629_hi, body_run.sl.r_77, k0_pay492, body_run.sl.v1629_lo, body_run.sl.r_76, k0_pay491, k0_pay517, k0_pay542, body_run.sl.k0_w54, body_run.sl.v2034_hi, body_run.sl.r_92, k0_pay566, body_run.sl.v2034_lo, body_run.sl.r_91, k0_pay565, k0_pay591, k0_pay616, body_run.sl.k0_w81, body_run.sl.v2439_hi, body_run.sl.r_107, k0_pay640, body_run.sl.v2439_lo, body_run.sl.r_106, k0_pay639, k0_pay665, k0_pay690]
    refine List.forall_mem_cons.2 ⟨pieceS8 (c := c) _ 11 _ _ _ _ rfl rfl inb_S12x60x128_S1x60x128_11_0_0, ?_⟩
    refine List.forall_mem_cons.2 ⟨pieceS8 (c := c) _ 10 _ _ _ _ rfl rfl inb_S12x60x128_S1x60x128_10_0_0, ?_⟩
    refine List.forall_mem_cons.2 ⟨pieceS8 (c := c) _ 9 _ _ _ _ rfl rfl inb_S12x60x128_S1x60x128_9_0_0, ?_⟩
    refine List.forall_mem_cons.2 ⟨pieceS8 (c := c) _ 8 _ _ _ _ rfl rfl inb_S12x60x128_S1x60x128_8_0_0, ?_⟩
    refine List.forall_mem_cons.2 ⟨pieceS8 (c := c) _ 7 _ _ _ _ rfl rfl inb_S12x60x128_S1x60x128_7_0_0, ?_⟩
    refine List.forall_mem_cons.2 ⟨pieceS8 (c := c) _ 6 _ _ _ _ rfl rfl inb_S12x60x128_S1x60x128_6_0_0, ?_⟩
    refine List.forall_mem_cons.2 ⟨pieceS8 (c := c) _ 5 _ _ _ _ rfl rfl inb_S12x60x128_S1x60x128_5_0_0, ?_⟩
    refine List.forall_mem_cons.2 ⟨pieceS8 (c := c) _ 4 _ _ _ _ rfl rfl inb_S12x60x128_S1x60x128_4_0_0, ?_⟩
    refine List.forall_mem_cons.2 ⟨pieceS8 (c := c) _ 3 _ _ _ _ rfl rfl inb_S12x60x128_S1x60x128_3_0_0, ?_⟩
    refine List.forall_mem_cons.2 ⟨pieceS8 (c := c) _ 2 _ _ _ _ rfl rfl inb_S12x60x128_S1x60x128_2_0_0, ?_⟩
    refine List.forall_mem_cons.2 ⟨pieceS8 (c := c) _ 1 _ _ _ _ rfl rfl inb_S12x60x128_S1x60x128_1_0_0, ?_⟩
    refine List.forall_mem_cons.2 ⟨pieceS8 (c := c) _ 0 _ _ _ _ rfl rfl inb_S12x60x128_S1x60x128_0_0_0, ?_⟩
    exact fun p hp => absurd hp List.not_mem_nil
  · fin_cases b
    · exact ⟨by show 11 - (11 - g) ≤ g; omega, by show g < 11 - (11 - g) + 1; omega⟩
    · exact ⟨Nat.zero_le _, by show a < 0 + 60; omega⟩
    · exact ⟨Nat.zero_le _, by show l < 0 + 128; omega⟩

theorem inbZ9 (i : ℕ) : ∀ a, (![11 - i, 0, 0] : Fin 3 → ℕ) a + S1x30x128.size a ≤ S12x30x128.size a := by
  intro a; fin_cases a
  · show 11 - i + 1 ≤ 12; omega
  · exact le_refl _
  · exact le_refl _
theorem rectsZ9 (c : Dev nD) (f3 : BufOf (F := Ideal) c hb3) (d9 : BufOf (F := Ideal) c sc3) :
    (⟨Rect.unit ![11,0,0] S1x30x128.size inb_S12x30x128_S1x30x128_11_0_0, k0_pay716 (View.readAt (Elt Ideal) sc3.view (Rect.unit (s := S30x15360) ![0, 6016] S30x128.size inb_S30x15360_S30x128_0_6016).toLoadRect (View.write (Elt Ideal) sc3.view d9 (body_run.sl.dma0_2 (F := Ideal) c f3) Finset.univ)) (View.readAt (Elt Ideal) sc3.view (Rect.unit (s := S30x15360) ![0, 12160] S30x128.size inb_S30x15360_S30x128_0_12160).toLoadRect (View.write (Elt Ideal) sc3.view d9 (body_run.sl.dma0_2 (F := Ideal) c f3) Finset.univ))⟩ :: body_run.sl.HS9_11 (F := Ideal) c f3 d9 : List (View.Piece (Elt Ideal) S12x30x128 .i32)).map (fun p => p.1) = (List.range 12).map fun i => Rect.unit (s := S12x30x128) ![11 - i, 0, 0] S1x30x128.size (inbZ9 i) := by
  rfl
theorem readTabZ9 {c : Dev nD} (f : BufOf (F := Ideal) c sc9) (g a l : ℕ) (hg : g < 12) (ha : a < 30) (hl : l < 128) :
    at3 (α := BitVec 32) (A := 12) (B := 30) (C := 128) f g a l = sc9.view.read (Elt Ideal) f (ix3 ⟨g, hg⟩ ⟨a, ha⟩ ⟨l, hl⟩) := by
  rw [at3, dif_pos ⟨hg, ha, hl⟩]; rfl
theorem tabZ9 (c : Dev nD) (f3 : BufOf (F := Ideal) c hb3) (d9 : BufOf (F := Ideal) c sc3) (g a l : ℕ) (hg : g < 12) (ha : a < 30) (hl : l < 128) :
    at3 (α := BitVec 32) (A := 12) (B := 30) (C := 128) (sc9.view.writes (Elt Ideal) sc9.view.junk (⟨Rect.unit ![11,0,0] S1x30x128.size inb_S12x30x128_S1x30x128_11_0_0, k0_pay716 (View.readAt (Elt Ideal) sc3.view (Rect.unit (s := S30x15360) ![0, 6016] S30x128.size inb_S30x15360_S30x128_0_6016).toLoadRect (View.write (Elt Ideal) sc3.view d9 (body_run.sl.dma0_2 (F := Ideal) c f3) Finset.univ)) (View.readAt (Elt Ideal) sc3.view (Rect.unit (s := S30x15360) ![0, 12160] S30x128.size inb_S30x15360_S30x128_0_12160).toLoadRect (View.write (Elt Ideal) sc3.view d9 (body_run.sl.dma0_2 (F := Ideal) c f3) Finset.univ))⟩ :: body_run.sl.HS9_11 (F := Ideal) c f3 d9)) g a l
      = valZ9 (View.write (Elt Ideal) sc3.view d9 (body_run.sl.dma0_2 (F := Ideal) c f3) Finset.univ) (ix3 ⟨g, hg⟩ ⟨a, ha⟩ ⟨l, hl⟩) := by
  have H := View.read_writes_apply_of_pieces (Val := Elt Ideal) (v := sc9.view) (f := sc9.view.junk) (valZ9 (View.write (Elt Ideal) sc3.view d9 (body_run.sl.dma0_2 (F := Ideal) c f3) Finset.univ))
    (⟨Rect.unit ![11,0,0] S1x30x128.size inb_S12x30x128_S1x30x128_11_0_0, k0_pay716 (View.readAt (Elt Ideal) sc3.view (Rect.unit (s := S30x15360) ![0, 6016] S30x128.size inb_S30x15360_S30x128_0_6016).toLoadRect (View.write (Elt Ideal) sc3.view d9 (body_run.sl.dma0_2 (F := Ideal) c f3) Finset.univ)) (View.readAt (Elt Ideal) sc3.view (Rect.unit (s := S30x15360) ![0, 12160] S30x128.size inb_S30x15360_S30x128_0_12160).toLoadRect (View.write (Elt Ideal) sc3.view d9 (body_run.sl.dma0_2 (F := Ideal) c f3) Finset.univ))⟩ :: body_run.sl.HS9_11 (F := Ideal) c f3 d9) ?_ (ix3 ⟨g, hg⟩ ⟨a, ha⟩ ⟨l, hl⟩)
    (covered _ _ 12 (rectsZ9 c f3 d9) (11 - g) (by omega) _ (Rect.mem_set_unit.2 fun b => ?_))
  · exact (readTabZ9 (c := c) _ g a l hg ha hl).trans H
  · simp only [k0_pay716, body_run.sl.HS9_11, body_run.sl.HS9_10, body_run.sl.HS9_9, body_run.sl.HS9_8, body_run.sl.HS9_7, body_run.sl.HS9_6, body_run.sl.HS9_5, body_run.sl.HS9_4, body_run.sl.HS9_3, body_run.sl.HS9_2, body_run.sl.HS9_1, body_run.sl.v1373, body_run.sl.v1370, body_run.sl.v1369, body_run.sl.v1272, body_run.sl.v1367, body_run.sl.v1365, body_run.sl.r_66, k0_pay444, body_run.sl.v1364, k0_pay469, body_run.sl.v1643, body_run.sl.v1640, body_run.sl.v1639, body_run.sl.v1637, body_run.sl.v1635, body_run.sl.v1633, body_run.sl.v1386, body_run.sl.v1631, body_run.sl.v1778, body_run.sl.v1775, body_run.sl.v1774, body_run.sl.v1772, body_run.sl.v1770, body_run.sl.r_81, k0_pay518, k0_pay543, body_run.sl.v2048, body_run.sl.v2045, body_run.sl.v2044, body_run.sl.v2042, body_run.sl.v2040, body_run.sl.v2038, body_run.sl.v2036, body_run.sl.v2183, body_run.sl.v2180, body_run.sl.v2179, body_run.sl.v2177, body_run.sl.v2175, body_run.sl.r_96, k0_pay592, k0_pay617, body_run.sl.v2453, body_run.sl.v2450, body_run.sl.v2449, body_run.sl.v2447, body_run.sl.v2445, body_run.sl.v2443, body_run.sl.v2441, body_run.sl.v2588, body_run.sl.v2585, body_run.sl.v2584, body_run.sl.v2582, body_run.sl.v2580, body_run.sl.r_111, k0_pay666, k0_pay691]
    refine List.forall_mem_cons.2 ⟨pieceZ9 (c := c) _ 11 _ _ _ _ rfl rfl inb_S12x30x128_S1x30x128_11_0_0, ?_⟩
    refine List.forall_mem_cons.2 ⟨pieceZ9 (c := c) _ 10 _ _ _ _ rfl rfl inb_S12x30x128_S1x30x128_10_0_0, ?_⟩
    refine List.forall_mem_cons.2 ⟨pieceZ9 (c := c) _ 9 _ _ _ _ rfl rfl inb_S12x30x128_S1x30x128_9_0_0, ?_⟩
    refine List.forall_mem_cons.2 ⟨pieceZ9 (c := c) _ 8 _ _ _ _ rfl rfl inb_S12x30x128_S1x30x128_8_0_0, ?_⟩
    refine List.forall_mem_cons.2 ⟨pieceZ9 (c := c) _ 7 _ _ _ _ rfl rfl inb_S12x30x128_S1x30x128_7_0_0, ?_⟩
    refine List.forall_mem_cons.2 ⟨pieceZ9 (c := c) _ 6 _ _ _ _ rfl rfl inb_S12x30x128_S1x30x128_6_0_0, ?_⟩
    refine List.forall_mem_cons.2 ⟨pieceZ9 (c := c) _ 5 _ _ _ _ rfl rfl inb_S12x30x128_S1x30x128_5_0_0, ?_⟩
    refine List.forall_mem_cons.2 ⟨pieceZ9 (c := c) _ 4 _ _ _ _ rfl rfl inb_S12x30x128_S1x30x128_4_0_0, ?_⟩
    refine List.forall_mem_cons.2 ⟨pieceZ9 (c := c) _ 3 _ _ _ _ rfl rfl inb_S12x30x128_S1x30x128_3_0_0, ?_⟩
    refine List.forall_mem_cons.2 ⟨pieceZ9 (c := c) _ 2 _ _ _ _ rfl rfl inb_S12x30x128_S1x30x128_2_0_0, ?_⟩
    refine List.forall_mem_cons.2 ⟨pieceZ9 (c := c) _ 1 _ _ _ _ rfl rfl inb_S12x30x128_S1x30x128_1_0_0, ?_⟩
    refine List.forall_mem_cons.2 ⟨pieceZ9 (c := c) _ 0 _ _ _ _ rfl rfl inb_S12x30x128_S1x30x128_0_0_0, ?_⟩
    exact fun p hp => absurd hp List.not_mem_nil
  · fin_cases b
    · exact ⟨by show 11 - (11 - g) ≤ g; omega, by show g < 11 - (11 - g) + 1; omega⟩
    · exact ⟨Nat.zero_le _, by show a < 0 + 30; omega⟩
    · exact ⟨Nat.zero_le _, by show l < 0 + 128; omega⟩

theorem inbZ7 (i : ℕ) : ∀ a, (![11 - i, 0, 0] : Fin 3 → ℕ) a + S1x30x128.size a ≤ S12x30x128.size a := by
  intro a; fin_cases a
  · show 11 - i + 1 ≤ 12; omega
  · exact le_refl _
  · exact le_refl _
theorem rectsZ7 (c : Dev nD) (f3 : BufOf (F := Ideal) c hb3) (d9 : BufOf (F := Ideal) c sc3) :
    (body_run.sl.HS7_12 (F := Ideal) c f3 d9 : List (View.Piece (Elt Ideal) S12x30x128 .i32)).map (fun p => p.1) = (List.range 12).map fun i => Rect.unit (s := S12x30x128) ![11 - i, 0, 0] S1x30x128.size (inbZ7 i) := by
  rfl
theorem readTabZ7 {c : Dev nD} (f : BufOf (F := Ideal) c sc7) (g a l : ℕ) (hg : g < 12) (ha : a < 30) (hl : l < 128) :
    at3 (α := BitVec 32) (A := 12) (B := 30) (C := 128) f g a l = sc7.view.read (Elt Ideal) f (ix3 ⟨g, hg⟩ ⟨a, ha⟩ ⟨l, hl⟩) := by
  rw [at3, dif_pos ⟨hg, ha, hl⟩]; rfl
theorem tabZ7 (c : Dev nD) (f3 : BufOf (F := Ideal) c hb3) (d9 : BufOf (F := Ideal) c sc3) (g a l : ℕ) (hg : g < 12) (ha : a < 30) (hl : l < 128) :
    at3 (α := BitVec 32) (A := 12) (B := 30) (C := 128) (sc7.view.writes (Elt Ideal) sc7.view.junk (body_run.sl.HS7_12 (F := Ideal) c f3 d9)) g a l
      = valZ7 (View.write (Elt Ideal) sc3.view d9 (body_run.sl.dma0_2 (F := Ideal) c f3) Finset.univ) (ix3 ⟨g, hg⟩ ⟨a, ha⟩ ⟨l, hl⟩) := by
  have H := View.read_writes_apply_of_pieces (Val := Elt Ideal) (v := sc7.view) (f := sc7.view.junk) (valZ7 (View.write (Elt Ideal) sc3.view d9 (body_run.sl.dma0_2 (F := Ideal) c f3) Finset.univ))
    (body_run.sl.HS7_12 (F := Ideal) c f3 d9) ?_ (ix3 ⟨g, hg⟩ ⟨a, ha⟩ ⟨l, hl⟩)
    (covered _ _ 12 (rectsZ7 c f3 d9) (11 - g) (by omega) _ (Rect.mem_set_unit.2 fun b => ?_))
  · exact (readTabZ7 (c := c) _ g a l hg ha hl).trans H
  · simp only [body_run.sl.HS7_12, body_run.sl.HS7_11, body_run.sl.HS7_10, body_run.sl.HS7_9, body_run.sl.HS7_8, body_run.sl.HS7_7, body_run.sl.HS7_6, body_run.sl.HS7_5, body_run.sl.HS7_4, body_run.sl.HS7_3, body_run.sl.HS7_2, body_run.sl.HS7_1, body_run.sl.v1290, body_run.sl.v1288, body_run.sl.v1287, body_run.sl.v1286, body_run.sl.v1285, body_run.sl.v1283, body_run.sl.v1256, body_run.sl.v1281, body_run.sl.v1280, body_run.sl.v1279, body_run.sl.v1278, body_run.sl.v1276, body_run.sl.v1274, body_run.sl.v1273, body_run.sl.v1272, body_run.sl.v1271, body_run.sl.v1269, body_run.sl.v1267, body_run.sl.v1266, body_run.sl.v1265, body_run.sl.v1264, body_run.sl.v1262, body_run.sl.v1260, body_run.sl.v1259, body_run.sl.v1257, body_run.sl.v1255, body_run.sl.v1253, body_run.sl.r_62, k0_pay422, body_run.sl.r_61, k0_pay421, k0_pay425, body_run.sl.v1399, body_run.sl.v1397, body_run.sl.v1395, body_run.sl.v1394, body_run.sl.v1392, body_run.sl.v1390, body_run.sl.v1388, body_run.sl.v1387, body_run.sl.v1386, body_run.sl.v1385, body_run.sl.v1383, body_run.sl.v1381, body_run.sl.v1380, body_run.sl.v1374, body_run.sl.v1378, body_run.sl.v1376, k0_pay448, body_run.sl.v1546, body_run.sl.v1544, body_run.sl.v1543, body_run.sl.v1541, body_run.sl.v1539, body_run.sl.v1537, body_run.sl.v1536, body_run.sl.v1534, body_run.sl.v1532, body_run.sl.v1530, body_run.sl.v1529, body_run.sl.v1527, body_run.sl.v1525, body_run.sl.v1523, body_run.sl.v1522, body_run.sl.v1520, body_run.sl.v1518, body_run.sl.v1516, body_run.sl.v1515, body_run.sl.v1513, body_run.sl.v1511, k0_pay470, k0_pay474, body_run.sl.v1695, body_run.sl.v1693, body_run.sl.v1692, body_run.sl.v1690, body_run.sl.v1688, body_run.sl.v1686, body_run.sl.v1685, body_run.sl.v1683, body_run.sl.v1681, body_run.sl.v1679, body_run.sl.v1678, body_run.sl.v1676, body_run.sl.v1674, body_run.sl.v1672, body_run.sl.v1671, body_run.sl.v1669, body_run.sl.v1667, body_run.sl.v1665, body_run.sl.v1664, body_run.sl.v1662, body_run.sl.v1660, body_run.sl.v1658, body_run.sl.v1657, body_run.sl.v1655, body_run.sl.v1653, body_run.sl.v1651, body_run.sl.v1650, body_run.sl.v1648, body_run.sl.v1646, k0_pay499, body_run.sl.v1804, body_run.sl.v1802, body_run.sl.v1800, body_run.sl.v1799, body_run.sl.v1797, body_run.sl.v1795, body_run.sl.v1793, body_run.sl.v1792, body_run.sl.v1790, body_run.sl.v1788, body_run.sl.v1786, body_run.sl.v1785, body_run.sl.v1783, body_run.sl.v1781, k0_pay522, body_run.sl.v1951, body_run.sl.v1949, body_run.sl.v1948, body_run.sl.v1946, body_run.sl.v1944, body_run.sl.v1942, body_run.sl.v1941, body_run.sl.v1939, body_run.sl.v1937, body_run.sl.v1935, body_run.sl.v1934, body_run.sl.v1932, body_run.sl.v1930, body_run.sl.v1928, body_run.sl.v1927, body_run.sl.v1925, body_run.sl.v1923, body_run.sl.v1921, body_run.sl.v1920, body_run.sl.v1918, body_run.sl.v1916, k0_pay544, k0_pay548, body_run.sl.v2100, body_run.sl.v2098, body_run.sl.v2097, body_run.sl.v2095, body_run.sl.v2093, body_run.sl.v2091, body_run.sl.v2090, body_run.sl.v2088, body_run.sl.v2086, body_run.sl.v2084, body_run.sl.v2083, body_run.sl.v2081, body_run.sl.v2079, body_run.sl.v2077, body_run.sl.v2076, body_run.sl.v2074, body_run.sl.v2072, body_run.sl.v2070, body_run.sl.v2069, body_run.sl.v2067, body_run.sl.v2065, body_run.sl.v2063, body_run.sl.v2062, body_run.sl.v2060, body_run.sl.v2058, body_run.sl.v2056, body_run.sl.v2055, body_run.sl.v2053, body_run.sl.v2051, k0_pay573, body_run.sl.v2209, body_run.sl.v2207, body_run.sl.v2205, body_run.sl.v2204, body_run.sl.v2202, body_run.sl.v2200, body_run.sl.v2198, body_run.sl.v2197, body_run.sl.v2195, body_run.sl.v2193, body_run.sl.v2191, body_run.sl.v2190, body_run.sl.v2188, body_run.sl.v2186, k0_pay596, body_run.sl.v2356, body_run.sl.v2354, body_run.sl.v2353, body_run.sl.v2351, body_run.sl.v2349, body_run.sl.v2347, body_run.sl.v2346, body_run.sl.v2344, body_run.sl.v2342, body_run.sl.v2340, body_run.sl.v2339, body_run.sl.v2337, body_run.sl.v2335, body_run.sl.v2333, body_run.sl.v2332, body_run.sl.v2330, body_run.sl.v2328, body_run.sl.v2326, body_run.sl.v2325, body_run.sl.v2323, body_run.sl.v2321, k0_pay618, k0_pay622, body_run.sl.v2505, body_run.sl.v2503, body_run.sl.v2502, body_run.sl.v2500, body_run.sl.v2498, body_run.sl.v2496, body_run.sl.v2495, body_run.sl.v2493, body_run.sl.v2491, body_run.sl.v2489, body_run.sl.v2488, body_run.sl.v2486, body_run.sl.v2484, body_run.sl.v2482, body_run.sl.v2481, body_run.sl.v2479, body_run.sl.v2477, body_run.sl.v2475, body_run.sl.v2474, body_run.sl.v2472, body_run.sl.v2470, body_run.sl.v2468, body_run.sl.v2467, body_run.sl.v2465, body_run.sl.v2463, body_run.sl.v2461, body_run.sl.v2460, body_run.sl.v2458, body_run.sl.v2456, k0_pay647, body_run.sl.v2614, body_run.sl.v2612, body_run.sl.v2610, body_run.sl.v2609, body_run.sl.v2607, body_run.sl.v2605, body_run.sl.v2603, body_run.sl.v2602, body_run.sl.v2600, body_run.sl.v2598, body_run.sl.v2596, body_run.sl.v2595, body_run.sl.v2593, body_run.sl.v2591, k0_pay670, body_run.sl.v2761, body_run.sl.v2759, body_run.sl.v2758, body_run.sl.v2756, body_run.sl.v2754, body_run.sl.v2752, body_run.sl.v2751, body_run.sl.v2749, body_run.sl.v2747, body_run.sl.v2745, body_run.sl.v2744, body_run.sl.v2742, body_run.sl.v2740, body_run.sl.v2738, body_run.sl.v2737, body_run.sl.v2735, body_run.sl.v2733, body_run.sl.v2731, body_run.sl.v2730, body_run.sl.v2728, body_run.sl.v2726, k0_pay692, k0_pay696]
    refine List.forall_mem_cons.2 ⟨pieceZ7 (c := c) _ 11 _ _ _ _ _ _ _ _ _ _ _ _ _ _ _ _ rfl rfl rfl rfl rfl rfl rfl rfl inb_S12x30x128_S1x30x128_11_0_0, ?_⟩
    refine List.forall_mem_cons.2 ⟨pieceZ7 (c := c) _ 10 _ _ _ _ _ _ _ _ _ _ _ _ _ _ _ _ rfl rfl rfl rfl rfl rfl rfl rfl inb_S12x30x128_S1x30x128_10_0_0, ?_⟩
    refine List.forall_mem_cons.2 ⟨pieceZ7 (c := c) _ 9 _ _ _ _ _ _ _ _ _ _ _ _ _ _ _ _ rfl rfl rfl rfl rfl rfl rfl rfl inb_S12x30x128_S1x30x128_9_0_0, ?_⟩
    refine List.forall_mem_cons.2 ⟨pieceZ7 (c := c) _ 8 _ _ _ _ _ _ _ _ _ _ _ _ _ _ _ _ rfl rfl rfl rfl rfl rfl rfl rfl inb_S12x30x128_S1x30x128_8_0_0, ?_⟩
    refine List.forall_mem_cons.2 ⟨pieceZ7 (c := c) _ 7 _ _ _ _ _ _ _ _ _ _ _ _ _ _ _ _ rfl rfl rfl rfl rfl rfl rfl rfl inb_S12x30x128_S1x30x128_7_0_0, ?_⟩
    refine List.forall_mem_cons.2 ⟨pieceZ7 (c := c) _ 6 _ _ _ _ _ _ _ _ _ _ _ _ _ _ _ _ rfl rfl rfl rfl rfl rfl rfl rfl inb_S12x30x128_S1x30x128_6_0_0, ?_⟩
    refine List.forall_mem_cons.2 ⟨pieceZ7 (c := c) _ 5 _ _ _ _ _ _ _ _ _ _ _ _ _ _ _ _ rfl rfl rfl rfl rfl rfl rfl rfl inb_S12x30x128_S1x30x128_5_0_0, ?_⟩
    refine List.forall_mem_cons.2 ⟨pieceZ7 (c := c) _ 4 _ _ _ _ _ _ _ _ _ _ _ _ _ _ _ _ rfl rfl rfl rfl rfl rfl rfl rfl inb_S12x30x128_S1x30x128_4_0_0, ?_⟩
    refine List.forall_mem_cons.2 ⟨pieceZ7 (c := c) _ 3 _ _ _ _ _ _ _ _ _ _ _ _ _ _ _ _ rfl rfl rfl rfl rfl rfl rfl rfl inb_S12x30x128_S1x30x128_3_0_0, ?_⟩
    refine List.forall_mem_cons.2 ⟨pieceZ7 (c := c) _ 2 _ _ _ _ _ _ _ _ _ _ _ _ _ _ _ _ rfl rfl rfl rfl rfl rfl rfl rfl inb_S12x30x128_S1x30x128_2_0_0, ?_⟩
    refine List.forall_mem_cons.2 ⟨pieceZ7 (c := c) _ 1 _ _ _ _ _ _ _ _ _ _ _ _ _ _ _ _ rfl rfl rfl rfl rfl rfl rfl rfl inb_S12x30x128_S1x30x128_1_0_0, ?_⟩
    refine List.forall_mem_cons.2 ⟨pieceZ7 (c := c) _ 0 _ _ _ _ _ _ _ _ _ _ _ _ _ _ _ _ rfl rfl rfl rfl rfl rfl rfl rfl inb_S12x30x128_S1x30x128_0_0_0, ?_⟩
    exact fun p hp => absurd hp List.not_mem_nil
  · fin_cases b
    · exact ⟨by show 11 - (11 - g) ≤ g; omega, by show g < 11 - (11 - g) + 1; omega⟩
    · exact ⟨Nat.zero_le _, by show a < 0 + 30; omega⟩
    · exact ⟨Nat.zero_le _, by show l < 0 + 128; omega⟩

end Cert.KernelIdeal.Hand
-- ==== Proof.Ideal.TabS6.lean ====
/- The tables made from the scales of the eight fields, read at an index. -/
module
public import proofs.«01_k».proof.Proof.Ideal.TabS
public import Idealize.ShloMosaic.Lib.Bf16Pair
@[expose] public section
set_option maxHeartbeats 0
noncomputable section
namespace Cert.KernelIdeal.Hand
open Cert.KernelIdeal Cert.KernelIdeal.Gen
open Idealize.ShloMosaic Idealize.ShloMosaic.TcCoe

/-- Two blocks of scales interleaved by rows in pairs, at an index. -/
theorem rawS6 (R1 R2 : FVec Ideal S30x128 .bf16) (i : Fin 30) (b : Fin 2) (j : Fin 128) :
    (interleaveRows S1x30x2x128 (shapeCast S1x30x1x128 (shapeCast S1x30x128 (truncf FTy.bf16 (extf FTy.f32 R1 bitsLt_bf16_f32) bitsLt_bf16_f32) shapeCasts_S30x128_S1x30x128) shapeCasts_S1x30x128_S1x30x1x128) (shapeCast S1x30x1x128 (shapeCast S1x30x128 (truncf FTy.bf16 (extf FTy.f32 R2 bitsLt_bf16_f32) bitsLt_bf16_f32) shapeCasts_S30x128_S1x30x128) shapeCasts_S1x30x128_S1x30x1x128) bitcasts_S1x30x2x128_w16_S1x30x1x128_w32 : FVec Ideal S1x30x2x128 .bf16) (ix4 0 i b j) = if b.val = 0 then R1 (ix2 i j) else R2 (ix2 i j) := by
  fin_cases b
  · pointwise []
  · pointwise []

/-- The rows of the scale table that are written. -/
def Done (s : S30x15360.Idx → EReal) (l : List (ℕ × ℕ)) {c : Dev nD} (f : BufOf (F := Ideal) c sc6) : Prop :=
  ∀ p i g b j, (p, i) ∈ l → p < 12 → i < 8 → g < 30 → b < 2 → j < 128 →
    at3 (α := EReal) (A := 12) (B := 480) (C := 128) f p (16 * g + 2 * i + b) j = at2 (α := EReal) (A := 30) (B := 15360) s g (nibField ((2 * i + b) % 8) * 1536 + (128 * p + j))

theorem emb6 (P I : ℕ) (hP : P < 12) (hI : I < 8) (q1 q2 q3) (hi) (hs) (x : S1x30x2x128.Idx) (hb : 16 * (x 1).val + 2 * I + (x 2).val < 480) :
    ((sc6.reshape S12x240x2x128 q1 q2 q3).access { off := ![P, I, 0, 0], size := S1x30x2x128.size, stride := ![1, 8, 1, 1], inb := hi, stride_pos := hs }).emb x
      = ix3 (⟨P, hP⟩ : Fin 12) (⟨16 * (x 1).val + 2 * I + (x 2).val, hb⟩ : Fin 480) (x 3) := by
  refine Shape.reshapeEquiv_eq_of_rowMajor _ ?_
  have h0 : (x 0).val = 0 := by have h := (x 0).isLt; have h' : (x 0).val < 1 := h; omega
  refine (Shape.rowMajor_val_three _).trans (Eq.trans ?_ (Shape.rowMajor_val_four _).symm)
  show (P * 480 + (16 * (x 1).val + 2 * I + (x 2).val)) * 128 + (x 3).val = (((P + 1 * (x 0).val) * 240 + (I + 8 * (x 1).val)) * 2 + (0 + 1 * (x 2).val)) * 128 + (0 + 1 * (x 3).val)
  rw [h0]; ring

theorem step6 {c : Dev nD} (sb : BufOf (F := Ideal) c sc2) (P I : ℕ) (l : List (ℕ × ℕ)) (hP : P < 12) (hI : I < 8) (o1 o2 : ℕ) (h1 : (∀ a, (![0, o1] : Fin 2 → ℕ) a + S30x128.size a ≤ S30x15360.size a)) (h2 : (∀ a, (![0, o2] : Fin 2 → ℕ) a + S30x128.size a ≤ S30x15360.size a))
    (e1 : o1 = nibField ((2 * I) % 8) * 1536 + 128 * P) (e2 : o2 = nibField ((2 * I + 1) % 8) * 1536 + 128 * P) (q1 q2 q3) (hi) (hs) (f : BufOf (F := Ideal) c sc6) (D : Done sb l f) :
    Done sb ((P, I) :: l) (c := c) (View.write (Elt Ideal) ((sc6.reshape S12x240x2x128 q1 q2 q3).access { off := ![P, I, 0, 0], size := S1x30x2x128.size, stride := ![1, 8, 1, 1], inb := hi, stride_pos := hs }) f
      (interleaveRows S1x30x2x128 (shapeCast S1x30x1x128 (shapeCast S1x30x128 (truncf FTy.bf16 (extf FTy.f32 (View.readAt (Elt Ideal) sc2.view (Rect.unit (s := S30x15360) ![0, o1] S30x128.size h1).toLoadRect sb) bitsLt_bf16_f32) bitsLt_bf16_f32) shapeCasts_S30x128_S1x30x128) shapeCasts_S1x30x128_S1x30x1x128) (shapeCast S1x30x1x128 (shapeCast S1x30x128 (truncf FTy.bf16 (extf FTy.f32 (View.readAt (Elt Ideal) sc2.view (Rect.unit (s := S30x15360) ![0, o2] S30x128.size h2).toLoadRect sb) bitsLt_bf16_f32) bitsLt_bf16_f32) shapeCasts_S30x128_S1x30x128) shapeCasts_S1x30x128_S1x30x1x128) bitcasts_S1x30x2x128_w16_S1x30x1x128_w32 : FVec Ideal S1x30x2x128 .bf16) Finset.univ) := by
  intro p i g b j hm hp hi' hg hb hj
  rw [at3, dif_pos ⟨hp, by omega, hj⟩]
  by_cases e : p = P ∧ i = I
  · obtain ⟨ep, ei⟩ := e
    subst ep; subst ei
    have H := View.write_emb_of_mem (v := (sc6.reshape S12x240x2x128 q1 q2 q3).access { off := ![p, i, 0, 0], size := S1x30x2x128.size, stride := ![1, 8, 1, 1], inb := hi, stride_pos := hs }) (Val := Elt Ideal) f
      (interleaveRows S1x30x2x128 (shapeCast S1x30x1x128 (shapeCast S1x30x128 (truncf FTy.bf16 (extf FTy.f32 (View.readAt (Elt Ideal) sc2.view (Rect.unit (s := S30x15360) ![0, o1] S30x128.size h1).toLoadRect sb) bitsLt_bf16_f32) bitsLt_bf16_f32) shapeCasts_S30x128_S1x30x128) shapeCasts_S1x30x128_S1x30x1x128) (shapeCast S1x30x1x128 (shapeCast S1x30x128 (truncf FTy.bf16 (extf FTy.f32 (View.readAt (Elt Ideal) sc2.view (Rect.unit (s := S30x15360) ![0, o2] S30x128.size h2).toLoadRect sb) bitsLt_bf16_f32) bitsLt_bf16_f32) shapeCasts_S30x128_S1x30x128) shapeCasts_S1x30x128_S1x30x1x128) bitcasts_S1x30x2x128_w16_S1x30x1x128_w32 : FVec Ideal S1x30x2x128 .bf16) (Finset.mem_univ (ix4 (0 : Fin 1) (⟨g, hg⟩ : Fin 30) (⟨b, hb⟩ : Fin 2) (⟨j, hj⟩ : Fin 128)))
    rw [emb6 p i hp hi' q1 q2 q3 hi hs _ (by show 16 * g + 2 * i + b < 480; omega)] at H
    refine H.trans ?_
    refine (rawS6 _ _ ⟨g, hg⟩ ⟨b, hb⟩ ⟨j, hj⟩).trans ?_
    rw [readS0 c o1 h1 sb, readS0 c o2 h2 sb]
    obtain rfl | rfl : b = 0 ∨ b = 1 := by omega
    · rw [if_pos rfl, e1, Nat.add_assoc]; rfl
    · rw [if_neg Nat.one_ne_zero, e2, Nat.add_assoc]
  · have H := View.write_of_not_mem (v := (sc6.reshape S12x240x2x128 q1 q2 q3).access { off := ![P, I, 0, 0], size := S1x30x2x128.size, stride := ![1, 8, 1, 1], inb := hi, stride_pos := hs }) (Val := Elt Ideal) f
      (interleaveRows S1x30x2x128 (shapeCast S1x30x1x128 (shapeCast S1x30x128 (truncf FTy.bf16 (extf FTy.f32 (View.readAt (Elt Ideal) sc2.view (Rect.unit (s := S30x15360) ![0, o1] S30x128.size h1).toLoadRect sb) bitsLt_bf16_f32) bitsLt_bf16_f32) shapeCasts_S30x128_S1x30x128) shapeCasts_S1x30x128_S1x30x1x128) (shapeCast S1x30x1x128 (shapeCast S1x30x128 (truncf FTy.bf16 (extf FTy.f32 (View.readAt (Elt Ideal) sc2.view (Rect.unit (s := S30x15360) ![0, o2] S30x128.size h2).toLoadRect sb) bitsLt_bf16_f32) bitsLt_bf16_f32) shapeCasts_S30x128_S1x30x128) shapeCasts_S1x30x128_S1x30x1x128) bitcasts_S1x30x2x128_w16_S1x30x1x128_w32 : FVec Ideal S1x30x2x128 .bf16) Finset.univ (i := ix3 (⟨p, hp⟩ : Fin 12) (⟨16 * g + 2 * i + b, by omega⟩ : Fin 480) (⟨j, hj⟩ : Fin 128)) fun hmem => by
        obtain ⟨x, -, ex⟩ := Finset.mem_map.1 hmem
        have x1 : (x 1).val < 30 := (x 1).isLt
        have x2 : (x 2).val < 2 := (x 2).isLt
        have ex' := (emb6 P I hP hI q1 q2 q3 hi hs x (by omega)).symm.trans ex
        have a0 : P = p := congrArg (fun y : S12x480x128.Idx => (y 0).val) ex'
        have a1 : 16 * (x 1).val + 2 * I + (x 2).val = 16 * g + 2 * i + b := congrArg (fun y : S12x480x128.Idx => (y 1).val) ex'
        exact e ⟨a0.symm, by omega⟩
    refine H.trans ?_
    have hm' : (p, i) ∈ l := by
      rcases List.mem_cons.1 hm with h | h
      · exact absurd ⟨congrArg Prod.fst h, congrArg Prod.snd h⟩ e
      · exact h
    have := D p i g b j hm' hp hi' hg hb hj
    rw [at3, dif_pos ⟨hp, by omega, hj⟩] at this
    exact this

/-- The written rows, last first. -/
def rows6 : List (ℕ × ℕ) := [(11, 7), (11, 3), (11, 6), (11, 2), (11, 5), (11, 1), (11, 4), (11, 0), (10, 7), (10, 3), (10, 6), (10, 2), (10, 5), (10, 1), (10, 4), (10, 0), (9, 7), (9, 3), (9, 6), (9, 2), (9, 5), (9, 1), (9, 4), (9, 0), (8, 7), (8, 3), (8, 6), (8, 2), (8, 5), (8, 1), (8, 4), (8, 0), (7, 7), (7, 3), (7, 6), (7, 2), (7, 5), (7, 1), (7, 4), (7, 0), (6, 7), (6, 3), (6, 6), (6, 2), (6, 5), (6, 1), (6, 4), (6, 0), (5, 7), (5, 3), (5, 6), (5, 2), (5, 5), (5, 1), (5, 4), (5, 0), (4, 7), (4, 3), (4, 6), (4, 2), (4, 5), (4, 1), (4, 4), (4, 0), (3, 7), (3, 3), (3, 6), (3, 2), (3, 5), (3, 1), (3, 4), (3, 0), (2, 7), (2, 3), (2, 6), (2, 2), (2, 5), (2, 1), (2, 4), (2, 0), (1, 7), (1, 3), (1, 6), (1, 2), (1, 5), (1, 1), (1, 4), (1, 0), (0, 7), (0, 3), (0, 6), (0, 2), (0, 5), (0, 1), (0, 4), (0, 0)]
theorem mem_rows6 : ∀ p : Fin 12, ∀ i : Fin 8, (p.val, i.val) ∈ rows6 := by decide +kernel
theorem done6 (c : Dev nD) (f2 : BufOf (F := Ideal) c hb2) (d8 : BufOf (F := Ideal) c sc2) (d12 : BufOf (F := Ideal) c sc6) :
    Done (View.write (Elt Ideal) sc2.view d8 (body_run.sl.dma0_1 (F := Ideal) c f2) Finset.univ) rows6 (c := c) (body_run.sl.HS6_w96 (F := Ideal) c f2 d8 d12) := by
  unfold rows6
  simp only [body_run.sl.HS6_w96, k0_pay712, k0_pay710, k0_pay709, body_run.sl.HS6_w95, k0_pay711, body_run.sl.HS6_w94, body_run.sl.r_120, k0_pay706, body_run.sl.r_119, k0_pay705, k0_pay708, body_run.sl.HS6_w93, k0_pay707, body_run.sl.HS6_w92, k0_pay704, k0_pay702, k0_pay701, body_run.sl.HS6_w91, k0_pay703, body_run.sl.HS6_w90, body_run.sl.r_118, k0_pay698, body_run.sl.r_117, k0_pay697, k0_pay700, body_run.sl.HS6_w89, k0_pay699, body_run.sl.HS6_w88, body_run.sl.r_116, k0_pay687, body_run.sl.r_115, k0_pay686, k0_pay689, body_run.sl.HS6_w87, k0_pay688, body_run.sl.HS6_w86, k0_pay685, k0_pay683, k0_pay682, body_run.sl.HS6_w85, k0_pay684, body_run.sl.HS6_w84, body_run.sl.r_114, k0_pay680, k0_pay677, body_run.sl.r_113, k0_pay679, k0_pay676, k0_pay681, body_run.sl.HS6_w83, k0_pay678, body_run.sl.HS6_w82, body_run.sl.r_112, k0_pay671, k0_pay675, k0_pay673, k0_pay672, body_run.sl.HS6_w81, k0_pay674, body_run.sl.HS6_w80, body_run.sl.r_110, k0_pay660, k0_pay664, k0_pay662, k0_pay661, body_run.sl.HS6_w79, k0_pay663, body_run.sl.HS6_w78, k0_pay659, k0_pay657, k0_pay656, body_run.sl.HS6_w77, k0_pay658, body_run.sl.HS6_w76, body_run.sl.r_109, k0_pay653, body_run.sl.r_108, k0_pay652, k0_pay655, body_run.sl.HS6_w75, k0_pay654, body_run.sl.HS6_w74, k0_pay651, k0_pay649, k0_pay648, body_run.sl.HS6_w73, k0_pay650, body_run.sl.HS6_w72, k0_pay638, k0_pay636, k0_pay635, body_run.sl.HS6_w71, k0_pay637, body_run.sl.HS6_w70, body_run.sl.r_105, k0_pay632, body_run.sl.r_104, k0_pay631, k0_pay634, body_run.sl.HS6_w69, k0_pay633, body_run.sl.HS6_w68, k0_pay630, k0_pay628, k0_pay627, body_run.sl.HS6_w67, k0_pay629, body_run.sl.HS6_w66, body_run.sl.r_103, k0_pay624, body_run.sl.r_102, k0_pay623, k0_pay626, body_run.sl.HS6_w65, k0_pay625, body_run.sl.HS6_w64, body_run.sl.r_101, k0_pay613, body_run.sl.r_100, k0_pay612, k0_pay615, body_run.sl.HS6_w63, k0_pay614, body_run.sl.HS6_w62, k0_pay611, k0_pay609, k0_pay608, body_run.sl.HS6_w61, k0_pay610, body_run.sl.HS6_w60, body_run.sl.r_99, k0_pay606, k0_pay603, body_run.sl.r_98, k0_pay605, k0_pay602, k0_pay607, body_run.sl.HS6_w59, k0_pay604, body_run.sl.HS6_w58, body_run.sl.r_97, k0_pay597, k0_pay601, k0_pay599, k0_pay598, body_run.sl.HS6_w57, k0_pay600, body_run.sl.HS6_w56, body_run.sl.r_95, k0_pay586, k0_pay590, k0_pay588, k0_pay587, body_run.sl.HS6_w55, k0_pay589, body_run.sl.HS6_w54, k0_pay585, k0_pay583, k0_pay582, body_run.sl.HS6_w53, k0_pay584, body_run.sl.HS6_w52, body_run.sl.r_94, k0_pay579, body_run.sl.r_93, k0_pay578, k0_pay581, body_run.sl.HS6_w51, k0_pay580, body_run.sl.HS6_w50, k0_pay577, k0_pay575, k0_pay574, body_run.sl.HS6_w49, k0_pay576, body_run.sl.HS6_w48, k0_pay564, k0_pay562, k0_pay561, body_run.sl.HS6_w47, k0_pay563, body_run.sl.HS6_w46, body_run.sl.r_90, k0_pay558, body_run.sl.r_89, k0_pay557, k0_pay560, body_run.sl.HS6_w45, k0_pay559, body_run.sl.HS6_w44, k0_pay556, k0_pay554, k0_pay553, body_run.sl.HS6_w43, k0_pay555, body_run.sl.HS6_w42, body_run.sl.r_88, k0_pay550, body_run.sl.r_87, k0_pay549, k0_pay552, body_run.sl.HS6_w41, k0_pay551, body_run.sl.HS6_w40, body_run.sl.r_86, k0_pay539, body_run.sl.r_85, k0_pay538, k0_pay541, body_run.sl.HS6_w39, k0_pay540, body_run.sl.HS6_w38, k0_pay537, k0_pay535, k0_pay534, body_run.sl.HS6_w37, k0_pay536, body_run.sl.HS6_w36, body_run.sl.r_84, k0_pay532, k0_pay529, body_run.sl.r_83, k0_pay531, k0_pay528, k0_pay533, body_run.sl.HS6_w35, k0_pay530, body_run.sl.HS6_w34, body_run.sl.r_82, k0_pay523, k0_pay527, k0_pay525, k0_pay524, body_run.sl.HS6_w33, k0_pay526, body_run.sl.HS6_w32, body_run.sl.r_80, k0_pay512, k0_pay516, k0_pay514, k0_pay513, body_run.sl.HS6_w31, k0_pay515, body_run.sl.HS6_w30, k0_pay511, k0_pay509, k0_pay508, body_run.sl.HS6_w29, k0_pay510, body_run.sl.HS6_w28, body_run.sl.r_79, k0_pay505, body_run.sl.r_78, k0_pay504, k0_pay507, body_run.sl.HS6_w27, k0_pay506, body_run.sl.HS6_w26, k0_pay503, k0_pay501, k0_pay500, body_run.sl.HS6_w25, k0_pay502, body_run.sl.HS6_w24, k0_pay490, k0_pay488, k0_pay487, body_run.sl.HS6_w23, k0_pay489, body_run.sl.HS6_w22, body_run.sl.r_75, k0_pay484, body_run.sl.r_74, k0_pay483, k0_pay486, body_run.sl.HS6_w21, k0_pay485, body_run.sl.HS6_w20, k0_pay482, k0_pay480, k0_pay479, body_run.sl.HS6_w19, k0_pay481, body_run.sl.HS6_w18, body_run.sl.r_73, k0_pay476, body_run.sl.r_72, k0_pay475, k0_pay478, body_run.sl.HS6_w17, k0_pay477, body_run.sl.HS6_w16, body_run.sl.r_71, k0_pay465, body_run.sl.r_70, k0_pay464, k0_pay467, body_run.sl.HS6_w15, k0_pay466, body_run.sl.HS6_w14, k0_pay463, k0_pay461, k0_pay460, body_run.sl.HS6_w13, k0_pay462, body_run.sl.HS6_w12, body_run.sl.r_69, k0_pay458, k0_pay455, body_run.sl.r_68, k0_pay457, k0_pay454, k0_pay459, body_run.sl.HS6_w11, k0_pay456, body_run.sl.HS6_w10, body_run.sl.r_67, k0_pay449, k0_pay453, k0_pay451, k0_pay450, body_run.sl.HS6_w9, k0_pay452, body_run.sl.HS6_w8, body_run.sl.r_65, k0_pay438, k0_pay442, k0_pay440, k0_pay439, body_run.sl.HS6_w7, k0_pay441, body_run.sl.HS6_w6, k0_pay437, k0_pay435, k0_pay434, body_run.sl.HS6_w5, k0_pay436, body_run.sl.HS6_w4, body_run.sl.r_64, k0_pay431, body_run.sl.r_63, k0_pay430, k0_pay433, body_run.sl.HS6_w3, k0_pay432, body_run.sl.HS6_w2, k0_pay429, k0_pay427, k0_pay426, body_run.sl.HS6_w1, k0_pay428]
  refine step6 (c := c) _ 11 7 _ (by norm_num) (by norm_num) _ _ _ _ rfl rfl _ _ _ inb_S12x240x2x128_S1x30x2x128_11_7_0_0_s_1_8_1_1 spos_1_8_1_1 _ ?_
  refine step6 (c := c) _ 11 3 _ (by norm_num) (by norm_num) _ _ _ _ rfl rfl _ _ _ inb_S12x240x2x128_S1x30x2x128_11_3_0_0_s_1_8_1_1 spos_1_8_1_1 _ ?_
  refine step6 (c := c) _ 11 6 _ (by norm_num) (by norm_num) _ _ _ _ rfl rfl _ _ _ inb_S12x240x2x128_S1x30x2x128_11_6_0_0_s_1_8_1_1 spos_1_8_1_1 _ ?_
  refine step6 (c := c) _ 11 2 _ (by norm_num) (by norm_num) _ _ _ _ rfl rfl _ _ _ inb_S12x240x2x128_S1x30x2x128_11_2_0_0_s_1_8_1_1 spos_1_8_1_1 _ ?_
  refine step6 (c := c) _ 11 5 _ (by norm_num) (by norm_num) _ _ _ _ rfl rfl _ _ _ inb_S12x240x2x128_S1x30x2x128_11_5_0_0_s_1_8_1_1 spos_1_8_1_1 _ ?_
  refine step6 (c := c) _ 11 1 _ (by norm_num) (by norm_num) _ _ _ _ rfl rfl _ _ _ inb_S12x240x2x128_S1x30x2x128_11_1_0_0_s_1_8_1_1 spos_1_8_1_1 _ ?_
  refine step6 (c := c) _ 11 4 _ (by norm_num) (by norm_num) _ _ _ _ rfl rfl _ _ _ inb_S12x240x2x128_S1x30x2x128_11_4_0_0_s_1_8_1_1 spos_1_8_1_1 _ ?_
  refine step6 (c := c) _ 11 0 _ (by norm_num) (by norm_num) _ _ _ _ rfl rfl _ _ _ inb_S12x240x2x128_S1x30x2x128_11_0_0_0_s_1_8_1_1 spos_1_8_1_1 _ ?_
  refine step6 (c := c) _ 10 7 _ (by norm_num) (by norm_num) _ _ _ _ rfl rfl _ _ _ inb_S12x240x2x128_S1x30x2x128_10_7_0_0_s_1_8_1_1 spos_1_8_1_1 _ ?_
  refine step6 (c := c) _ 10 3 _ (by norm_num) (by norm_num) _ _ _ _ rfl rfl _ _ _ inb_S12x240x2x128_S1x30x2x128_10_3_0_0_s_1_8_1_1 spos_1_8_1_1 _ ?_
  refine step6 (c := c) _ 10 6 _ (by norm_num) (by norm_num) _ _ _ _ rfl rfl _ _ _ inb_S12x240x2x128_S1x30x2x128_10_6_0_0_s_1_8_1_1 spos_1_8_1_1 _ ?_
  refine step6 (c := c) _ 10 2 _ (by norm_num) (by norm_num) _ _ _ _ rfl rfl _ _ _ inb_S12x240x2x128_S1x30x2x128_10_2_0_0_s_1_8_1_1 spos_1_8_1_1 _ ?_
  refine step6 (c := c) _ 10 5 _ (by norm_num) (by norm_num) _ _ _ _ rfl rfl _ _ _ inb_S12x240x2x128_S1x30x2x128_10_5_0_0_s_1_8_1_1 spos_1_8_1_1 _ ?_
  refine step6 (c := c) _ 10 1 _ (by norm_num) (by norm_num) _ _ _ _ rfl rfl _ _ _ inb_S12x240x2x128_S1x30x2x128_10_1_0_0_s_1_8_1_1 spos_1_8_1_1 _ ?_
  refine step6 (c := c) _ 10 4 _ (by norm_num) (by norm_num) _ _ _ _ rfl rfl _ _ _ inb_S12x240x2x128_S1x30x2x128_10_4_0_0_s_1_8_1_1 spos_1_8_1_1 _ ?_
  refine step6 (c := c) _ 10 0 _ (by norm_num) (by norm_num) _ _ _ _ rfl rfl _ _ _ inb_S12x240x2x128_S1x30x2x128_10_0_0_0_s_1_8_1_1 spos_1_8_1_1 _ ?_
  refine step6 (c := c) _ 9 7 _ (by norm_num) (by norm_num) _ _ _ _ rfl rfl _ _ _ inb_S12x240x2x128_S1x30x2x128_9_7_0_0_s_1_8_1_1 spos_1_8_1_1 _ ?_
  refine step6 (c := c) _ 9 3 _ (by norm_num) (by norm_num) _ _ _ _ rfl rfl _ _ _ inb_S12x240x2x128_S1x30x2x128_9_3_0_0_s_1_8_1_1 spos_1_8_1_1 _ ?_
  refine step6 (c := c) _ 9 6 _ (by norm_num) (by norm_num) _ _ _ _ rfl rfl _ _ _ inb_S12x240x2x128_S1x30x2x128_9_6_0_0_s_1_8_1_1 spos_1_8_1_1 _ ?_
  refine step6 (c := c) _ 9 2 _ (by norm_num) (by norm_num) _ _ _ _ rfl rfl _ _ _ inb_S12x240x2x128_S1x30x2x128_9_2_0_0_s_1_8_1_1 spos_1_8_1_1 _ ?_
  refine step6 (c := c) _ 9 5 _ (by norm_num) (by norm_num) _ _ _ _ rfl rfl _ _ _ inb_S12x240x2x128_S1x30x2x128_9_5_0_0_s_1_8_1_1 spos_1_8_1_1 _ ?_
  refine step6 (c := c) _ 9 1 _ (by norm_num) (by norm_num) _ _ _ _ rfl rfl _ _ _ inb_S12x240x2x128_S1x30x2x128_9_1_0_0_s_1_8_1_1 spos_1_8_1_1 _ ?_
  refine step6 (c := c) _ 9 4 _ (by norm_num) (by norm_num) _ _ _ _ rfl rfl _ _ _ inb_S12x240x2x128_S1x30x2x128_9_4_0_0_s_1_8_1_1 spos_1_8_1_1 _ ?_
  refine step6 (c := c) _ 9 0 _ (by norm_num) (by norm_num) _ _ _ _ rfl rfl _ _ _ inb_S12x240x2x128_S1x30x2x128_9_0_0_0_s_1_8_1_1 spos_1_8_1_1 _ ?_
  refine step6 (c := c) _ 8 7 _ (by norm_num) (by norm_num) _ _ _ _ rfl rfl _ _ _ inb_S12x240x2x128_S1x30x2x128_8_7_0_0_s_1_8_1_1 spos_1_8_1_1 _ ?_
  refine step6 (c := c) _ 8 3 _ (by norm_num) (by norm_num) _ _ _ _ rfl rfl _ _ _ inb_S12x240x2x128_S1x30x2x128_8_3_0_0_s_1_8_1_1 spos_1_8_1_1 _ ?_
  refine step6 (c := c) _ 8 6 _ (by norm_num) (by norm_num) _ _ _ _ rfl rfl _ _ _ inb_S12x240x2x128_S1x30x2x128_8_6_0_0_s_1_8_1_1 spos_1_8_1_1 _ ?_
  refine step6 (c := c) _ 8 2 _ (by norm_num) (by norm_num) _ _ _ _ rfl rfl _ _ _ inb_S12x240x2x128_S1x30x2x128_8_2_0_0_s_1_8_1_1 spos_1_8_1_1 _ ?_
  refine step6 (c := c) _ 8 5 _ (by norm_num) (by norm_num) _ _ _ _ rfl rfl _ _ _ inb_S12x240x2x128_S1x30x2x128_8_5_0_0_s_1_8_1_1 spos_1_8_1_1 _ ?_
  refine step6 (c := c) _ 8 1 _ (by norm_num) (by norm_num) _ _ _ _ rfl rfl _ _ _ inb_S12x240x2x128_S1x30x2x128_8_1_0_0_s_1_8_1_1 spos_1_8_1_1 _ ?_
  refine step6 (c := c) _ 8 4 _ (by norm_num) (by norm_num) _ _ _ _ rfl rfl _ _ _ inb_S12x240x2x128_S1x30x2x128_8_4_0_0_s_1_8_1_1 spos_1_8_1_1 _ ?_
  refine step6 (c := c) _ 8 0 _ (by norm_num) (by norm_num) _ _ _ _ rfl rfl _ _ _ inb_S12x240x2x128_S1x30x2x128_8_0_0_0_s_1_8_1_1 spos_1_8_1_1 _ ?_
  refine step6 (c := c) _ 7 7 _ (by norm_num) (by norm_num) _ _ _ _ rfl rfl _ _ _ inb_S12x240x2x128_S1x30x2x128_7_7_0_0_s_1_8_1_1 spos_1_8_1_1 _ ?_
  refine step6 (c := c) _ 7 3 _ (by norm_num) (by norm_num) _ _ _ _ rfl rfl _ _ _ inb_S12x240x2x128_S1x30x2x128_7_3_0_0_s_1_8_1_1 spos_1_8_1_1 _ ?_
  refine step6 (c := c) _ 7 6 _ (by norm_num) (by norm_num) _ _ _ _ rfl rfl _ _ _ inb_S12x240x2x128_S1x30x2x128_7_6_0_0_s_1_8_1_1 spos_1_8_1_1 _ ?_
  refine step6 (c := c) _ 7 2 _ (by norm_num) (by norm_num) _ _ _ _ rfl rfl _ _ _ inb_S12x240x2x128_S1x30x2x128_7_2_0_0_s_1_8_1_1 spos_1_8_1_1 _ ?_
  refine step6 (c := c) _ 7 5 _ (by norm_num) (by norm_num) _ _ _ _ rfl rfl _ _ _ inb_S12x240x2x128_S1x30x2x128_7_5_0_0_s_1_8_1_1 spos_1_8_1_1 _ ?_
  refine step6 (c := c) _ 7 1 _ (by norm_num) (by norm_num) _ _ _ _ rfl rfl _ _ _ inb_S12x240x2x128_S1x30x2x128_7_1_0_0_s_1_8_1_1 spos_1_8_1_1 _ ?_
  refine step6 (c := c) _ 7 4 _ (by norm_num) (by norm_num) _ _ _ _ rfl rfl _ _ _ inb_S12x240x2x128_S1x30x2x128_7_4_0_0_s_1_8_1_1 spos_1_8_1_1 _ ?_
  refine step6 (c := c) _ 7 0 _ (by norm_num) (by norm_num) _ _ _ _ rfl rfl _ _ _ inb_S12x240x2x128_S1x30x2x128_7_0_0_0_s_1_8_1_1 spos_1_8_1_1 _ ?_
  refine step6 (c := c) _ 6 7 _ (by norm_num) (by norm_num) _ _ _ _ rfl rfl _ _ _ inb_S12x240x2x128_S1x30x2x128_6_7_0_0_s_1_8_1_1 spos_1_8_1_1 _ ?_
  refine step6 (c := c) _ 6 3 _ (by norm_num) (by norm_num) _ _ _ _ rfl rfl _ _ _ inb_S12x240x2x128_S1x30x2x128_6_3_0_0_s_1_8_1_1 spos_1_8_1_1 _ ?_
  refine step6 (c := c) _ 6 6 _ (by norm_num) (by norm_num) _ _ _ _ rfl rfl _ _ _ inb_S12x240x2x128_S1x30x2x128_6_6_0_0_s_1_8_1_1 spos_1_8_1_1 _ ?_
  refine step6 (c := c) _ 6 2 _ (by norm_num) (by norm_num) _ _ _ _ rfl rfl _ _ _ inb_S12x240x2x128_S1x30x2x128_6_2_0_0_s_1_8_1_1 spos_1_8_1_1 _ ?_
  refine step6 (c := c) _ 6 5 _ (by norm_num) (by norm_num) _ _ _ _ rfl rfl _ _ _ inb_S12x240x2x128_S1x30x2x128_6_5_0_0_s_1_8_1_1 spos_1_8_1_1 _ ?_
  refine step6 (c := c) _ 6 1 _ (by norm_num) (by norm_num) _ _ _ _ rfl rfl _ _ _ inb_S12x240x2x128_S1x30x2x128_6_1_0_0_s_1_8_1_1 spos_1_8_1_1 _ ?_
  refine step6 (c := c) _ 6 4 _ (by norm_num) (by norm_num) _ _ _ _ rfl rfl _ _ _ inb_S12x240x2x128_S1x30x2x128_6_4_0_0_s_1_8_1_1 spos_1_8_1_1 _ ?_
  refine step6 (c := c) _ 6 0 _ (by norm_num) (by norm_num) _ _ _ _ rfl rfl _ _ _ inb_S12x240x2x128_S1x30x2x128_6_0_0_0_s_1_8_1_1 spos_1_8_1_1 _ ?_
  refine step6 (c := c) _ 5 7 _ (by norm_num) (by norm_num) _ _ _ _ rfl rfl _ _ _ inb_S12x240x2x128_S1x30x2x128_5_7_0_0_s_1_8_1_1 spos_1_8_1_1 _ ?_
  refine step6 (c := c) _ 5 3 _ (by norm_num) (by norm_num) _ _ _ _ rfl rfl _ _ _ inb_S12x240x2x128_S1x30x2x128_5_3_0_0_s_1_8_1_1 spos_1_8_1_1 _ ?_
  refine step6 (c := c) _ 5 6 _ (by norm_num) (by norm_num) _ _ _ _ rfl rfl _ _ _ inb_S12x240x2x128_S1x30x2x128_5_6_0_0_s_1_8_1_1 spos_1_8_1_1 _ ?_
  refine step6 (c := c) _ 5 2 _ (by norm_num) (by norm_num) _ _ _ _ rfl rfl _ _ _ inb_S12x240x2x128_S1x30x2x128_5_2_0_0_s_1_8_1_1 spos_1_8_1_1 _ ?_
  refine step6 (c := c) _ 5 5 _ (by norm_num) (by norm_num) _ _ _ _ rfl rfl _ _ _ inb_S12x240x2x128_S1x30x2x128_5_5_0_0_s_1_8_1_1 spos_1_8_1_1 _ ?_
  refine step6 (c := c) _ 5 1 _ (by norm_num) (by norm_num) _ _ _ _ rfl rfl _ _ _ inb_S12x240x2x128_S1x30x2x128_5_1_0_0_s_1_8_1_1 spos_1_8_1_1 _ ?_
  refine step6 (c := c) _ 5 4 _ (by norm_num) (by norm_num) _ _ _ _ rfl rfl _ _ _ inb_S12x240x2x128_S1x30x2x128_5_4_0_0_s_1_8_1_1 spos_1_8_1_1 _ ?_
  refine step6 (c := c) _ 5 0 _ (by norm_num) (by norm_num) _ _ _ _ rfl rfl _ _ _ inb_S12x240x2x128_S1x30x2x128_5_0_0_0_s_1_8_1_1 spos_1_8_1_1 _ ?_
  refine step6 (c := c) _ 4 7 _ (by norm_num) (by norm_num) _ _ _ _ rfl rfl _ _ _ inb_S12x240x2x128_S1x30x2x128_4_7_0_0_s_1_8_1_1 spos_1_8_1_1 _ ?_
  refine step6 (c := c) _ 4 3 _ (by norm_num) (by norm_num) _ _ _ _ rfl rfl _ _ _ inb_S12x240x2x128_S1x30x2x128_4_3_0_0_s_1_8_1_1 spos_1_8_1_1 _ ?_
  refine step6 (c := c) _ 4 6 _ (by norm_num) (by norm_num) _ _ _ _ rfl rfl _ _ _ inb_S12x240x2x128_S1x30x2x128_4_6_0_0_s_1_8_1_1 spos_1_8_1_1 _ ?_
  refine step6 (c := c) _ 4 2 _ (by norm_num) (by norm_num) _ _ _ _ rfl rfl _ _ _ inb_S12x240x2x128_S1x30x2x128_4_2_0_0_s_1_8_1_1 spos_1_8_1_1 _ ?_
  refine step6 (c := c) _ 4 5 _ (by norm_num) (by norm_num) _ _ _ _ rfl rfl _ _ _ inb_S12x240x2x128_S1x30x2x128_4_5_0_0_s_1_8_1_1 spos_1_8_1_1 _ ?_
  refine step6 (c := c) _ 4 1 _ (by norm_num) (by norm_num) _ _ _ _ rfl rfl _ _ _ inb_S12x240x2x128_S1x30x2x128_4_1_0_0_s_1_8_1_1 spos_1_8_1_1 _ ?_
  refine step6 (c := c) _ 4 4 _ (by norm_num) (by norm_num) _ _ _ _ rfl rfl _ _ _ inb_S12x240x2x128_S1x30x2x128_4_4_0_0_s_1_8_1_1 spos_1_8_1_1 _ ?_
  refine step6 (c := c) _ 4 0 _ (by norm_num) (by norm_num) _ _ _ _ rfl rfl _ _ _ inb_S12x240x2x128_S1x30x2x128_4_0_0_0_s_1_8_1_1 spos_1_8_1_1 _ ?_
  refine step6 (c := c) _ 3 7 _ (by norm_num) (by norm_num) _ _ _ _ rfl rfl _ _ _ inb_S12x240x2x128_S1x30x2x128_3_7_0_0_s_1_8_1_1 spos_1_8_1_1 _ ?_
  refine step6 (c := c) _ 3 3 _ (by norm_num) (by norm_num) _ _ _ _ rfl rfl _ _ _ inb_S12x240x2x128_S1x30x2x128_3_3_0_0_s_1_8_1_1 spos_1_8_1_1 _ ?_
  refine step6 (c := c) _ 3 6 _ (by norm_num) (by norm_num) _ _ _ _ rfl rfl _ _ _ inb_S12x240x2x128_S1x30x2x128_3_6_0_0_s_1_8_1_1 spos_1_8_1_1 _ ?_
  refine step6 (c := c) _ 3 2 _ (by norm_num) (by norm_num) _ _ _ _ rfl rfl _ _ _ inb_S12x240x2x128_S1x30x2x128_3_2_0_0_s_1_8_1_1 spos_1_8_1_1 _ ?_
  refine step6 (c := c) _ 3 5 _ (by norm_num) (by norm_num) _ _ _ _ rfl rfl _ _ _ inb_S12x240x2x128_S1x30x2x128_3_5_0_0_s_1_8_1_1 spos_1_8_1_1 _ ?_
  refine step6 (c := c) _ 3 1 _ (by norm_num) (by norm_num) _ _ _ _ rfl rfl _ _ _ inb_S12x240x2x128_S1x30x2x128_3_1_0_0_s_1_8_1_1 spos_1_8_1_1 _ ?_
  refine step6 (c := c) _ 3 4 _ (by norm_num) (by norm_num) _ _ _ _ rfl rfl _ _ _ inb_S12x240x2x128_S1x30x2x128_3_4_0_0_s_1_8_1_1 spos_1_8_1_1 _ ?_
  refine step6 (c := c) _ 3 0 _ (by norm_num) (by norm_num) _ _ _ _ rfl rfl _ _ _ inb_S12x240x2x128_S1x30x2x128_3_0_0_0_s_1_8_1_1 spos_1_8_1_1 _ ?_
  refine step6 (c := c) _ 2 7 _ (by norm_num) (by norm_num) _ _ _ _ rfl rfl _ _ _ inb_S12x240x2x128_S1x30x2x128_2_7_0_0_s_1_8_1_1 spos_1_8_1_1 _ ?_
  refine step6 (c := c) _ 2 3 _ (by norm_num) (by norm_num) _ _ _ _ rfl rfl _ _ _ inb_S12x240x2x128_S1x30x2x128_2_3_0_0_s_1_8_1_1 spos_1_8_1_1 _ ?_
  refine step6 (c := c) _ 2 6 _ (by norm_num) (by norm_num) _ _ _ _ rfl rfl _ _ _ inb_S12x240x2x128_S1x30x2x128_2_6_0_0_s_1_8_1_1 spos_1_8_1_1 _ ?_
  refine step6 (c := c) _ 2 2 _ (by norm_num) (by norm_num) _ _ _ _ rfl rfl _ _ _ inb_S12x240x2x128_S1x30x2x128_2_2_0_0_s_1_8_1_1 spos_1_8_1_1 _ ?_
  refine step6 (c := c) _ 2 5 _ (by norm_num) (by norm_num) _ _ _ _ rfl rfl _ _ _ inb_S12x240x2x128_S1x30x2x128_2_5_0_0_s_1_8_1_1 spos_1_8_1_1 _ ?_
  refine step6 (c := c) _ 2 1 _ (by norm_num) (by norm_num) _ _ _ _ rfl rfl _ _ _ inb_S12x240x2x128_S1x30x2x128_2_1_0_0_s_1_8_1_1 spos_1_8_1_1 _ ?_
  refine step6 (c := c) _ 2 4 _ (by norm_num) (by norm_num) _ _ _ _ rfl rfl _ _ _ inb_S12x240x2x128_S1x30x2x128_2_4_0_0_s_1_8_1_1 spos_1_8_1_1 _ ?_
  refine step6 (c := c) _ 2 0 _ (by norm_num) (by norm_num) _ _ _ _ rfl rfl _ _ _ inb_S12x240x2x128_S1x30x2x128_2_0_0_0_s_1_8_1_1 spos_1_8_1_1 _ ?_
  refine step6 (c := c) _ 1 7 _ (by norm_num) (by norm_num) _ _ _ _ rfl rfl _ _ _ inb_S12x240x2x128_S1x30x2x128_1_7_0_0_s_1_8_1_1 spos_1_8_1_1 _ ?_
  refine step6 (c := c) _ 1 3 _ (by norm_num) (by norm_num) _ _ _ _ rfl rfl _ _ _ inb_S12x240x2x128_S1x30x2x128_1_3_0_0_s_1_8_1_1 spos_1_8_1_1 _ ?_
  refine step6 (c := c) _ 1 6 _ (by norm_num) (by norm_num) _ _ _ _ rfl rfl _ _ _ inb_S12x240x2x128_S1x30x2x128_1_6_0_0_s_1_8_1_1 spos_1_8_1_1 _ ?_
  refine step6 (c := c) _ 1 2 _ (by norm_num) (by norm_num) _ _ _ _ rfl rfl _ _ _ inb_S12x240x2x128_S1x30x2x128_1_2_0_0_s_1_8_1_1 spos_1_8_1_1 _ ?_
  refine step6 (c := c) _ 1 5 _ (by norm_num) (by norm_num) _ _ _ _ rfl rfl _ _ _ inb_S12x240x2x128_S1x30x2x128_1_5_0_0_s_1_8_1_1 spos_1_8_1_1 _ ?_
  refine step6 (c := c) _ 1 1 _ (by norm_num) (by norm_num) _ _ _ _ rfl rfl _ _ _ inb_S12x240x2x128_S1x30x2x128_1_1_0_0_s_1_8_1_1 spos_1_8_1_1 _ ?_
  refine step6 (c := c) _ 1 4 _ (by norm_num) (by norm_num) _ _ _ _ rfl rfl _ _ _ inb_S12x240x2x128_S1x30x2x128_1_4_0_0_s_1_8_1_1 spos_1_8_1_1 _ ?_
  refine step6 (c := c) _ 1 0 _ (by norm_num) (by norm_num) _ _ _ _ rfl rfl _ _ _ inb_S12x240x2x128_S1x30x2x128_1_0_0_0_s_1_8_1_1 spos_1_8_1_1 _ ?_
  refine step6 (c := c) _ 0 7 _ (by norm_num) (by norm_num) _ _ _ _ rfl rfl _ _ _ inb_S12x240x2x128_S1x30x2x128_0_7_0_0_s_1_8_1_1 spos_1_8_1_1 _ ?_
  refine step6 (c := c) _ 0 3 _ (by norm_num) (by norm_num) _ _ _ _ rfl rfl _ _ _ inb_S12x240x2x128_S1x30x2x128_0_3_0_0_s_1_8_1_1 spos_1_8_1_1 _ ?_
  refine step6 (c := c) _ 0 6 _ (by norm_num) (by norm_num) _ _ _ _ rfl rfl _ _ _ inb_S12x240x2x128_S1x30x2x128_0_6_0_0_s_1_8_1_1 spos_1_8_1_1 _ ?_
  refine step6 (c := c) _ 0 2 _ (by norm_num) (by norm_num) _ _ _ _ rfl rfl _ _ _ inb_S12x240x2x128_S1x30x2x128_0_2_0_0_s_1_8_1_1 spos_1_8_1_1 _ ?_
  refine step6 (c := c) _ 0 5 _ (by norm_num) (by norm_num) _ _ _ _ rfl rfl _ _ _ inb_S12x240x2x128_S1x30x2x128_0_5_0_0_s_1_8_1_1 spos_1_8_1_1 _ ?_
  refine step6 (c := c) _ 0 1 _ (by norm_num) (by norm_num) _ _ _ _ rfl rfl _ _ _ inb_S12x240x2x128_S1x30x2x128_0_1_0_0_s_1_8_1_1 spos_1_8_1_1 _ ?_
  refine step6 (c := c) _ 0 4 _ (by norm_num) (by norm_num) _ _ _ _ rfl rfl _ _ _ inb_S12x240x2x128_S1x30x2x128_0_4_0_0_s_1_8_1_1 spos_1_8_1_1 _ ?_
  refine step6 (c := c) _ 0 0 _ (by norm_num) (by norm_num) _ _ _ _ rfl rfl _ _ _ inb_S12x240x2x128_S1x30x2x128_0_0_0_0_s_1_8_1_1 spos_1_8_1_1 _ ?_
  exact fun p i g b j h => absurd h List.not_mem_nil
end Cert.KernelIdeal.Hand
-- ==== Proof.Ideal.TabAll.lean ====
/- All tables of the body, and what the accumulators hold when the loop ends. -/
module
public import proofs.«01_k».proof.Proof.Ideal.TabS6
@[expose] public section
set_option maxHeartbeats 0
noncomputable section
namespace Cert.KernelIdeal.Hand
open Cert.KernelIdeal Cert.KernelIdeal.Gen
open Idealize.ShloMosaic Idealize.ShloMosaic.TcCoe

theorem term7 : ∀ (v : Fin 9) (i : Fin 8), (IntOp.shli ArithUnit.vector (IntOp.subi 8#32 (BitVec.setWidth 32 (BitVec.ofNat 8 v.val))) (BitVec.ofNat 32 (4 * i.val))).toNat = (8 - v.val) * 16 ^ i.val := by decide +kernel
theorem term7' (z : BitVec 8) (hz : z.toNat ≤ 8) (i : Fin 8) : (IntOp.shli ArithUnit.vector (IntOp.subi 8#32 (BitVec.setWidth 32 z)) (BitVec.ofNat 32 (4 * i.val))).toNat = (8 - z.toNat) * 16 ^ i.val := by
  have h := term7 ⟨z.toNat, by omega⟩ i
  rwa [show BitVec.ofNat 8 (⟨z.toNat, by omega⟩ : Fin 9).val = z from by simp] at h
theorem term9 : ∀ (v : Fin 9), (IntOp.shli ArithUnit.vector (BitVec.setWidth 32 (BitVec.ofNat 8 v.val)) 4#32).toNat = 16 * v.val ∧ (IntOp.shli ArithUnit.vector (BitVec.setWidth 32 (BitVec.ofNat 8 v.val)) 16#32).toNat = 65536 * v.val := by decide +kernel
theorem term9' (z : BitVec 8) (hz : z.toNat ≤ 8) : (IntOp.shli ArithUnit.vector (BitVec.setWidth 32 z) 4#32).toNat = 16 * z.toNat ∧ (IntOp.shli ArithUnit.vector (BitVec.setWidth 32 z) 16#32).toNat = 65536 * z.toNat := by
  have h := term9 ⟨z.toNat, by omega⟩
  rwa [show BitVec.ofNat 8 (⟨z.toNat, by omega⟩ : Fin 9).val = z from by simp] at h
theorem addi_toNat (a b : BitVec 32) (h : a.toNat + b.toNat < 2 ^ 32) : (IntOp.addi a b).toNat = a.toNat + b.toNat := by
  show (a + b).toNat = _
  rw [BitVec.toNat_add, Nat.mod_eq_of_lt h]

theorem word9_toNat (z0 z1 : BitVec 8) (h0 : z0.toNat ≤ 8) (h1 : z1.toNat ≤ 8) : (word9 z0 z1).toNat = (0x4300 + z1.toNat) * 2 ^ 16 + (0x4100 + 16 * z0.toNat) := by
  have e0 := (term9' z0 h0).1
  have e1 := (term9' z1 h1).2
  have e2 : (1124090112#32 : BitVec 32).toNat = 1124090112 := rfl
  unfold word9
  have a1 := addi_toNat 1124090112#32 (IntOp.shli ArithUnit.vector (BitVec.setWidth 32 z0) 4#32) (by rw [e0, e2]; omega)
  rw [addi_toNat _ _ (by rw [a1, e0, e1, e2]; omega), a1, e0, e1, e2]
  omega

theorem word7_toNat (z : ℕ → BitVec 8) (h : ∀ k, (z k).toNat ≤ 8) : (word7 z).toNat = horner fun k => 8 - (z k).toNat := by
  have e0 : (IntOp.shli ArithUnit.vector (IntOp.subi 8#32 (BitVec.setWidth 32 (z 0))) 0#32).toNat = (8 - (z 0).toNat) * 1 := term7' (z 0) (h 0) 0
  have e1 : (IntOp.shli ArithUnit.vector (IntOp.subi 8#32 (BitVec.setWidth 32 (z 1))) 4#32).toNat = (8 - (z 1).toNat) * 16 := term7' (z 1) (h 1) 1
  have e2 : (IntOp.shli ArithUnit.vector (IntOp.subi 8#32 (BitVec.setWidth 32 (z 2))) 8#32).toNat = (8 - (z 2).toNat) * 256 := term7' (z 2) (h 2) 2
  have e3 : (IntOp.shli ArithUnit.vector (IntOp.subi 8#32 (BitVec.setWidth 32 (z 3))) 12#32).toNat = (8 - (z 3).toNat) * 4096 := term7' (z 3) (h 3) 3
  have e4 : (IntOp.shli ArithUnit.vector (IntOp.subi 8#32 (BitVec.setWidth 32 (z 4))) 16#32).toNat = (8 - (z 4).toNat) * 65536 := term7' (z 4) (h 4) 4
  have e5 : (IntOp.shli ArithUnit.vector (IntOp.subi 8#32 (BitVec.setWidth 32 (z 5))) 20#32).toNat = (8 - (z 5).toNat) * 1048576 := term7' (z 5) (h 5) 5
  have e6 : (IntOp.shli ArithUnit.vector (IntOp.subi 8#32 (BitVec.setWidth 32 (z 6))) 24#32).toNat = (8 - (z 6).toNat) * 16777216 := term7' (z 6) (h 6) 6
  have e7 : (IntOp.shli ArithUnit.vector (IntOp.subi 8#32 (BitVec.setWidth 32 (z 7))) 28#32).toNat = (8 - (z 7).toNat) * 268435456 := term7' (z 7) (h 7) 7
  have b0 : 8 - (z 0).toNat ≤ 8 := Nat.sub_le _ _
  have b1 : 8 - (z 1).toNat ≤ 8 := Nat.sub_le _ _
  have b2 : 8 - (z 2).toNat ≤ 8 := Nat.sub_le _ _
  have b3 : 8 - (z 3).toNat ≤ 8 := Nat.sub_le _ _
  have b4 : 8 - (z 4).toNat ≤ 8 := Nat.sub_le _ _
  have b5 : 8 - (z 5).toNat ≤ 8 := Nat.sub_le _ _
  have b6 : 8 - (z 6).toNat ≤ 8 := Nat.sub_le _ _
  have b7 : 8 - (z 7).toNat ≤ 8 := Nat.sub_le _ _
  unfold word7 horner
  simp only []
  generalize 8 - (z 0).toNat = n0 at e0 b0 ⊢
  generalize 8 - (z 1).toNat = n1 at e1 b1 ⊢
  generalize 8 - (z 2).toNat = n2 at e2 b2 ⊢
  generalize 8 - (z 3).toNat = n3 at e3 b3 ⊢
  generalize 8 - (z 4).toNat = n4 at e4 b4 ⊢
  generalize 8 - (z 5).toNat = n5 at e5 b5 ⊢
  generalize 8 - (z 6).toNat = n6 at e6 b6 ⊢
  generalize 8 - (z 7).toNat = n7 at e7 b7 ⊢
  generalize IntOp.shli ArithUnit.vector (IntOp.subi 8#32 (BitVec.setWidth 32 (z 0))) 0#32 = t0 at e0 ⊢
  generalize IntOp.shli ArithUnit.vector (IntOp.subi 8#32 (BitVec.setWidth 32 (z 1))) 4#32 = t1 at e1 ⊢
  generalize IntOp.shli ArithUnit.vector (IntOp.subi 8#32 (BitVec.setWidth 32 (z 2))) 8#32 = t2 at e2 ⊢
  generalize IntOp.shli ArithUnit.vector (IntOp.subi 8#32 (BitVec.setWidth 32 (z 3))) 12#32 = t3 at e3 ⊢
  generalize IntOp.shli ArithUnit.vector (IntOp.subi 8#32 (BitVec.setWidth 32 (z 4))) 16#32 = t4 at e4 ⊢
  generalize IntOp.shli ArithUnit.vector (IntOp.subi 8#32 (BitVec.setWidth 32 (z 5))) 20#32 = t5 at e5 ⊢
  generalize IntOp.shli ArithUnit.vector (IntOp.subi 8#32 (BitVec.setWidth 32 (z 6))) 24#32 = t6 at e6 ⊢
  generalize IntOp.shli ArithUnit.vector (IntOp.subi 8#32 (BitVec.setWidth 32 (z 7))) 28#32 = t7 at e7 ⊢
  have c : (0#32 : BitVec 32).toNat = 0 := rfl
  have a0 : (IntOp.addi 0#32 t0).toNat = n0 * 1 := by
    rw [addi_toNat _ _ (by rw [c, e0]; omega), c, e0]; omega
  have a1 : (IntOp.addi (IntOp.addi 0#32 t0) t1).toNat = n0 * 1 + n1 * 16 := by
    rw [addi_toNat _ _ (by rw [a0, e1]; omega), a0, e1]
  have a2 : (IntOp.addi (IntOp.addi (IntOp.addi 0#32 t0) t1) t2).toNat = n0 * 1 + n1 * 16 + n2 * 256 := by
    rw [addi_toNat _ _ (by rw [a1, e2]; omega), a1, e2]
  have a3 : (IntOp.addi (IntOp.addi (IntOp.addi (IntOp.addi 0#32 t0) t1) t2) t3).toNat = n0 * 1 + n1 * 16 + n2 * 256 + n3 * 4096 := by
    rw [addi_toNat _ _ (by rw [a2, e3]; omega), a2, e3]
  have a4 : (IntOp.addi (IntOp.addi (IntOp.addi (IntOp.addi (IntOp.addi 0#32 t0) t1) t2) t3) t4).toNat = n0 * 1 + n1 * 16 + n2 * 256 + n3 * 4096 + n4 * 65536 := by
    rw [addi_toNat _ _ (by rw [a3, e4]; omega), a3, e4]
  have a5 : (IntOp.addi (IntOp.addi (IntOp.addi (IntOp.addi (IntOp.addi (IntOp.addi 0#32 t0) t1) t2) t3) t4) t5).toNat = n0 * 1 + n1 * 16 + n2 * 256 + n3 * 4096 + n4 * 65536 + n5 * 1048576 := by
    rw [addi_toNat _ _ (by rw [a4, e5]; omega), a4, e5]
  have a6 : (IntOp.addi (IntOp.addi (IntOp.addi (IntOp.addi (IntOp.addi (IntOp.addi (IntOp.addi 0#32 t0) t1) t2) t3) t4) t5) t6).toNat = n0 * 1 + n1 * 16 + n2 * 256 + n3 * 4096 + n4 * 65536 + n5 * 1048576 + n6 * 16777216 := by
    rw [addi_toNat _ _ (by rw [a5, e6]; omega), a5, e6]
  have a7 : (IntOp.addi (IntOp.addi (IntOp.addi (IntOp.addi (IntOp.addi (IntOp.addi (IntOp.addi (IntOp.addi 0#32 t0) t1) t2) t3) t4) t5) t6) t7).toNat = n0 * 1 + n1 * 16 + n2 * 256 + n3 * 4096 + n4 * 65536 + n5 * 1048576 + n6 * 16777216 + n7 * 268435456 := by
    rw [addi_toNat _ _ (by rw [a6, e7]; omega), a6, e7]
  rw [a7]; ring

theorem fullS (c : Dev nD) (f2 : BufOf (F := Ideal) c hb2) (d8 : BufOf (F := Ideal) c sc2) : (View.write (Elt Ideal) sc2.view d8 (body_run.sl.dma0_1 (F := Ideal) c f2) Finset.univ) = f2 := View.write_whole_univ (Val := Elt Ideal) cc0_scratch2 d8 f2
theorem fullZ (c : Dev nD) (f3 : BufOf (F := Ideal) c hb3) (d9 : BufOf (F := Ideal) c sc3) : (View.write (Elt Ideal) sc3.view d9 (body_run.sl.dma0_2 (F := Ideal) c f3) Finset.univ) = f3 := View.write_whole_univ (Val := Elt Ideal) cc0_scratch3 d9 f3

theorem tables (c : Dev nD) (W : S3840x1536.Idx → BitVec 32) (f0 : BufOf (F := Ideal) c hb0) (f2 : BufOf (F := Ideal) c hb2) (f3 : BufOf (F := Ideal) c hb3) (d6 : BufOf (F := Ideal) c sc0) (d8 : BufOf (F := Ideal) c sc2) (d9 : BufOf (F := Ideal) c sc3) (d12 : BufOf (F := Ideal) c sc6)
    (small : ∀ i j, (at2 (α := BitVec 8) (A := 30) (B := 15360) f3 i j).toNat ≤ 8) :
    Tables c f0 W f2 f3 (sc4.view.writes (Elt Ideal) sc4.view.junk (body_run.sl.HS4_120 (F := Ideal) c f0 d6)) (sc5.view.writes (Elt Ideal) sc5.view.junk (body_run.sl.HS5_30 (F := Ideal) c f0 d6))
      (body_run.sl.HS6_w96 (F := Ideal) c f2 d8 d12)
      (sc7.view.writes (Elt Ideal) sc7.view.junk (body_run.sl.HS7_12 (F := Ideal) c f3 d9))
      (sc8.view.writes (Elt Ideal) sc8.view.junk (⟨Rect.unit (s := S12x60x128) ![11,0,0] S1x60x128.size inb_S12x60x128_S1x60x128_11_0_0, k0_pay715 (body_run.sl.r_121 (F := Ideal) c f2 d8) (body_run.sl.r_122 (F := Ideal) c f2 d8)⟩ :: body_run.sl.HS8_11 (F := Ideal) c f2 d8))
      (sc9.view.writes (Elt Ideal) sc9.view.junk (⟨Rect.unit (s := S12x30x128) ![11,0,0] S1x30x128.size inb_S12x30x128_S1x30x128_11_0_0, k0_pay716 (View.readAt (Elt Ideal) sc3.view (Rect.unit (s := S30x15360) ![0, 6016] S30x128.size inb_S30x15360_S30x128_0_6016).toLoadRect (View.write (Elt Ideal) sc3.view d9 (body_run.sl.dma0_2 (F := Ideal) c f3) Finset.univ)) (View.readAt (Elt Ideal) sc3.view (Rect.unit (s := S30x15360) ![0, 12160] S30x128.size inb_S30x15360_S30x128_0_12160).toLoadRect (View.write (Elt Ideal) sc3.view d9 (body_run.sl.dma0_2 (F := Ideal) c f3) Finset.univ))⟩ :: body_run.sl.HS9_11 (F := Ideal) c f3 d9)) where
  small := small
  hX := fun g q pr par l hg hq hpr hpar hl => by
    rw [tabX c f0 d6 g q (8 * par + pr) l hg hq (by omega) hl, r_apply c f0 d6 par pr _ hpar hpr, Nat.add_assoc]
  hR := fun g h par pr l hg hh hpar hpr hl => by
    rw [tabR c f0 d6 g (16 * h + 8 * par + pr) l hg (by omega) hl, show (16 * h + 8 * par + pr) / 16 = h from by omega, show (16 * h + 8 * par + pr) % 16 = 8 * par + pr from by omega,
      r_apply c f0 d6 par pr _ hpar hpr]
  hS := fun p g r j hp hg hr hj => by
    have h := done6 c (f2 := f2) (d8 := d8) d12 p (r / 2) g (r % 2) j (mem_rows6 ⟨p, hp⟩ ⟨r / 2, by omega⟩) hp (by omega) hg (by omega) hj
    rw [fullS, show 16 * g + 2 * (r / 2) + r % 2 = 16 * g + r from by omega, show 2 * (r / 2) + r % 2 = r from by omega] at h
    exact h
  hZ := fun p g j hp hg hj => by
    rw [tabZ7 c f3 d9 p g j hp hg hj, fullZ]
    exact word7_toNat _ fun k => small _ _
  hS2 := fun p g h j hp hg hh hj => by
    rw [tabS8 c f2 d8 p (2 * g + h) j hp (by omega) hj, fullS]
    show at2 (α := EReal) (A := 30) (B := 15360) f2 ((2 * g + h) / 2) ((3 + 4 * ((2 * g + h) % 2)) * 1536 + (128 * p + j)) = _
    rw [show (2 * g + h) / 2 = g from by omega, show (2 * g + h) % 2 = h from by omega]
  hZ2 := fun p g j hp hg hj => by
    rw [tabZ9 c f3 d9 p g j hp hg hj, fullZ]
    exact word9_toNat _ _ (small _ _) (small _ _)

theorem mask0 : ∀ (r : Fin 16) (i : Fin 256), IntOp.cmpi CmpIPredicate.eq (IntOp.andi (BitVec.ofNat 32 i.val) 7#32) (IntOp.shrsi ArithUnit.vector (BitVec.ofNat 32 r.val) 1#32) = 1#1 ↔ i.val % 8 = r.val / 2 := by decide +kernel
theorem mask (r : Fin 16) (i : Fin 256) : cmpi .eq k0_pay719 (shrsi body_run.sl.v2867 k0_pay720) (ix2 r i) = 1#1 ↔ i.val % 8 = r.val / 2 := by
  rw [← mask0 r i]
  have e : cmpi .eq k0_pay719 (shrsi body_run.sl.v2867 k0_pay720) (ix2 r i) = IntOp.cmpi CmpIPredicate.eq (IntOp.andi (BitVec.ofNat 32 i.val) 7#32) (IntOp.shrsi ArithUnit.vector (BitVec.ofNat 32 r.val) 1#32) := by
    pointwise [k0_pay719, k0_pay720, body_run.sl.v2867]
  rw [e]
theorem zero32 : (FloatOps.ofBits FTy.f32 0#32 : Ideal .f32) = (0 : EReal) := by
  show Ideal.ofBits .f32 0#32 = 0
  simp [Ideal.ofBits, Ideal.ieee]
theorem zero16 (a j : ℕ) (ha : a < 96) (hj : j < 1536) {c : Dev nD} : at2 (α := EReal) (A := 96) (B := 1536) ((sc10.view.writes (Elt Ideal) sc10.view.junk [⟨Rect.unit (s := S96x1536) ![0,0] S96x1536.size inb_S96x1536_S96x1536_0_0, k0_pay717 (F := Ideal)⟩]) : BufOf (F := Ideal) c sc10) a j = 0 := by
  rw [at2, dif_pos ⟨ha, hj⟩]
  have e : (Rect.unit (s := S96x1536) ![0,0] S96x1536.size inb_S96x1536_S96x1536_0_0).emb (ix2 (⟨a, ha⟩ : Fin 96) (⟨j, hj⟩ : Fin 1536)) = ix2 (⟨a, ha⟩ : Fin 96) (⟨j, hj⟩ : Fin 1536) := by
    funext b; fin_cases b
    · exact Fin.ext (by show 0 + 1 * a = a; omega)
    · exact Fin.ext (by show 0 + 1 * j = j; omega)
  have H := View.write_emb_of_mem (v := sc10.view.slice (Rect.unit (s := S96x1536) ![0,0] S96x1536.size inb_S96x1536_S96x1536_0_0)) (Val := Elt Ideal) sc10.view.junk (k0_pay717 (F := Ideal))
    (Finset.mem_univ (ix2 (⟨a, ha⟩ : Fin 96) (⟨j, hj⟩ : Fin 1536)))
  refine (congrArg (sc10.view.writes (Elt Ideal) sc10.view.junk [⟨Rect.unit (s := S96x1536) ![0,0] S96x1536.size inb_S96x1536_S96x1536_0_0, k0_pay717 (F := Ideal)⟩]) e.symm).trans (H.trans ?_)
  show k0_pay717 (F := Ideal) (ix2 (⟨a, ha⟩ : Fin 96) (⟨j, hj⟩ : Fin 1536)) = 0
  pointwise [k0_pay717]
theorem zero17 (a j : ℕ) (ha : a < 32) (hj : j < 1536) {c : Dev nD} : at2 (α := EReal) (A := 32) (B := 1536) ((sc11.view.writes (Elt Ideal) sc11.view.junk [⟨Rect.unit (s := S32x1536) ![0,0] S32x1536.size inb_S32x1536_S32x1536_0_0, k0_pay718 (F := Ideal)⟩]) : BufOf (F := Ideal) c sc11) a j = 0 := by
  rw [at2, dif_pos ⟨ha, hj⟩]
  have e : (Rect.unit (s := S32x1536) ![0,0] S32x1536.size inb_S32x1536_S32x1536_0_0).emb (ix2 (⟨a, ha⟩ : Fin 32) (⟨j, hj⟩ : Fin 1536)) = ix2 (⟨a, ha⟩ : Fin 32) (⟨j, hj⟩ : Fin 1536) := by
    funext b; fin_cases b
    · exact Fin.ext (by show 0 + 1 * a = a; omega)
    · exact Fin.ext (by show 0 + 1 * j = j; omega)
  have H := View.write_emb_of_mem (v := sc11.view.slice (Rect.unit (s := S32x1536) ![0,0] S32x1536.size inb_S32x1536_S32x1536_0_0)) (Val := Elt Ideal) sc11.view.junk (k0_pay718 (F := Ideal))
    (Finset.mem_univ (ix2 (⟨a, ha⟩ : Fin 32) (⟨j, hj⟩ : Fin 1536)))
  refine (congrArg (sc11.view.writes (Elt Ideal) sc11.view.junk [⟨Rect.unit (s := S32x1536) ![0,0] S32x1536.size inb_S32x1536_S32x1536_0_0, k0_pay718 (F := Ideal)⟩]) e.symm).trans (H.trans ?_)
  show k0_pay718 (F := Ideal) (ix2 (⟨a, ha⟩ : Fin 32) (⟨j, hj⟩ : Fin 1536)) = 0
  pointwise [k0_pay718]
/-- The first accumulator when the loop ends. -/
def A16 (c : Dev nD) (a4 : Memref sig .tc .vmem S1440x128 .f32) (h4 : a4.IsWhole) (a5 : Memref sig .tc .vmem S12x15360 .bf16) (h5 : a5.IsWhole) (f0 : BufOf (F := Ideal) c hb0) (f1 : BufOf (F := Ideal) c hb1) (f2 : BufOf (F := Ideal) c hb2) (f3 : BufOf (F := Ideal) c hb3) (d6 : BufOf (F := Ideal) c sc0) (d8 : BufOf (F := Ideal) c sc2) (d9 : BufOf (F := Ideal) c sc3) (d12 : BufOf (F := Ideal) c sc6) : BufOf (F := Ideal) c sc10 := acc16 (F := Ideal) c a4 h4 a5 h5 body_run.sl.v2867 k0_pay719 k0_pay720 f1 (fW c f1) (sc4.view.writes (Elt Ideal) sc4.view.junk (body_run.sl.HS4_120 (F := Ideal) c f0 d6)) (sc5.view.writes (Elt Ideal) sc5.view.junk (body_run.sl.HS5_30 (F := Ideal) c f0 d6)) (body_run.sl.HS6_w96 (F := Ideal) c f2 d8 d12) (sc7.view.writes (Elt Ideal) sc7.view.junk (body_run.sl.HS7_12 (F := Ideal) c f3 d9)) (sc8.view.writes (Elt Ideal) sc8.view.junk (⟨Rect.unit (s := S12x60x128) ![11,0,0] S1x60x128.size inb_S12x60x128_S1x60x128_11_0_0, k0_pay715 (body_run.sl.r_121 (F := Ideal) c f2 d8) (body_run.sl.r_122 (F := Ideal) c f2 d8)⟩ :: body_run.sl.HS8_11 (F := Ideal) c f2 d8)) (sc9.view.writes (Elt Ideal) sc9.view.junk (⟨Rect.unit (s := S12x30x128) ![11,0,0] S1x30x128.size inb_S12x30x128_S1x30x128_11_0_0, k0_pay716 (View.readAt (Elt Ideal) sc3.view (Rect.unit (s := S30x15360) ![0, 6016] S30x128.size inb_S30x15360_S30x128_0_6016).toLoadRect (View.write (Elt Ideal) sc3.view d9 (body_run.sl.dma0_2 (F := Ideal) c f3) Finset.univ)) (View.readAt (Elt Ideal) sc3.view (Rect.unit (s := S30x15360) ![0, 12160] S30x128.size inb_S30x15360_S30x128_0_12160).toLoadRect (View.write (Elt Ideal) sc3.view d9 (body_run.sl.dma0_2 (F := Ideal) c f3) Finset.univ))⟩ :: body_run.sl.HS9_11 (F := Ideal) c f3 d9)) (sc10.view.writes (Elt Ideal) sc10.view.junk [⟨Rect.unit (s := S96x1536) ![0,0] S96x1536.size inb_S96x1536_S96x1536_0_0, k0_pay717 (F := Ideal)⟩]) (sc11.view.writes (Elt Ideal) sc11.view.junk [⟨Rect.unit (s := S32x1536) ![0,0] S32x1536.size inb_S32x1536_S32x1536_0_0, k0_pay718 (F := Ideal)⟩]) (Scf.trips k0_t1_loop.lb k0_t1_loop.ub k0_t1_loop.st)
/-- The second accumulator when the loop ends. -/
def A17 (c : Dev nD) (a4 : Memref sig .tc .vmem S1440x128 .f32) (h4 : a4.IsWhole) (a5 : Memref sig .tc .vmem S12x15360 .bf16) (h5 : a5.IsWhole) (f0 : BufOf (F := Ideal) c hb0) (f1 : BufOf (F := Ideal) c hb1) (f2 : BufOf (F := Ideal) c hb2) (f3 : BufOf (F := Ideal) c hb3) (d6 : BufOf (F := Ideal) c sc0) (d8 : BufOf (F := Ideal) c sc2) (d9 : BufOf (F := Ideal) c sc3) (d12 : BufOf (F := Ideal) c sc6) : BufOf (F := Ideal) c sc11 := acc17 (F := Ideal) c a4 h4 a5 h5 body_run.sl.v2867 k0_pay719 k0_pay720 f1 (fW c f1) (sc4.view.writes (Elt Ideal) sc4.view.junk (body_run.sl.HS4_120 (F := Ideal) c f0 d6)) (sc5.view.writes (Elt Ideal) sc5.view.junk (body_run.sl.HS5_30 (F := Ideal) c f0 d6)) (body_run.sl.HS6_w96 (F := Ideal) c f2 d8 d12) (sc7.view.writes (Elt Ideal) sc7.view.junk (body_run.sl.HS7_12 (F := Ideal) c f3 d9)) (sc8.view.writes (Elt Ideal) sc8.view.junk (⟨Rect.unit (s := S12x60x128) ![11,0,0] S1x60x128.size inb_S12x60x128_S1x60x128_11_0_0, k0_pay715 (body_run.sl.r_121 (F := Ideal) c f2 d8) (body_run.sl.r_122 (F := Ideal) c f2 d8)⟩ :: body_run.sl.HS8_11 (F := Ideal) c f2 d8)) (sc9.view.writes (Elt Ideal) sc9.view.junk (⟨Rect.unit (s := S12x30x128) ![11,0,0] S1x30x128.size inb_S12x30x128_S1x30x128_11_0_0, k0_pay716 (View.readAt (Elt Ideal) sc3.view (Rect.unit (s := S30x15360) ![0, 6016] S30x128.size inb_S30x15360_S30x128_0_6016).toLoadRect (View.write (Elt Ideal) sc3.view d9 (body_run.sl.dma0_2 (F := Ideal) c f3) Finset.univ)) (View.readAt (Elt Ideal) sc3.view (Rect.unit (s := S30x15360) ![0, 12160] S30x128.size inb_S30x15360_S30x128_0_12160).toLoadRect (View.write (Elt Ideal) sc3.view d9 (body_run.sl.dma0_2 (F := Ideal) c f3) Finset.univ))⟩ :: body_run.sl.HS9_11 (F := Ideal) c f3 d9)) (sc10.view.writes (Elt Ideal) sc10.view.junk [⟨Rect.unit (s := S96x1536) ![0,0] S96x1536.size inb_S96x1536_S96x1536_0_0, k0_pay717 (F := Ideal)⟩]) (sc11.view.writes (Elt Ideal) sc11.view.junk [⟨Rect.unit (s := S32x1536) ![0,0] S32x1536.size inb_S32x1536_S32x1536_0_0, k0_pay718 (F := Ideal)⟩]) (Scf.trips k0_t1_loop.lb k0_t1_loop.ub k0_t1_loop.st)

theorem A16_at (c : Dev nD) (a4 : Memref sig .tc .vmem S1440x128 .f32) (h4 : a4.IsWhole) (a5 : Memref sig .tc .vmem S12x15360 .bf16) (h5 : a5.IsWhole) (f0 : BufOf (F := Ideal) c hb0) (f1 : BufOf (F := Ideal) c hb1) (f2 : BufOf (F := Ideal) c hb2) (f3 : BufOf (F := Ideal) c hb3) (d6 : BufOf (F := Ideal) c sc0) (d8 : BufOf (F := Ideal) c sc2) (d9 : BufOf (F := Ideal) c sc3) (d12 : BufOf (F := Ideal) c sc6) (small : ∀ i j, (at2 (α := BitVec 8) (A := 30) (B := 15360) f3 i j).toNat ≤ 8) (a j : ℕ) (ha : a < 96) (hj : j < 1536) :
    at2 (α := EReal) (A := 96) (B := 1536) (A16 c a4 h4 a5 h5 f0 f1 f2 f3 d6 d8 d9 d12) a j = ∑ d ∈ Finset.range 3840, at2 (α := EReal) (A := 12) (B := 3840) f0 (2 * (a / 16) + a % 2) d * deq f1 f2 f3 d (nibField (a % 16 / 2)) j := by
  have h := accs_16 (tables (d6 := d6) (d8 := d8) (d9 := d9) (d12 := d12) c f1 f0 f2 f3 small) a4 h4 a5 h5 body_run.sl.v2867 k0_pay719 k0_pay720 mask f1 (fW c f1) rfl
    ((sc10.view.writes (Elt Ideal) sc10.view.junk [⟨Rect.unit (s := S96x1536) ![0,0] S96x1536.size inb_S96x1536_S96x1536_0_0, k0_pay717 (F := Ideal)⟩])) ((sc11.view.writes (Elt Ideal) sc11.view.junk [⟨Rect.unit (s := S32x1536) ![0,0] S32x1536.size inb_S32x1536_S32x1536_0_0, k0_pay718 (F := Ideal)⟩])) 30 (le_refl _) a j ha hj
  rw [zero16 (c := c) a j ha hj, zero_add] at h
  unfold A16
  rw [acc16_eq, show Scf.trips k0_t1_loop.lb k0_t1_loop.ub k0_t1_loop.st = 30 from trips_eq]
  exact h
theorem A17_at (c : Dev nD) (a4 : Memref sig .tc .vmem S1440x128 .f32) (h4 : a4.IsWhole) (a5 : Memref sig .tc .vmem S12x15360 .bf16) (h5 : a5.IsWhole) (f0 : BufOf (F := Ideal) c hb0) (f1 : BufOf (F := Ideal) c hb1) (f2 : BufOf (F := Ideal) c hb2) (f3 : BufOf (F := Ideal) c hb3) (d6 : BufOf (F := Ideal) c sc0) (d8 : BufOf (F := Ideal) c sc2) (d9 : BufOf (F := Ideal) c sc3) (d12 : BufOf (F := Ideal) c sc6) (small : ∀ i j, (at2 (α := BitVec 8) (A := 30) (B := 15360) f3 i j).toNat ≤ 8) (h par pr j : ℕ) (hh : h < 2) (hpar : par < 2) (hpr : pr < 6) (hj : j < 1536) :
    at2 (α := EReal) (A := 32) (B := 1536) (A17 c a4 h4 a5 h5 f0 f1 f2 f3 d6 d8 d9 d12) (16 * h + 8 * par + pr) j = ∑ d ∈ Finset.range 3840, at2 (α := EReal) (A := 12) (B := 3840) f0 (2 * pr + par) d * deq f1 f2 f3 d (3 + 4 * h) j := by
  have e := accs_17 (tables (d6 := d6) (d8 := d8) (d9 := d9) (d12 := d12) c f1 f0 f2 f3 small) a4 h4 a5 h5 body_run.sl.v2867 k0_pay719 k0_pay720 mask f1 (fW c f1) rfl
    ((sc10.view.writes (Elt Ideal) sc10.view.junk [⟨Rect.unit (s := S96x1536) ![0,0] S96x1536.size inb_S96x1536_S96x1536_0_0, k0_pay717 (F := Ideal)⟩])) ((sc11.view.writes (Elt Ideal) sc11.view.junk [⟨Rect.unit (s := S32x1536) ![0,0] S32x1536.size inb_S32x1536_S32x1536_0_0, k0_pay718 (F := Ideal)⟩])) 30 (le_refl _) h par pr j hh hpar hpr hj
  rw [zero17 (c := c) _ j (by omega) hj, zero_add] at e
  unfold A17
  rw [acc17_eq, show Scf.trips k0_t1_loop.lb k0_t1_loop.ub k0_t1_loop.st = 30 from trips_eq]
  exact e
/-- The kernel's result as a function of its operands. -/
def res (f0 : S12x3840.Idx → EReal) (f1 : S3840x1536.Idx → BitVec 32) (f2 : S30x15360.Idx → EReal) (f3 : S30x15360.Idx → BitVec 8) (Y : S1440x128.Idx → EReal) (y : S12x15360.Idx) : EReal :=
  (∑ d ∈ Finset.range 3840, at2 (α := EReal) (A := 12) (B := 3840) f0 (y 0).val d * deq f1 f2 f3 d ((y 1).val / 1536) ((y 1).val % 1536)) + at2 (A := 1440) (B := 128) Y (120 * (y 0).val + (y 1).val / 128) ((y 1).val % 128)
/-- The accumulated product of row `b` at column `n` of field `f`. -/
def sel (A : S96x1536.Idx → EReal) (B : S32x1536.Idx → EReal) (f b n : ℕ) : EReal :=
  if f = 3 then at2 (A := 32) (B := 1536) B (8 * (b % 2) + b / 2) n
  else if f = 7 then at2 (A := 32) (B := 1536) B (16 + 8 * (b % 2) + b / 2) n
  else at2 (A := 96) (B := 1536) A (16 * (b / 2) + 2 * (f - (if 4 ≤ f then 1 else 0) - (if 8 ≤ f then 1 else 0)) + b % 2) n
/-- The output from the accumulators and the residual. -/
def valOut (A : S96x1536.Idx → EReal) (B : S32x1536.Idx → EReal) (Y : S1440x128.Idx → EReal) (y : S12x15360.Idx) : EReal :=
  sel A B ((y 1).val / 1536) (y 0).val ((y 1).val % 1536) + at2 (A := 1440) (B := 128) Y (120 * (y 0).val + (y 1).val / 128) ((y 1).val % 128)

theorem sel_res (c : Dev nD) (a4 : Memref sig .tc .vmem S1440x128 .f32) (h4 : a4.IsWhole) (a5 : Memref sig .tc .vmem S12x15360 .bf16) (h5 : a5.IsWhole) (f0 : BufOf (F := Ideal) c hb0) (f1 : BufOf (F := Ideal) c hb1) (f2 : BufOf (F := Ideal) c hb2) (f3 : BufOf (F := Ideal) c hb3) (d6 : BufOf (F := Ideal) c sc0) (d8 : BufOf (F := Ideal) c sc2) (d9 : BufOf (F := Ideal) c sc3) (d12 : BufOf (F := Ideal) c sc6) (small : ∀ i j, (at2 (α := BitVec 8) (A := 30) (B := 15360) f3 i j).toNat ≤ 8) (f b n : ℕ) (hf : f < 10) (hb : b < 12) (hn : n < 1536) :
    sel (A16 c a4 h4 a5 h5 f0 f1 f2 f3 d6 d8 d9 d12) (A17 c a4 h4 a5 h5 f0 f1 f2 f3 d6 d8 d9 d12) f b n = ∑ d ∈ Finset.range 3840, at2 (α := EReal) (A := 12) (B := 3840) f0 b d * deq f1 f2 f3 d f n := by
  unfold sel
  by_cases e3 : f = 3
  · subst e3
    have h := A17_at c a4 h4 a5 h5 f0 f1 f2 f3 d6 d8 d9 d12 small 0 (b % 2) (b / 2) n (by omega) (by omega) (by omega) hn
    rw [show 16 * 0 + 8 * (b % 2) + b / 2 = 8 * (b % 2) + b / 2 from by omega, show 2 * (b / 2) + b % 2 = b from by omega] at h
    rw [if_pos rfl]; exact h
  by_cases e7 : f = 7
  · subst e7
    have h := A17_at c a4 h4 a5 h5 f0 f1 f2 f3 d6 d8 d9 d12 small 1 (b % 2) (b / 2) n (by omega) (by omega) (by omega) hn
    rw [show 16 * 1 + 8 * (b % 2) + b / 2 = 16 + 8 * (b % 2) + b / 2 from by omega, show 2 * (b / 2) + b % 2 = b from by omega] at h
    rw [if_neg (by omega), if_pos rfl]; exact h
  rw [if_neg e3, if_neg e7]
  obtain ⟨k, hk, ek⟩ : ∃ k, k < 8 ∧ nibField k = f ∧ f - (if 4 ≤ f then 1 else 0) - (if 8 ≤ f then 1 else 0) = k := by
    have : ∀ f : Fin 10, f.val ≠ 3 → f.val ≠ 7 → ∃ k, k < 8 ∧ nibField k = f.val ∧ f.val - (if 4 ≤ f.val then 1 else 0) - (if 8 ≤ f.val then 1 else 0) = k := by decide
    exact this ⟨f, hf⟩ e3 e7
  have h := A16_at c a4 h4 a5 h5 f0 f1 f2 f3 d6 d8 d9 d12 small (16 * (b / 2) + 2 * k + b % 2) n (by omega) hn
  rw [show (16 * (b / 2) + 2 * k + b % 2) / 16 = b / 2 from by omega, show (16 * (b / 2) + 2 * k + b % 2) % 2 = b % 2 from by omega, show (16 * (b / 2) + 2 * k + b % 2) % 16 / 2 = k from by omega,
    show 2 * (b / 2) + b % 2 = b from by omega, ek.1] at h
  rw [ek.2]; exact h

theorem valOut_res (c : Dev nD) (a4 : Memref sig .tc .vmem S1440x128 .f32) (h4 : a4.IsWhole) (a5 : Memref sig .tc .vmem S12x15360 .bf16) (h5 : a5.IsWhole) (f0 : BufOf (F := Ideal) c hb0) (f1 : BufOf (F := Ideal) c hb1) (f2 : BufOf (F := Ideal) c hb2) (f3 : BufOf (F := Ideal) c hb3) (d6 : BufOf (F := Ideal) c sc0) (d8 : BufOf (F := Ideal) c sc2) (d9 : BufOf (F := Ideal) c sc3) (d12 : BufOf (F := Ideal) c sc6) (small : ∀ i j, (at2 (α := BitVec 8) (A := 30) (B := 15360) f3 i j).toNat ≤ 8) (Y : S1440x128.Idx → EReal) (y : S12x15360.Idx) :
    valOut (A16 c a4 h4 a5 h5 f0 f1 f2 f3 d6 d8 d9 d12) (A17 c a4 h4 a5 h5 f0 f1 f2 f3 d6 d8 d9 d12) Y y = res f0 f1 f2 f3 Y y := by
  have h1 : (y 1).val < 15360 := (y 1).isLt
  have h0 : (y 0).val < 12 := (y 0).isLt
  unfold valOut res
  rw [sel_res c a4 h4 a5 h5 f0 f1 f2 f3 d6 d8 d9 d12 small _ _ _ (by omega) h0 (by omega)]
end Cert.KernelIdeal.Hand
-- ==== Proof.Ideal.OutBase.lean ====
/- The body's output, read at an index. -/
module
public import proofs.«01_k».proof.Proof.Ideal.TabAll
public import Idealize.ShloMosaic.Lib.Bf16Pair
@[expose] public section
set_option maxHeartbeats 0
set_option maxRecDepth 100000
noncomputable section
namespace Cert.KernelIdeal.Hand
open Cert.KernelIdeal Cert.KernelIdeal.Gen
open Idealize.ShloMosaic Idealize.ShloMosaic.TcCoe

/-- Two halves of an output tile interleaved by rows, at an index: the first kind of field. -/
theorem rawN (R0 R1 R2 R3 R4 R5 S0 S1 S2 S3 S4 S5 : FVec Ideal S1x128 .f32) (Y0 Y1 : FVec Ideal S6x128 .f32) (r : Fin 12) (j : Fin 128) (u v yu yv : ℕ → EReal)
    (q0 : R0 (ix2 0 j) = u 0) (q1 : R1 (ix2 0 j) = u 1) (q2 : R2 (ix2 0 j) = u 2) (q3 : R3 (ix2 0 j) = u 3) (q4 : R4 (ix2 0 j) = u 4) (q5 : R5 (ix2 0 j) = u 5) (s0 : S0 (ix2 0 j) = v 0) (s1 : S1 (ix2 0 j) = v 1) (s2 : S2 (ix2 0 j) = v 2) (s3 : S3 (ix2 0 j) = v 3) (s4 : S4 (ix2 0 j) = v 4) (s5 : S5 (ix2 0 j) = v 5)
    (y0 : ∀ i : Fin 6, Y0 (ix2 i j) = yu i.val) (y1 : ∀ i : Fin 6, Y1 (ix2 i j) = yv i.val) :
    (interleaveRows S12x128 (truncf FTy.bf16 (addf (concatenate S6x128 0 [⟨S1x128, R0⟩, ⟨S1x128, R1⟩, ⟨S1x128, R2⟩, ⟨S1x128, R3⟩, ⟨S1x128, R4⟩, ⟨S1x128, R5⟩] concatenates_S1x128_S1x128_S1x128_S1x128_S1x128_S1x128_S6x128_d0) (shapeCast S6x128 Y0 shapeCasts_S6x128_S6x128)) bitsLt_bf16_f32) (truncf FTy.bf16 (addf (concatenate S6x128 0 [⟨S1x128, S0⟩, ⟨S1x128, S1⟩, ⟨S1x128, S2⟩, ⟨S1x128, S3⟩, ⟨S1x128, S4⟩, ⟨S1x128, S5⟩] concatenates_S1x128_S1x128_S1x128_S1x128_S1x128_S1x128_S6x128_d0) (shapeCast S6x128 Y1 shapeCasts_S6x128_S6x128)) bitsLt_bf16_f32) bitcasts_S12x128_w16_S6x128_w32 : FVec Ideal S12x128 .bf16) (ix2 r j)
      = if r.val % 2 = 0 then u (r.val / 2) + yu (r.val / 2) else v (r.val / 2) + yv (r.val / 2) := by
  have y0' := fun i : Fin 6 => (y0 i).symm
  have y1' := fun i : Fin 6 => (y1 i).symm
  fin_cases r
  · show _ = u 0 + yu 0
    rw [← q0, show yu 0 = _ from y0' 0]
    pointwise []
  · show _ = v 0 + yv 0
    rw [← s0, show yv 0 = _ from y1' 0]
    pointwise []
  · show _ = u 1 + yu 1
    rw [← q1, show yu 1 = _ from y0' 1]
    pointwise []
  · show _ = v 1 + yv 1
    rw [← s1, show yv 1 = _ from y1' 1]
    pointwise []
  · show _ = u 2 + yu 2
    rw [← q2, show yu 2 = _ from y0' 2]
    pointwise []
  · show _ = v 2 + yv 2
    rw [← s2, show yv 2 = _ from y1' 2]
    pointwise []
  · show _ = u 3 + yu 3
    rw [← q3, show yu 3 = _ from y0' 3]
    pointwise []
  · show _ = v 3 + yv 3
    rw [← s3, show yv 3 = _ from y1' 3]
    pointwise []
  · show _ = u 4 + yu 4
    rw [← q4, show yu 4 = _ from y0' 4]
    pointwise []
  · show _ = v 4 + yv 4
    rw [← s4, show yv 4 = _ from y1' 4]
    pointwise []
  · show _ = u 5 + yu 5
    rw [← q5, show yu 5 = _ from y0' 5]
    pointwise []
  · show _ = v 5 + yv 5
    rw [← s5, show yv 5 = _ from y1' 5]
    pointwise []
/-- The same for the other kind of field. -/
theorem rawR (R S : FVec Ideal S6x128 .f32) (Y0 Y1 : FVec Ideal S6x128 .f32) (r : Fin 12) (j : Fin 128) (u v yu yv : ℕ → EReal)
    (q : ∀ i : Fin 6, R (ix2 i j) = u i.val) (s : ∀ i : Fin 6, S (ix2 i j) = v i.val) (y0 : ∀ i : Fin 6, Y0 (ix2 i j) = yu i.val) (y1 : ∀ i : Fin 6, Y1 (ix2 i j) = yv i.val) :
    (interleaveRows S12x128 (truncf FTy.bf16 (addf R (shapeCast S6x128 Y0 shapeCasts_S6x128_S6x128)) bitsLt_bf16_f32) (truncf FTy.bf16 (addf S (shapeCast S6x128 Y1 shapeCasts_S6x128_S6x128)) bitsLt_bf16_f32) bitcasts_S12x128_w16_S6x128_w32 : FVec Ideal S12x128 .bf16) (ix2 r j)
      = if r.val % 2 = 0 then u (r.val / 2) + yu (r.val / 2) else v (r.val / 2) + yv (r.val / 2) := by
  have q' := fun i : Fin 6 => (q i).symm
  have s' := fun i : Fin 6 => (s i).symm
  have y0' := fun i : Fin 6 => (y0 i).symm
  have y1' := fun i : Fin 6 => (y1 i).symm
  fin_cases r
  · show _ = u 0 + yu 0
    rw [show u 0 = _ from q' 0, show yu 0 = _ from y0' 0]
    pointwise []
  · show _ = v 0 + yv 0
    rw [show v 0 = _ from s' 0, show yv 0 = _ from y1' 0]
    pointwise []
  · show _ = u 1 + yu 1
    rw [show u 1 = _ from q' 1, show yu 1 = _ from y0' 1]
    pointwise []
  · show _ = v 1 + yv 1
    rw [show v 1 = _ from s' 1, show yv 1 = _ from y1' 1]
    pointwise []
  · show _ = u 2 + yu 2
    rw [show u 2 = _ from q' 2, show yu 2 = _ from y0' 2]
    pointwise []
  · show _ = v 2 + yv 2
    rw [show v 2 = _ from s' 2, show yv 2 = _ from y1' 2]
    pointwise []
  · show _ = u 3 + yu 3
    rw [show u 3 = _ from q' 3, show yu 3 = _ from y0' 3]
    pointwise []
  · show _ = v 3 + yv 3
    rw [show v 3 = _ from s' 3, show yv 3 = _ from y1' 3]
    pointwise []
  · show _ = u 4 + yu 4
    rw [show u 4 = _ from q' 4, show yu 4 = _ from y0' 4]
    pointwise []
  · show _ = v 4 + yv 4
    rw [show v 4 = _ from s' 4, show yv 4 = _ from y1' 4]
    pointwise []
  · show _ = u 5 + yu 5
    rw [show u 5 = _ from q' 5, show yu 5 = _ from y0' 5]
    pointwise []
  · show _ = v 5 + yv 5
    rw [show v 5 = _ from s' 5, show yv 5 = _ from y1' 5]
    pointwise []

theorem readRow (c : Dev nD) (u cc : ℕ) (h : (∀ a, (![u, cc] : Fin 2 → ℕ) a + S1x128.size a ≤ S96x1536.size a)) (A : BufOf (F := Ideal) c sc10) (j : Fin 128) :
    (View.readAt (Elt Ideal) sc10.view (Rect.unit (s := S96x1536) ![u, cc] S1x128.size h).toLoadRect A) (ix2 0 j) = at2 (α := EReal) (A := 96) (B := 1536) A u (cc + j.val) := by
  have h0 : u + 1 ≤ 96 := h 0
  have h1 : cc + 128 ≤ 1536 := h 1
  rw [at2, dif_pos ⟨by omega, by omega⟩]
  refine congrArg A (funext fun a => ?_)
  fin_cases a
  · exact Fin.ext (by show u + 1 * 0 = u; omega)
  · exact Fin.ext (by show cc + 1 * j.val = cc + j.val; omega)
theorem readRows (c : Dev nD) (u cc : ℕ) (h : (∀ a, (![u, cc] : Fin 2 → ℕ) a + S6x128.size a ≤ S32x1536.size a)) (B : BufOf (F := Ideal) c sc11) (i : Fin 6) (j : Fin 128) :
    (View.readAt (Elt Ideal) sc11.view (Rect.unit (s := S32x1536) ![u, cc] S6x128.size h).toLoadRect B) (ix2 i j) = at2 (α := EReal) (A := 32) (B := 1536) B (u + i.val) (cc + j.val) := by
  have h0 : u + 6 ≤ 32 := h 0
  have h1 : cc + 128 ≤ 1536 := h 1
  rw [at2, dif_pos ⟨by omega, by omega⟩]
  refine congrArg B (funext fun a => ?_)
  fin_cases a
  · exact Fin.ext (by show u + 1 * i.val = u + i.val; omega)
  · exact Fin.ext (by show cc + 1 * j.val = cc + j.val; omega)
theorem readYrow (c : Dev nD) (a4 : Memref sig .tc .vmem S1440x128 .f32) (f4 : BufOf (F := Ideal) c a4) (u : ℕ) (hu : u < 240) (h) (i : Fin 6) (j : Fin 128) :
    (View.readAt (Elt Ideal) a4.view { off := ![u, 0], size := S6x128.size, stride := ![240, 1], inb := h } f4) (ix2 i j) = at2 (α := EReal) (A := 1440) (B := 128) (a4.view.read (Elt Ideal) f4) (u + 240 * i.val) j.val := by
  rw [at2, dif_pos ⟨by omega, j.isLt⟩]
  refine congrArg (a4.view.read (Elt Ideal) f4) (funext fun a => ?_)
  fin_cases a
  · exact Fin.ext (by show u + 240 * i.val = u + 240 * i.val; rfl)
  · exact Fin.ext (by show 0 + 1 * j.val = j.val; omega)

theorem valOut_at (A : S96x1536.Idx → EReal) (B : S32x1536.Idx → EReal) (Y : S1440x128.Idx → EReal) (f p oo : ℕ) (hp : p < 12) (hf : f < 10) (eo : oo = 1536 * f + 128 * p) (hb) (r : Fin 12) (j : Fin 128) :
    valOut A B Y ((Rect.unit (s := S12x15360) ![0, oo] S12x128.size hb).emb (ix2 r j)) = sel A B f r.val (128 * p + j.val) + at2 (A := 1440) (B := 128) Y (120 * r.val + (12 * f + p)) j.val := by
  show sel A B ((oo + 1 * j.val) / 1536) (0 + 1 * r.val) ((oo + 1 * j.val) % 1536) + at2 (A := 1440) (B := 128) Y (120 * (0 + 1 * r.val) + (oo + 1 * j.val) / 128) ((oo + 1 * j.val) % 128) = _
  rw [show (oo + 1 * j.val) / 1536 = f from by omega, show (oo + 1 * j.val) % 1536 = 128 * p + j.val from by omega, show (oo + 1 * j.val) / 128 = 12 * f + p from by omega, show (oo + 1 * j.val) % 128 = j.val from by omega,
    show 0 + 1 * r.val = r.val from by omega]

theorem pieceN {c : Dev nD} (A : BufOf (F := Ideal) c sc10) (B : BufOf (F := Ideal) c sc11) (a4 : Memref sig .tc .vmem S1440x128 .f32) (f4 : BufOf (F := Ideal) c a4)
    (f k p : ℕ) (hp : p < 12) (hk : k < 8) (hf : f = k + (if 3 ≤ k then 1 else 0) + (if 6 ≤ k then 1 else 0)) (oo cc l0 l1 l2 l3 l4 l5 m0 m1 m2 m3 m4 m5 t0 t1 : ℕ)
    (eo : oo = 1536 * f + 128 * p) (ec : cc = 128 * p) (el0 : l0 = 16 * 0 + 2 * k) (el1 : l1 = 16 * 1 + 2 * k) (el2 : l2 = 16 * 2 + 2 * k) (el3 : l3 = 16 * 3 + 2 * k) (el4 : l4 = 16 * 4 + 2 * k) (el5 : l5 = 16 * 5 + 2 * k) (em0 : m0 = 16 * 0 + 2 * k + 1) (em1 : m1 = 16 * 1 + 2 * k + 1) (em2 : m2 = 16 * 2 + 2 * k + 1) (em3 : m3 = 16 * 3 + 2 * k + 1) (em4 : m4 = 16 * 4 + 2 * k + 1) (em5 : m5 = 16 * 5 + 2 * k + 1)
    (et0 : t0 = 12 * f + p) (et1 : t1 = 120 + (12 * f + p)) (hl0 : (∀ a, (![l0, cc] : Fin 2 → ℕ) a + S1x128.size a ≤ S96x1536.size a)) (hl1 : (∀ a, (![l1, cc] : Fin 2 → ℕ) a + S1x128.size a ≤ S96x1536.size a)) (hl2 : (∀ a, (![l2, cc] : Fin 2 → ℕ) a + S1x128.size a ≤ S96x1536.size a)) (hl3 : (∀ a, (![l3, cc] : Fin 2 → ℕ) a + S1x128.size a ≤ S96x1536.size a)) (hl4 : (∀ a, (![l4, cc] : Fin 2 → ℕ) a + S1x128.size a ≤ S96x1536.size a)) (hl5 : (∀ a, (![l5, cc] : Fin 2 → ℕ) a + S1x128.size a ≤ S96x1536.size a)) (hm0 : (∀ a, (![m0, cc] : Fin 2 → ℕ) a + S1x128.size a ≤ S96x1536.size a)) (hm1 : (∀ a, (![m1, cc] : Fin 2 → ℕ) a + S1x128.size a ≤ S96x1536.size a)) (hm2 : (∀ a, (![m2, cc] : Fin 2 → ℕ) a + S1x128.size a ≤ S96x1536.size a)) (hm3 : (∀ a, (![m3, cc] : Fin 2 → ℕ) a + S1x128.size a ≤ S96x1536.size a)) (hm4 : (∀ a, (![m4, cc] : Fin 2 → ℕ) a + S1x128.size a ≤ S96x1536.size a)) (hm5 : (∀ a, (![m5, cc] : Fin 2 → ℕ) a + S1x128.size a ≤ S96x1536.size a)) (ht0) (ht1) (hb) (x : S12x128.Idx) :
    (interleaveRows S12x128 (truncf FTy.bf16 (addf (concatenate S6x128 0 [⟨S1x128, (View.readAt (Elt Ideal) sc10.view (Rect.unit (s := S96x1536) ![l0, cc] S1x128.size hl0).toLoadRect A)⟩, ⟨S1x128, (View.readAt (Elt Ideal) sc10.view (Rect.unit (s := S96x1536) ![l1, cc] S1x128.size hl1).toLoadRect A)⟩, ⟨S1x128, (View.readAt (Elt Ideal) sc10.view (Rect.unit (s := S96x1536) ![l2, cc] S1x128.size hl2).toLoadRect A)⟩, ⟨S1x128, (View.readAt (Elt Ideal) sc10.view (Rect.unit (s := S96x1536) ![l3, cc] S1x128.size hl3).toLoadRect A)⟩, ⟨S1x128, (View.readAt (Elt Ideal) sc10.view (Rect.unit (s := S96x1536) ![l4, cc] S1x128.size hl4).toLoadRect A)⟩, ⟨S1x128, (View.readAt (Elt Ideal) sc10.view (Rect.unit (s := S96x1536) ![l5, cc] S1x128.size hl5).toLoadRect A)⟩] concatenates_S1x128_S1x128_S1x128_S1x128_S1x128_S1x128_S6x128_d0) (shapeCast S6x128 (View.readAt (Elt Ideal) a4.view { off := ![t0, 0], size := S6x128.size, stride := ![240, 1], inb := ht0 } f4) shapeCasts_S6x128_S6x128)) bitsLt_bf16_f32) (truncf FTy.bf16 (addf (concatenate S6x128 0 [⟨S1x128, (View.readAt (Elt Ideal) sc10.view (Rect.unit (s := S96x1536) ![m0, cc] S1x128.size hm0).toLoadRect A)⟩, ⟨S1x128, (View.readAt (Elt Ideal) sc10.view (Rect.unit (s := S96x1536) ![m1, cc] S1x128.size hm1).toLoadRect A)⟩, ⟨S1x128, (View.readAt (Elt Ideal) sc10.view (Rect.unit (s := S96x1536) ![m2, cc] S1x128.size hm2).toLoadRect A)⟩, ⟨S1x128, (View.readAt (Elt Ideal) sc10.view (Rect.unit (s := S96x1536) ![m3, cc] S1x128.size hm3).toLoadRect A)⟩, ⟨S1x128, (View.readAt (Elt Ideal) sc10.view (Rect.unit (s := S96x1536) ![m4, cc] S1x128.size hm4).toLoadRect A)⟩, ⟨S1x128, (View.readAt (Elt Ideal) sc10.view (Rect.unit (s := S96x1536) ![m5, cc] S1x128.size hm5).toLoadRect A)⟩] concatenates_S1x128_S1x128_S1x128_S1x128_S1x128_S1x128_S6x128_d0) (shapeCast S6x128 (View.readAt (Elt Ideal) a4.view { off := ![t1, 0], size := S6x128.size, stride := ![240, 1], inb := ht1 } f4) shapeCasts_S6x128_S6x128)) bitsLt_bf16_f32) bitcasts_S12x128_w16_S6x128_w32 : FVec Ideal S12x128 .bf16) x
      = valOut A B (a4.view.read (Elt Ideal) f4) ((Rect.unit (s := S12x15360) ![0, oo] S12x128.size hb).emb x) := by
  have hf' : f < 10 := by subst hf; split_ifs <;> omega
  rw [← ix2_eta (A := 12) (B := 128) x]
  obtain ⟨r, hr⟩ : ∃ r : Fin 12, r = x 0 := ⟨_, rfl⟩
  obtain ⟨j, hj⟩ : ∃ j : Fin 128, j = x 1 := ⟨_, rfl⟩
  rw [← hr, ← hj]
  refine Eq.trans ?_ (valOut_at A B (a4.view.read (Elt Ideal) f4) f p oo hp hf' eo hb r j).symm
  refine (rawN _ _ _ _ _ _ _ _ _ _ _ _ _ _ r j (fun i => at2 (α := EReal) (A := 96) (B := 1536) A (16 * i + 2 * k) (128 * p + j.val)) (fun i => at2 (α := EReal) (A := 96) (B := 1536) A (16 * i + 2 * k + 1) (128 * p + j.val))
    (fun i => at2 (α := EReal) (A := 1440) (B := 128) (a4.view.read (Elt Ideal) f4) (t0 + 240 * i) j.val) (fun i => at2 (α := EReal) (A := 1440) (B := 128) (a4.view.read (Elt Ideal) f4) (t1 + 240 * i) j.val)
    ((readRow c l0 cc hl0 A j).trans (by rw [el0, ec])) ((readRow c l1 cc hl1 A j).trans (by rw [el1, ec])) ((readRow c l2 cc hl2 A j).trans (by rw [el2, ec])) ((readRow c l3 cc hl3 A j).trans (by rw [el3, ec])) ((readRow c l4 cc hl4 A j).trans (by rw [el4, ec])) ((readRow c l5 cc hl5 A j).trans (by rw [el5, ec]))
    ((readRow c m0 cc hm0 A j).trans (by rw [em0, ec])) ((readRow c m1 cc hm1 A j).trans (by rw [em1, ec])) ((readRow c m2 cc hm2 A j).trans (by rw [em2, ec])) ((readRow c m3 cc hm3 A j).trans (by rw [em3, ec])) ((readRow c m4 cc hm4 A j).trans (by rw [em4, ec])) ((readRow c m5 cc hm5 A j).trans (by rw [em5, ec]))
    (fun i => readYrow c a4 f4 t0 (by omega) ht0 i j) (fun i => readYrow c a4 f4 t1 (by omega) ht1 i j)).trans ?_
  have hs : sel A B f r.val (128 * p + j.val) = at2 (α := EReal) (A := 96) (B := 1536) A (16 * (r.val / 2) + 2 * k + r.val % 2) (128 * p + j.val) := by
    subst hf
    interval_cases k <;> rfl
  have hy : ∀ v w : ℕ, v = w → at2 (α := EReal) (A := 1440) (B := 128) (a4.view.read (Elt Ideal) f4) v j.val = at2 (α := EReal) (A := 1440) (B := 128) (a4.view.read (Elt Ideal) f4) w j.val := fun v w e => by rw [e]
  rw [hs]
  rcases Nat.mod_two_eq_zero_or_one r.val with e | e
  · rw [if_pos e, e]; exact congrArg₂ (· + ·) rfl (hy _ _ (by omega))
  · rw [if_neg (by omega), e]; exact congrArg₂ (· + ·) rfl (hy _ _ (by omega))

theorem pieceRest {c : Dev nD} (A : BufOf (F := Ideal) c sc10) (B : BufOf (F := Ideal) c sc11) (a4 : Memref sig .tc .vmem S1440x128 .f32) (f4 : BufOf (F := Ideal) c a4)
    (f h p : ℕ) (hp : p < 12) (hh : h < 2) (hf : f = 3 + 4 * h) (oo cc l m t0 t1 : ℕ)
    (eo : oo = 1536 * f + 128 * p) (ec : cc = 128 * p) (el : l = 16 * h) (em : m = 16 * h + 8)
    (et0 : t0 = 12 * f + p) (et1 : t1 = 120 + (12 * f + p)) (hl : (∀ a, (![l, cc] : Fin 2 → ℕ) a + S6x128.size a ≤ S32x1536.size a)) (hm : (∀ a, (![m, cc] : Fin 2 → ℕ) a + S6x128.size a ≤ S32x1536.size a)) (ht0) (ht1) (hb) (x : S12x128.Idx) :
    (interleaveRows S12x128 (truncf FTy.bf16 (addf (View.readAt (Elt Ideal) sc11.view (Rect.unit (s := S32x1536) ![l, cc] S6x128.size hl).toLoadRect B) (shapeCast S6x128 (View.readAt (Elt Ideal) a4.view { off := ![t0, 0], size := S6x128.size, stride := ![240, 1], inb := ht0 } f4) shapeCasts_S6x128_S6x128)) bitsLt_bf16_f32) (truncf FTy.bf16 (addf (View.readAt (Elt Ideal) sc11.view (Rect.unit (s := S32x1536) ![m, cc] S6x128.size hm).toLoadRect B) (shapeCast S6x128 (View.readAt (Elt Ideal) a4.view { off := ![t1, 0], size := S6x128.size, stride := ![240, 1], inb := ht1 } f4) shapeCasts_S6x128_S6x128)) bitsLt_bf16_f32) bitcasts_S12x128_w16_S6x128_w32 : FVec Ideal S12x128 .bf16) x
      = valOut A B (a4.view.read (Elt Ideal) f4) ((Rect.unit (s := S12x15360) ![0, oo] S12x128.size hb).emb x) := by
  have hf' : f < 10 := by omega
  rw [← ix2_eta (A := 12) (B := 128) x]
  obtain ⟨r, hr⟩ : ∃ r : Fin 12, r = x 0 := ⟨_, rfl⟩
  obtain ⟨j, hj⟩ : ∃ j : Fin 128, j = x 1 := ⟨_, rfl⟩
  rw [← hr, ← hj]
  refine Eq.trans ?_ (valOut_at A B (a4.view.read (Elt Ideal) f4) f p oo hp hf' eo hb r j).symm
  refine (rawR _ _ _ _ r j (fun i => at2 (α := EReal) (A := 32) (B := 1536) B (l + i) (cc + j.val)) (fun i => at2 (α := EReal) (A := 32) (B := 1536) B (m + i) (cc + j.val))
    (fun i => at2 (α := EReal) (A := 1440) (B := 128) (a4.view.read (Elt Ideal) f4) (t0 + 240 * i) j.val) (fun i => at2 (α := EReal) (A := 1440) (B := 128) (a4.view.read (Elt Ideal) f4) (t1 + 240 * i) j.val)
    (fun i => readRows c l cc hl B i j) (fun i => readRows c m cc hm B i j)
    (fun i => readYrow c a4 f4 t0 (by omega) ht0 i j) (fun i => readYrow c a4 f4 t1 (by omega) ht1 i j)).trans ?_
  have hs : sel A B f r.val (128 * p + j.val) = at2 (α := EReal) (A := 32) (B := 1536) B (16 * h + 8 * (r.val % 2) + r.val / 2) (128 * p + j.val) := by
    obtain rfl | rfl : h = 0 ∨ h = 1 := by omega
    · subst hf; show at2 (α := EReal) (A := 32) (B := 1536) B (8 * (r.val % 2) + r.val / 2) (128 * p + j.val) = _
      rw [Nat.mul_zero, Nat.zero_add]
    · subst hf; rfl
  have hy : ∀ v w : ℕ, v = w → at2 (α := EReal) (A := 1440) (B := 128) (a4.view.read (Elt Ideal) f4) v j.val = at2 (α := EReal) (A := 1440) (B := 128) (a4.view.read (Elt Ideal) f4) w j.val := fun v w e => by rw [e]
  have hB : ∀ v w u z : ℕ, v = w → u = z → at2 (α := EReal) (A := 32) (B := 1536) B v u = at2 (α := EReal) (A := 32) (B := 1536) B w z := fun v w u z e e' => by rw [e, e']
  rw [hs]
  rcases Nat.mod_two_eq_zero_or_one r.val with e | e
  · rw [if_pos e, e]; exact congrArg₂ (· + ·) (hB _ _ _ _ (by omega) (by omega)) (hy _ _ (by omega))
  · rw [if_neg (by omega), e]; exact congrArg₂ (· + ·) (hB _ _ _ _ (by omega) (by omega)) (hy _ _ (by omega))

/-- Every piece of a list agrees with the function `G` of the whole buffer. -/
def Fits (G : S12x15360.Idx → EReal) (L : List (View.Piece (Elt Ideal) S12x15360 .bf16)) : Prop := ∀ p ∈ L, ∀ x, p.2 x = G (p.1.emb x)
/-- The output the pieces are compared with. -/
def gOut (c : Dev nD) (a4 : Memref sig .tc .vmem S1440x128 .f32) (h4 : a4.IsWhole) (a5 : Memref sig .tc .vmem S12x15360 .bf16) (h5 : a5.IsWhole) (f0 : BufOf (F := Ideal) c hb0) (f1 : BufOf (F := Ideal) c hb1) (f2 : BufOf (F := Ideal) c hb2) (f3 : BufOf (F := Ideal) c hb3) (f4 : BufOf (F := Ideal) c a4) (d6 : BufOf (F := Ideal) c sc0) (d8 : BufOf (F := Ideal) c sc2) (d9 : BufOf (F := Ideal) c sc3) (d12 : BufOf (F := Ideal) c sc6) : S12x15360.Idx → EReal := valOut (A16 c a4 h4 a5 h5 f0 f1 f2 f3 d6 d8 d9 d12) (A17 c a4 h4 a5 h5 f0 f1 f2 f3 d6 d8 d9 d12) (a4.view.read (Elt Ideal) f4)
end Cert.KernelIdeal.Hand
-- ==== Proof.Ideal.OutP0.lean ====
/- The pieces of the output, some of them. -/
module
public import proofs.«01_k».proof.Proof.Ideal.OutBase
@[expose] public section
set_option maxHeartbeats 0
set_option maxRecDepth 100000
noncomputable section
namespace Cert.KernelIdeal.Hand
open Cert.KernelIdeal Cert.KernelIdeal.Gen
open Idealize.ShloMosaic Idealize.ShloMosaic.TcCoe

variable (c : Dev nD) (a4 : Memref sig .tc .vmem S1440x128 .f32) (h4 : a4.IsWhole) (a5 : Memref sig .tc .vmem S12x15360 .bf16) (h5 : a5.IsWhole) (f0 : BufOf (F := Ideal) c hb0) (f1 : BufOf (F := Ideal) c hb1) (f2 : BufOf (F := Ideal) c hb2) (f3 : BufOf (F := Ideal) c hb3) (f4 : BufOf (F := Ideal) c a4) (d6 : BufOf (F := Ideal) c sc0) (d8 : BufOf (F := Ideal) c sc2) (d9 : BufOf (F := Ideal) c sc3) (d12 : BufOf (F := Ideal) c sc6)
open body_run.sl
theorem outK2 :
    Fits (gOut c a4 h4 a5 h5 f0 f1 f2 f3 f4 d6 d8 d9 d12) (Ha5_2 (F := Ideal) c a4 h4 a5 h5 f0 f1 f2 f3 f4 d6 d8 d9 d12) := by
  unfold Fits gOut Ha5_2
  simp only [r_123, v2890, v2889, v2888, v2887, v2886, v2885, v2880, v2879, v2878, v2877, v2876, v2875, k0_pay723, v2913, v2912, v2911, v2910, v2909, v2908, v2903, v2902, v2901, v2900, v2899, v2898, k0_pay724]
  refine List.forall_mem_cons.2 ⟨pieceN (c := c) _ _ a4 f4 1 1 0 (by norm_num) (by norm_num) rfl 1536 0 2 18 34 50 66 82 3 19 35 51 67 83 12 132 rfl rfl rfl rfl rfl rfl rfl rfl rfl rfl rfl rfl rfl rfl rfl rfl _ _ _ _ _ _ _ _ _ _ _ _ _ _  inb_S12x15360_S12x128_0_1536, ?_⟩
  refine List.forall_mem_cons.2 ⟨pieceN (c := c) _ _ a4 f4 0 0 0 (by norm_num) (by norm_num) rfl 0 0 0 16 32 48 64 80 1 17 33 49 65 81 0 120 rfl rfl rfl rfl rfl rfl rfl rfl rfl rfl rfl rfl rfl rfl rfl rfl _ _ _ _ _ _ _ _ _ _ _ _ _ _  inb_S12x15360_S12x128_0_0, ?_⟩
  exact fun p hp => absurd hp List.not_mem_nil
theorem outK3
    (ih : Fits (gOut c a4 h4 a5 h5 f0 f1 f2 f3 f4 d6 d8 d9 d12) (Ha5_2 (F := Ideal) c a4 h4 a5 h5 f0 f1 f2 f3 f4 d6 d8 d9 d12)) :
    Fits (gOut c a4 h4 a5 h5 f0 f1 f2 f3 f4 d6 d8 d9 d12) (Ha5_3 (F := Ideal) c a4 h4 a5 h5 f0 f1 f2 f3 f4 d6 d8 d9 d12) := by
  unfold Fits gOut at ih
  unfold Fits gOut Ha5_3
  generalize Ha5_2 (F := Ideal) c a4 h4 a5 h5 f0 f1 f2 f3 f4 d6 d8 d9 d12 = L at ih ⊢
  simp only [v2936, v2935, v2934, v2933, v2932, v2931, v2926, v2925, v2924, v2923, v2922, v2921, k0_pay725]
  refine List.forall_mem_cons.2 ⟨pieceN (c := c) _ _ a4 f4 2 2 0 (by norm_num) (by norm_num) rfl 3072 0 4 20 36 52 68 84 5 21 37 53 69 85 24 144 rfl rfl rfl rfl rfl rfl rfl rfl rfl rfl rfl rfl rfl rfl rfl rfl _ _ _ _ _ _ _ _ _ _ _ _ _ _  inb_S12x15360_S12x128_0_3072, ?_⟩
  exact ih
theorem outK4
    (ih : Fits (gOut c a4 h4 a5 h5 f0 f1 f2 f3 f4 d6 d8 d9 d12) (Ha5_3 (F := Ideal) c a4 h4 a5 h5 f0 f1 f2 f3 f4 d6 d8 d9 d12)) :
    Fits (gOut c a4 h4 a5 h5 f0 f1 f2 f3 f4 d6 d8 d9 d12) (Ha5_4 (F := Ideal) c a4 h4 a5 h5 f0 f1 f2 f3 f4 d6 d8 d9 d12) := by
  unfold Fits gOut at ih
  unfold Fits gOut Ha5_4
  generalize Ha5_3 (F := Ideal) c a4 h4 a5 h5 f0 f1 f2 f3 f4 d6 d8 d9 d12 = L at ih ⊢
  simp only [v2948, r_124, k0_pay726, v2944, k0_pay727]
  refine List.forall_mem_cons.2 ⟨pieceRest (c := c) _ _ a4 f4 3 0 0 (by norm_num) (by norm_num) rfl 4608 0 0 8 36 156 rfl rfl rfl rfl rfl rfl _ _ _ _  inb_S12x15360_S12x128_0_4608, ?_⟩
  exact ih
theorem outK5
    (ih : Fits (gOut c a4 h4 a5 h5 f0 f1 f2 f3 f4 d6 d8 d9 d12) (Ha5_4 (F := Ideal) c a4 h4 a5 h5 f0 f1 f2 f3 f4 d6 d8 d9 d12)) :
    Fits (gOut c a4 h4 a5 h5 f0 f1 f2 f3 f4 d6 d8 d9 d12) (Ha5_5 (F := Ideal) c a4 h4 a5 h5 f0 f1 f2 f3 f4 d6 d8 d9 d12) := by
  unfold Fits gOut at ih
  unfold Fits gOut Ha5_5
  generalize Ha5_4 (F := Ideal) c a4 h4 a5 h5 f0 f1 f2 f3 f4 d6 d8 d9 d12 = L at ih ⊢
  simp only [r_126, v2970, v2969, v2968, v2967, v2966, v2965, k0_pay729, r_125, v2960, v2959, v2958, v2957, v2956, v2955, k0_pay728, k0_pay730]
  refine List.forall_mem_cons.2 ⟨pieceN (c := c) _ _ a4 f4 4 3 0 (by norm_num) (by norm_num) rfl 6144 0 6 22 38 54 70 86 7 23 39 55 71 87 48 168 rfl rfl rfl rfl rfl rfl rfl rfl rfl rfl rfl rfl rfl rfl rfl rfl _ _ _ _ _ _ _ _ _ _ _ _ _ _  inb_S12x15360_S12x128_0_6144, ?_⟩
  exact ih
theorem outK6
    (ih : Fits (gOut c a4 h4 a5 h5 f0 f1 f2 f3 f4 d6 d8 d9 d12) (Ha5_5 (F := Ideal) c a4 h4 a5 h5 f0 f1 f2 f3 f4 d6 d8 d9 d12)) :
    Fits (gOut c a4 h4 a5 h5 f0 f1 f2 f3 f4 d6 d8 d9 d12) (Ha5_6 (F := Ideal) c a4 h4 a5 h5 f0 f1 f2 f3 f4 d6 d8 d9 d12) := by
  unfold Fits gOut at ih
  unfold Fits gOut Ha5_6
  generalize Ha5_5 (F := Ideal) c a4 h4 a5 h5 f0 f1 f2 f3 f4 d6 d8 d9 d12 = L at ih ⊢
  simp only [r_128, v2983, v2982, v2981, v2980, v2979, v2978, k0_pay732, r_127, v2993, v2992, v2991, v2990, v2989, v2988, k0_pay731, k0_pay733]
  refine List.forall_mem_cons.2 ⟨pieceN (c := c) _ _ a4 f4 5 4 0 (by norm_num) (by norm_num) rfl 7680 0 8 24 40 56 72 88 9 25 41 57 73 89 60 180 rfl rfl rfl rfl rfl rfl rfl rfl rfl rfl rfl rfl rfl rfl rfl rfl _ _ _ _ _ _ _ _ _ _ _ _ _ _  inb_S12x15360_S12x128_0_7680, ?_⟩
  exact ih
theorem outK8
    (ih : Fits (gOut c a4 h4 a5 h5 f0 f1 f2 f3 f4 d6 d8 d9 d12) (Ha5_6 (F := Ideal) c a4 h4 a5 h5 f0 f1 f2 f3 f4 d6 d8 d9 d12)) :
    Fits (gOut c a4 h4 a5 h5 f0 f1 f2 f3 f4 d6 d8 d9 d12) (Ha5_8 (F := Ideal) c a4 h4 a5 h5 f0 f1 f2 f3 f4 d6 d8 d9 d12) := by
  unfold Fits gOut at ih
  unfold Fits gOut Ha5_8
  generalize Ha5_6 (F := Ideal) c a4 h4 a5 h5 f0 f1 f2 f3 f4 d6 d8 d9 d12 = L at ih ⊢
  simp only [r_129, v3016, v3015, v3014, v3013, v3012, v3011, v3006, v3005, v3004, v3003, v3002, v3001, k0_pay734, v3028, v3024, k0_pay735]
  refine List.forall_mem_cons.2 ⟨pieceRest (c := c) _ _ a4 f4 7 1 0 (by norm_num) (by norm_num) rfl 10752 0 16 24 84 204 rfl rfl rfl rfl rfl rfl _ _ _ _  inb_S12x15360_S12x128_0_10752, ?_⟩
  refine List.forall_mem_cons.2 ⟨pieceN (c := c) _ _ a4 f4 6 5 0 (by norm_num) (by norm_num) rfl 9216 0 10 26 42 58 74 90 11 27 43 59 75 91 72 192 rfl rfl rfl rfl rfl rfl rfl rfl rfl rfl rfl rfl rfl rfl rfl rfl _ _ _ _ _ _ _ _ _ _ _ _ _ _  inb_S12x15360_S12x128_0_9216, ?_⟩
  exact ih
theorem outK9
    (ih : Fits (gOut c a4 h4 a5 h5 f0 f1 f2 f3 f4 d6 d8 d9 d12) (Ha5_8 (F := Ideal) c a4 h4 a5 h5 f0 f1 f2 f3 f4 d6 d8 d9 d12)) :
    Fits (gOut c a4 h4 a5 h5 f0 f1 f2 f3 f4 d6 d8 d9 d12) (Ha5_9 (F := Ideal) c a4 h4 a5 h5 f0 f1 f2 f3 f4 d6 d8 d9 d12) := by
  unfold Fits gOut at ih
  unfold Fits gOut Ha5_9
  generalize Ha5_8 (F := Ideal) c a4 h4 a5 h5 f0 f1 f2 f3 f4 d6 d8 d9 d12 = L at ih ⊢
  simp only [v3050, v3049, v3048, v3047, v3046, v3045, r_130, v3040, v3039, v3038, v3037, v3036, v3035, k0_pay736, k0_pay737]
  refine List.forall_mem_cons.2 ⟨pieceN (c := c) _ _ a4 f4 8 6 0 (by norm_num) (by norm_num) rfl 12288 0 12 28 44 60 76 92 13 29 45 61 77 93 96 216 rfl rfl rfl rfl rfl rfl rfl rfl rfl rfl rfl rfl rfl rfl rfl rfl _ _ _ _ _ _ _ _ _ _ _ _ _ _  inb_S12x15360_S12x128_0_12288, ?_⟩
  exact ih
theorem outK10
    (ih : Fits (gOut c a4 h4 a5 h5 f0 f1 f2 f3 f4 d6 d8 d9 d12) (Ha5_9 (F := Ideal) c a4 h4 a5 h5 f0 f1 f2 f3 f4 d6 d8 d9 d12)) :
    Fits (gOut c a4 h4 a5 h5 f0 f1 f2 f3 f4 d6 d8 d9 d12) (Ha5_10 (F := Ideal) c a4 h4 a5 h5 f0 f1 f2 f3 f4 d6 d8 d9 d12) := by
  unfold Fits gOut at ih
  unfold Fits gOut Ha5_10
  generalize Ha5_9 (F := Ideal) c a4 h4 a5 h5 f0 f1 f2 f3 f4 d6 d8 d9 d12 = L at ih ⊢
  simp only [v3073, v3072, v3071, v3070, v3069, v3068, r_131, v3063, v3062, v3061, v3060, v3059, v3058, k0_pay738, k0_pay739]
  refine List.forall_mem_cons.2 ⟨pieceN (c := c) _ _ a4 f4 9 7 0 (by norm_num) (by norm_num) rfl 13824 0 14 30 46 62 78 94 15 31 47 63 79 95 108 228 rfl rfl rfl rfl rfl rfl rfl rfl rfl rfl rfl rfl rfl rfl rfl rfl _ _ _ _ _ _ _ _ _ _ _ _ _ _  inb_S12x15360_S12x128_0_13824, ?_⟩
  exact ih
theorem outK11
    (ih : Fits (gOut c a4 h4 a5 h5 f0 f1 f2 f3 f4 d6 d8 d9 d12) (Ha5_10 (F := Ideal) c a4 h4 a5 h5 f0 f1 f2 f3 f4 d6 d8 d9 d12)) :
    Fits (gOut c a4 h4 a5 h5 f0 f1 f2 f3 f4 d6 d8 d9 d12) (Ha5_11 (F := Ideal) c a4 h4 a5 h5 f0 f1 f2 f3 f4 d6 d8 d9 d12) := by
  unfold Fits gOut at ih
  unfold Fits gOut Ha5_11
  generalize Ha5_10 (F := Ideal) c a4 h4 a5 h5 f0 f1 f2 f3 f4 d6 d8 d9 d12 = L at ih ⊢
  simp only [r_134, r_133, v3096, v3095, v3094, v3093, v3092, v3091, k0_pay741, r_132, v3086, v3085, v3084, v3083, v3082, v3081, k0_pay740, k0_pay742]
  refine List.forall_mem_cons.2 ⟨pieceN (c := c) _ _ a4 f4 0 0 1 (by norm_num) (by norm_num) rfl 128 128 0 16 32 48 64 80 1 17 33 49 65 81 1 121 rfl rfl rfl rfl rfl rfl rfl rfl rfl rfl rfl rfl rfl rfl rfl rfl _ _ _ _ _ _ _ _ _ _ _ _ _ _  inb_S12x15360_S12x128_0_128, ?_⟩
  exact ih
theorem outK13
    (ih : Fits (gOut c a4 h4 a5 h5 f0 f1 f2 f3 f4 d6 d8 d9 d12) (Ha5_11 (F := Ideal) c a4 h4 a5 h5 f0 f1 f2 f3 f4 d6 d8 d9 d12)) :
    Fits (gOut c a4 h4 a5 h5 f0 f1 f2 f3 f4 d6 d8 d9 d12) (Ha5_13 (F := Ideal) c a4 h4 a5 h5 f0 f1 f2 f3 f4 d6 d8 d9 d12) := by
  unfold Fits gOut at ih
  unfold Fits gOut Ha5_13
  generalize Ha5_11 (F := Ideal) c a4 h4 a5 h5 f0 f1 f2 f3 f4 d6 d8 d9 d12 = L at ih ⊢
  simp only [r_135, v3119, v3118, v3117, v3116, v3115, v3114, v3109, v3108, v3107, v3106, v3105, v3104, k0_pay743, v3142, v3141, v3140, v3139, v3138, v3137, v3132, v3131, v3130, v3129, v3128, v3127, k0_pay744]
  refine List.forall_mem_cons.2 ⟨pieceN (c := c) _ _ a4 f4 2 2 1 (by norm_num) (by norm_num) rfl 3200 128 4 20 36 52 68 84 5 21 37 53 69 85 25 145 rfl rfl rfl rfl rfl rfl rfl rfl rfl rfl rfl rfl rfl rfl rfl rfl _ _ _ _ _ _ _ _ _ _ _ _ _ _  inb_S12x15360_S12x128_0_3200, ?_⟩
  refine List.forall_mem_cons.2 ⟨pieceN (c := c) _ _ a4 f4 1 1 1 (by norm_num) (by norm_num) rfl 1664 128 2 18 34 50 66 82 3 19 35 51 67 83 13 133 rfl rfl rfl rfl rfl rfl rfl rfl rfl rfl rfl rfl rfl rfl rfl rfl _ _ _ _ _ _ _ _ _ _ _ _ _ _  inb_S12x15360_S12x128_0_1664, ?_⟩
  exact ih
theorem outK14
    (ih : Fits (gOut c a4 h4 a5 h5 f0 f1 f2 f3 f4 d6 d8 d9 d12) (Ha5_13 (F := Ideal) c a4 h4 a5 h5 f0 f1 f2 f3 f4 d6 d8 d9 d12)) :
    Fits (gOut c a4 h4 a5 h5 f0 f1 f2 f3 f4 d6 d8 d9 d12) (Ha5_14 (F := Ideal) c a4 h4 a5 h5 f0 f1 f2 f3 f4 d6 d8 d9 d12) := by
  unfold Fits gOut at ih
  unfold Fits gOut Ha5_14
  generalize Ha5_13 (F := Ideal) c a4 h4 a5 h5 f0 f1 f2 f3 f4 d6 d8 d9 d12 = L at ih ⊢
  simp only [v3154, v3150, k0_pay745]
  refine List.forall_mem_cons.2 ⟨pieceRest (c := c) _ _ a4 f4 3 0 1 (by norm_num) (by norm_num) rfl 4736 128 0 8 37 157 rfl rfl rfl rfl rfl rfl _ _ _ _  inb_S12x15360_S12x128_0_4736, ?_⟩
  exact ih
theorem outK15
    (ih : Fits (gOut c a4 h4 a5 h5 f0 f1 f2 f3 f4 d6 d8 d9 d12) (Ha5_14 (F := Ideal) c a4 h4 a5 h5 f0 f1 f2 f3 f4 d6 d8 d9 d12)) :
    Fits (gOut c a4 h4 a5 h5 f0 f1 f2 f3 f4 d6 d8 d9 d12) (Ha5_15 (F := Ideal) c a4 h4 a5 h5 f0 f1 f2 f3 f4 d6 d8 d9 d12) := by
  unfold Fits gOut at ih
  unfold Fits gOut Ha5_15
  generalize Ha5_14 (F := Ideal) c a4 h4 a5 h5 f0 f1 f2 f3 f4 d6 d8 d9 d12 = L at ih ⊢
  simp only [v3176, v3175, v3174, v3173, v3172, v3171, r_136, v3166, v3165, v3164, v3163, v3162, v3161, k0_pay746, k0_pay747]
  refine List.forall_mem_cons.2 ⟨pieceN (c := c) _ _ a4 f4 4 3 1 (by norm_num) (by norm_num) rfl 6272 128 6 22 38 54 70 86 7 23 39 55 71 87 49 169 rfl rfl rfl rfl rfl rfl rfl rfl rfl rfl rfl rfl rfl rfl rfl rfl _ _ _ _ _ _ _ _ _ _ _ _ _ _  inb_S12x15360_S12x128_0_6272, ?_⟩
  exact ih
theorem outK16
    (ih : Fits (gOut c a4 h4 a5 h5 f0 f1 f2 f3 f4 d6 d8 d9 d12) (Ha5_15 (F := Ideal) c a4 h4 a5 h5 f0 f1 f2 f3 f4 d6 d8 d9 d12)) :
    Fits (gOut c a4 h4 a5 h5 f0 f1 f2 f3 f4 d6 d8 d9 d12) (Ha5_16 (F := Ideal) c a4 h4 a5 h5 f0 f1 f2 f3 f4 d6 d8 d9 d12) := by
  unfold Fits gOut at ih
  unfold Fits gOut Ha5_16
  generalize Ha5_15 (F := Ideal) c a4 h4 a5 h5 f0 f1 f2 f3 f4 d6 d8 d9 d12 = L at ih ⊢
  simp only [r_138, v3199, v3198, v3197, v3196, v3195, v3194, k0_pay749, r_137, v3189, v3188, v3187, v3186, v3185, v3184, k0_pay748, k0_pay750]
  refine List.forall_mem_cons.2 ⟨pieceN (c := c) _ _ a4 f4 5 4 1 (by norm_num) (by norm_num) rfl 7808 128 8 24 40 56 72 88 9 25 41 57 73 89 61 181 rfl rfl rfl rfl rfl rfl rfl rfl rfl rfl rfl rfl rfl rfl rfl rfl _ _ _ _ _ _ _ _ _ _ _ _ _ _  inb_S12x15360_S12x128_0_7808, ?_⟩
  exact ih
theorem outK18
    (ih : Fits (gOut c a4 h4 a5 h5 f0 f1 f2 f3 f4 d6 d8 d9 d12) (Ha5_16 (F := Ideal) c a4 h4 a5 h5 f0 f1 f2 f3 f4 d6 d8 d9 d12)) :
    Fits (gOut c a4 h4 a5 h5 f0 f1 f2 f3 f4 d6 d8 d9 d12) (Ha5_18 (F := Ideal) c a4 h4 a5 h5 f0 f1 f2 f3 f4 d6 d8 d9 d12) := by
  unfold Fits gOut at ih
  unfold Fits gOut Ha5_18
  generalize Ha5_16 (F := Ideal) c a4 h4 a5 h5 f0 f1 f2 f3 f4 d6 d8 d9 d12 = L at ih ⊢
  simp only [r_140, v3222, v3221, v3220, v3219, v3218, v3217, k0_pay752, r_139, v3212, v3211, v3210, v3209, v3208, v3207, k0_pay751, k0_pay753, v3234, v3230, k0_pay754]
  refine List.forall_mem_cons.2 ⟨pieceRest (c := c) _ _ a4 f4 7 1 1 (by norm_num) (by norm_num) rfl 10880 128 16 24 85 205 rfl rfl rfl rfl rfl rfl _ _ _ _  inb_S12x15360_S12x128_0_10880, ?_⟩
  refine List.forall_mem_cons.2 ⟨pieceN (c := c) _ _ a4 f4 6 5 1 (by norm_num) (by norm_num) rfl 9344 128 10 26 42 58 74 90 11 27 43 59 75 91 73 193 rfl rfl rfl rfl rfl rfl rfl rfl rfl rfl rfl rfl rfl rfl rfl rfl _ _ _ _ _ _ _ _ _ _ _ _ _ _  inb_S12x15360_S12x128_0_9344, ?_⟩
  exact ih
theorem outK19
    (ih : Fits (gOut c a4 h4 a5 h5 f0 f1 f2 f3 f4 d6 d8 d9 d12) (Ha5_18 (F := Ideal) c a4 h4 a5 h5 f0 f1 f2 f3 f4 d6 d8 d9 d12)) :
    Fits (gOut c a4 h4 a5 h5 f0 f1 f2 f3 f4 d6 d8 d9 d12) (Ha5_19 (F := Ideal) c a4 h4 a5 h5 f0 f1 f2 f3 f4 d6 d8 d9 d12) := by
  unfold Fits gOut at ih
  unfold Fits gOut Ha5_19
  generalize Ha5_18 (F := Ideal) c a4 h4 a5 h5 f0 f1 f2 f3 f4 d6 d8 d9 d12 = L at ih ⊢
  simp only [v3256, v3255, v3254, v3253, v3252, v3251, r_141, v3246, v3245, v3244, v3243, v3242, v3241, k0_pay755, k0_pay756]
  refine List.forall_mem_cons.2 ⟨pieceN (c := c) _ _ a4 f4 8 6 1 (by norm_num) (by norm_num) rfl 12416 128 12 28 44 60 76 92 13 29 45 61 77 93 97 217 rfl rfl rfl rfl rfl rfl rfl rfl rfl rfl rfl rfl rfl rfl rfl rfl _ _ _ _ _ _ _ _ _ _ _ _ _ _  inb_S12x15360_S12x128_0_12416, ?_⟩
  exact ih
end Cert.KernelIdeal.Hand
-- ==== Proof.Ideal.OutP1.lean ====
/- The pieces of the output, some of them. -/
module
public import proofs.«01_k».proof.Proof.Ideal.OutBase
@[expose] public section
set_option maxHeartbeats 0
set_option maxRecDepth 100000
noncomputable section
namespace Cert.KernelIdeal.Hand
open Cert.KernelIdeal Cert.KernelIdeal.Gen
open Idealize.ShloMosaic Idealize.ShloMosaic.TcCoe

variable (c : Dev nD) (a4 : Memref sig .tc .vmem S1440x128 .f32) (h4 : a4.IsWhole) (a5 : Memref sig .tc .vmem S12x15360 .bf16) (h5 : a5.IsWhole) (f0 : BufOf (F := Ideal) c hb0) (f1 : BufOf (F := Ideal) c hb1) (f2 : BufOf (F := Ideal) c hb2) (f3 : BufOf (F := Ideal) c hb3) (f4 : BufOf (F := Ideal) c a4) (d6 : BufOf (F := Ideal) c sc0) (d8 : BufOf (F := Ideal) c sc2) (d9 : BufOf (F := Ideal) c sc3) (d12 : BufOf (F := Ideal) c sc6)
open body_run.sl
theorem outK20
    (ih : Fits (gOut c a4 h4 a5 h5 f0 f1 f2 f3 f4 d6 d8 d9 d12) (Ha5_19 (F := Ideal) c a4 h4 a5 h5 f0 f1 f2 f3 f4 d6 d8 d9 d12)) :
    Fits (gOut c a4 h4 a5 h5 f0 f1 f2 f3 f4 d6 d8 d9 d12) (Ha5_20 (F := Ideal) c a4 h4 a5 h5 f0 f1 f2 f3 f4 d6 d8 d9 d12) := by
  unfold Fits gOut at ih
  unfold Fits gOut Ha5_20
  generalize Ha5_19 (F := Ideal) c a4 h4 a5 h5 f0 f1 f2 f3 f4 d6 d8 d9 d12 = L at ih ⊢
  simp only [v3279, v3278, v3277, v3276, v3275, v3274, r_142, v3269, v3268, v3267, v3266, v3265, v3264, k0_pay757, k0_pay758]
  refine List.forall_mem_cons.2 ⟨pieceN (c := c) _ _ a4 f4 9 7 1 (by norm_num) (by norm_num) rfl 13952 128 14 30 46 62 78 94 15 31 47 63 79 95 109 229 rfl rfl rfl rfl rfl rfl rfl rfl rfl rfl rfl rfl rfl rfl rfl rfl _ _ _ _ _ _ _ _ _ _ _ _ _ _  inb_S12x15360_S12x128_0_13952, ?_⟩
  exact ih
theorem outK21
    (ih : Fits (gOut c a4 h4 a5 h5 f0 f1 f2 f3 f4 d6 d8 d9 d12) (Ha5_20 (F := Ideal) c a4 h4 a5 h5 f0 f1 f2 f3 f4 d6 d8 d9 d12)) :
    Fits (gOut c a4 h4 a5 h5 f0 f1 f2 f3 f4 d6 d8 d9 d12) (Ha5_21 (F := Ideal) c a4 h4 a5 h5 f0 f1 f2 f3 f4 d6 d8 d9 d12) := by
  unfold Fits gOut at ih
  unfold Fits gOut Ha5_21
  generalize Ha5_20 (F := Ideal) c a4 h4 a5 h5 f0 f1 f2 f3 f4 d6 d8 d9 d12 = L at ih ⊢
  simp only [v3302, v3301, v3300, v3299, v3298, v3297, r_143, v3292, v3291, v3290, v3289, v3288, v3287, k0_pay759, k0_pay760]
  refine List.forall_mem_cons.2 ⟨pieceN (c := c) _ _ a4 f4 0 0 2 (by norm_num) (by norm_num) rfl 256 256 0 16 32 48 64 80 1 17 33 49 65 81 2 122 rfl rfl rfl rfl rfl rfl rfl rfl rfl rfl rfl rfl rfl rfl rfl rfl _ _ _ _ _ _ _ _ _ _ _ _ _ _  inb_S12x15360_S12x128_0_256, ?_⟩
  exact ih
theorem outK22
    (ih : Fits (gOut c a4 h4 a5 h5 f0 f1 f2 f3 f4 d6 d8 d9 d12) (Ha5_21 (F := Ideal) c a4 h4 a5 h5 f0 f1 f2 f3 f4 d6 d8 d9 d12)) :
    Fits (gOut c a4 h4 a5 h5 f0 f1 f2 f3 f4 d6 d8 d9 d12) (Ha5_22 (F := Ideal) c a4 h4 a5 h5 f0 f1 f2 f3 f4 d6 d8 d9 d12) := by
  unfold Fits gOut at ih
  unfold Fits gOut Ha5_22
  generalize Ha5_21 (F := Ideal) c a4 h4 a5 h5 f0 f1 f2 f3 f4 d6 d8 d9 d12 = L at ih ⊢
  simp only [r_145, v3325, v3324, v3323, v3322, v3321, v3320, k0_pay762, r_144, v3315, v3314, v3313, v3312, v3311, v3310, k0_pay761, k0_pay763]
  refine List.forall_mem_cons.2 ⟨pieceN (c := c) _ _ a4 f4 1 1 2 (by norm_num) (by norm_num) rfl 1792 256 2 18 34 50 66 82 3 19 35 51 67 83 14 134 rfl rfl rfl rfl rfl rfl rfl rfl rfl rfl rfl rfl rfl rfl rfl rfl _ _ _ _ _ _ _ _ _ _ _ _ _ _  inb_S12x15360_S12x128_0_1792, ?_⟩
  exact ih
theorem outK24
    (ih : Fits (gOut c a4 h4 a5 h5 f0 f1 f2 f3 f4 d6 d8 d9 d12) (Ha5_22 (F := Ideal) c a4 h4 a5 h5 f0 f1 f2 f3 f4 d6 d8 d9 d12)) :
    Fits (gOut c a4 h4 a5 h5 f0 f1 f2 f3 f4 d6 d8 d9 d12) (Ha5_24 (F := Ideal) c a4 h4 a5 h5 f0 f1 f2 f3 f4 d6 d8 d9 d12) := by
  unfold Fits gOut at ih
  unfold Fits gOut Ha5_24
  generalize Ha5_22 (F := Ideal) c a4 h4 a5 h5 f0 f1 f2 f3 f4 d6 d8 d9 d12 = L at ih ⊢
  simp only [r_147, v3348, v3347, v3346, v3345, v3344, v3343, k0_pay765, r_146, v3338, v3337, v3336, v3335, v3334, v3333, k0_pay764, k0_pay766, v3360, v3356, k0_pay767]
  refine List.forall_mem_cons.2 ⟨pieceRest (c := c) _ _ a4 f4 3 0 2 (by norm_num) (by norm_num) rfl 4864 256 0 8 38 158 rfl rfl rfl rfl rfl rfl _ _ _ _  inb_S12x15360_S12x128_0_4864, ?_⟩
  refine List.forall_mem_cons.2 ⟨pieceN (c := c) _ _ a4 f4 2 2 2 (by norm_num) (by norm_num) rfl 3328 256 4 20 36 52 68 84 5 21 37 53 69 85 26 146 rfl rfl rfl rfl rfl rfl rfl rfl rfl rfl rfl rfl rfl rfl rfl rfl _ _ _ _ _ _ _ _ _ _ _ _ _ _  inb_S12x15360_S12x128_0_3328, ?_⟩
  exact ih
theorem outK25
    (ih : Fits (gOut c a4 h4 a5 h5 f0 f1 f2 f3 f4 d6 d8 d9 d12) (Ha5_24 (F := Ideal) c a4 h4 a5 h5 f0 f1 f2 f3 f4 d6 d8 d9 d12)) :
    Fits (gOut c a4 h4 a5 h5 f0 f1 f2 f3 f4 d6 d8 d9 d12) (Ha5_25 (F := Ideal) c a4 h4 a5 h5 f0 f1 f2 f3 f4 d6 d8 d9 d12) := by
  unfold Fits gOut at ih
  unfold Fits gOut Ha5_25
  generalize Ha5_24 (F := Ideal) c a4 h4 a5 h5 f0 f1 f2 f3 f4 d6 d8 d9 d12 = L at ih ⊢
  simp only [v3382, v3381, v3380, v3379, v3378, v3377, r_148, v3372, v3371, v3370, v3369, v3368, v3367, k0_pay768, k0_pay769]
  refine List.forall_mem_cons.2 ⟨pieceN (c := c) _ _ a4 f4 4 3 2 (by norm_num) (by norm_num) rfl 6400 256 6 22 38 54 70 86 7 23 39 55 71 87 50 170 rfl rfl rfl rfl rfl rfl rfl rfl rfl rfl rfl rfl rfl rfl rfl rfl _ _ _ _ _ _ _ _ _ _ _ _ _ _  inb_S12x15360_S12x128_0_6400, ?_⟩
  exact ih
theorem outK26
    (ih : Fits (gOut c a4 h4 a5 h5 f0 f1 f2 f3 f4 d6 d8 d9 d12) (Ha5_25 (F := Ideal) c a4 h4 a5 h5 f0 f1 f2 f3 f4 d6 d8 d9 d12)) :
    Fits (gOut c a4 h4 a5 h5 f0 f1 f2 f3 f4 d6 d8 d9 d12) (Ha5_26 (F := Ideal) c a4 h4 a5 h5 f0 f1 f2 f3 f4 d6 d8 d9 d12) := by
  unfold Fits gOut at ih
  unfold Fits gOut Ha5_26
  generalize Ha5_25 (F := Ideal) c a4 h4 a5 h5 f0 f1 f2 f3 f4 d6 d8 d9 d12 = L at ih ⊢
  simp only [v3405, v3404, v3403, v3402, v3401, v3400, r_149, v3395, v3394, v3393, v3392, v3391, v3390, k0_pay770, k0_pay771]
  refine List.forall_mem_cons.2 ⟨pieceN (c := c) _ _ a4 f4 5 4 2 (by norm_num) (by norm_num) rfl 7936 256 8 24 40 56 72 88 9 25 41 57 73 89 62 182 rfl rfl rfl rfl rfl rfl rfl rfl rfl rfl rfl rfl rfl rfl rfl rfl _ _ _ _ _ _ _ _ _ _ _ _ _ _  inb_S12x15360_S12x128_0_7936, ?_⟩
  exact ih
theorem outK28
    (ih : Fits (gOut c a4 h4 a5 h5 f0 f1 f2 f3 f4 d6 d8 d9 d12) (Ha5_26 (F := Ideal) c a4 h4 a5 h5 f0 f1 f2 f3 f4 d6 d8 d9 d12)) :
    Fits (gOut c a4 h4 a5 h5 f0 f1 f2 f3 f4 d6 d8 d9 d12) (Ha5_28 (F := Ideal) c a4 h4 a5 h5 f0 f1 f2 f3 f4 d6 d8 d9 d12) := by
  unfold Fits gOut at ih
  unfold Fits gOut Ha5_28
  generalize Ha5_26 (F := Ideal) c a4 h4 a5 h5 f0 f1 f2 f3 f4 d6 d8 d9 d12 = L at ih ⊢
  simp only [v3428, v3427, v3426, v3425, v3424, v3423, r_150, v3418, v3417, v3416, v3415, v3414, v3413, k0_pay772, k0_pay773, v3440, v3436, k0_pay774]
  refine List.forall_mem_cons.2 ⟨pieceRest (c := c) _ _ a4 f4 7 1 2 (by norm_num) (by norm_num) rfl 11008 256 16 24 86 206 rfl rfl rfl rfl rfl rfl _ _ _ _  inb_S12x15360_S12x128_0_11008, ?_⟩
  refine List.forall_mem_cons.2 ⟨pieceN (c := c) _ _ a4 f4 6 5 2 (by norm_num) (by norm_num) rfl 9472 256 10 26 42 58 74 90 11 27 43 59 75 91 74 194 rfl rfl rfl rfl rfl rfl rfl rfl rfl rfl rfl rfl rfl rfl rfl rfl _ _ _ _ _ _ _ _ _ _ _ _ _ _  inb_S12x15360_S12x128_0_9472, ?_⟩
  exact ih
theorem outK29
    (ih : Fits (gOut c a4 h4 a5 h5 f0 f1 f2 f3 f4 d6 d8 d9 d12) (Ha5_28 (F := Ideal) c a4 h4 a5 h5 f0 f1 f2 f3 f4 d6 d8 d9 d12)) :
    Fits (gOut c a4 h4 a5 h5 f0 f1 f2 f3 f4 d6 d8 d9 d12) (Ha5_29 (F := Ideal) c a4 h4 a5 h5 f0 f1 f2 f3 f4 d6 d8 d9 d12) := by
  unfold Fits gOut at ih
  unfold Fits gOut Ha5_29
  generalize Ha5_28 (F := Ideal) c a4 h4 a5 h5 f0 f1 f2 f3 f4 d6 d8 d9 d12 = L at ih ⊢
  simp only [v3462, v3461, v3460, v3459, v3458, v3457, r_151, v3452, v3451, v3450, v3449, v3448, v3447, k0_pay775, k0_pay776]
  refine List.forall_mem_cons.2 ⟨pieceN (c := c) _ _ a4 f4 8 6 2 (by norm_num) (by norm_num) rfl 12544 256 12 28 44 60 76 92 13 29 45 61 77 93 98 218 rfl rfl rfl rfl rfl rfl rfl rfl rfl rfl rfl rfl rfl rfl rfl rfl _ _ _ _ _ _ _ _ _ _ _ _ _ _  inb_S12x15360_S12x128_0_12544, ?_⟩
  exact ih
theorem outK30
    (ih : Fits (gOut c a4 h4 a5 h5 f0 f1 f2 f3 f4 d6 d8 d9 d12) (Ha5_29 (F := Ideal) c a4 h4 a5 h5 f0 f1 f2 f3 f4 d6 d8 d9 d12)) :
    Fits (gOut c a4 h4 a5 h5 f0 f1 f2 f3 f4 d6 d8 d9 d12) (Ha5_30 (F := Ideal) c a4 h4 a5 h5 f0 f1 f2 f3 f4 d6 d8 d9 d12) := by
  unfold Fits gOut at ih
  unfold Fits gOut Ha5_30
  generalize Ha5_29 (F := Ideal) c a4 h4 a5 h5 f0 f1 f2 f3 f4 d6 d8 d9 d12 = L at ih ⊢
  simp only [v3485, v3484, v3483, v3482, v3481, v3480, r_152, v3475, v3474, v3473, v3472, v3471, v3470, k0_pay777, k0_pay778]
  refine List.forall_mem_cons.2 ⟨pieceN (c := c) _ _ a4 f4 9 7 2 (by norm_num) (by norm_num) rfl 14080 256 14 30 46 62 78 94 15 31 47 63 79 95 110 230 rfl rfl rfl rfl rfl rfl rfl rfl rfl rfl rfl rfl rfl rfl rfl rfl _ _ _ _ _ _ _ _ _ _ _ _ _ _  inb_S12x15360_S12x128_0_14080, ?_⟩
  exact ih
theorem outK31
    (ih : Fits (gOut c a4 h4 a5 h5 f0 f1 f2 f3 f4 d6 d8 d9 d12) (Ha5_30 (F := Ideal) c a4 h4 a5 h5 f0 f1 f2 f3 f4 d6 d8 d9 d12)) :
    Fits (gOut c a4 h4 a5 h5 f0 f1 f2 f3 f4 d6 d8 d9 d12) (Ha5_31 (F := Ideal) c a4 h4 a5 h5 f0 f1 f2 f3 f4 d6 d8 d9 d12) := by
  unfold Fits gOut at ih
  unfold Fits gOut Ha5_31
  generalize Ha5_30 (F := Ideal) c a4 h4 a5 h5 f0 f1 f2 f3 f4 d6 d8 d9 d12 = L at ih ⊢
  simp only [v3508, v3507, v3506, v3505, v3504, v3503, r_153, v3498, v3497, v3496, v3495, v3494, v3493, k0_pay779, k0_pay780]
  refine List.forall_mem_cons.2 ⟨pieceN (c := c) _ _ a4 f4 0 0 3 (by norm_num) (by norm_num) rfl 384 384 0 16 32 48 64 80 1 17 33 49 65 81 3 123 rfl rfl rfl rfl rfl rfl rfl rfl rfl rfl rfl rfl rfl rfl rfl rfl _ _ _ _ _ _ _ _ _ _ _ _ _ _  inb_S12x15360_S12x128_0_384, ?_⟩
  exact ih
theorem outK32
    (ih : Fits (gOut c a4 h4 a5 h5 f0 f1 f2 f3 f4 d6 d8 d9 d12) (Ha5_31 (F := Ideal) c a4 h4 a5 h5 f0 f1 f2 f3 f4 d6 d8 d9 d12)) :
    Fits (gOut c a4 h4 a5 h5 f0 f1 f2 f3 f4 d6 d8 d9 d12) (Ha5_32 (F := Ideal) c a4 h4 a5 h5 f0 f1 f2 f3 f4 d6 d8 d9 d12) := by
  unfold Fits gOut at ih
  unfold Fits gOut Ha5_32
  generalize Ha5_31 (F := Ideal) c a4 h4 a5 h5 f0 f1 f2 f3 f4 d6 d8 d9 d12 = L at ih ⊢
  simp only [v3531, v3530, v3529, v3528, v3527, v3526, r_154, v3521, v3520, v3519, v3518, v3517, v3516, k0_pay781, k0_pay782]
  refine List.forall_mem_cons.2 ⟨pieceN (c := c) _ _ a4 f4 1 1 3 (by norm_num) (by norm_num) rfl 1920 384 2 18 34 50 66 82 3 19 35 51 67 83 15 135 rfl rfl rfl rfl rfl rfl rfl rfl rfl rfl rfl rfl rfl rfl rfl rfl _ _ _ _ _ _ _ _ _ _ _ _ _ _  inb_S12x15360_S12x128_0_1920, ?_⟩
  exact ih
theorem outK34
    (ih : Fits (gOut c a4 h4 a5 h5 f0 f1 f2 f3 f4 d6 d8 d9 d12) (Ha5_32 (F := Ideal) c a4 h4 a5 h5 f0 f1 f2 f3 f4 d6 d8 d9 d12)) :
    Fits (gOut c a4 h4 a5 h5 f0 f1 f2 f3 f4 d6 d8 d9 d12) (Ha5_34 (F := Ideal) c a4 h4 a5 h5 f0 f1 f2 f3 f4 d6 d8 d9 d12) := by
  unfold Fits gOut at ih
  unfold Fits gOut Ha5_34
  generalize Ha5_32 (F := Ideal) c a4 h4 a5 h5 f0 f1 f2 f3 f4 d6 d8 d9 d12 = L at ih ⊢
  simp only [r_156, v3554, v3553, v3552, v3551, v3550, v3549, k0_pay784, r_155, v3544, v3543, v3542, v3541, v3540, v3539, k0_pay783, k0_pay785, v3566, v3562, k0_pay786]
  refine List.forall_mem_cons.2 ⟨pieceRest (c := c) _ _ a4 f4 3 0 3 (by norm_num) (by norm_num) rfl 4992 384 0 8 39 159 rfl rfl rfl rfl rfl rfl _ _ _ _  inb_S12x15360_S12x128_0_4992, ?_⟩
  refine List.forall_mem_cons.2 ⟨pieceN (c := c) _ _ a4 f4 2 2 3 (by norm_num) (by norm_num) rfl 3456 384 4 20 36 52 68 84 5 21 37 53 69 85 27 147 rfl rfl rfl rfl rfl rfl rfl rfl rfl rfl rfl rfl rfl rfl rfl rfl _ _ _ _ _ _ _ _ _ _ _ _ _ _  inb_S12x15360_S12x128_0_3456, ?_⟩
  exact ih
theorem outK35
    (ih : Fits (gOut c a4 h4 a5 h5 f0 f1 f2 f3 f4 d6 d8 d9 d12) (Ha5_34 (F := Ideal) c a4 h4 a5 h5 f0 f1 f2 f3 f4 d6 d8 d9 d12)) :
    Fits (gOut c a4 h4 a5 h5 f0 f1 f2 f3 f4 d6 d8 d9 d12) (Ha5_35 (F := Ideal) c a4 h4 a5 h5 f0 f1 f2 f3 f4 d6 d8 d9 d12) := by
  unfold Fits gOut at ih
  unfold Fits gOut Ha5_35
  generalize Ha5_34 (F := Ideal) c a4 h4 a5 h5 f0 f1 f2 f3 f4 d6 d8 d9 d12 = L at ih ⊢
  simp only [v3588, v3587, v3586, v3585, v3584, v3583, r_157, v3578, v3577, v3576, v3575, v3574, v3573, k0_pay787, k0_pay788]
  refine List.forall_mem_cons.2 ⟨pieceN (c := c) _ _ a4 f4 4 3 3 (by norm_num) (by norm_num) rfl 6528 384 6 22 38 54 70 86 7 23 39 55 71 87 51 171 rfl rfl rfl rfl rfl rfl rfl rfl rfl rfl rfl rfl rfl rfl rfl rfl _ _ _ _ _ _ _ _ _ _ _ _ _ _  inb_S12x15360_S12x128_0_6528, ?_⟩
  exact ih
theorem outK36
    (ih : Fits (gOut c a4 h4 a5 h5 f0 f1 f2 f3 f4 d6 d8 d9 d12) (Ha5_35 (F := Ideal) c a4 h4 a5 h5 f0 f1 f2 f3 f4 d6 d8 d9 d12)) :
    Fits (gOut c a4 h4 a5 h5 f0 f1 f2 f3 f4 d6 d8 d9 d12) (Ha5_36 (F := Ideal) c a4 h4 a5 h5 f0 f1 f2 f3 f4 d6 d8 d9 d12) := by
  unfold Fits gOut at ih
  unfold Fits gOut Ha5_36
  generalize Ha5_35 (F := Ideal) c a4 h4 a5 h5 f0 f1 f2 f3 f4 d6 d8 d9 d12 = L at ih ⊢
  simp only [v3611, v3610, v3609, v3608, v3607, v3606, r_158, v3601, v3600, v3599, v3598, v3597, v3596, k0_pay789, k0_pay790]
  refine List.forall_mem_cons.2 ⟨pieceN (c := c) _ _ a4 f4 5 4 3 (by norm_num) (by norm_num) rfl 8064 384 8 24 40 56 72 88 9 25 41 57 73 89 63 183 rfl rfl rfl rfl rfl rfl rfl rfl rfl rfl rfl rfl rfl rfl rfl rfl _ _ _ _ _ _ _ _ _ _ _ _ _ _  inb_S12x15360_S12x128_0_8064, ?_⟩
  exact ih
theorem outK38
    (ih : Fits (gOut c a4 h4 a5 h5 f0 f1 f2 f3 f4 d6 d8 d9 d12) (Ha5_36 (F := Ideal) c a4 h4 a5 h5 f0 f1 f2 f3 f4 d6 d8 d9 d12)) :
    Fits (gOut c a4 h4 a5 h5 f0 f1 f2 f3 f4 d6 d8 d9 d12) (Ha5_38 (F := Ideal) c a4 h4 a5 h5 f0 f1 f2 f3 f4 d6 d8 d9 d12) := by
  unfold Fits gOut at ih
  unfold Fits gOut Ha5_38
  generalize Ha5_36 (F := Ideal) c a4 h4 a5 h5 f0 f1 f2 f3 f4 d6 d8 d9 d12 = L at ih ⊢
  simp only [v3634, v3633, v3632, v3631, v3630, v3629, r_159, v3624, v3623, v3622, v3621, v3620, v3619, k0_pay791, k0_pay792, v3646, v3642, k0_pay793]
  refine List.forall_mem_cons.2 ⟨pieceRest (c := c) _ _ a4 f4 7 1 3 (by norm_num) (by norm_num) rfl 11136 384 16 24 87 207 rfl rfl rfl rfl rfl rfl _ _ _ _  inb_S12x15360_S12x128_0_11136, ?_⟩
  refine List.forall_mem_cons.2 ⟨pieceN (c := c) _ _ a4 f4 6 5 3 (by norm_num) (by norm_num) rfl 9600 384 10 26 42 58 74 90 11 27 43 59 75 91 75 195 rfl rfl rfl rfl rfl rfl rfl rfl rfl rfl rfl rfl rfl rfl rfl rfl _ _ _ _ _ _ _ _ _ _ _ _ _ _  inb_S12x15360_S12x128_0_9600, ?_⟩
  exact ih
theorem outK39
    (ih : Fits (gOut c a4 h4 a5 h5 f0 f1 f2 f3 f4 d6 d8 d9 d12) (Ha5_38 (F := Ideal) c a4 h4 a5 h5 f0 f1 f2 f3 f4 d6 d8 d9 d12)) :
    Fits (gOut c a4 h4 a5 h5 f0 f1 f2 f3 f4 d6 d8 d9 d12) (Ha5_39 (F := Ideal) c a4 h4 a5 h5 f0 f1 f2 f3 f4 d6 d8 d9 d12) := by
  unfold Fits gOut at ih
  unfold Fits gOut Ha5_39
  generalize Ha5_38 (F := Ideal) c a4 h4 a5 h5 f0 f1 f2 f3 f4 d6 d8 d9 d12 = L at ih ⊢
  simp only [v3668, v3667, v3666, v3665, v3664, v3663, v3658, v3657, v3656, v3655, v3654, v3653, k0_pay794]
  refine List.forall_mem_cons.2 ⟨pieceN (c := c) _ _ a4 f4 8 6 3 (by norm_num) (by norm_num) rfl 12672 384 12 28 44 60 76 92 13 29 45 61 77 93 99 219 rfl rfl rfl rfl rfl rfl rfl rfl rfl rfl rfl rfl rfl rfl rfl rfl _ _ _ _ _ _ _ _ _ _ _ _ _ _  inb_S12x15360_S12x128_0_12672, ?_⟩
  exact ih
end Cert.KernelIdeal.Hand
-- ==== Proof.Ideal.OutP2.lean ====
/- The pieces of the output, some of them. -/
module
public import proofs.«01_k».proof.Proof.Ideal.OutBase
@[expose] public section
set_option maxHeartbeats 0
set_option maxRecDepth 100000
noncomputable section
namespace Cert.KernelIdeal.Hand
open Cert.KernelIdeal Cert.KernelIdeal.Gen
open Idealize.ShloMosaic Idealize.ShloMosaic.TcCoe

variable (c : Dev nD) (a4 : Memref sig .tc .vmem S1440x128 .f32) (h4 : a4.IsWhole) (a5 : Memref sig .tc .vmem S12x15360 .bf16) (h5 : a5.IsWhole) (f0 : BufOf (F := Ideal) c hb0) (f1 : BufOf (F := Ideal) c hb1) (f2 : BufOf (F := Ideal) c hb2) (f3 : BufOf (F := Ideal) c hb3) (f4 : BufOf (F := Ideal) c a4) (d6 : BufOf (F := Ideal) c sc0) (d8 : BufOf (F := Ideal) c sc2) (d9 : BufOf (F := Ideal) c sc3) (d12 : BufOf (F := Ideal) c sc6)
open body_run.sl
theorem outK40
    (ih : Fits (gOut c a4 h4 a5 h5 f0 f1 f2 f3 f4 d6 d8 d9 d12) (Ha5_39 (F := Ideal) c a4 h4 a5 h5 f0 f1 f2 f3 f4 d6 d8 d9 d12)) :
    Fits (gOut c a4 h4 a5 h5 f0 f1 f2 f3 f4 d6 d8 d9 d12) (Ha5_40 (F := Ideal) c a4 h4 a5 h5 f0 f1 f2 f3 f4 d6 d8 d9 d12) := by
  unfold Fits gOut at ih
  unfold Fits gOut Ha5_40
  generalize Ha5_39 (F := Ideal) c a4 h4 a5 h5 f0 f1 f2 f3 f4 d6 d8 d9 d12 = L at ih ⊢
  simp only [v3691, v3690, v3689, v3688, v3687, v3686, r_161, k0_pay796, r_160, v3681, v3680, v3679, v3678, v3677, v3676, k0_pay795, k0_pay797]
  refine List.forall_mem_cons.2 ⟨pieceN (c := c) _ _ a4 f4 9 7 3 (by norm_num) (by norm_num) rfl 14208 384 14 30 46 62 78 94 15 31 47 63 79 95 111 231 rfl rfl rfl rfl rfl rfl rfl rfl rfl rfl rfl rfl rfl rfl rfl rfl _ _ _ _ _ _ _ _ _ _ _ _ _ _  inb_S12x15360_S12x128_0_14208, ?_⟩
  exact ih
theorem outK41
    (ih : Fits (gOut c a4 h4 a5 h5 f0 f1 f2 f3 f4 d6 d8 d9 d12) (Ha5_40 (F := Ideal) c a4 h4 a5 h5 f0 f1 f2 f3 f4 d6 d8 d9 d12)) :
    Fits (gOut c a4 h4 a5 h5 f0 f1 f2 f3 f4 d6 d8 d9 d12) (Ha5_41 (F := Ideal) c a4 h4 a5 h5 f0 f1 f2 f3 f4 d6 d8 d9 d12) := by
  unfold Fits gOut at ih
  unfold Fits gOut Ha5_41
  generalize Ha5_40 (F := Ideal) c a4 h4 a5 h5 f0 f1 f2 f3 f4 d6 d8 d9 d12 = L at ih ⊢
  simp only [v3714, v3713, v3712, v3711, v3710, v3709, r_162, v3704, v3703, v3702, v3701, v3700, v3699, k0_pay798, k0_pay799]
  refine List.forall_mem_cons.2 ⟨pieceN (c := c) _ _ a4 f4 0 0 4 (by norm_num) (by norm_num) rfl 512 512 0 16 32 48 64 80 1 17 33 49 65 81 4 124 rfl rfl rfl rfl rfl rfl rfl rfl rfl rfl rfl rfl rfl rfl rfl rfl _ _ _ _ _ _ _ _ _ _ _ _ _ _  inb_S12x15360_S12x128_0_512, ?_⟩
  exact ih
theorem outK42
    (ih : Fits (gOut c a4 h4 a5 h5 f0 f1 f2 f3 f4 d6 d8 d9 d12) (Ha5_41 (F := Ideal) c a4 h4 a5 h5 f0 f1 f2 f3 f4 d6 d8 d9 d12)) :
    Fits (gOut c a4 h4 a5 h5 f0 f1 f2 f3 f4 d6 d8 d9 d12) (Ha5_42 (F := Ideal) c a4 h4 a5 h5 f0 f1 f2 f3 f4 d6 d8 d9 d12) := by
  unfold Fits gOut at ih
  unfold Fits gOut Ha5_42
  generalize Ha5_41 (F := Ideal) c a4 h4 a5 h5 f0 f1 f2 f3 f4 d6 d8 d9 d12 = L at ih ⊢
  simp only [v3737, v3736, v3735, v3734, v3733, v3732, r_163, v3727, v3726, v3725, v3724, v3723, v3722, k0_pay800, k0_pay801]
  refine List.forall_mem_cons.2 ⟨pieceN (c := c) _ _ a4 f4 1 1 4 (by norm_num) (by norm_num) rfl 2048 512 2 18 34 50 66 82 3 19 35 51 67 83 16 136 rfl rfl rfl rfl rfl rfl rfl rfl rfl rfl rfl rfl rfl rfl rfl rfl _ _ _ _ _ _ _ _ _ _ _ _ _ _  inb_S12x15360_S12x128_0_2048, ?_⟩
  exact ih
theorem outK44
    (ih : Fits (gOut c a4 h4 a5 h5 f0 f1 f2 f3 f4 d6 d8 d9 d12) (Ha5_42 (F := Ideal) c a4 h4 a5 h5 f0 f1 f2 f3 f4 d6 d8 d9 d12)) :
    Fits (gOut c a4 h4 a5 h5 f0 f1 f2 f3 f4 d6 d8 d9 d12) (Ha5_44 (F := Ideal) c a4 h4 a5 h5 f0 f1 f2 f3 f4 d6 d8 d9 d12) := by
  unfold Fits gOut at ih
  unfold Fits gOut Ha5_44
  generalize Ha5_42 (F := Ideal) c a4 h4 a5 h5 f0 f1 f2 f3 f4 d6 d8 d9 d12 = L at ih ⊢
  simp only [v3760, v3759, v3758, v3757, v3756, v3755, r_164, v3750, v3749, v3748, v3747, v3746, v3745, k0_pay802, k0_pay803, v3772, v3768, k0_pay804]
  refine List.forall_mem_cons.2 ⟨pieceRest (c := c) _ _ a4 f4 3 0 4 (by norm_num) (by norm_num) rfl 5120 512 0 8 40 160 rfl rfl rfl rfl rfl rfl _ _ _ _  inb_S12x15360_S12x128_0_5120, ?_⟩
  refine List.forall_mem_cons.2 ⟨pieceN (c := c) _ _ a4 f4 2 2 4 (by norm_num) (by norm_num) rfl 3584 512 4 20 36 52 68 84 5 21 37 53 69 85 28 148 rfl rfl rfl rfl rfl rfl rfl rfl rfl rfl rfl rfl rfl rfl rfl rfl _ _ _ _ _ _ _ _ _ _ _ _ _ _  inb_S12x15360_S12x128_0_3584, ?_⟩
  exact ih
theorem outK45
    (ih : Fits (gOut c a4 h4 a5 h5 f0 f1 f2 f3 f4 d6 d8 d9 d12) (Ha5_44 (F := Ideal) c a4 h4 a5 h5 f0 f1 f2 f3 f4 d6 d8 d9 d12)) :
    Fits (gOut c a4 h4 a5 h5 f0 f1 f2 f3 f4 d6 d8 d9 d12) (Ha5_45 (F := Ideal) c a4 h4 a5 h5 f0 f1 f2 f3 f4 d6 d8 d9 d12) := by
  unfold Fits gOut at ih
  unfold Fits gOut Ha5_45
  generalize Ha5_44 (F := Ideal) c a4 h4 a5 h5 f0 f1 f2 f3 f4 d6 d8 d9 d12 = L at ih ⊢
  simp only [v3794, v3793, v3792, v3791, v3790, v3789, r_165, v3784, v3783, v3782, v3781, v3780, v3779, k0_pay805, k0_pay806]
  refine List.forall_mem_cons.2 ⟨pieceN (c := c) _ _ a4 f4 4 3 4 (by norm_num) (by norm_num) rfl 6656 512 6 22 38 54 70 86 7 23 39 55 71 87 52 172 rfl rfl rfl rfl rfl rfl rfl rfl rfl rfl rfl rfl rfl rfl rfl rfl _ _ _ _ _ _ _ _ _ _ _ _ _ _  inb_S12x15360_S12x128_0_6656, ?_⟩
  exact ih
theorem outK46
    (ih : Fits (gOut c a4 h4 a5 h5 f0 f1 f2 f3 f4 d6 d8 d9 d12) (Ha5_45 (F := Ideal) c a4 h4 a5 h5 f0 f1 f2 f3 f4 d6 d8 d9 d12)) :
    Fits (gOut c a4 h4 a5 h5 f0 f1 f2 f3 f4 d6 d8 d9 d12) (Ha5_46 (F := Ideal) c a4 h4 a5 h5 f0 f1 f2 f3 f4 d6 d8 d9 d12) := by
  unfold Fits gOut at ih
  unfold Fits gOut Ha5_46
  generalize Ha5_45 (F := Ideal) c a4 h4 a5 h5 f0 f1 f2 f3 f4 d6 d8 d9 d12 = L at ih ⊢
  simp only [v3817, v3816, v3815, v3814, v3813, v3812, r_166, v3807, v3806, v3805, v3804, v3803, v3802, k0_pay807, k0_pay808]
  refine List.forall_mem_cons.2 ⟨pieceN (c := c) _ _ a4 f4 5 4 4 (by norm_num) (by norm_num) rfl 8192 512 8 24 40 56 72 88 9 25 41 57 73 89 64 184 rfl rfl rfl rfl rfl rfl rfl rfl rfl rfl rfl rfl rfl rfl rfl rfl _ _ _ _ _ _ _ _ _ _ _ _ _ _  inb_S12x15360_S12x128_0_8192, ?_⟩
  exact ih
theorem outK48
    (ih : Fits (gOut c a4 h4 a5 h5 f0 f1 f2 f3 f4 d6 d8 d9 d12) (Ha5_46 (F := Ideal) c a4 h4 a5 h5 f0 f1 f2 f3 f4 d6 d8 d9 d12)) :
    Fits (gOut c a4 h4 a5 h5 f0 f1 f2 f3 f4 d6 d8 d9 d12) (Ha5_48 (F := Ideal) c a4 h4 a5 h5 f0 f1 f2 f3 f4 d6 d8 d9 d12) := by
  unfold Fits gOut at ih
  unfold Fits gOut Ha5_48
  generalize Ha5_46 (F := Ideal) c a4 h4 a5 h5 f0 f1 f2 f3 f4 d6 d8 d9 d12 = L at ih ⊢
  simp only [v3840, v3839, v3838, v3837, v3836, v3835, r_167, v3830, v3829, v3828, v3827, v3826, v3825, k0_pay809, k0_pay810, v3852, v3848, k0_pay811]
  refine List.forall_mem_cons.2 ⟨pieceRest (c := c) _ _ a4 f4 7 1 4 (by norm_num) (by norm_num) rfl 11264 512 16 24 88 208 rfl rfl rfl rfl rfl rfl _ _ _ _  inb_S12x15360_S12x128_0_11264, ?_⟩
  refine List.forall_mem_cons.2 ⟨pieceN (c := c) _ _ a4 f4 6 5 4 (by norm_num) (by norm_num) rfl 9728 512 10 26 42 58 74 90 11 27 43 59 75 91 76 196 rfl rfl rfl rfl rfl rfl rfl rfl rfl rfl rfl rfl rfl rfl rfl rfl _ _ _ _ _ _ _ _ _ _ _ _ _ _  inb_S12x15360_S12x128_0_9728, ?_⟩
  exact ih
theorem outK49
    (ih : Fits (gOut c a4 h4 a5 h5 f0 f1 f2 f3 f4 d6 d8 d9 d12) (Ha5_48 (F := Ideal) c a4 h4 a5 h5 f0 f1 f2 f3 f4 d6 d8 d9 d12)) :
    Fits (gOut c a4 h4 a5 h5 f0 f1 f2 f3 f4 d6 d8 d9 d12) (Ha5_49 (F := Ideal) c a4 h4 a5 h5 f0 f1 f2 f3 f4 d6 d8 d9 d12) := by
  unfold Fits gOut at ih
  unfold Fits gOut Ha5_49
  generalize Ha5_48 (F := Ideal) c a4 h4 a5 h5 f0 f1 f2 f3 f4 d6 d8 d9 d12 = L at ih ⊢
  simp only [v3874, v3873, v3872, v3871, v3870, v3869, v3864, v3863, v3862, v3861, v3860, v3859, k0_pay812]
  refine List.forall_mem_cons.2 ⟨pieceN (c := c) _ _ a4 f4 8 6 4 (by norm_num) (by norm_num) rfl 12800 512 12 28 44 60 76 92 13 29 45 61 77 93 100 220 rfl rfl rfl rfl rfl rfl rfl rfl rfl rfl rfl rfl rfl rfl rfl rfl _ _ _ _ _ _ _ _ _ _ _ _ _ _  inb_S12x15360_S12x128_0_12800, ?_⟩
  exact ih
theorem outK50
    (ih : Fits (gOut c a4 h4 a5 h5 f0 f1 f2 f3 f4 d6 d8 d9 d12) (Ha5_49 (F := Ideal) c a4 h4 a5 h5 f0 f1 f2 f3 f4 d6 d8 d9 d12)) :
    Fits (gOut c a4 h4 a5 h5 f0 f1 f2 f3 f4 d6 d8 d9 d12) (Ha5_50 (F := Ideal) c a4 h4 a5 h5 f0 f1 f2 f3 f4 d6 d8 d9 d12) := by
  unfold Fits gOut at ih
  unfold Fits gOut Ha5_50
  generalize Ha5_49 (F := Ideal) c a4 h4 a5 h5 f0 f1 f2 f3 f4 d6 d8 d9 d12 = L at ih ⊢
  simp only [v3897, v3896, v3895, v3894, v3893, v3892, v3887, v3886, v3885, v3884, v3883, v3882, k0_pay813]
  refine List.forall_mem_cons.2 ⟨pieceN (c := c) _ _ a4 f4 9 7 4 (by norm_num) (by norm_num) rfl 14336 512 14 30 46 62 78 94 15 31 47 63 79 95 112 232 rfl rfl rfl rfl rfl rfl rfl rfl rfl rfl rfl rfl rfl rfl rfl rfl _ _ _ _ _ _ _ _ _ _ _ _ _ _  inb_S12x15360_S12x128_0_14336, ?_⟩
  exact ih
theorem outK51
    (ih : Fits (gOut c a4 h4 a5 h5 f0 f1 f2 f3 f4 d6 d8 d9 d12) (Ha5_50 (F := Ideal) c a4 h4 a5 h5 f0 f1 f2 f3 f4 d6 d8 d9 d12)) :
    Fits (gOut c a4 h4 a5 h5 f0 f1 f2 f3 f4 d6 d8 d9 d12) (Ha5_51 (F := Ideal) c a4 h4 a5 h5 f0 f1 f2 f3 f4 d6 d8 d9 d12) := by
  unfold Fits gOut at ih
  unfold Fits gOut Ha5_51
  generalize Ha5_50 (F := Ideal) c a4 h4 a5 h5 f0 f1 f2 f3 f4 d6 d8 d9 d12 = L at ih ⊢
  simp only [v3920, v3919, v3918, v3917, v3916, v3915, r_169, r_168, v3910, v3909, v3908, v3907, v3906, v3905, k0_pay814, k0_pay815]
  refine List.forall_mem_cons.2 ⟨pieceN (c := c) _ _ a4 f4 0 0 5 (by norm_num) (by norm_num) rfl 640 640 0 16 32 48 64 80 1 17 33 49 65 81 5 125 rfl rfl rfl rfl rfl rfl rfl rfl rfl rfl rfl rfl rfl rfl rfl rfl _ _ _ _ _ _ _ _ _ _ _ _ _ _  inb_S12x15360_S12x128_0_640, ?_⟩
  exact ih
theorem outK52
    (ih : Fits (gOut c a4 h4 a5 h5 f0 f1 f2 f3 f4 d6 d8 d9 d12) (Ha5_51 (F := Ideal) c a4 h4 a5 h5 f0 f1 f2 f3 f4 d6 d8 d9 d12)) :
    Fits (gOut c a4 h4 a5 h5 f0 f1 f2 f3 f4 d6 d8 d9 d12) (Ha5_52 (F := Ideal) c a4 h4 a5 h5 f0 f1 f2 f3 f4 d6 d8 d9 d12) := by
  unfold Fits gOut at ih
  unfold Fits gOut Ha5_52
  generalize Ha5_51 (F := Ideal) c a4 h4 a5 h5 f0 f1 f2 f3 f4 d6 d8 d9 d12 = L at ih ⊢
  simp only [v3943, v3942, v3941, v3940, v3939, v3938, r_170, v3933, v3932, v3931, v3930, v3929, v3928, k0_pay816, k0_pay817]
  refine List.forall_mem_cons.2 ⟨pieceN (c := c) _ _ a4 f4 1 1 5 (by norm_num) (by norm_num) rfl 2176 640 2 18 34 50 66 82 3 19 35 51 67 83 17 137 rfl rfl rfl rfl rfl rfl rfl rfl rfl rfl rfl rfl rfl rfl rfl rfl _ _ _ _ _ _ _ _ _ _ _ _ _ _  inb_S12x15360_S12x128_0_2176, ?_⟩
  exact ih
theorem outK54
    (ih : Fits (gOut c a4 h4 a5 h5 f0 f1 f2 f3 f4 d6 d8 d9 d12) (Ha5_52 (F := Ideal) c a4 h4 a5 h5 f0 f1 f2 f3 f4 d6 d8 d9 d12)) :
    Fits (gOut c a4 h4 a5 h5 f0 f1 f2 f3 f4 d6 d8 d9 d12) (Ha5_54 (F := Ideal) c a4 h4 a5 h5 f0 f1 f2 f3 f4 d6 d8 d9 d12) := by
  unfold Fits gOut at ih
  unfold Fits gOut Ha5_54
  generalize Ha5_52 (F := Ideal) c a4 h4 a5 h5 f0 f1 f2 f3 f4 d6 d8 d9 d12 = L at ih ⊢
  simp only [v3966, v3965, v3964, v3963, v3962, v3961, r_171, v3956, v3955, v3954, v3953, v3952, v3951, k0_pay818, k0_pay819, v3978, v3974, k0_pay820]
  refine List.forall_mem_cons.2 ⟨pieceRest (c := c) _ _ a4 f4 3 0 5 (by norm_num) (by norm_num) rfl 5248 640 0 8 41 161 rfl rfl rfl rfl rfl rfl _ _ _ _  inb_S12x15360_S12x128_0_5248, ?_⟩
  refine List.forall_mem_cons.2 ⟨pieceN (c := c) _ _ a4 f4 2 2 5 (by norm_num) (by norm_num) rfl 3712 640 4 20 36 52 68 84 5 21 37 53 69 85 29 149 rfl rfl rfl rfl rfl rfl rfl rfl rfl rfl rfl rfl rfl rfl rfl rfl _ _ _ _ _ _ _ _ _ _ _ _ _ _  inb_S12x15360_S12x128_0_3712, ?_⟩
  exact ih
theorem outK55
    (ih : Fits (gOut c a4 h4 a5 h5 f0 f1 f2 f3 f4 d6 d8 d9 d12) (Ha5_54 (F := Ideal) c a4 h4 a5 h5 f0 f1 f2 f3 f4 d6 d8 d9 d12)) :
    Fits (gOut c a4 h4 a5 h5 f0 f1 f2 f3 f4 d6 d8 d9 d12) (Ha5_55 (F := Ideal) c a4 h4 a5 h5 f0 f1 f2 f3 f4 d6 d8 d9 d12) := by
  unfold Fits gOut at ih
  unfold Fits gOut Ha5_55
  generalize Ha5_54 (F := Ideal) c a4 h4 a5 h5 f0 f1 f2 f3 f4 d6 d8 d9 d12 = L at ih ⊢
  simp only [v4000, v3999, v3998, v3997, v3996, v3995, v3990, v3989, v3988, v3987, v3986, v3985, k0_pay821]
  refine List.forall_mem_cons.2 ⟨pieceN (c := c) _ _ a4 f4 4 3 5 (by norm_num) (by norm_num) rfl 6784 640 6 22 38 54 70 86 7 23 39 55 71 87 53 173 rfl rfl rfl rfl rfl rfl rfl rfl rfl rfl rfl rfl rfl rfl rfl rfl _ _ _ _ _ _ _ _ _ _ _ _ _ _  inb_S12x15360_S12x128_0_6784, ?_⟩
  exact ih
theorem outK56
    (ih : Fits (gOut c a4 h4 a5 h5 f0 f1 f2 f3 f4 d6 d8 d9 d12) (Ha5_55 (F := Ideal) c a4 h4 a5 h5 f0 f1 f2 f3 f4 d6 d8 d9 d12)) :
    Fits (gOut c a4 h4 a5 h5 f0 f1 f2 f3 f4 d6 d8 d9 d12) (Ha5_56 (F := Ideal) c a4 h4 a5 h5 f0 f1 f2 f3 f4 d6 d8 d9 d12) := by
  unfold Fits gOut at ih
  unfold Fits gOut Ha5_56
  generalize Ha5_55 (F := Ideal) c a4 h4 a5 h5 f0 f1 f2 f3 f4 d6 d8 d9 d12 = L at ih ⊢
  simp only [v4023, v4022, v4021, v4020, v4019, v4018, r_172, v4013, v4012, v4011, v4010, v4009, v4008, k0_pay822, k0_pay823]
  refine List.forall_mem_cons.2 ⟨pieceN (c := c) _ _ a4 f4 5 4 5 (by norm_num) (by norm_num) rfl 8320 640 8 24 40 56 72 88 9 25 41 57 73 89 65 185 rfl rfl rfl rfl rfl rfl rfl rfl rfl rfl rfl rfl rfl rfl rfl rfl _ _ _ _ _ _ _ _ _ _ _ _ _ _  inb_S12x15360_S12x128_0_8320, ?_⟩
  exact ih
theorem outK58
    (ih : Fits (gOut c a4 h4 a5 h5 f0 f1 f2 f3 f4 d6 d8 d9 d12) (Ha5_56 (F := Ideal) c a4 h4 a5 h5 f0 f1 f2 f3 f4 d6 d8 d9 d12)) :
    Fits (gOut c a4 h4 a5 h5 f0 f1 f2 f3 f4 d6 d8 d9 d12) (Ha5_58 (F := Ideal) c a4 h4 a5 h5 f0 f1 f2 f3 f4 d6 d8 d9 d12) := by
  unfold Fits gOut at ih
  unfold Fits gOut Ha5_58
  generalize Ha5_56 (F := Ideal) c a4 h4 a5 h5 f0 f1 f2 f3 f4 d6 d8 d9 d12 = L at ih ⊢
  simp only [v4046, v4045, v4044, v4043, v4042, v4041, r_173, v4036, v4035, v4034, v4033, v4032, v4031, k0_pay824, k0_pay825, v4058, v4054, k0_pay826]
  refine List.forall_mem_cons.2 ⟨pieceRest (c := c) _ _ a4 f4 7 1 5 (by norm_num) (by norm_num) rfl 11392 640 16 24 89 209 rfl rfl rfl rfl rfl rfl _ _ _ _  inb_S12x15360_S12x128_0_11392, ?_⟩
  refine List.forall_mem_cons.2 ⟨pieceN (c := c) _ _ a4 f4 6 5 5 (by norm_num) (by norm_num) rfl 9856 640 10 26 42 58 74 90 11 27 43 59 75 91 77 197 rfl rfl rfl rfl rfl rfl rfl rfl rfl rfl rfl rfl rfl rfl rfl rfl _ _ _ _ _ _ _ _ _ _ _ _ _ _  inb_S12x15360_S12x128_0_9856, ?_⟩
  exact ih
theorem outK59
    (ih : Fits (gOut c a4 h4 a5 h5 f0 f1 f2 f3 f4 d6 d8 d9 d12) (Ha5_58 (F := Ideal) c a4 h4 a5 h5 f0 f1 f2 f3 f4 d6 d8 d9 d12)) :
    Fits (gOut c a4 h4 a5 h5 f0 f1 f2 f3 f4 d6 d8 d9 d12) (Ha5_59 (F := Ideal) c a4 h4 a5 h5 f0 f1 f2 f3 f4 d6 d8 d9 d12) := by
  unfold Fits gOut at ih
  unfold Fits gOut Ha5_59
  generalize Ha5_58 (F := Ideal) c a4 h4 a5 h5 f0 f1 f2 f3 f4 d6 d8 d9 d12 = L at ih ⊢
  simp only [v4080, v4079, v4078, v4077, v4076, v4075, v4070, v4069, v4068, v4067, v4066, v4065, k0_pay827]
  refine List.forall_mem_cons.2 ⟨pieceN (c := c) _ _ a4 f4 8 6 5 (by norm_num) (by norm_num) rfl 12928 640 12 28 44 60 76 92 13 29 45 61 77 93 101 221 rfl rfl rfl rfl rfl rfl rfl rfl rfl rfl rfl rfl rfl rfl rfl rfl _ _ _ _ _ _ _ _ _ _ _ _ _ _  inb_S12x15360_S12x128_0_12928, ?_⟩
  exact ih
end Cert.KernelIdeal.Hand
-- ==== Proof.Ideal.OutP3.lean ====
/- The pieces of the output, some of them. -/
module
public import proofs.«01_k».proof.Proof.Ideal.OutBase
@[expose] public section
set_option maxHeartbeats 0
set_option maxRecDepth 100000
noncomputable section
namespace Cert.KernelIdeal.Hand
open Cert.KernelIdeal Cert.KernelIdeal.Gen
open Idealize.ShloMosaic Idealize.ShloMosaic.TcCoe

variable (c : Dev nD) (a4 : Memref sig .tc .vmem S1440x128 .f32) (h4 : a4.IsWhole) (a5 : Memref sig .tc .vmem S12x15360 .bf16) (h5 : a5.IsWhole) (f0 : BufOf (F := Ideal) c hb0) (f1 : BufOf (F := Ideal) c hb1) (f2 : BufOf (F := Ideal) c hb2) (f3 : BufOf (F := Ideal) c hb3) (f4 : BufOf (F := Ideal) c a4) (d6 : BufOf (F := Ideal) c sc0) (d8 : BufOf (F := Ideal) c sc2) (d9 : BufOf (F := Ideal) c sc3) (d12 : BufOf (F := Ideal) c sc6)
open body_run.sl
theorem outK60
    (ih : Fits (gOut c a4 h4 a5 h5 f0 f1 f2 f3 f4 d6 d8 d9 d12) (Ha5_59 (F := Ideal) c a4 h4 a5 h5 f0 f1 f2 f3 f4 d6 d8 d9 d12)) :
    Fits (gOut c a4 h4 a5 h5 f0 f1 f2 f3 f4 d6 d8 d9 d12) (Ha5_60 (F := Ideal) c a4 h4 a5 h5 f0 f1 f2 f3 f4 d6 d8 d9 d12) := by
  unfold Fits gOut at ih
  unfold Fits gOut Ha5_60
  generalize Ha5_59 (F := Ideal) c a4 h4 a5 h5 f0 f1 f2 f3 f4 d6 d8 d9 d12 = L at ih ⊢
  simp only [v4103, v4102, v4101, v4100, v4099, v4098, v4093, v4092, v4091, v4090, v4089, v4088, k0_pay828]
  refine List.forall_mem_cons.2 ⟨pieceN (c := c) _ _ a4 f4 9 7 5 (by norm_num) (by norm_num) rfl 14464 640 14 30 46 62 78 94 15 31 47 63 79 95 113 233 rfl rfl rfl rfl rfl rfl rfl rfl rfl rfl rfl rfl rfl rfl rfl rfl _ _ _ _ _ _ _ _ _ _ _ _ _ _  inb_S12x15360_S12x128_0_14464, ?_⟩
  exact ih
theorem outK61
    (ih : Fits (gOut c a4 h4 a5 h5 f0 f1 f2 f3 f4 d6 d8 d9 d12) (Ha5_60 (F := Ideal) c a4 h4 a5 h5 f0 f1 f2 f3 f4 d6 d8 d9 d12)) :
    Fits (gOut c a4 h4 a5 h5 f0 f1 f2 f3 f4 d6 d8 d9 d12) (Ha5_61 (F := Ideal) c a4 h4 a5 h5 f0 f1 f2 f3 f4 d6 d8 d9 d12) := by
  unfold Fits gOut at ih
  unfold Fits gOut Ha5_61
  generalize Ha5_60 (F := Ideal) c a4 h4 a5 h5 f0 f1 f2 f3 f4 d6 d8 d9 d12 = L at ih ⊢
  simp only [v4126, v4125, v4124, v4123, v4122, v4121, v4116, v4115, v4114, v4113, v4112, v4111, k0_pay829]
  refine List.forall_mem_cons.2 ⟨pieceN (c := c) _ _ a4 f4 0 0 6 (by norm_num) (by norm_num) rfl 768 768 0 16 32 48 64 80 1 17 33 49 65 81 6 126 rfl rfl rfl rfl rfl rfl rfl rfl rfl rfl rfl rfl rfl rfl rfl rfl _ _ _ _ _ _ _ _ _ _ _ _ _ _  inb_S12x15360_S12x128_0_768, ?_⟩
  exact ih
theorem outK62
    (ih : Fits (gOut c a4 h4 a5 h5 f0 f1 f2 f3 f4 d6 d8 d9 d12) (Ha5_61 (F := Ideal) c a4 h4 a5 h5 f0 f1 f2 f3 f4 d6 d8 d9 d12)) :
    Fits (gOut c a4 h4 a5 h5 f0 f1 f2 f3 f4 d6 d8 d9 d12) (Ha5_62 (F := Ideal) c a4 h4 a5 h5 f0 f1 f2 f3 f4 d6 d8 d9 d12) := by
  unfold Fits gOut at ih
  unfold Fits gOut Ha5_62
  generalize Ha5_61 (F := Ideal) c a4 h4 a5 h5 f0 f1 f2 f3 f4 d6 d8 d9 d12 = L at ih ⊢
  simp only [v4149, v4148, v4147, v4146, v4145, v4144, r_174, v4139, v4138, v4137, v4136, v4135, v4134, k0_pay830, k0_pay831]
  refine List.forall_mem_cons.2 ⟨pieceN (c := c) _ _ a4 f4 1 1 6 (by norm_num) (by norm_num) rfl 2304 768 2 18 34 50 66 82 3 19 35 51 67 83 18 138 rfl rfl rfl rfl rfl rfl rfl rfl rfl rfl rfl rfl rfl rfl rfl rfl _ _ _ _ _ _ _ _ _ _ _ _ _ _  inb_S12x15360_S12x128_0_2304, ?_⟩
  exact ih
theorem outK64
    (ih : Fits (gOut c a4 h4 a5 h5 f0 f1 f2 f3 f4 d6 d8 d9 d12) (Ha5_62 (F := Ideal) c a4 h4 a5 h5 f0 f1 f2 f3 f4 d6 d8 d9 d12)) :
    Fits (gOut c a4 h4 a5 h5 f0 f1 f2 f3 f4 d6 d8 d9 d12) (Ha5_64 (F := Ideal) c a4 h4 a5 h5 f0 f1 f2 f3 f4 d6 d8 d9 d12) := by
  unfold Fits gOut at ih
  unfold Fits gOut Ha5_64
  generalize Ha5_62 (F := Ideal) c a4 h4 a5 h5 f0 f1 f2 f3 f4 d6 d8 d9 d12 = L at ih ⊢
  simp only [v4172, v4171, v4170, v4169, v4168, v4167, r_175, v4162, v4161, v4160, v4159, v4158, v4157, k0_pay832, k0_pay833, v4184, v4180, k0_pay834]
  refine List.forall_mem_cons.2 ⟨pieceRest (c := c) _ _ a4 f4 3 0 6 (by norm_num) (by norm_num) rfl 5376 768 0 8 42 162 rfl rfl rfl rfl rfl rfl _ _ _ _  inb_S12x15360_S12x128_0_5376, ?_⟩
  refine List.forall_mem_cons.2 ⟨pieceN (c := c) _ _ a4 f4 2 2 6 (by norm_num) (by norm_num) rfl 3840 768 4 20 36 52 68 84 5 21 37 53 69 85 30 150 rfl rfl rfl rfl rfl rfl rfl rfl rfl rfl rfl rfl rfl rfl rfl rfl _ _ _ _ _ _ _ _ _ _ _ _ _ _  inb_S12x15360_S12x128_0_3840, ?_⟩
  exact ih
theorem outK65
    (ih : Fits (gOut c a4 h4 a5 h5 f0 f1 f2 f3 f4 d6 d8 d9 d12) (Ha5_64 (F := Ideal) c a4 h4 a5 h5 f0 f1 f2 f3 f4 d6 d8 d9 d12)) :
    Fits (gOut c a4 h4 a5 h5 f0 f1 f2 f3 f4 d6 d8 d9 d12) (Ha5_65 (F := Ideal) c a4 h4 a5 h5 f0 f1 f2 f3 f4 d6 d8 d9 d12) := by
  unfold Fits gOut at ih
  unfold Fits gOut Ha5_65
  generalize Ha5_64 (F := Ideal) c a4 h4 a5 h5 f0 f1 f2 f3 f4 d6 d8 d9 d12 = L at ih ⊢
  simp only [v4206, v4205, v4204, v4203, v4202, v4201, v4196, v4195, v4194, v4193, v4192, v4191, k0_pay835]
  refine List.forall_mem_cons.2 ⟨pieceN (c := c) _ _ a4 f4 4 3 6 (by norm_num) (by norm_num) rfl 6912 768 6 22 38 54 70 86 7 23 39 55 71 87 54 174 rfl rfl rfl rfl rfl rfl rfl rfl rfl rfl rfl rfl rfl rfl rfl rfl _ _ _ _ _ _ _ _ _ _ _ _ _ _  inb_S12x15360_S12x128_0_6912, ?_⟩
  exact ih
theorem outK66
    (ih : Fits (gOut c a4 h4 a5 h5 f0 f1 f2 f3 f4 d6 d8 d9 d12) (Ha5_65 (F := Ideal) c a4 h4 a5 h5 f0 f1 f2 f3 f4 d6 d8 d9 d12)) :
    Fits (gOut c a4 h4 a5 h5 f0 f1 f2 f3 f4 d6 d8 d9 d12) (Ha5_66 (F := Ideal) c a4 h4 a5 h5 f0 f1 f2 f3 f4 d6 d8 d9 d12) := by
  unfold Fits gOut at ih
  unfold Fits gOut Ha5_66
  generalize Ha5_65 (F := Ideal) c a4 h4 a5 h5 f0 f1 f2 f3 f4 d6 d8 d9 d12 = L at ih ⊢
  simp only [v4229, v4228, v4227, v4226, v4225, v4224, v4219, v4218, v4217, v4216, v4215, v4214, k0_pay836]
  refine List.forall_mem_cons.2 ⟨pieceN (c := c) _ _ a4 f4 5 4 6 (by norm_num) (by norm_num) rfl 8448 768 8 24 40 56 72 88 9 25 41 57 73 89 66 186 rfl rfl rfl rfl rfl rfl rfl rfl rfl rfl rfl rfl rfl rfl rfl rfl _ _ _ _ _ _ _ _ _ _ _ _ _ _  inb_S12x15360_S12x128_0_8448, ?_⟩
  exact ih
theorem outK68
    (ih : Fits (gOut c a4 h4 a5 h5 f0 f1 f2 f3 f4 d6 d8 d9 d12) (Ha5_66 (F := Ideal) c a4 h4 a5 h5 f0 f1 f2 f3 f4 d6 d8 d9 d12)) :
    Fits (gOut c a4 h4 a5 h5 f0 f1 f2 f3 f4 d6 d8 d9 d12) (Ha5_68 (F := Ideal) c a4 h4 a5 h5 f0 f1 f2 f3 f4 d6 d8 d9 d12) := by
  unfold Fits gOut at ih
  unfold Fits gOut Ha5_68
  generalize Ha5_66 (F := Ideal) c a4 h4 a5 h5 f0 f1 f2 f3 f4 d6 d8 d9 d12 = L at ih ⊢
  simp only [v4252, v4251, v4250, v4249, v4248, v4247, v4242, v4241, v4240, v4239, v4238, v4237, k0_pay837, v4264, v4260, k0_pay838]
  refine List.forall_mem_cons.2 ⟨pieceRest (c := c) _ _ a4 f4 7 1 6 (by norm_num) (by norm_num) rfl 11520 768 16 24 90 210 rfl rfl rfl rfl rfl rfl _ _ _ _  inb_S12x15360_S12x128_0_11520, ?_⟩
  refine List.forall_mem_cons.2 ⟨pieceN (c := c) _ _ a4 f4 6 5 6 (by norm_num) (by norm_num) rfl 9984 768 10 26 42 58 74 90 11 27 43 59 75 91 78 198 rfl rfl rfl rfl rfl rfl rfl rfl rfl rfl rfl rfl rfl rfl rfl rfl _ _ _ _ _ _ _ _ _ _ _ _ _ _  inb_S12x15360_S12x128_0_9984, ?_⟩
  exact ih
theorem outK69
    (ih : Fits (gOut c a4 h4 a5 h5 f0 f1 f2 f3 f4 d6 d8 d9 d12) (Ha5_68 (F := Ideal) c a4 h4 a5 h5 f0 f1 f2 f3 f4 d6 d8 d9 d12)) :
    Fits (gOut c a4 h4 a5 h5 f0 f1 f2 f3 f4 d6 d8 d9 d12) (Ha5_69 (F := Ideal) c a4 h4 a5 h5 f0 f1 f2 f3 f4 d6 d8 d9 d12) := by
  unfold Fits gOut at ih
  unfold Fits gOut Ha5_69
  generalize Ha5_68 (F := Ideal) c a4 h4 a5 h5 f0 f1 f2 f3 f4 d6 d8 d9 d12 = L at ih ⊢
  simp only [v4286, v4285, v4284, v4283, v4282, v4281, v4276, v4275, v4274, v4273, v4272, v4271, k0_pay839]
  refine List.forall_mem_cons.2 ⟨pieceN (c := c) _ _ a4 f4 8 6 6 (by norm_num) (by norm_num) rfl 13056 768 12 28 44 60 76 92 13 29 45 61 77 93 102 222 rfl rfl rfl rfl rfl rfl rfl rfl rfl rfl rfl rfl rfl rfl rfl rfl _ _ _ _ _ _ _ _ _ _ _ _ _ _  inb_S12x15360_S12x128_0_13056, ?_⟩
  exact ih
theorem outK70
    (ih : Fits (gOut c a4 h4 a5 h5 f0 f1 f2 f3 f4 d6 d8 d9 d12) (Ha5_69 (F := Ideal) c a4 h4 a5 h5 f0 f1 f2 f3 f4 d6 d8 d9 d12)) :
    Fits (gOut c a4 h4 a5 h5 f0 f1 f2 f3 f4 d6 d8 d9 d12) (Ha5_70 (F := Ideal) c a4 h4 a5 h5 f0 f1 f2 f3 f4 d6 d8 d9 d12) := by
  unfold Fits gOut at ih
  unfold Fits gOut Ha5_70
  generalize Ha5_69 (F := Ideal) c a4 h4 a5 h5 f0 f1 f2 f3 f4 d6 d8 d9 d12 = L at ih ⊢
  simp only [v4309, v4308, v4307, v4306, v4305, v4304, v4299, v4298, v4297, v4296, v4295, v4294, k0_pay840]
  refine List.forall_mem_cons.2 ⟨pieceN (c := c) _ _ a4 f4 9 7 6 (by norm_num) (by norm_num) rfl 14592 768 14 30 46 62 78 94 15 31 47 63 79 95 114 234 rfl rfl rfl rfl rfl rfl rfl rfl rfl rfl rfl rfl rfl rfl rfl rfl _ _ _ _ _ _ _ _ _ _ _ _ _ _  inb_S12x15360_S12x128_0_14592, ?_⟩
  exact ih
theorem outK71
    (ih : Fits (gOut c a4 h4 a5 h5 f0 f1 f2 f3 f4 d6 d8 d9 d12) (Ha5_70 (F := Ideal) c a4 h4 a5 h5 f0 f1 f2 f3 f4 d6 d8 d9 d12)) :
    Fits (gOut c a4 h4 a5 h5 f0 f1 f2 f3 f4 d6 d8 d9 d12) (Ha5_71 (F := Ideal) c a4 h4 a5 h5 f0 f1 f2 f3 f4 d6 d8 d9 d12) := by
  unfold Fits gOut at ih
  unfold Fits gOut Ha5_71
  generalize Ha5_70 (F := Ideal) c a4 h4 a5 h5 f0 f1 f2 f3 f4 d6 d8 d9 d12 = L at ih ⊢
  simp only [v4332, v4331, v4330, v4329, v4328, v4327, v4322, v4321, v4320, v4319, v4318, v4317, k0_pay841]
  refine List.forall_mem_cons.2 ⟨pieceN (c := c) _ _ a4 f4 0 0 7 (by norm_num) (by norm_num) rfl 896 896 0 16 32 48 64 80 1 17 33 49 65 81 7 127 rfl rfl rfl rfl rfl rfl rfl rfl rfl rfl rfl rfl rfl rfl rfl rfl _ _ _ _ _ _ _ _ _ _ _ _ _ _  inb_S12x15360_S12x128_0_896, ?_⟩
  exact ih
theorem outK72
    (ih : Fits (gOut c a4 h4 a5 h5 f0 f1 f2 f3 f4 d6 d8 d9 d12) (Ha5_71 (F := Ideal) c a4 h4 a5 h5 f0 f1 f2 f3 f4 d6 d8 d9 d12)) :
    Fits (gOut c a4 h4 a5 h5 f0 f1 f2 f3 f4 d6 d8 d9 d12) (Ha5_72 (F := Ideal) c a4 h4 a5 h5 f0 f1 f2 f3 f4 d6 d8 d9 d12) := by
  unfold Fits gOut at ih
  unfold Fits gOut Ha5_72
  generalize Ha5_71 (F := Ideal) c a4 h4 a5 h5 f0 f1 f2 f3 f4 d6 d8 d9 d12 = L at ih ⊢
  simp only [v4355, v4354, v4353, v4352, v4351, v4350, v4345, v4344, v4343, v4342, v4341, v4340, k0_pay842]
  refine List.forall_mem_cons.2 ⟨pieceN (c := c) _ _ a4 f4 1 1 7 (by norm_num) (by norm_num) rfl 2432 896 2 18 34 50 66 82 3 19 35 51 67 83 19 139 rfl rfl rfl rfl rfl rfl rfl rfl rfl rfl rfl rfl rfl rfl rfl rfl _ _ _ _ _ _ _ _ _ _ _ _ _ _  inb_S12x15360_S12x128_0_2432, ?_⟩
  exact ih
theorem outK74
    (ih : Fits (gOut c a4 h4 a5 h5 f0 f1 f2 f3 f4 d6 d8 d9 d12) (Ha5_72 (F := Ideal) c a4 h4 a5 h5 f0 f1 f2 f3 f4 d6 d8 d9 d12)) :
    Fits (gOut c a4 h4 a5 h5 f0 f1 f2 f3 f4 d6 d8 d9 d12) (Ha5_74 (F := Ideal) c a4 h4 a5 h5 f0 f1 f2 f3 f4 d6 d8 d9 d12) := by
  unfold Fits gOut at ih
  unfold Fits gOut Ha5_74
  generalize Ha5_72 (F := Ideal) c a4 h4 a5 h5 f0 f1 f2 f3 f4 d6 d8 d9 d12 = L at ih ⊢
  simp only [v4378, v4377, v4376, v4375, v4374, v4373, r_176, v4368, v4367, v4366, v4365, v4364, v4363, k0_pay843, k0_pay844, v4390, v4386, k0_pay845]
  refine List.forall_mem_cons.2 ⟨pieceRest (c := c) _ _ a4 f4 3 0 7 (by norm_num) (by norm_num) rfl 5504 896 0 8 43 163 rfl rfl rfl rfl rfl rfl _ _ _ _  inb_S12x15360_S12x128_0_5504, ?_⟩
  refine List.forall_mem_cons.2 ⟨pieceN (c := c) _ _ a4 f4 2 2 7 (by norm_num) (by norm_num) rfl 3968 896 4 20 36 52 68 84 5 21 37 53 69 85 31 151 rfl rfl rfl rfl rfl rfl rfl rfl rfl rfl rfl rfl rfl rfl rfl rfl _ _ _ _ _ _ _ _ _ _ _ _ _ _  inb_S12x15360_S12x128_0_3968, ?_⟩
  exact ih
theorem outK75
    (ih : Fits (gOut c a4 h4 a5 h5 f0 f1 f2 f3 f4 d6 d8 d9 d12) (Ha5_74 (F := Ideal) c a4 h4 a5 h5 f0 f1 f2 f3 f4 d6 d8 d9 d12)) :
    Fits (gOut c a4 h4 a5 h5 f0 f1 f2 f3 f4 d6 d8 d9 d12) (Ha5_75 (F := Ideal) c a4 h4 a5 h5 f0 f1 f2 f3 f4 d6 d8 d9 d12) := by
  unfold Fits gOut at ih
  unfold Fits gOut Ha5_75
  generalize Ha5_74 (F := Ideal) c a4 h4 a5 h5 f0 f1 f2 f3 f4 d6 d8 d9 d12 = L at ih ⊢
  simp only [v4412, v4411, v4410, v4409, v4408, v4407, v4402, v4401, v4400, v4399, v4398, v4397, k0_pay846]
  refine List.forall_mem_cons.2 ⟨pieceN (c := c) _ _ a4 f4 4 3 7 (by norm_num) (by norm_num) rfl 7040 896 6 22 38 54 70 86 7 23 39 55 71 87 55 175 rfl rfl rfl rfl rfl rfl rfl rfl rfl rfl rfl rfl rfl rfl rfl rfl _ _ _ _ _ _ _ _ _ _ _ _ _ _  inb_S12x15360_S12x128_0_7040, ?_⟩
  exact ih
theorem outK76
    (ih : Fits (gOut c a4 h4 a5 h5 f0 f1 f2 f3 f4 d6 d8 d9 d12) (Ha5_75 (F := Ideal) c a4 h4 a5 h5 f0 f1 f2 f3 f4 d6 d8 d9 d12)) :
    Fits (gOut c a4 h4 a5 h5 f0 f1 f2 f3 f4 d6 d8 d9 d12) (Ha5_76 (F := Ideal) c a4 h4 a5 h5 f0 f1 f2 f3 f4 d6 d8 d9 d12) := by
  unfold Fits gOut at ih
  unfold Fits gOut Ha5_76
  generalize Ha5_75 (F := Ideal) c a4 h4 a5 h5 f0 f1 f2 f3 f4 d6 d8 d9 d12 = L at ih ⊢
  simp only [v4435, v4434, v4433, v4432, v4431, v4430, v4425, v4424, v4423, v4422, v4421, v4420, k0_pay847]
  refine List.forall_mem_cons.2 ⟨pieceN (c := c) _ _ a4 f4 5 4 7 (by norm_num) (by norm_num) rfl 8576 896 8 24 40 56 72 88 9 25 41 57 73 89 67 187 rfl rfl rfl rfl rfl rfl rfl rfl rfl rfl rfl rfl rfl rfl rfl rfl _ _ _ _ _ _ _ _ _ _ _ _ _ _  inb_S12x15360_S12x128_0_8576, ?_⟩
  exact ih
theorem outK77
    (ih : Fits (gOut c a4 h4 a5 h5 f0 f1 f2 f3 f4 d6 d8 d9 d12) (Ha5_76 (F := Ideal) c a4 h4 a5 h5 f0 f1 f2 f3 f4 d6 d8 d9 d12)) :
    Fits (gOut c a4 h4 a5 h5 f0 f1 f2 f3 f4 d6 d8 d9 d12) (Ha5_77 (F := Ideal) c a4 h4 a5 h5 f0 f1 f2 f3 f4 d6 d8 d9 d12) := by
  unfold Fits gOut at ih
  unfold Fits gOut Ha5_77
  generalize Ha5_76 (F := Ideal) c a4 h4 a5 h5 f0 f1 f2 f3 f4 d6 d8 d9 d12 = L at ih ⊢
  simp only [v4458, v4457, v4456, v4455, v4454, v4453, v4448, v4447, v4446, v4445, v4444, v4443, k0_pay848]
  refine List.forall_mem_cons.2 ⟨pieceN (c := c) _ _ a4 f4 6 5 7 (by norm_num) (by norm_num) rfl 10112 896 10 26 42 58 74 90 11 27 43 59 75 91 79 199 rfl rfl rfl rfl rfl rfl rfl rfl rfl rfl rfl rfl rfl rfl rfl rfl _ _ _ _ _ _ _ _ _ _ _ _ _ _  inb_S12x15360_S12x128_0_10112, ?_⟩
  exact ih
theorem outK78
    (ih : Fits (gOut c a4 h4 a5 h5 f0 f1 f2 f3 f4 d6 d8 d9 d12) (Ha5_77 (F := Ideal) c a4 h4 a5 h5 f0 f1 f2 f3 f4 d6 d8 d9 d12)) :
    Fits (gOut c a4 h4 a5 h5 f0 f1 f2 f3 f4 d6 d8 d9 d12) (Ha5_78 (F := Ideal) c a4 h4 a5 h5 f0 f1 f2 f3 f4 d6 d8 d9 d12) := by
  unfold Fits gOut at ih
  unfold Fits gOut Ha5_78
  generalize Ha5_77 (F := Ideal) c a4 h4 a5 h5 f0 f1 f2 f3 f4 d6 d8 d9 d12 = L at ih ⊢
  simp only [r_178, v4466, k0_pay850, r_177, v4470, k0_pay849, k0_pay851]
  refine List.forall_mem_cons.2 ⟨pieceRest (c := c) _ _ a4 f4 7 1 7 (by norm_num) (by norm_num) rfl 11648 896 16 24 91 211 rfl rfl rfl rfl rfl rfl _ _ _ _  inb_S12x15360_S12x128_0_11648, ?_⟩
  exact ih
end Cert.KernelIdeal.Hand
-- ==== Proof.Ideal.OutP4.lean ====
/- The pieces of the output, some of them. -/
module
public import proofs.«01_k».proof.Proof.Ideal.OutBase
@[expose] public section
set_option maxHeartbeats 0
set_option maxRecDepth 100000
noncomputable section
namespace Cert.KernelIdeal.Hand
open Cert.KernelIdeal Cert.KernelIdeal.Gen
open Idealize.ShloMosaic Idealize.ShloMosaic.TcCoe

variable (c : Dev nD) (a4 : Memref sig .tc .vmem S1440x128 .f32) (h4 : a4.IsWhole) (a5 : Memref sig .tc .vmem S12x15360 .bf16) (h5 : a5.IsWhole) (f0 : BufOf (F := Ideal) c hb0) (f1 : BufOf (F := Ideal) c hb1) (f2 : BufOf (F := Ideal) c hb2) (f3 : BufOf (F := Ideal) c hb3) (f4 : BufOf (F := Ideal) c a4) (d6 : BufOf (F := Ideal) c sc0) (d8 : BufOf (F := Ideal) c sc2) (d9 : BufOf (F := Ideal) c sc3) (d12 : BufOf (F := Ideal) c sc6)
open body_run.sl
theorem outK80
    (ih : Fits (gOut c a4 h4 a5 h5 f0 f1 f2 f3 f4 d6 d8 d9 d12) (Ha5_78 (F := Ideal) c a4 h4 a5 h5 f0 f1 f2 f3 f4 d6 d8 d9 d12)) :
    Fits (gOut c a4 h4 a5 h5 f0 f1 f2 f3 f4 d6 d8 d9 d12) (Ha5_80 (F := Ideal) c a4 h4 a5 h5 f0 f1 f2 f3 f4 d6 d8 d9 d12) := by
  unfold Fits gOut at ih
  unfold Fits gOut Ha5_80
  generalize Ha5_78 (F := Ideal) c a4 h4 a5 h5 f0 f1 f2 f3 f4 d6 d8 d9 d12 = L at ih ⊢
  simp only [r_179, v4492, v4491, v4490, v4489, v4488, v4487, v4482, v4481, v4480, v4479, v4478, v4477, k0_pay852, v4515, v4514, v4513, v4512, v4511, v4510, v4505, v4504, v4503, v4502, v4501, v4500, k0_pay853]
  refine List.forall_mem_cons.2 ⟨pieceN (c := c) _ _ a4 f4 9 7 7 (by norm_num) (by norm_num) rfl 14720 896 14 30 46 62 78 94 15 31 47 63 79 95 115 235 rfl rfl rfl rfl rfl rfl rfl rfl rfl rfl rfl rfl rfl rfl rfl rfl _ _ _ _ _ _ _ _ _ _ _ _ _ _  inb_S12x15360_S12x128_0_14720, ?_⟩
  refine List.forall_mem_cons.2 ⟨pieceN (c := c) _ _ a4 f4 8 6 7 (by norm_num) (by norm_num) rfl 13184 896 12 28 44 60 76 92 13 29 45 61 77 93 103 223 rfl rfl rfl rfl rfl rfl rfl rfl rfl rfl rfl rfl rfl rfl rfl rfl _ _ _ _ _ _ _ _ _ _ _ _ _ _  inb_S12x15360_S12x128_0_13184, ?_⟩
  exact ih
theorem outK81
    (ih : Fits (gOut c a4 h4 a5 h5 f0 f1 f2 f3 f4 d6 d8 d9 d12) (Ha5_80 (F := Ideal) c a4 h4 a5 h5 f0 f1 f2 f3 f4 d6 d8 d9 d12)) :
    Fits (gOut c a4 h4 a5 h5 f0 f1 f2 f3 f4 d6 d8 d9 d12) (Ha5_81 (F := Ideal) c a4 h4 a5 h5 f0 f1 f2 f3 f4 d6 d8 d9 d12) := by
  unfold Fits gOut at ih
  unfold Fits gOut Ha5_81
  generalize Ha5_80 (F := Ideal) c a4 h4 a5 h5 f0 f1 f2 f3 f4 d6 d8 d9 d12 = L at ih ⊢
  simp only [v4538, v4537, v4536, v4535, v4534, v4533, v4528, v4527, v4526, v4525, v4524, v4523, k0_pay854]
  refine List.forall_mem_cons.2 ⟨pieceN (c := c) _ _ a4 f4 0 0 8 (by norm_num) (by norm_num) rfl 1024 1024 0 16 32 48 64 80 1 17 33 49 65 81 8 128 rfl rfl rfl rfl rfl rfl rfl rfl rfl rfl rfl rfl rfl rfl rfl rfl _ _ _ _ _ _ _ _ _ _ _ _ _ _  inb_S12x15360_S12x128_0_1024, ?_⟩
  exact ih
theorem outK82
    (ih : Fits (gOut c a4 h4 a5 h5 f0 f1 f2 f3 f4 d6 d8 d9 d12) (Ha5_81 (F := Ideal) c a4 h4 a5 h5 f0 f1 f2 f3 f4 d6 d8 d9 d12)) :
    Fits (gOut c a4 h4 a5 h5 f0 f1 f2 f3 f4 d6 d8 d9 d12) (Ha5_82 (F := Ideal) c a4 h4 a5 h5 f0 f1 f2 f3 f4 d6 d8 d9 d12) := by
  unfold Fits gOut at ih
  unfold Fits gOut Ha5_82
  generalize Ha5_81 (F := Ideal) c a4 h4 a5 h5 f0 f1 f2 f3 f4 d6 d8 d9 d12 = L at ih ⊢
  simp only [v4561, v4560, v4559, v4558, v4557, v4556, v4551, v4550, v4549, v4548, v4547, v4546, k0_pay855]
  refine List.forall_mem_cons.2 ⟨pieceN (c := c) _ _ a4 f4 1 1 8 (by norm_num) (by norm_num) rfl 2560 1024 2 18 34 50 66 82 3 19 35 51 67 83 20 140 rfl rfl rfl rfl rfl rfl rfl rfl rfl rfl rfl rfl rfl rfl rfl rfl _ _ _ _ _ _ _ _ _ _ _ _ _ _  inb_S12x15360_S12x128_0_2560, ?_⟩
  exact ih
theorem outK83
    (ih : Fits (gOut c a4 h4 a5 h5 f0 f1 f2 f3 f4 d6 d8 d9 d12) (Ha5_82 (F := Ideal) c a4 h4 a5 h5 f0 f1 f2 f3 f4 d6 d8 d9 d12)) :
    Fits (gOut c a4 h4 a5 h5 f0 f1 f2 f3 f4 d6 d8 d9 d12) (Ha5_83 (F := Ideal) c a4 h4 a5 h5 f0 f1 f2 f3 f4 d6 d8 d9 d12) := by
  unfold Fits gOut at ih
  unfold Fits gOut Ha5_83
  generalize Ha5_82 (F := Ideal) c a4 h4 a5 h5 f0 f1 f2 f3 f4 d6 d8 d9 d12 = L at ih ⊢
  simp only [v4584, v4583, v4582, v4581, v4580, v4579, v4574, v4573, v4572, v4571, v4570, v4569, k0_pay856]
  refine List.forall_mem_cons.2 ⟨pieceN (c := c) _ _ a4 f4 2 2 8 (by norm_num) (by norm_num) rfl 4096 1024 4 20 36 52 68 84 5 21 37 53 69 85 32 152 rfl rfl rfl rfl rfl rfl rfl rfl rfl rfl rfl rfl rfl rfl rfl rfl _ _ _ _ _ _ _ _ _ _ _ _ _ _  inb_S12x15360_S12x128_0_4096, ?_⟩
  exact ih
theorem outK85
    (ih : Fits (gOut c a4 h4 a5 h5 f0 f1 f2 f3 f4 d6 d8 d9 d12) (Ha5_83 (F := Ideal) c a4 h4 a5 h5 f0 f1 f2 f3 f4 d6 d8 d9 d12)) :
    Fits (gOut c a4 h4 a5 h5 f0 f1 f2 f3 f4 d6 d8 d9 d12) (Ha5_85 (F := Ideal) c a4 h4 a5 h5 f0 f1 f2 f3 f4 d6 d8 d9 d12) := by
  unfold Fits gOut at ih
  unfold Fits gOut Ha5_85
  generalize Ha5_83 (F := Ideal) c a4 h4 a5 h5 f0 f1 f2 f3 f4 d6 d8 d9 d12 = L at ih ⊢
  simp only [r_180, v4596, v4592, k0_pay857, v4618, v4617, v4616, v4615, v4614, v4613, v4608, v4607, v4606, v4605, v4604, v4603, k0_pay858]
  refine List.forall_mem_cons.2 ⟨pieceN (c := c) _ _ a4 f4 4 3 8 (by norm_num) (by norm_num) rfl 7168 1024 6 22 38 54 70 86 7 23 39 55 71 87 56 176 rfl rfl rfl rfl rfl rfl rfl rfl rfl rfl rfl rfl rfl rfl rfl rfl _ _ _ _ _ _ _ _ _ _ _ _ _ _  inb_S12x15360_S12x128_0_7168, ?_⟩
  refine List.forall_mem_cons.2 ⟨pieceRest (c := c) _ _ a4 f4 3 0 8 (by norm_num) (by norm_num) rfl 5632 1024 0 8 44 164 rfl rfl rfl rfl rfl rfl _ _ _ _  inb_S12x15360_S12x128_0_5632, ?_⟩
  exact ih
theorem outK86
    (ih : Fits (gOut c a4 h4 a5 h5 f0 f1 f2 f3 f4 d6 d8 d9 d12) (Ha5_85 (F := Ideal) c a4 h4 a5 h5 f0 f1 f2 f3 f4 d6 d8 d9 d12)) :
    Fits (gOut c a4 h4 a5 h5 f0 f1 f2 f3 f4 d6 d8 d9 d12) (Ha5_86 (F := Ideal) c a4 h4 a5 h5 f0 f1 f2 f3 f4 d6 d8 d9 d12) := by
  unfold Fits gOut at ih
  unfold Fits gOut Ha5_86
  generalize Ha5_85 (F := Ideal) c a4 h4 a5 h5 f0 f1 f2 f3 f4 d6 d8 d9 d12 = L at ih ⊢
  simp only [v4641, v4640, v4639, v4638, v4637, v4636, v4631, v4630, v4629, v4628, v4627, v4626, k0_pay859]
  refine List.forall_mem_cons.2 ⟨pieceN (c := c) _ _ a4 f4 5 4 8 (by norm_num) (by norm_num) rfl 8704 1024 8 24 40 56 72 88 9 25 41 57 73 89 68 188 rfl rfl rfl rfl rfl rfl rfl rfl rfl rfl rfl rfl rfl rfl rfl rfl _ _ _ _ _ _ _ _ _ _ _ _ _ _  inb_S12x15360_S12x128_0_8704, ?_⟩
  exact ih
theorem outK87
    (ih : Fits (gOut c a4 h4 a5 h5 f0 f1 f2 f3 f4 d6 d8 d9 d12) (Ha5_86 (F := Ideal) c a4 h4 a5 h5 f0 f1 f2 f3 f4 d6 d8 d9 d12)) :
    Fits (gOut c a4 h4 a5 h5 f0 f1 f2 f3 f4 d6 d8 d9 d12) (Ha5_87 (F := Ideal) c a4 h4 a5 h5 f0 f1 f2 f3 f4 d6 d8 d9 d12) := by
  unfold Fits gOut at ih
  unfold Fits gOut Ha5_87
  generalize Ha5_86 (F := Ideal) c a4 h4 a5 h5 f0 f1 f2 f3 f4 d6 d8 d9 d12 = L at ih ⊢
  simp only [v4664, v4663, v4662, v4661, v4660, v4659, v4654, v4653, v4652, v4651, v4650, v4649, k0_pay860]
  refine List.forall_mem_cons.2 ⟨pieceN (c := c) _ _ a4 f4 6 5 8 (by norm_num) (by norm_num) rfl 10240 1024 10 26 42 58 74 90 11 27 43 59 75 91 80 200 rfl rfl rfl rfl rfl rfl rfl rfl rfl rfl rfl rfl rfl rfl rfl rfl _ _ _ _ _ _ _ _ _ _ _ _ _ _  inb_S12x15360_S12x128_0_10240, ?_⟩
  exact ih
theorem outK88
    (ih : Fits (gOut c a4 h4 a5 h5 f0 f1 f2 f3 f4 d6 d8 d9 d12) (Ha5_87 (F := Ideal) c a4 h4 a5 h5 f0 f1 f2 f3 f4 d6 d8 d9 d12)) :
    Fits (gOut c a4 h4 a5 h5 f0 f1 f2 f3 f4 d6 d8 d9 d12) (Ha5_88 (F := Ideal) c a4 h4 a5 h5 f0 f1 f2 f3 f4 d6 d8 d9 d12) := by
  unfold Fits gOut at ih
  unfold Fits gOut Ha5_88
  generalize Ha5_87 (F := Ideal) c a4 h4 a5 h5 f0 f1 f2 f3 f4 d6 d8 d9 d12 = L at ih ⊢
  simp only [v4676, r_181, v4672, k0_pay861, k0_pay862]
  refine List.forall_mem_cons.2 ⟨pieceRest (c := c) _ _ a4 f4 7 1 8 (by norm_num) (by norm_num) rfl 11776 1024 16 24 92 212 rfl rfl rfl rfl rfl rfl _ _ _ _  inb_S12x15360_S12x128_0_11776, ?_⟩
  exact ih
theorem outK89
    (ih : Fits (gOut c a4 h4 a5 h5 f0 f1 f2 f3 f4 d6 d8 d9 d12) (Ha5_88 (F := Ideal) c a4 h4 a5 h5 f0 f1 f2 f3 f4 d6 d8 d9 d12)) :
    Fits (gOut c a4 h4 a5 h5 f0 f1 f2 f3 f4 d6 d8 d9 d12) (Ha5_89 (F := Ideal) c a4 h4 a5 h5 f0 f1 f2 f3 f4 d6 d8 d9 d12) := by
  unfold Fits gOut at ih
  unfold Fits gOut Ha5_89
  generalize Ha5_88 (F := Ideal) c a4 h4 a5 h5 f0 f1 f2 f3 f4 d6 d8 d9 d12 = L at ih ⊢
  simp only [r_183, v4698, v4697, v4696, v4695, v4694, v4693, k0_pay864, r_182, v4688, v4687, v4686, v4685, v4684, v4683, k0_pay863, k0_pay865]
  refine List.forall_mem_cons.2 ⟨pieceN (c := c) _ _ a4 f4 8 6 8 (by norm_num) (by norm_num) rfl 13312 1024 12 28 44 60 76 92 13 29 45 61 77 93 104 224 rfl rfl rfl rfl rfl rfl rfl rfl rfl rfl rfl rfl rfl rfl rfl rfl _ _ _ _ _ _ _ _ _ _ _ _ _ _  inb_S12x15360_S12x128_0_13312, ?_⟩
  exact ih
theorem outK91
    (ih : Fits (gOut c a4 h4 a5 h5 f0 f1 f2 f3 f4 d6 d8 d9 d12) (Ha5_89 (F := Ideal) c a4 h4 a5 h5 f0 f1 f2 f3 f4 d6 d8 d9 d12)) :
    Fits (gOut c a4 h4 a5 h5 f0 f1 f2 f3 f4 d6 d8 d9 d12) (Ha5_91 (F := Ideal) c a4 h4 a5 h5 f0 f1 f2 f3 f4 d6 d8 d9 d12) := by
  unfold Fits gOut at ih
  unfold Fits gOut Ha5_91
  generalize Ha5_89 (F := Ideal) c a4 h4 a5 h5 f0 f1 f2 f3 f4 d6 d8 d9 d12 = L at ih ⊢
  simp only [r_184, v4721, v4720, v4719, v4718, v4717, v4716, v4711, v4710, v4709, v4708, v4707, v4706, k0_pay866, v4744, v4743, v4742, v4741, v4740, v4739, v4734, v4733, v4732, v4731, v4730, v4729, k0_pay867]
  refine List.forall_mem_cons.2 ⟨pieceN (c := c) _ _ a4 f4 0 0 9 (by norm_num) (by norm_num) rfl 1152 1152 0 16 32 48 64 80 1 17 33 49 65 81 9 129 rfl rfl rfl rfl rfl rfl rfl rfl rfl rfl rfl rfl rfl rfl rfl rfl _ _ _ _ _ _ _ _ _ _ _ _ _ _  inb_S12x15360_S12x128_0_1152, ?_⟩
  refine List.forall_mem_cons.2 ⟨pieceN (c := c) _ _ a4 f4 9 7 8 (by norm_num) (by norm_num) rfl 14848 1024 14 30 46 62 78 94 15 31 47 63 79 95 116 236 rfl rfl rfl rfl rfl rfl rfl rfl rfl rfl rfl rfl rfl rfl rfl rfl _ _ _ _ _ _ _ _ _ _ _ _ _ _  inb_S12x15360_S12x128_0_14848, ?_⟩
  exact ih
theorem outK92
    (ih : Fits (gOut c a4 h4 a5 h5 f0 f1 f2 f3 f4 d6 d8 d9 d12) (Ha5_91 (F := Ideal) c a4 h4 a5 h5 f0 f1 f2 f3 f4 d6 d8 d9 d12)) :
    Fits (gOut c a4 h4 a5 h5 f0 f1 f2 f3 f4 d6 d8 d9 d12) (Ha5_92 (F := Ideal) c a4 h4 a5 h5 f0 f1 f2 f3 f4 d6 d8 d9 d12) := by
  unfold Fits gOut at ih
  unfold Fits gOut Ha5_92
  generalize Ha5_91 (F := Ideal) c a4 h4 a5 h5 f0 f1 f2 f3 f4 d6 d8 d9 d12 = L at ih ⊢
  simp only [v4767, v4766, v4765, v4764, v4763, v4762, v4757, v4756, v4755, v4754, v4753, v, k0_pay868]
  refine List.forall_mem_cons.2 ⟨pieceN (c := c) _ _ a4 f4 1 1 9 (by norm_num) (by norm_num) rfl 2688 1152 2 18 34 50 66 82 3 19 35 51 67 83 21 141 rfl rfl rfl rfl rfl rfl rfl rfl rfl rfl rfl rfl rfl rfl rfl rfl _ _ _ _ _ _ _ _ _ _ _ _ _ _  inb_S12x15360_S12x128_0_2688, ?_⟩
  exact ih
theorem outK93
    (ih : Fits (gOut c a4 h4 a5 h5 f0 f1 f2 f3 f4 d6 d8 d9 d12) (Ha5_92 (F := Ideal) c a4 h4 a5 h5 f0 f1 f2 f3 f4 d6 d8 d9 d12)) :
    Fits (gOut c a4 h4 a5 h5 f0 f1 f2 f3 f4 d6 d8 d9 d12) (Ha5_93 (F := Ideal) c a4 h4 a5 h5 f0 f1 f2 f3 f4 d6 d8 d9 d12) := by
  unfold Fits gOut at ih
  unfold Fits gOut Ha5_93
  generalize Ha5_92 (F := Ideal) c a4 h4 a5 h5 f0 f1 f2 f3 f4 d6 d8 d9 d12 = L at ih ⊢
  simp only [v4790, v4789, v4788, v4787, v4786, v4785, v4780, v4779, v4778, v4777, v4776, v4775, k0_pay869]
  refine List.forall_mem_cons.2 ⟨pieceN (c := c) _ _ a4 f4 2 2 9 (by norm_num) (by norm_num) rfl 4224 1152 4 20 36 52 68 84 5 21 37 53 69 85 33 153 rfl rfl rfl rfl rfl rfl rfl rfl rfl rfl rfl rfl rfl rfl rfl rfl _ _ _ _ _ _ _ _ _ _ _ _ _ _  inb_S12x15360_S12x128_0_4224, ?_⟩
  exact ih
theorem outK94
    (ih : Fits (gOut c a4 h4 a5 h5 f0 f1 f2 f3 f4 d6 d8 d9 d12) (Ha5_93 (F := Ideal) c a4 h4 a5 h5 f0 f1 f2 f3 f4 d6 d8 d9 d12)) :
    Fits (gOut c a4 h4 a5 h5 f0 f1 f2 f3 f4 d6 d8 d9 d12) (Ha5_94 (F := Ideal) c a4 h4 a5 h5 f0 f1 f2 f3 f4 d6 d8 d9 d12) := by
  unfold Fits gOut at ih
  unfold Fits gOut Ha5_94
  generalize Ha5_93 (F := Ideal) c a4 h4 a5 h5 f0 f1 f2 f3 f4 d6 d8 d9 d12 = L at ih ⊢
  simp only [v4802, r_185, v4798, k0_pay870, k0_pay871]
  refine List.forall_mem_cons.2 ⟨pieceRest (c := c) _ _ a4 f4 3 0 9 (by norm_num) (by norm_num) rfl 5760 1152 0 8 45 165 rfl rfl rfl rfl rfl rfl _ _ _ _  inb_S12x15360_S12x128_0_5760, ?_⟩
  exact ih
theorem outK96
    (ih : Fits (gOut c a4 h4 a5 h5 f0 f1 f2 f3 f4 d6 d8 d9 d12) (Ha5_94 (F := Ideal) c a4 h4 a5 h5 f0 f1 f2 f3 f4 d6 d8 d9 d12)) :
    Fits (gOut c a4 h4 a5 h5 f0 f1 f2 f3 f4 d6 d8 d9 d12) (Ha5_96 (F := Ideal) c a4 h4 a5 h5 f0 f1 f2 f3 f4 d6 d8 d9 d12) := by
  unfold Fits gOut at ih
  unfold Fits gOut Ha5_96
  generalize Ha5_94 (F := Ideal) c a4 h4 a5 h5 f0 f1 f2 f3 f4 d6 d8 d9 d12 = L at ih ⊢
  simp only [r_187, v4824, v4823, v4822, v4821, v4820, v4819, k0_pay873, r_186, v4814, v4813, v4812, v4811, v4810, v4809, k0_pay872, k0_pay874, v4847, v4846, v4845, v4844, v4843, v4842, v4837, v4836, v4835, v4834, v4833, v4832, k0_pay875]
  refine List.forall_mem_cons.2 ⟨pieceN (c := c) _ _ a4 f4 5 4 9 (by norm_num) (by norm_num) rfl 8832 1152 8 24 40 56 72 88 9 25 41 57 73 89 69 189 rfl rfl rfl rfl rfl rfl rfl rfl rfl rfl rfl rfl rfl rfl rfl rfl _ _ _ _ _ _ _ _ _ _ _ _ _ _  inb_S12x15360_S12x128_0_8832, ?_⟩
  refine List.forall_mem_cons.2 ⟨pieceN (c := c) _ _ a4 f4 4 3 9 (by norm_num) (by norm_num) rfl 7296 1152 6 22 38 54 70 86 7 23 39 55 71 87 57 177 rfl rfl rfl rfl rfl rfl rfl rfl rfl rfl rfl rfl rfl rfl rfl rfl _ _ _ _ _ _ _ _ _ _ _ _ _ _  inb_S12x15360_S12x128_0_7296, ?_⟩
  exact ih
theorem outK97
    (ih : Fits (gOut c a4 h4 a5 h5 f0 f1 f2 f3 f4 d6 d8 d9 d12) (Ha5_96 (F := Ideal) c a4 h4 a5 h5 f0 f1 f2 f3 f4 d6 d8 d9 d12)) :
    Fits (gOut c a4 h4 a5 h5 f0 f1 f2 f3 f4 d6 d8 d9 d12) (Ha5_97 (F := Ideal) c a4 h4 a5 h5 f0 f1 f2 f3 f4 d6 d8 d9 d12) := by
  unfold Fits gOut at ih
  unfold Fits gOut Ha5_97
  generalize Ha5_96 (F := Ideal) c a4 h4 a5 h5 f0 f1 f2 f3 f4 d6 d8 d9 d12 = L at ih ⊢
  simp only [v4870, v4869, v4868, v4867, v4866, v4865, v4860, v4859, v4858, v4857, v4856, v4855, k0_pay876]
  refine List.forall_mem_cons.2 ⟨pieceN (c := c) _ _ a4 f4 6 5 9 (by norm_num) (by norm_num) rfl 10368 1152 10 26 42 58 74 90 11 27 43 59 75 91 81 201 rfl rfl rfl rfl rfl rfl rfl rfl rfl rfl rfl rfl rfl rfl rfl rfl _ _ _ _ _ _ _ _ _ _ _ _ _ _  inb_S12x15360_S12x128_0_10368, ?_⟩
  exact ih
theorem outK98
    (ih : Fits (gOut c a4 h4 a5 h5 f0 f1 f2 f3 f4 d6 d8 d9 d12) (Ha5_97 (F := Ideal) c a4 h4 a5 h5 f0 f1 f2 f3 f4 d6 d8 d9 d12)) :
    Fits (gOut c a4 h4 a5 h5 f0 f1 f2 f3 f4 d6 d8 d9 d12) (Ha5_98 (F := Ideal) c a4 h4 a5 h5 f0 f1 f2 f3 f4 d6 d8 d9 d12) := by
  unfold Fits gOut at ih
  unfold Fits gOut Ha5_98
  generalize Ha5_97 (F := Ideal) c a4 h4 a5 h5 f0 f1 f2 f3 f4 d6 d8 d9 d12 = L at ih ⊢
  simp only [v4882, v4878, k0_pay877]
  refine List.forall_mem_cons.2 ⟨pieceRest (c := c) _ _ a4 f4 7 1 9 (by norm_num) (by norm_num) rfl 11904 1152 16 24 93 213 rfl rfl rfl rfl rfl rfl _ _ _ _  inb_S12x15360_S12x128_0_11904, ?_⟩
  exact ih
end Cert.KernelIdeal.Hand
-- ==== Proof.Ideal.OutP5.lean ====
/- The pieces of the output, some of them. -/
module
public import proofs.«01_k».proof.Proof.Ideal.OutBase
@[expose] public section
set_option maxHeartbeats 0
set_option maxRecDepth 100000
noncomputable section
namespace Cert.KernelIdeal.Hand
open Cert.KernelIdeal Cert.KernelIdeal.Gen
open Idealize.ShloMosaic Idealize.ShloMosaic.TcCoe

variable (c : Dev nD) (a4 : Memref sig .tc .vmem S1440x128 .f32) (h4 : a4.IsWhole) (a5 : Memref sig .tc .vmem S12x15360 .bf16) (h5 : a5.IsWhole) (f0 : BufOf (F := Ideal) c hb0) (f1 : BufOf (F := Ideal) c hb1) (f2 : BufOf (F := Ideal) c hb2) (f3 : BufOf (F := Ideal) c hb3) (f4 : BufOf (F := Ideal) c a4) (d6 : BufOf (F := Ideal) c sc0) (d8 : BufOf (F := Ideal) c sc2) (d9 : BufOf (F := Ideal) c sc3) (d12 : BufOf (F := Ideal) c sc6)
open body_run.sl
theorem outK99
    (ih : Fits (gOut c a4 h4 a5 h5 f0 f1 f2 f3 f4 d6 d8 d9 d12) (Ha5_98 (F := Ideal) c a4 h4 a5 h5 f0 f1 f2 f3 f4 d6 d8 d9 d12)) :
    Fits (gOut c a4 h4 a5 h5 f0 f1 f2 f3 f4 d6 d8 d9 d12) (Ha5_99 (F := Ideal) c a4 h4 a5 h5 f0 f1 f2 f3 f4 d6 d8 d9 d12) := by
  unfold Fits gOut at ih
  unfold Fits gOut Ha5_99
  generalize Ha5_98 (F := Ideal) c a4 h4 a5 h5 f0 f1 f2 f3 f4 d6 d8 d9 d12 = L at ih ⊢
  simp only [v4904, v4903, v4902, v4901, v4900, v4899, r_188, v4894, v4893, v4892, v4891, v4890, v4889, k0_pay878, k0_pay879]
  refine List.forall_mem_cons.2 ⟨pieceN (c := c) _ _ a4 f4 8 6 9 (by norm_num) (by norm_num) rfl 13440 1152 12 28 44 60 76 92 13 29 45 61 77 93 105 225 rfl rfl rfl rfl rfl rfl rfl rfl rfl rfl rfl rfl rfl rfl rfl rfl _ _ _ _ _ _ _ _ _ _ _ _ _ _  inb_S12x15360_S12x128_0_13440, ?_⟩
  exact ih
theorem outK100
    (ih : Fits (gOut c a4 h4 a5 h5 f0 f1 f2 f3 f4 d6 d8 d9 d12) (Ha5_99 (F := Ideal) c a4 h4 a5 h5 f0 f1 f2 f3 f4 d6 d8 d9 d12)) :
    Fits (gOut c a4 h4 a5 h5 f0 f1 f2 f3 f4 d6 d8 d9 d12) (Ha5_100 (F := Ideal) c a4 h4 a5 h5 f0 f1 f2 f3 f4 d6 d8 d9 d12) := by
  unfold Fits gOut at ih
  unfold Fits gOut Ha5_100
  generalize Ha5_99 (F := Ideal) c a4 h4 a5 h5 f0 f1 f2 f3 f4 d6 d8 d9 d12 = L at ih ⊢
  simp only [r_191, k0_pay882, r_190, v4927, v4926, v4925, v4924, v4923, v4922, k0_pay881, r_189, v4917, v4916, v4915, v4914, v4913, v4912, k0_pay880, k0_pay883]
  refine List.forall_mem_cons.2 ⟨pieceN (c := c) _ _ a4 f4 9 7 9 (by norm_num) (by norm_num) rfl 14976 1152 14 30 46 62 78 94 15 31 47 63 79 95 117 237 rfl rfl rfl rfl rfl rfl rfl rfl rfl rfl rfl rfl rfl rfl rfl rfl _ _ _ _ _ _ _ _ _ _ _ _ _ _  inb_S12x15360_S12x128_0_14976, ?_⟩
  exact ih
theorem outK102
    (ih : Fits (gOut c a4 h4 a5 h5 f0 f1 f2 f3 f4 d6 d8 d9 d12) (Ha5_100 (F := Ideal) c a4 h4 a5 h5 f0 f1 f2 f3 f4 d6 d8 d9 d12)) :
    Fits (gOut c a4 h4 a5 h5 f0 f1 f2 f3 f4 d6 d8 d9 d12) (Ha5_102 (F := Ideal) c a4 h4 a5 h5 f0 f1 f2 f3 f4 d6 d8 d9 d12) := by
  unfold Fits gOut at ih
  unfold Fits gOut Ha5_102
  generalize Ha5_100 (F := Ideal) c a4 h4 a5 h5 f0 f1 f2 f3 f4 d6 d8 d9 d12 = L at ih ⊢
  simp only [r_192, v4950, v4949, v4948, v4947, v4946, v4945, v4940, v4939, v4938, v4937, v4936, v4935, k0_pay884, v4973, v4972, v4971, v4970, v4969, v4968, v4963, v4962, v4961, v4960, v4959, v4958, k0_pay885]
  refine List.forall_mem_cons.2 ⟨pieceN (c := c) _ _ a4 f4 1 1 10 (by norm_num) (by norm_num) rfl 2816 1280 2 18 34 50 66 82 3 19 35 51 67 83 22 142 rfl rfl rfl rfl rfl rfl rfl rfl rfl rfl rfl rfl rfl rfl rfl rfl _ _ _ _ _ _ _ _ _ _ _ _ _ _  inb_S12x15360_S12x128_0_2816, ?_⟩
  refine List.forall_mem_cons.2 ⟨pieceN (c := c) _ _ a4 f4 0 0 10 (by norm_num) (by norm_num) rfl 1280 1280 0 16 32 48 64 80 1 17 33 49 65 81 10 130 rfl rfl rfl rfl rfl rfl rfl rfl rfl rfl rfl rfl rfl rfl rfl rfl _ _ _ _ _ _ _ _ _ _ _ _ _ _  inb_S12x15360_S12x128_0_1280, ?_⟩
  exact ih
theorem outK103
    (ih : Fits (gOut c a4 h4 a5 h5 f0 f1 f2 f3 f4 d6 d8 d9 d12) (Ha5_102 (F := Ideal) c a4 h4 a5 h5 f0 f1 f2 f3 f4 d6 d8 d9 d12)) :
    Fits (gOut c a4 h4 a5 h5 f0 f1 f2 f3 f4 d6 d8 d9 d12) (Ha5_103 (F := Ideal) c a4 h4 a5 h5 f0 f1 f2 f3 f4 d6 d8 d9 d12) := by
  unfold Fits gOut at ih
  unfold Fits gOut Ha5_103
  generalize Ha5_102 (F := Ideal) c a4 h4 a5 h5 f0 f1 f2 f3 f4 d6 d8 d9 d12 = L at ih ⊢
  simp only [v4996, v4995, v4994, v4993, v4992, v4991, v4986, v4985, v4984, v4983, v4982, v4981, k0_pay886]
  refine List.forall_mem_cons.2 ⟨pieceN (c := c) _ _ a4 f4 2 2 10 (by norm_num) (by norm_num) rfl 4352 1280 4 20 36 52 68 84 5 21 37 53 69 85 34 154 rfl rfl rfl rfl rfl rfl rfl rfl rfl rfl rfl rfl rfl rfl rfl rfl _ _ _ _ _ _ _ _ _ _ _ _ _ _  inb_S12x15360_S12x128_0_4352, ?_⟩
  exact ih
theorem outK104
    (ih : Fits (gOut c a4 h4 a5 h5 f0 f1 f2 f3 f4 d6 d8 d9 d12) (Ha5_103 (F := Ideal) c a4 h4 a5 h5 f0 f1 f2 f3 f4 d6 d8 d9 d12)) :
    Fits (gOut c a4 h4 a5 h5 f0 f1 f2 f3 f4 d6 d8 d9 d12) (Ha5_104 (F := Ideal) c a4 h4 a5 h5 f0 f1 f2 f3 f4 d6 d8 d9 d12) := by
  unfold Fits gOut at ih
  unfold Fits gOut Ha5_104
  generalize Ha5_103 (F := Ideal) c a4 h4 a5 h5 f0 f1 f2 f3 f4 d6 d8 d9 d12 = L at ih ⊢
  simp only [v5008, r_193, k0_pay887, v5004, k0_pay888]
  refine List.forall_mem_cons.2 ⟨pieceRest (c := c) _ _ a4 f4 3 0 10 (by norm_num) (by norm_num) rfl 5888 1280 0 8 46 166 rfl rfl rfl rfl rfl rfl _ _ _ _  inb_S12x15360_S12x128_0_5888, ?_⟩
  exact ih
theorem outK105
    (ih : Fits (gOut c a4 h4 a5 h5 f0 f1 f2 f3 f4 d6 d8 d9 d12) (Ha5_104 (F := Ideal) c a4 h4 a5 h5 f0 f1 f2 f3 f4 d6 d8 d9 d12)) :
    Fits (gOut c a4 h4 a5 h5 f0 f1 f2 f3 f4 d6 d8 d9 d12) (Ha5_105 (F := Ideal) c a4 h4 a5 h5 f0 f1 f2 f3 f4 d6 d8 d9 d12) := by
  unfold Fits gOut at ih
  unfold Fits gOut Ha5_105
  generalize Ha5_104 (F := Ideal) c a4 h4 a5 h5 f0 f1 f2 f3 f4 d6 d8 d9 d12 = L at ih ⊢
  simp only [r_195, v5030, v5029, v5028, v5027, v5026, v5025, k0_pay890, r_194, v5020, v5019, v5018, v5017, v5016, v5015, k0_pay889, k0_pay891]
  refine List.forall_mem_cons.2 ⟨pieceN (c := c) _ _ a4 f4 4 3 10 (by norm_num) (by norm_num) rfl 7424 1280 6 22 38 54 70 86 7 23 39 55 71 87 58 178 rfl rfl rfl rfl rfl rfl rfl rfl rfl rfl rfl rfl rfl rfl rfl rfl _ _ _ _ _ _ _ _ _ _ _ _ _ _  inb_S12x15360_S12x128_0_7424, ?_⟩
  exact ih
theorem outK106
    (ih : Fits (gOut c a4 h4 a5 h5 f0 f1 f2 f3 f4 d6 d8 d9 d12) (Ha5_105 (F := Ideal) c a4 h4 a5 h5 f0 f1 f2 f3 f4 d6 d8 d9 d12)) :
    Fits (gOut c a4 h4 a5 h5 f0 f1 f2 f3 f4 d6 d8 d9 d12) (Ha5_106 (F := Ideal) c a4 h4 a5 h5 f0 f1 f2 f3 f4 d6 d8 d9 d12) := by
  unfold Fits gOut at ih
  unfold Fits gOut Ha5_106
  generalize Ha5_105 (F := Ideal) c a4 h4 a5 h5 f0 f1 f2 f3 f4 d6 d8 d9 d12 = L at ih ⊢
  simp only [r_197, v5043, v5042, v5041, v5040, v5039, v5038, k0_pay893, r_196, v5053, v5052, v5051, v5050, v5049, v5048, k0_pay892, k0_pay894]
  refine List.forall_mem_cons.2 ⟨pieceN (c := c) _ _ a4 f4 5 4 10 (by norm_num) (by norm_num) rfl 8960 1280 8 24 40 56 72 88 9 25 41 57 73 89 70 190 rfl rfl rfl rfl rfl rfl rfl rfl rfl rfl rfl rfl rfl rfl rfl rfl _ _ _ _ _ _ _ _ _ _ _ _ _ _  inb_S12x15360_S12x128_0_8960, ?_⟩
  exact ih
theorem outK108
    (ih : Fits (gOut c a4 h4 a5 h5 f0 f1 f2 f3 f4 d6 d8 d9 d12) (Ha5_106 (F := Ideal) c a4 h4 a5 h5 f0 f1 f2 f3 f4 d6 d8 d9 d12)) :
    Fits (gOut c a4 h4 a5 h5 f0 f1 f2 f3 f4 d6 d8 d9 d12) (Ha5_108 (F := Ideal) c a4 h4 a5 h5 f0 f1 f2 f3 f4 d6 d8 d9 d12) := by
  unfold Fits gOut at ih
  unfold Fits gOut Ha5_108
  generalize Ha5_106 (F := Ideal) c a4 h4 a5 h5 f0 f1 f2 f3 f4 d6 d8 d9 d12 = L at ih ⊢
  simp only [r_198, v5076, v5075, v5074, v5073, v5072, v5071, v5066, v5065, v5064, v5063, v5062, v5061, k0_pay895, v5088, v5084, k0_pay896]
  refine List.forall_mem_cons.2 ⟨pieceRest (c := c) _ _ a4 f4 7 1 10 (by norm_num) (by norm_num) rfl 12032 1280 16 24 94 214 rfl rfl rfl rfl rfl rfl _ _ _ _  inb_S12x15360_S12x128_0_12032, ?_⟩
  refine List.forall_mem_cons.2 ⟨pieceN (c := c) _ _ a4 f4 6 5 10 (by norm_num) (by norm_num) rfl 10496 1280 10 26 42 58 74 90 11 27 43 59 75 91 82 202 rfl rfl rfl rfl rfl rfl rfl rfl rfl rfl rfl rfl rfl rfl rfl rfl _ _ _ _ _ _ _ _ _ _ _ _ _ _  inb_S12x15360_S12x128_0_10496, ?_⟩
  exact ih
theorem outK109
    (ih : Fits (gOut c a4 h4 a5 h5 f0 f1 f2 f3 f4 d6 d8 d9 d12) (Ha5_108 (F := Ideal) c a4 h4 a5 h5 f0 f1 f2 f3 f4 d6 d8 d9 d12)) :
    Fits (gOut c a4 h4 a5 h5 f0 f1 f2 f3 f4 d6 d8 d9 d12) (Ha5_109 (F := Ideal) c a4 h4 a5 h5 f0 f1 f2 f3 f4 d6 d8 d9 d12) := by
  unfold Fits gOut at ih
  unfold Fits gOut Ha5_109
  generalize Ha5_108 (F := Ideal) c a4 h4 a5 h5 f0 f1 f2 f3 f4 d6 d8 d9 d12 = L at ih ⊢
  simp only [v5110, v5109, v5108, v5107, v5106, v5105, r_199, v5100, v5099, v5098, v5097, v5096, v5095, k0_pay897, k0_pay898]
  refine List.forall_mem_cons.2 ⟨pieceN (c := c) _ _ a4 f4 8 6 10 (by norm_num) (by norm_num) rfl 13568 1280 12 28 44 60 76 92 13 29 45 61 77 93 106 226 rfl rfl rfl rfl rfl rfl rfl rfl rfl rfl rfl rfl rfl rfl rfl rfl _ _ _ _ _ _ _ _ _ _ _ _ _ _  inb_S12x15360_S12x128_0_13568, ?_⟩
  exact ih
theorem outK110
    (ih : Fits (gOut c a4 h4 a5 h5 f0 f1 f2 f3 f4 d6 d8 d9 d12) (Ha5_109 (F := Ideal) c a4 h4 a5 h5 f0 f1 f2 f3 f4 d6 d8 d9 d12)) :
    Fits (gOut c a4 h4 a5 h5 f0 f1 f2 f3 f4 d6 d8 d9 d12) (Ha5_110 (F := Ideal) c a4 h4 a5 h5 f0 f1 f2 f3 f4 d6 d8 d9 d12) := by
  unfold Fits gOut at ih
  unfold Fits gOut Ha5_110
  generalize Ha5_109 (F := Ideal) c a4 h4 a5 h5 f0 f1 f2 f3 f4 d6 d8 d9 d12 = L at ih ⊢
  simp only [v5133, v5132, v5131, v5130, v5129, v5128, r_200, v5123, v5122, v5121, v5120, v5119, v5118, k0_pay899, k0_pay900]
  refine List.forall_mem_cons.2 ⟨pieceN (c := c) _ _ a4 f4 9 7 10 (by norm_num) (by norm_num) rfl 15104 1280 14 30 46 62 78 94 15 31 47 63 79 95 118 238 rfl rfl rfl rfl rfl rfl rfl rfl rfl rfl rfl rfl rfl rfl rfl rfl _ _ _ _ _ _ _ _ _ _ _ _ _ _  inb_S12x15360_S12x128_0_15104, ?_⟩
  exact ih
theorem outK111
    (ih : Fits (gOut c a4 h4 a5 h5 f0 f1 f2 f3 f4 d6 d8 d9 d12) (Ha5_110 (F := Ideal) c a4 h4 a5 h5 f0 f1 f2 f3 f4 d6 d8 d9 d12)) :
    Fits (gOut c a4 h4 a5 h5 f0 f1 f2 f3 f4 d6 d8 d9 d12) (Ha5_111 (F := Ideal) c a4 h4 a5 h5 f0 f1 f2 f3 f4 d6 d8 d9 d12) := by
  unfold Fits gOut at ih
  unfold Fits gOut Ha5_111
  generalize Ha5_110 (F := Ideal) c a4 h4 a5 h5 f0 f1 f2 f3 f4 d6 d8 d9 d12 = L at ih ⊢
  simp only [r_203, r_202, v5156, v5155, v5154, v5153, v5152, v5151, k0_pay902, r_201, v5146, v5145, v5144, v5143, v5142, v5141, k0_pay901, k0_pay903]
  refine List.forall_mem_cons.2 ⟨pieceN (c := c) _ _ a4 f4 0 0 11 (by norm_num) (by norm_num) rfl 1408 1408 0 16 32 48 64 80 1 17 33 49 65 81 11 131 rfl rfl rfl rfl rfl rfl rfl rfl rfl rfl rfl rfl rfl rfl rfl rfl _ _ _ _ _ _ _ _ _ _ _ _ _ _  inb_S12x15360_S12x128_0_1408, ?_⟩
  exact ih
theorem outK113
    (ih : Fits (gOut c a4 h4 a5 h5 f0 f1 f2 f3 f4 d6 d8 d9 d12) (Ha5_111 (F := Ideal) c a4 h4 a5 h5 f0 f1 f2 f3 f4 d6 d8 d9 d12)) :
    Fits (gOut c a4 h4 a5 h5 f0 f1 f2 f3 f4 d6 d8 d9 d12) (Ha5_113 (F := Ideal) c a4 h4 a5 h5 f0 f1 f2 f3 f4 d6 d8 d9 d12) := by
  unfold Fits gOut at ih
  unfold Fits gOut Ha5_113
  generalize Ha5_111 (F := Ideal) c a4 h4 a5 h5 f0 f1 f2 f3 f4 d6 d8 d9 d12 = L at ih ⊢
  simp only [r_204, v5179, v5178, v5177, v5176, v5175, v5174, v5169, v5168, v5167, v5166, v5165, v5164, k0_pay904, v5202, v5201, v5200, v5199, v5198, v5197, v5192, v5191, v5190, v5189, v5188, v5187, k0_pay905]
  refine List.forall_mem_cons.2 ⟨pieceN (c := c) _ _ a4 f4 2 2 11 (by norm_num) (by norm_num) rfl 4480 1408 4 20 36 52 68 84 5 21 37 53 69 85 35 155 rfl rfl rfl rfl rfl rfl rfl rfl rfl rfl rfl rfl rfl rfl rfl rfl _ _ _ _ _ _ _ _ _ _ _ _ _ _  inb_S12x15360_S12x128_0_4480, ?_⟩
  refine List.forall_mem_cons.2 ⟨pieceN (c := c) _ _ a4 f4 1 1 11 (by norm_num) (by norm_num) rfl 2944 1408 2 18 34 50 66 82 3 19 35 51 67 83 23 143 rfl rfl rfl rfl rfl rfl rfl rfl rfl rfl rfl rfl rfl rfl rfl rfl _ _ _ _ _ _ _ _ _ _ _ _ _ _  inb_S12x15360_S12x128_0_2944, ?_⟩
  exact ih
theorem outK114
    (ih : Fits (gOut c a4 h4 a5 h5 f0 f1 f2 f3 f4 d6 d8 d9 d12) (Ha5_113 (F := Ideal) c a4 h4 a5 h5 f0 f1 f2 f3 f4 d6 d8 d9 d12)) :
    Fits (gOut c a4 h4 a5 h5 f0 f1 f2 f3 f4 d6 d8 d9 d12) (Ha5_114 (F := Ideal) c a4 h4 a5 h5 f0 f1 f2 f3 f4 d6 d8 d9 d12) := by
  unfold Fits gOut at ih
  unfold Fits gOut Ha5_114
  generalize Ha5_113 (F := Ideal) c a4 h4 a5 h5 f0 f1 f2 f3 f4 d6 d8 d9 d12 = L at ih ⊢
  simp only [v5214, v5210, k0_pay906]
  refine List.forall_mem_cons.2 ⟨pieceRest (c := c) _ _ a4 f4 3 0 11 (by norm_num) (by norm_num) rfl 6016 1408 0 8 47 167 rfl rfl rfl rfl rfl rfl _ _ _ _  inb_S12x15360_S12x128_0_6016, ?_⟩
  exact ih
theorem outK115
    (ih : Fits (gOut c a4 h4 a5 h5 f0 f1 f2 f3 f4 d6 d8 d9 d12) (Ha5_114 (F := Ideal) c a4 h4 a5 h5 f0 f1 f2 f3 f4 d6 d8 d9 d12)) :
    Fits (gOut c a4 h4 a5 h5 f0 f1 f2 f3 f4 d6 d8 d9 d12) (Ha5_115 (F := Ideal) c a4 h4 a5 h5 f0 f1 f2 f3 f4 d6 d8 d9 d12) := by
  unfold Fits gOut at ih
  unfold Fits gOut Ha5_115
  generalize Ha5_114 (F := Ideal) c a4 h4 a5 h5 f0 f1 f2 f3 f4 d6 d8 d9 d12 = L at ih ⊢
  simp only [v5236, v5235, v5234, v5233, v5232, v5231, r_205, v5226, v5225, v5224, v5223, v5222, v5221, k0_pay907, k0_pay908]
  refine List.forall_mem_cons.2 ⟨pieceN (c := c) _ _ a4 f4 4 3 11 (by norm_num) (by norm_num) rfl 7552 1408 6 22 38 54 70 86 7 23 39 55 71 87 59 179 rfl rfl rfl rfl rfl rfl rfl rfl rfl rfl rfl rfl rfl rfl rfl rfl _ _ _ _ _ _ _ _ _ _ _ _ _ _  inb_S12x15360_S12x128_0_7552, ?_⟩
  exact ih
theorem outK116
    (ih : Fits (gOut c a4 h4 a5 h5 f0 f1 f2 f3 f4 d6 d8 d9 d12) (Ha5_115 (F := Ideal) c a4 h4 a5 h5 f0 f1 f2 f3 f4 d6 d8 d9 d12)) :
    Fits (gOut c a4 h4 a5 h5 f0 f1 f2 f3 f4 d6 d8 d9 d12) (Ha5_116 (F := Ideal) c a4 h4 a5 h5 f0 f1 f2 f3 f4 d6 d8 d9 d12) := by
  unfold Fits gOut at ih
  unfold Fits gOut Ha5_116
  generalize Ha5_115 (F := Ideal) c a4 h4 a5 h5 f0 f1 f2 f3 f4 d6 d8 d9 d12 = L at ih ⊢
  simp only [r_207, v5259, v5258, v5257, v5256, v5255, v5254, k0_pay910, r_206, v5249, v5248, v5247, v5246, v5245, v5244, k0_pay909, k0_pay911]
  refine List.forall_mem_cons.2 ⟨pieceN (c := c) _ _ a4 f4 5 4 11 (by norm_num) (by norm_num) rfl 9088 1408 8 24 40 56 72 88 9 25 41 57 73 89 71 191 rfl rfl rfl rfl rfl rfl rfl rfl rfl rfl rfl rfl rfl rfl rfl rfl _ _ _ _ _ _ _ _ _ _ _ _ _ _  inb_S12x15360_S12x128_0_9088, ?_⟩
  exact ih
theorem outK118
    (ih : Fits (gOut c a4 h4 a5 h5 f0 f1 f2 f3 f4 d6 d8 d9 d12) (Ha5_116 (F := Ideal) c a4 h4 a5 h5 f0 f1 f2 f3 f4 d6 d8 d9 d12)) :
    Fits (gOut c a4 h4 a5 h5 f0 f1 f2 f3 f4 d6 d8 d9 d12) (Ha5_118 (F := Ideal) c a4 h4 a5 h5 f0 f1 f2 f3 f4 d6 d8 d9 d12) := by
  unfold Fits gOut at ih
  unfold Fits gOut Ha5_118
  generalize Ha5_116 (F := Ideal) c a4 h4 a5 h5 f0 f1 f2 f3 f4 d6 d8 d9 d12 = L at ih ⊢
  simp only [r_209, v5282, v5281, v5280, v5279, v5278, v5277, k0_pay913, r_208, v5272, v5271, v5270, v5269, v5268, v5267, k0_pay912, k0_pay914, v5294, v5290, k0_pay915]
  refine List.forall_mem_cons.2 ⟨pieceRest (c := c) _ _ a4 f4 7 1 11 (by norm_num) (by norm_num) rfl 12160 1408 16 24 95 215 rfl rfl rfl rfl rfl rfl _ _ _ _  inb_S12x15360_S12x128_0_12160, ?_⟩
  refine List.forall_mem_cons.2 ⟨pieceN (c := c) _ _ a4 f4 6 5 11 (by norm_num) (by norm_num) rfl 10624 1408 10 26 42 58 74 90 11 27 43 59 75 91 83 203 rfl rfl rfl rfl rfl rfl rfl rfl rfl rfl rfl rfl rfl rfl rfl rfl _ _ _ _ _ _ _ _ _ _ _ _ _ _  inb_S12x15360_S12x128_0_10624, ?_⟩
  exact ih
end Cert.KernelIdeal.Hand
-- ==== Proof.Ideal.Out.lean ====
/- The body's output, read at an index. -/
module
public import proofs.«01_k».proof.Proof.Ideal.OutP0
public import proofs.«01_k».proof.Proof.Ideal.OutP1
public import proofs.«01_k».proof.Proof.Ideal.OutP2
public import proofs.«01_k».proof.Proof.Ideal.OutP3
public import proofs.«01_k».proof.Proof.Ideal.OutP4
public import proofs.«01_k».proof.Proof.Ideal.OutP5
@[expose] public section
set_option maxHeartbeats 0
set_option maxRecDepth 100000
noncomputable section
namespace Cert.KernelIdeal.Hand
open Cert.KernelIdeal Cert.KernelIdeal.Gen
open Idealize.ShloMosaic Idealize.ShloMosaic.TcCoe

theorem outAll (c : Dev nD) (a4 : Memref sig .tc .vmem S1440x128 .f32) (h4 : a4.IsWhole) (a5 : Memref sig .tc .vmem S12x15360 .bf16) (h5 : a5.IsWhole) (f0 : BufOf (F := Ideal) c hb0) (f1 : BufOf (F := Ideal) c hb1) (f2 : BufOf (F := Ideal) c hb2) (f3 : BufOf (F := Ideal) c hb3) (f4 : BufOf (F := Ideal) c a4) (d6 : BufOf (F := Ideal) c sc0) (d8 : BufOf (F := Ideal) c sc2) (d9 : BufOf (F := Ideal) c sc3) (d12 : BufOf (F := Ideal) c sc6) : Fits (gOut c a4 h4 a5 h5 f0 f1 f2 f3 f4 d6 d8 d9 d12) (body_run.sl.Ha5_118 (F := Ideal) c a4 h4 a5 h5 f0 f1 f2 f3 f4 d6 d8 d9 d12) := by
  have h := outK2 c a4 h4 a5 h5 f0 f1 f2 f3 f4 d6 d8 d9 d12
  replace h := outK3 c a4 h4 a5 h5 f0 f1 f2 f3 f4 d6 d8 d9 d12 h
  replace h := outK4 c a4 h4 a5 h5 f0 f1 f2 f3 f4 d6 d8 d9 d12 h
  replace h := outK5 c a4 h4 a5 h5 f0 f1 f2 f3 f4 d6 d8 d9 d12 h
  replace h := outK6 c a4 h4 a5 h5 f0 f1 f2 f3 f4 d6 d8 d9 d12 h
  replace h := outK8 c a4 h4 a5 h5 f0 f1 f2 f3 f4 d6 d8 d9 d12 h
  replace h := outK9 c a4 h4 a5 h5 f0 f1 f2 f3 f4 d6 d8 d9 d12 h
  replace h := outK10 c a4 h4 a5 h5 f0 f1 f2 f3 f4 d6 d8 d9 d12 h
  replace h := outK11 c a4 h4 a5 h5 f0 f1 f2 f3 f4 d6 d8 d9 d12 h
  replace h := outK13 c a4 h4 a5 h5 f0 f1 f2 f3 f4 d6 d8 d9 d12 h
  replace h := outK14 c a4 h4 a5 h5 f0 f1 f2 f3 f4 d6 d8 d9 d12 h
  replace h := outK15 c a4 h4 a5 h5 f0 f1 f2 f3 f4 d6 d8 d9 d12 h
  replace h := outK16 c a4 h4 a5 h5 f0 f1 f2 f3 f4 d6 d8 d9 d12 h
  replace h := outK18 c a4 h4 a5 h5 f0 f1 f2 f3 f4 d6 d8 d9 d12 h
  replace h := outK19 c a4 h4 a5 h5 f0 f1 f2 f3 f4 d6 d8 d9 d12 h
  replace h := outK20 c a4 h4 a5 h5 f0 f1 f2 f3 f4 d6 d8 d9 d12 h
  replace h := outK21 c a4 h4 a5 h5 f0 f1 f2 f3 f4 d6 d8 d9 d12 h
  replace h := outK22 c a4 h4 a5 h5 f0 f1 f2 f3 f4 d6 d8 d9 d12 h
  replace h := outK24 c a4 h4 a5 h5 f0 f1 f2 f3 f4 d6 d8 d9 d12 h
  replace h := outK25 c a4 h4 a5 h5 f0 f1 f2 f3 f4 d6 d8 d9 d12 h
  replace h := outK26 c a4 h4 a5 h5 f0 f1 f2 f3 f4 d6 d8 d9 d12 h
  replace h := outK28 c a4 h4 a5 h5 f0 f1 f2 f3 f4 d6 d8 d9 d12 h
  replace h := outK29 c a4 h4 a5 h5 f0 f1 f2 f3 f4 d6 d8 d9 d12 h
  replace h := outK30 c a4 h4 a5 h5 f0 f1 f2 f3 f4 d6 d8 d9 d12 h
  replace h := outK31 c a4 h4 a5 h5 f0 f1 f2 f3 f4 d6 d8 d9 d12 h
  replace h := outK32 c a4 h4 a5 h5 f0 f1 f2 f3 f4 d6 d8 d9 d12 h
  replace h := outK34 c a4 h4 a5 h5 f0 f1 f2 f3 f4 d6 d8 d9 d12 h
  replace h := outK35 c a4 h4 a5 h5 f0 f1 f2 f3 f4 d6 d8 d9 d12 h
  replace h := outK36 c a4 h4 a5 h5 f0 f1 f2 f3 f4 d6 d8 d9 d12 h
  replace h := outK38 c a4 h4 a5 h5 f0 f1 f2 f3 f4 d6 d8 d9 d12 h
  replace h := outK39 c a4 h4 a5 h5 f0 f1 f2 f3 f4 d6 d8 d9 d12 h
  replace h := outK40 c a4 h4 a5 h5 f0 f1 f2 f3 f4 d6 d8 d9 d12 h
  replace h := outK41 c a4 h4 a5 h5 f0 f1 f2 f3 f4 d6 d8 d9 d12 h
  replace h := outK42 c a4 h4 a5 h5 f0 f1 f2 f3 f4 d6 d8 d9 d12 h
  replace h := outK44 c a4 h4 a5 h5 f0 f1 f2 f3 f4 d6 d8 d9 d12 h
  replace h := outK45 c a4 h4 a5 h5 f0 f1 f2 f3 f4 d6 d8 d9 d12 h
  replace h := outK46 c a4 h4 a5 h5 f0 f1 f2 f3 f4 d6 d8 d9 d12 h
  replace h := outK48 c a4 h4 a5 h5 f0 f1 f2 f3 f4 d6 d8 d9 d12 h
  replace h := outK49 c a4 h4 a5 h5 f0 f1 f2 f3 f4 d6 d8 d9 d12 h
  replace h := outK50 c a4 h4 a5 h5 f0 f1 f2 f3 f4 d6 d8 d9 d12 h
  replace h := outK51 c a4 h4 a5 h5 f0 f1 f2 f3 f4 d6 d8 d9 d12 h
  replace h := outK52 c a4 h4 a5 h5 f0 f1 f2 f3 f4 d6 d8 d9 d12 h
  replace h := outK54 c a4 h4 a5 h5 f0 f1 f2 f3 f4 d6 d8 d9 d12 h
  replace h := outK55 c a4 h4 a5 h5 f0 f1 f2 f3 f4 d6 d8 d9 d12 h
  replace h := outK56 c a4 h4 a5 h5 f0 f1 f2 f3 f4 d6 d8 d9 d12 h
  replace h := outK58 c a4 h4 a5 h5 f0 f1 f2 f3 f4 d6 d8 d9 d12 h
  replace h := outK59 c a4 h4 a5 h5 f0 f1 f2 f3 f4 d6 d8 d9 d12 h
  replace h := outK60 c a4 h4 a5 h5 f0 f1 f2 f3 f4 d6 d8 d9 d12 h
  replace h := outK61 c a4 h4 a5 h5 f0 f1 f2 f3 f4 d6 d8 d9 d12 h
  replace h := outK62 c a4 h4 a5 h5 f0 f1 f2 f3 f4 d6 d8 d9 d12 h
  replace h := outK64 c a4 h4 a5 h5 f0 f1 f2 f3 f4 d6 d8 d9 d12 h
  replace h := outK65 c a4 h4 a5 h5 f0 f1 f2 f3 f4 d6 d8 d9 d12 h
  replace h := outK66 c a4 h4 a5 h5 f0 f1 f2 f3 f4 d6 d8 d9 d12 h
  replace h := outK68 c a4 h4 a5 h5 f0 f1 f2 f3 f4 d6 d8 d9 d12 h
  replace h := outK69 c a4 h4 a5 h5 f0 f1 f2 f3 f4 d6 d8 d9 d12 h
  replace h := outK70 c a4 h4 a5 h5 f0 f1 f2 f3 f4 d6 d8 d9 d12 h
  replace h := outK71 c a4 h4 a5 h5 f0 f1 f2 f3 f4 d6 d8 d9 d12 h
  replace h := outK72 c a4 h4 a5 h5 f0 f1 f2 f3 f4 d6 d8 d9 d12 h
  replace h := outK74 c a4 h4 a5 h5 f0 f1 f2 f3 f4 d6 d8 d9 d12 h
  replace h := outK75 c a4 h4 a5 h5 f0 f1 f2 f3 f4 d6 d8 d9 d12 h
  replace h := outK76 c a4 h4 a5 h5 f0 f1 f2 f3 f4 d6 d8 d9 d12 h
  replace h := outK77 c a4 h4 a5 h5 f0 f1 f2 f3 f4 d6 d8 d9 d12 h
  replace h := outK78 c a4 h4 a5 h5 f0 f1 f2 f3 f4 d6 d8 d9 d12 h
  replace h := outK80 c a4 h4 a5 h5 f0 f1 f2 f3 f4 d6 d8 d9 d12 h
  replace h := outK81 c a4 h4 a5 h5 f0 f1 f2 f3 f4 d6 d8 d9 d12 h
  replace h := outK82 c a4 h4 a5 h5 f0 f1 f2 f3 f4 d6 d8 d9 d12 h
  replace h := outK83 c a4 h4 a5 h5 f0 f1 f2 f3 f4 d6 d8 d9 d12 h
  replace h := outK85 c a4 h4 a5 h5 f0 f1 f2 f3 f4 d6 d8 d9 d12 h
  replace h := outK86 c a4 h4 a5 h5 f0 f1 f2 f3 f4 d6 d8 d9 d12 h
  replace h := outK87 c a4 h4 a5 h5 f0 f1 f2 f3 f4 d6 d8 d9 d12 h
  replace h := outK88 c a4 h4 a5 h5 f0 f1 f2 f3 f4 d6 d8 d9 d12 h
  replace h := outK89 c a4 h4 a5 h5 f0 f1 f2 f3 f4 d6 d8 d9 d12 h
  replace h := outK91 c a4 h4 a5 h5 f0 f1 f2 f3 f4 d6 d8 d9 d12 h
  replace h := outK92 c a4 h4 a5 h5 f0 f1 f2 f3 f4 d6 d8 d9 d12 h
  replace h := outK93 c a4 h4 a5 h5 f0 f1 f2 f3 f4 d6 d8 d9 d12 h
  replace h := outK94 c a4 h4 a5 h5 f0 f1 f2 f3 f4 d6 d8 d9 d12 h
  replace h := outK96 c a4 h4 a5 h5 f0 f1 f2 f3 f4 d6 d8 d9 d12 h
  replace h := outK97 c a4 h4 a5 h5 f0 f1 f2 f3 f4 d6 d8 d9 d12 h
  replace h := outK98 c a4 h4 a5 h5 f0 f1 f2 f3 f4 d6 d8 d9 d12 h
  replace h := outK99 c a4 h4 a5 h5 f0 f1 f2 f3 f4 d6 d8 d9 d12 h
  replace h := outK100 c a4 h4 a5 h5 f0 f1 f2 f3 f4 d6 d8 d9 d12 h
  replace h := outK102 c a4 h4 a5 h5 f0 f1 f2 f3 f4 d6 d8 d9 d12 h
  replace h := outK103 c a4 h4 a5 h5 f0 f1 f2 f3 f4 d6 d8 d9 d12 h
  replace h := outK104 c a4 h4 a5 h5 f0 f1 f2 f3 f4 d6 d8 d9 d12 h
  replace h := outK105 c a4 h4 a5 h5 f0 f1 f2 f3 f4 d6 d8 d9 d12 h
  replace h := outK106 c a4 h4 a5 h5 f0 f1 f2 f3 f4 d6 d8 d9 d12 h
  replace h := outK108 c a4 h4 a5 h5 f0 f1 f2 f3 f4 d6 d8 d9 d12 h
  replace h := outK109 c a4 h4 a5 h5 f0 f1 f2 f3 f4 d6 d8 d9 d12 h
  replace h := outK110 c a4 h4 a5 h5 f0 f1 f2 f3 f4 d6 d8 d9 d12 h
  replace h := outK111 c a4 h4 a5 h5 f0 f1 f2 f3 f4 d6 d8 d9 d12 h
  replace h := outK113 c a4 h4 a5 h5 f0 f1 f2 f3 f4 d6 d8 d9 d12 h
  replace h := outK114 c a4 h4 a5 h5 f0 f1 f2 f3 f4 d6 d8 d9 d12 h
  replace h := outK115 c a4 h4 a5 h5 f0 f1 f2 f3 f4 d6 d8 d9 d12 h
  replace h := outK116 c a4 h4 a5 h5 f0 f1 f2 f3 f4 d6 d8 d9 d12 h
  replace h := outK118 c a4 h4 a5 h5 f0 f1 f2 f3 f4 d6 d8 d9 d12 h
  exact h
theorem inbO (i : ℕ) : ∀ a, (![0, 1536 * (9 - i % 10) + 128 * (11 - i / 10)] : Fin 2 → ℕ) a + S12x128.size a ≤ S12x15360.size a := by
  intro a; fin_cases a
  · exact le_refl _
  · show 1536 * (9 - i % 10) + 128 * (11 - i / 10) + 128 ≤ 15360; omega
theorem rectsO (c : Dev nD) (a4 : Memref sig .tc .vmem S1440x128 .f32) (h4 : a4.IsWhole) (a5 : Memref sig .tc .vmem S12x15360 .bf16) (h5 : a5.IsWhole) (f0 : BufOf (F := Ideal) c hb0) (f1 : BufOf (F := Ideal) c hb1) (f2 : BufOf (F := Ideal) c hb2) (f3 : BufOf (F := Ideal) c hb3) (f4 : BufOf (F := Ideal) c a4) (f5 : BufOf (F := Ideal) c a5) (d6 : BufOf (F := Ideal) c sc0) (d7 : BufOf (F := Ideal) c sc1) (d8 : BufOf (F := Ideal) c sc2) (d9 : BufOf (F := Ideal) c sc3) (d10 : BufOf (F := Ideal) c sc4) (d11 : BufOf (F := Ideal) c sc5) (d12 : BufOf (F := Ideal) c sc6) (d13 : BufOf (F := Ideal) c sc7) (d14 : BufOf (F := Ideal) c sc8) (d15 : BufOf (F := Ideal) c sc9) (d16 : BufOf (F := Ideal) c sc10) (d17 : BufOf (F := Ideal) c sc11) :
    ((body_run (F := Ideal) c a4 h4 a5 h5 f0 f1 f2 f3 f4 f5 d6 d7 d8 d9 d10 d11 d12 d13 d14 d15 d16 d17).1).map (fun p => p.1) = (List.range 120).map fun i => Rect.unit (s := S12x15360) ![0, 1536 * (9 - i % 10) + 128 * (11 - i / 10)] S12x128.size (inbO i) := by
  rfl
theorem outRun (c : Dev nD) (a4 : Memref sig .tc .vmem S1440x128 .f32) (h4 : a4.IsWhole) (a5 : Memref sig .tc .vmem S12x15360 .bf16) (h5 : a5.IsWhole) (f0 : BufOf (F := Ideal) c hb0) (f1 : BufOf (F := Ideal) c hb1) (f2 : BufOf (F := Ideal) c hb2) (f3 : BufOf (F := Ideal) c hb3) (f4 : BufOf (F := Ideal) c a4) (f5 : BufOf (F := Ideal) c a5) (d6 : BufOf (F := Ideal) c sc0) (d7 : BufOf (F := Ideal) c sc1) (d8 : BufOf (F := Ideal) c sc2) (d9 : BufOf (F := Ideal) c sc3) (d10 : BufOf (F := Ideal) c sc4) (d11 : BufOf (F := Ideal) c sc5) (d12 : BufOf (F := Ideal) c sc6) (d13 : BufOf (F := Ideal) c sc7) (d14 : BufOf (F := Ideal) c sc8) (d15 : BufOf (F := Ideal) c sc9) (d16 : BufOf (F := Ideal) c sc10) (d17 : BufOf (F := Ideal) c sc11) (y : S12x15360.Idx) :
    a5.view.read (Elt Ideal) (a5.view.writes (Elt Ideal) f5 ((body_run (F := Ideal) c a4 h4 a5 h5 f0 f1 f2 f3 f4 f5 d6 d7 d8 d9 d10 d11 d12 d13 d14 d15 d16 d17).1)) y = valOut (A16 c a4 h4 a5 h5 f0 f1 f2 f3 d6 d8 d9 d12) (A17 c a4 h4 a5 h5 f0 f1 f2 f3 d6 d8 d9 d12) (a4.view.read (Elt Ideal) f4) y := by
  have hy0 : (y 0).val < 12 := (y 0).isLt
  have hy1 : (y 1).val < 15360 := (y 1).isLt
  refine View.read_writes_apply_of_pieces (Val := Elt Ideal) (v := a5.view) (f := f5) (valOut (A16 c a4 h4 a5 h5 f0 f1 f2 f3 d6 d8 d9 d12) (A17 c a4 h4 a5 h5 f0 f1 f2 f3 d6 d8 d9 d12) (a4.view.read (Elt Ideal) f4))
    ((body_run (F := Ideal) c a4 h4 a5 h5 f0 f1 f2 f3 f4 f5 d6 d7 d8 d9 d10 d11 d12 d13 d14 d15 d16 d17).1) ?_ y
    (covered _ _ 120 (rectsO c a4 h4 a5 h5 f0 f1 f2 f3 f4 f5 d6 d7 d8 d9 d10 d11 d12 d13 d14 d15 d16 d17) (10 * (11 - (y 1).val % 1536 / 128) + (9 - (y 1).val / 1536)) (by omega) _ (Rect.mem_set_unit.2 fun b => ?_))
  · have ih : Fits (valOut (A16 c a4 h4 a5 h5 f0 f1 f2 f3 d6 d8 d9 d12) (A17 c a4 h4 a5 h5 f0 f1 f2 f3 d6 d8 d9 d12) (a4.view.read (Elt Ideal) f4)) _ := outAll c a4 h4 a5 h5 f0 f1 f2 f3 f4 d6 d8 d9 d12
    show Fits (valOut (A16 c a4 h4 a5 h5 f0 f1 f2 f3 d6 d8 d9 d12) (A17 c a4 h4 a5 h5 f0 f1 f2 f3 d6 d8 d9 d12) (a4.view.read (Elt Ideal) f4)) _
    delta body_run
    dsimp only
    unfold Fits at ih ⊢
    generalize body_run.sl.Ha5_118 (F := Ideal) c a4 h4 a5 h5 f0 f1 f2 f3 f4 d6 d8 d9 d12 = L at ih ⊢
    simp only [k0_pay1, body_run.sl.r_211, body_run.sl.v5329, body_run.sl.v5328, body_run.sl.v5327, body_run.sl.v5326, body_run.sl.v5325, body_run.sl.v5324, k0_pay918, body_run.sl.v5334, body_run.sl.v5335, body_run.sl.v5336, body_run.sl.v5337, body_run.sl.v5338, body_run.sl.v5339, k0_pay917, body_run.sl.r_210, body_run.sl.v5306, body_run.sl.v5305, body_run.sl.v5304, body_run.sl.v5303, body_run.sl.v5302, body_run.sl.v5301, k0_pay916, body_run.sl.v5311, body_run.sl.v5312, body_run.sl.v5313, body_run.sl.v5314, body_run.sl.v5315, body_run.sl.v5316]
    refine List.forall_mem_cons.2 ⟨pieceN (c := c) (A16 c a4 h4 a5 h5 f0 f1 f2 f3 d6 d8 d9 d12) (A17 c a4 h4 a5 h5 f0 f1 f2 f3 d6 d8 d9 d12) a4 f4 9 7 11 (by norm_num) (by norm_num) rfl 15232 1408 14 30 46 62 78 94 15 31 47 63 79 95 119 239 rfl rfl rfl rfl rfl rfl rfl rfl rfl rfl rfl rfl rfl rfl rfl rfl _ _ _ _ _ _ _ _ _ _ _ _ _ _  inb_S12x15360_S12x128_0_15232, ?_⟩
    refine List.forall_mem_cons.2 ⟨pieceN (c := c) (A16 c a4 h4 a5 h5 f0 f1 f2 f3 d6 d8 d9 d12) (A17 c a4 h4 a5 h5 f0 f1 f2 f3 d6 d8 d9 d12) a4 f4 8 6 11 (by norm_num) (by norm_num) rfl 13696 1408 12 28 44 60 76 92 13 29 45 61 77 93 107 227 rfl rfl rfl rfl rfl rfl rfl rfl rfl rfl rfl rfl rfl rfl rfl rfl _ _ _ _ _ _ _ _ _ _ _ _ _ _  inb_S12x15360_S12x128_0_13696, ?_⟩
    exact ih
  · fin_cases b
    · exact ⟨Nat.zero_le _, by show (y 0).val < 0 + 12; omega⟩
    · exact ⟨by show 1536 * (9 - (10 * (11 - (y 1).val % 1536 / 128) + (9 - (y 1).val / 1536)) % 10) + 128 * (11 - (10 * (11 - (y 1).val % 1536 / 128) + (9 - (y 1).val / 1536)) / 10) ≤ (y 1).val; omega,
        by show (y 1).val < 1536 * (9 - (10 * (11 - (y 1).val % 1536 / 128) + (9 - (y 1).val / 1536)) % 10) + 128 * (11 - (10 * (11 - (y 1).val % 1536 / 128) + (9 - (y 1).val / 1536)) / 10) + 128; omega⟩
end Cert.KernelIdeal.Hand
-- ==== Proof.Ideal.ValueRun.lean ====
/-
  Hand-written, untrusted. The value the run of `KernelIdeal` leaves: one run of the body closed over the pipeline library's invariant, and the launch.
-/
module

public import proofs.«01_k».proof.Proof.Ideal.Frame
public import proofs.«01_k».proof.Proof.Ideal.Out

public import proofs.«01_k».proof.Proof.Gen.KernelIdeal.Points
public import proofs.«01_k».proof.Proof.Gen.KernelIdeal.Launch
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

def datsV (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => res (V m c main_v0) (V m c main_arg1) (V m c main_arg2) (V m c main_arg3) (iblk m c 0 t)
    | ⟨n + 2, h⟩ => absurd h (Nat.not_lt.2 (Nat.le_add_left _ _))
  Φ _ := Pipeline.ΦD osem0 spec0 H0 (V m) c
  q _ := fullShare
  owed _ := 0

theorem A_eqV (c : Dev nD) (w : Fin cfg0.W) : (datsV m 0 c).A w = V m c (Pipeline.arrRef spec0 w) := by dsimp only [datsV]
theorem after0_0V (c : Dev nD) (t : Fin cfg0.N) : (datsV m 0 c).after 0 t = iblk m c 0 t := by dsimp only [datsV]
theorem after0_1V (c : Dev nD) (t : Fin cfg0.N) : (datsV m 0 c).after 1 t = res (V m c main_v0) (V m c main_arg1) (V m c main_arg2) (V m c main_arg3) (iblk m c 0 t) := by dsimp only [datsV]
theorem before0_0V (c : Dev nD) (t : Fin cfg0.N) (d) : (datsV m 0 c).before 0 t d = iblk m c 0 t :=
  ((datsV m 0 c).before_in_eq_fetched 0 rfl (fun _ => rfl) (fun _ _ _ => rfl) (fun t => by rw [after0_0V]; unfold Dat.blockOf iblk; rw [A_eqV]; try rfl) t d).trans
    (by unfold Dat.fetched Dat.blockOf iblk; rw [A_eqV]; try rfl)

def bodyPreV (c : Dev nD) (t : Fin cfg0.N) : sProp 𝕄 :=
  iprop((datsV m 0 c).Φ t.castSucc ∗ (datsV m 0 c).owesAt () t.castSucc
    ∗ (∃ d, owns (c : Thread nD τ) (st0_0 t) fullShare ((datsV m 0 c).before 0 t d))
    ∗ (∃ d, owns (c : Thread nD τ) (st0_1 t) fullShare ((datsV m 0 c).before 1 t d)))
def bodyPostV (c : Dev nD) (t : Fin cfg0.N) : sProp 𝕄 :=
  iprop((datsV m 0 c).Φ t.succ ∗ (datsV m 0 c).owesAt () t.succ
    ∗ owns (c : Thread nD τ) (st0_0 t) fullShare ((datsV m 0 c).after 0 t)
    ∗ owns (c : Thread nD τ) (st0_1 t) fullShare ((datsV m 0 c).after 1 t))

set_option maxHeartbeats 0 in
set_option maxRecDepth 100000 in
theorem sound_bodyV (c : Dev nD) (small : ∀ i j, (at2 (α := BitVec 8) (A := 30) (B := 15360) (V m c main_arg3) i j).toNat ≤ 8) (t : Fin cfg0.N) :
    bodyPreV m c t ⊢ wp Idealize.ShloMosaic.frame (wpE (defs₀ (F := Ideal)) Variants.none c none) Set.univ (bodyAt0 t) (fun _ => bodyPostV m c t) := by
  unfold bodyPreV bodyPostV bodyAt0
  rw [show (datsV m 0 c).Φ t.succ = (datsV m 0 c).Φ t.castSucc from rfl,
    show (datsV m 0 c).owesAt () t.succ = (datsV m 0 c).owesAt () t.castSucc from rfl,
    show (datsV m 0 c).Φ t.castSucc = Pipeline.ΦD osem0 spec0 H0 (V m) c from rfl, PhiD0_eq]
  unfold Dat.owesAt Pipeline.owesWithin
  rw [show (datsV m 0 c).owed t.castSucc = 0 from rfl, after0_0V, after0_1V]
  unfold owns
  iintro ⟨⟨⟨⟨%d6, HS0⟩, ⟨%d7, HS1⟩, ⟨%d8, HS2⟩, ⟨%d9, HS3⟩, ⟨%d10, HS4⟩, ⟨%d11, HS5⟩, ⟨%d12, HS6⟩, ⟨%d13, HS7⟩, ⟨%d14, HS8⟩, ⟨%d15, HS9⟩, ⟨%d16, HS10⟩, ⟨%d17, HS11⟩⟩, Hg, ⟨Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35⟩, ⟨Hh1, Hh2, Hh3, Hh0⟩⟩, ⟨%W, -, HO⟩, ⟨%d0, ⟨%f4, %hf4, Ha4⟩⟩, ⟨%x5, ⟨%f5, -, Ha5⟩⟩⟩
  ihave ⟨HB0, HB1, HB2, HB3, HB4, HB5, HB6, HB7, HB8, HB9, HB10, HB11, HB12, HB13, HB14, HB15, HB16, HB17, HB18, HB19, HB20, HB21, HB22, HB23, HB24, HB25, HB26, HB27, HB28, HB29⟩ := (blocksW c d7) $$ HS1
  ihave ⟨HA0, HA1, HA2, HA3, HA4, HA5, HA6, HA7, HA8, HA9, HA10, HA11, HA12, HA13, HA14, HA15, HA16, HA17, HA18, HA19, HA20, HA21, HA22, HA23, HA24, HA25, HA26, HA27, HA28, HA29⟩ := (blocksH c (V m c main_arg1)) $$ Hh1
  iapply ((body_run c (st0_0 t) (hstage0_0 0) (st0_1 t) (hstage0_1 0) (V m c main_v0) (V m c main_arg1) (V m c main_arg2) (V m c main_arg3) f4 f5
    d6 d7 d8 d9 d10 d11 d12 d13 d14 d15 d16 d17).2 W _)
  isplitl [Ha4]; · iexact Ha4
  isplitl [Ha5]; · iexact Ha5
  isplitl [Hh0]; · iexact Hh0
  isplitl [Hh2]; · iexact Hh2
  isplitl [Hh3]; · iexact Hh3
  isplitl [HS0]; · iexact HS0
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [Hq2]; · iexact Hq2
  isplitl [Hq3]; · iexact Hq3
  isplitl [Hq4]; · iexact Hq4
  isplitl [Hq6]; · iexact Hq6
  isplitl [HB0]; · iexact HB0
  isplitl [HA0]; · iexact HA0
  isplitl [Hq7]; · iexact Hq7
  isplitl [HB1]; · iexact HB1
  isplitl [HA1]; · iexact HA1
  isplitl [Hq8]; · iexact Hq8
  isplitl [HB2]; · iexact HB2
  isplitl [HA2]; · iexact HA2
  isplitl [Hq9]; · iexact Hq9
  isplitl [HB3]; · iexact HB3
  isplitl [HA3]; · iexact HA3
  isplitl [Hq10]; · iexact Hq10
  isplitl [HB4]; · iexact HB4
  isplitl [HA4]; · iexact HA4
  isplitl [Hq11]; · iexact Hq11
  isplitl [HB5]; · iexact HB5
  isplitl [HA5]; · iexact HA5
  isplitl [Hq12]; · iexact Hq12
  isplitl [HB6]; · iexact HB6
  isplitl [HA6]; · iexact HA6
  isplitl [Hq13]; · iexact Hq13
  isplitl [HB7]; · iexact HB7
  isplitl [HA7]; · iexact HA7
  isplitl [Hq14]; · iexact Hq14
  isplitl [HB8]; · iexact HB8
  isplitl [HA8]; · iexact HA8
  isplitl [Hq15]; · iexact Hq15
  isplitl [HB9]; · iexact HB9
  isplitl [HA9]; · iexact HA9
  isplitl [Hq16]; · iexact Hq16
  isplitl [HB10]; · iexact HB10
  isplitl [HA10]; · iexact HA10
  isplitl [Hq17]; · iexact Hq17
  isplitl [HB11]; · iexact HB11
  isplitl [HA11]; · iexact HA11
  isplitl [Hq18]; · iexact Hq18
  isplitl [HB12]; · iexact HB12
  isplitl [HA12]; · iexact HA12
  isplitl [Hq19]; · iexact Hq19
  isplitl [HB13]; · iexact HB13
  isplitl [HA13]; · iexact HA13
  isplitl [Hq20]; · iexact Hq20
  isplitl [HB14]; · iexact HB14
  isplitl [HA14]; · iexact HA14
  isplitl [Hq21]; · iexact Hq21
  isplitl [HB15]; · iexact HB15
  isplitl [HA15]; · iexact HA15
  isplitl [Hq22]; · iexact Hq22
  isplitl [HB16]; · iexact HB16
  isplitl [HA16]; · iexact HA16
  isplitl [Hq23]; · iexact Hq23
  isplitl [HB17]; · iexact HB17
  isplitl [HA17]; · iexact HA17
  isplitl [Hq24]; · iexact Hq24
  isplitl [HB18]; · iexact HB18
  isplitl [HA18]; · iexact HA18
  isplitl [Hq25]; · iexact Hq25
  isplitl [HB19]; · iexact HB19
  isplitl [HA19]; · iexact HA19
  isplitl [Hq26]; · iexact Hq26
  isplitl [HB20]; · iexact HB20
  isplitl [HA20]; · iexact HA20
  isplitl [Hq27]; · iexact Hq27
  isplitl [HB21]; · iexact HB21
  isplitl [HA21]; · iexact HA21
  isplitl [Hq28]; · iexact Hq28
  isplitl [HB22]; · iexact HB22
  isplitl [HA22]; · iexact HA22
  isplitl [Hq29]; · iexact Hq29
  isplitl [HB23]; · iexact HB23
  isplitl [HA23]; · iexact HA23
  isplitl [Hq30]; · iexact Hq30
  isplitl [HB24]; · iexact HB24
  isplitl [HA24]; · iexact HA24
  isplitl [Hq31]; · iexact Hq31
  isplitl [HB25]; · iexact HB25
  isplitl [HA25]; · iexact HA25
  isplitl [Hq32]; · iexact Hq32
  isplitl [HB26]; · iexact HB26
  isplitl [HA26]; · iexact HA26
  isplitl [Hq33]; · iexact Hq33
  isplitl [HB27]; · iexact HB27
  isplitl [HA27]; · iexact HA27
  isplitl [Hq34]; · iexact Hq34
  isplitl [HB28]; · iexact HB28
  isplitl [HA28]; · iexact HA28
  isplitl [Hq35]; · iexact Hq35
  isplitl [HB29]; · iexact HB29
  isplitl [HA29]; · iexact HA29
  isplitl [HO]; · iexact HO
  iintro ⟨Ha4, Ha5, Hh0, Hh1, Hh2, Hh3, HS0, HS1, HS2, HS3, HS4, HS5, HS6, HS7, HS8, HS9, HS10, HS11, Hq2, Hq3, Hq4, Hc, HO⟩
  ihave ⟨Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35⟩ := (cells_list c) $$ Hc
  isplitl [HS0 HS1 HS2 HS3 HS4 HS5 HS6 HS7 HS8 HS9 HS10 HS11 Hg Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hh0 Hh1 Hh2 Hh3]
  · isplitl [HS0 HS1 HS2 HS3 HS4 HS5 HS6 HS7 HS8 HS9 HS10 HS11]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iexact HS11
    isplitl [Hg]; · iexact Hg
    isplitl [Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35]
    · isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      iexact Hq35
    isplitl [Hh1]; · iexact Hh1
    isplitl [Hh2]; · iexact Hh2
    isplitl [Hh3]; · iexact Hh3
    iexact Hh0
  isplitl [HO]
  · icases HO with ⟨%W', HO⟩
    iexists W'; isplitr; · ipureintro; exact fun _ _ => Or.inl trivial
    iexact HO
  isplitl [Ha4]
  · iexists f4; isplitr
    · ipureintro; exact hf4.trans (before0_0V m c t d0)
    iexact Ha4
  iexists _; isplitr
  swap; · iexact Ha5
  ipureintro
  have e4 : (st0_0 t).view.read (Elt Ideal) f4 = iblk m c 0 t := hf4.trans (before0_0V m c t d0)
  refine funext fun y => (outRun c (st0_0 t) (hstage0_0 0) (st0_1 t) (hstage0_1 0) (V m c main_v0) (V m c main_arg1) (V m c main_arg2) (V m c main_arg3) f4 f5
    d6 d7 d8 d9 d10 d11 d12 d13 d14 d15 d16 d17 y).trans ?_
  rw [valOut_res c _ _ _ _ _ _ _ _ d6 d8 d9 d12 small]
  exact congrArg (fun Y => res (V m c main_v0) (V m c main_arg1) (V m c main_arg2) (V m c main_arg3) Y y) e4

theorem body_obligationV (c : Dev nD) (small : ∀ i j, (at2 (α := BitVec 8) (A := 30) (B := 15360) (V m c main_arg3) i j).toNat ≤ 8) : BodyObligation (datsV m 0 c) (defs₀ (F := Ideal)) Variants.none () Set.univ := fun t => by
  rw [bigSep_W0, bigSep_W0, defs₀_row]
  exact triple_restated (sound_bodyV m c small t) rfl .rfl fun _ => .rfl

set_option backward.isDefEq.respectTransparency.types false in
theorem run_mainV (small : ∀ (c : Dev nD) i j, (at2 (α := BitVec 8) (A := 30) (B := 15360) (V m c main_arg3) i j).toNat ≤ 8) : θ_run defs (onTc (τ := τ) (main (F := Ideal))) (s₀ m ρ)
      (Pipeline.FramePost cfgs (datsV m) (0 : Fin 1) (V m)) :=
  Pipeline.θ_run_frame_dma cfgs (datsV m) (0 : Fin 1) launch0 osem0 defs₀ Variants.none ownSemFacts0 H0 H0_sub m ρ main
    (hbody := fun c => (body_obligationV m c (small c)).loose) (hshare := fun c => (datsV m 0 c).share_full fun _ => rfl)
    (howed := fun _ _ => rfl) (V := V m) (hmain := hmain m Variants.none) (hA := A_eqV m)
    (hin := fun _ => .rfl) (hout := fun _ => .rfl)

/-- The one grid point. -/
def t₀ : Fin cfg0.N := ⟨0, by decide⟩

theorem final_out (c : Dev nD) :
    ((cfg0.win (1 : Fin 2)).blk t₀).view.read (Elt Ideal) ((datsV m 0 c).arrAt (1 : Fin 2) cfg0.N) = (datsV m 0 c).flushed (1 : Fin 2) t₀ := by
  rw [show cfg0.N = (t₀ : Fin cfg0.N).val + 1 from rfl, (datsV m 0 c).arrAt_succ (1 : Fin 2) t₀]
  rw [show (cfg0.win (1 : Fin 2)).flush t₀ = true from by decide, if_pos rfl]
  exact View.read_write_univ _ _

/-- The result array after the run. -/
theorem final_value (c : Dev nD) :
    (datsV m 0 c).arrAt (1 : Fin 2) cfg0.N = res (V m c main_v0) (V m c main_arg1) (V m c main_arg2) (V m c main_arg3) (V m c main_v1) := by
  have ho := final_out m c
  have hz1 : (fun a => (win0_1.index t₀) a * main_v2.ty.shape.size a) = fun _ => 0 := funext fun a => by fin_cases a <;> decide
  have hr1 := fun f => Memref.read_access_unit_zero (Elt Ideal) main_v2 hz1 (fun a => by fin_cases a <;> decide) f
  have hz0 : (fun a => (win0_0.index t₀) a * main_v1.ty.shape.size a) = fun _ => 0 := funext fun a => by fin_cases a <;> decide
  have hr0 := fun f => Memref.read_access_unit_zero (Elt Ideal) main_v1 hz0 (fun a => by fin_cases a <;> decide) f
  rw [hr1] at ho
  rw [ho]
  show (cfg0.win (1 : Fin 2)).cut _ ((datsV m 0 c).after 1 t₀) = _
  rw [after0_1V]
  unfold iblk
  rw [hr0]
  rfl

theorem V_v0 (c : Dev nD) : V m c main_v0 = shapeCast S12x3840 (m ((c : Thread nD τ).loc main_arg0)) shapeCasts_S12x1x3840_S12x3840 := by
  show StableHlo.after hostOps0 (fun b => m (c, b)) (main_v0 : DevRef τ sig) = _
  after_results
  rfl
theorem V_v1 (c : Dev nD) : V m c main_v1 = shapeCast S1440x128 (m ((c : Thread nD τ).loc main_arg4)) shapeCasts_S12x1x15360_S1440x128 := by
  show StableHlo.after hostOps0 (fun b => m (c, b)) (main_v1 : DevRef τ sig) = _
  after_results
  rfl
end Cert.KernelIdeal.Hand
end
-- ==== Proof.Ref.lean ====
/- Hand-written, untrusted. The run of the reference: a straight line of host operations, so every buffer ends at the
   operations' results folded over the launch contents. -/
module

public import Idealize.ShloMosaic.Lib.StableHlo.Run
public import Idealize.ShloMosaic.Lib.Quiescent
public import proofs.«01_k».proof.Defs
public import proofs.«01_k».proof.Proof.Gen.ReferenceIdeal

@[expose] public section

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- @main's operations, in order. -/
abbrev ops : List (HloOp τ sig (Elt F)) :=
  [ nullary main_v0 (iotaInDim S10 32 0),
    nullary main_c (constantI S_ 32 3#32),
    unary main_c main_v1 (broadcastInDim S10 ![] bcast_S_S10 : (⟨S_, .i32⟩ : BufTy).Contents (Elt F) → (⟨S10, .i32⟩ : BufTy).Contents (Elt F)),
    binary main_v1 main_v0 main_v2 (muli : (⟨S10, .i32⟩ : BufTy).Contents (Elt F) → (⟨S10, .i32⟩ : BufTy).Contents (Elt F) → (⟨S10, .i32⟩ : BufTy).Contents (Elt F)),
    unary main_arg1 main_v3 (broadcastInDim S3840x1x1536 ![0, 2] bcast_S3840x1536_S3840x1x1536_0_2 : (⟨S3840x1536, .i32⟩ : BufTy).Contents (Elt F) → (⟨S3840x1x1536, .i32⟩ : BufTy).Contents (Elt F)),
    unary main_v2 main_v4 (broadcastInDim S1x10x1 ![1] bcast_S10_S1x10x1_1 : (⟨S10, .i32⟩ : BufTy).Contents (Elt F) → (⟨S1x10x1, .i32⟩ : BufTy).Contents (Elt F)),
    unary main_v3 main_v5 (broadcastInDim S3840x10x1536 ![0, 1, 2] bcast_S3840x1x1536_S3840x10x1536_0_1_2 : (⟨S3840x1x1536, .i32⟩ : BufTy).Contents (Elt F) → (⟨S3840x10x1536, .i32⟩ : BufTy).Contents (Elt F)),
    unary main_v4 main_v6 (broadcastInDim S3840x10x1536 ![0, 1, 2] bcast_S1x10x1_S3840x10x1536_0_1_2 : (⟨S1x10x1, .i32⟩ : BufTy).Contents (Elt F) → (⟨S3840x10x1536, .i32⟩ : BufTy).Contents (Elt F)),
    binary main_v5 main_v6 main_v7 (Host.shrui : (⟨S3840x10x1536, .i32⟩ : BufTy).Contents (Elt F) → (⟨S3840x10x1536, .i32⟩ : BufTy).Contents (Elt F) → (⟨S3840x10x1536, .i32⟩ : BufTy).Contents (Elt F)),
    nullary main_c_0 (constantI S_ 32 7#32),
    unary main_c_0 main_v8 (broadcastInDim S3840x10x1536 ![] bcast_S_S3840x10x1536 : (⟨S_, .i32⟩ : BufTy).Contents (Elt F) → (⟨S3840x10x1536, .i32⟩ : BufTy).Contents (Elt F)),
    binary main_v7 main_v8 main_v9 (andi : (⟨S3840x10x1536, .i32⟩ : BufTy).Contents (Elt F) → (⟨S3840x10x1536, .i32⟩ : BufTy).Contents (Elt F) → (⟨S3840x10x1536, .i32⟩ : BufTy).Contents (Elt F)),
    unary main_v9 main_v10 (uitofp .bf16 : (⟨S3840x10x1536, .i32⟩ : BufTy).Contents (Elt F) → (⟨S3840x10x1536, .bf16⟩ : BufTy).Contents (Elt F)),
    reshape main_v10 main_v11 (rfl : (.bf16 : EltTy) = .bf16) shapeCasts_S3840x10x1536_S30x128x10x1536,
    unary main_arg3 main_v12 ((extui 32 · natLt_8_32) : (⟨S30x15360, .i8⟩ : BufTy).Contents (Elt F) → (⟨S30x15360, .i32⟩ : BufTy).Contents (Elt F)),
    unary main_v12 main_v13 (sitofp .bf16 : (⟨S30x15360, .i32⟩ : BufTy).Contents (Elt F) → (⟨S30x15360, .bf16⟩ : BufTy).Contents (Elt F)),
    reshape main_v13 main_v14 (rfl : (.bf16 : EltTy) = .bf16) shapeCasts_S30x15360_S30x1x10x1536,
    reshape main_arg2 main_v15 (rfl : (.bf16 : EltTy) = .bf16) shapeCasts_S30x15360_S30x1x10x1536,
    unary main_v14 main_v16 (broadcastInDim S30x128x10x1536 ![0, 1, 2, 3] bcast_S30x1x10x1536_S30x128x10x1536_0_1_2_3 : (⟨S30x1x10x1536, .bf16⟩ : BufTy).Contents (Elt F) → (⟨S30x128x10x1536, .bf16⟩ : BufTy).Contents (Elt F)),
    binary main_v11 main_v16 main_v17 (subf : (⟨S30x128x10x1536, .bf16⟩ : BufTy).Contents (Elt F) → (⟨S30x128x10x1536, .bf16⟩ : BufTy).Contents (Elt F) → (⟨S30x128x10x1536, .bf16⟩ : BufTy).Contents (Elt F)),
    unary main_v15 main_v18 (broadcastInDim S30x128x10x1536 ![0, 1, 2, 3] bcast_S30x1x10x1536_S30x128x10x1536_0_1_2_3 : (⟨S30x1x10x1536, .bf16⟩ : BufTy).Contents (Elt F) → (⟨S30x128x10x1536, .bf16⟩ : BufTy).Contents (Elt F)),
    binary main_v17 main_v18 main_v19 (mulf : (⟨S30x128x10x1536, .bf16⟩ : BufTy).Contents (Elt F) → (⟨S30x128x10x1536, .bf16⟩ : BufTy).Contents (Elt F) → (⟨S30x128x10x1536, .bf16⟩ : BufTy).Contents (Elt F)),
    reshape main_v19 main_v20 (rfl : (.bf16 : EltTy) = .bf16) shapeCasts_S30x128x10x1536_S3840x10x1536,
    binary main_arg0 main_v20 main_v21 ((fun l r => Host.dotGeneral dot_S12x1x3840_S3840x10x1536_S12x1x10x1536_2_0_01_12_n_n none l r) : (⟨S12x1x3840, .bf16⟩ : BufTy).Contents (Elt F) → (⟨S3840x10x1536, .bf16⟩ : BufTy).Contents (Elt F) → (⟨S12x1x10x1536, .f32⟩ : BufTy).Contents (Elt F)),
    reshape main_v21 main_v22 (rfl : (.f32 : EltTy) = .f32) shapeCasts_S12x1x10x1536_S12x15360,
    reshape main_arg4 main_v23 (rfl : (.f32 : EltTy) = .f32) shapeCasts_S12x1x15360_S12x15360,
    binary main_v22 main_v23 main_v24 (addf : (⟨S12x15360, .f32⟩ : BufTy).Contents (Elt F) → (⟨S12x15360, .f32⟩ : BufTy).Contents (Elt F) → (⟨S12x15360, .f32⟩ : BufTy).Contents (Elt F)),
    unary main_v24 main_v25 ((truncf .bf16 · bitsLt_bf16_f32) : (⟨S12x15360, .f32⟩ : BufTy).Contents (Elt F) → (⟨S12x15360, .bf16⟩ : BufTy).Contents (Elt F)) ]

/-- @main is that straight line. -/
theorem main_eq (c : Dev nD) : main (F := F) c = seq ops := rfl

/-- The reference as one function of its five arguments. -/
def out (x : FVec F S12x1x3840 .bf16) (w : IVec S3840x1536 32) (s : FVec F S30x15360 .bf16) (z : IVec S30x15360 8) (y : FVec F S12x1x15360 .f32) : FVec F S12x15360 .bf16 :=
  truncf .bf16 (addf (shapeCast S12x15360 (Host.dotGeneral dot_S12x1x3840_S3840x10x1536_S12x1x10x1536_2_0_01_12_n_n none x
    (shapeCast S3840x10x1536 (mulf
      (subf
        (shapeCast S30x128x10x1536 (uitofp .bf16 (andi
          (Host.shrui (broadcastInDim S3840x10x1536 ![0, 1, 2] bcast_S3840x1x1536_S3840x10x1536_0_1_2 (broadcastInDim S3840x1x1536 ![0, 2] bcast_S3840x1536_S3840x1x1536_0_2 w))
            (broadcastInDim S3840x10x1536 ![0, 1, 2] bcast_S1x10x1_S3840x10x1536_0_1_2 (broadcastInDim S1x10x1 ![1] bcast_S10_S1x10x1_1
              (muli (broadcastInDim S10 ![] bcast_S_S10 (constantI S_ 32 3#32)) (iotaInDim S10 32 0)))))
          (broadcastInDim S3840x10x1536 ![] bcast_S_S3840x10x1536 (constantI S_ 32 7#32))) : FVec F S3840x10x1536 .bf16) shapeCasts_S3840x10x1536_S30x128x10x1536)
        (broadcastInDim S30x128x10x1536 ![0, 1, 2, 3] bcast_S30x1x10x1536_S30x128x10x1536_0_1_2_3
          (shapeCast S30x1x10x1536 (sitofp .bf16 (extui 32 z natLt_8_32) : FVec F S30x15360 .bf16) shapeCasts_S30x15360_S30x1x10x1536)))
      (broadcastInDim S30x128x10x1536 ![0, 1, 2, 3] bcast_S30x1x10x1536_S30x128x10x1536_0_1_2_3 (shapeCast S30x1x10x1536 s shapeCasts_S30x15360_S30x1x10x1536)))
      shapeCasts_S30x128x10x1536_S3840x10x1536)) shapeCasts_S12x1x10x1536_S12x15360) (shapeCast S12x15360 y shapeCasts_S12x1x15360_S12x15360)) bitsLt_bf16_f32

theorem out_eq (V : Valuation τ sig (Elt F)) : after ops V (main_v25 : DevRef τ sig)
    = out (V (main_arg0 : DevRef τ sig)) (V (main_arg1 : DevRef τ sig)) (V (main_arg2 : DevRef τ sig)) (V (main_arg3 : DevRef τ sig)) (V (main_arg4 : DevRef τ sig)) := by
  after_results
  rfl
theorem main_arg0_eq (V : Valuation τ sig (Elt F)) : after ops V (main_arg0 : DevRef τ sig) = V (main_arg0 : DevRef τ sig) := by
  after_results
theorem main_arg1_eq (V : Valuation τ sig (Elt F)) : after ops V (main_arg1 : DevRef τ sig) = V (main_arg1 : DevRef τ sig) := by
  after_results
theorem main_arg2_eq (V : Valuation τ sig (Elt F)) : after ops V (main_arg2 : DevRef τ sig) = V (main_arg2 : DevRef τ sig) := by
  after_results
theorem main_arg3_eq (V : Valuation τ sig (Elt F)) : after ops V (main_arg3 : DevRef τ sig) = V (main_arg3 : DevRef τ sig) := by
  after_results
theorem main_arg4_eq (V : Valuation τ sig (Elt F)) : after ops V (main_arg4 : DevRef τ sig) = V (main_arg4 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub .., reshape_bufs_sub .., unary_bufs_sub .., unary_bufs_sub .., reshape_bufs_sub .., reshape_bufs_sub .., unary_bufs_sub .., binary_bufs_sub .., unary_bufs_sub .., binary_bufs_sub .., reshape_bufs_sub .., binary_bufs_sub .., reshape_bufs_sub .., reshape_bufs_sub .., binary_bufs_sub .., unary_bufs_sub ..⟩

/-- The run: the result buffer at `out` of the arguments' launch contents, the arguments unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v25) = out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) :=
  (θ_run defs _ _).mono (fun _ h c => ⟨(h c main_v25).trans (out_eq _), (h c main_arg0).trans (main_arg0_eq _), (h c main_arg1).trans (main_arg1_eq _), (h c main_arg2).trans (main_arg2_eq _), (h c main_arg3).trans (main_arg3_eq _), (h c main_arg4).trans (main_arg4_eq _)⟩)
    (run_seq scopedRefs_eq scopedSems_eq defs main (fun _ => ops) main_eq (fun _ => ops_sub) m ρ)

/-- The frame; the program declares no semaphore. -/
theorem frame : Cert.quiescent_ReferenceIdeal := by
  intro m ρ _
  exact (θ_run Cert.ReferenceIdeal.defs _ _).mono (fun r h => ⟨fun c => (h c).2, sem_eq_zero_of_no_sems (by decide) r.2⟩) (run_main (F := Ideal) m ρ)

end Cert.ReferenceIdeal.Hand
end
-- ==== Proof.RefVal.lean ====
/- What the reference computes at one element: a sum over the contracted axis, and the residual. -/
module
public import proofs.«01_k».proof.Proof.Ref
public import proofs.«01_k».proof.Proof.Ideal.Tile
@[expose] public section
set_option maxHeartbeats 400000
noncomputable section
namespace Cert.ReferenceIdeal.Hand
open Cert.ReferenceIdeal Cert.ReferenceIdeal.Gen
open Idealize.ShloMosaic Idealize.ShloMosaic.TcCoe
open Cert.KernelIdeal.Hand (code at2 deq)

/-- The dequantised weights as the reference writes them. -/
def wts (w : IVec S3840x1536 32) (s : FVec Ideal S30x15360 .bf16) (z : IVec S30x15360 8) : FVec Ideal S3840x10x1536 .bf16 :=
    (shapeCast S3840x10x1536 (mulf
      (subf
        (shapeCast S30x128x10x1536 (uitofp .bf16 (andi
          (Host.shrui (broadcastInDim S3840x10x1536 ![0, 1, 2] bcast_S3840x1x1536_S3840x10x1536_0_1_2 (broadcastInDim S3840x1x1536 ![0, 2] bcast_S3840x1536_S3840x1x1536_0_2 w))
            (broadcastInDim S3840x10x1536 ![0, 1, 2] bcast_S1x10x1_S3840x10x1536_0_1_2 (broadcastInDim S1x10x1 ![1] bcast_S10_S1x10x1_1
              (muli (broadcastInDim S10 ![] bcast_S_S10 (constantI S_ 32 3#32)) (iotaInDim S10 32 0)))))
          (broadcastInDim S3840x10x1536 ![] bcast_S_S3840x10x1536 (constantI S_ 32 7#32))) : FVec Ideal S3840x10x1536 .bf16) shapeCasts_S3840x10x1536_S30x128x10x1536)
        (broadcastInDim S30x128x10x1536 ![0, 1, 2, 3] bcast_S30x1x10x1536_S30x128x10x1536_0_1_2_3
          (shapeCast S30x1x10x1536 (sitofp .bf16 (extui 32 z natLt_8_32) : FVec Ideal S30x15360 .bf16) shapeCasts_S30x15360_S30x1x10x1536)))
      (broadcastInDim S30x128x10x1536 ![0, 1, 2, 3] bcast_S30x1x10x1536_S30x128x10x1536_0_1_2_3 (shapeCast S30x1x10x1536 s shapeCasts_S30x15360_S30x1x10x1536)))
      shapeCasts_S30x128x10x1536_S3840x10x1536)

theorem wtsAt (w : IVec S3840x1536 32) (s : FVec Ideal S30x15360 .bf16) (z : IVec S30x15360 8) (g : Fin 30) (r : Fin 128) (f : Fin 10) (n : Fin 1536) :
    wts w s z (ix3 (⟨g.val * 128 + r.val, by omega⟩ : Fin 3840) f n)
      = (FloatOps.uitofp (F := Ideal) .bf16 (IntOp.andi (IntOp.shrui ArithUnit.host (w (ix2 (⟨g.val * 128 + r.val, by omega⟩ : Fin 3840) n)) (IntOp.muli 3#32 (BitVec.ofNat 32 f.val))) 7#32)
      - FloatOps.sitofp (F := Ideal) .bf16 (BitVec.setWidth 32 (z (ix2 g (⟨f.val * 1536 + n.val, by omega⟩ : Fin 15360))))) * s (ix2 g (⟨f.val * 1536 + n.val, by omega⟩ : Fin 15360)) := by
  pointwise [wts]

theorem code_host (w : BitVec 32) (f : Fin 10) : (IntOp.andi (IntOp.shrui ArithUnit.host w (IntOp.muli 3#32 (BitVec.ofNat 32 f.val))) 7#32).toNat = code w f.val := by
  have h : IntOp.shrui ArithUnit.host w (IntOp.muli 3#32 (BitVec.ofNat 32 f.val)) = w >>> (3 * f.val) := by
    fin_cases f <;> rfl
  rw [h]
  show ((w >>> (3 * f.val)) &&& 7#32).toNat = _
  rw [BitVec.toNat_and, BitVec.toNat_ushiftRight, show (7#32 : BitVec 32).toNat = 2 ^ 3 - 1 from rfl, Nat.and_two_pow_sub_one_eq_mod, Nat.shiftRight_eq_div_pow, Nat.pow_mul]
  rfl

theorem ext8 (v : BitVec 8) : (BitVec.setWidth 32 v).toInt = (v.toNat : ℤ) := by
  have h := v.isLt
  rw [BitVec.toInt_eq_toNat_of_lt (by rw [BitVec.toNat_setWidth]; omega), BitVec.toNat_setWidth, Nat.mod_eq_of_lt (by omega)]

theorem wts_deq (w : IVec S3840x1536 32) (s : FVec Ideal S30x15360 .bf16) (z : IVec S30x15360 8) (d : Fin 3840) (f : Fin 10) (n : Fin 1536) :
    wts w s z (ix3 d f n) = deq w s z d.val f.val n.val := by
  have e : d = (⟨(⟨d.val / 128, by omega⟩ : Fin 30).val * 128 + (⟨d.val % 128, by omega⟩ : Fin 128).val, by show d.val / 128 * 128 + d.val % 128 < 3840; omega⟩ : Fin 3840) := Fin.ext (by show d.val = d.val / 128 * 128 + d.val % 128; omega)
  have h := wtsAt w s z ⟨d.val / 128, by omega⟩ ⟨d.val % 128, by omega⟩ f n
  rw [← e] at h
  rw [h]
  unfold deq at2
  rw [dif_pos ⟨d.isLt, n.isLt⟩, dif_pos ⟨(by omega : d.val / 128 < 30), (by omega : f.val * 1536 + n.val < 15360)⟩, dif_pos ⟨(by omega : d.val / 128 < 30), (by omega : f.val * 1536 + n.val < 15360)⟩]
  refine congrArg (· * _) ?_
  show (((IntOp.andi (IntOp.shrui ArithUnit.host (w (ix2 d n)) (IntOp.muli 3#32 (BitVec.ofNat 32 f.val))) 7#32).toNat : ℝ) : EReal) - (((BitVec.setWidth 32 (z (ix2 (⟨d.val / 128, by omega⟩ : Fin 30) (⟨f.val * 1536 + n.val, by omega⟩ : Fin 15360)))).toInt : ℝ) : EReal) = _
  rw [code_host, ext8, ← EReal.coe_sub]
  refine congrArg _ ?_
  push_cast
  rfl

theorem outAt (x : FVec Ideal S12x1x3840 .bf16) (w : IVec S3840x1536 32) (s : FVec Ideal S30x15360 .bf16) (z : IVec S30x15360 8) (y : FVec Ideal S12x1x15360 .f32) (b : Fin 12) (f : Fin 10) (n : Fin 1536) :
    out x w s z y (ix2 b (⟨f.val * 1536 + n.val, by omega⟩ : Fin 15360)) = (∑ d : Fin 3840, x (ix3 b 0 d) * wts w s z (ix3 d f n)) + y (ix3 b 0 (⟨f.val * 1536 + n.val, by omega⟩ : Fin 15360)) := by
  show (truncf .bf16 (addf (shapeCast S12x15360 (Host.dotGeneral dot_S12x1x3840_S3840x10x1536_S12x1x10x1536_2_0_01_12_n_n none x (wts w s z)) shapeCasts_S12x1x10x1536_S12x15360) (shapeCast S12x15360 y shapeCasts_S12x1x15360_S12x15360)) bitsLt_bf16_f32 : FVec Ideal S12x15360 .bf16) _ = _
  generalize wts w s z = R
  pointwise

/-- The reference at an element, over the naturals. -/
theorem out_sum (x : FVec Ideal S12x1x3840 .bf16) (x' : (⟨2, ![12, 3840]⟩ : Shape).Idx → EReal) (hx : ∀ (b : Fin 12) (d : Fin 3840), x' (ix2 b d) = x (ix3 b 0 d)) (w : IVec S3840x1536 32) (s : FVec Ideal S30x15360 .bf16) (z : IVec S30x15360 8) (y : FVec Ideal S12x1x15360 .f32) (b : Fin 12) (f : Fin 10) (n : Fin 1536) :
    out x w s z y (ix2 b (⟨f.val * 1536 + n.val, by omega⟩ : Fin 15360)) = (∑ d ∈ Finset.range 3840, at2 (A := 12) (B := 3840) x' b.val d * deq w s z d f.val n.val) + y (ix3 b 0 (⟨f.val * 1536 + n.val, by omega⟩ : Fin 15360)) := by
  rw [outAt, Finset.sum_range]
  refine congrArg (· + _) (Finset.sum_congr rfl fun d _ => ?_)
  rw [wts_deq, at2, dif_pos ⟨b.isLt, d.isLt⟩]
  exact congrArg (· * _) (hx b d).symm
end Cert.ReferenceIdeal.Hand
-- ==== Proof.Value.lean ====
/- The kernel's result is the reference's. -/
module
public import proofs.«01_k».proof.Proof.RefVal
public import proofs.«01_k».proof.Proof.Ideal.TabAll
@[expose] public section
set_option maxHeartbeats 400000
noncomputable section
namespace Cert.KernelIdeal.Hand
open Idealize.ShloMosaic Idealize.ShloMosaic.TcCoe
open Cert.KernelIdeal Cert.KernelIdeal.Gen

theorem x_at (x : FVec Ideal S12x1x3840 .bf16) (b : Fin 12) (d : Fin 3840) : shapeCast S12x3840 x shapeCasts_S12x1x3840_S12x3840 (ix2 b d) = x (ix3 b 0 d) := by
  pointwise
theorem y_at (y : FVec Ideal S12x1x15360 .f32) (b : Fin 12) (q : Fin 120) (l : Fin 128) :
    shapeCast S1440x128 y shapeCasts_S12x1x15360_S1440x128 (ix2 (⟨120 * b.val + q.val, by omega⟩ : Fin 1440) l) = y (ix3 b 0 (⟨128 * q.val + l.val, by omega⟩ : Fin 15360)) := by
  refine shapeCast_apply _ _ _ _ ?_
  refine (Shape.rowMajor_val_three _).trans (Eq.trans ?_ (Shape.rowMajor_val_two _).symm)
  show (b.val * 1 + 0) * 15360 + (128 * q.val + l.val) = (120 * b.val + q.val) * 128 + l.val
  omega

theorem res_at (x : FVec Ideal S12x1x3840 .bf16) (w : IVec S3840x1536 32) (s : FVec Ideal S30x15360 .bf16) (z : IVec S30x15360 8) (y : FVec Ideal S12x1x15360 .f32) (b : Fin 12) (o : Fin 15360) :
    res (shapeCast S12x3840 x shapeCasts_S12x1x3840_S12x3840) w s z (shapeCast S1440x128 y shapeCasts_S12x1x15360_S1440x128) (ix2 b o) = Cert.ReferenceIdeal.Hand.out x w s z y (ix2 b o) := by
  have ho := o.isLt
  have hb := b.isLt
  have e : o = (⟨(⟨o.val / 1536, by omega⟩ : Fin 10).val * 1536 + (⟨o.val % 1536, by omega⟩ : Fin 1536).val, by show o.val / 1536 * 1536 + o.val % 1536 < 15360; omega⟩ : Fin 15360) := Fin.ext (by show o.val = o.val / 1536 * 1536 + o.val % 1536; omega)
  have h := Cert.ReferenceIdeal.Hand.out_sum x (shapeCast S12x3840 x shapeCasts_S12x1x3840_S12x3840) (x_at x) w s z y b ⟨o.val / 1536, by omega⟩ ⟨o.val % 1536, by omega⟩
  rw [← e] at h
  refine Eq.trans ?_ h.symm
  refine congrArg (fun t => _ + t) ?_
  show at2 (A := 1440) (B := 128) _ (120 * b.val + o.val / 128) (o.val % 128) = _
  rw [at2, dif_pos ⟨(by omega : 120 * b.val + o.val / 128 < 1440), (by omega : o.val % 128 < 128)⟩]
  refine (y_at y b ⟨o.val / 128, by omega⟩ ⟨o.val % 128, by omega⟩).trans ?_
  refine congrArg (fun t => y (ix3 b 0 t)) (Fin.ext ?_)
  show 128 * (o.val / 128) + o.val % 128 = o.val
  omega

/-- The kernel's result, at the operands the host passes it, is the reference's. -/
theorem res_eq (x : FVec Ideal S12x1x3840 .bf16) (w : IVec S3840x1536 32) (s : FVec Ideal S30x15360 .bf16) (z : IVec S30x15360 8) (y : FVec Ideal S12x1x15360 .f32) :
    res (shapeCast S12x3840 x shapeCasts_S12x1x3840_S12x3840) w s z (shapeCast S1440x128 y shapeCasts_S12x1x15360_S1440x128) = Cert.ReferenceIdeal.Hand.out x w s z y := by
  funext i
  rw [← ix2_eta (A := 12) (B := 15360) i]
  exact res_at x w s z y _ _
end Cert.KernelIdeal.Hand
end
-- ==== Proof.lean ====
module

public import proofs.«01_k».proof.Defs
public import proofs.«01_k».proof.Proof.Bits.Frame
public import proofs.«01_k».proof.Proof.Ideal.Frame
public import proofs.«01_k».proof.Proof.Ideal.ValueRun
public import proofs.«01_k».proof.Proof.Ref
public import proofs.«01_k».proof.Proof.Value
public import Idealize.ShloMosaic.Lib.Bf16Pair

@[expose] public section

noncomputable section

namespace Cert.Proof

open Idealize.ShloMosaic Idealize.ShloMosaic.TcCoe Idealize.SL.Sem

/-- The side condition of the precondition's one broadcast. -/
instance facts_pre : Cert.Pre_zeros_small.Facts where
  bcast_S_S30x15360 := by decide

theorem frame_k : Cert.quiescent_Kernel := fun m ρ _ => Cert.Kernel.Hand.frame m ρ
theorem frame_ki : Cert.quiescent_KernelIdeal := fun m ρ _ => Cert.KernelIdeal.Hand.frame m ρ
theorem frame_ki_pre : Cert.quiescent_KernelIdeal_pre_zeros_small := fun m ρ _ => Cert.KernelIdeal.Hand.frame m ρ
theorem frame_ri_pre : Cert.quiescent_ReferenceIdeal_pre_zeros_small := fun m ρ _ => Cert.ReferenceIdeal.Hand.frame m ρ trivial

open IdealRules.bf16_pair in
theorem preserves : Cert.preserves_Kernel_KernelIdeal :=
  ⟨statement Cert.KernelIdeal.S12x3840 Cert.KernelIdeal.S6x3840, packStatement Cert.KernelIdeal.S30x128,
    statement Cert.KernelIdeal.S1x30x2x128 Cert.KernelIdeal.S1x30x1x128, statement Cert.KernelIdeal.S1x60x128 Cert.KernelIdeal.S1x30x128,
    packStatement Cert.KernelIdeal.S6x128, statement Cert.KernelIdeal.S12x128 Cert.KernelIdeal.S6x128⟩

section Value
open Cert.KernelIdeal Cert.KernelIdeal.Gen Cert.KernelIdeal.Hand

theorem ule_8 : ∀ v : BitVec 8, IntOp.cmpi .ule v 8#8 = 1#1 → v.toNat ≤ 8 := by decide +kernel

/-- The precondition, read at an element: no zero point is above 8. -/
theorem small_of_pre (m : (ℓ : Loc nD τ sig) → Buf (Elt Ideal) ℓ) (h : Cert.Pre_KernelIdeal_zeros_small m) (c : Dev nD) (i j : ℕ) :
    (at2 (α := BitVec 8) (A := 30) (B := 15360) (V m c main_arg3) i j).toNat ≤ 8 := by
  have e := h c
  rw [at2]
  split
  · next hij =>
    rw [V_main_arg3 m c]
    exact ule_8 _ (congrFun e (ix2 ⟨i, hij.1⟩ ⟨j, hij.2⟩))
  · exact Nat.zero_le _

/-- The kernel's run: the result is the reference's function of the arguments, the arguments unchanged. -/
theorem kernel_value (m : (ℓ : Loc nD τ sig) → Buf (Elt Ideal) ℓ) (ρ : Dev nD → PrngReg) (h : Cert.Pre_KernelIdeal_zeros_small m) :
    θ_run (defs (F := Ideal)) (onTc (τ := τ) (main (F := Ideal))) ⟨m, fun _ => 0, ρ⟩ (fun r => ∀ c : Dev nD,
      r.2.mem ((c.tc : Thread nD τ).loc main_v2) = Cert.ReferenceIdeal.Hand.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r hr c => ⟨?_, ((hr c).2 main_arg0 (Pipeline.mem_restRefs_of main_arg0 (by decide) (by decide))).trans (V_main_arg0 m c),
      ((hr c).2 main_arg1 (Pipeline.mem_restRefs_of main_arg1 (by decide) (by decide))).trans (V_main_arg1 m c),
      ((hr c).2 main_arg2 (Pipeline.mem_restRefs_of main_arg2 (by decide) (by decide))).trans (V_main_arg2 m c),
      ((hr c).2 main_arg3 (Pipeline.mem_restRefs_of main_arg3 (by decide) (by decide))).trans (V_main_arg3 m c),
      ((hr c).2 main_arg4 (Pipeline.mem_restRefs_of main_arg4 (by decide) (by decide))).trans (V_main_arg4 m c)⟩) (run_mainV m ρ (small_of_pre m h))
  have h1 := ((hr c).1 1).trans (final_value m c)
  rw [V_v0, V_v1, V_main_arg1, V_main_arg2, V_main_arg3] at h1
  exact h1.trans (res_eq _ _ _ _ _)
end Value

theorem algebraic : Cert.algebraic_KernelIdeal_ReferenceIdeal_pre_zeros_small := fun m ρ m' ρ' hp hag =>
  ⟨fun c => Cert.ReferenceIdeal.Hand.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    kernel_value m ρ hp,
    (θ_run Cert.ReferenceIdeal.defs _ _).mono (fun r hr c => by
      obtain ⟨e0, e1, e2, e3, e4⟩ := hag c
      refine ⟨(hr c).1.trans ?_, (hr c).2⟩
      rw [e0, e1, e2, e3, e4]) (Cert.ReferenceIdeal.Hand.run_main m' ρ')⟩

theorem claim : Cert.Claim := ⟨Cert.Kernel.Gen.facts, Cert.KernelIdeal.Gen.facts, Cert.ReferenceIdeal.Gen.facts, facts_pre,
  frame_k, frame_ki, frame_ki_pre, Cert.ReferenceIdeal.Hand.frame, frame_ri_pre, preserves, algebraic⟩

end Cert.Proof

end
